-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwUpGate (m : (ℓ : Loc Cert.DwUpGate.nD Cert.DwUpGate.τ Cert.DwUpGate.sig) → Buf (Elt Bits) ℓ) : Prop :=
  True

def Pre_DwUpGateIdeal (m : (ℓ : Loc Cert.DwUpGateIdeal.nD Cert.DwUpGateIdeal.τ Cert.DwUpGateIdeal.sig) → Buf (Elt Ideal) ℓ) : Prop :=
  True

def Pre_DwUpGateRefIdeal (m : (ℓ : Loc Cert.DwUpGateRefIdeal.nD Cert.DwUpGateRefIdeal.τ Cert.DwUpGateRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInARefIdeal (m : (ℓ : Loc Cert.DwInARefIdeal.nD Cert.DwInARefIdeal.τ Cert.DwInARefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_DycatRefIdeal (m : (ℓ : Loc Cert.DycatRefIdeal.nD Cert.DycatRefIdeal.τ Cert.DycatRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwUpGate [hDwUpGate : Cert.DwUpGate.Facts] : Prop :=
  ∀ (m : (ℓ : Loc Cert.DwUpGate.nD Cert.DwUpGate.τ Cert.DwUpGate.sig) → Buf (Elt Bits) ℓ) (g : Dev Cert.DwUpGate.nD → PrngReg), Pre_DwUpGate m →
    θ_run (Cert.DwUpGate.defs (F := Bits)) (onTc (τ := Cert.DwUpGate.τ) (Cert.DwUpGate.main (F := Bits))) ⟨m, fun _ => 0, g⟩ (fun r => (∀ c : Dev Cert.DwUpGate.nD,
      r.2.mem ((c.tc : Thread Cert.DwUpGate.nD Cert.DwUpGate.τ).loc Cert.DwUpGate.main_arg0) = m ((c.tc : Thread Cert.DwUpGate.nD Cert.DwUpGate.τ).loc Cert.DwUpGate.main_arg0)
      ∧ r.2.mem ((c.tc : Thread Cert.DwUpGate.nD Cert.DwUpGate.τ).loc Cert.DwUpGate.main_arg1) = m ((c.tc : Thread Cert.DwUpGate.nD Cert.DwUpGate.τ).loc Cert.DwUpGate.main_arg1)
      ∧ r.2.mem ((c.tc : Thread Cert.DwUpGate.nD Cert.DwUpGate.τ).loc Cert.DwUpGate.main_arg2) = m ((c.tc : Thread Cert.DwUpGate.nD Cert.DwUpGate.τ).loc Cert.DwUpGate.main_arg2))
      ∧ r.2.sem = fun _ => 0)

def quiescent_DwUpGateIdeal [hDwUpGateIdeal : Cert.DwUpGateIdeal.Facts] : Prop :=
  ∀ (m : (ℓ : Loc Cert.DwUpGateIdeal.nD Cert.DwUpGateIdeal.τ Cert.DwUpGateIdeal.sig) → Buf (Elt Ideal) ℓ) (g : Dev Cert.DwUpGateIdeal.nD → PrngReg), Pre_DwUpGateIdeal m →
    θ_run (Cert.DwUpGateIdeal.defs (F := Ideal)) (onTc (τ := Cert.DwUpGateIdeal.τ) (Cert.DwUpGateIdeal.main (F := Ideal))) ⟨m, fun _ => 0, g⟩ (fun r => (∀ c : Dev Cert.DwUpGateIdeal.nD,
      r.2.mem ((c.tc : Thread Cert.DwUpGateIdeal.nD Cert.DwUpGateIdeal.τ).loc Cert.DwUpGateIdeal.main_arg0) = m ((c.tc : Thread Cert.DwUpGateIdeal.nD Cert.DwUpGateIdeal.τ).loc Cert.DwUpGateIdeal.main_arg0)
      ∧ r.2.mem ((c.tc : Thread Cert.DwUpGateIdeal.nD Cert.DwUpGateIdeal.τ).loc Cert.DwUpGateIdeal.main_arg1) = m ((c.tc : Thread Cert.DwUpGateIdeal.nD Cert.DwUpGateIdeal.τ).loc Cert.DwUpGateIdeal.main_arg1)
      ∧ r.2.mem ((c.tc : Thread Cert.DwUpGateIdeal.nD Cert.DwUpGateIdeal.τ).loc Cert.DwUpGateIdeal.main_arg2) = m ((c.tc : Thread Cert.DwUpGateIdeal.nD Cert.DwUpGateIdeal.τ).loc Cert.DwUpGateIdeal.main_arg2))
      ∧ r.2.sem = fun _ => 0)

def quiescent_DwUpGateRefIdeal [hDwUpGateRefIdeal : Cert.DwUpGateRefIdeal.Facts] : Prop :=
  ∀ (m : (ℓ : Loc Cert.DwUpGateRefIdeal.nD Cert.DwUpGateRefIdeal.τ Cert.DwUpGateRefIdeal.sig) → Buf (Elt Ideal) ℓ) (g : Dev Cert.DwUpGateRefIdeal.nD → PrngReg), Pre_DwUpGateRefIdeal m →
    θ_run (Cert.DwUpGateRefIdeal.defs (F := Ideal)) (onTc (τ := Cert.DwUpGateRefIdeal.τ) (Cert.DwUpGateRefIdeal.main (F := Ideal))) ⟨m, fun _ => 0, g⟩ (fun r => (∀ c : Dev Cert.DwUpGateRefIdeal.nD,
      r.2.mem ((c.tc : Thread Cert.DwUpGateRefIdeal.nD Cert.DwUpGateRefIdeal.τ).loc Cert.DwUpGateRefIdeal.main_arg0) = m ((c.tc : Thread Cert.DwUpGateRefIdeal.nD Cert.DwUpGateRefIdeal.τ).loc Cert.DwUpGateRefIdeal.main_arg0)
      ∧ r.2.mem ((c.tc : Thread Cert.DwUpGateRefIdeal.nD Cert.DwUpGateRefIdeal.τ).loc Cert.DwUpGateRefIdeal.main_arg1) = m ((c.tc : Thread Cert.DwUpGateRefIdeal.nD Cert.DwUpGateRefIdeal.τ).loc Cert.DwUpGateRefIdeal.main_arg1)
      ∧ r.2.mem ((c.tc : Thread Cert.DwUpGateRefIdeal.nD Cert.DwUpGateRefIdeal.τ).loc Cert.DwUpGateRefIdeal.main_arg2) = m ((c.tc : Thread Cert.DwUpGateRefIdeal.nD Cert.DwUpGateRefIdeal.τ).loc Cert.DwUpGateRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8)
      ∧ r.2.mem ((c.tc : Thread Cert.Dh.nD Cert.Dh.τ).loc Cert.Dh.main_arg9) = m ((c.tc : Thread Cert.Dh.nD Cert.Dh.τ).loc Cert.Dh.main_arg9))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
      ∧ r.2.mem ((c.tc : Thread Cert.DhIdeal.nD Cert.DhIdeal.τ).loc Cert.DhIdeal.main_arg9) = m ((c.tc : Thread Cert.DhIdeal.nD Cert.DhIdeal.τ).loc Cert.DhIdeal.main_arg9))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8)
      ∧ r.2.mem ((c.tc : Thread Cert.DhRefIdeal.nD Cert.DhRefIdeal.τ).loc Cert.DhRefIdeal.main_arg9) = m ((c.tc : Thread Cert.DhRefIdeal.nD Cert.DhRefIdeal.τ).loc Cert.DhRefIdeal.main_arg9))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1)
      ∧ r.2.mem ((c.tc : Thread Cert.DwInA.nD Cert.DwInA.τ).loc Cert.DwInA.main_arg2) = m ((c.tc : Thread Cert.DwInA.nD Cert.DwInA.τ).loc Cert.DwInA.main_arg2)
      ∧ r.2.mem ((c.tc : Thread Cert.DwInA.nD Cert.DwInA.τ).loc Cert.DwInA.main_arg3) = m ((c.tc : Thread Cert.DwInA.nD Cert.DwInA.τ).loc Cert.DwInA.main_arg3)
      ∧ r.2.mem ((c.tc : Thread Cert.DwInA.nD Cert.DwInA.τ).loc Cert.DwInA.main_arg4) = m ((c.tc : Thread Cert.DwInA.nD Cert.DwInA.τ).loc Cert.DwInA.main_arg4))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
      ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2)
      ∧ r.2.mem ((c.tc : Thread Cert.DwInAIdeal.nD Cert.DwInAIdeal.τ).loc Cert.DwInAIdeal.main_arg3) = m ((c.tc : Thread Cert.DwInAIdeal.nD Cert.DwInAIdeal.τ).loc Cert.DwInAIdeal.main_arg3)
      ∧ r.2.mem ((c.tc : Thread Cert.DwInAIdeal.nD Cert.DwInAIdeal.τ).loc Cert.DwInAIdeal.main_arg4) = m ((c.tc : Thread Cert.DwInAIdeal.nD Cert.DwInAIdeal.τ).loc Cert.DwInAIdeal.main_arg4))
      ∧ r.2.sem = fun _ => 0)

def quiescent_DwInARefIdeal [hDwInARefIdeal : Cert.DwInARefIdeal.Facts] : Prop :=
  ∀ (m : (ℓ : Loc Cert.DwInARefIdeal.nD Cert.DwInARefIdeal.τ Cert.DwInARefIdeal.sig) → Buf (Elt Ideal) ℓ) (g : Dev Cert.DwInARefIdeal.nD → PrngReg), Pre_DwInARefIdeal m →
    θ_run (Cert.DwInARefIdeal.defs (F := Ideal)) (onTc (τ := Cert.DwInARefIdeal.τ) (Cert.DwInARefIdeal.main (F := Ideal))) ⟨m, fun _ => 0, g⟩ (fun r => (∀ c : Dev Cert.DwInARefIdeal.nD,
      r.2.mem ((c.tc : Thread Cert.DwInARefIdeal.nD Cert.DwInARefIdeal.τ).loc Cert.DwInARefIdeal.main_arg0) = m ((c.tc : Thread Cert.DwInARefIdeal.nD Cert.DwInARefIdeal.τ).loc Cert.DwInARefIdeal.main_arg0)
      ∧ r.2.mem ((c.tc : Thread Cert.DwInARefIdeal.nD Cert.DwInARefIdeal.τ).loc Cert.DwInARefIdeal.main_arg1) = m ((c.tc : Thread Cert.DwInARefIdeal.nD Cert.DwInARefIdeal.τ).loc Cert.DwInARefIdeal.main_arg1)
      ∧ r.2.mem ((c.tc : Thread Cert.DwInARefIdeal.nD Cert.DwInARefIdeal.τ).loc Cert.DwInARefIdeal.main_arg2) = m ((c.tc : Thread Cert.DwInARefIdeal.nD Cert.DwInARefIdeal.τ).loc Cert.DwInARefIdeal.main_arg2)
      ∧ r.2.mem ((c.tc : Thread Cert.DwInARefIdeal.nD Cert.DwInARefIdeal.τ).loc Cert.DwInARefIdeal.main_arg3) = m ((c.tc : Thread Cert.DwInARefIdeal.nD Cert.DwInARefIdeal.τ).loc Cert.DwInARefIdeal.main_arg3)
      ∧ r.2.mem ((c.tc : Thread Cert.DwInARefIdeal.nD Cert.DwInARefIdeal.τ).loc Cert.DwInARefIdeal.main_arg4) = m ((c.tc : Thread Cert.DwInARefIdeal.nD Cert.DwInARefIdeal.τ).loc Cert.DwInARefIdeal.main_arg4))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1)
      ∧ r.2.mem ((c.tc : Thread Cert.DwInB.nD Cert.DwInB.τ).loc Cert.DwInB.main_arg2) = m ((c.tc : Thread Cert.DwInB.nD Cert.DwInB.τ).loc Cert.DwInB.main_arg2)
      ∧ r.2.mem ((c.tc : Thread Cert.DwInB.nD Cert.DwInB.τ).loc Cert.DwInB.main_arg3) = m ((c.tc : Thread Cert.DwInB.nD Cert.DwInB.τ).loc Cert.DwInB.main_arg3)
      ∧ r.2.mem ((c.tc : Thread Cert.DwInB.nD Cert.DwInB.τ).loc Cert.DwInB.main_arg4) = m ((c.tc : Thread Cert.DwInB.nD Cert.DwInB.τ).loc Cert.DwInB.main_arg4)
      ∧ r.2.mem ((c.tc : Thread Cert.DwInB.nD Cert.DwInB.τ).loc Cert.DwInB.main_arg5) = m ((c.tc : Thread Cert.DwInB.nD Cert.DwInB.τ).loc Cert.DwInB.main_arg5))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
      ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2)
      ∧ r.2.mem ((c.tc : Thread Cert.DwInBIdeal.nD Cert.DwInBIdeal.τ).loc Cert.DwInBIdeal.main_arg3) = m ((c.tc : Thread Cert.DwInBIdeal.nD Cert.DwInBIdeal.τ).loc Cert.DwInBIdeal.main_arg3)
      ∧ r.2.mem ((c.tc : Thread Cert.DwInBIdeal.nD Cert.DwInBIdeal.τ).loc Cert.DwInBIdeal.main_arg4) = m ((c.tc : Thread Cert.DwInBIdeal.nD Cert.DwInBIdeal.τ).loc Cert.DwInBIdeal.main_arg4)
      ∧ r.2.mem ((c.tc : Thread Cert.DwInBIdeal.nD Cert.DwInBIdeal.τ).loc Cert.DwInBIdeal.main_arg5) = m ((c.tc : Thread Cert.DwInBIdeal.nD Cert.DwInBIdeal.τ).loc Cert.DwInBIdeal.main_arg5))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1)
      ∧ r.2.mem ((c.tc : Thread Cert.DwInBRefIdeal.nD Cert.DwInBRefIdeal.τ).loc Cert.DwInBRefIdeal.main_arg2) = m ((c.tc : Thread Cert.DwInBRefIdeal.nD Cert.DwInBRefIdeal.τ).loc Cert.DwInBRefIdeal.main_arg2)
      ∧ r.2.mem ((c.tc : Thread Cert.DwInBRefIdeal.nD Cert.DwInBRefIdeal.τ).loc Cert.DwInBRefIdeal.main_arg3) = m ((c.tc : Thread Cert.DwInBRefIdeal.nD Cert.DwInBRefIdeal.τ).loc Cert.DwInBRefIdeal.main_arg3)
      ∧ r.2.mem ((c.tc : Thread Cert.DwInBRefIdeal.nD Cert.DwInBRefIdeal.τ).loc Cert.DwInBRefIdeal.main_arg4) = m ((c.tc : Thread Cert.DwInBRefIdeal.nD Cert.DwInBRefIdeal.τ).loc Cert.DwInBRefIdeal.main_arg4)
      ∧ r.2.mem ((c.tc : Thread Cert.DwInBRefIdeal.nD Cert.DwInBRefIdeal.τ).loc Cert.DwInBRefIdeal.main_arg5) = m ((c.tc : Thread Cert.DwInBRefIdeal.nD Cert.DwInBRefIdeal.τ).loc Cert.DwInBRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ r.2.sem = fun _ => 0)

def quiescent_DycatRefIdeal [hDycatRefIdeal : Cert.DycatRefIdeal.Facts] : Prop :=
  ∀ (m : (ℓ : Loc Cert.DycatRefIdeal.nD Cert.DycatRefIdeal.τ Cert.DycatRefIdeal.sig) → Buf (Elt Ideal) ℓ) (g : Dev Cert.DycatRefIdeal.nD → PrngReg), Pre_DycatRefIdeal m →
    θ_run (Cert.DycatRefIdeal.defs (F := Ideal)) (onTc (τ := Cert.DycatRefIdeal.τ) (Cert.DycatRefIdeal.main (F := Ideal))) ⟨m, fun _ => 0, g⟩ (fun r => (∀ c : Dev Cert.DycatRefIdeal.nD,
      r.2.mem ((c.tc : Thread Cert.DycatRefIdeal.nD Cert.DycatRefIdeal.τ).loc Cert.DycatRefIdeal.main_arg0) = m ((c.tc : Thread Cert.DycatRefIdeal.nD Cert.DycatRefIdeal.τ).loc Cert.DycatRefIdeal.main_arg0)
      ∧ r.2.mem ((c.tc : Thread Cert.DycatRefIdeal.nD Cert.DycatRefIdeal.τ).loc Cert.DycatRefIdeal.main_arg1) = m ((c.tc : Thread Cert.DycatRefIdeal.nD Cert.DycatRefIdeal.τ).loc Cert.DycatRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_v25_18) = v5 c
          ∧ r.2.mem ((c.tc : Thread Cert.ReferenceIdeal.nD Cert.ReferenceIdeal.τ).loc Cert.ReferenceIdeal.main_v38) = v6 c
          ∧ r.2.mem ((c.tc : Thread Cert.ReferenceIdeal.nD Cert.ReferenceIdeal.τ).loc Cert.ReferenceIdeal.main_v39) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v2) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v1)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v1) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v4) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v9) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwUpGate_DwUpGateIdeal : Prop :=
  True

def algebraic_DwUpGateIdeal_DwUpGateRefIdeal [hDwUpGateIdeal : Cert.DwUpGateIdeal.Facts] [hDwUpGateRefIdeal : Cert.DwUpGateRefIdeal.Facts] : Prop :=
  ∀ (m : (ℓ : Loc Cert.DwUpGateIdeal.nD Cert.DwUpGateIdeal.τ Cert.DwUpGateIdeal.sig) → Buf (Elt Ideal) ℓ) (g : Dev Cert.DwUpGateIdeal.nD → PrngReg)
    (m' : (ℓ : Loc Cert.DwUpGateRefIdeal.nD Cert.DwUpGateRefIdeal.τ Cert.DwUpGateRefIdeal.sig) → Buf (Elt Ideal) ℓ) (g' : Dev Cert.DwUpGateRefIdeal.nD → PrngReg), Pre_DwUpGateIdeal m →
    (∀ c : Dev Cert.DwUpGateIdeal.nD,
      m' ((c.tc : Thread Cert.DwUpGateRefIdeal.nD Cert.DwUpGateRefIdeal.τ).loc Cert.DwUpGateRefIdeal.main_arg0) = m ((c.tc : Thread Cert.DwUpGateIdeal.nD Cert.DwUpGateIdeal.τ).loc Cert.DwUpGateIdeal.main_arg0)
      ∧ m' ((c.tc : Thread Cert.DwUpGateRefIdeal.nD Cert.DwUpGateRefIdeal.τ).loc Cert.DwUpGateRefIdeal.main_arg1) = m ((c.tc : Thread Cert.DwUpGateIdeal.nD Cert.DwUpGateIdeal.τ).loc Cert.DwUpGateIdeal.main_arg1)
      ∧ m' ((c.tc : Thread Cert.DwUpGateRefIdeal.nD Cert.DwUpGateRefIdeal.τ).loc Cert.DwUpGateRefIdeal.main_arg2) = m ((c.tc : Thread Cert.DwUpGateIdeal.nD Cert.DwUpGateIdeal.τ).loc Cert.DwUpGateIdeal.main_arg2)) →
    ∃ (v0 : (c : Dev Cert.DwUpGateIdeal.nD) → Buf (Elt Ideal) ((c.tc : Thread Cert.DwUpGateIdeal.nD Cert.DwUpGateIdeal.τ).loc Cert.DwUpGateIdeal.main_v0)),
      θ_run (Cert.DwUpGateIdeal.defs (F := Ideal)) (onTc (τ := Cert.DwUpGateIdeal.τ) (Cert.DwUpGateIdeal.main (F := Ideal))) ⟨m, fun _ => 0, g⟩ (fun r => ∀ c : Dev Cert.DwUpGateIdeal.nD,
          r.2.mem ((c.tc : Thread Cert.DwUpGateIdeal.nD Cert.DwUpGateIdeal.τ).loc Cert.DwUpGateIdeal.main_v0) = v0 c
          ∧ r.2.mem ((c.tc : Thread Cert.DwUpGateIdeal.nD Cert.DwUpGateIdeal.τ).loc Cert.DwUpGateIdeal.main_arg0) = m ((c.tc : Thread Cert.DwUpGateIdeal.nD Cert.DwUpGateIdeal.τ).loc Cert.DwUpGateIdeal.main_arg0)
          ∧ r.2.mem ((c.tc : Thread Cert.DwUpGateIdeal.nD Cert.DwUpGateIdeal.τ).loc Cert.DwUpGateIdeal.main_arg1) = m ((c.tc : Thread Cert.DwUpGateIdeal.nD Cert.DwUpGateIdeal.τ).loc Cert.DwUpGateIdeal.main_arg1)
          ∧ r.2.mem ((c.tc : Thread Cert.DwUpGateIdeal.nD Cert.DwUpGateIdeal.τ).loc Cert.DwUpGateIdeal.main_arg2) = m ((c.tc : Thread Cert.DwUpGateIdeal.nD Cert.DwUpGateIdeal.τ).loc Cert.DwUpGateIdeal.main_arg2))
      ∧ θ_run (Cert.DwUpGateRefIdeal.defs (F := Ideal)) (onTc (τ := Cert.DwUpGateRefIdeal.τ) (Cert.DwUpGateRefIdeal.main (F := Ideal))) ⟨m', fun _ => 0, g'⟩ (fun r => ∀ c : Dev Cert.DwUpGateRefIdeal.nD,
          r.2.mem ((c.tc : Thread Cert.DwUpGateRefIdeal.nD Cert.DwUpGateRefIdeal.τ).loc Cert.DwUpGateRefIdeal.main_v9) = v0 c
          ∧ r.2.mem ((c.tc : Thread Cert.DwUpGateRefIdeal.nD Cert.DwUpGateRefIdeal.τ).loc Cert.DwUpGateRefIdeal.main_arg0) = m' ((c.tc : Thread Cert.DwUpGateRefIdeal.nD Cert.DwUpGateRefIdeal.τ).loc Cert.DwUpGateRefIdeal.main_arg0)
          ∧ r.2.mem ((c.tc : Thread Cert.DwUpGateRefIdeal.nD Cert.DwUpGateRefIdeal.τ).loc Cert.DwUpGateRefIdeal.main_arg1) = m' ((c.tc : Thread Cert.DwUpGateRefIdeal.nD Cert.DwUpGateRefIdeal.τ).loc Cert.DwUpGateRefIdeal.main_arg1)
          ∧ r.2.mem ((c.tc : Thread Cert.DwUpGateRefIdeal.nD Cert.DwUpGateRefIdeal.τ).loc Cert.DwUpGateRefIdeal.main_arg2) = m' ((c.tc : Thread Cert.DwUpGateRefIdeal.nD Cert.DwUpGateRefIdeal.τ).loc Cert.DwUpGateRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)
      ∧ m' ((c.tc : Thread Cert.DhRefIdeal.nD Cert.DhRefIdeal.τ).loc Cert.DhRefIdeal.main_arg8) = m ((c.tc : Thread Cert.DhIdeal.nD Cert.DhIdeal.τ).loc Cert.DhIdeal.main_arg8)
      ∧ m' ((c.tc : Thread Cert.DhRefIdeal.nD Cert.DhRefIdeal.τ).loc Cert.DhRefIdeal.main_arg9) = m ((c.tc : Thread Cert.DhIdeal.nD Cert.DhIdeal.τ).loc Cert.DhIdeal.main_arg9)) →
    ∃ (v0 : (c : Dev Cert.DhIdeal.nD) → Buf (Elt Ideal) ((c.tc : Thread Cert.DhIdeal.nD Cert.DhIdeal.τ).loc Cert.DhIdeal.main_v1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v1) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
          ∧ r.2.mem ((c.tc : Thread Cert.DhIdeal.nD Cert.DhIdeal.τ).loc Cert.DhIdeal.main_arg9) = m ((c.tc : Thread Cert.DhIdeal.nD Cert.DhIdeal.τ).loc Cert.DhIdeal.main_arg9))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8)
          ∧ r.2.mem ((c.tc : Thread Cert.DhRefIdeal.nD Cert.DhRefIdeal.τ).loc Cert.DhRefIdeal.main_arg9) = m' ((c.tc : Thread Cert.DhRefIdeal.nD Cert.DhRefIdeal.τ).loc Cert.DhRefIdeal.main_arg9))

def preserves_DwInA_DwInAIdeal : Prop :=
  True

def algebraic_DwInAIdeal_DwInARefIdeal [hDwInAIdeal : Cert.DwInAIdeal.Facts] [hDwInARefIdeal : Cert.DwInARefIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInARefIdeal.nD Cert.DwInARefIdeal.τ Cert.DwInARefIdeal.sig) → Buf (Elt Ideal) ℓ) (g' : Dev Cert.DwInARefIdeal.nD → PrngReg), Pre_DwInAIdeal m →
    (∀ c : Dev Cert.DwInAIdeal.nD,
      m' ((c.tc : Thread Cert.DwInARefIdeal.nD Cert.DwInARefIdeal.τ).loc Cert.DwInARefIdeal.main_arg0) = m ((c.tc : Thread Cert.DwInAIdeal.nD Cert.DwInAIdeal.τ).loc Cert.DwInAIdeal.main_arg0)
      ∧ m' ((c.tc : Thread Cert.DwInARefIdeal.nD Cert.DwInARefIdeal.τ).loc Cert.DwInARefIdeal.main_arg1) = m ((c.tc : Thread Cert.DwInAIdeal.nD Cert.DwInAIdeal.τ).loc Cert.DwInAIdeal.main_arg1)
      ∧ m' ((c.tc : Thread Cert.DwInARefIdeal.nD Cert.DwInARefIdeal.τ).loc Cert.DwInARefIdeal.main_arg2) = m ((c.tc : Thread Cert.DwInAIdeal.nD Cert.DwInAIdeal.τ).loc Cert.DwInAIdeal.main_arg2)
      ∧ m' ((c.tc : Thread Cert.DwInARefIdeal.nD Cert.DwInARefIdeal.τ).loc Cert.DwInARefIdeal.main_arg3) = m ((c.tc : Thread Cert.DwInAIdeal.nD Cert.DwInAIdeal.τ).loc Cert.DwInAIdeal.main_arg3)
      ∧ m' ((c.tc : Thread Cert.DwInARefIdeal.nD Cert.DwInARefIdeal.τ).loc Cert.DwInARefIdeal.main_arg4) = m ((c.tc : Thread Cert.DwInAIdeal.nD Cert.DwInAIdeal.τ).loc Cert.DwInAIdeal.main_arg4)) →
    ∃ (v0 : (c : Dev Cert.DwInAIdeal.nD) → Buf (Elt Ideal) ((c.tc : Thread Cert.DwInAIdeal.nD Cert.DwInAIdeal.τ).loc Cert.DwInAIdeal.main_v0)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v0) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
          ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2)
          ∧ r.2.mem ((c.tc : Thread Cert.DwInAIdeal.nD Cert.DwInAIdeal.τ).loc Cert.DwInAIdeal.main_arg3) = m ((c.tc : Thread Cert.DwInAIdeal.nD Cert.DwInAIdeal.τ).loc Cert.DwInAIdeal.main_arg3)
          ∧ r.2.mem ((c.tc : Thread Cert.DwInAIdeal.nD Cert.DwInAIdeal.τ).loc Cert.DwInAIdeal.main_arg4) = m ((c.tc : Thread Cert.DwInAIdeal.nD Cert.DwInAIdeal.τ).loc Cert.DwInAIdeal.main_arg4))
      ∧ θ_run (Cert.DwInARefIdeal.defs (F := Ideal)) (onTc (τ := Cert.DwInARefIdeal.τ) (Cert.DwInARefIdeal.main (F := Ideal))) ⟨m', fun _ => 0, g'⟩ (fun r => ∀ c : Dev Cert.DwInARefIdeal.nD,
          r.2.mem ((c.tc : Thread Cert.DwInARefIdeal.nD Cert.DwInARefIdeal.τ).loc Cert.DwInARefIdeal.main_v6) = v0 c
          ∧ r.2.mem ((c.tc : Thread Cert.DwInARefIdeal.nD Cert.DwInARefIdeal.τ).loc Cert.DwInARefIdeal.main_arg0) = m' ((c.tc : Thread Cert.DwInARefIdeal.nD Cert.DwInARefIdeal.τ).loc Cert.DwInARefIdeal.main_arg0)
          ∧ r.2.mem ((c.tc : Thread Cert.DwInARefIdeal.nD Cert.DwInARefIdeal.τ).loc Cert.DwInARefIdeal.main_arg1) = m' ((c.tc : Thread Cert.DwInARefIdeal.nD Cert.DwInARefIdeal.τ).loc Cert.DwInARefIdeal.main_arg1)
          ∧ r.2.mem ((c.tc : Thread Cert.DwInARefIdeal.nD Cert.DwInARefIdeal.τ).loc Cert.DwInARefIdeal.main_arg2) = m' ((c.tc : Thread Cert.DwInARefIdeal.nD Cert.DwInARefIdeal.τ).loc Cert.DwInARefIdeal.main_arg2)
          ∧ r.2.mem ((c.tc : Thread Cert.DwInARefIdeal.nD Cert.DwInARefIdeal.τ).loc Cert.DwInARefIdeal.main_arg3) = m' ((c.tc : Thread Cert.DwInARefIdeal.nD Cert.DwInARefIdeal.τ).loc Cert.DwInARefIdeal.main_arg3)
          ∧ r.2.mem ((c.tc : Thread Cert.DwInARefIdeal.nD Cert.DwInARefIdeal.τ).loc Cert.DwInARefIdeal.main_arg4) = m' ((c.tc : Thread Cert.DwInARefIdeal.nD Cert.DwInARefIdeal.τ).loc Cert.DwInARefIdeal.main_arg4))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)
      ∧ m' ((c.tc : Thread Cert.DwInBRefIdeal.nD Cert.DwInBRefIdeal.τ).loc Cert.DwInBRefIdeal.main_arg2) = m ((c.tc : Thread Cert.DwInBIdeal.nD Cert.DwInBIdeal.τ).loc Cert.DwInBIdeal.main_arg2)
      ∧ m' ((c.tc : Thread Cert.DwInBRefIdeal.nD Cert.DwInBRefIdeal.τ).loc Cert.DwInBRefIdeal.main_arg3) = m ((c.tc : Thread Cert.DwInBIdeal.nD Cert.DwInBIdeal.τ).loc Cert.DwInBIdeal.main_arg3)
      ∧ m' ((c.tc : Thread Cert.DwInBRefIdeal.nD Cert.DwInBRefIdeal.τ).loc Cert.DwInBRefIdeal.main_arg4) = m ((c.tc : Thread Cert.DwInBIdeal.nD Cert.DwInBIdeal.τ).loc Cert.DwInBIdeal.main_arg4)
      ∧ m' ((c.tc : Thread Cert.DwInBRefIdeal.nD Cert.DwInBRefIdeal.τ).loc Cert.DwInBRefIdeal.main_arg5) = m ((c.tc : Thread Cert.DwInBIdeal.nD Cert.DwInBIdeal.τ).loc Cert.DwInBIdeal.main_arg5)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
          ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2)
          ∧ r.2.mem ((c.tc : Thread Cert.DwInBIdeal.nD Cert.DwInBIdeal.τ).loc Cert.DwInBIdeal.main_arg3) = m ((c.tc : Thread Cert.DwInBIdeal.nD Cert.DwInBIdeal.τ).loc Cert.DwInBIdeal.main_arg3)
          ∧ r.2.mem ((c.tc : Thread Cert.DwInBIdeal.nD Cert.DwInBIdeal.τ).loc Cert.DwInBIdeal.main_arg4) = m ((c.tc : Thread Cert.DwInBIdeal.nD Cert.DwInBIdeal.τ).loc Cert.DwInBIdeal.main_arg4)
          ∧ r.2.mem ((c.tc : Thread Cert.DwInBIdeal.nD Cert.DwInBIdeal.τ).loc Cert.DwInBIdeal.main_arg5) = m ((c.tc : Thread Cert.DwInBIdeal.nD Cert.DwInBIdeal.τ).loc Cert.DwInBIdeal.main_arg5))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v6) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1)
          ∧ r.2.mem ((c.tc : Thread Cert.DwInBRefIdeal.nD Cert.DwInBRefIdeal.τ).loc Cert.DwInBRefIdeal.main_arg2) = m' ((c.tc : Thread Cert.DwInBRefIdeal.nD Cert.DwInBRefIdeal.τ).loc Cert.DwInBRefIdeal.main_arg2)
          ∧ r.2.mem ((c.tc : Thread Cert.DwInBRefIdeal.nD Cert.DwInBRefIdeal.τ).loc Cert.DwInBRefIdeal.main_arg3) = m' ((c.tc : Thread Cert.DwInBRefIdeal.nD Cert.DwInBRefIdeal.τ).loc Cert.DwInBRefIdeal.main_arg3)
          ∧ r.2.mem ((c.tc : Thread Cert.DwInBRefIdeal.nD Cert.DwInBRefIdeal.τ).loc Cert.DwInBRefIdeal.main_arg4) = m' ((c.tc : Thread Cert.DwInBRefIdeal.nD Cert.DwInBRefIdeal.τ).loc Cert.DwInBRefIdeal.main_arg4)
          ∧ r.2.mem ((c.tc : Thread Cert.DwInBRefIdeal.nD Cert.DwInBRefIdeal.τ).loc Cert.DwInBRefIdeal.main_arg5) = m' ((c.tc : Thread Cert.DwInBRefIdeal.nD Cert.DwInBRefIdeal.τ).loc Cert.DwInBRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_Dycat_DycatIdeal : Prop :=
  True

def algebraic_DycatIdeal_DycatRefIdeal [hDycatIdeal : Cert.DycatIdeal.Facts] [hDycatRefIdeal : Cert.DycatRefIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.DycatRefIdeal.nD Cert.DycatRefIdeal.τ Cert.DycatRefIdeal.sig) → Buf (Elt Ideal) ℓ) (g' : Dev Cert.DycatRefIdeal.nD → PrngReg), Pre_DycatIdeal m →
    (∀ c : Dev Cert.DycatIdeal.nD,
      m' ((c.tc : Thread Cert.DycatRefIdeal.nD Cert.DycatRefIdeal.τ).loc Cert.DycatRefIdeal.main_arg0) = m ((c.tc : Thread Cert.DycatIdeal.nD Cert.DycatIdeal.τ).loc Cert.DycatIdeal.main_arg0)
      ∧ m' ((c.tc : Thread Cert.DycatRefIdeal.nD Cert.DycatRefIdeal.τ).loc Cert.DycatRefIdeal.main_arg1) = m ((c.tc : Thread Cert.DycatIdeal.nD Cert.DycatIdeal.τ).loc Cert.DycatIdeal.main_arg1)) →
    ∃ (v0 : (c : Dev Cert.DycatIdeal.nD) → Buf (Elt Ideal) ((c.tc : Thread Cert.DycatIdeal.nD Cert.DycatIdeal.τ).loc Cert.DycatIdeal.main_v1)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v1) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ θ_run (Cert.DycatRefIdeal.defs (F := Ideal)) (onTc (τ := Cert.DycatRefIdeal.τ) (Cert.DycatRefIdeal.main (F := Ideal))) ⟨m', fun _ => 0, g'⟩ (fun r => ∀ c : Dev Cert.DycatRefIdeal.nD,
          r.2.mem ((c.tc : Thread Cert.DycatRefIdeal.nD Cert.DycatRefIdeal.τ).loc Cert.DycatRefIdeal.main_v2) = v0 c
          ∧ r.2.mem ((c.tc : Thread Cert.DycatRefIdeal.nD Cert.DycatRefIdeal.τ).loc Cert.DycatRefIdeal.main_arg0) = m' ((c.tc : Thread Cert.DycatRefIdeal.nD Cert.DycatRefIdeal.τ).loc Cert.DycatRefIdeal.main_arg0)
          ∧ r.2.mem ((c.tc : Thread Cert.DycatRefIdeal.nD Cert.DycatRefIdeal.τ).loc Cert.DycatRefIdeal.main_arg1) = m' ((c.tc : Thread Cert.DycatRefIdeal.nD Cert.DycatRefIdeal.τ).loc Cert.DycatRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v44_0)) (v1 : (c : Dev Cert.AdamSmallIdeal.nD) → Buf (Elt Ideal) ((c.tc : Thread Cert.AdamSmallIdeal.nD Cert.AdamSmallIdeal.τ).loc Cert.AdamSmallIdeal.main_v44_1)) (v2 : (c : Dev Cert.AdamSmallIdeal.nD) → Buf (Elt Ideal) ((c.tc : Thread Cert.AdamSmallIdeal.nD Cert.AdamSmallIdeal.τ).loc Cert.AdamSmallIdeal.main_v44_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v44_0) = v0 c
          ∧ r.2.mem ((c.tc : Thread Cert.AdamSmallIdeal.nD Cert.AdamSmallIdeal.τ).loc Cert.AdamSmallIdeal.main_v44_1) = v1 c
          ∧ r.2.mem ((c.tc : Thread Cert.AdamSmallIdeal.nD Cert.AdamSmallIdeal.τ).loc Cert.AdamSmallIdeal.main_v44_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v67) = v0 c
          ∧ r.2.mem ((c.tc : Thread Cert.AdamSmallRefIdeal.nD Cert.AdamSmallRefIdeal.τ).loc Cert.AdamSmallRefIdeal.main_v48) = v1 c
          ∧ r.2.mem ((c.tc : Thread Cert.AdamSmallRefIdeal.nD Cert.AdamSmallRefIdeal.τ).loc Cert.AdamSmallRefIdeal.main_v54) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hDact : Cert.Dact.Facts) (hDactIdeal : Cert.DactIdeal.Facts) (hDactRefIdeal : Cert.DactRefIdeal.Facts) (hDwDown : Cert.DwDown.Facts) (hDwDownIdeal : Cert.DwDownIdeal.Facts) (hDwDownRefIdeal : Cert.DwDownRefIdeal.Facts) (hUp : Cert.Up.Facts) (hUpIdeal : Cert.UpIdeal.Facts) (hUpRefIdeal : Cert.UpRefIdeal.Facts) (hDh2 : Cert.Dh2.Facts) (hDh2Ideal : Cert.Dh2Ideal.Facts) (hDh2RefIdeal : Cert.Dh2RefIdeal.Facts) (hDwUp : Cert.DwUp.Facts) (hDwUpIdeal : Cert.DwUpIdeal.Facts) (hDwUpRefIdeal : Cert.DwUpRefIdeal.Facts) (hDwUpGate : Cert.DwUpGate.Facts) (hDwUpGateIdeal : Cert.DwUpGateIdeal.Facts) (hDwUpGateRefIdeal : Cert.DwUpGateRefIdeal.Facts) (hProj : Cert.Proj.Facts) (hProjIdeal : Cert.ProjIdeal.Facts) (hProjRefIdeal : Cert.ProjRefIdeal.Facts) (hDh : Cert.Dh.Facts) (hDhIdeal : Cert.DhIdeal.Facts) (hDhRefIdeal : Cert.DhRefIdeal.Facts) (hDwInA : Cert.DwInA.Facts) (hDwInAIdeal : Cert.DwInAIdeal.Facts) (hDwInARefIdeal : Cert.DwInARefIdeal.Facts) (hDwInB : Cert.DwInB.Facts) (hDwInBIdeal : Cert.DwInBIdeal.Facts) (hDwInBRefIdeal : Cert.DwInBRefIdeal.Facts) (hMixOut : Cert.MixOut.Facts) (hMixOutIdeal : Cert.MixOutIdeal.Facts) (hMixOutRefIdeal : Cert.MixOutRefIdeal.Facts) (hDycat : Cert.Dycat.Facts) (hDycatIdeal : Cert.DycatIdeal.Facts) (hDycatRefIdeal : Cert.DycatRefIdeal.Facts) (hDwOut : Cert.DwOut.Facts) (hDwOutIdeal : Cert.DwOutIdeal.Facts) (hDwOutRefIdeal : Cert.DwOutRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumSlots : Cert.SumSlots.Facts) (hSumSlotsIdeal : Cert.SumSlotsIdeal.Facts) (hSumSlotsRefIdeal : Cert.SumSlotsRefIdeal.Facts) (hNorm : Cert.Norm.Facts) (hNormIdeal : Cert.NormIdeal.Facts) (hNormRefIdeal : Cert.NormRefIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownRefIdeal (hDownRefIdeal := hDownRefIdeal)
    ∧ quiescent_Dact (hDact := hDact)
    ∧ quiescent_DactIdeal (hDactIdeal := hDactIdeal)
    ∧ quiescent_DactRefIdeal (hDactRefIdeal := hDactRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Up (hUp := hUp)
    ∧ quiescent_UpIdeal (hUpIdeal := hUpIdeal)
    ∧ quiescent_UpRefIdeal (hUpRefIdeal := hUpRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwUpGate (hDwUpGate := hDwUpGate)
    ∧ quiescent_DwUpGateIdeal (hDwUpGateIdeal := hDwUpGateIdeal)
    ∧ quiescent_DwUpGateRefIdeal (hDwUpGateRefIdeal := hDwUpGateRefIdeal)
    ∧ quiescent_Proj (hProj := hProj)
    ∧ quiescent_ProjIdeal (hProjIdeal := hProjIdeal)
    ∧ quiescent_ProjRefIdeal (hProjRefIdeal := hProjRefIdeal)
    ∧ quiescent_Dh (hDh := hDh)
    ∧ quiescent_DhIdeal (hDhIdeal := hDhIdeal)
    ∧ quiescent_DhRefIdeal (hDhRefIdeal := hDhRefIdeal)
    ∧ quiescent_DwInA (hDwInA := hDwInA)
    ∧ quiescent_DwInAIdeal (hDwInAIdeal := hDwInAIdeal)
    ∧ quiescent_DwInARefIdeal (hDwInARefIdeal := hDwInARefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Dycat (hDycat := hDycat)
    ∧ quiescent_DycatIdeal (hDycatIdeal := hDycatIdeal)
    ∧ quiescent_DycatRefIdeal (hDycatRefIdeal := hDycatRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal)
    ∧ preserves_Dact_DactIdeal
    ∧ algebraic_DactIdeal_DactRefIdeal (hDactIdeal := hDactIdeal) (hDactRefIdeal := hDactRefIdeal)
    ∧ preserves_DwDown_DwDownIdeal
    ∧ algebraic_DwDownIdeal_DwDownRefIdeal (hDwDownIdeal := hDwDownIdeal) (hDwDownRefIdeal := hDwDownRefIdeal)
    ∧ preserves_Up_UpIdeal
    ∧ algebraic_UpIdeal_UpRefIdeal (hUpIdeal := hUpIdeal) (hUpRefIdeal := hUpRefIdeal)
    ∧ preserves_Dh2_Dh2Ideal
    ∧ algebraic_Dh2Ideal_Dh2RefIdeal (hDh2Ideal := hDh2Ideal) (hDh2RefIdeal := hDh2RefIdeal)
    ∧ preserves_DwUp_DwUpIdeal
    ∧ algebraic_DwUpIdeal_DwUpRefIdeal (hDwUpIdeal := hDwUpIdeal) (hDwUpRefIdeal := hDwUpRefIdeal)
    ∧ preserves_DwUpGate_DwUpGateIdeal
    ∧ algebraic_DwUpGateIdeal_DwUpGateRefIdeal (hDwUpGateIdeal := hDwUpGateIdeal) (hDwUpGateRefIdeal := hDwUpGateRefIdeal)
    ∧ preserves_Proj_ProjIdeal
    ∧ algebraic_ProjIdeal_ProjRefIdeal (hProjIdeal := hProjIdeal) (hProjRefIdeal := hProjRefIdeal)
    ∧ preserves_Dh_DhIdeal
    ∧ algebraic_DhIdeal_DhRefIdeal (hDhIdeal := hDhIdeal) (hDhRefIdeal := hDhRefIdeal)
    ∧ preserves_DwInA_DwInAIdeal
    ∧ algebraic_DwInAIdeal_DwInARefIdeal (hDwInAIdeal := hDwInAIdeal) (hDwInARefIdeal := hDwInARefIdeal)
    ∧ preserves_DwInB_DwInBIdeal
    ∧ algebraic_DwInBIdeal_DwInBRefIdeal (hDwInBIdeal := hDwInBIdeal) (hDwInBRefIdeal := hDwInBRefIdeal)
    ∧ preserves_MixOut_MixOutIdeal
    ∧ algebraic_MixOutIdeal_MixOutRefIdeal (hMixOutIdeal := hMixOutIdeal) (hMixOutRefIdeal := hMixOutRefIdeal)
    ∧ preserves_Dycat_DycatIdeal
    ∧ algebraic_DycatIdeal_DycatRefIdeal (hDycatIdeal := hDycatIdeal) (hDycatRefIdeal := hDycatRefIdeal)
    ∧ preserves_DwOut_DwOutIdeal
    ∧ algebraic_DwOutIdeal_DwOutRefIdeal (hDwOutIdeal := hDwOutIdeal) (hDwOutRefIdeal := hDwOutRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_Norm_NormIdeal
    ∧ algebraic_NormIdeal_NormRefIdeal (hNormIdeal := hNormIdeal) (hNormRefIdeal := hNormRefIdeal)
-- ==== Kernel.lean ====
abbrev S8192x512 : Shape := ⟨2, ![8192, 512]⟩
abbrev S4x8192x64 : Shape := ⟨3, ![4, 8192, 64]⟩
abbrev S128x4x128 : Shape := ⟨3, ![128, 4, 128]⟩
abbrev S8192x3840 : Shape := ⟨2, ![8192, 3840]⟩
abbrev S128 : Shape := ⟨1, ![128]⟩
abbrev S128x4x128x128 : Shape := ⟨4, ![128, 4, 128, 128]⟩
abbrev S8192x1024 : Shape := ⟨2, ![8192, 1024]⟩
abbrev S1x128 : Shape := ⟨2, ![1, 128]⟩
abbrev S256x512 : Shape := ⟨2, ![256, 512]⟩
abbrev S4x256x64 : Shape := ⟨3, ![4, 256, 64]⟩
abbrev S4x4x128 : Shape := ⟨3, ![4, 4, 128]⟩
abbrev S4x4x128x128 : Shape := ⟨4, ![4, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x64x64 : Shape := ⟨3, ![1, 64, 64]⟩
abbrev S64x64 : Shape := ⟨2, ![64, 64]⟩
abbrev S1x1x128 : Shape := ⟨3, ![1, 1, 128]⟩
abbrev S64 : Shape := ⟨1, ![64]⟩
abbrev S64x1 : Shape := ⟨2, ![64, 1]⟩

abbrev nBuf : Space → Nat
  | .hbm => 19
  | .vmem => 35
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S4x8192x64, .f32⟩
  | .hbm, ⟨5, _⟩ => ⟨S128x4x128, .f32⟩
  | .hbm, ⟨6, _⟩ => ⟨S8192x3840, .f32⟩
  | .hbm, ⟨7, _⟩ => ⟨S128, .f32⟩
  | .hbm, ⟨8, _⟩ => ⟨S128x4x128x128, .f32⟩
  | .hbm, ⟨9, _⟩ => ⟨S8192x1024, .f32⟩
  | .hbm, ⟨10, _⟩ => ⟨S1x128, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S4x8192x64, .f32⟩
  | .hbm, ⟨16, _⟩ => ⟨S128x4x128, .f32⟩
  | .hbm, ⟨17, _⟩ => ⟨S8192x512, .bf16⟩
  | .hbm, ⟨18, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S4x256x64, .f32⟩
  | .local _ .vmem, ⟨9, _⟩ => ⟨S4x256x64, .f32⟩
  | .local _ .vmem, ⟨10, _⟩ => ⟨S4x4x128, .f32⟩
  | .local _ .vmem, ⟨11, _⟩ => ⟨S4x4x128, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S4x4x128x128, .f32⟩
  | .local _ .vmem, ⟨16, _⟩ => ⟨S4x4x128x128, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S4x256x64, .f32⟩
  | .local _ .vmem, ⟨28, _⟩ => ⟨S4x256x64, .f32⟩
  | .local _ .vmem, ⟨29, _⟩ => ⟨S4x4x128, .f32⟩
  | .local _ .vmem, ⟨30, _⟩ => ⟨S4x4x128, .f32⟩
  | .local _ .vmem, ⟨31, _⟩ => ⟨S256x512, .bf16⟩
  | .local _ .vmem, ⟨32, _⟩ => ⟨S256x512, .bf16⟩
  | .local _ .vmem, ⟨33, _⟩ => ⟨S1x128, .f32⟩
  | .local _ .vmem, ⟨34, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v1918 : BitVec 32 := Scalar.extui v0
  let c0_i32_1007 : BitVec 32 := 0#32
  let v1919 : BitVec 1 := Scalar.cmpi .ne v1918 c0_i32_1007
  v1919

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1920 : BitVec 1 := Scalar.xori v0 v_true
  let v1921 : BitVec 32 := Scalar.extui v1920
  let c0_i32_1008 : BitVec 32 := 0#32
  let v1922 : BitVec 1 := Scalar.cmpi .ne v1921 c0_i32_1008
  v1922

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S8192x512 : Shape := ⟨2, ![8192, 512]⟩
abbrev S4x8192x64 : Shape := ⟨3, ![4, 8192, 64]⟩
abbrev S128x4x128 : Shape := ⟨3, ![128, 4, 128]⟩
abbrev S8192x3840 : Shape := ⟨2, ![8192, 3840]⟩
abbrev S128 : Shape := ⟨1, ![128]⟩
abbrev S128x4x128x128 : Shape := ⟨4, ![128, 4, 128, 128]⟩
abbrev S8192x1024 : Shape := ⟨2, ![8192, 1024]⟩
abbrev S4x128x64x64 : Shape := ⟨4, ![4, 128, 64, 64]⟩
abbrev S128x4x64x64 : Shape := ⟨4, ![128, 4, 64, 64]⟩
abbrev S_ : Shape := ⟨0, ![]⟩
abbrev S4x128x128 : Shape := ⟨3, ![4, 128, 128]⟩
abbrev S128x64x4x128 : Shape := ⟨4, ![128, 64, 4, 128]⟩
abbrev S128x4x64x128 : Shape := ⟨4, ![128, 4, 64, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x128 : Shape := ⟨3, ![1, 4, 128]⟩
abbrev S4x128 : Shape := ⟨2, ![4, 128]⟩
abbrev S4x1x128 : Shape := ⟨3, ![4, 1, 128]⟩
abbrev S4x64 : Shape := ⟨2, ![4, 64]⟩
abbrev S4x64x1 : Shape := ⟨3, ![4, 64, 1]⟩
abbrev S1x1x128 : Shape := ⟨3, ![1, 1, 128]⟩
abbrev S4x128x64 : Shape := ⟨3, ![4, 128, 64]⟩
abbrev S1x128 : Shape := ⟨2, ![1, 128]⟩

abbrev nBuf : Space → Nat
  | .hbm => 266
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S4x8192x64, .f32⟩
  | 5 => ⟨S128x4x128, .f32⟩
  | 6 => ⟨S8192x3840, .f32⟩
  | 7 => ⟨S128, .f32⟩
  | 8 => ⟨S128x4x128x128, .f32⟩
  | 9 => ⟨S8192x1024, .f32⟩
  | 10 => ⟨S8192x512, .f32⟩
  | 11 => ⟨S8192x512, .f32⟩
  | 12 => ⟨S4x128x64x64, .f32⟩
  | 13 => ⟨S128x4x64x64, .f32⟩
  | 14 => ⟨S_, .f32⟩
  | 15 => ⟨S4x128x128, .f32⟩
  | 16 => ⟨S_, .f32⟩
  | 17 => ⟨S128, .f32⟩
  | 18 => ⟨S128x64x4x128, .f32⟩
  | 19 => ⟨S128x4x64x128, .f32⟩
  | 20 => ⟨S128x64x4x128, .f32⟩
  | 21 => ⟨S128x4x64x128, .f32⟩
  | 22 => ⟨S128x64x4x128, .f32⟩
  | 23 => ⟨S128x4x64x128, .f32⟩
  | 24 => ⟨S128x64x4x128, .f32⟩
  | 25 => ⟨S128x4x64x128, .f32⟩
  | 26 => ⟨S128x64x4x128, .f32⟩
  | 27 => ⟨S128x4x64x128, .f32⟩
  | 28 => ⟨S128x64x4x128, .f32⟩
  | 29 => ⟨S128x4x64x128, .f32⟩
  | 30 => ⟨S_, .f32⟩
  | 31 => ⟨S128x4x64x128, .f32⟩
  | 32 => ⟨S_, .f32⟩
  | 33 => ⟨S128x4x64x128, .f32⟩
  | 34 => ⟨S_, .f32⟩
  | 35 => ⟨S128x4x64x128, .f32⟩
  | 36 => ⟨S_, .f32⟩
  | 37 => ⟨S128x4x64x128, .f32⟩
  | 38 => ⟨S_, .f32⟩
  | 39 => ⟨S128x4x64x64, .f32⟩
  | 40 => ⟨S_, .f32⟩
  | 41 => ⟨S128x4x128, .f32⟩
  | 42 => ⟨S_, .f32⟩
  | 43 => ⟨S128x4x64x128, .f32⟩
  | 44 => ⟨S_, .i32⟩
  | 45 => ⟨S128x4x128x128, .f32⟩
  | 46 => ⟨S128x4x64x128, .f32⟩
  | 47 => ⟨S128x4x64x128, .f32⟩
  | 48 => ⟨S128x4x64x128, .f32⟩
  | 49 => ⟨S128x4x64x128, .f32⟩
  | 50 => ⟨S128x4x64x64, .f32⟩
  | 51 => ⟨S128x4x128, .f32⟩
  | 52 => ⟨S128x4x64x128, .f32⟩
  | 53 => ⟨S128x4x64x128, .f32⟩
  | 54 => ⟨S128, .f32⟩
  | 55 => ⟨S_, .i32⟩
  | 56 => ⟨S4x128x128, .f32⟩
  | 57 => ⟨S128, .f32⟩
  | 58 => ⟨S128x4x64x128, .f32⟩
  | 59 => ⟨S128x4x64x128, .f32⟩
  | 60 => ⟨S128x4x64x128, .f32⟩
  | 61 => ⟨S128x4x64x128, .f32⟩
  | 62 => ⟨S128x4x64x64, .f32⟩
  | 63 => ⟨S128x4x128, .f32⟩
  | 64 => ⟨S128x4x64x128, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x4x128x128, .f32⟩
  | 75 => ⟨S4x128x128, .f32⟩
  | 76 => ⟨S_, .i32⟩
  | 77 => ⟨S_, .i32⟩
  | 78 => ⟨S_, .i32⟩
  | 79 => ⟨S1x4x64x128, .f32⟩
  | 80 => ⟨S4x64x128, .f32⟩
  | 81 => ⟨S_, .i32⟩
  | 82 => ⟨S_, .i32⟩
  | 83 => ⟨S_, .i32⟩
  | 84 => ⟨S1x4x64x128, .f32⟩
  | 85 => ⟨S4x64x128, .f32⟩
  | 86 => ⟨S_, .i32⟩
  | 87 => ⟨S_, .i32⟩
  | 88 => ⟨S_, .i32⟩
  | 89 => ⟨S1x4x64x128, .f32⟩
  | 90 => ⟨S4x64x128, .f32⟩
  | 91 => ⟨S_, .i32⟩
  | 92 => ⟨S_, .i32⟩
  | 93 => ⟨S_, .i32⟩
  | 94 => ⟨S1x4x64x128, .f32⟩
  | 95 => ⟨S4x64x128, .f32⟩
  | 96 => ⟨S_, .i32⟩
  | 97 => ⟨S_, .i32⟩
  | 98 => ⟨S_, .i32⟩
  | 99 => ⟨S1x4x64x64, .f32⟩
  | 100 => ⟨S4x64x64, .f32⟩
  | 101 => ⟨S_, .i32⟩
  | 102 => ⟨S_, .i32⟩
  | 103 => ⟨S1x4x128, .f32⟩
  | 104 => ⟨S4x128, .f32⟩
  | 105 => ⟨S_, .i32⟩
  | 106 => ⟨S_, .i32⟩
  | 107 => ⟨S_, .i32⟩
  | 108 => ⟨S1x4x64x128, .f32⟩
  | 109 => ⟨S4x64x128, .f32⟩
  | 110 => ⟨S_, .i32⟩
  | 111 => ⟨S_, .i32⟩
  | 112 => ⟨S_, .i32⟩
  | 113 => ⟨S1x4x64x128, .f32⟩
  | 114 => ⟨S4x64x128, .f32⟩
  | 115 => ⟨S4x64x128, .f32⟩
  | 116 => ⟨S4x64x128, .f32⟩
  | 117 => ⟨S4x64x128, .f32⟩
  | 118 => ⟨S4x64x128, .f32⟩
  | 119 => ⟨S4x64x128, .f32⟩
  | 120 => ⟨S4x1x128, .f32⟩
  | 121 => ⟨S4x128x128, .f32⟩
  | 122 => ⟨S4x128x128, .f32⟩
  | 123 => ⟨S4x128x128, .f32⟩
  | 124 => ⟨S4x128x128, .f32⟩
  | 125 => ⟨S4x64x128, .f32⟩
  | 126 => ⟨S_, .f32⟩
  | 127 => ⟨S4x64, .f32⟩
  | _ => ⟨S8192x512, .f32⟩

abbrev hbmTy0_1 (i : Nat) : BufTy := match i % 128 with
  | 0 => ⟨S4x64x1, .f32⟩
  | 1 => ⟨S_, .f32⟩
  | 2 => ⟨S4x64x1, .f32⟩
  | 3 => ⟨S4x64x1, .f32⟩
  | 4 => ⟨S_, .f32⟩
  | 5 => ⟨S4x64x1, .f32⟩
  | 6 => ⟨S4x64x1, .f32⟩
  | 7 => ⟨S4x64x1, .f32⟩
  | 8 => ⟨S4x64x1, .f32⟩
  | 9 => ⟨S_, .f32⟩
  | 10 => ⟨S4x64x1, .f32⟩
  | 11 => ⟨S4x64x1, .f32⟩
  | 12 => ⟨S4x64x128, .f32⟩
  | 13 => ⟨S4x64x128, .f32⟩
  | 14 => ⟨S1x1x128, .f32⟩
  | 15 => ⟨S4x64x128, .f32⟩
  | 16 => ⟨S4x64x128, .f32⟩
  | 17 => ⟨S4x64x128, .f32⟩
  | 18 => ⟨S4x64x128, .f32⟩
  | 19 => ⟨S_, .f32⟩
  | 20 => ⟨S4x64x128, .f32⟩
  | 21 => ⟨S4x64x128, .f32⟩
  | 22 => ⟨S_, .f32⟩
  | 23 => ⟨S4x64x128, .f32⟩
  | 24 => ⟨S4x64x128, .f32⟩
  | 25 => ⟨S_, .f32⟩
  | 26 => ⟨S4x64x128, .f32⟩
  | 27 => ⟨S4x64x128, .f32⟩
  | 28 => ⟨S4x64x128, .f32⟩
  | 29 => ⟨S4x64x128, .f32⟩
  | 30 => ⟨S4x64x128, .f32⟩
  | 31 => ⟨S4x64x128, .f32⟩
  | 32 => ⟨S4x64x128, .f32⟩
  | 33 => ⟨S4x64x128, .f32⟩
  | 34 => ⟨S4x64x128, .f32⟩
  | 35 => ⟨S4x64x128, .f32⟩
  | 36 => ⟨S4x64x128, .f32⟩
  | 37 => ⟨S4x64x128, .f32⟩
  | 38 => ⟨S_, .f32⟩
  | 39 => ⟨S128, .f32⟩
  | 40 => ⟨S1x1x128, .f32⟩
  | 41 => ⟨S4x64x128, .f32⟩
  | 42 => ⟨S4x64x128, .f32⟩
  | 43 => ⟨S_, .f32⟩
  | 44 => ⟨S128, .f32⟩
  | 45 => ⟨S4x64x128, .f32⟩
  | 46 => ⟨S_, .f32⟩
  | 47 => ⟨S4x64, .f32⟩
  | 48 => ⟨S4x64x1, .f32⟩
  | 49 => ⟨S4x64x128, .f32⟩
  | 50 => ⟨S4x64x128, .f32⟩
  | 51 => ⟨S4x64x1, .f32⟩
  | 52 => ⟨S_, .f32⟩
  | 53 => ⟨S4x64x1, .f32⟩
  | 54 => ⟨S4x64x1, .f32⟩
  | 55 => ⟨S_, .f32⟩
  | 56 => ⟨S4x64, .f32⟩
  | 57 => ⟨S4x64x128, .f32⟩
  | 58 => ⟨S4x64x128, .f32⟩
  | 59 => ⟨S4x64x128, .f32⟩
  | 60 => ⟨S4x64x128, .f32⟩
  | 61 => ⟨S4x64x128, .f32⟩
  | 62 => ⟨S4x128x64, .f32⟩
  | 63 => ⟨S4x64x128, .f32⟩
  | 64 => ⟨S4x128x64, .f32⟩
  | 65 => ⟨S4x64x128, .f32⟩
  | 66 => ⟨S4x128x128, .f32⟩
  | 67 => ⟨S_, .f32⟩
  | 68 => ⟨S4x128, .f32⟩
  | 69 => ⟨S4x1x128, .f32⟩
  | 70 => ⟨S4x128x128, .f32⟩
  | 71 => ⟨S4x128x128, .f32⟩
  | 72 => ⟨S_, .f32⟩
  | 73 => ⟨S4x128, .f32⟩
  | 74 => ⟨S4x128x64, .f32⟩
  | 75 => ⟨S4x64x128, .f32⟩
  | 76 => ⟨S4x64x128, .f32⟩
  | 77 => ⟨S4x64x64, .f32⟩
  | 78 => ⟨S4x128x128, .f32⟩
  | 79 => ⟨S4x128x128, .f32⟩
  | 80 => ⟨S4x128x128, .f32⟩
  | 81 => ⟨S4x64x128, .f32⟩
  | 82 => ⟨S4x64x128, .f32⟩
  | 83 => ⟨S4x128x128, .f32⟩
  | 84 => ⟨S4x128x128, .f32⟩
  | 85 => ⟨S4x128x128, .f32⟩
  | 86 => ⟨S4x64x128, .f32⟩
  | 87 => ⟨S128, .f32⟩
  | 88 => ⟨S1x4x64x128, .f32⟩
  | 89 => ⟨S_, .i32⟩
  | 90 => ⟨S_, .i32⟩
  | 91 => ⟨S_, .i32⟩
  | 92 => ⟨S128x4x64x128, .f32⟩
  | 93 => ⟨S1x4x64x128, .f32⟩
  | 94 => ⟨S_, .i32⟩
  | 95 => ⟨S_, .i32⟩
  | 96 => ⟨S_, .i32⟩
  | 97 => ⟨S128x4x64x128, .f32⟩
  | 98 => ⟨S1x4x64x128, .f32⟩
  | 99 => ⟨S_, .i32⟩
  | 100 => ⟨S_, .i32⟩
  | 101 => ⟨S_, .i32⟩
  | 102 => ⟨S128x4x64x128, .f32⟩
  | 103 => ⟨S1x4x64x128, .f32⟩
  | 104 => ⟨S_, .i32⟩
  | 105 => ⟨S_, .i32⟩
  | 106 => ⟨S_, .i32⟩
  | 107 => ⟨S128x4x64x128, .f32⟩
  | 108 => ⟨S1x4x64x64, .f32⟩
  | 109 => ⟨S_, .i32⟩
  | 110 => ⟨S_, .i32⟩
  | 111 => ⟨S_, .i32⟩
  | 112 => ⟨S128x4x64x64, .f32⟩
  | 113 => ⟨S1x4x128, .f32⟩
  | 114 => ⟨S_, .i32⟩
  | 115 => ⟨S_, .i32⟩
  | 116 => ⟨S128x4x128, .f32⟩
  | 117 => ⟨S1x4x64x128, .f32⟩
  | 118 => ⟨S_, .i32⟩
  | 119 => ⟨S_, .i32⟩
  | 120 => ⟨S_, .i32⟩
  | 121 => ⟨S128x4x64x128, .f32⟩
  | 122 => ⟨S_, .i32⟩
  | 123 => ⟨S_, .i32⟩
  | 124 => ⟨S128x64x4x128, .f32⟩
  | 125 => ⟨S8192x512, .f32⟩
  | 126 => ⟨S128x64x4x128, .f32⟩
  | 127 => ⟨S8192x512, .f32⟩
  | _ => ⟨S8192x512, .f32⟩

abbrev hbmTy0_2 (i : Nat) : BufTy := match i % 128 with
  | 0 => ⟨S128x64x4x128, .f32⟩
  | 1 => ⟨S8192x512, .f32⟩
  | 2 => ⟨S128x64x4x128, .f32⟩
  | 3 => ⟨S8192x512, .f32⟩
  | 4 => ⟨S4x128x64x64, .f32⟩
  | 5 => ⟨S4x8192x64, .f32⟩
  | 6 => ⟨S128x64x4x128, .f32⟩
  | 7 => ⟨S8192x512, .f32⟩
  | 8 => ⟨S8192x512, .bf16⟩
  | 9 => ⟨S1x128, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_c : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v25_3 : Ref sig .tc := ⟨.hbm, 48, rfl⟩
abbrev main_v25_4 : Ref sig .tc := ⟨.hbm, 49, rfl⟩
abbrev main_v25_5 : Ref sig .tc := ⟨.hbm, 50, rfl⟩
abbrev main_v25_6 : Ref sig .tc := ⟨.hbm, 51, rfl⟩
abbrev main_v25_7 : Ref sig .tc := ⟨.hbm, 52, rfl⟩
abbrev main_v25_8 : Ref sig .tc := ⟨.hbm, 53, rfl⟩
abbrev main_v25_9 : Ref sig .tc := ⟨.hbm, 54, rfl⟩
abbrev main_v25_10 : Ref sig .tc := ⟨.hbm, 55, rfl⟩
abbrev main_v25_11 : Ref sig .tc := ⟨.hbm, 56, rfl⟩
abbrev main_v25_12 : Ref sig .tc := ⟨.hbm, 57, rfl⟩
abbrev main_v25_13 : Ref sig .tc := ⟨.hbm, 58, rfl⟩
abbrev main_v25_14 : Ref sig .tc := ⟨.hbm, 59, rfl⟩
abbrev main_v25_15 : Ref sig .tc := ⟨.hbm, 60, rfl⟩
abbrev main_v25_16 : Ref sig .tc := ⟨.hbm, 61, rfl⟩
abbrev main_v25_17 : Ref sig .tc := ⟨.hbm, 62, rfl⟩
abbrev main_v25_18 : Ref sig .tc := ⟨.hbm, 63, rfl⟩
abbrev main_v25_19 : Ref sig .tc := ⟨.hbm, 64, rfl⟩
abbrev main_while0c_c_27 : Ref sig .tc := ⟨.hbm, 65, rfl⟩
abbrev main_while0c_v40 : Ref sig .tc := ⟨.hbm, 66, rfl⟩
abbrev main_while0b_c_27 : Ref sig .tc := ⟨.hbm, 67, rfl⟩
abbrev main_while0b_v40 : Ref sig .tc := ⟨.hbm, 68, rfl⟩
abbrev main_while0b_c_28 : Ref sig .tc := ⟨.hbm, 69, rfl⟩
abbrev main_while0b_v41 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_v0 : Ref sig .tc := ⟨.hbm, 74, rfl⟩
abbrev main_while0b_v42 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_call1_c_1 : Ref sig .tc := ⟨.hbm, 78, rfl⟩
abbrev main_while0b_call1_v0 : Ref sig .tc := ⟨.hbm, 79, rfl⟩
abbrev main_while0b_v43 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v44 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_v0 : Ref sig .tc := ⟨.hbm, 89, rfl⟩
abbrev main_while0b_v45 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_v0 : Ref sig .tc := ⟨.hbm, 94, rfl⟩
abbrev main_while0b_v46 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_c_1 : Ref sig .tc := ⟨.hbm, 98, rfl⟩
abbrev main_while0b_call5_v0 : Ref sig .tc := ⟨.hbm, 99, rfl⟩
abbrev main_while0b_v47 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_v0 : Ref sig .tc := ⟨.hbm, 103, rfl⟩
abbrev main_while0b_v48 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_v0 : Ref sig .tc := ⟨.hbm, 108, rfl⟩
abbrev main_while0b_v49 : Ref sig .tc := ⟨.hbm, 109, rfl⟩
abbrev main_while0b_call8_c : Ref sig .tc := ⟨.hbm, 110, rfl⟩
abbrev main_while0b_call8_c_0 : Ref sig .tc := ⟨.hbm, 111, rfl⟩
abbrev main_while0b_call8_c_1 : Ref sig .tc := ⟨.hbm, 112, rfl⟩
abbrev main_while0b_call8_v0 : Ref sig .tc := ⟨.hbm, 113, rfl⟩
abbrev main_while0b_v50 : Ref sig .tc := ⟨.hbm, 114, rfl⟩
abbrev main_while0b_v51 : Ref sig .tc := ⟨.hbm, 115, rfl⟩
abbrev main_while0b_v52 : Ref sig .tc := ⟨.hbm, 116, rfl⟩
abbrev main_while0b_v53 : Ref sig .tc := ⟨.hbm, 117, rfl⟩
abbrev main_while0b_v54 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_v61 : Ref sig .tc := ⟨.hbm, 125, rfl⟩
abbrev main_while0b_cst_29 : Ref sig .tc := ⟨.hbm, 126, rfl⟩
abbrev main_while0b_v62 : Ref sig .tc := ⟨.hbm, 127, rfl⟩
abbrev main_while0b_v63 : Ref sig .tc := ⟨.hbm, 128, rfl⟩
abbrev main_while0b_cst_30 : Ref sig .tc := ⟨.hbm, 129, rfl⟩
abbrev main_while0b_v64 : Ref sig .tc := ⟨.hbm, 130, rfl⟩
abbrev main_while0b_v65 : Ref sig .tc := ⟨.hbm, 131, rfl⟩
abbrev main_while0b_cst_31 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_cst_32 : Ref sig .tc := ⟨.hbm, 137, rfl⟩
abbrev main_while0b_v70 : Ref sig .tc := ⟨.hbm, 138, rfl⟩
abbrev main_while0b_v71 : Ref sig .tc := ⟨.hbm, 139, rfl⟩
abbrev main_while0b_v72 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_v76 : Ref sig .tc := ⟨.hbm, 144, rfl⟩
abbrev main_while0b_call9_v0 : Ref sig .tc := ⟨.hbm, 145, rfl⟩
abbrev main_while0b_call9_v1 : Ref sig .tc := ⟨.hbm, 146, rfl⟩
abbrev main_while0b_call9_cst : Ref sig .tc := ⟨.hbm, 147, rfl⟩
abbrev main_while0b_call9_v2 : Ref sig .tc := ⟨.hbm, 148, rfl⟩
abbrev main_while0b_call9_v3 : Ref sig .tc := ⟨.hbm, 149, rfl⟩
abbrev main_while0b_call9_cst_0 : Ref sig .tc := ⟨.hbm, 150, rfl⟩
abbrev main_while0b_call9_v4 : Ref sig .tc := ⟨.hbm, 151, rfl⟩
abbrev main_while0b_v77_2 : Ref sig .tc := ⟨.hbm, 152, rfl⟩
abbrev main_while0b_call9_cst_1 : Ref sig .tc := ⟨.hbm, 153, rfl⟩
abbrev main_while0b_call9_v6 : Ref sig .tc := ⟨.hbm, 154, rfl⟩
abbrev main_while0b_call9_v7 : Ref sig .tc := ⟨.hbm, 155, rfl⟩
abbrev main_while0b_v77_1 : Ref sig .tc := ⟨.hbm, 156, rfl⟩
abbrev main_while0b_v77_0 : Ref sig .tc := ⟨.hbm, 157, rfl⟩
abbrev main_while0b_v78 : Ref sig .tc := ⟨.hbm, 158, rfl⟩
abbrev main_while0b_v79 : Ref sig .tc := ⟨.hbm, 159, rfl⟩
abbrev main_while0b_v80 : Ref sig .tc := ⟨.hbm, 160, rfl⟩
abbrev main_while0b_call10_v0 : Ref sig .tc := ⟨.hbm, 161, rfl⟩
abbrev main_while0b_call10_v1 : Ref sig .tc := ⟨.hbm, 162, rfl⟩
abbrev main_while0b_call10_v2 : Ref sig .tc := ⟨.hbm, 163, rfl⟩
abbrev main_while0b_v81 : Ref sig .tc := ⟨.hbm, 164, rfl⟩
abbrev main_while0b_v82 : Ref sig .tc := ⟨.hbm, 165, rfl⟩
abbrev main_while0b_cst_33 : Ref sig .tc := ⟨.hbm, 166, rfl⟩
abbrev main_while0b_v83 : Ref sig .tc := ⟨.hbm, 167, rfl⟩
abbrev main_while0b_v84 : Ref sig .tc := ⟨.hbm, 168, rfl⟩
abbrev main_while0b_v85 : Ref sig .tc := ⟨.hbm, 169, rfl⟩
abbrev main_while0b_v86 : Ref sig .tc := ⟨.hbm, 170, rfl⟩
abbrev main_while0b_cst_34 : Ref sig .tc := ⟨.hbm, 171, rfl⟩
abbrev main_while0b_v87 : Ref sig .tc := ⟨.hbm, 172, rfl⟩
abbrev main_while0b_v88 : Ref sig .tc := ⟨.hbm, 173, rfl⟩
abbrev main_while0b_cst_35 : Ref sig .tc := ⟨.hbm, 174, rfl⟩
abbrev main_while0b_v89 : Ref sig .tc := ⟨.hbm, 175, rfl⟩
abbrev main_while0b_v90 : Ref sig .tc := ⟨.hbm, 176, rfl⟩
abbrev main_while0b_v91 : Ref sig .tc := ⟨.hbm, 177, rfl⟩
abbrev main_while0b_v92 : Ref sig .tc := ⟨.hbm, 178, rfl⟩
abbrev main_while0b_v93 : Ref sig .tc := ⟨.hbm, 179, rfl⟩
abbrev main_while0b_cst_36 : Ref sig .tc := ⟨.hbm, 180, rfl⟩
abbrev main_while0b_v94 : Ref sig .tc := ⟨.hbm, 181, rfl⟩
abbrev main_while0b_v95 : Ref sig .tc := ⟨.hbm, 182, rfl⟩
abbrev main_while0b_cst_37 : Ref sig .tc := ⟨.hbm, 183, rfl⟩
abbrev main_while0b_v96 : Ref sig .tc := ⟨.hbm, 184, rfl⟩
abbrev main_while0b_v97 : Ref sig .tc := ⟨.hbm, 185, rfl⟩
abbrev main_while0b_v98 : Ref sig .tc := ⟨.hbm, 186, rfl⟩
abbrev main_while0b_v99 : Ref sig .tc := ⟨.hbm, 187, rfl⟩
abbrev main_while0b_v100 : Ref sig .tc := ⟨.hbm, 188, rfl⟩
abbrev main_while0b_v101 : Ref sig .tc := ⟨.hbm, 189, rfl⟩
abbrev main_while0b_v102 : Ref sig .tc := ⟨.hbm, 190, rfl⟩
abbrev main_while0b_v103 : Ref sig .tc := ⟨.hbm, 191, rfl⟩
abbrev main_while0b_v104 : Ref sig .tc := ⟨.hbm, 192, rfl⟩
abbrev main_while0b_v105 : Ref sig .tc := ⟨.hbm, 193, rfl⟩
abbrev main_while0b_v106 : Ref sig .tc := ⟨.hbm, 194, rfl⟩
abbrev main_while0b_cst_38 : Ref sig .tc := ⟨.hbm, 195, rfl⟩
abbrev main_while0b_v107 : Ref sig .tc := ⟨.hbm, 196, rfl⟩
abbrev main_while0b_v108 : Ref sig .tc := ⟨.hbm, 197, rfl⟩
abbrev main_while0b_v109 : Ref sig .tc := ⟨.hbm, 198, rfl⟩
abbrev main_while0b_v110 : Ref sig .tc := ⟨.hbm, 199, rfl⟩
abbrev main_while0b_cst_39 : Ref sig .tc := ⟨.hbm, 200, rfl⟩
abbrev main_while0b_v111 : Ref sig .tc := ⟨.hbm, 201, rfl⟩
abbrev main_while0b_v112 : Ref sig .tc := ⟨.hbm, 202, rfl⟩
abbrev main_while0b_v113 : Ref sig .tc := ⟨.hbm, 203, rfl⟩
abbrev main_while0b_v114 : Ref sig .tc := ⟨.hbm, 204, rfl⟩
abbrev main_while0b_v115 : Ref sig .tc := ⟨.hbm, 205, rfl⟩
abbrev main_while0b_v116 : Ref sig .tc := ⟨.hbm, 206, rfl⟩
abbrev main_while0b_v117 : Ref sig .tc := ⟨.hbm, 207, rfl⟩
abbrev main_while0b_v118 : Ref sig .tc := ⟨.hbm, 208, rfl⟩
abbrev main_while0b_v119 : Ref sig .tc := ⟨.hbm, 209, rfl⟩
abbrev main_while0b_v120 : Ref sig .tc := ⟨.hbm, 210, rfl⟩
abbrev main_while0b_v121 : Ref sig .tc := ⟨.hbm, 211, rfl⟩
abbrev main_while0b_v122 : Ref sig .tc := ⟨.hbm, 212, rfl⟩
abbrev main_while0b_v123 : Ref sig .tc := ⟨.hbm, 213, rfl⟩
abbrev main_while0b_v124 : Ref sig .tc := ⟨.hbm, 214, rfl⟩
abbrev main_while0b_v125 : Ref sig .tc := ⟨.hbm, 215, rfl⟩
abbrev main_while0b_call11_v0 : Ref sig .tc := ⟨.hbm, 216, rfl⟩
abbrev main_while0b_call11_c : Ref sig .tc := ⟨.hbm, 217, rfl⟩
abbrev main_while0b_call11_c_0 : Ref sig .tc := ⟨.hbm, 218, rfl⟩
abbrev main_while0b_call11_c_1 : Ref sig .tc := ⟨.hbm, 219, rfl⟩
abbrev main_while0b_v126 : Ref sig .tc := ⟨.hbm, 220, rfl⟩
abbrev main_while0b_call12_v0 : Ref sig .tc := ⟨.hbm, 221, rfl⟩
abbrev main_while0b_call12_c : Ref sig .tc := ⟨.hbm, 222, rfl⟩
abbrev main_while0b_call12_c_0 : Ref sig .tc := ⟨.hbm, 223, rfl⟩
abbrev main_while0b_call12_c_1 : Ref sig .tc := ⟨.hbm, 224, rfl⟩
abbrev main_while0b_v127 : Ref sig .tc := ⟨.hbm, 225, rfl⟩
abbrev main_while0b_call13_v0 : Ref sig .tc := ⟨.hbm, 226, rfl⟩
abbrev main_while0b_call13_c : Ref sig .tc := ⟨.hbm, 227, rfl⟩
abbrev main_while0b_call13_c_0 : Ref sig .tc := ⟨.hbm, 228, rfl⟩
abbrev main_while0b_call13_c_1 : Ref sig .tc := ⟨.hbm, 229, rfl⟩
abbrev main_while0b_v128 : Ref sig .tc := ⟨.hbm, 230, rfl⟩
abbrev main_while0b_call14_v0 : Ref sig .tc := ⟨.hbm, 231, rfl⟩
abbrev main_while0b_call14_c : Ref sig .tc := ⟨.hbm, 232, rfl⟩
abbrev main_while0b_call14_c_0 : Ref sig .tc := ⟨.hbm, 233, rfl⟩
abbrev main_while0b_call14_c_1 : Ref sig .tc := ⟨.hbm, 234, rfl⟩
abbrev main_while0b_v129 : Ref sig .tc := ⟨.hbm, 235, rfl⟩
abbrev main_while0b_call15_v0 : Ref sig .tc := ⟨.hbm, 236, rfl⟩
abbrev main_while0b_call15_c : Ref sig .tc := ⟨.hbm, 237, rfl⟩
abbrev main_while0b_call15_c_0 : Ref sig .tc := ⟨.hbm, 238, rfl⟩
abbrev main_while0b_call15_c_1 : Ref sig .tc := ⟨.hbm, 239, rfl⟩
abbrev main_while0b_v130 : Ref sig .tc := ⟨.hbm, 240, rfl⟩
abbrev main_while0b_call16_v0 : Ref sig .tc := ⟨.hbm, 241, rfl⟩
abbrev main_while0b_call16_c : Ref sig .tc := ⟨.hbm, 242, rfl⟩
abbrev main_while0b_call16_c_0 : Ref sig .tc := ⟨.hbm, 243, rfl⟩
abbrev main_while0b_v131 : Ref sig .tc := ⟨.hbm, 244, rfl⟩
abbrev main_while0b_call17_v0 : Ref sig .tc := ⟨.hbm, 245, rfl⟩
abbrev main_while0b_call17_c : Ref sig .tc := ⟨.hbm, 246, rfl⟩
abbrev main_while0b_call17_c_0 : Ref sig .tc := ⟨.hbm, 247, rfl⟩
abbrev main_while0b_call17_c_1 : Ref sig .tc := ⟨.hbm, 248, rfl⟩
abbrev main_while0b_v132 : Ref sig .tc := ⟨.hbm, 249, rfl⟩
abbrev main_while0b_c_40 : Ref sig .tc := ⟨.hbm, 250, rfl⟩
abbrev main_while0b_v133 : Ref sig .tc := ⟨.hbm, 251, rfl⟩
abbrev main_v26 : Ref sig .tc := ⟨.hbm, 252, rfl⟩
abbrev main_v27 : Ref sig .tc := ⟨.hbm, 253, rfl⟩
abbrev main_v28 : Ref sig .tc := ⟨.hbm, 254, rfl⟩
abbrev main_v29 : Ref sig .tc := ⟨.hbm, 255, rfl⟩
abbrev main_v30 : Ref sig .tc := ⟨.hbm, 256, rfl⟩
abbrev main_v31 : Ref sig .tc := ⟨.hbm, 257, rfl⟩
abbrev main_v32 : Ref sig .tc := ⟨.hbm, 258, rfl⟩
abbrev main_v33 : Ref sig .tc := ⟨.hbm, 259, rfl⟩
abbrev main_v34 : Ref sig .tc := ⟨.hbm, 260, rfl⟩
abbrev main_v35 : Ref sig .tc := ⟨.hbm, 261, rfl⟩
abbrev main_v36 : Ref sig .tc := ⟨.hbm, 262, rfl⟩
abbrev main_v37 : Ref sig .tc := ⟨.hbm, 263, rfl⟩
abbrev main_v38 : Ref sig .tc := ⟨.hbm, 264, rfl⟩
abbrev main_v39 : Ref sig .tc := ⟨.hbm, 265, rfl⟩

abbrev nD : Nat := 1
abbrev τ : Topo := Topo.v7x

variable {F : FTy → Type} [FloatOps F]

abbrev main_while0_count : Scf.Loop 32 := ⟨0#32, 128#32, 1#32⟩
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x1024, .f32⟩
  | .hbm, ⟨5, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dact.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S1024x5632, .bf16⟩
  | .hbm, ⟨3, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh2.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S1024x5632, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Dh2RefIdeal.lean ====
abbrev S8192x2816 : Shape := ⟨2, ![8192, 2816]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S8192x5632, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwUp.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x2816 : Shape := ⟨2, ![8192, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x2x1408 : Shape := ⟨3, ![1024, 2, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2x1024x1408, .f32⟩
  | .hbm, ⟨11, _⟩ => ⟨S1024x2x1408, .f32⟩
  | .hbm, ⟨12, _⟩ => ⟨S2x1024x1408, .f32⟩
  | .hbm, ⟨13, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwUpGate.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpGateRefIdeal.lean ====
abbrev S8192x1024 : Shape := ⟨2, ![8192, 1024]⟩
abbrev S8192x2816 : Shape := ⟨2, ![8192, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S1024x2x1408, .f32⟩
  | .hbm, ⟨11, _⟩ => ⟨S2x1024x1408, .f32⟩
  | .hbm, ⟨12, _⟩ => ⟨S2x1024x1408, .f32⟩
  | .hbm, ⟨13, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proj.lean ====
abbrev S8192x1024 : Shape := ⟨2, ![8192, 1024]⟩
abbrev S1024x3840 : Shape := ⟨2, ![1024, 3840]⟩
abbrev S8192x3840 : Shape := ⟨2, ![8192, 3840]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3840, .f32⟩
  | .hbm, ⟨2, _⟩ => ⟨S1024x3840, .bf16⟩
  | .hbm, ⟨3, _⟩ => ⟨S8192x3840, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | .local _ .vmem, ⟨6, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x3840 : Shape := ⟨2, ![1024, 3840]⟩
abbrev S8192x3840 : Shape := ⟨2, ![8192, 3840]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3840, .f32⟩
  | .hbm, ⟨2, _⟩ => ⟨S8192x1024, .f32⟩
  | .hbm, ⟨3, _⟩ => ⟨S8192x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh.lean ====
abbrev S8192x1536 : Shape := ⟨2, ![8192, 1536]⟩
abbrev S8192x256 : Shape := ⟨2, ![8192, 256]⟩
abbrev S8192x512 : Shape := ⟨2, ![8192, 512]⟩
abbrev S1024x3840 : Shape := ⟨2, ![1024, 3840]⟩
abbrev S8192x1024 : Shape := ⟨2, ![8192, 1024]⟩
abbrev S512x1536 : Shape := ⟨2, ![512, 1536]⟩
abbrev S512x256 : Shape := ⟨2, ![512, 256]⟩
abbrev S512x512 : Shape := ⟨2, ![512, 512]⟩
abbrev S1024x1536 : Shape := ⟨2, ![1024, 1536]⟩
abbrev S1024x256 : Shape := ⟨2, ![1024, 256]⟩
abbrev S1024x512 : Shape := ⟨2, ![1024, 512]⟩
abbrev S512x1024 : Shape := ⟨2, ![512, 1024]⟩

abbrev nBuf : Space → Nat
  | .hbm => 12
  | .vmem => 29
  | .smem => 0
  | _ => 0

abbrev bufTy : (tb : Table) → Fin (tcTables nBuf tb) → BufTy
  | .hbm, ⟨0, _⟩ => ⟨S8192x1536, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x512, .bf16⟩
  | .hbm, ⟨8, _⟩ => ⟨S8192x256, .bf16⟩
  | .hbm, ⟨9, _⟩ => ⟨S1024x3840, .f32⟩
  | .hbm, ⟨10, _⟩ => ⟨S1024x3840, .bf16⟩
  | .hbm, ⟨11, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S1024x1536, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x512, .bf16⟩
  | .local _ .vmem, ⟨26, _⟩ => ⟨S1024x256, .bf16⟩
  | .local _ .vmem, ⟨27, _⟩ => ⟨S512x1024, .f32⟩
  | .local _ .vmem, ⟨28, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_11 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_12 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_13 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_14 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_15 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_16 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_17 (i : grid0.Coords) : Fin 2 → Nat :=
  let arg0 : BitVec 32 := BitVec.ofNat 32 (i 0).val
  let c0_i32 : BitVec 32 := 0#32
  let c14_i32 : BitVec 32 := 14#32
  let c0_i32_0 : BitVec 32 := 0#32
  ![c0_i32.toNat, c14_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== DhRefIdeal.lean ====
abbrev S8192x1536 : Shape := ⟨2, ![8192, 1536]⟩
abbrev S8192x256 : Shape := ⟨2, ![8192, 256]⟩
abbrev S8192x512 : Shape := ⟨2, ![8192, 512]⟩
abbrev S1024x3840 : Shape := ⟨2, ![1024, 3840]⟩
abbrev S8192x3840 : Shape := ⟨2, ![8192, 3840]⟩
abbrev S_ : Shape := ⟨0, ![]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x512, .bf16⟩
  | .hbm, ⟨8, _⟩ => ⟨S8192x256, .bf16⟩
  | .hbm, ⟨9, _⟩ => ⟨S1024x3840, .f32⟩
  | .hbm, ⟨10, _⟩ => ⟨S8192x3840, .bf16⟩
  | .hbm, ⟨11, _⟩ => ⟨S8192x3840, .f32⟩
  | .hbm, ⟨12, _⟩ => ⟨S_, .f32⟩
  | .hbm, ⟨13, _⟩ => ⟨S8192x1024, .f32⟩
  | .hbm, ⟨14, _⟩ => ⟨S8192x3840, .f32⟩
  | .hbm, ⟨15, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== DwInA.lean ====
abbrev S8192x1024 : Shape := ⟨2, ![8192, 1024]⟩
abbrev S8192x1536 : Shape := ⟨2, ![8192, 1536]⟩
abbrev S8192x256 : Shape := ⟨2, ![8192, 256]⟩
abbrev S1024x2304 : Shape := ⟨2, ![1024, 2304]⟩
abbrev S1024x1024 : Shape := ⟨2, ![1024, 1024]⟩
abbrev S1024x1536 : Shape := ⟨2, ![1024, 1536]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x2304, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v4 : BitVec 32 := Scalar.extui v0
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v6 : BitVec 1 := Scalar.xori v0 v_true
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v12 : BitVec 32 := Scalar.extui v0
  let c0_i32_10 : BitVec 32 := 0#32
  let v13 : BitVec 1 := Scalar.cmpi .ne v12 c0_i32_10
  v13

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_11 : BitVec 1 := 1#1
  let v14 : BitVec 1 := Scalar.xori v0 true_11
  let v15 : BitVec 32 := Scalar.extui v14
  let c0_i32_12 : BitVec 32 := 0#32
  let v16 : BitVec 1 := Scalar.cmpi .ne v15 c0_i32_12
  v16

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v20 : BitVec 32 := Scalar.extui v0
  let c0_i32_18 : BitVec 32 := 0#32
  let v21 : BitVec 1 := Scalar.cmpi .ne v20 c0_i32_18
  v21

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_19 : BitVec 1 := 1#1
  let v22 : BitVec 1 := Scalar.xori v0 true_19
  let v23 : BitVec 32 := Scalar.extui v22
  let c0_i32_20 : BitVec 32 := 0#32
  let v24 : BitVec 1 := Scalar.cmpi .ne v23 c0_i32_20
  v24

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_26 : BitVec 32 := 0#32
  let v29 : BitVec 1 := Scalar.cmpi .ne v28 c0_i32_26
  v29

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v30 : BitVec 1 := Scalar.xori v0 true_27
  let v31 : BitVec 32 := Scalar.extui v30
  let c0_i32_28 : BitVec 32 := 0#32
  let v32 : BitVec 1 := Scalar.cmpi .ne v31 c0_i32_28
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DwInARefIdeal.lean ====
abbrev S8192x1024 : Shape := ⟨2, ![8192, 1024]⟩
abbrev S8192x1536 : Shape := ⟨2, ![8192, 1536]⟩
abbrev S8192x256 : Shape := ⟨2, ![8192, 256]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x2304, .bf16⟩
  | .hbm, ⟨6, _⟩ => ⟨S8192x2304, .f32⟩
  | .hbm, ⟨7, _⟩ => ⟨S_, .f32⟩
  | .hbm, ⟨8, _⟩ => ⟨S1024x2304, .f32⟩
  | .hbm, ⟨9, _⟩ => ⟨S8192x1024, .f32⟩
  | .hbm, ⟨10, _⟩ => ⟨S8192x2304, .f32⟩
  | .hbm, ⟨11, _⟩ => ⟨S2304x1024, .f32⟩
  | .hbm, ⟨12, _⟩ => ⟨S1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== DwInB.lean ====
abbrev S8192x1024 : Shape := ⟨2, ![8192, 1024]⟩
abbrev S8192x256 : Shape := ⟨2, ![8192, 256]⟩
abbrev S8192x512 : Shape := ⟨2, ![8192, 512]⟩
abbrev S1024x1536 : Shape := ⟨2, ![1024, 1536]⟩
abbrev S1024x1024 : Shape := ⟨2, ![1024, 1024]⟩
abbrev S1024x256 : Shape := ⟨2, ![1024, 256]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x512, .bf16⟩
  | .hbm, ⟨5, _⟩ => ⟨S8192x256, .bf16⟩
  | .hbm, ⟨6, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S1024x256, .bf16⟩
  | .local _ .vmem, ⟨12, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v4 : BitVec 32 := Scalar.extui v0
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v6 : BitVec 1 := Scalar.xori v0 v_true
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v12 : BitVec 32 := Scalar.extui v0
  let c0_i32_10 : BitVec 32 := 0#32
  let v13 : BitVec 1 := Scalar.cmpi .ne v12 c0_i32_10
  v13

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_11 : BitVec 1 := 1#1
  let v14 : BitVec 1 := Scalar.xori v0 true_11
  let v15 : BitVec 32 := Scalar.extui v14
  let c0_i32_12 : BitVec 32 := 0#32
  let v16 : BitVec 1 := Scalar.cmpi .ne v15 c0_i32_12
  v16

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v20 : BitVec 32 := Scalar.extui v0
  let c0_i32_18 : BitVec 32 := 0#32
  let v21 : BitVec 1 := Scalar.cmpi .ne v20 c0_i32_18
  v21

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_19 : BitVec 1 := 1#1
  let v22 : BitVec 1 := Scalar.xori v0 true_19
  let v23 : BitVec 32 := Scalar.extui v22
  let c0_i32_20 : BitVec 32 := 0#32
  let v24 : BitVec 1 := Scalar.cmpi .ne v23 c0_i32_20
  v24

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_26 : BitVec 32 := 0#32
  let v29 : BitVec 1 := Scalar.cmpi .ne v28 c0_i32_26
  v29

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v30 : BitVec 1 := Scalar.xori v0 true_27
  let v31 : BitVec 32 := Scalar.extui v30
  let c0_i32_28 : BitVec 32 := 0#32
  let v32 : BitVec 1 := Scalar.cmpi .ne v31 c0_i32_28
  v32

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_34 : BitVec 32 := 0#32
  let v37 : BitVec 1 := Scalar.cmpi .ne v36 c0_i32_34
  v37

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v38 : BitVec 1 := Scalar.xori v0 true_35
  let v39 : BitVec 32 := Scalar.extui v38
  let c0_i32_36 : BitVec 32 := 0#32
  let v40 : BitVec 1 := Scalar.cmpi .ne v39 c0_i32_36
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DwInBRefIdeal.lean ====
abbrev S8192x1024 : Shape := ⟨2, ![8192, 1024]⟩
abbrev S8192x256 : Shape := ⟨2, ![8192, 256]⟩
abbrev S8192x512 : Shape := ⟨2, ![8192, 512]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x512, .bf16⟩
  | .hbm, ⟨5, _⟩ => ⟨S8192x256, .bf16⟩
  | .hbm, ⟨6, _⟩ => ⟨S8192x1536, .bf16⟩
  | .hbm, ⟨7, _⟩ => ⟨S8192x1536, .f32⟩
  | .hbm, ⟨8, _⟩ => ⟨S_, .f32⟩
  | .hbm, ⟨9, _⟩ => ⟨S1024x1536, .f32⟩
  | .hbm, ⟨10, _⟩ => ⟨S8192x1024, .f32⟩
  | .hbm, ⟨11, _⟩ => ⟨S8192x1536, .f32⟩
  | .hbm, ⟨12, _⟩ => ⟨S1536x1024, .f32⟩
  | .hbm, ⟨13, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== MixOut.lean ====
abbrev S8192x512 : Shape := ⟨2, ![8192, 512]⟩
abbrev S8192x256 : Shape := ⟨2, ![8192, 256]⟩
abbrev S1024x1024 : Shape := ⟨2, ![1024, 1024]⟩
abbrev S8192x1024 : Shape := ⟨2, ![8192, 1024]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S1024x1024, .f32⟩
  | .hbm, ⟨4, _⟩ => ⟨S8192x1024, .f32⟩
  | .hbm, ⟨5, _⟩ => ⟨S1024x1024, .bf16⟩
  | .hbm, ⟨6, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutRefIdeal.lean ====
abbrev S8192x512 : Shape := ⟨2, ![8192, 512]⟩
abbrev S8192x256 : Shape := ⟨2, ![8192, 256]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Dycat.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DycatRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwOut.lean ====
abbrev S8192x256 : Shape := ⟨2, ![8192, 256]⟩
abbrev S8192x512 : Shape := ⟨2, ![8192, 512]⟩
abbrev S8192x1024 : Shape := ⟨2, ![8192, 1024]⟩
abbrev S1024x1024 : Shape := ⟨2, ![1024, 1024]⟩
abbrev S1024x256 : Shape := ⟨2, ![1024, 256]⟩
abbrev S1024x512 : Shape := ⟨2, ![1024, 512]⟩
abbrev S256x1024 : Shape := ⟨2, ![256, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S8192x1024, .f32⟩
  | .hbm, ⟨4, _⟩ => ⟨S1024x1024, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v14 : BitVec 32 := Scalar.extui v0
  let c0_i32_10 : BitVec 32 := 0#32
  let v15 : BitVec 1 := Scalar.cmpi .ne v14 c0_i32_10
  v15

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_11 : BitVec 1 := 1#1
  let v16 : BitVec 1 := Scalar.xori v0 true_11
  let v17 : BitVec 32 := Scalar.extui v16
  let c0_i32_12 : BitVec 32 := 0#32
  let v18 : BitVec 1 := Scalar.cmpi .ne v17 c0_i32_12
  v18

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v23 : BitVec 32 := Scalar.extui v0
  let c0_i32_18 : BitVec 32 := 0#32
  let v24 : BitVec 1 := Scalar.cmpi .ne v23 c0_i32_18
  v24

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_19 : BitVec 1 := 1#1
  let v25 : BitVec 1 := Scalar.xori v0 true_19
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwOutRefIdeal.lean ====
abbrev S8192x256 : Shape := ⟨2, ![8192, 256]⟩
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S1024x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== AdamIn.lean ====
abbrev S2x1024x898 : Shape := ⟨3, ![2, 1024, 898]⟩
abbrev S1024x898 : Shape := ⟨2, ![1024, 898]⟩
abbrev S_ : Shape := ⟨0, ![]⟩
abbrev S1 : Shape := ⟨1, ![1]⟩
abbrev S1x256x898 : Shape := ⟨3, ![1, 256, 898]⟩
abbrev S256x898 : Shape := ⟨2, ![256, 898]⟩

abbrev nBuf : Space → Nat
  | .hbm => 10
  | .vmem => 18
  | .smem => 1
  | _ => 0

abbrev bufTy : (tb : Table) → Fin (tcTables nBuf tb) → BufTy
  | .hbm, ⟨0, _⟩ => ⟨S2x1024x898, .f32⟩
  | .hbm, ⟨1, _⟩ => ⟨S1024x898, .f32⟩
  | .hbm, ⟨2, _⟩ => ⟨S1024x898, .f32⟩
  | .hbm, ⟨3, _⟩ => ⟨S2x1024x898, .f32⟩
  | .hbm, ⟨4, _⟩ => ⟨S2x1024x898, .f32⟩
  | .hbm, ⟨5, _⟩ => ⟨S_, .i32⟩
  | .hbm, ⟨6, _⟩ => ⟨S2x1024x898, .f32⟩
  | .hbm, ⟨7, _⟩ => ⟨S2x1024x898, .f32⟩
  | .hbm, ⟨8, _⟩ => ⟨S2x1024x898, .f32⟩
  | .hbm, ⟨9, _⟩ => ⟨S2x1024x898, .f32⟩
  | .local _ .vmem, ⟨0, _⟩ => ⟨S1x256x898, .f32⟩
  | .local _ .vmem, ⟨1, _⟩ => ⟨S1x256x898, .f32⟩
  | .local _ .vmem, ⟨2, _⟩ => ⟨S256x898, .f32⟩
  | .local _ .vmem, ⟨3, _⟩ => ⟨S256x898, .f32⟩
  | .local _ .vmem, ⟨4, _⟩ => ⟨S256x898, .f32⟩
  | .local _ .vmem, ⟨5, _⟩ => ⟨S256x898, .f32⟩
  | .local _ .vmem, ⟨6, _⟩ => ⟨S1x256x898, .f32⟩
  | .local _ .vmem, ⟨7, _⟩ => ⟨S1x256x898, .f32⟩
  | .local _ .vmem, ⟨8, _⟩ => ⟨S1x256x898, .f32⟩
  | .local _ .vmem, ⟨9, _⟩ => ⟨S1x256x898, .f32⟩
  | .local _ .vmem, ⟨10, _⟩ => ⟨S1x256x898, .f32⟩
  | .local _ .vmem, ⟨11, _⟩ => ⟨S1x256x898, .f32⟩
  | .local _ .vmem, ⟨12, _⟩ => ⟨S1x256x898, .f32⟩
  | .local _ .vmem, ⟨13, _⟩ => ⟨S1x256x898, .f32⟩
  | .local _ .vmem, ⟨14, _⟩ => ⟨S1x256x898, .f32⟩
  | .local _ .vmem, ⟨15, _⟩ => ⟨S1x256x898, .f32⟩
  | .local _ .vmem, ⟨16, _⟩ => ⟨S1x256x898, .f32⟩
  | .local _ .vmem, ⟨17, _⟩ => ⟨S1x256x898, .f32⟩
  | .local _ .smem, ⟨0, _⟩ => ⟨S1, .i32⟩
  | _, _ => ⟨S2x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
abbrev S2x1024x898 : Shape := ⟨3, ![2, 1024, 898]⟩
abbrev S1024x898 : Shape := ⟨2, ![1024, 898]⟩
abbrev S_ : Shape := ⟨0, ![]⟩
abbrev S1 : Shape := ⟨1, ![1]⟩
abbrev S1x256x898 : Shape := ⟨3, ![1, 256, 898]⟩
abbrev S256x898 : Shape := ⟨2, ![256, 898]⟩

abbrev nBuf : Space → Nat
  | .hbm => 10
  | .vmem => 18
  | .smem => 1
  | _ => 0

abbrev bufTy : (tb : Table) → Fin (tcTables nBuf tb) → BufTy
  | .hbm, ⟨0, _⟩ => ⟨S2x1024x898, .f32⟩
  | .hbm, ⟨1, _⟩ => ⟨S1024x898, .f32⟩
  | .hbm, ⟨2, _⟩ => ⟨S1024x898, .f32⟩
  | .hbm, ⟨3, _⟩ => ⟨S2x1024x898, .f32⟩
  | .hbm, ⟨4, _⟩ => ⟨S2x1024x898, .f32⟩
  | .hbm, ⟨5, _⟩ => ⟨S_, .i32⟩
  | .hbm, ⟨6, _⟩ => ⟨S2x1024x898, .f32⟩
  | .hbm, ⟨7, _⟩ => ⟨S2x1024x898, .f32⟩
  | .hbm, ⟨8, _⟩ => ⟨S2x1024x898, .f32⟩
  | .hbm, ⟨9, _⟩ => ⟨S2x1024x898, .f32⟩
  | .local _ .vmem, ⟨0, _⟩ => ⟨S1x256x898, .f32⟩
  | .local _ .vmem, ⟨1, _⟩ => ⟨S1x256x898, .f32⟩
  | .local _ .vmem, ⟨2, _⟩ => ⟨S256x898, .f32⟩
  | .local _ .vmem, ⟨3, _⟩ => ⟨S256x898, .f32⟩
  | .local _ .vmem, ⟨4, _⟩ => ⟨S256x898, .f32⟩
  | .local _ .vmem, ⟨5, _⟩ => ⟨S256x898, .f32⟩
  | .local _ .vmem, ⟨6, _⟩ => ⟨S1x256x898, .f32⟩
  | .local _ .vmem, ⟨7, _⟩ => ⟨S1x256x898, .f32⟩
  | .local _ .vmem, ⟨8, _⟩ => ⟨S1x256x898, .f32⟩
  | .local _ .vmem, ⟨9, _⟩ => ⟨S1x256x898, .f32⟩
  | .local _ .vmem, ⟨10, _⟩ => ⟨S1x256x898, .f32⟩
  | .local _ .vmem, ⟨11, _⟩ => ⟨S1x256x898, .f32⟩
  | .local _ .vmem, ⟨12, _⟩ => ⟨S1x256x898, .f32⟩
  | .local _ .vmem, ⟨13, _⟩ => ⟨S1x256x898, .f32⟩
  | .local _ .vmem, ⟨14, _⟩ => ⟨S1x256x898, .f32⟩
  | .local _ .vmem, ⟨15, _⟩ => ⟨S1x256x898, .f32⟩
  | .local _ .vmem, ⟨16, _⟩ => ⟨S1x256x898, .f32⟩
  | .local _ .vmem, ⟨17, _⟩ => ⟨S1x256x898, .f32⟩
  | .local _ .smem, ⟨0, _⟩ => ⟨S1, .i32⟩
  | _, _ => ⟨S2x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S2x1024x898 : Shape := ⟨3, ![2, 1024, 898]⟩
abbrev S1024x898 : Shape := ⟨2, ![1024, 898]⟩
abbrev S_ : Shape := ⟨0, ![]⟩
abbrev S2 : Shape := ⟨1, ![2]⟩
abbrev S2x1x1 : Shape := ⟨3, ![2, 1, 1]⟩
abbrev S1x1024x898 : Shape := ⟨3, ![1, 1024, 898]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x898, .f32⟩
  | .hbm, ⟨1, _⟩ => ⟨S1024x898, .f32⟩
  | .hbm, ⟨2, _⟩ => ⟨S1024x898, .f32⟩
  | .hbm, ⟨3, _⟩ => ⟨S2x1024x898, .f32⟩
  | .hbm, ⟨4, _⟩ => ⟨S2x1024x898, .f32⟩
  | .hbm, ⟨5, _⟩ => ⟨S_, .i32⟩
  | .hbm, ⟨6, _⟩ => ⟨S2, .i32⟩
  | .hbm, ⟨7, _⟩ => ⟨S2x1x1, .i32⟩
  | .hbm, ⟨8, _⟩ => ⟨S2x1x1, .i32⟩
  | .hbm, ⟨9, _⟩ => ⟨S2x1x1, .i1⟩
  | .hbm, ⟨10, _⟩ => ⟨S1x1024x898, .f32⟩
  | .hbm, ⟨11, _⟩ => ⟨S1x1024x898, .f32⟩
  | .hbm, ⟨12, _⟩ => ⟨S2x1024x898, .i1⟩
  | .hbm, ⟨13, _⟩ => ⟨S2x1024x898, .f32⟩
  | .hbm, ⟨14, _⟩ => ⟨S2x1024x898, .f32⟩
  | .hbm, ⟨15, _⟩ => ⟨S2x1024x898, .f32⟩
  | .hbm, ⟨16, _⟩ => ⟨S_, .f32⟩
  | .hbm, ⟨17, _⟩ => ⟨S2x1024x898, .f32⟩
  | .hbm, ⟨18, _⟩ => ⟨S2x1024x898, .f32⟩
  | .hbm, ⟨19, _⟩ => ⟨S_, .f32⟩
  | .hbm, ⟨20, _⟩ => ⟨S2x1024x898, .f32⟩
  | .hbm, ⟨21, _⟩ => ⟨S2x1024x898, .f32⟩
  | .hbm, ⟨22, _⟩ => ⟨S2x1024x898, .f32⟩
  | .hbm, ⟨23, _⟩ => ⟨S_, .f32⟩
  | .hbm, ⟨24, _⟩ => ⟨S2x1024x898, .f32⟩
  | .hbm, ⟨25, _⟩ => ⟨S2x1024x898, .f32⟩
  | .hbm, ⟨26, _⟩ => ⟨S2x1024x898, .f32⟩
  | .hbm, ⟨27, _⟩ => ⟨S_, .f32⟩
  | .hbm, ⟨28, _⟩ => ⟨S2x1024x898, .f32⟩
  | .hbm, ⟨29, _⟩ => ⟨S2x1024x898, .f32⟩
  | .hbm, ⟨30, _⟩ => ⟨S2x1024x898, .f32⟩
  | .hbm, ⟨31, _⟩ => ⟨S_, .f32⟩
  | .hbm, ⟨32, _⟩ => ⟨S2x1024x898, .f32⟩
  | .hbm, ⟨33, _⟩ => ⟨S2x1024x898, .f32⟩
  | .hbm, ⟨34, _⟩ => ⟨S_, .f32⟩
  | .hbm, ⟨35, _⟩ => ⟨S2x1024x898, .f32⟩
  | .hbm, ⟨36, _⟩ => ⟨S2x1024x898, .f32⟩
  | .hbm, ⟨37, _⟩ => ⟨S2x1024x898, .f32⟩
  | .hbm, ⟨38, _⟩ => ⟨S_, .f32⟩
  | .hbm, ⟨39, _⟩ => ⟨S2x1024x898, .f32⟩
  | .hbm, ⟨40, _⟩ => ⟨S2x1024x898, .f32⟩
  | .hbm, ⟨41, _⟩ => ⟨S2x1024x898, .f32⟩
  | .hbm, ⟨42, _⟩ => ⟨S_, .f32⟩
  | .hbm, ⟨43, _⟩ => ⟨S2x1024x898, .f32⟩
  | .hbm, ⟨44, _⟩ => ⟨S2x1024x898, .f32⟩
  | .hbm, ⟨45, _⟩ => ⟨S2x1024x898, .f32⟩
  | .hbm, ⟨46, _⟩ => ⟨S_, .f32⟩
  | .hbm, ⟨47, _⟩ => ⟨S2x1024x898, .f32⟩
  | .hbm, ⟨48, _⟩ => ⟨S2x1024x898, .f32⟩
  | _, _ => ⟨S2x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamOut.lean ====
abbrev S2x256x1024 : Shape := ⟨3, ![2, 256, 1024]⟩
abbrev S256x1024 : Shape := ⟨2, ![256, 1024]⟩
abbrev S_ : Shape := ⟨0, ![]⟩
abbrev S1 : Shape := ⟨1, ![1]⟩
abbrev S1x256x1024 : Shape := ⟨3, ![1, 256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S_, .i32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S2x256x1024 : Shape := ⟨3, ![2, 256, 1024]⟩
abbrev S256x1024 : Shape := ⟨2, ![256, 1024]⟩
abbrev S_ : Shape := ⟨0, ![]⟩
abbrev S1 : Shape := ⟨1, ![1]⟩
abbrev S1x256x1024 : Shape := ⟨3, ![1, 256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S_, .i32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S2x256x1024 : Shape := ⟨3, ![2, 256, 1024]⟩
abbrev S256x1024 : Shape := ⟨2, ![256, 1024]⟩
abbrev S_ : Shape := ⟨0, ![]⟩
abbrev S2 : Shape := ⟨1, ![2]⟩
abbrev S2x1x1 : Shape := ⟨3, ![2, 1, 1]⟩
abbrev S1x256x1024 : Shape := ⟨3, ![1, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S_, .i32⟩
  | .hbm, ⟨6, _⟩ => ⟨S2, .i32⟩
  | .hbm, ⟨7, _⟩ => ⟨S2x1x1, .i32⟩
  | .hbm, ⟨8, _⟩ => ⟨S2x1x1, .i32⟩
  | .hbm, ⟨9, _⟩ => ⟨S2x1x1, .i1⟩
  | .hbm, ⟨10, _⟩ => ⟨S1x256x1024, .f32⟩
  | .hbm, ⟨11, _⟩ => ⟨S1x256x1024, .f32⟩
  | .hbm, ⟨12, _⟩ => ⟨S2x256x1024, .i1⟩
  | .hbm, ⟨13, _⟩ => ⟨S2x256x1024, .f32⟩
  | .hbm, ⟨14, _⟩ => ⟨S2x256x1024, .f32⟩
  | .hbm, ⟨15, _⟩ => ⟨S2x256x1024, .f32⟩
  | .hbm, ⟨16, _⟩ => ⟨S_, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S2x256x1024, .f32⟩
  | .hbm, ⟨46, _⟩ => ⟨S_, .f32⟩
  | .hbm, ⟨47, _⟩ => ⟨S2x256x1024, .f32⟩
  | .hbm, ⟨48, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamUp.lean ====
abbrev S2x1024x1408 : Shape := ⟨3, ![2, 1024, 1408]⟩
abbrev S1024x1408 : Shape := ⟨2, ![1024, 1408]⟩
abbrev S_ : Shape := ⟨0, ![]⟩
abbrev S1 : Shape := ⟨1, ![1]⟩
abbrev S1x128x1408 : Shape := ⟨3, ![1, 128, 1408]⟩
abbrev S128x1408 : Shape := ⟨2, ![128, 1408]⟩

abbrev nBuf : Space → Nat
  | .hbm => 10
  | .vmem => 18
  | .smem => 1
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S_, .i32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S2x1024x1408 : Shape := ⟨3, ![2, 1024, 1408]⟩
abbrev S1024x1408 : Shape := ⟨2, ![1024, 1408]⟩
abbrev S_ : Shape := ⟨0, ![]⟩
abbrev S1 : Shape := ⟨1, ![1]⟩
abbrev S1x128x1408 : Shape := ⟨3, ![1, 128, 1408]⟩
abbrev S128x1408 : Shape := ⟨2, ![128, 1408]⟩

abbrev nBuf : Space → Nat
  | .hbm => 10
  | .vmem => 18
  | .smem => 1
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S_, .i32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S2x1024x1408 : Shape := ⟨3, ![2, 1024, 1408]⟩
abbrev S1024x1408 : Shape := ⟨2, ![1024, 1408]⟩
abbrev S_ : Shape := ⟨0, ![]⟩
abbrev S2 : Shape := ⟨1, ![2]⟩
abbrev S2x1x1 : Shape := ⟨3, ![2, 1, 1]⟩
abbrev S1x1024x1408 : Shape := ⟨3, ![1, 1024, 1408]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S_, .i32⟩
  | .hbm, ⟨6, _⟩ => ⟨S2, .i32⟩
  | .hbm, ⟨7, _⟩ => ⟨S2x1x1, .i32⟩
  | .hbm, ⟨8, _⟩ => ⟨S2x1x1, .i32⟩
  | .hbm, ⟨9, _⟩ => ⟨S2x1x1, .i1⟩
  | .hbm, ⟨10, _⟩ => ⟨S1x1024x1408, .f32⟩
  | .hbm, ⟨11, _⟩ => ⟨S1x1024x1408, .f32⟩
  | .hbm, ⟨12, _⟩ => ⟨S2x1024x1408, .i1⟩
  | .hbm, ⟨13, _⟩ => ⟨S2x1024x1408, .f32⟩
  | .hbm, ⟨14, _⟩ => ⟨S2x1024x1408, .f32⟩
  | .hbm, ⟨15, _⟩ => ⟨S2x1024x1408, .f32⟩
  | .hbm, ⟨16, _⟩ => ⟨S_, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S2x1024x1408, .f32⟩
  | .hbm, ⟨31, _⟩ => ⟨S_, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | .hbm, ⟨41, _⟩ => ⟨S2x1024x1408, .f32⟩
  | .hbm, ⟨42, _⟩ => ⟨S_, .f32⟩
  | .hbm, ⟨43, _⟩ => ⟨S2x1024x1408, .f32⟩
  | .hbm, ⟨44, _⟩ => ⟨S2x1024x1408, .f32⟩
  | .hbm, ⟨45, _⟩ => ⟨S2x1024x1408, .f32⟩
  | .hbm, ⟨46, _⟩ => ⟨S_, .f32⟩
  | .hbm, ⟨47, _⟩ => ⟨S2x1024x1408, .f32⟩
  | .hbm, ⟨48, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamDown.lean ====
abbrev S2x704x1024 : Shape := ⟨3, ![2, 704, 1024]⟩
abbrev S704x1024 : Shape := ⟨2, ![704, 1024]⟩
abbrev S_ : Shape := ⟨0, ![]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S_, .i32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x704x1024 : Shape := ⟨3, ![2, 704, 1024]⟩
abbrev S704x1024 : Shape := ⟨2, ![704, 1024]⟩
abbrev S_ : Shape := ⟨0, ![]⟩
abbrev S2 : Shape := ⟨1, ![2]⟩
abbrev S2x1x1 : Shape := ⟨3, ![2, 1, 1]⟩
abbrev S1x704x1024 : Shape := ⟨3, ![1, 704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S_, .i32⟩
  | .hbm, ⟨6, _⟩ => ⟨S2, .i32⟩
  | .hbm, ⟨7, _⟩ => ⟨S2x1x1, .i32⟩
  | .hbm, ⟨8, _⟩ => ⟨S2x1x1, .i32⟩
  | .hbm, ⟨9, _⟩ => ⟨S2x1x1, .i1⟩
  | .hbm, ⟨10, _⟩ => ⟨S1x704x1024, .f32⟩
  | .hbm, ⟨11, _⟩ => ⟨S1x704x1024, .f32⟩
  | .hbm, ⟨12, _⟩ => ⟨S2x704x1024, .i1⟩
  | .hbm, ⟨13, _⟩ => ⟨S2x704x1024, .f32⟩
  | .hbm, ⟨14, _⟩ => ⟨S2x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamSmall.lean ====
abbrev S2x3x64 : Shape := ⟨3, ![2, 3, 64]⟩
abbrev S2x4x384 : Shape := ⟨3, ![2, 4, 384]⟩
abbrev S2x3x1408 : Shape := ⟨3, ![2, 3, 1408]⟩
abbrev S2x1024 : Shape := ⟨2, ![2, 1024]⟩
abbrev S2x4 : Shape := ⟨2, ![2, 4]⟩
abbrev S2x128 : Shape := ⟨2, ![2, 128]⟩
abbrev S1024 : Shape := ⟨1, ![1024]⟩
abbrev S384 : Shape := ⟨1, ![384]⟩
abbrev S3072 : Shape := ⟨1, ![3072]⟩
abbrev S8448 : Shape := ⟨1, ![8448]⟩
abbrev S2048 : Shape := ⟨1, ![2048]⟩
abbrev S8 : Shape := ⟨1, ![8]⟩
abbrev S256 : Shape := ⟨1, ![256]⟩
abbrev S17296 : Shape := ⟨1, ![17296]⟩
abbrev S_ : Shape := ⟨0, ![]⟩
abbrev S17408 : Shape := ⟨1, ![17408]⟩
abbrev S136x128 : Shape := ⟨2, ![136, 128]⟩

abbrev nBuf : Space → Nat
  | .hbm => 91
  | .vmem => 7
  | .smem => 0
  | _ => 0

abbrev bufTy : (tb : Table) → Fin (tcTables nBuf tb) → BufTy
  | .hbm, ⟨0, _⟩ => ⟨S2x3x64, .f32⟩
  | .hbm, ⟨1, _⟩ => ⟨S2x4x384, .f32⟩
  | .hbm, ⟨2, _⟩ => ⟨S2x3x1408, .f32⟩
  | .hbm, ⟨3, _⟩ => ⟨S2x1024, .f32⟩
  | .hbm, ⟨4, _⟩ => ⟨S2x4, .f32⟩
  | .hbm, ⟨5, _⟩ => ⟨S2x4, .f32⟩
  | .hbm, ⟨6, _⟩ => ⟨S2x128, .f32⟩
  | .hbm, ⟨7, _⟩ => ⟨S2x1024, .f32⟩
  | .hbm, ⟨8, _⟩ => ⟨S1024, .f32⟩
  | .hbm, ⟨9, _⟩ => ⟨S2x3x64, .f32⟩
  | .hbm, ⟨10, _⟩ => ⟨S2x4x384, .f32⟩
  | .hbm, ⟨11, _⟩ => ⟨S2x3x1408, .f32⟩
  | .hbm, ⟨12, _⟩ => ⟨S2x1024, .f32⟩
  | .hbm, ⟨13, _⟩ => ⟨S2x4, .f32⟩
  | .hbm, ⟨14, _⟩ => ⟨S2x4, .f32⟩
  | .hbm, ⟨15, _⟩ => ⟨S2x128, .f32⟩
  | .hbm, ⟨16, _⟩ => ⟨S2x1024, .f32⟩
  | .hbm, ⟨17, _⟩ => ⟨S1024, .f32⟩
  | .hbm, ⟨18, _⟩ => ⟨S2x3x64, .f32⟩
  | .hbm, ⟨19, _⟩ => ⟨S2x4x384, .f32⟩
  | .hbm, ⟨20, _⟩ => ⟨S2x3x1408, .f32⟩
  | .hbm, ⟨21, _⟩ => ⟨S2x1024, .f32⟩
  | .hbm, ⟨22, _⟩ => ⟨S2x4, .f32⟩
  | .hbm, ⟨23, _⟩ => ⟨S2x4, .f32⟩
  | .hbm, ⟨24, _⟩ => ⟨S2x128, .f32⟩
  | .hbm, ⟨25, _⟩ => ⟨S2x1024, .f32⟩
  | .hbm, ⟨26, _⟩ => ⟨S1024, .f32⟩
  | .hbm, ⟨27, _⟩ => ⟨S2x3x64, .f32⟩
  | .hbm, ⟨28, _⟩ => ⟨S2x4x384, .f32⟩
  | .hbm, ⟨29, _⟩ => ⟨S2x3x1408, .f32⟩
  | .hbm, ⟨30, _⟩ => ⟨S2x1024, .f32⟩
  | .hbm, ⟨31, _⟩ => ⟨S2x4, .f32⟩
  | .hbm, ⟨32, _⟩ => ⟨S2x4, .f32⟩
  | .hbm, ⟨33, _⟩ => ⟨S2x128, .f32⟩
  | .hbm, ⟨34, _⟩ => ⟨S2x1024, .f32⟩
  | .hbm, ⟨35, _⟩ => ⟨S1024, .f32⟩
  | .hbm, ⟨36, _⟩ => ⟨S384, .f32⟩
  | .hbm, ⟨37, _⟩ => ⟨S3072, .f32⟩
  | .hbm, ⟨38, _⟩ => ⟨S8448, .f32⟩
  | .hbm, ⟨39, _⟩ => ⟨S2048, .f32⟩
  | .hbm, ⟨40, _⟩ => ⟨S8, .f32⟩
  | .hbm, ⟨41, _⟩ => ⟨S8, .f32⟩
  | .hbm, ⟨42, _⟩ => ⟨S256, .f32⟩
  | .hbm, ⟨43, _⟩ => ⟨S2048, .f32⟩
  | .hbm, ⟨44, _⟩ => ⟨S17296, .f32⟩
  | .hbm, ⟨45, _⟩ => ⟨S_, .i32⟩
  | .hbm, ⟨46, _⟩ => ⟨S_, .f32⟩
  | .hbm, ⟨47, _⟩ => ⟨S17408, .f32⟩
  | .hbm, ⟨48, _⟩ => ⟨S136x128, .f32⟩
  | .hbm, ⟨49, _⟩ => ⟨S384, .f32⟩
  | .hbm, ⟨50, _⟩ => ⟨S3072, .f32⟩
  | .hbm, ⟨51, _⟩ => ⟨S8448, .f32⟩
  | .hbm, ⟨52, _⟩ => ⟨S2048, .f32⟩
  | .hbm, ⟨53, _⟩ => ⟨S8, .f32⟩
  | .hbm, ⟨54, _⟩ => ⟨S8, .f32⟩
  | .hbm, ⟨55, _⟩ => ⟨S256, .f32⟩
  | .hbm, ⟨56, _⟩ => ⟨S2048, .f32⟩
  | .hbm, ⟨57, _⟩ => ⟨S17296, .f32⟩
  | .hbm, ⟨58, _⟩ => ⟨S_, .i32⟩
  | .hbm, ⟨59, _⟩ => ⟨S_, .f32⟩
  | .hbm, ⟨60, _⟩ => ⟨S17408, .f32⟩
  | .hbm, ⟨61, _⟩ => ⟨S136x128, .f32⟩
  | .hbm, ⟨62, _⟩ => ⟨S384, .f32⟩
  | .hbm, ⟨63, _⟩ => ⟨S3072, .f32⟩
  | .hbm, ⟨64, _⟩ => ⟨S8448, .f32⟩
  | .hbm, ⟨65, _⟩ => ⟨S2048, .f32⟩
  | .hbm, ⟨66, _⟩ => ⟨S8, .f32⟩
  | .hbm, ⟨67, _⟩ => ⟨S8, .f32⟩
  | .hbm, ⟨68, _⟩ => ⟨S256, .f32⟩
  | .hbm, ⟨69, _⟩ => ⟨S2048, .f32⟩
  | .hbm, ⟨70, _⟩ => ⟨S17296, .f32⟩
  | .hbm, ⟨71, _⟩ => ⟨S_, .i32⟩
  | .hbm, ⟨72, _⟩ => ⟨S_, .f32⟩
  | .hbm, ⟨73, _⟩ => ⟨S17408, .f32⟩
  | .hbm, ⟨74, _⟩ => ⟨S136x128, .f32⟩
  | .hbm, ⟨75, _⟩ => ⟨S384, .f32⟩
  | .hbm, ⟨76, _⟩ => ⟨S3072, .f32⟩
  | .hbm, ⟨77, _⟩ => ⟨S8448, .f32⟩
  | .hbm, ⟨78, _⟩ => ⟨S2048, .f32⟩
  | .hbm, ⟨79, _⟩ => ⟨S8, .f32⟩
  | .hbm, ⟨80, _⟩ => ⟨S8, .f32⟩
  | .hbm, ⟨81, _⟩ => ⟨S256, .f32⟩
  | .hbm, ⟨82, _⟩ => ⟨S2048, .f32⟩
  | .hbm, ⟨83, _⟩ => ⟨S17296, .f32⟩
  | .hbm, ⟨84, _⟩ => ⟨S_, .i32⟩
  | .hbm, ⟨85, _⟩ => ⟨S_, .f32⟩
  | .hbm, ⟨86, _⟩ => ⟨S17408, .f32⟩
  | .hbm, ⟨87, _⟩ => ⟨S136x128, .f32⟩
  | .hbm, ⟨88, _⟩ => ⟨S136x128, .f32⟩
  | .hbm, ⟨89, _⟩ => ⟨S136x128, .f32⟩
  | .hbm, ⟨90, _⟩ => ⟨S136x128, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | _, _ => ⟨S2x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_c : Ref sig .tc := ⟨.hbm, 45, rfl⟩
abbrev main_call0_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_0 : Ref sig .tc := ⟨.hbm, 58, rfl⟩
abbrev main_call1_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_1 : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_2 : Ref sig .tc := ⟨.hbm, 84, rfl⟩
abbrev main_call3_v0 : Ref sig .tc := ⟨.hbm, 85, rfl⟩
abbrev main_v42 : Ref sig .tc := ⟨.hbm, 86, rfl⟩
abbrev main_v43 : Ref sig .tc := ⟨.hbm, 87, rfl⟩
abbrev main_v44_0 : Ref sig .tc := ⟨.hbm, 88, rfl⟩
abbrev main_v44_1 : Ref sig .tc := ⟨.hbm, 89, rfl⟩
abbrev main_v44_2 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S2x3x64 : Shape := ⟨3, ![2, 3, 64]⟩
abbrev S2x4x384 : Shape := ⟨3, ![2, 4, 384]⟩
abbrev S2x3x1408 : Shape := ⟨3, ![2, 3, 1408]⟩
abbrev S2x1024 : Shape := ⟨2, ![2, 1024]⟩
abbrev S2x4 : Shape := ⟨2, ![2, 4]⟩
abbrev S2x128 : Shape := ⟨2, ![2, 128]⟩
abbrev S1024 : Shape := ⟨1, ![1024]⟩
abbrev S384 : Shape := ⟨1, ![384]⟩
abbrev S3072 : Shape := ⟨1, ![3072]⟩
abbrev S8448 : Shape := ⟨1, ![8448]⟩
abbrev S2048 : Shape := ⟨1, ![2048]⟩
abbrev S8 : Shape := ⟨1, ![8]⟩
abbrev S256 : Shape := ⟨1, ![256]⟩
abbrev S17296 : Shape := ⟨1, ![17296]⟩
abbrev S_ : Shape := ⟨0, ![]⟩
abbrev S17408 : Shape := ⟨1, ![17408]⟩
abbrev S136x128 : Shape := ⟨2, ![136, 128]⟩

abbrev nBuf : Space → Nat
  | .hbm => 121
  | .vmem => 0
  | .smem => 0
  | _ => 0

abbrev bufTy : (tb : Table) → Fin (tcTables nBuf tb) → BufTy
  | .hbm, ⟨0, _⟩ => ⟨S2x3x64, .f32⟩
  | .hbm, ⟨1, _⟩ => ⟨S2x4x384, .f32⟩
  | .hbm, ⟨2, _⟩ => ⟨S2x3x1408, .f32⟩
  | .hbm, ⟨3, _⟩ => ⟨S2x1024, .f32⟩
  | .hbm, ⟨4, _⟩ => ⟨S2x4, .f32⟩
  | .hbm, ⟨5, _⟩ => ⟨S2x4, .f32⟩
  | .hbm, ⟨6, _⟩ => ⟨S2x128, .f32⟩
  | .hbm, ⟨7, _⟩ => ⟨S2x1024, .f32⟩
  | .hbm, ⟨8, _⟩ => ⟨S1024, .f32⟩
  | .hbm, ⟨9, _⟩ => ⟨S2x3x64, .f32⟩
  | .hbm, ⟨10, _⟩ => ⟨S2x4x384, .f32⟩
  | .hbm, ⟨11, _⟩ => ⟨S2x3x1408, .f32⟩
  | .hbm, ⟨12, _⟩ => ⟨S2x1024, .f32⟩
  | .hbm, ⟨13, _⟩ => ⟨S2x4, .f32⟩
  | .hbm, ⟨14, _⟩ => ⟨S2x4, .f32⟩
  | .hbm, ⟨15, _⟩ => ⟨S2x128, .f32⟩
  | .hbm, ⟨16, _⟩ => ⟨S2x1024, .f32⟩
  | .hbm, ⟨17, _⟩ => ⟨S1024, .f32⟩
  | .hbm, ⟨18, _⟩ => ⟨S2x3x64, .f32⟩
  | .hbm, ⟨19, _⟩ => ⟨S2x4x384, .f32⟩
  | .hbm, ⟨20, _⟩ => ⟨S2x3x1408, .f32⟩
  | .hbm, ⟨21, _⟩ => ⟨S2x1024, .f32⟩
  | .hbm, ⟨22, _⟩ => ⟨S2x4, .f32⟩
  | .hbm, ⟨23, _⟩ => ⟨S2x4, .f32⟩
  | .hbm, ⟨24, _⟩ => ⟨S2x128, .f32⟩
  | .hbm, ⟨25, _⟩ => ⟨S2x1024, .f32⟩
  | .hbm, ⟨26, _⟩ => ⟨S1024, .f32⟩
  | .hbm, ⟨27, _⟩ => ⟨S2x3x64, .f32⟩
  | .hbm, ⟨28, _⟩ => ⟨S2x4x384, .f32⟩
  | .hbm, ⟨29, _⟩ => ⟨S2x3x1408, .f32⟩
  | .hbm, ⟨30, _⟩ => ⟨S2x1024, .f32⟩
  | .hbm, ⟨31, _⟩ => ⟨S2x4, .f32⟩
  | .hbm, ⟨32, _⟩ => ⟨S2x4, .f32⟩
  | .hbm, ⟨33, _⟩ => ⟨S2x128, .f32⟩
  | .hbm, ⟨34, _⟩ => ⟨S2x1024, .f32⟩
  | .hbm, ⟨35, _⟩ => ⟨S1024, .f32⟩
  | .hbm, ⟨36, _⟩ => ⟨S384, .f32⟩
  | .hbm, ⟨37, _⟩ => ⟨S3072, .f32⟩
  | .hbm, ⟨38, _⟩ => ⟨S8448, .f32⟩
  | .hbm, ⟨39, _⟩ => ⟨S2048, .f32⟩
  | .hbm, ⟨40, _⟩ => ⟨S8, .f32⟩
  | .hbm, ⟨41, _⟩ => ⟨S8, .f32⟩
  | .hbm, ⟨42, _⟩ => ⟨S256, .f32⟩
  | .hbm, ⟨43, _⟩ => ⟨S2048, .f32⟩
  | .hbm, ⟨44, _⟩ => ⟨S17296, .f32⟩
  | .hbm, ⟨45, _⟩ => ⟨S_, .i32⟩
  | .hbm, ⟨46, _⟩ => ⟨S_, .f32⟩
  | .hbm, ⟨47, _⟩ => ⟨S17408, .f32⟩
  | .hbm, ⟨48, _⟩ => ⟨S136x128, .f32⟩
  | .hbm, ⟨49, _⟩ => ⟨S384, .f32⟩
  | .hbm, ⟨50, _⟩ => ⟨S3072, .f32⟩
  | .hbm, ⟨51, _⟩ => ⟨S8448, .f32⟩
  | .hbm, ⟨52, _⟩ => ⟨S2048, .f32⟩
  | .hbm, ⟨53, _⟩ => ⟨S8, .f32⟩
  | .hbm, ⟨54, _⟩ => ⟨S8, .f32⟩
  | .hbm, ⟨55, _⟩ => ⟨S256, .f32⟩
  | .hbm, ⟨56, _⟩ => ⟨S2048, .f32⟩
  | .hbm, ⟨57, _⟩ => ⟨S17296, .f32⟩
  | .hbm, ⟨58, _⟩ => ⟨S_, .i32⟩
  | .hbm, ⟨59, _⟩ => ⟨S_, .f32⟩
  | .hbm, ⟨60, _⟩ => ⟨S17408, .f32⟩
  | .hbm, ⟨61, _⟩ => ⟨S136x128, .f32⟩
  | .hbm, ⟨62, _⟩ => ⟨S384, .f32⟩
  | .hbm, ⟨63, _⟩ => ⟨S3072, .f32⟩
  | .hbm, ⟨64, _⟩ => ⟨S8448, .f32⟩
  | .hbm, ⟨65, _⟩ => ⟨S2048, .f32⟩
  | .hbm, ⟨66, _⟩ => ⟨S8, .f32⟩
  | .hbm, ⟨67, _⟩ => ⟨S8, .f32⟩
  | .hbm, ⟨68, _⟩ => ⟨S256, .f32⟩
  | .hbm, ⟨69, _⟩ => ⟨S2048, .f32⟩
  | .hbm, ⟨70, _⟩ => ⟨S17296, .f32⟩
  | .hbm, ⟨71, _⟩ => ⟨S_, .i32⟩
  | .hbm, ⟨72, _⟩ => ⟨S_, .f32⟩
  | .hbm, ⟨73, _⟩ => ⟨S17408, .f32⟩
  | .hbm, ⟨74, _⟩ => ⟨S136x128, .f32⟩
  | .hbm, ⟨75, _⟩ => ⟨S384, .f32⟩
  | .hbm, ⟨76, _⟩ => ⟨S3072, .f32⟩
  | .hbm, ⟨77, _⟩ => ⟨S8448, .f32⟩
  | .hbm, ⟨78, _⟩ => ⟨S2048, .f32⟩
  | .hbm, ⟨79, _⟩ => ⟨S8, .f32⟩
  | .hbm, ⟨80, _⟩ => ⟨S8, .f32⟩
  | .hbm, ⟨81, _⟩ => ⟨S256, .f32⟩
  | .hbm, ⟨82, _⟩ => ⟨S2048, .f32⟩
  | .hbm, ⟨83, _⟩ => ⟨S17296, .f32⟩
  | .hbm, ⟨84, _⟩ => ⟨S_, .i32⟩
  | .hbm, ⟨85, _⟩ => ⟨S_, .f32⟩
  | .hbm, ⟨86, _⟩ => ⟨S17408, .f32⟩
  | .hbm, ⟨87, _⟩ => ⟨S136x128, .f32⟩
  | .hbm, ⟨88, _⟩ => ⟨S_, .f32⟩
  | .hbm, ⟨89, _⟩ => ⟨S136x128, .f32⟩
  | .hbm, ⟨90, _⟩ => ⟨S136x128, .f32⟩
  | .hbm, ⟨91, _⟩ => ⟨S_, .f32⟩
  | .hbm, ⟨92, _⟩ => ⟨S136x128, .f32⟩
  | .hbm, ⟨93, _⟩ => ⟨S136x128, .f32⟩
  | .hbm, ⟨94, _⟩ => ⟨S136x128, .f32⟩
  | .hbm, ⟨95, _⟩ => ⟨S_, .f32⟩
  | .hbm, ⟨96, _⟩ => ⟨S136x128, .f32⟩
  | .hbm, ⟨97, _⟩ => ⟨S136x128, .f32⟩
  | .hbm, ⟨98, _⟩ => ⟨S136x128, .f32⟩
  | .hbm, ⟨99, _⟩ => ⟨S_, .f32⟩
  | .hbm, ⟨100, _⟩ => ⟨S136x128, .f32⟩
  | .hbm, ⟨101, _⟩ => ⟨S136x128, .f32⟩
  | .hbm, ⟨102, _⟩ => ⟨S136x128, .f32⟩
  | .hbm, ⟨103, _⟩ => ⟨S_, .f32⟩
  | .hbm, ⟨104, _⟩ => ⟨S136x128, .f32⟩
  | .hbm, ⟨105, _⟩ => ⟨S136x128, .f32⟩
  | .hbm, ⟨106, _⟩ => ⟨S_, .f32⟩
  | .hbm, ⟨107, _⟩ => ⟨S136x128, .f32⟩
  | .hbm, ⟨108, _⟩ => ⟨S136x128, .f32⟩
  | .hbm, ⟨109, _⟩ => ⟨S136x128, .f32⟩
  | .hbm, ⟨110, _⟩ => ⟨S_, .f32⟩
  | .hbm, ⟨111, _⟩ => ⟨S136x128, .f32⟩
  | .hbm, ⟨112, _⟩ => ⟨S136x128, .f32⟩
  | .hbm, ⟨113, _⟩ => ⟨S136x128, .f32⟩
  | .hbm, ⟨114, _⟩ => ⟨S_, .f32⟩
  | .hbm, ⟨115, _⟩ => ⟨S136x128, .f32⟩
  | .hbm, ⟨116, _⟩ => ⟨S136x128, .f32⟩
  | .hbm, ⟨117, _⟩ => ⟨S136x128, .f32⟩
  | .hbm, ⟨118, _⟩ => ⟨S_, .f32⟩
  | .hbm, ⟨119, _⟩ => ⟨S136x128, .f32⟩
  | .hbm, ⟨120, _⟩ => ⟨S136x128, .f32⟩
  | _, _ => ⟨S2x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_c : Ref sig .tc := ⟨.hbm, 45, rfl⟩
abbrev main_call0_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_0 : Ref sig .tc := ⟨.hbm, 58, rfl⟩
abbrev main_call1_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_1 : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_2 : Ref sig .tc := ⟨.hbm, 84, rfl⟩
abbrev main_call3_v0 : Ref sig .tc := ⟨.hbm, 85, rfl⟩
abbrev main_v42 : Ref sig .tc := ⟨.hbm, 86, rfl⟩
abbrev main_v43 : Ref sig .tc := ⟨.hbm, 87, rfl⟩
abbrev main_cst : Ref sig .tc := ⟨.hbm, 88, rfl⟩
abbrev main_v44 : Ref sig .tc := ⟨.hbm, 89, rfl⟩
abbrev main_v45 : Ref sig .tc := ⟨.hbm, 90, rfl⟩
abbrev main_cst_3 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_4 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_5 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_6 : Ref sig .tc := ⟨.hbm, 103, rfl⟩
abbrev main_v55 : Ref sig .tc := ⟨.hbm, 104, rfl⟩
abbrev main_v56 : Ref sig .tc := ⟨.hbm, 105, rfl⟩
abbrev main_cst_7 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_8 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_9 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_10 : Ref sig .tc := ⟨.hbm, 118, rfl⟩
abbrev main_v66 : Ref sig .tc := ⟨.hbm, 119, rfl⟩
abbrev main_v67 : Ref sig .tc := ⟨.hbm, 120, rfl⟩

abbrev nD : Nat := 1
abbrev τ : Topo := Topo.v7x

variable {F : FTy → Type} [FloatOps F]
-- ==== SumSlots.lean ====
abbrev S8x416x128 : Shape := ⟨3, ![8, 416, 128]⟩
abbrev S416x128 : Shape := ⟨2, ![416, 128]⟩
abbrev S1x416x128 : Shape := ⟨3, ![1, 416, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x416x128, .f32⟩
  | .hbm, ⟨1, _⟩ => ⟨S416x128, .f32⟩
  | .local _ .vmem, ⟨0, _⟩ => ⟨S8x416x128, .f32⟩
  | .local _ .vmem, ⟨1, _⟩ => ⟨S416x128, .f32⟩
  | _, _ => ⟨S8x416x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSlotsRefIdeal.lean ====
abbrev S8x416x128 : Shape := ⟨3, ![8, 416, 128]⟩
abbrev S_ : Shape := ⟨0, ![]⟩
abbrev S416x128 : Shape := ⟨2, ![416, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x416x128, .f32⟩
  | .hbm, ⟨1, _⟩ => ⟨S_, .f32⟩
  | .hbm, ⟨2, _⟩ => ⟨S416x128, .f32⟩
  | _, _ => ⟨S8x416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Sums.lean ====
/- Sums over the extended reals taken in pieces: one after the other, and block by block. -/
module

public import Idealize.ShloMosaic.Lib.Pointwise

@[expose] public section

namespace Cert.Sums

/-- A sum of `n = a + b` terms is the sum of its first `a` and of its last `b`. -/
theorem two {a b n : ℕ} (h : a + b = n) (f : Fin n → EReal) :
    ∑ k, f k = ∑ k : Fin a, f ⟨k.val, by omega⟩ + ∑ k : Fin b, f ⟨a + k.val, by omega⟩ := by
  subst h
  exact Fin.sum_univ_add f

/-- A sum of `n = p s` terms is the sum of `p` sums of `s` terms each. -/
theorem blocks {p s n : ℕ} (h : p * s = n) (hs : ∀ (q : Fin p) (k : Fin s), s * q.val + k.val < n) (f : Fin n → EReal) :
    ∑ k, f k = ∑ q : Fin p, ∑ k : Fin s, f ⟨s * q.val + k.val, hs q k⟩ := by
  subst h
  rw [← finProdFinEquiv.sum_comp, Fintype.sum_prod_type]
  exact Finset.sum_congr rfl fun q _ => Finset.sum_congr rfl fun k _ => congrArg f (Fin.ext (Nat.add_comm _ _))

end Cert.Sums
-- ==== Proof.Down.lean ====
/- The matrix product `ffn_down` with its residual: the kernel adds the products of two pairs of blocks and the residual's block up, and the reference computes the same sums over the extended reals. -/
module

public import proofs.«01_k».proof.Defs
public import proofs.«01_k».proof.Proof.Gen.DownIdeal.Value
public import proofs.«01_k».proof.Proof.Gen.DownRefIdeal.Read
public import proofs.«01_k».proof.Proof.Gen.DownRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DownIdeal.Matrix

open Cert.DownIdeal Cert.DownIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val / 2, t.val % 2] := by decide +kernel
theorem i1 : ∀ t : Fin cfg0.N, win0_1.index t = ![t.val % 2, 0] := by decide +kernel
theorem i2 : ∀ t : Fin cfg0.N, win0_2.index t = ![t.val / 2, 0] := by decide +kernel
theorem i3 : ∀ t : Fin cfg0.N, win0_3.index t = ![t.val / 2, 0] := by decide +kernel

theorem fst_of {α β : Type} {x : α × β} {a : α} {b : β} (e : x = (a, b)) : x.1 = a := by rw [e]
theorem snd_of {α β : Type} {x : α × β} {a : α} {b : β} (e : x = (a, b)) : x.2 = b := by rw [e]

/-- The product of a point's two blocks. -/
def term (x0 : Vec Ideal S1024x1408 .bf16) (x1 : Vec Ideal S1408x1024 .bf16) (i : S1024x1024.Idx) : EReal :=
  ∑ k : Fin 1408, x0 (ix2 (i 0) k) * x1 (ix2 k (i 1))

theorem pay_first (x0 : Vec Ideal S1024x1408 .bf16) (x1 : Vec Ideal S1408x1024 .bf16) (i : S1024x1024.Idx) :
    k0_pay2 x0 x1 i = 0 + term x0 x1 i := by
  obtain ⟨a, b, rfl⟩ : ∃ (a : Fin 1024) (b : Fin 1024), i = ix2 a b := ⟨i 0, i 1, eq_ix2 i⟩
  rw [zero_add]
  pointwise [k0_pay2, k0_pay1, term]
theorem pay_later (x0 : Vec Ideal S1024x1408 .bf16) (x1 : Vec Ideal S1408x1024 .bf16) (xs : Vec Ideal S1024x1024 .f32) (i : S1024x1024.Idx) :
    k0_pay3 x0 x1 xs i = xs i + term x0 x1 i := by
  obtain ⟨a, b, rfl⟩ : ∃ (a : Fin 1024) (b : Fin 1024), i = ix2 a b := ⟨i 0, i 1, eq_ix2 i⟩
  pointwise [k0_pay3, k0_pay1, term]
theorem pay_out (x r : Vec Ideal S1024x1024 .f32) (i : S1024x1024.Idx) : k0_pay4 x r i = x i + r i := by
  obtain ⟨a, b, rfl⟩ : ∃ (a : Fin 1024) (b : Fin 1024), i = ix2 a b := ⟨i 0, i 1, eq_ix2 i⟩
  pointwise [k0_pay4]

/-- The scratch after the first point of a pair. -/
theorem scratch_first (t : Fin cfg0.N) (h : t.val % 2 = 0) (i : S1024x1024.Idx) :
    (outsAt0 m c t.val t.isLt).2 i = 0 + term (iblk m c 0 t) (iblk m c 1 t) i := by
  refine (congrFun (snd_of (outsAt0_A m c t h (by omega) (by omega))) i).trans ?_
  frame_out
  exact pay_first (iblk m c 0 t) (iblk m c 1 t) i
/-- The scratch after the second point of a pair. -/
theorem scratch_later (t : Fin cfg0.N) (h : ¬t.val % 2 = 0) (i : S1024x1024.Idx) :
    (outsAt0 m c t.val t.isLt).2 i = (outsAt0 m c (t.val - 1) (Nat.lt_of_le_of_lt (Nat.sub_le _ _) t.isLt)).2 i + term (iblk m c 0 t) (iblk m c 1 t) i := by
  refine (congrFun (snd_of (outsAt0_B m c t h (by omega) (by omega))) i).trans ?_
  frame_out
  simp only [read_unread_whole]
  exact pay_later (iblk m c 0 t) (iblk m c 1 t) _ i
/-- At the second point of a pair the output is the scratch with the residual added. -/
theorem out_last (t : Fin cfg0.N) (h : t.val % 2 = 1) (i : S1024x1024.Idx) :
    (outsAt0 m c t.val t.isLt).1 i = (outsAt0 m c t.val t.isLt).2 i + (iblk m c 2 t : Vec Ideal S1024x1024 .f32) i := by
  refine (congrFun (fst_of (outsAt0_B m c t (by omega) h h)) i).trans
    (Eq.trans ?_ (congrArg (· + (iblk m c 2 t : Vec Ideal S1024x1024 .f32) i) (congrFun (snd_of (outsAt0_B m c t (by omega) h h)) i).symm))
  frame_out
  exact pay_out ..

/-- What both sides compute: the product, and the residual. -/
def out (x0 : Vec Ideal S8192x2816 .bf16) (x1 : Vec Ideal S2816x1024 .f32) (x2 : Vec Ideal S8192x1024 .f32) : Vec Ideal S8192x1024 .f32 :=
  fun i => (∑ k : Fin 2816, x0 (ix2 (i 0) k) * x1 (ix2 k (i 1))) + x2 i

theorem V_main_v0 (a : Fin 2816) (b : Fin 1024) : V m c main_v0 (ix2 a b) = m ((c : Thread nD τ).loc main_arg1) (ix2 a b) := by
  entry_read; pointwise

theorem x0_at (t : Fin cfg0.N) (a : Fin 1024) (k : Fin 1408) : (iblk m c 0 t : Vec Ideal S1024x1408 .bf16) (ix2 a k) =
    m ((c : Thread nD τ).loc main_arg0) (ix2 ⟨1024 * (t.val / 2) + a.val, by have : t.val < 16 := t.isLt; omega⟩ ⟨1408 * (t.val % 2) + k.val, by omega⟩) := by
  have := t.isLt
  blk_ext [iblk, V_main_arg0, i0 t]
theorem x1_at (t : Fin cfg0.N) (k : Fin 1408) (b : Fin 1024) : (iblk m c 1 t : Vec Ideal S1408x1024 .bf16) (ix2 k b) =
    m ((c : Thread nD τ).loc main_arg1) (ix2 ⟨1408 * (t.val % 2) + k.val, by omega⟩ b) := by
  have := t.isLt
  refine Eq.trans ?_ (V_main_v0 m c _ _)
  blk_ext [iblk, i1 t]
theorem x2_at (t : Fin cfg0.N) (a : Fin 1024) (b : Fin 1024) : (iblk m c 2 t : Vec Ideal S1024x1024 .f32) (ix2 a b) =
    m ((c : Thread nD τ).loc main_arg2) (ix2 ⟨1024 * (t.val / 2) + a.val, by have : t.val < 16 := t.isLt; omega⟩ b) := by
  have := t.isLt
  blk_ext [iblk, V_main_arg2, i2 t]

/-- The array the run leaves. -/
theorem arr : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h7 := (flush0_3 t).mp hf
  have ht : t.val < 16 := t.isLt
  obtain ⟨a, b, rfl⟩ : ∃ (a : Fin 1024) (b : Fin 1024), y = ix2 a b := ⟨y 0, y 1, eq_ix2 y⟩
  refine (out_last m c t h7 (ix2 a b)).trans ?_
  have e : (((View.whole main_v1).slice (win0_3.rect t)).emb (ix2 a b)) = ix2 ⟨1024 * (t.val / 2) + a.val, by omega⟩ b := by blk_ext [i3 t]
  rw [e]
  refine congrArg₂ (· + ·) ?_ (x2_at m c t a b)
  refine (Pipeline.eq_sum_fin_of_reset_step_apply_of_flush (fun n h => (outsAt0 m c n h).2) 2 (fun _ => (0 : EReal))
    (fun t => term (iblk m c 0 t) (iblk m c 1 t)) (scratch_first m c) (scratch_later m c) t h7 (ix2 a b)).trans ?_
  rw [zero_add, Sums.blocks (p := 2) (s := 1408) rfl (fun q k => by omega)]
  refine Finset.sum_congr rfl fun q _ => Finset.sum_congr rfl fun k _ => ?_
  refine congrArg₂ (· * ·) ((x0_at m c ⟨2 * (t.val / 2) + q.val, by have : cfg0.N = 16 := rfl; omega⟩ a k).trans ?_) ((x1_at m c ⟨2 * (t.val / 2) + q.val, by have : cfg0.N = 16 := rfl; omega⟩ k b).trans ?_) <;> blk_ext

/-- The reference's value. -/
theorem ref (x0 : Vec Ideal S8192x2816 .bf16) (x1 : Vec Ideal S2816x1024 .f32) (x2 : Vec Ideal S8192x1024 .f32) : Cert.DownRefIdeal.Read.val_main_v2 (F := Ideal) x0 x1 x2 = out x0 x1 x2 := by
  funext i
  obtain ⟨a, b, rfl⟩ : ∃ (a : Fin 8192) (b : Fin 1024), i = ix2 a b := ⟨i 0, i 1, eq_ix2 i⟩
  pointwise [Cert.DownRefIdeal.Read.val_main_v2, Cert.DownRefIdeal.Read.val_main_v1, Cert.DownRefIdeal.Read.val_main_v0, out]
  exact add_comm _ _

/-- From equal arguments the kernel and the reference return the same array over the extended reals. -/
theorem algebraic : Cert.algebraic_DownIdeal_DownRefIdeal := by
  intro m ρ m' ρ' _ hagree
  refine ⟨fun c => out (m ((c : Thread nD τ).loc main_arg0)) (m ((c : Thread nD τ).loc main_arg1)) (m ((c : Thread nD τ).loc main_arg2)), ?_, ?_⟩
  · exact (θ_run Cert.DownIdeal.defs _ _).mono (fun r h c => ⟨(h c).1.trans (arr m c), (h c).2⟩) (Cert.DownIdeal.Value.run_blocks m ρ)
  · refine (θ_run Cert.DownRefIdeal.defs _ _).mono (fun r h c => ⟨(h c).1.trans ?_, (h c).2⟩) (Cert.DownRefIdeal.Value.run m' ρ')
    obtain ⟨h0, h1, h2⟩ := hagree c
    exact (ref _ _ _).trans (by rw [h0, h1, h2])

/-- The reference terminates with its arguments unchanged; it declares no semaphore. -/
theorem frame_reference : Cert.quiescent_DownRefIdeal := fun m ρ _ =>
  (θ_run Cert.DownRefIdeal.defs _ _).mono
    (fun r h => ⟨fun c => (h c).2, sem_eq_zero_of_no_sems rfl r.2⟩) (Cert.DownRefIdeal.Value.run m ρ)

end Cert.DownIdeal.Matrix

end
-- ==== Proof.Dact.lean ====
/- The matrix product `dact`: the kernel, a block of the result at every point of its grid, and the reference compute the same sums over the extended reals. -/
module

public import proofs.«01_k».proof.Defs
public import proofs.«01_k».proof.Proof.Gen.DactIdeal.Value
public import proofs.«01_k».proof.Proof.Gen.DactRefIdeal.Read
public import proofs.«01_k».proof.Proof.Gen.DactRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.DactIdeal.Matrix

open Cert.DactIdeal Cert.DactIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val / 2, 0] := by decide +kernel
theorem i1 : ∀ t : Fin cfg0.N, win0_1.index t = ![t.val % 2, 0] := by decide +kernel
theorem i2 : ∀ t : Fin cfg0.N, win0_2.index t = ![t.val / 2, t.val % 2] := by decide +kernel

/-- What a point writes, at an index: the product of its two blocks. -/
theorem pay (x0 : Vec Ideal S1024x1024 .f32) (x1 : Vec Ideal S1408x1024 .bf16) (a : Fin 1024) (b : Fin 1408) :
    k0_pay1 x0 x1 (ix2 a b) = ∑ k : Fin 1024, x0 (ix2 a k) * x1 (ix2 b k) := by
  pointwise [k0_pay1]

/-- The product both sides compute. -/
def out (x0 : Vec Ideal S2816x1024 .f32) (x1 : Vec Ideal S8192x1024 .f32) : Vec Ideal S8192x2816 .f32 :=
  fun i => ∑ k : Fin 1024, x1 (ix2 (i 0) k) * x0 (ix2 (i 1) k)

theorem V_main_v0 (a : Fin 2816) (b : Fin 1024) : V m c main_v0 (ix2 a b) = m ((c : Thread nD τ).loc main_arg0) (ix2 a b) := by
  entry_read; pointwise

/-- The block of the left factor a point reads. -/
theorem x0_at (t : Fin cfg0.N) (a : Fin 1024) (b : Fin 1024) : (iblk m c 0 t : Vec Ideal S1024x1024 .f32) (ix2 a b) =
    m ((c : Thread nD τ).loc main_arg1) (ix2 ⟨1024 * (t.val / 2) + a.val, by have : t.val < 16 := t.isLt; omega⟩ b) := by
  have := t.isLt
  blk_ext [iblk, V_main_arg1, i0 t]
/-- The block of the right factor a point reads. -/
theorem x1_at (t : Fin cfg0.N) (a : Fin 1408) (b : Fin 1024) : (iblk m c 1 t : Vec Ideal S1408x1024 .bf16) (ix2 a b) =
    m ((c : Thread nD τ).loc main_arg0) (ix2 ⟨1408 * (t.val % 2) + a.val, by omega⟩ b) := by
  have := t.isLt
  refine Eq.trans ?_ (V_main_v0 m c _ _)
  blk_ext [iblk, i1 t]

/-- The array the run leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have ht : t.val < 16 := t.isLt
  obtain ⟨a, b, rfl⟩ : ∃ (a : Fin 1024) (b : Fin 1408), y = ix2 a b := ⟨y 0, y 1, eq_ix2 y⟩
  refine (pay (iblk m c 0 t) (iblk m c 1 t) a b).trans (Finset.sum_congr rfl fun k _ => ?_)
  rw [x0_at, x1_at]
  congr 1 <;> blk_ext [i2 t]

/-- The reference's value. -/
theorem ref (x0 : Vec Ideal S2816x1024 .f32) (x1 : Vec Ideal S8192x1024 .f32) : Cert.DactRefIdeal.Read.val_main_v2 (F := Ideal) x0 x1 = out x0 x1 := by
  funext i
  obtain ⟨a, b, rfl⟩ : ∃ (a : Fin 8192) (b : Fin 2816), i = ix2 a b := ⟨i 0, i 1, eq_ix2 i⟩
  pointwise [Cert.DactRefIdeal.Read.val_main_v2, Cert.DactRefIdeal.Read.val_main_v0, out]

/-- From equal arguments the kernel and the reference return the same array over the extended reals. -/
theorem algebraic : Cert.algebraic_DactIdeal_DactRefIdeal := by
  intro m ρ m' ρ' _ hagree
  refine ⟨fun c => out (m ((c : Thread nD τ).loc main_arg0)) (m ((c : Thread nD τ).loc main_arg1)), ?_, ?_⟩
  · exact (θ_run Cert.DactIdeal.defs _ _).mono (fun r h c => ⟨(h c).1.trans (arr m c), (h c).2⟩) (Cert.DactIdeal.Value.run_blocks m ρ)
  · refine (θ_run Cert.DactRefIdeal.defs _ _).mono (fun r h c => ⟨(h c).1.trans ?_, (h c).2⟩) (Cert.DactRefIdeal.Value.run m' ρ')
    obtain ⟨h0, h1⟩ := hagree c
    exact (ref _ _).trans (by rw [h0, h1])

/-- The reference terminates with its arguments unchanged; it declares no semaphore. -/
theorem frame_reference : Cert.quiescent_DactRefIdeal := fun m ρ _ =>
  (θ_run Cert.DactRefIdeal.defs _ _).mono
    (fun r h => ⟨fun c => (h c).2, sem_eq_zero_of_no_sems rfl r.2⟩) (Cert.DactRefIdeal.Value.run m ρ)

end Cert.DactIdeal.Matrix

end
-- ==== Proof.DwDown.lean ====
/- The matrix product `dw_down`: the kernel adds the products of eight pairs of blocks of rows up in a scratch, and the reference computes the same sums over the extended reals. -/
module

public import proofs.«01_k».proof.Defs
public import proofs.«01_k».proof.Proof.Gen.DwDownIdeal.Value
public import proofs.«01_k».proof.Proof.Gen.DwDownRefIdeal.Read
public import proofs.«01_k».proof.Proof.Gen.DwDownRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DwDownIdeal.Matrix

open Cert.DwDownIdeal Cert.DwDownIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val % 8, t.val / 8] := by decide +kernel
theorem i1 : ∀ t : Fin cfg0.N, win0_1.index t = ![t.val % 8, 0] := by decide +kernel
theorem i2 : ∀ t : Fin cfg0.N, win0_2.index t = ![t.val / 8, 0] := by decide +kernel

theorem fst_of {α β : Type} {x : α × β} {a : α} {b : β} (e : x = (a, b)) : x.1 = a := by rw [e]
theorem snd_of {α β : Type} {x : α × β} {a : α} {b : β} (e : x = (a, b)) : x.2 = b := by rw [e]

/-- The product of a point's two blocks. -/
def term (x0 : Vec Ideal S1024x1408 .bf16) (x1 : Vec Ideal S1024x1024 .f32) (i : S1408x1024.Idx) : EReal :=
  ∑ k : Fin 1024, x0 (ix2 k (i 0)) * x1 (ix2 k (i 1))

theorem pay_first (x0 : Vec Ideal S1024x1408 .bf16) (x1 : Vec Ideal S1024x1024 .f32) (i : S1408x1024.Idx) :
    k0_pay2 x0 x1 i = 0 + term x0 x1 i := by
  obtain ⟨a, b, rfl⟩ : ∃ (a : Fin 1408) (b : Fin 1024), i = ix2 a b := ⟨i 0, i 1, eq_ix2 i⟩
  rw [zero_add]
  pointwise [k0_pay2, k0_pay1, term]
theorem pay_later (x0 : Vec Ideal S1024x1408 .bf16) (x1 : Vec Ideal S1024x1024 .f32) (xs : Vec Ideal S1408x1024 .f32) (i : S1408x1024.Idx) :
    k0_pay3 x0 x1 xs i = xs i + term x0 x1 i := by
  obtain ⟨a, b, rfl⟩ : ∃ (a : Fin 1408) (b : Fin 1024), i = ix2 a b := ⟨i 0, i 1, eq_ix2 i⟩
  pointwise [k0_pay3, k0_pay1, term]

/-- The scratch after the first point of a run of eight. -/
theorem scratch_first (t : Fin cfg0.N) (h : t.val % 8 = 0) (i : S1408x1024.Idx) :
    (outsAt0 m c t.val t.isLt).2 i = 0 + term (iblk m c 0 t) (iblk m c 1 t) i := by
  refine (congrFun (snd_of (outsAt0_A m c t h (by omega) (by omega))) i).trans ?_
  frame_out
  exact pay_first (iblk m c 0 t) (iblk m c 1 t) i
/-- The scratch after a later point of a run of eight. -/
theorem scratch_later (t : Fin cfg0.N) (h : ¬t.val % 8 = 0) (i : S1408x1024.Idx) :
    (outsAt0 m c t.val t.isLt).2 i = (outsAt0 m c (t.val - 1) (Nat.lt_of_le_of_lt (Nat.sub_le _ _) t.isLt)).2 i + term (iblk m c 0 t) (iblk m c 1 t) i := by
  by_cases h7 : t.val % 8 = 7
  · refine (congrFun (snd_of (outsAt0_C m c t h (by omega) h7)) i).trans ?_
    frame_out
    simp only [read_unread_whole]
    exact pay_later (iblk m c 0 t) (iblk m c 1 t) _ i
  · refine (congrFun (snd_of (outsAt0_B m c t h (by omega) h7)) i).trans ?_
    frame_out
    simp only [read_unread_whole]
    exact pay_later (iblk m c 0 t) (iblk m c 1 t) _ i
/-- At the last point of a run the output is the scratch. -/
theorem out_last (t : Fin cfg0.N) (h : t.val % 8 = 7) (i : S1408x1024.Idx) :
    (outsAt0 m c t.val t.isLt).1 i = (outsAt0 m c t.val t.isLt).2 i := by
  refine (congrFun (fst_of (outsAt0_C m c t (by omega) (by omega) h)) i).trans (Eq.trans ?_ (congrFun (snd_of (outsAt0_C m c t (by omega) (by omega) h)) i).symm)
  frame_out

/-- The product both sides compute. -/
def out (x0 : Vec Ideal S8192x2816 .bf16) (x1 : Vec Ideal S8192x1024 .f32) : Vec Ideal S2816x1024 .f32 :=
  fun i => ∑ k : Fin 8192, x0 (ix2 k (i 0)) * x1 (ix2 k (i 1))

theorem x0_at (t : Fin cfg0.N) (k : Fin 1024) (a : Fin 1408) : (iblk m c 0 t : Vec Ideal S1024x1408 .bf16) (ix2 k a) =
    m ((c : Thread nD τ).loc main_arg0) (ix2 ⟨1024 * (t.val % 8) + k.val, by omega⟩ ⟨1408 * (t.val / 8) + a.val, by have : t.val < 16 := t.isLt; omega⟩) := by
  have := t.isLt
  blk_ext [iblk, V_main_arg0, i0 t]
theorem x1_at (t : Fin cfg0.N) (k : Fin 1024) (b : Fin 1024) : (iblk m c 1 t : Vec Ideal S1024x1024 .f32) (ix2 k b) =
    m ((c : Thread nD τ).loc main_arg1) (ix2 ⟨1024 * (t.val % 8) + k.val, by omega⟩ b) := by
  have := t.isLt
  blk_ext [iblk, V_main_arg1, i1 t]

/-- The array the run leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h7 := (flush0_2 t).mp hf
  have ht : t.val < 16 := t.isLt
  obtain ⟨a, b, rfl⟩ : ∃ (a : Fin 1408) (b : Fin 1024), y = ix2 a b := ⟨y 0, y 1, eq_ix2 y⟩
  refine (out_last m c t h7 (ix2 a b)).trans ?_
  refine (Pipeline.eq_sum_fin_of_reset_step_apply_of_flush (fun n h => (outsAt0 m c n h).2) 8 (fun _ => (0 : EReal))
    (fun t => term (iblk m c 0 t) (iblk m c 1 t)) (scratch_first m c) (scratch_later m c) t h7 (ix2 a b)).trans ?_
  have e : (((View.whole main_v0).slice (win0_2.rect t)).emb (ix2 a b)) = ix2 ⟨1408 * (t.val / 8) + a.val, by omega⟩ b := by blk_ext [i2 t]
  rw [e, zero_add]
  unfold out
  rw [Sums.blocks (p := 8) (s := 1024) rfl (fun q k => by omega)]
  refine Finset.sum_congr rfl fun q _ => Finset.sum_congr rfl fun k _ => ?_
  refine congrArg₂ (· * ·) ((x0_at m c ⟨8 * (t.val / 8) + q.val, by have : cfg0.N = 16 := rfl; omega⟩ k a).trans ?_) ((x1_at m c ⟨8 * (t.val / 8) + q.val, by have : cfg0.N = 16 := rfl; omega⟩ k b).trans ?_) <;> blk_ext

/-- The reference's value. -/
theorem ref (x0 : Vec Ideal S8192x2816 .bf16) (x1 : Vec Ideal S8192x1024 .f32) : Cert.DwDownRefIdeal.Read.val_main_v4 (F := Ideal) x0 x1 = out x0 x1 := by
  funext i
  obtain ⟨a, b, rfl⟩ : ∃ (a : Fin 2816) (b : Fin 1024), i = ix2 a b := ⟨i 0, i 1, eq_ix2 i⟩
  pointwise [Cert.DwDownRefIdeal.Read.val_main_v4, Cert.DwDownRefIdeal.Read.val_main_v3, Cert.DwDownRefIdeal.Read.val_main_v1, out]
  exact Finset.sum_congr rfl fun k _ => mul_comm _ _

/-- From equal arguments the kernel and the reference return the same array over the extended reals. -/
theorem algebraic : Cert.algebraic_DwDownIdeal_DwDownRefIdeal := by
  intro m ρ m' ρ' _ hagree
  refine ⟨fun c => out (m ((c : Thread nD τ).loc main_arg0)) (m ((c : Thread nD τ).loc main_arg1)), ?_, ?_⟩
  · exact (θ_run Cert.DwDownIdeal.defs _ _).mono (fun r h c => ⟨(h c).1.trans (arr m c), (h c).2⟩) (Cert.DwDownIdeal.Value.run_blocks m ρ)
  · refine (θ_run Cert.DwDownRefIdeal.defs _ _).mono (fun r h c => ⟨(h c).1.trans ?_, (h c).2⟩) (Cert.DwDownRefIdeal.Value.run m' ρ')
    obtain ⟨h0, h1⟩ := hagree c
    exact (ref _ _).trans (by rw [h0, h1])

/-- The reference terminates with its arguments unchanged; it declares no semaphore. -/
theorem frame_reference : Cert.quiescent_DwDownRefIdeal := fun m ρ _ =>
  (θ_run Cert.DwDownRefIdeal.defs _ _).mono
    (fun r h => ⟨fun c => (h c).2, sem_eq_zero_of_no_sems rfl r.2⟩) (Cert.DwDownRefIdeal.Value.run m ρ)

end Cert.DwDownIdeal.Matrix

end
-- ==== Proof.Up.lean ====
/- The matrix product `up`: the kernel, a block of the result at every point of its grid, and the reference compute the same sums over the extended reals. -/
module

public import proofs.«01_k».proof.Defs
public import proofs.«01_k».proof.Proof.Gen.UpIdeal.Value
public import proofs.«01_k».proof.Proof.Gen.UpRefIdeal.Read
public import proofs.«01_k».proof.Proof.Gen.UpRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.UpIdeal.Matrix

open Cert.UpIdeal Cert.UpIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val / 4, 0] := by decide +kernel
theorem i1 : ∀ t : Fin cfg0.N, win0_1.index t = ![0, t.val % 4] := by decide +kernel
theorem i2 : ∀ t : Fin cfg0.N, win0_2.index t = ![t.val / 4, t.val % 4] := by decide +kernel

/-- What a point writes, at an index: the product of its two blocks. -/
theorem pay (x0 : Vec Ideal S1024x1024 .bf16) (x1 : Vec Ideal S1024x1408 .bf16) (a : Fin 1024) (b : Fin 1408) :
    k0_pay1 x0 x1 (ix2 a b) = ∑ k : Fin 1024, x0 (ix2 a k) * x1 (ix2 k b) := by
  pointwise [k0_pay1]

/-- The product both sides compute. -/
def out (x0 : Vec Ideal S8192x1024 .bf16) (x1 : Vec Ideal S1024x5632 .f32) : Vec Ideal S8192x5632 .f32 :=
  fun i => ∑ k : Fin 1024, x0 (ix2 (i 0) k) * x1 (ix2 k (i 1))

theorem V_main_v0 (a : Fin 1024) (b : Fin 5632) : V m c main_v0 (ix2 a b) = m ((c : Thread nD τ).loc main_arg1) (ix2 a b) := by
  entry_read; pointwise

/-- The block of the left factor a point reads. -/
theorem x0_at (t : Fin cfg0.N) (a : Fin 1024) (b : Fin 1024) : (iblk m c 0 t : Vec Ideal S1024x1024 .bf16) (ix2 a b) =
    m ((c : Thread nD τ).loc main_arg0) (ix2 ⟨1024 * (t.val / 4) + a.val, by have : t.val < 32 := t.isLt; omega⟩ b) := by
  have := t.isLt
  blk_ext [iblk, V_main_arg0, i0 t]
/-- The block of the right factor a point reads. -/
theorem x1_at (t : Fin cfg0.N) (a : Fin 1024) (b : Fin 1408) : (iblk m c 1 t : Vec Ideal S1024x1408 .bf16) (ix2 a b) =
    m ((c : Thread nD τ).loc main_arg1) (ix2 a ⟨1408 * (t.val % 4) + b.val, by omega⟩) := by
  have := t.isLt
  refine Eq.trans ?_ (V_main_v0 m c _ _)
  blk_ext [iblk, i1 t]

/-- The array the run leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have ht : t.val < 32 := t.isLt
  obtain ⟨a, b, rfl⟩ : ∃ (a : Fin 1024) (b : Fin 1408), y = ix2 a b := ⟨y 0, y 1, eq_ix2 y⟩
  refine (pay (iblk m c 0 t) (iblk m c 1 t) a b).trans (Finset.sum_congr rfl fun k _ => ?_)
  rw [x0_at, x1_at]
  congr 1 <;> blk_ext [i2 t]

/-- The reference's value. -/
theorem ref (x0 : Vec Ideal S8192x1024 .bf16) (x1 : Vec Ideal S1024x5632 .f32) : Cert.UpRefIdeal.Read.val_main_v1 (F := Ideal) x0 x1 = out x0 x1 := by
  funext i
  obtain ⟨a, b, rfl⟩ : ∃ (a : Fin 8192) (b : Fin 5632), i = ix2 a b := ⟨i 0, i 1, eq_ix2 i⟩
  pointwise [Cert.UpRefIdeal.Read.val_main_v1, Cert.UpRefIdeal.Read.val_main_v0, out]

/-- From equal arguments the kernel and the reference return the same array over the extended reals. -/
theorem algebraic : Cert.algebraic_UpIdeal_UpRefIdeal := by
  intro m ρ m' ρ' _ hagree
  refine ⟨fun c => out (m ((c : Thread nD τ).loc main_arg0)) (m ((c : Thread nD τ).loc main_arg1)), ?_, ?_⟩
  · exact (θ_run Cert.UpIdeal.defs _ _).mono (fun r h c => ⟨(h c).1.trans (arr m c), (h c).2⟩) (Cert.UpIdeal.Value.run_blocks m ρ)
  · refine (θ_run Cert.UpRefIdeal.defs _ _).mono (fun r h c => ⟨(h c).1.trans ?_, (h c).2⟩) (Cert.UpRefIdeal.Value.run m' ρ')
    obtain ⟨h0, h1⟩ := hagree c
    exact (ref _ _).trans (by rw [h0, h1])

/-- The reference terminates with its arguments unchanged; it declares no semaphore. -/
theorem frame_reference : Cert.quiescent_UpRefIdeal := fun m ρ _ =>
  (θ_run Cert.UpRefIdeal.defs _ _).mono
    (fun r h => ⟨fun c => (h c).2, sem_eq_zero_of_no_sems rfl r.2⟩) (Cert.UpRefIdeal.Value.run m ρ)

end Cert.UpIdeal.Matrix

end
-- ==== Proof.Dh2.lean ====
/- The matrix product `dh2`: the kernel, a block of rows of the result at every point of its grid and a part of the left factor at a time, and the reference compute the same sums over the extended reals. -/
module

public import proofs.«01_k».proof.Defs
public import proofs.«01_k».proof.Proof.Gen.Dh2Ideal.Value
public import proofs.«01_k».proof.Proof.Gen.Dh2RefIdeal.Read
public import proofs.«01_k».proof.Proof.Gen.Dh2RefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums

@[expose] public section

set_option maxRecDepth 16384

noncomputable section

namespace Cert.Dh2Ideal.Matrix

open Cert.Dh2Ideal Cert.Dh2Ideal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![0, 0] := by decide +kernel
theorem i3 : ∀ t : Fin cfg0.N, win0_3.index t = ![0, 1] := by decide +kernel
theorem i4 : ∀ t : Fin cfg0.N, win0_4.index t = ![t.val, 0] := by decide +kernel

/-- What a point writes, at an index: the products of its blocks, added up. -/
theorem pay (x0 : Vec Ideal S512x2816 .bf16) (w0 : Vec Ideal S1024x2816 .bf16) (x1 : Vec Ideal S512x2816 .bf16) (w1 : Vec Ideal S1024x2816 .bf16) (a : Fin 512) (b : Fin 1024) :
    k0_pay1 x0 w0 x1 w1 (ix2 a b) = (∑ k : Fin 2816, x0 (ix2 a k) * (w0 (ix2 b k))) + (∑ k : Fin 2816, x1 (ix2 a k) * (w1 (ix2 b k))) := by
  pointwise [k0_pay1]

/-- What both sides compute: the product of the parts, side by side, with the matrix, a part at a time. -/
def out (x0 : Vec Ideal S8192x2816 .bf16) (x1 : Vec Ideal S8192x2816 .bf16) (x2 : Vec Ideal S1024x5632 .f32) : Vec Ideal S8192x1024 .f32 :=
  fun i => (∑ k : Fin 2816, x0 (ix2 (i 0) k) * x2 (ix2 (i 1) ⟨k.val, by omega⟩)) + (∑ k : Fin 2816, x1 (ix2 (i 0) k) * x2 (ix2 (i 1) ⟨2816 + k.val, by omega⟩))

theorem V_main_v0 (a : Fin 1024) (b : Fin 5632) : V m c main_v0 (ix2 a b) = m ((c : Thread nD τ).loc main_arg2) (ix2 a b) := by
  entry_read; pointwise

theorem x0_at (t : Fin cfg0.N) (a : Fin 512) (k : Fin 2816) : (iblk m c 0 t : Vec Ideal S512x2816 .bf16) (ix2 a k) =
    m ((c : Thread nD τ).loc main_arg0) (ix2 ⟨512 * t.val + a.val, by have : t.val < 16 := t.isLt; omega⟩ k) := by
  have := t.isLt
  blk_ext [iblk, V_main_arg0, i0 t]
theorem x1_at (t : Fin cfg0.N) (a : Fin 512) (k : Fin 2816) : (iblk m c 1 t : Vec Ideal S512x2816 .bf16) (ix2 a k) =
    m ((c : Thread nD τ).loc main_arg1) (ix2 ⟨512 * t.val + a.val, by have : t.val < 16 := t.isLt; omega⟩ k) := by
  have := t.isLt
  blk_ext [iblk, V_main_arg1, i1 t]
theorem w0_at (t : Fin cfg0.N) (b : Fin 1024) (k : Fin 2816) : (iblk m c 2 t : Vec Ideal S1024x2816 .bf16) (ix2 b k) =
    m ((c : Thread nD τ).loc main_arg2) (ix2 b ⟨k.val, by omega⟩) := by
  refine Eq.trans ?_ (V_main_v0 m c _ _)
  blk_ext [iblk, i2 t]
theorem w1_at (t : Fin cfg0.N) (b : Fin 1024) (k : Fin 2816) : (iblk m c 3 t : Vec Ideal S1024x2816 .bf16) (ix2 b k) =
    m ((c : Thread nD τ).loc main_arg2) (ix2 b ⟨2816 + k.val, by omega⟩) := by
  refine Eq.trans ?_ (V_main_v0 m c _ _)
  blk_ext [iblk, i3 t]

/-- The array the run leaves. -/
theorem arr : (dats m 0 c).arrAt 4 cfg0.N = out (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  have ht : t.val < 16 := t.isLt
  obtain ⟨a, b, rfl⟩ : ∃ (a : Fin 512) (b : Fin 1024), y = ix2 a b := ⟨y 0, y 1, eq_ix2 y⟩
  refine (pay (iblk m c 0 t) (iblk m c 2 t) (iblk m c 1 t) (iblk m c 3 t) a b).trans ?_
  simp only [x0_at, w0_at, x1_at, w1_at]
  have e : (((View.whole main_v1).slice (win0_4.rect t)).emb (ix2 a b)) = ix2 ⟨512 * t.val + a.val, by omega⟩ b := by blk_ext [i4 t]
  rw [e]; rfl

/-- The reference's value. -/
theorem ref (x0 : Vec Ideal S8192x2816 .bf16) (x1 : Vec Ideal S8192x2816 .bf16) (x2 : Vec Ideal S1024x5632 .f32) : Cert.Dh2RefIdeal.Read.val_main_v4 (F := Ideal) x0 x1 x2 = out x0 x1 x2 := by
  funext i
  obtain ⟨a, b, rfl⟩ : ∃ (a : Fin 8192) (b : Fin 1024), i = ix2 a b := ⟨i 0, i 1, eq_ix2 i⟩
  pointwise [Cert.Dh2RefIdeal.Read.val_main_v0, Cert.Dh2RefIdeal.Read.val_main_v1, Cert.Dh2RefIdeal.Read.val_main_v4]
  rfl

/-- From equal arguments the kernel and the reference return the same array over the extended reals. -/
theorem algebraic : Cert.algebraic_Dh2Ideal_Dh2RefIdeal := by
  intro m ρ m' ρ' _ hagree
  refine ⟨fun c => out (m ((c : Thread nD τ).loc main_arg0)) (m ((c : Thread nD τ).loc main_arg1)) (m ((c : Thread nD τ).loc main_arg2)), ?_, ?_⟩
  · exact (θ_run Cert.Dh2Ideal.defs _ _).mono (fun r h c => ⟨(h c).1.trans (arr m c), (h c).2⟩) (Cert.Dh2Ideal.Value.run_blocks m ρ)
  · refine (θ_run Cert.Dh2RefIdeal.defs _ _).mono (fun r h c => ⟨(h c).1.trans ?_, (h c).2⟩) (Cert.Dh2RefIdeal.Value.run m' ρ')
    obtain ⟨h0, h1, h2⟩ := hagree c
    exact (ref _ _ _).trans (by rw [h0, h1, h2])

/-- The reference terminates with its arguments unchanged; it declares no semaphore. -/
theorem frame_reference : Cert.quiescent_Dh2RefIdeal := fun m ρ _ =>
  (θ_run Cert.Dh2RefIdeal.defs _ _).mono
    (fun r h => ⟨fun c => (h c).2, sem_eq_zero_of_no_sems rfl r.2⟩) (Cert.Dh2RefIdeal.Value.run m ρ)

end Cert.Dh2Ideal.Matrix

end
-- ==== Proof.DwUp.lean ====
/- The matrix product `dw_up_val`, the second half of the gradient of the up projection's weight: the kernel adds the products of eight pairs of blocks of rows up in a scratch and writes the last two slabs of four, leaving the first two as given; the reference computes the same sums over the extended reals. -/
module

public import proofs.«01_k».proof.Defs
public import proofs.«01_k».proof.Proof.Gen.DwUpIdeal.Value
public import proofs.«01_k».proof.Proof.Gen.DwUpRefIdeal.Read
public import proofs.«01_k».proof.Proof.Gen.DwUpRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DwUpIdeal.Matrix

open Cert.DwUpIdeal Cert.DwUpIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val % 8, 0] := by decide +kernel
theorem i1 : ∀ t : Fin cfg0.N, win0_1.index t = ![t.val % 8, t.val / 8] := by decide +kernel
theorem i2 : ∀ t : Fin cfg0.N, win0_2.index t = ![t.val / 8 + 2, 0, 0] := by decide +kernel

theorem fst_of {α β : Type} {x : α × β} {a : α} {b : β} (e : x = (a, b)) : x.1 = a := by rw [e]
theorem snd_of {α β : Type} {x : α × β} {a : α} {b : β} (e : x = (a, b)) : x.2 = b := by rw [e]

/-- The product of a point's two blocks. -/
def term (x0 : Vec Ideal S1024x1024 .bf16) (x1 : Vec Ideal S1024x1408 .bf16) (i : S1024x1408.Idx) : EReal :=
  ∑ k : Fin 1024, x0 (ix2 k (i 0)) * x1 (ix2 k (i 1))

theorem pay_first (x0 : Vec Ideal S1024x1024 .bf16) (x1 : Vec Ideal S1024x1408 .bf16) (i : S1024x1408.Idx) :
    k0_pay2 x0 x1 i = 0 + term x0 x1 i := by
  obtain ⟨a, b, rfl⟩ : ∃ (a : Fin 1024) (b : Fin 1408), i = ix2 a b := ⟨i 0, i 1, eq_ix2 i⟩
  rw [zero_add]
  pointwise [k0_pay2, k0_pay1, term]
theorem pay_later (x0 : Vec Ideal S1024x1024 .bf16) (x1 : Vec Ideal S1024x1408 .bf16) (xs : Vec Ideal S1024x1408 .f32) (i : S1024x1408.Idx) :
    k0_pay3 x0 x1 xs i = xs i + term x0 x1 i := by
  obtain ⟨a, b, rfl⟩ : ∃ (a : Fin 1024) (b : Fin 1408), i = ix2 a b := ⟨i 0, i 1, eq_ix2 i⟩
  pointwise [k0_pay3, k0_pay1, term]
theorem pay_out (x : Vec Ideal S1024x1408 .f32) (a : Fin 1024) (b : Fin 1408) : k0_pay4 x (ix3 0 a b) = x (ix2 a b) := by
  pointwise [k0_pay4]

/-- The scratch after the first point of a run of eight. -/
theorem scratch_first (t : Fin cfg0.N) (h : t.val % 8 = 0) (i : S1024x1408.Idx) :
    (outsAt0 m c t.val t.isLt).2 i = 0 + term (iblk m c 0 t) (iblk m c 1 t) i := by
  refine (congrFun (snd_of (outsAt0_A m c t h (by omega) (by omega))) i).trans ?_
  frame_out
  exact pay_first (iblk m c 0 t) (iblk m c 1 t) i
/-- The scratch after a later point of a run of eight. -/
theorem scratch_later (t : Fin cfg0.N) (h : ¬t.val % 8 = 0) (i : S1024x1408.Idx) :
    (outsAt0 m c t.val t.isLt).2 i = (outsAt0 m c (t.val - 1) (Nat.lt_of_le_of_lt (Nat.sub_le _ _) t.isLt)).2 i + term (iblk m c 0 t) (iblk m c 1 t) i := by
  by_cases h7 : t.val % 8 = 7
  · refine (congrFun (snd_of (outsAt0_C m c t h (by omega) h7)) i).trans ?_
    frame_out
    simp only [read_unread_whole]
    exact pay_later (iblk m c 0 t) (iblk m c 1 t) _ i
  · refine (congrFun (snd_of (outsAt0_B m c t h (by omega) h7)) i).trans ?_
    frame_out
    simp only [read_unread_whole]
    exact pay_later (iblk m c 0 t) (iblk m c 1 t) _ i
/-- At the last point of a run the output is the scratch. -/
theorem out_last (t : Fin cfg0.N) (h : t.val % 8 = 7) (a : Fin 1024) (b : Fin 1408) :
    (outsAt0 m c t.val t.isLt).1 (ix3 0 a b) = (outsAt0 m c t.val t.isLt).2 (ix2 a b) := by
  refine (congrFun (fst_of (outsAt0_C m c t (by omega) (by omega) h)) (ix3 0 a b)).trans (Eq.trans ?_ (congrFun (snd_of (outsAt0_C m c t (by omega) (by omega) h)) (ix2 a b)).symm)
  frame_out
  exact pay_out ..

/-- What both sides compute, at an index: the first two slabs as given, the product in the last two. -/
def outAt (x0 : Vec Ideal S8192x1024 .bf16) (x1 : Vec Ideal S8192x2816 .bf16) (x2 : Vec Ideal S4x1024x1408 .f32) (s : Fin 4) (a : Fin 1024) (b : Fin 1408) : EReal :=
  if s.val < 2 then x2 (ix3 s a b) else ∑ k : Fin 8192, x0 (ix2 k a) * x1 (ix2 k ⟨1408 * (s.val - 2) + b.val, by omega⟩)
/-- What both sides compute. -/
def out (x0 : Vec Ideal S8192x1024 .bf16) (x1 : Vec Ideal S8192x2816 .bf16) (x2 : Vec Ideal S4x1024x1408 .f32) : Vec Ideal S4x1024x1408 .f32 :=
  fun i => outAt x0 x1 x2 (i 0) (i 1) (i 2)

theorem x0_at (t : Fin cfg0.N) (k : Fin 1024) (a : Fin 1024) : (iblk m c 0 t : Vec Ideal S1024x1024 .bf16) (ix2 k a) =
    m ((c : Thread nD τ).loc main_arg0) (ix2 ⟨1024 * (t.val % 8) + k.val, by omega⟩ a) := by
  have := t.isLt
  blk_ext [iblk, V_main_arg0, i0 t]
theorem x1_at (t : Fin cfg0.N) (k : Fin 1024) (b : Fin 1408) : (iblk m c 1 t : Vec Ideal S1024x1408 .bf16) (ix2 k b) =
    m ((c : Thread nD τ).loc main_arg1) (ix2 ⟨1024 * (t.val % 8) + k.val, by omega⟩ ⟨1408 * (t.val / 8) + b.val, by have : t.val < 16 := t.isLt; omega⟩) := by
  have := t.isLt
  blk_ext [iblk, V_main_arg1, i1 t]

/-- The output starts as a copy of the third argument. -/
theorem V_main_v0 (s : Fin 4) (a : Fin 1024) (b : Fin 1408) : V m c main_v0 (ix3 s a b) = m ((c : Thread nD τ).loc main_arg2) (ix3 s a b) := by
  entry_read
  rfl

/-- The array the run leaves. -/
theorem arr : (dats m 0 c).arrAt 2 cfg0.N = out (m ((c : Thread nD τ).loc main_arg0)) (m ((c : Thread nD τ).loc main_arg1)) (m ((c : Thread nD τ).loc main_arg2)) := by
  refine (dats m 0 c).arrAt_eq_of_coversWhere_of_agree 2 _ (fun β => 2 ≤ β (0 : Fin 3)) (by decide +kernel) (fun t hf y => ?_) (fun j hj => ?_)
  · blk_simp
    rw [after0_2]
    have h7 := (flush0_2 t).mp hf
    have ht : t.val < 16 := t.isLt
    obtain ⟨z, a, b, rfl⟩ : ∃ (z : Fin 1) (a : Fin 1024) (b : Fin 1408), y = ix3 z a b := ⟨y 0, y 1, y 2, eq_ix3 y⟩
    obtain rfl : z = 0 := Fin.fin_one_eq_zero z
    refine (out_last m c t h7 a b).trans ?_
    refine (Pipeline.eq_sum_fin_of_reset_step_apply_of_flush (fun n h => (outsAt0 m c n h).2) 8 (fun _ => (0 : EReal))
      (fun t => term (iblk m c 0 t) (iblk m c 1 t)) (scratch_first m c) (scratch_later m c) t h7 (ix2 a b)).trans ?_
    have e : (((View.whole main_v0).slice (win0_2.rect t)).emb (ix3 0 a b)) = ix3 ⟨t.val / 8 + 2, by omega⟩ a b := by blk_ext [i2 t]
    rw [e, zero_add]
    show _ = outAt _ _ _ _ _ _
    unfold outAt
    rw [if_neg (by show ¬(t.val / 8 + 2 < 2); omega)]
    rw [Sums.blocks (p := 8) (s := 1024) rfl (fun q k => by omega)]
    refine Finset.sum_congr rfl fun q _ => Finset.sum_congr rfl fun k _ => ?_
    refine congrArg₂ (· * ·) ((x0_at m c ⟨8 * (t.val / 8) + q.val, by have : cfg0.N = 16 := rfl; omega⟩ k a).trans ?_) ((x1_at m c ⟨8 * (t.val / 8) + q.val, by have : cfg0.N = 16 := rfl; omega⟩ k b).trans ?_) <;> blk_ext
  · obtain ⟨s, a, b, rfl⟩ : ∃ (s : Fin 4) (a : Fin 1024) (b : Fin 1408), j = ix3 s a b := ⟨j 0, j 1, j 2, eq_ix3 j⟩
    blk_simp [Pipeline.Window.cell_apply] at hj
    have hs : s.val < 2 := by rw [Nat.div_one] at hj; omega
    exact (V_main_v0 m c s a b).trans (if_pos hs).symm

/-- The reference's value. -/
theorem ref (x0 : Vec Ideal S8192x1024 .bf16) (x1 : Vec Ideal S8192x2816 .bf16) (x2 : Vec Ideal S4x1024x1408 .f32) : Cert.DwUpRefIdeal.Read.val_main_v9 (F := Ideal) x0 x1 x2 = out x0 x1 x2 := by
  funext i
  obtain ⟨s, a, b, rfl⟩ : ∃ (s : Fin 4) (a : Fin 1024) (b : Fin 1408), i = ix3 s a b := ⟨i 0, i 1, i 2, eq_ix3 i⟩
  pointwise [Cert.DwUpRefIdeal.Read.val_main_v9, Cert.DwUpRefIdeal.Read.val_main_v8, Cert.DwUpRefIdeal.Read.val_main_v7, Cert.DwUpRefIdeal.Read.val_main_v6, Cert.DwUpRefIdeal.Read.val_main_v5, Cert.DwUpRefIdeal.Read.val_main_v4, Cert.DwUpRefIdeal.Read.val_main_v3, Cert.DwUpRefIdeal.Read.val_main_v1, out, outAt]
  split
  · rfl
  · refine Finset.sum_congr rfl fun k _ => ?_
    rw [mul_comm]
    refine congrArg₂ (· * ·) rfl ?_
    blk_ext

/-- From equal arguments the kernel and the reference return the same array over the extended reals. -/
theorem algebraic : Cert.algebraic_DwUpIdeal_DwUpRefIdeal := by
  intro m ρ m' ρ' _ hagree
  refine ⟨fun c => out (m ((c : Thread nD τ).loc main_arg0)) (m ((c : Thread nD τ).loc main_arg1)) (m ((c : Thread nD τ).loc main_arg2)), ?_, ?_⟩
  · exact (θ_run Cert.DwUpIdeal.defs _ _).mono (fun r h c => ⟨(h c).1.trans (arr m c), (h c).2⟩) (Cert.DwUpIdeal.Value.run_blocks m ρ)
  · refine (θ_run Cert.DwUpRefIdeal.defs _ _).mono (fun r h c => ⟨(h c).1.trans ?_, (h c).2⟩) (Cert.DwUpRefIdeal.Value.run m' ρ')
    obtain ⟨h0, h1, h2⟩ := hagree c
    exact (ref _ _ _).trans (by rw [h0, h1, h2])

/-- The reference terminates with its arguments unchanged; it declares no semaphore. -/
theorem frame_reference : Cert.quiescent_DwUpRefIdeal := fun m ρ _ =>
  (θ_run Cert.DwUpRefIdeal.defs _ _).mono
    (fun r h => ⟨fun c => (h c).2, sem_eq_zero_of_no_sems rfl r.2⟩) (Cert.DwUpRefIdeal.Value.run m ρ)

end Cert.DwUpIdeal.Matrix

end
-- ==== Proof.DwUpGate.lean ====
/- The matrix product `dw_up_gate`, the first half of the gradient of the up projection's weight: the kernel adds the products of eight pairs of blocks of rows up in a scratch and writes the first two slabs of four, leaving the last two as given; the reference computes the same sums over the extended reals. -/
module

public import proofs.«01_k».proof.Defs
public import proofs.«01_k».proof.Proof.Gen.DwUpGateIdeal.Value
public import proofs.«01_k».proof.Proof.Gen.DwUpGateRefIdeal.Read
public import proofs.«01_k».proof.Proof.Gen.DwUpGateRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DwUpGateIdeal.Matrix

open Cert.DwUpGateIdeal Cert.DwUpGateIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val % 8, 0] := by decide +kernel
theorem i1 : ∀ t : Fin cfg0.N, win0_1.index t = ![t.val % 8, t.val / 8] := by decide +kernel
theorem i2 : ∀ t : Fin cfg0.N, win0_2.index t = ![t.val / 8, 0, 0] := by decide +kernel

theorem fst_of {α β : Type} {x : α × β} {a : α} {b : β} (e : x = (a, b)) : x.1 = a := by rw [e]
theorem snd_of {α β : Type} {x : α × β} {a : α} {b : β} (e : x = (a, b)) : x.2 = b := by rw [e]

/-- The product of a point's two blocks. -/
def term (x0 : Vec Ideal S1024x1024 .bf16) (x1 : Vec Ideal S1024x1408 .bf16) (i : S1024x1408.Idx) : EReal :=
  ∑ k : Fin 1024, x0 (ix2 k (i 0)) * x1 (ix2 k (i 1))

theorem pay_first (x0 : Vec Ideal S1024x1024 .bf16) (x1 : Vec Ideal S1024x1408 .bf16) (i : S1024x1408.Idx) :
    k0_pay2 x0 x1 i = 0 + term x0 x1 i := by
  obtain ⟨a, b, rfl⟩ : ∃ (a : Fin 1024) (b : Fin 1408), i = ix2 a b := ⟨i 0, i 1, eq_ix2 i⟩
  rw [zero_add]
  pointwise [k0_pay2, k0_pay1, term]
theorem pay_later (x0 : Vec Ideal S1024x1024 .bf16) (x1 : Vec Ideal S1024x1408 .bf16) (xs : Vec Ideal S1024x1408 .f32) (i : S1024x1408.Idx) :
    k0_pay3 x0 x1 xs i = xs i + term x0 x1 i := by
  obtain ⟨a, b, rfl⟩ : ∃ (a : Fin 1024) (b : Fin 1408), i = ix2 a b := ⟨i 0, i 1, eq_ix2 i⟩
  pointwise [k0_pay3, k0_pay1, term]
theorem pay_out (x : Vec Ideal S1024x1408 .f32) (a : Fin 1024) (b : Fin 1408) : k0_pay4 x (ix3 0 a b) = x (ix2 a b) := by
  pointwise [k0_pay4]

/-- The scratch after the first point of a run of eight. -/
theorem scratch_first (t : Fin cfg0.N) (h : t.val % 8 = 0) (i : S1024x1408.Idx) :
    (outsAt0 m c t.val t.isLt).2 i = 0 + term (iblk m c 0 t) (iblk m c 1 t) i := by
  refine (congrFun (snd_of (outsAt0_A m c t h (by omega) (by omega))) i).trans ?_
  frame_out
  exact pay_first (iblk m c 0 t) (iblk m c 1 t) i
/-- The scratch after a later point of a run of eight. -/
theorem scratch_later (t : Fin cfg0.N) (h : ¬t.val % 8 = 0) (i : S1024x1408.Idx) :
    (outsAt0 m c t.val t.isLt).2 i = (outsAt0 m c (t.val - 1) (Nat.lt_of_le_of_lt (Nat.sub_le _ _) t.isLt)).2 i + term (iblk m c 0 t) (iblk m c 1 t) i := by
  by_cases h7 : t.val % 8 = 7
  · refine (congrFun (snd_of (outsAt0_C m c t h (by omega) h7)) i).trans ?_
    frame_out
    simp only [read_unread_whole]
    exact pay_later (iblk m c 0 t) (iblk m c 1 t) _ i
  · refine (congrFun (snd_of (outsAt0_B m c t h (by omega) h7)) i).trans ?_
    frame_out
    simp only [read_unread_whole]
    exact pay_later (iblk m c 0 t) (iblk m c 1 t) _ i
/-- At the last point of a run the output is the scratch. -/
theorem out_last (t : Fin cfg0.N) (h : t.val % 8 = 7) (a : Fin 1024) (b : Fin 1408) :
    (outsAt0 m c t.val t.isLt).1 (ix3 0 a b) = (outsAt0 m c t.val t.isLt).2 (ix2 a b) := by
  refine (congrFun (fst_of (outsAt0_C m c t (by omega) (by omega) h)) (ix3 0 a b)).trans (Eq.trans ?_ (congrFun (snd_of (outsAt0_C m c t (by omega) (by omega) h)) (ix2 a b)).symm)
  frame_out
  exact pay_out ..

/-- What both sides compute, at an index: the product in the first two slabs, the last two as given. -/
def outAt (x0 : Vec Ideal S8192x1024 .bf16) (x1 : Vec Ideal S8192x2816 .bf16) (x2 : Vec Ideal S4x1024x1408 .f32) (s : Fin 4) (a : Fin 1024) (b : Fin 1408) : EReal :=
  if h : s.val < 2 then ∑ k : Fin 8192, x0 (ix2 k a) * x1 (ix2 k ⟨1408 * s.val + b.val, by omega⟩) else x2 (ix3 s a b)
/-- What both sides compute. -/
def out (x0 : Vec Ideal S8192x1024 .bf16) (x1 : Vec Ideal S8192x2816 .bf16) (x2 : Vec Ideal S4x1024x1408 .f32) : Vec Ideal S4x1024x1408 .f32 :=
  fun i => outAt x0 x1 x2 (i 0) (i 1) (i 2)

theorem x0_at (t : Fin cfg0.N) (k : Fin 1024) (a : Fin 1024) : (iblk m c 0 t : Vec Ideal S1024x1024 .bf16) (ix2 k a) =
    m ((c : Thread nD τ).loc main_arg0) (ix2 ⟨1024 * (t.val % 8) + k.val, by omega⟩ a) := by
  have := t.isLt
  blk_ext [iblk, V_main_arg0, i0 t]
theorem x1_at (t : Fin cfg0.N) (k : Fin 1024) (b : Fin 1408) : (iblk m c 1 t : Vec Ideal S1024x1408 .bf16) (ix2 k b) =
    m ((c : Thread nD τ).loc main_arg1) (ix2 ⟨1024 * (t.val % 8) + k.val, by omega⟩ ⟨1408 * (t.val / 8) + b.val, by have : t.val < 16 := t.isLt; omega⟩) := by
  have := t.isLt
  blk_ext [iblk, V_main_arg1, i1 t]

/-- The output starts as a copy of the third argument. -/
theorem V_main_v0 (s : Fin 4) (a : Fin 1024) (b : Fin 1408) : V m c main_v0 (ix3 s a b) = m ((c : Thread nD τ).loc main_arg2) (ix3 s a b) := by
  entry_read
  rfl

/-- The array the run leaves. -/
theorem arr : (dats m 0 c).arrAt 2 cfg0.N = out (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) < 2) (by decide +kernel) (fun t hf y => ?_) (fun j hj => ?_)
  · blk_simp
    rw [after0_2]
    have h7 := (flush0_2 t).mp hf
    have ht : t.val < 16 := t.isLt
    obtain ⟨z, a, b, rfl⟩ : ∃ (z : Fin 1) (a : Fin 1024) (b : Fin 1408), y = ix3 z a b := ⟨y 0, y 1, y 2, eq_ix3 y⟩
    obtain rfl : z = 0 := Fin.fin_one_eq_zero z
    refine (out_last m c t h7 a b).trans ?_
    refine (Pipeline.eq_sum_fin_of_reset_step_apply_of_flush (fun n h => (outsAt0 m c n h).2) 8 (fun _ => (0 : EReal))
      (fun t => term (iblk m c 0 t) (iblk m c 1 t)) (scratch_first m c) (scratch_later m c) t h7 (ix2 a b)).trans ?_
    have e : (((View.whole main_v0).slice (win0_2.rect t)).emb (ix3 0 a b)) = ix3 ⟨t.val / 8, by omega⟩ a b := by blk_ext [i2 t]
    rw [e, zero_add]
    show _ = outAt _ _ _ (⟨t.val / 8, by omega⟩ : Fin 4) a b
    unfold outAt
    rw [dif_pos (show t.val / 8 < 2 by omega)]
    rw [Sums.blocks (p := 8) (s := 1024) rfl (fun q k => by omega)]
    refine Finset.sum_congr rfl fun q _ => Finset.sum_congr rfl fun k _ => ?_
    refine congrArg₂ (· * ·) ((x0_at m c ⟨8 * (t.val / 8) + q.val, by have : cfg0.N = 16 := rfl; omega⟩ k a).trans ?_) ((x1_at m c ⟨8 * (t.val / 8) + q.val, by have : cfg0.N = 16 := rfl; omega⟩ k b).trans ?_) <;> blk_ext
  · obtain ⟨s, a, b, rfl⟩ : ∃ (s : Fin 4) (a : Fin 1024) (b : Fin 1408), j = ix3 s a b := ⟨j 0, j 1, j 2, eq_ix3 j⟩
    blk_simp [Pipeline.Window.cell_apply] at hj
    have hs : ¬s.val < 2 := by rw [Nat.div_one] at hj; omega
    show _ = outAt _ _ _ s a b
    unfold outAt
    rw [dif_neg hs]
    exact V_main_v0 m c s a b

/-- The reference's value. -/
theorem ref (x0 : Vec Ideal S8192x1024 .bf16) (x1 : Vec Ideal S8192x2816 .bf16) (x2 : Vec Ideal S4x1024x1408 .f32) : Cert.DwUpGateRefIdeal.Read.val_main_v9 (F := Ideal) x0 x1 x2 = out x0 x1 x2 := by
  funext i
  obtain ⟨s, a, b, rfl⟩ : ∃ (s : Fin 4) (a : Fin 1024) (b : Fin 1408), i = ix3 s a b := ⟨i 0, i 1, i 2, eq_ix3 i⟩
  pointwise [Cert.DwUpGateRefIdeal.Read.val_main_v9, Cert.DwUpGateRefIdeal.Read.val_main_v8, Cert.DwUpGateRefIdeal.Read.val_main_v7, Cert.DwUpGateRefIdeal.Read.val_main_v6, Cert.DwUpGateRefIdeal.Read.val_main_v5, Cert.DwUpGateRefIdeal.Read.val_main_v4, Cert.DwUpGateRefIdeal.Read.val_main_v3, Cert.DwUpGateRefIdeal.Read.val_main_v1, out, outAt]
  split
  swap
  · refine congrArg x2 ?_
    blk_ext
  · refine Finset.sum_congr rfl fun k _ => ?_
    rw [mul_comm]
    refine congrArg₂ (· * ·) rfl ?_
    blk_ext

/-- From equal arguments the kernel and the reference return the same array over the extended reals. -/
theorem algebraic : Cert.algebraic_DwUpGateIdeal_DwUpGateRefIdeal := by
  intro m ρ m' ρ' _ hagree
  refine ⟨fun c => out (m ((c : Thread nD τ).loc main_arg0)) (m ((c : Thread nD τ).loc main_arg1)) (m ((c : Thread nD τ).loc main_arg2)), ?_, ?_⟩
  · exact (θ_run Cert.DwUpGateIdeal.defs _ _).mono (fun r h c => ⟨(h c).1.trans (arr m c), (h c).2⟩) (Cert.DwUpGateIdeal.Value.run_blocks m ρ)
  · refine (θ_run Cert.DwUpGateRefIdeal.defs _ _).mono (fun r h c => ⟨(h c).1.trans ?_, (h c).2⟩) (Cert.DwUpGateRefIdeal.Value.run m' ρ')
    obtain ⟨h0, h1, h2⟩ := hagree c
    exact (ref _ _ _).trans (by rw [h0, h1, h2])

/-- The reference terminates with its arguments unchanged; it declares no semaphore. -/
theorem frame_reference : Cert.quiescent_DwUpGateRefIdeal := fun m ρ _ =>
  (θ_run Cert.DwUpGateRefIdeal.defs _ _).mono
    (fun r h => ⟨fun c => (h c).2, sem_eq_zero_of_no_sems rfl r.2⟩) (Cert.DwUpGateRefIdeal.Value.run m ρ)

end Cert.DwUpGateIdeal.Matrix

end
-- ==== Proof.Proj.lean ====
/- The matrix product `proj`: the kernel, a block of the result at every point of its grid, and the reference compute the same sums over the extended reals. -/
module

public import proofs.«01_k».proof.Defs
public import proofs.«01_k».proof.Proof.Gen.ProjIdeal.Value
public import proofs.«01_k».proof.Proof.Gen.ProjRefIdeal.Read
public import proofs.«01_k».proof.Proof.Gen.ProjRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.ProjIdeal.Matrix

open Cert.ProjIdeal Cert.ProjIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val / 5, 0] := by decide +kernel
theorem i1 : ∀ t : Fin cfg0.N, win0_1.index t = ![0, t.val % 5] := by decide +kernel
theorem i2 : ∀ t : Fin cfg0.N, win0_2.index t = ![t.val / 5, t.val % 5] := by decide +kernel

/-- What a point writes, at an index: the product of its two blocks. -/
theorem pay (x0 : Vec Ideal S2048x1024 .bf16) (x1 : Vec Ideal S1024x768 .bf16) (a : Fin 2048) (b : Fin 768) :
    k0_pay1 x0 x1 (ix2 a b) = ∑ k : Fin 1024, x0 (ix2 a k) * x1 (ix2 k b) := by
  pointwise [k0_pay1]

/-- The product both sides compute. -/
def out (x0 : Vec Ideal S8192x1024 .bf16) (x1 : Vec Ideal S1024x3840 .f32) : Vec Ideal S8192x3840 .f32 :=
  fun i => ∑ k : Fin 1024, x0 (ix2 (i 0) k) * x1 (ix2 k (i 1))

theorem V_main_v0 (a : Fin 1024) (b : Fin 3840) : V m c main_v0 (ix2 a b) = m ((c : Thread nD τ).loc main_arg1) (ix2 a b) := by
  entry_read; pointwise

/-- The block of the left factor a point reads. -/
theorem x0_at (t : Fin cfg0.N) (a : Fin 2048) (b : Fin 1024) : (iblk m c 0 t : Vec Ideal S2048x1024 .bf16) (ix2 a b) =
    m ((c : Thread nD τ).loc main_arg0) (ix2 ⟨2048 * (t.val / 5) + a.val, by have : t.val < 20 := t.isLt; omega⟩ b) := by
  have := t.isLt
  blk_ext [iblk, V_main_arg0, i0 t]
/-- The block of the right factor a point reads. -/
theorem x1_at (t : Fin cfg0.N) (a : Fin 1024) (b : Fin 768) : (iblk m c 1 t : Vec Ideal S1024x768 .bf16) (ix2 a b) =
    m ((c : Thread nD τ).loc main_arg1) (ix2 a ⟨768 * (t.val % 5) + b.val, by omega⟩) := by
  have := t.isLt
  refine Eq.trans ?_ (V_main_v0 m c _ _)
  blk_ext [iblk, i1 t]

/-- The array the run leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have ht : t.val < 20 := t.isLt
  obtain ⟨a, b, rfl⟩ : ∃ (a : Fin 2048) (b : Fin 768), y = ix2 a b := ⟨y 0, y 1, eq_ix2 y⟩
  refine (pay (iblk m c 0 t) (iblk m c 1 t) a b).trans (Finset.sum_congr rfl fun k _ => ?_)
  rw [x0_at, x1_at]
  congr 1 <;> blk_ext [i2 t]

/-- The reference's value. -/
theorem ref (x0 : Vec Ideal S8192x1024 .bf16) (x1 : Vec Ideal S1024x3840 .f32) : Cert.ProjRefIdeal.Read.val_main_v1 (F := Ideal) x0 x1 = out x0 x1 := by
  funext i
  obtain ⟨a, b, rfl⟩ : ∃ (a : Fin 8192) (b : Fin 3840), i = ix2 a b := ⟨i 0, i 1, eq_ix2 i⟩
  pointwise [Cert.ProjRefIdeal.Read.val_main_v1, Cert.ProjRefIdeal.Read.val_main_v0, out]

/-- From equal arguments the kernel and the reference return the same array over the extended reals. -/
theorem algebraic : Cert.algebraic_ProjIdeal_ProjRefIdeal := by
  intro m ρ m' ρ' _ hagree
  refine ⟨fun c => out (m ((c : Thread nD τ).loc main_arg0)) (m ((c : Thread nD τ).loc main_arg1)), ?_, ?_⟩
  · exact (θ_run Cert.ProjIdeal.defs _ _).mono (fun r h c => ⟨(h c).1.trans (arr m c), (h c).2⟩) (Cert.ProjIdeal.Value.run_blocks m ρ)
  · refine (θ_run Cert.ProjRefIdeal.defs _ _).mono (fun r h c => ⟨(h c).1.trans ?_, (h c).2⟩) (Cert.ProjRefIdeal.Value.run m' ρ')
    obtain ⟨h0, h1⟩ := hagree c
    exact (ref _ _).trans (by rw [h0, h1])

/-- The reference terminates with its arguments unchanged; it declares no semaphore. -/
theorem frame_reference : Cert.quiescent_ProjRefIdeal := fun m ρ _ =>
  (θ_run Cert.ProjRefIdeal.defs _ _).mono
    (fun r h => ⟨fun c => (h c).2, sem_eq_zero_of_no_sems rfl r.2⟩) (Cert.ProjRefIdeal.Value.run m ρ)

end Cert.ProjIdeal.Matrix

end
-- ==== Proof.Dh.lean ====
/- The matrix product `dh`: the kernel, a block of rows of the result at every point of its grid and a part of the left factor at a time, and the reference compute the same sums over the extended reals. -/
module

public import proofs.«01_k».proof.Defs
public import proofs.«01_k».proof.Proof.Gen.DhIdeal.Value
public import proofs.«01_k».proof.Proof.Gen.DhRefIdeal.Read
public import proofs.«01_k».proof.Proof.Gen.DhRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums

@[expose] public section

set_option maxRecDepth 16384

noncomputable section

namespace Cert.DhIdeal.Matrix

open Cert.DhIdeal Cert.DhIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel
theorem i7 : ∀ t : Fin cfg0.N, win0_7.index t = ![t.val, 0] := by decide +kernel
theorem i8 : ∀ t : Fin cfg0.N, win0_8.index t = ![t.val, 0] := by decide +kernel
theorem i9 : ∀ t : Fin cfg0.N, win0_9.index t = ![0, 0] := by decide +kernel
theorem i10 : ∀ t : Fin cfg0.N, win0_10.index t = ![0, 6] := by decide +kernel
theorem i11 : ∀ t : Fin cfg0.N, win0_11.index t = ![0, 7] := by decide +kernel
theorem i12 : ∀ t : Fin cfg0.N, win0_12.index t = ![0, 8] := by decide +kernel
theorem i13 : ∀ t : Fin cfg0.N, win0_13.index t = ![0, 9] := by decide +kernel
theorem i14 : ∀ t : Fin cfg0.N, win0_14.index t = ![0, 10] := by decide +kernel
theorem i15 : ∀ t : Fin cfg0.N, win0_15.index t = ![0, 11] := by decide +kernel
theorem i16 : ∀ t : Fin cfg0.N, win0_16.index t = ![0, 6] := by decide +kernel
theorem i17 : ∀ t : Fin cfg0.N, win0_17.index t = ![0, 14] := by decide +kernel
theorem i18 : ∀ t : Fin cfg0.N, win0_18.index t = ![t.val, 0] := by decide +kernel

/-- What a point writes, at an index: the products of its blocks, added up. -/
theorem pay (x0 : Vec Ideal S512x1536 .bf16) (w0 : Vec Ideal S1024x1536 .bf16) (x1 : Vec Ideal S512x256 .bf16) (w1 : Vec Ideal S1024x256 .bf16) (x2 : Vec Ideal S512x256 .bf16) (w2 : Vec Ideal S1024x256 .bf16) (x3 : Vec Ideal S512x256 .bf16) (w3 : Vec Ideal S1024x256 .bf16) (x4 : Vec Ideal S512x256 .bf16) (w4 : Vec Ideal S1024x256 .bf16) (x5 : Vec Ideal S512x256 .bf16) (w5 : Vec Ideal S1024x256 .bf16) (x6 : Vec Ideal S512x256 .bf16) (w6 : Vec Ideal S1024x256 .bf16) (x7 : Vec Ideal S512x512 .bf16) (w7 : Vec Ideal S1024x512 .bf16) (x8 : Vec Ideal S512x256 .bf16) (w8 : Vec Ideal S1024x256 .bf16) (a : Fin 512) (b : Fin 1024) :
    k0_pay1 (k0_pay2 x0 w0 x1 w1 x2 w2 x3 w3 x4 w4 x5 w5) x6 w6 x7 w7 x8 w8 (ix2 a b) = (∑ k : Fin 1536, x0 (ix2 a k) * (w0 (ix2 b k))) + (∑ k : Fin 256, x1 (ix2 a k) * (w1 (ix2 b k))) + (∑ k : Fin 256, x2 (ix2 a k) * (w2 (ix2 b k))) + (∑ k : Fin 256, x3 (ix2 a k) * (w3 (ix2 b k))) + (∑ k : Fin 256, x4 (ix2 a k) * (w4 (ix2 b k))) + (∑ k : Fin 256, x5 (ix2 a k) * (w5 (ix2 b k))) + (∑ k : Fin 256, x6 (ix2 a k) * (w6 (ix2 b k))) + (∑ k : Fin 512, x7 (ix2 a k) * (w7 (ix2 b k))) + (∑ k : Fin 256, x8 (ix2 a k) * (w8 (ix2 b k))) := by
  pointwise [k0_pay1, k0_pay2]

/-- What both sides compute: the product of the parts, side by side, with the matrix, a part at a time. -/
def out (x0 : Vec Ideal S8192x1536 .bf16) (x1 : Vec Ideal S8192x256 .bf16) (x2 : Vec Ideal S8192x256 .bf16) (x3 : Vec Ideal S8192x256 .bf16) (x4 : Vec Ideal S8192x256 .bf16) (x5 : Vec Ideal S8192x256 .bf16) (x6 : Vec Ideal S8192x256 .bf16) (x7 : Vec Ideal S8192x512 .bf16) (x8 : Vec Ideal S8192x256 .bf16) (x9 : Vec Ideal S1024x3840 .f32) : Vec Ideal S8192x1024 .f32 :=
  fun i => (∑ k : Fin 1536, x0 (ix2 (i 0) k) * x9 (ix2 (i 1) ⟨k.val, by omega⟩)) + (∑ k : Fin 256, x1 (ix2 (i 0) k) * x9 (ix2 (i 1) ⟨1536 + k.val, by omega⟩)) + (∑ k : Fin 256, x2 (ix2 (i 0) k) * x9 (ix2 (i 1) ⟨1792 + k.val, by omega⟩)) + (∑ k : Fin 256, x3 (ix2 (i 0) k) * x9 (ix2 (i 1) ⟨2048 + k.val, by omega⟩)) + (∑ k : Fin 256, x4 (ix2 (i 0) k) * x9 (ix2 (i 1) ⟨2304 + k.val, by omega⟩)) + (∑ k : Fin 256, x5 (ix2 (i 0) k) * x9 (ix2 (i 1) ⟨2560 + k.val, by omega⟩)) + (∑ k : Fin 256, x6 (ix2 (i 0) k) * x9 (ix2 (i 1) ⟨2816 + k.val, by omega⟩)) + (∑ k : Fin 512, x7 (ix2 (i 0) k) * x9 (ix2 (i 1) ⟨3072 + k.val, by omega⟩)) + (∑ k : Fin 256, x8 (ix2 (i 0) k) * x9 (ix2 (i 1) ⟨3584 + k.val, by omega⟩))

theorem V_main_v0 (a : Fin 1024) (b : Fin 3840) : V m c main_v0 (ix2 a b) = m ((c : Thread nD τ).loc main_arg9) (ix2 a b) := by
  entry_read; pointwise

theorem x0_at (t : Fin cfg0.N) (a : Fin 512) (k : Fin 1536) : (iblk m c 0 t : Vec Ideal S512x1536 .bf16) (ix2 a k) =
    m ((c : Thread nD τ).loc main_arg0) (ix2 ⟨512 * t.val + a.val, by have : t.val < 16 := t.isLt; omega⟩ k) := by
  have := t.isLt
  blk_ext [iblk, V_main_arg0, i0 t]
theorem x1_at (t : Fin cfg0.N) (a : Fin 512) (k : Fin 256) : (iblk m c 1 t : Vec Ideal S512x256 .bf16) (ix2 a k) =
    m ((c : Thread nD τ).loc main_arg1) (ix2 ⟨512 * t.val + a.val, by have : t.val < 16 := t.isLt; omega⟩ k) := by
  have := t.isLt
  blk_ext [iblk, V_main_arg1, i1 t]
theorem x2_at (t : Fin cfg0.N) (a : Fin 512) (k : Fin 256) : (iblk m c 2 t : Vec Ideal S512x256 .bf16) (ix2 a k) =
    m ((c : Thread nD τ).loc main_arg2) (ix2 ⟨512 * t.val + a.val, by have : t.val < 16 := t.isLt; omega⟩ k) := by
  have := t.isLt
  blk_ext [iblk, V_main_arg2, i2 t]
theorem x3_at (t : Fin cfg0.N) (a : Fin 512) (k : Fin 256) : (iblk m c 3 t : Vec Ideal S512x256 .bf16) (ix2 a k) =
    m ((c : Thread nD τ).loc main_arg3) (ix2 ⟨512 * t.val + a.val, by have : t.val < 16 := t.isLt; omega⟩ k) := by
  have := t.isLt
  blk_ext [iblk, V_main_arg3, i3 t]
theorem x4_at (t : Fin cfg0.N) (a : Fin 512) (k : Fin 256) : (iblk m c 4 t : Vec Ideal S512x256 .bf16) (ix2 a k) =
    m ((c : Thread nD τ).loc main_arg4) (ix2 ⟨512 * t.val + a.val, by have : t.val < 16 := t.isLt; omega⟩ k) := by
  have := t.isLt
  blk_ext [iblk, V_main_arg4, i4 t]
theorem x5_at (t : Fin cfg0.N) (a : Fin 512) (k : Fin 256) : (iblk m c 5 t : Vec Ideal S512x256 .bf16) (ix2 a k) =
    m ((c : Thread nD τ).loc main_arg5) (ix2 ⟨512 * t.val + a.val, by have : t.val < 16 := t.isLt; omega⟩ k) := by
  have := t.isLt
  blk_ext [iblk, V_main_arg5, i5 t]
theorem x6_at (t : Fin cfg0.N) (a : Fin 512) (k : Fin 256) : (iblk m c 6 t : Vec Ideal S512x256 .bf16) (ix2 a k) =
    m ((c : Thread nD τ).loc main_arg6) (ix2 ⟨512 * t.val + a.val, by have : t.val < 16 := t.isLt; omega⟩ k) := by
  have := t.isLt
  blk_ext [iblk, V_main_arg6, i6 t]
theorem x7_at (t : Fin cfg0.N) (a : Fin 512) (k : Fin 512) : (iblk m c 7 t : Vec Ideal S512x512 .bf16) (ix2 a k) =
    m ((c : Thread nD τ).loc main_arg7) (ix2 ⟨512 * t.val + a.val, by have : t.val < 16 := t.isLt; omega⟩ k) := by
  have := t.isLt
  blk_ext [iblk, V_main_arg7, i7 t]
theorem x8_at (t : Fin cfg0.N) (a : Fin 512) (k : Fin 256) : (iblk m c 8 t : Vec Ideal S512x256 .bf16) (ix2 a k) =
    m ((c : Thread nD τ).loc main_arg8) (ix2 ⟨512 * t.val + a.val, by have : t.val < 16 := t.isLt; omega⟩ k) := by
  have := t.isLt
  blk_ext [iblk, V_main_arg8, i8 t]
theorem w0_at (t : Fin cfg0.N) (b : Fin 1024) (k : Fin 1536) : (X0_9 m c t : Vec Ideal S1024x1536 .bf16) (ix2 b k) =
    m ((c : Thread nD τ).loc main_arg9) (ix2 b ⟨k.val, by omega⟩) := by
  refine Eq.trans ?_ (V_main_v0 m c _ _)
  unfold X0_9 Pipeline.Window.fill
  rw [dif_pos (moved0_9 t _)]
  blk_ext [iblk, i9 t]
theorem w1_at (t : Fin cfg0.N) (b : Fin 1024) (k : Fin 256) : (iblk m c 10 t : Vec Ideal S1024x256 .bf16) (ix2 b k) =
    m ((c : Thread nD τ).loc main_arg9) (ix2 b ⟨1536 + k.val, by omega⟩) := by
  refine Eq.trans ?_ (V_main_v0 m c _ _)
  blk_ext [iblk, i10 t]
theorem w2_at (t : Fin cfg0.N) (b : Fin 1024) (k : Fin 256) : (iblk m c 11 t : Vec Ideal S1024x256 .bf16) (ix2 b k) =
    m ((c : Thread nD τ).loc main_arg9) (ix2 b ⟨1792 + k.val, by omega⟩) := by
  refine Eq.trans ?_ (V_main_v0 m c _ _)
  blk_ext [iblk, i11 t]
theorem w3_at (t : Fin cfg0.N) (b : Fin 1024) (k : Fin 256) : (iblk m c 12 t : Vec Ideal S1024x256 .bf16) (ix2 b k) =
    m ((c : Thread nD τ).loc main_arg9) (ix2 b ⟨2048 + k.val, by omega⟩) := by
  refine Eq.trans ?_ (V_main_v0 m c _ _)
  blk_ext [iblk, i12 t]
theorem w4_at (t : Fin cfg0.N) (b : Fin 1024) (k : Fin 256) : (iblk m c 13 t : Vec Ideal S1024x256 .bf16) (ix2 b k) =
    m ((c : Thread nD τ).loc main_arg9) (ix2 b ⟨2304 + k.val, by omega⟩) := by
  refine Eq.trans ?_ (V_main_v0 m c _ _)
  blk_ext [iblk, i13 t]
theorem w5_at (t : Fin cfg0.N) (b : Fin 1024) (k : Fin 256) : (iblk m c 14 t : Vec Ideal S1024x256 .bf16) (ix2 b k) =
    m ((c : Thread nD τ).loc main_arg9) (ix2 b ⟨2560 + k.val, by omega⟩) := by
  refine Eq.trans ?_ (V_main_v0 m c _ _)
  blk_ext [iblk, i14 t]
theorem w6_at (t : Fin cfg0.N) (b : Fin 1024) (k : Fin 256) : (iblk m c 15 t : Vec Ideal S1024x256 .bf16) (ix2 b k) =
    m ((c : Thread nD τ).loc main_arg9) (ix2 b ⟨2816 + k.val, by omega⟩) := by
  refine Eq.trans ?_ (V_main_v0 m c _ _)
  blk_ext [iblk, i15 t]
theorem w7_at (t : Fin cfg0.N) (b : Fin 1024) (k : Fin 512) : (X0_16 m c t : Vec Ideal S1024x512 .bf16) (ix2 b k) =
    m ((c : Thread nD τ).loc main_arg9) (ix2 b ⟨3072 + k.val, by omega⟩) := by
  refine Eq.trans ?_ (V_main_v0 m c _ _)
  unfold X0_16 Pipeline.Window.fill
  rw [dif_pos (moved0_16 t _)]
  blk_ext [iblk, i16 t]
theorem w8_at (t : Fin cfg0.N) (b : Fin 1024) (k : Fin 256) : (iblk m c 17 t : Vec Ideal S1024x256 .bf16) (ix2 b k) =
    m ((c : Thread nD τ).loc main_arg9) (ix2 b ⟨3584 + k.val, by omega⟩) := by
  refine Eq.trans ?_ (V_main_v0 m c _ _)
  blk_ext [iblk, i17 t]

/-- The array the run leaves. -/
theorem arr : (dats m 0 c).arrAt 18 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 18 _ (by decide +kernel) fun t hf y => ?_
  blk_simp
  rw [after0_18]
  unfold outsAt0
  frame_out
  have ht : t.val < 16 := t.isLt
  obtain ⟨a, b, rfl⟩ : ∃ (a : Fin 512) (b : Fin 1024), y = ix2 a b := ⟨y 0, y 1, eq_ix2 y⟩
  refine (pay (iblk m c 0 t) (X0_9 m c t) (iblk m c 1 t) (iblk m c 10 t) (iblk m c 2 t) (iblk m c 11 t) (iblk m c 3 t) (iblk m c 12 t) (iblk m c 4 t) (iblk m c 13 t) (iblk m c 5 t) (iblk m c 14 t) (iblk m c 6 t) (iblk m c 15 t) (iblk m c 7 t) (X0_16 m c t) (iblk m c 8 t) (iblk m c 17 t) a b).trans ?_
  simp only [x0_at, w0_at, x1_at, w1_at, x2_at, w2_at, x3_at, w3_at, x4_at, w4_at, x5_at, w5_at, x6_at, w6_at, x7_at, w7_at, x8_at, w8_at]
  have e : (((View.whole main_v1).slice (win0_18.rect t)).emb (ix2 a b)) = ix2 ⟨512 * t.val + a.val, by omega⟩ b := by blk_ext [i18 t]
  rw [e]; rfl

/-- The reference's value. -/
theorem ref (x0 : Vec Ideal S8192x1536 .bf16) (x1 : Vec Ideal S8192x256 .bf16) (x2 : Vec Ideal S8192x256 .bf16) (x3 : Vec Ideal S8192x256 .bf16) (x4 : Vec Ideal S8192x256 .bf16) (x5 : Vec Ideal S8192x256 .bf16) (x6 : Vec Ideal S8192x256 .bf16) (x7 : Vec Ideal S8192x512 .bf16) (x8 : Vec Ideal S8192x256 .bf16) (x9 : Vec Ideal S1024x3840 .f32) : Cert.DhRefIdeal.Read.val_main_v4 (F := Ideal) x0 x1 x2 x3 x4 x5 x6 x7 x8 x9 = out x0 x1 x2 x3 x4 x5 x6 x7 x8 x9 := by
  funext i
  obtain ⟨a, b, rfl⟩ : ∃ (a : Fin 8192) (b : Fin 1024), i = ix2 a b := ⟨i 0, i 1, eq_ix2 i⟩
  pointwise [Cert.DhRefIdeal.Read.val_main_v0, Cert.DhRefIdeal.Read.val_main_v1, Cert.DhRefIdeal.Read.val_main_v4]
  refine (Sums.two (a := 3584) (b := 256) rfl _).trans (congrArg₂ (· + ·) ?_ (Finset.sum_congr rfl fun k _ => ?_))
  swap
  · have := k.isLt
    dsimp only
    refine congrArg₂ (· * ·) ?_ rfl
    rw [dif_neg (by omega), dif_neg (by omega), dif_neg (by omega), dif_neg (by omega), dif_neg (by omega), dif_neg (by omega), dif_neg (by omega), dif_neg (by omega)]
    exact congrArg (fun j => x8 (ix2 a j)) (Fin.ext (by show 3584 + k.val - 1536 - 256 - 256 - 256 - 256 - 256 - 256 - 512 = k.val; omega))
  refine (Sums.two (a := 3072) (b := 512) rfl _).trans (congrArg₂ (· + ·) ?_ (Finset.sum_congr rfl fun k _ => ?_))
  swap
  · have := k.isLt
    dsimp only
    refine congrArg₂ (· * ·) ?_ rfl
    rw [dif_neg (by omega), dif_neg (by omega), dif_neg (by omega), dif_neg (by omega), dif_neg (by omega), dif_neg (by omega), dif_neg (by omega), dif_pos (by omega)]
    exact congrArg (fun j => x7 (ix2 a j)) (Fin.ext (by show 3072 + k.val - 1536 - 256 - 256 - 256 - 256 - 256 - 256 = k.val; omega))
  refine (Sums.two (a := 2816) (b := 256) rfl _).trans (congrArg₂ (· + ·) ?_ (Finset.sum_congr rfl fun k _ => ?_))
  swap
  · have := k.isLt
    dsimp only
    refine congrArg₂ (· * ·) ?_ rfl
    rw [dif_neg (by omega), dif_neg (by omega), dif_neg (by omega), dif_neg (by omega), dif_neg (by omega), dif_neg (by omega), dif_pos (by omega)]
    exact congrArg (fun j => x6 (ix2 a j)) (Fin.ext (by show 2816 + k.val - 1536 - 256 - 256 - 256 - 256 - 256 = k.val; omega))
  refine (Sums.two (a := 2560) (b := 256) rfl _).trans (congrArg₂ (· + ·) ?_ (Finset.sum_congr rfl fun k _ => ?_))
  swap
  · have := k.isLt
    dsimp only
    refine congrArg₂ (· * ·) ?_ rfl
    rw [dif_neg (by omega), dif_neg (by omega), dif_neg (by omega), dif_neg (by omega), dif_neg (by omega), dif_pos (by omega)]
    exact congrArg (fun j => x5 (ix2 a j)) (Fin.ext (by show 2560 + k.val - 1536 - 256 - 256 - 256 - 256 = k.val; omega))
  refine (Sums.two (a := 2304) (b := 256) rfl _).trans (congrArg₂ (· + ·) ?_ (Finset.sum_congr rfl fun k _ => ?_))
  swap
  · have := k.isLt
    dsimp only
    refine congrArg₂ (· * ·) ?_ rfl
    rw [dif_neg (by omega), dif_neg (by omega), dif_neg (by omega), dif_neg (by omega), dif_pos (by omega)]
    exact congrArg (fun j => x4 (ix2 a j)) (Fin.ext (by show 2304 + k.val - 1536 - 256 - 256 - 256 = k.val; omega))
  refine (Sums.two (a := 2048) (b := 256) rfl _).trans (congrArg₂ (· + ·) ?_ (Finset.sum_congr rfl fun k _ => ?_))
  swap
  · have := k.isLt
    dsimp only
    refine congrArg₂ (· * ·) ?_ rfl
    rw [dif_neg (by omega), dif_neg (by omega), dif_neg (by omega), dif_pos (by omega)]
    exact congrArg (fun j => x3 (ix2 a j)) (Fin.ext (by show 2048 + k.val - 1536 - 256 - 256 = k.val; omega))
  refine (Sums.two (a := 1792) (b := 256) rfl _).trans (congrArg₂ (· + ·) ?_ (Finset.sum_congr rfl fun k _ => ?_))
  swap
  · have := k.isLt
    dsimp only
    refine congrArg₂ (· * ·) ?_ rfl
    rw [dif_neg (by omega), dif_neg (by omega), dif_pos (by omega)]
    exact congrArg (fun j => x2 (ix2 a j)) (Fin.ext (by show 1792 + k.val - 1536 - 256 = k.val; omega))
  refine (Sums.two (a := 1536) (b := 256) rfl _).trans (congrArg₂ (· + ·) ?_ (Finset.sum_congr rfl fun k _ => ?_))
  swap
  · have := k.isLt
    dsimp only
    refine congrArg₂ (· * ·) ?_ rfl
    rw [dif_neg (by omega), dif_pos (by omega)]
    exact congrArg (fun j => x1 (ix2 a j)) (Fin.ext (by show 1536 + k.val - 1536 = k.val; omega))
  refine Finset.sum_congr rfl fun k _ => ?_
  dsimp only
  rw [dif_pos k.isLt]
  rfl

/-- From equal arguments the kernel and the reference return the same array over the extended reals. -/
theorem algebraic : Cert.algebraic_DhIdeal_DhRefIdeal := by
  intro m ρ m' ρ' _ hagree
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)), ?_, ?_⟩
  · exact (θ_run Cert.DhIdeal.defs _ _).mono (fun r h c => ⟨(h c).1.trans (arr m c), (h c).2⟩) (Cert.DhIdeal.Value.run_blocks m ρ)
  · refine (θ_run Cert.DhRefIdeal.defs _ _).mono (fun r h c => ⟨(h c).1.trans ?_, (h c).2⟩) (Cert.DhRefIdeal.Value.run m' ρ')
    obtain ⟨h0, h1, h2, h3, h4, h5, h6, h7, h8, h9⟩ := hagree c
    exact (ref _ _ _ _ _ _ _ _ _ _).trans (by rw [h0, h1, h2, h3, h4, h5, h6, h7, h8, h9])

/-- The reference terminates with its arguments unchanged; it declares no semaphore. -/
theorem frame_reference : Cert.quiescent_DhRefIdeal := fun m ρ _ =>
  (θ_run Cert.DhRefIdeal.defs _ _).mono
    (fun r h => ⟨fun c => (h c).2, sem_eq_zero_of_no_sems rfl r.2⟩) (Cert.DhRefIdeal.Value.run m ρ)

end Cert.DhIdeal.Matrix

end
-- ==== Proof.DwInA.lean ====
/- The matrix product `dw_in_a`, the gradient of the first columns of the input projection's weight: the kernel adds the products of eight pairs of blocks of rows up in its output, the four parts of the right factor side by side; the reference computes the same sums over the extended reals. -/
module

public import proofs.«01_k».proof.Defs
public import proofs.«01_k».proof.Proof.Gen.DwInAIdeal.Value
public import proofs.«01_k».proof.Proof.Gen.DwInARefIdeal.Read
public import proofs.«01_k».proof.Proof.Gen.DwInARefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DwInAIdeal.Matrix

open Cert.DwInAIdeal Cert.DwInAIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![0, 0] := by decide +kernel
/-- The last point of the grid. -/
def lastPoint : Fin cfg0.N := ⟨7, by decide⟩

/-- The parts of a row, side by side. -/
def side (f0 : Fin 1536 → EReal) (f1 : Fin 256 → EReal) (f2 : Fin 256 → EReal) (f3 : Fin 256 → EReal) (a : Fin 2304) : EReal :=
  if h0 : a.val < 1536 then f0 ⟨a.val - 0, by omega⟩ else if h1 : a.val < 1792 then f1 ⟨a.val - 1536, by omega⟩ else if h2 : a.val < 2048 then f2 ⟨a.val - 1792, by omega⟩ else f3 ⟨a.val - 2048, by omega⟩
theorem side_0 (f0 : Fin 1536 → EReal) (f1 : Fin 256 → EReal) (f2 : Fin 256 → EReal) (f3 : Fin 256 → EReal) (a : Fin 2304) (x : ℕ) (hx : x < 1536) (h : a.val = 0 + x) : side f0 f1 f2 f3 a = f0 ⟨x, hx⟩ := by
  unfold side
  rw [dif_pos (by omega : a.val < 1536)]
  exact congrArg f0 (Fin.ext (by show a.val - 0 = x; omega))
theorem side_1 (f0 : Fin 1536 → EReal) (f1 : Fin 256 → EReal) (f2 : Fin 256 → EReal) (f3 : Fin 256 → EReal) (a : Fin 2304) (x : ℕ) (hx : x < 256) (h : a.val = 1536 + x) : side f0 f1 f2 f3 a = f1 ⟨x, hx⟩ := by
  unfold side
  rw [dif_neg (by omega : ¬a.val < 1536), dif_pos (by omega : a.val < 1792)]
  exact congrArg f1 (Fin.ext (by show a.val - 1536 = x; omega))
theorem side_2 (f0 : Fin 1536 → EReal) (f1 : Fin 256 → EReal) (f2 : Fin 256 → EReal) (f3 : Fin 256 → EReal) (a : Fin 2304) (x : ℕ) (hx : x < 256) (h : a.val = 1792 + x) : side f0 f1 f2 f3 a = f2 ⟨x, hx⟩ := by
  unfold side
  rw [dif_neg (by omega : ¬a.val < 1536), dif_neg (by omega : ¬a.val < 1792), dif_pos (by omega : a.val < 2048)]
  exact congrArg f2 (Fin.ext (by show a.val - 1792 = x; omega))
theorem side_3 (f0 : Fin 1536 → EReal) (f1 : Fin 256 → EReal) (f2 : Fin 256 → EReal) (f3 : Fin 256 → EReal) (a : Fin 2304) (x : ℕ) (hx : x < 256) (h : a.val = 2048 + x) : side f0 f1 f2 f3 a = f3 ⟨x, hx⟩ := by
  unfold side
  rw [dif_neg (by omega : ¬a.val < 1536), dif_neg (by omega : ¬a.val < 1792), dif_neg (by omega : ¬a.val < 2048)]
  exact congrArg f3 (Fin.ext (by show a.val - 2048 = x; omega))

/-- The product of a point's blocks. -/
def term (x0 : Vec Ideal S1024x1024 .bf16) (x1 : Vec Ideal S1024x1536 .bf16) (x2 : Vec Ideal S1024x256 .bf16) (x3 : Vec Ideal S1024x256 .bf16) (x4 : Vec Ideal S1024x256 .bf16) (i : S1024x2304.Idx) : EReal :=
  ∑ k : Fin 1024, x0 (ix2 k (i 0)) * side (fun a => x1 (ix2 k a)) (fun a => x2 (ix2 k a)) (fun a => x3 (ix2 k a)) (fun a => x4 (ix2 k a)) (i 1)
/-- What both sides compute. -/
def out (x0 : Vec Ideal S8192x1024 .bf16) (x1 : Vec Ideal S8192x1536 .bf16) (x2 : Vec Ideal S8192x256 .bf16) (x3 : Vec Ideal S8192x256 .bf16) (x4 : Vec Ideal S8192x256 .bf16) : Vec Ideal S1024x2304 .f32 := fun i =>
  ∑ k : Fin 8192, x0 (ix2 k (i 0)) * side (fun a => x1 (ix2 k a)) (fun a => x2 (ix2 k a)) (fun a => x3 (ix2 k a)) (fun a => x4 (ix2 k a)) (i 1)

theorem first_0 (u : Vec Ideal S1024x1024 .bf16) (v : Vec Ideal S1024x1536 .bf16) (i : S1024x1536.Idx) : k0_pay3 u v i = ∑ k : Fin 1024, u (ix2 k (i 0)) * v (ix2 k (i 1)) := by
  obtain ⟨a, b, rfl⟩ : ∃ (a : Fin 1024) (b : Fin 1536), i = ix2 a b := ⟨i 0, i 1, eq_ix2 i⟩
  pointwise [k0_pay3]
theorem later_0 (u : Vec Ideal S1024x1024 .bf16) (v : Vec Ideal S1024x1536 .bf16) (o : Vec Ideal S1024x1536 .f32) (i : S1024x1536.Idx) : k0_pay4 u v o i = o i + ∑ k : Fin 1024, u (ix2 k (i 0)) * v (ix2 k (i 1)) := by
  obtain ⟨a, b, rfl⟩ : ∃ (a : Fin 1024) (b : Fin 1536), i = ix2 a b := ⟨i 0, i 1, eq_ix2 i⟩
  pointwise [k0_pay4, k0_pay3]
theorem first_1 (u : Vec Ideal S1024x1024 .bf16) (v : Vec Ideal S1024x256 .bf16) (i : S1024x256.Idx) : k0_pay5 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay5]
theorem later_1 (u : Vec Ideal S1024x1024 .bf16) (v : Vec Ideal S1024x256 .bf16) (o : Vec Ideal S1024x256 .f32) (i : S1024x256.Idx) : k0_pay6 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay6, k0_pay5]
theorem first_2 (u : Vec Ideal S1024x1024 .bf16) (v : Vec Ideal S1024x256 .bf16) (i : S1024x256.Idx) : k0_pay7 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay7]
theorem later_2 (u : Vec Ideal S1024x1024 .bf16) (v : Vec Ideal S1024x256 .bf16) (o : Vec Ideal S1024x256 .f32) (i : S1024x256.Idx) : k0_pay8 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay8, k0_pay7]
theorem first_3 (u : Vec Ideal S1024x1024 .bf16) (v : Vec Ideal S1024x256 .bf16) (i : S1024x256.Idx) : k0_pay1 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay1]
theorem later_3 (u : Vec Ideal S1024x1024 .bf16) (v : Vec Ideal S1024x256 .bf16) (o : Vec Ideal S1024x256 .f32) (i : S1024x256.Idx) : k0_pay2 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay2, k0_pay1]

/-- The stored parts tile the output: a value every part agrees with is the value read. -/
theorem pick (P0 : (⟨2, ![1024, 1536]⟩ : Shape).Idx → EReal) (P1 : (⟨2, ![1024, 256]⟩ : Shape).Idx → EReal) (P2 : (⟨2, ![1024, 256]⟩ : Shape).Idx → EReal) (P3 : (⟨2, ![1024, 256]⟩ : Shape).Idx → EReal) (i : S1024x2304.Idx) (v : EReal) (e0 : ∀ x : (⟨2, ![1024, 1536]⟩ : Shape).Idx, (i 0).val = (x 0).val → (i 1).val = 0 + (x 1).val → P0 x = v) (e1 : ∀ x : (⟨2, ![1024, 256]⟩ : Shape).Idx, (i 0).val = (x 0).val → (i 1).val = 1536 + (x 1).val → P1 x = v) (e2 : ∀ x : (⟨2, ![1024, 256]⟩ : Shape).Idx, (i 0).val = (x 0).val → (i 1).val = 1792 + (x 1).val → P2 x = v) (e3 : ∀ x : (⟨2, ![1024, 256]⟩ : Shape).Idx, (i 0).val = (x 0).val → (i 1).val = 2048 + (x 1).val → P3 x = v) :
    View.canon (Val := Elt Ideal) (s := S1024x2304) (e := .f32) [⟨Rect.unit ![0,2048] ![1024,256] (by decide), P3⟩, ⟨Rect.unit ![0,1792] ![1024,256] (by decide), P2⟩, ⟨Rect.unit ![0,1536] ![1024,256] (by decide), P1⟩, ⟨Rect.unit ![0,0] ![1024,1536] (by decide), P0⟩] i = v := by
  canon_tiles x hx using (View.cover_of_tiledBy _ ![1024, 256] (by sl_kernel_rfl) i)
  case piece0 => exact e3 x (by omega) (by omega)
  case piece1 => exact e2 x (by omega) (by omega)
  case piece2 => exact e1 x (by omega) (by omega)
  case piece3 => exact e0 x (by omega) (by omega)

/-- The output after the first point. -/
theorem outs_first (t : Fin cfg0.N) (h : t.val % 8 = 0) (i : S1024x2304.Idx) :
    outsAt0 m c t.val t.isLt i = 0 + term (iblk m c 0 t) (iblk m c 1 t) (iblk m c 2 t) (iblk m c 3 t) (iblk m c 4 t) i := by
  have h' : ¬1 ≤ t.val := by have : t.val < 8 := t.isLt; omega
  refine (congrFun (outsAt0_A m c t h h' h h' h h' h h') i).trans ?_
  frame_out
  refine pick _ _ _ _ _ _ ?_ ?_ ?_ ?_
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 1 t : Vec Ideal S1024x1536 .bf16) (ix2 k (x 1)) := fun k => side_0 _ _ _ _ _ _ (x 1).isLt (by omega)
    have ho : i 0 = (x 0) := Fin.ext (by omega)
    refine (first_0 _ _ x).trans ?_
    rw [zero_add]
    unfold term
    refine Finset.sum_congr rfl fun k _ => ?_
    rw [hs k, ho]
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 2 t : Vec Ideal S1024x256 .bf16) (ix2 k (x 1)) := fun k => side_1 _ _ _ _ _ _ (x 1).isLt (by omega)
    have ho : i 0 = (x 0) := Fin.ext (by omega)
    refine (first_1 _ _ x).trans ?_
    rw [zero_add]
    unfold term
    refine Finset.sum_congr rfl fun k _ => ?_
    rw [hs k, ho]
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 3 t : Vec Ideal S1024x256 .bf16) (ix2 k (x 1)) := fun k => side_2 _ _ _ _ _ _ (x 1).isLt (by omega)
    have ho : i 0 = (x 0) := Fin.ext (by omega)
    refine (first_2 _ _ x).trans ?_
    rw [zero_add]
    unfold term
    refine Finset.sum_congr rfl fun k _ => ?_
    rw [hs k, ho]
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 4 t : Vec Ideal S1024x256 .bf16) (ix2 k (x 1)) := fun k => side_3 _ _ _ _ _ _ (x 1).isLt (by omega)
    have ho : i 0 = (x 0) := Fin.ext (by omega)
    refine (first_3 _ _ x).trans ?_
    rw [zero_add]
    unfold term
    refine Finset.sum_congr rfl fun k _ => ?_
    rw [hs k, ho]

/-- The output after a later point. -/
theorem outs_later (t : Fin cfg0.N) (h : ¬t.val % 8 = 0) (i : S1024x2304.Idx) :
    outsAt0 m c t.val t.isLt i = outsAt0 m c (t.val - 1) (Nat.lt_of_le_of_lt (Nat.sub_le _ _) t.isLt) i + term (iblk m c 0 t) (iblk m c 1 t) (iblk m c 2 t) (iblk m c 3 t) (iblk m c 4 t) i := by
  have h' : 1 ≤ t.val := by omega
  refine (congrFun (outsAt0_B m c t h h' h h' h h' h h') i).trans ?_
  frame_out
  refine pick _ _ _ _ _ _ ?_ ?_ ?_ ?_
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 1 t : Vec Ideal S1024x1536 .bf16) (ix2 k (x 1)) := fun k => side_0 _ _ _ _ _ _ (x 1).isLt (by omega)
    have ho : i 0 = (x 0) := Fin.ext (by omega)
    refine (later_0 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 2 t : Vec Ideal S1024x256 .bf16) (ix2 k (x 1)) := fun k => side_1 _ _ _ _ _ _ (x 1).isLt (by omega)
    have ho : i 0 = (x 0) := Fin.ext (by omega)
    refine (later_1 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 3 t : Vec Ideal S1024x256 .bf16) (ix2 k (x 1)) := fun k => side_2 _ _ _ _ _ _ (x 1).isLt (by omega)
    have ho : i 0 = (x 0) := Fin.ext (by omega)
    refine (later_2 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x1536 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x256 .bf16) (ix2 k a)) (i 1) = (iblk m c 4 t : Vec Ideal S1024x256 .bf16) (ix2 k (x 1)) := fun k => side_3 _ _ _ _ _ _ (x 1).isLt (by omega)
    have ho : i 0 = (x 0) := Fin.ext (by omega)
    refine (later_3 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]

theorem x0_at (t : Fin cfg0.N) (k : Fin 1024) (a : Fin 1024) : (iblk m c 0 t : Vec Ideal S1024x1024 .bf16) (ix2 k a) =
    m ((c : Thread nD τ).loc main_arg0) (ix2 ⟨1024 * t.val + k.val, by have : t.val < 8 := t.isLt; omega⟩ a) := by
  blk_ext [iblk, V_main_arg0, i0 t]
theorem x1_at (t : Fin cfg0.N) (k : Fin 1024) (a : Fin 1536) : (iblk m c 1 t : Vec Ideal S1024x1536 .bf16) (ix2 k a) =
    m ((c : Thread nD τ).loc main_arg1) (ix2 ⟨1024 * t.val + k.val, by have : t.val < 8 := t.isLt; omega⟩ a) := by
  blk_ext [iblk, V_main_arg1, i1 t]
theorem x2_at (t : Fin cfg0.N) (k : Fin 1024) (a : Fin 256) : (iblk m c 2 t : Vec Ideal S1024x256 .bf16) (ix2 k a) =
    m ((c : Thread nD τ).loc main_arg2) (ix2 ⟨1024 * t.val + k.val, by have : t.val < 8 := t.isLt; omega⟩ a) := by
  blk_ext [iblk, V_main_arg2, i2 t]
theorem x3_at (t : Fin cfg0.N) (k : Fin 1024) (a : Fin 256) : (iblk m c 3 t : Vec Ideal S1024x256 .bf16) (ix2 k a) =
    m ((c : Thread nD τ).loc main_arg3) (ix2 ⟨1024 * t.val + k.val, by have : t.val < 8 := t.isLt; omega⟩ a) := by
  blk_ext [iblk, V_main_arg3, i3 t]
theorem x4_at (t : Fin cfg0.N) (k : Fin 1024) (a : Fin 256) : (iblk m c 4 t : Vec Ideal S1024x256 .bf16) (ix2 k a) =
    m ((c : Thread nD τ).loc main_arg4) (ix2 ⟨1024 * t.val + k.val, by have : t.val < 8 := t.isLt; omega⟩ a) := by
  blk_ext [iblk, V_main_arg4, i4 t]

/-- The array the run leaves. -/
theorem arr : (dats m 0 c).arrAt 5 cfg0.N = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 5 lastPoint (by decide +kernel) _ fun j => ?_
  blk_simp
  rw [after0_5]
  obtain ⟨a, b, rfl⟩ : ∃ (a : Fin 1024) (b : Fin 2304), j = ix2 a b := ⟨j 0, j 1, eq_ix2 j⟩
  refine (Pipeline.eq_sum_fin_of_reset_step_apply_last (fun n h => outsAt0 m c n h) 8 (fun _ => (0 : EReal))
    (fun t => term (iblk m c 0 t) (iblk m c 1 t) (iblk m c 2 t) (iblk m c 3 t) (iblk m c 4 t)) (outs_first m c) (outs_later m c) le_rfl lastPoint rfl (ix2 a b)).trans ?_
  rw [zero_add]
  show _ = out _ _ _ _ _ (ix2 a b)
  unfold out
  rw [Sums.blocks (p := 8) (s := 1024) rfl (fun q k => by omega)]
  refine Finset.sum_congr rfl fun q _ => Finset.sum_congr rfl fun k _ => ?_
  exact congrArg₂ (· * ·) (x0_at m c q k _) (congrFun (congr (congr (congr (congrArg side (funext fun a => x1_at m c q k a)) (funext fun a => x2_at m c q k a)) (funext fun a => x3_at m c q k a)) (funext fun a => x4_at m c q k a)) _)

/-- The reference's value. -/
theorem ref (x0 : Vec Ideal S8192x1024 .bf16) (x1 : Vec Ideal S8192x1536 .bf16) (x2 : Vec Ideal S8192x256 .bf16) (x3 : Vec Ideal S8192x256 .bf16) (x4 : Vec Ideal S8192x256 .bf16) : Cert.DwInARefIdeal.Read.val_main_v6 (F := Ideal) x0 x1 x2 x3 x4 = out x0 x1 x2 x3 x4 := by
  funext i
  obtain ⟨a, b, rfl⟩ : ∃ (a : Fin 1024) (b : Fin 2304), i = ix2 a b := ⟨i 0, i 1, eq_ix2 i⟩
  pointwise [Cert.DwInARefIdeal.Read.val_main_v6, Cert.DwInARefIdeal.Read.val_main_v5, Cert.DwInARefIdeal.Read.val_main_v3, Cert.DwInARefIdeal.Read.val_main_v1, Cert.DwInARefIdeal.Read.val_main_v0, out]
  refine Finset.sum_congr rfl fun k _ => ?_
  rw [mul_comm]
  refine congrArg₂ (· * ·) rfl ?_
  unfold side
  repeat' split
  all_goals first | omega | rfl | blk_ext

/-- From equal arguments the kernel and the reference return the same array over the extended reals. -/
theorem algebraic : Cert.algebraic_DwInAIdeal_DwInARefIdeal := by
  intro m ρ m' ρ' _ hagree
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run Cert.DwInAIdeal.defs _ _).mono (fun r h c => ⟨(h c).1.trans (arr m c), (h c).2⟩) (Cert.DwInAIdeal.Value.run_blocks m ρ)
  · refine (θ_run Cert.DwInARefIdeal.defs _ _).mono (fun r h c => ⟨(h c).1.trans ?_, (h c).2⟩) (Cert.DwInARefIdeal.Value.run m' ρ')
    obtain ⟨h0, h1, h2, h3, h4⟩ := hagree c
    exact (ref _ _ _ _ _).trans (by rw [h0, h1, h2, h3, h4])

/-- The reference terminates with its arguments unchanged; it declares no semaphore. -/
theorem frame_reference : Cert.quiescent_DwInARefIdeal := fun m ρ _ =>
  (θ_run Cert.DwInARefIdeal.defs _ _).mono
    (fun r h => ⟨fun c => (h c).2, sem_eq_zero_of_no_sems rfl r.2⟩) (Cert.DwInARefIdeal.Value.run m ρ)

end Cert.DwInAIdeal.Matrix

end
-- ==== Proof.DwInB.lean ====
/- The matrix product `dw_in_b`, the gradient of the last columns of the input projection's weight: the kernel adds the products of eight pairs of blocks of rows up in its output, the five parts of the right factor side by side; the reference computes the same sums over the extended reals. -/
module

public import proofs.«01_k».proof.Defs
public import proofs.«01_k».proof.Proof.Gen.DwInBIdeal.Value
public import proofs.«01_k».proof.Proof.Gen.DwInBRefIdeal.Read
public import proofs.«01_k».proof.Proof.Gen.DwInBRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DwInBIdeal.Matrix

open Cert.DwInBIdeal Cert.DwInBIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![0, 0] := by decide +kernel
/-- The last point of the grid. -/
def lastPoint : Fin cfg0.N := ⟨7, by decide⟩

/-- The parts of a row, side by side. -/
def side (f0 : Fin 256 → EReal) (f1 : Fin 256 → EReal) (f2 : Fin 256 → EReal) (f3 : Fin 512 → EReal) (f4 : Fin 256 → EReal) (a : Fin 1536) : EReal :=
  if h0 : a.val < 256 then f0 ⟨a.val - 0, by omega⟩ else if h1 : a.val < 512 then f1 ⟨a.val - 256, by omega⟩ else if h2 : a.val < 768 then f2 ⟨a.val - 512, by omega⟩ else if h3 : a.val < 1280 then f3 ⟨a.val - 768, by omega⟩ else f4 ⟨a.val - 1280, by omega⟩
theorem side_0 (f0 : Fin 256 → EReal) (f1 : Fin 256 → EReal) (f2 : Fin 256 → EReal) (f3 : Fin 512 → EReal) (f4 : Fin 256 → EReal) (a : Fin 1536) (x : ℕ) (hx : x < 256) (h : a.val = 0 + x) : side f0 f1 f2 f3 f4 a = f0 ⟨x, hx⟩ := by
  unfold side
  rw [dif_pos (by omega : a.val < 256)]
  exact congrArg f0 (Fin.ext (by show a.val - 0 = x; omega))
theorem side_1 (f0 : Fin 256 → EReal) (f1 : Fin 256 → EReal) (f2 : Fin 256 → EReal) (f3 : Fin 512 → EReal) (f4 : Fin 256 → EReal) (a : Fin 1536) (x : ℕ) (hx : x < 256) (h : a.val = 256 + x) : side f0 f1 f2 f3 f4 a = f1 ⟨x, hx⟩ := by
  unfold side
  rw [dif_neg (by omega : ¬a.val < 256), dif_pos (by omega : a.val < 512)]
  exact congrArg f1 (Fin.ext (by show a.val - 256 = x; omega))
theorem side_2 (f0 : Fin 256 → EReal) (f1 : Fin 256 → EReal) (f2 : Fin 256 → EReal) (f3 : Fin 512 → EReal) (f4 : Fin 256 → EReal) (a : Fin 1536) (x : ℕ) (hx : x < 256) (h : a.val = 512 + x) : side f0 f1 f2 f3 f4 a = f2 ⟨x, hx⟩ := by
  unfold side
  rw [dif_neg (by omega : ¬a.val < 256), dif_neg (by omega : ¬a.val < 512), dif_pos (by omega : a.val < 768)]
  exact congrArg f2 (Fin.ext (by show a.val - 512 = x; omega))
theorem side_3 (f0 : Fin 256 → EReal) (f1 : Fin 256 → EReal) (f2 : Fin 256 → EReal) (f3 : Fin 512 → EReal) (f4 : Fin 256 → EReal) (a : Fin 1536) (x : ℕ) (hx : x < 512) (h : a.val = 768 + x) : side f0 f1 f2 f3 f4 a = f3 ⟨x, hx⟩ := by
  unfold side
  rw [dif_neg (by omega : ¬a.val < 256), dif_neg (by omega : ¬a.val < 512), dif_neg (by omega : ¬a.val < 768), dif_pos (by omega : a.val < 1280)]
  exact congrArg f3 (Fin.ext (by show a.val - 768 = x; omega))
theorem side_4 (f0 : Fin 256 → EReal) (f1 : Fin 256 → EReal) (f2 : Fin 256 → EReal) (f3 : Fin 512 → EReal) (f4 : Fin 256 → EReal) (a : Fin 1536) (x : ℕ) (hx : x < 256) (h : a.val = 1280 + x) : side f0 f1 f2 f3 f4 a = f4 ⟨x, hx⟩ := by
  unfold side
  rw [dif_neg (by omega : ¬a.val < 256), dif_neg (by omega : ¬a.val < 512), dif_neg (by omega : ¬a.val < 768), dif_neg (by omega : ¬a.val < 1280)]
  exact congrArg f4 (Fin.ext (by show a.val - 1280 = x; omega))

/-- The product of a point's blocks. -/
def term (x0 : Vec Ideal S1024x1024 .bf16) (x1 : Vec Ideal S1024x256 .bf16) (x2 : Vec Ideal S1024x256 .bf16) (x3 : Vec Ideal S1024x256 .bf16) (x4 : Vec Ideal S1024x512 .bf16) (x5 : Vec Ideal S1024x256 .bf16) (i : S1024x1536.Idx) : EReal :=
  ∑ k : Fin 1024, x0 (ix2 k (i 0)) * side (fun a => x1 (ix2 k a)) (fun a => x2 (ix2 k a)) (fun a => x3 (ix2 k a)) (fun a => x4 (ix2 k a)) (fun a => x5 (ix2 k a)) (i 1)
/-- What both sides compute. -/
def out (x0 : Vec Ideal S8192x1024 .bf16) (x1 : Vec Ideal S8192x256 .bf16) (x2 : Vec Ideal S8192x256 .bf16) (x3 : Vec Ideal S8192x256 .bf16) (x4 : Vec Ideal S8192x512 .bf16) (x5 : Vec Ideal S8192x256 .bf16) : Vec Ideal S1024x1536 .f32 := fun i =>
  ∑ k : Fin 8192, x0 (ix2 k (i 0)) * side (fun a => x1 (ix2 k a)) (fun a => x2 (ix2 k a)) (fun a => x3 (ix2 k a)) (fun a => x4 (ix2 k a)) (fun a => x5 (ix2 k a)) (i 1)

theorem first_0 (u : Vec Ideal S1024x1024 .bf16) (v : Vec Ideal S1024x256 .bf16) (i : S1024x256.Idx) : k0_pay5 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay5]
theorem later_0 (u : Vec Ideal S1024x1024 .bf16) (v : Vec Ideal S1024x256 .bf16) (o : Vec Ideal S1024x256 .f32) (i : S1024x256.Idx) : k0_pay6 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay6, k0_pay5]
theorem first_1 (u : Vec Ideal S1024x1024 .bf16) (v : Vec Ideal S1024x256 .bf16) (i : S1024x256.Idx) : k0_pay7 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay7]
theorem later_1 (u : Vec Ideal S1024x1024 .bf16) (v : Vec Ideal S1024x256 .bf16) (o : Vec Ideal S1024x256 .f32) (i : S1024x256.Idx) : k0_pay8 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay8, k0_pay7]
theorem first_2 (u : Vec Ideal S1024x1024 .bf16) (v : Vec Ideal S1024x256 .bf16) (i : S1024x256.Idx) : k0_pay9 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay9]
theorem later_2 (u : Vec Ideal S1024x1024 .bf16) (v : Vec Ideal S1024x256 .bf16) (o : Vec Ideal S1024x256 .f32) (i : S1024x256.Idx) : k0_pay10 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay10, k0_pay9]
theorem first_3 (u : Vec Ideal S1024x1024 .bf16) (v : Vec Ideal S1024x512 .bf16) (i : S1024x512.Idx) : k0_pay1 u v i = ∑ k : Fin 1024, u (ix2 k (i 0)) * v (ix2 k (i 1)) := by
  obtain ⟨a, b, rfl⟩ : ∃ (a : Fin 1024) (b : Fin 512), i = ix2 a b := ⟨i 0, i 1, eq_ix2 i⟩
  pointwise [k0_pay1]
theorem later_3 (u : Vec Ideal S1024x1024 .bf16) (v : Vec Ideal S1024x512 .bf16) (o : Vec Ideal S1024x512 .f32) (i : S1024x512.Idx) : k0_pay2 u v o i = o i + ∑ k : Fin 1024, u (ix2 k (i 0)) * v (ix2 k (i 1)) := by
  obtain ⟨a, b, rfl⟩ : ∃ (a : Fin 1024) (b : Fin 512), i = ix2 a b := ⟨i 0, i 1, eq_ix2 i⟩
  pointwise [k0_pay2, k0_pay1]
theorem first_4 (u : Vec Ideal S1024x1024 .bf16) (v : Vec Ideal S1024x256 .bf16) (i : S1024x256.Idx) : k0_pay3 u v i = ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay3]
theorem later_4 (u : Vec Ideal S1024x1024 .bf16) (v : Vec Ideal S1024x256 .bf16) (o : Vec Ideal S1024x256 .f32) (i : S1024x256.Idx) : k0_pay4 u v o i = o i + ∑ k : Fin 1024, u (ix2 k (i 0)) * v (ix2 k (i 1)) := by
  obtain ⟨a, b, rfl⟩ : ∃ (a : Fin 1024) (b : Fin 256), i = ix2 a b := ⟨i 0, i 1, eq_ix2 i⟩
  pointwise [k0_pay4, k0_pay3]

/-- The stored parts tile the output: a value every part agrees with is the value read. -/
theorem pick (P0 : (⟨2, ![1024, 256]⟩ : Shape).Idx → EReal) (P1 : (⟨2, ![1024, 256]⟩ : Shape).Idx → EReal) (P2 : (⟨2, ![1024, 256]⟩ : Shape).Idx → EReal) (P3 : (⟨2, ![1024, 512]⟩ : Shape).Idx → EReal) (P4 : (⟨2, ![1024, 256]⟩ : Shape).Idx → EReal) (i : S1024x1536.Idx) (v : EReal) (e0 : ∀ x : (⟨2, ![1024, 256]⟩ : Shape).Idx, (i 0).val = (x 0).val → (i 1).val = 0 + (x 1).val → P0 x = v) (e1 : ∀ x : (⟨2, ![1024, 256]⟩ : Shape).Idx, (i 0).val = (x 0).val → (i 1).val = 256 + (x 1).val → P1 x = v) (e2 : ∀ x : (⟨2, ![1024, 256]⟩ : Shape).Idx, (i 0).val = (x 0).val → (i 1).val = 512 + (x 1).val → P2 x = v) (e3 : ∀ x : (⟨2, ![1024, 512]⟩ : Shape).Idx, (i 0).val = (x 0).val → (i 1).val = 768 + (x 1).val → P3 x = v) (e4 : ∀ x : (⟨2, ![1024, 256]⟩ : Shape).Idx, (i 0).val = (x 0).val → (i 1).val = 1280 + (x 1).val → P4 x = v) :
    View.canon (Val := Elt Ideal) (s := S1024x1536) (e := .f32) [⟨Rect.unit ![0,1280] ![1024,256] (by decide), P4⟩, ⟨Rect.unit ![0,768] ![1024,512] (by decide), P3⟩, ⟨Rect.unit ![0,512] ![1024,256] (by decide), P2⟩, ⟨Rect.unit ![0,256] ![1024,256] (by decide), P1⟩, ⟨Rect.unit ![0,0] ![1024,256] (by decide), P0⟩] i = v := by
  canon_tiles x hx using (View.cover_of_tiledBy _ ![1024, 256] (by sl_kernel_rfl) i)
  case piece0 => exact e4 x (by omega) (by omega)
  case piece1 => exact e3 x (by omega) (by omega)
  case piece2 => exact e2 x (by omega) (by omega)
  case piece3 => exact e1 x (by omega) (by omega)
  case piece4 => exact e0 x (by omega) (by omega)

/-- The output after the first point. -/
theorem outs_first (t : Fin cfg0.N) (h : t.val % 8 = 0) (i : S1024x1536.Idx) :
    outsAt0 m c t.val t.isLt i = 0 + term (iblk m c 0 t) (iblk m c 1 t) (iblk m c 2 t) (iblk m c 3 t) (iblk m c 4 t) (iblk m c 5 t) i := by
  have h' : ¬1 ≤ t.val := by have : t.val < 8 := t.isLt; omega
  refine (congrFun (outsAt0_A m c t h h' h h' h h' h h' h h') i).trans ?_
  frame_out
  refine pick _ _ _ _ _ _ _ ?_ ?_ ?_ ?_ ?_
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 1 t : Vec Ideal S1024x256 .bf16) (ix2 k (x 1)) := fun k => side_0 _ _ _ _ _ _ _ (x 1).isLt (by omega)
    have ho : i 0 = (x 0) := Fin.ext (by omega)
    refine (first_0 _ _ x).trans ?_
    rw [zero_add]
    unfold term
    refine Finset.sum_congr rfl fun k _ => ?_
    rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 2 t : Vec Ideal S1024x256 .bf16) (ix2 k (x 1)) := fun k => side_1 _ _ _ _ _ _ _ (x 1).isLt (by omega)
    have ho : i 0 = (x 0) := Fin.ext (by omega)
    refine (first_1 _ _ x).trans ?_
    rw [zero_add]
    unfold term
    refine Finset.sum_congr rfl fun k _ => ?_
    rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 3 t : Vec Ideal S1024x256 .bf16) (ix2 k (x 1)) := fun k => side_2 _ _ _ _ _ _ _ (x 1).isLt (by omega)
    have ho : i 0 = (x 0) := Fin.ext (by omega)
    refine (first_2 _ _ x).trans ?_
    rw [zero_add]
    unfold term
    refine Finset.sum_congr rfl fun k _ => ?_
    rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 4 t : Vec Ideal S1024x512 .bf16) (ix2 k (x 1)) := fun k => side_3 _ _ _ _ _ _ _ (x 1).isLt (by omega)
    have ho : i 0 = (x 0) := Fin.ext (by omega)
    refine (first_3 _ _ x).trans ?_
    rw [zero_add]
    unfold term
    refine Finset.sum_congr rfl fun k _ => ?_
    rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 5 t : Vec Ideal S1024x256 .bf16) (ix2 k (x 1)) := fun k => side_4 _ _ _ _ _ _ _ (x 1).isLt (by omega)
    have ho : i 0 = (x 0) := Fin.ext (by omega)
    refine (first_4 _ _ x).trans ?_
    rw [zero_add]
    unfold term
    refine Finset.sum_congr rfl fun k _ => ?_
    rw [hs k, ho]

/-- The output after a later point. -/
theorem outs_later (t : Fin cfg0.N) (h : ¬t.val % 8 = 0) (i : S1024x1536.Idx) :
    outsAt0 m c t.val t.isLt i = outsAt0 m c (t.val - 1) (Nat.lt_of_le_of_lt (Nat.sub_le _ _) t.isLt) i + term (iblk m c 0 t) (iblk m c 1 t) (iblk m c 2 t) (iblk m c 3 t) (iblk m c 4 t) (iblk m c 5 t) i := by
  have h' : 1 ≤ t.val := by omega
  refine (congrFun (outsAt0_B m c t h h' h h' h h' h h' h h') i).trans ?_
  frame_out
  refine pick _ _ _ _ _ _ _ ?_ ?_ ?_ ?_ ?_
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 1 t : Vec Ideal S1024x256 .bf16) (ix2 k (x 1)) := fun k => side_0 _ _ _ _ _ _ _ (x 1).isLt (by omega)
    have ho : i 0 = (x 0) := Fin.ext (by omega)
    refine (later_0 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 2 t : Vec Ideal S1024x256 .bf16) (ix2 k (x 1)) := fun k => side_1 _ _ _ _ _ _ _ (x 1).isLt (by omega)
    have ho : i 0 = (x 0) := Fin.ext (by omega)
    refine (later_1 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 3 t : Vec Ideal S1024x256 .bf16) (ix2 k (x 1)) := fun k => side_2 _ _ _ _ _ _ _ (x 1).isLt (by omega)
    have ho : i 0 = (x 0) := Fin.ext (by omega)
    refine (later_2 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 4 t : Vec Ideal S1024x512 .bf16) (ix2 k (x 1)) := fun k => side_3 _ _ _ _ _ _ _ (x 1).isLt (by omega)
    have ho : i 0 = (x 0) := Fin.ext (by omega)
    refine (later_3 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 1 t : Vec Ideal S1024x256 .bf16) (ix2 k a)) (fun a => (iblk m c 2 t : Vec Ideal S1024x256 .bf16) (ix2 k a)) (fun a => (iblk m c 3 t : Vec Ideal S1024x256 .bf16) (ix2 k a)) (fun a => (iblk m c 4 t : Vec Ideal S1024x512 .bf16) (ix2 k a)) (fun a => (iblk m c 5 t : Vec Ideal S1024x256 .bf16) (ix2 k a)) (i 1) = (iblk m c 5 t : Vec Ideal S1024x256 .bf16) (ix2 k (x 1)) := fun k => side_4 _ _ _ _ _ _ _ (x 1).isLt (by omega)
    have ho : i 0 = (x 0) := Fin.ext (by omega)
    refine (later_4 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]

theorem x0_at (t : Fin cfg0.N) (k : Fin 1024) (a : Fin 1024) : (iblk m c 0 t : Vec Ideal S1024x1024 .bf16) (ix2 k a) =
    m ((c : Thread nD τ).loc main_arg0) (ix2 ⟨1024 * t.val + k.val, by have : t.val < 8 := t.isLt; omega⟩ a) := by
  blk_ext [iblk, V_main_arg0, i0 t]
theorem x1_at (t : Fin cfg0.N) (k : Fin 1024) (a : Fin 256) : (iblk m c 1 t : Vec Ideal S1024x256 .bf16) (ix2 k a) =
    m ((c : Thread nD τ).loc main_arg1) (ix2 ⟨1024 * t.val + k.val, by have : t.val < 8 := t.isLt; omega⟩ a) := by
  blk_ext [iblk, V_main_arg1, i1 t]
theorem x2_at (t : Fin cfg0.N) (k : Fin 1024) (a : Fin 256) : (iblk m c 2 t : Vec Ideal S1024x256 .bf16) (ix2 k a) =
    m ((c : Thread nD τ).loc main_arg2) (ix2 ⟨1024 * t.val + k.val, by have : t.val < 8 := t.isLt; omega⟩ a) := by
  blk_ext [iblk, V_main_arg2, i2 t]
theorem x3_at (t : Fin cfg0.N) (k : Fin 1024) (a : Fin 256) : (iblk m c 3 t : Vec Ideal S1024x256 .bf16) (ix2 k a) =
    m ((c : Thread nD τ).loc main_arg3) (ix2 ⟨1024 * t.val + k.val, by have : t.val < 8 := t.isLt; omega⟩ a) := by
  blk_ext [iblk, V_main_arg3, i3 t]
theorem x4_at (t : Fin cfg0.N) (k : Fin 1024) (a : Fin 512) : (iblk m c 4 t : Vec Ideal S1024x512 .bf16) (ix2 k a) =
    m ((c : Thread nD τ).loc main_arg4) (ix2 ⟨1024 * t.val + k.val, by have : t.val < 8 := t.isLt; omega⟩ a) := by
  blk_ext [iblk, V_main_arg4, i4 t]
theorem x5_at (t : Fin cfg0.N) (k : Fin 1024) (a : Fin 256) : (iblk m c 5 t : Vec Ideal S1024x256 .bf16) (ix2 k a) =
    m ((c : Thread nD τ).loc main_arg5) (ix2 ⟨1024 * t.val + k.val, by have : t.val < 8 := t.isLt; omega⟩ a) := by
  blk_ext [iblk, V_main_arg5, i5 t]

/-- The array the run leaves. -/
theorem arr : (dats m 0 c).arrAt 6 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 6 lastPoint (by decide +kernel) _ fun j => ?_
  blk_simp
  rw [after0_6]
  obtain ⟨a, b, rfl⟩ : ∃ (a : Fin 1024) (b : Fin 1536), j = ix2 a b := ⟨j 0, j 1, eq_ix2 j⟩
  refine (Pipeline.eq_sum_fin_of_reset_step_apply_last (fun n h => outsAt0 m c n h) 8 (fun _ => (0 : EReal))
    (fun t => term (iblk m c 0 t) (iblk m c 1 t) (iblk m c 2 t) (iblk m c 3 t) (iblk m c 4 t) (iblk m c 5 t)) (outs_first m c) (outs_later m c) le_rfl lastPoint rfl (ix2 a b)).trans ?_
  rw [zero_add]
  show _ = out _ _ _ _ _ _ (ix2 a b)
  unfold out
  rw [Sums.blocks (p := 8) (s := 1024) rfl (fun q k => by omega)]
  refine Finset.sum_congr rfl fun q _ => Finset.sum_congr rfl fun k _ => ?_
  exact congrArg₂ (· * ·) (x0_at m c q k _) (congrFun (congr (congr (congr (congr (congrArg side (funext fun a => x1_at m c q k a)) (funext fun a => x2_at m c q k a)) (funext fun a => x3_at m c q k a)) (funext fun a => x4_at m c q k a)) (funext fun a => x5_at m c q k a)) _)

/-- The reference's value. -/
theorem ref (x0 : Vec Ideal S8192x1024 .bf16) (x1 : Vec Ideal S8192x256 .bf16) (x2 : Vec Ideal S8192x256 .bf16) (x3 : Vec Ideal S8192x256 .bf16) (x4 : Vec Ideal S8192x512 .bf16) (x5 : Vec Ideal S8192x256 .bf16) : Cert.DwInBRefIdeal.Read.val_main_v6 (F := Ideal) x0 x1 x2 x3 x4 x5 = out x0 x1 x2 x3 x4 x5 := by
  funext i
  obtain ⟨a, b, rfl⟩ : ∃ (a : Fin 1024) (b : Fin 1536), i = ix2 a b := ⟨i 0, i 1, eq_ix2 i⟩
  pointwise [Cert.DwInBRefIdeal.Read.val_main_v6, Cert.DwInBRefIdeal.Read.val_main_v5, Cert.DwInBRefIdeal.Read.val_main_v3, Cert.DwInBRefIdeal.Read.val_main_v1, Cert.DwInBRefIdeal.Read.val_main_v0, out]
  refine Finset.sum_congr rfl fun k _ => ?_
  rw [mul_comm]
  refine congrArg₂ (· * ·) rfl ?_
  unfold side
  repeat' split
  all_goals first | omega | rfl | blk_ext

/-- From equal arguments the kernel and the reference return the same array over the extended reals. -/
theorem algebraic : Cert.algebraic_DwInBIdeal_DwInBRefIdeal := by
  intro m ρ m' ρ' _ hagree
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact (θ_run Cert.DwInBIdeal.defs _ _).mono (fun r h c => ⟨(h c).1.trans (arr m c), (h c).2⟩) (Cert.DwInBIdeal.Value.run_blocks m ρ)
  · refine (θ_run Cert.DwInBRefIdeal.defs _ _).mono (fun r h c => ⟨(h c).1.trans ?_, (h c).2⟩) (Cert.DwInBRefIdeal.Value.run m' ρ')
    obtain ⟨h0, h1, h2, h3, h4, h5⟩ := hagree c
    exact (ref _ _ _ _ _ _).trans (by rw [h0, h1, h2, h3, h4, h5])

/-- The reference terminates with its arguments unchanged; it declares no semaphore. -/
theorem frame_reference : Cert.quiescent_DwInBRefIdeal := fun m ρ _ =>
  (θ_run Cert.DwInBRefIdeal.defs _ _).mono
    (fun r h => ⟨fun c => (h c).2, sem_eq_zero_of_no_sems rfl r.2⟩) (Cert.DwInBRefIdeal.Value.run m ρ)

end Cert.DwInBIdeal.Matrix

end
-- ==== Proof.MixOut.lean ====
/- The matrix product `mix_out`: the kernel, a block of rows of the result at every point of its grid and a part of the left factor at a time, and the reference compute the same sums over the extended reals. -/
module

public import proofs.«01_k».proof.Defs
public import proofs.«01_k».proof.Proof.Gen.MixOutIdeal.Value
public import proofs.«01_k».proof.Proof.Gen.MixOutRefIdeal.Read
public import proofs.«01_k».proof.Proof.Gen.MixOutRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums

@[expose] public section

set_option maxRecDepth 16384

noncomputable section

namespace Cert.MixOutIdeal.Matrix

open Cert.MixOutIdeal Cert.MixOutIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![0, 0] := by decide +kernel
theorem i4 : ∀ t : Fin cfg0.N, win0_4.index t = ![2, 0] := by decide +kernel
theorem i5 : ∀ t : Fin cfg0.N, win0_5.index t = ![3, 0] := by decide +kernel
theorem i6 : ∀ t : Fin cfg0.N, win0_6.index t = ![t.val, 0] := by decide +kernel
theorem i7 : ∀ t : Fin cfg0.N, win0_7.index t = ![t.val, 0] := by decide +kernel

/-- What a point writes, at an index: the products of its blocks, added up. -/
theorem pay (x0 : Vec Ideal S512x512 .bf16) (w0 : Vec Ideal S512x1024 .bf16) (x1 : Vec Ideal S512x256 .bf16) (w1 : Vec Ideal S256x1024 .bf16) (x2 : Vec Ideal S512x256 .bf16) (w2 : Vec Ideal S256x1024 .bf16) (r : Vec Ideal S512x1024 .f32) (a : Fin 512) (b : Fin 1024) :
    k0_pay1 x0 w0 x1 w1 x2 w2 r (ix2 a b) = (∑ k : Fin 512, x0 (ix2 a k) * (w0 (ix2 k b))) + (∑ k : Fin 256, x1 (ix2 a k) * (w1 (ix2 k b))) + (∑ k : Fin 256, x2 (ix2 a k) * (w2 (ix2 k b))) + r (ix2 a b) := by
  pointwise [k0_pay1]

/-- What both sides compute: the product of the parts, side by side, with the matrix, a part at a time. -/
def out (x0 : Vec Ideal S8192x512 .bf16) (x1 : Vec Ideal S8192x256 .bf16) (x2 : Vec Ideal S8192x256 .bf16) (x3 : Vec Ideal S1024x1024 .f32) (x4 : Vec Ideal S8192x1024 .f32) : Vec Ideal S8192x1024 .f32 :=
  fun i => (∑ k : Fin 512, x0 (ix2 (i 0) k) * x3 (ix2 ⟨k.val, by omega⟩ (i 1))) + (∑ k : Fin 256, x1 (ix2 (i 0) k) * x3 (ix2 ⟨512 + k.val, by omega⟩ (i 1))) + (∑ k : Fin 256, x2 (ix2 (i 0) k) * x3 (ix2 ⟨768 + k.val, by omega⟩ (i 1))) + x4 i

theorem V_main_v0 (a : Fin 1024) (b : Fin 1024) : V m c main_v0 (ix2 a b) = m ((c : Thread nD τ).loc main_arg3) (ix2 a b) := by
  entry_read; pointwise

theorem x0_at (t : Fin cfg0.N) (a : Fin 512) (k : Fin 512) : (iblk m c 0 t : Vec Ideal S512x512 .bf16) (ix2 a k) =
    m ((c : Thread nD τ).loc main_arg0) (ix2 ⟨512 * t.val + a.val, by have : t.val < 16 := t.isLt; omega⟩ k) := by
  have := t.isLt
  blk_ext [iblk, V_main_arg0, i0 t]
theorem x1_at (t : Fin cfg0.N) (a : Fin 512) (k : Fin 256) : (iblk m c 1 t : Vec Ideal S512x256 .bf16) (ix2 a k) =
    m ((c : Thread nD τ).loc main_arg1) (ix2 ⟨512 * t.val + a.val, by have : t.val < 16 := t.isLt; omega⟩ k) := by
  have := t.isLt
  blk_ext [iblk, V_main_arg1, i1 t]
theorem x2_at (t : Fin cfg0.N) (a : Fin 512) (k : Fin 256) : (iblk m c 2 t : Vec Ideal S512x256 .bf16) (ix2 a k) =
    m ((c : Thread nD τ).loc main_arg2) (ix2 ⟨512 * t.val + a.val, by have : t.val < 16 := t.isLt; omega⟩ k) := by
  have := t.isLt
  blk_ext [iblk, V_main_arg2, i2 t]
theorem w0_at (t : Fin cfg0.N) (b : Fin 1024) (k : Fin 512) : (iblk m c 3 t : Vec Ideal S512x1024 .bf16) (ix2 k b) =
    m ((c : Thread nD τ).loc main_arg3) (ix2 ⟨k.val, by omega⟩ b) := by
  refine Eq.trans ?_ (V_main_v0 m c _ _)
  blk_ext [iblk, i3 t]
theorem w1_at (t : Fin cfg0.N) (b : Fin 1024) (k : Fin 256) : (iblk m c 4 t : Vec Ideal S256x1024 .bf16) (ix2 k b) =
    m ((c : Thread nD τ).loc main_arg3) (ix2 ⟨512 + k.val, by omega⟩ b) := by
  refine Eq.trans ?_ (V_main_v0 m c _ _)
  blk_ext [iblk, i4 t]
theorem w2_at (t : Fin cfg0.N) (b : Fin 1024) (k : Fin 256) : (iblk m c 5 t : Vec Ideal S256x1024 .bf16) (ix2 k b) =
    m ((c : Thread nD τ).loc main_arg3) (ix2 ⟨768 + k.val, by omega⟩ b) := by
  refine Eq.trans ?_ (V_main_v0 m c _ _)
  blk_ext [iblk, i5 t]
theorem r_at (t : Fin cfg0.N) (a : Fin 512) (b : Fin 1024) : (iblk m c 6 t : Vec Ideal S512x1024 .f32) (ix2 a b) =
    m ((c : Thread nD τ).loc main_arg4) (ix2 ⟨512 * t.val + a.val, by have : t.val < 16 := t.isLt; omega⟩ b) := by
  have := t.isLt
  blk_ext [iblk, V_main_arg4, i6 t]

/-- The array the run leaves. -/
theorem arr : (dats m 0 c).arrAt 7 cfg0.N = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  have ht : t.val < 16 := t.isLt
  obtain ⟨a, b, rfl⟩ : ∃ (a : Fin 512) (b : Fin 1024), y = ix2 a b := ⟨y 0, y 1, eq_ix2 y⟩
  refine (pay (iblk m c 0 t) (iblk m c 3 t) (iblk m c 1 t) (iblk m c 4 t) (iblk m c 2 t) (iblk m c 5 t) (iblk m c 6 t) a b).trans ?_
  simp only [x0_at, w0_at, x1_at, w1_at, x2_at, w2_at, r_at]
  have e : (((View.whole main_v1).slice (win0_7.rect t)).emb (ix2 a b)) = ix2 ⟨512 * t.val + a.val, by omega⟩ b := by blk_ext [i7 t]
  rw [e]; rfl

/-- The reference's value. -/
theorem ref (x0 : Vec Ideal S8192x512 .bf16) (x1 : Vec Ideal S8192x256 .bf16) (x2 : Vec Ideal S8192x256 .bf16) (x3 : Vec Ideal S1024x1024 .f32) (x4 : Vec Ideal S8192x1024 .f32) : Cert.MixOutRefIdeal.Read.val_main_v3 (F := Ideal) x0 x1 x2 x3 x4 = out x0 x1 x2 x3 x4 := by
  funext i
  obtain ⟨a, b, rfl⟩ : ∃ (a : Fin 8192) (b : Fin 1024), i = ix2 a b := ⟨i 0, i 1, eq_ix2 i⟩
  pointwise [Cert.MixOutRefIdeal.Read.val_main_v0, Cert.MixOutRefIdeal.Read.val_main_v1, Cert.MixOutRefIdeal.Read.val_main_v2, Cert.MixOutRefIdeal.Read.val_main_v3]
  rw [add_comm]
  refine congrArg (· + x4 (ix2 a b)) ?_
  refine (Sums.two (a := 768) (b := 256) rfl _).trans (congrArg₂ (· + ·) ?_ (Finset.sum_congr rfl fun k _ => ?_))
  swap
  · have := k.isLt
    dsimp only
    refine congrArg₂ (· * ·) ?_ rfl
    rw [dif_neg (by omega), dif_neg (by omega)]
    exact congrArg (fun j => x2 (ix2 a j)) (Fin.ext (by show 768 + k.val - 512 - 256 = k.val; omega))
  refine (Sums.two (a := 512) (b := 256) rfl _).trans (congrArg₂ (· + ·) ?_ (Finset.sum_congr rfl fun k _ => ?_))
  swap
  · have := k.isLt
    dsimp only
    refine congrArg₂ (· * ·) ?_ rfl
    rw [dif_neg (by omega), dif_pos (by omega)]
    exact congrArg (fun j => x1 (ix2 a j)) (Fin.ext (by show 512 + k.val - 512 = k.val; omega))
  refine Finset.sum_congr rfl fun k _ => ?_
  dsimp only
  rw [dif_pos k.isLt]
  rfl

/-- From equal arguments the kernel and the reference return the same array over the extended reals. -/
theorem algebraic : Cert.algebraic_MixOutIdeal_MixOutRefIdeal := by
  intro m ρ m' ρ' _ hagree
  refine ⟨fun c => out (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run Cert.MixOutIdeal.defs _ _).mono (fun r h c => ⟨(h c).1.trans (arr m c), (h c).2⟩) (Cert.MixOutIdeal.Value.run_blocks m ρ)
  · refine (θ_run Cert.MixOutRefIdeal.defs _ _).mono (fun r h c => ⟨(h c).1.trans ?_, (h c).2⟩) (Cert.MixOutRefIdeal.Value.run m' ρ')
    obtain ⟨h0, h1, h2, h3, h4⟩ := hagree c
    exact (ref _ _ _ _ _).trans (by rw [h0, h1, h2, h3, h4])

/-- The reference terminates with its arguments unchanged; it declares no semaphore. -/
theorem frame_reference : Cert.quiescent_MixOutRefIdeal := fun m ρ _ =>
  (θ_run Cert.MixOutRefIdeal.defs _ _).mono
    (fun r h => ⟨fun c => (h c).2, sem_eq_zero_of_no_sems rfl r.2⟩) (Cert.MixOutRefIdeal.Value.run m ρ)

end Cert.MixOutIdeal.Matrix

end
-- ==== Proof.Dycat.lean ====
/- The matrix product `dycat`: the kernel, a block of the result at every point of its grid, and the reference compute the same sums over the extended reals. -/
module

public import proofs.«01_k».proof.Defs
public import proofs.«01_k».proof.Proof.Gen.DycatIdeal.Value
public import proofs.«01_k».proof.Proof.Gen.DycatRefIdeal.Read
public import proofs.«01_k».proof.Proof.Gen.DycatRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.DycatIdeal.Matrix

open Cert.DycatIdeal Cert.DycatIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![0, 0] := by decide +kernel
theorem i2 : ∀ t : Fin cfg0.N, win0_2.index t = ![t.val, 0] := by decide +kernel

/-- What a point writes, at an index: the product of its two blocks. -/
theorem pay (x0 : Vec Ideal S512x1024 .f32) (x1 : Vec Ideal S1024x1024 .bf16) (a : Fin 512) (b : Fin 1024) :
    k0_pay1 x0 x1 (ix2 a b) = ∑ k : Fin 1024, x0 (ix2 a k) * x1 (ix2 b k) := by
  pointwise [k0_pay1]

/-- The product both sides compute. -/
def out (x0 : Vec Ideal S1024x1024 .f32) (x1 : Vec Ideal S8192x1024 .f32) : Vec Ideal S8192x1024 .f32 :=
  fun i => ∑ k : Fin 1024, x1 (ix2 (i 0) k) * x0 (ix2 (i 1) k)

theorem V_main_v0 (a : Fin 1024) (b : Fin 1024) : V m c main_v0 (ix2 a b) = m ((c : Thread nD τ).loc main_arg0) (ix2 a b) := by
  entry_read; pointwise

/-- The block of the left factor a point reads. -/
theorem x0_at (t : Fin cfg0.N) (a : Fin 512) (b : Fin 1024) : (iblk m c 0 t : Vec Ideal S512x1024 .f32) (ix2 a b) =
    m ((c : Thread nD τ).loc main_arg1) (ix2 ⟨512 * (t.val) + a.val, by have : t.val < 16 := t.isLt; omega⟩ b) := by
  have := t.isLt
  blk_ext [iblk, V_main_arg1, i0 t]
/-- The block of the right factor a point reads. -/
theorem x1_at (t : Fin cfg0.N) (a : Fin 1024) (b : Fin 1024) : (iblk m c 1 t : Vec Ideal S1024x1024 .bf16) (ix2 a b) =
    m ((c : Thread nD τ).loc main_arg0) (ix2 a b) := by
  have := t.isLt
  refine Eq.trans ?_ (V_main_v0 m c _ _)
  blk_ext [iblk, i1 t]

/-- The array the run leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have ht : t.val < 16 := t.isLt
  obtain ⟨a, b, rfl⟩ : ∃ (a : Fin 512) (b : Fin 1024), y = ix2 a b := ⟨y 0, y 1, eq_ix2 y⟩
  refine (pay (iblk m c 0 t) (iblk m c 1 t) a b).trans (Finset.sum_congr rfl fun k _ => ?_)
  rw [x0_at, x1_at]
  congr 1 <;> blk_ext [i2 t]

/-- The reference's value. -/
theorem ref (x0 : Vec Ideal S1024x1024 .f32) (x1 : Vec Ideal S8192x1024 .f32) : Cert.DycatRefIdeal.Read.val_main_v2 (F := Ideal) x0 x1 = out x0 x1 := by
  funext i
  obtain ⟨a, b, rfl⟩ : ∃ (a : Fin 8192) (b : Fin 1024), i = ix2 a b := ⟨i 0, i 1, eq_ix2 i⟩
  pointwise [Cert.DycatRefIdeal.Read.val_main_v2, Cert.DycatRefIdeal.Read.val_main_v0, out]

/-- From equal arguments the kernel and the reference return the same array over the extended reals. -/
theorem algebraic : Cert.algebraic_DycatIdeal_DycatRefIdeal := by
  intro m ρ m' ρ' _ hagree
  refine ⟨fun c => out (m ((c : Thread nD τ).loc main_arg0)) (m ((c : Thread nD τ).loc main_arg1)), ?_, ?_⟩
  · exact (θ_run Cert.DycatIdeal.defs _ _).mono (fun r h c => ⟨(h c).1.trans (arr m c), (h c).2⟩) (Cert.DycatIdeal.Value.run_blocks m ρ)
  · refine (θ_run Cert.DycatRefIdeal.defs _ _).mono (fun r h c => ⟨(h c).1.trans ?_, (h c).2⟩) (Cert.DycatRefIdeal.Value.run m' ρ')
    obtain ⟨h0, h1⟩ := hagree c
    exact (ref _ _).trans (by rw [h0, h1])

/-- The reference terminates with its arguments unchanged; it declares no semaphore. -/
theorem frame_reference : Cert.quiescent_DycatRefIdeal := fun m ρ _ =>
  (θ_run Cert.DycatRefIdeal.defs _ _).mono
    (fun r h => ⟨fun c => (h c).2, sem_eq_zero_of_no_sems rfl r.2⟩) (Cert.DycatRefIdeal.Value.run m ρ)

end Cert.DycatIdeal.Matrix

end
-- ==== Proof.DwOut.lean ====
/- The matrix product `dw_out`, the gradient of the output projection's weight: the kernel adds the products of eight pairs of blocks of rows up in its output, the three parts of the left factor one under another; the reference computes the same sums over the extended reals. -/
module

public import proofs.«01_k».proof.Defs
public import proofs.«01_k».proof.Proof.Gen.DwOutIdeal.Value
public import proofs.«01_k».proof.Proof.Gen.DwOutRefIdeal.Read
public import proofs.«01_k».proof.Proof.Gen.DwOutRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent
public import proofs.«01_k».proof.Proof.Sums
public import Idealize.ShloMosaic.Lib.Pipeline.ReadBack

@[expose] public section

set_option maxRecDepth 16384

noncomputable section

namespace Cert.DwOutIdeal.Matrix

open Cert.DwOutIdeal Cert.DwOutIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![0, 0] := by decide +kernel
/-- The last point of the grid. -/
def lastPoint : Fin cfg0.N := ⟨7, by decide⟩

/-- The parts of a row, side by side. -/
def side (f0 : Fin 256 → EReal) (f1 : Fin 512 → EReal) (f2 : Fin 256 → EReal) (a : Fin 1024) : EReal :=
  if h0 : a.val < 256 then f0 ⟨a.val - 0, by omega⟩ else if h1 : a.val < 768 then f1 ⟨a.val - 256, by omega⟩ else f2 ⟨a.val - 768, by omega⟩
theorem side_0 (f0 : Fin 256 → EReal) (f1 : Fin 512 → EReal) (f2 : Fin 256 → EReal) (a : Fin 1024) (x : ℕ) (hx : x < 256) (h : a.val = 0 + x) : side f0 f1 f2 a = f0 ⟨x, hx⟩ := by
  unfold side
  rw [dif_pos (by omega : a.val < 256)]
  exact congrArg f0 (Fin.ext (by show a.val - 0 = x; omega))
theorem side_1 (f0 : Fin 256 → EReal) (f1 : Fin 512 → EReal) (f2 : Fin 256 → EReal) (a : Fin 1024) (x : ℕ) (hx : x < 512) (h : a.val = 256 + x) : side f0 f1 f2 a = f1 ⟨x, hx⟩ := by
  unfold side
  rw [dif_neg (by omega : ¬a.val < 256), dif_pos (by omega : a.val < 768)]
  exact congrArg f1 (Fin.ext (by show a.val - 256 = x; omega))
theorem side_2 (f0 : Fin 256 → EReal) (f1 : Fin 512 → EReal) (f2 : Fin 256 → EReal) (a : Fin 1024) (x : ℕ) (hx : x < 256) (h : a.val = 768 + x) : side f0 f1 f2 a = f2 ⟨x, hx⟩ := by
  unfold side
  rw [dif_neg (by omega : ¬a.val < 256), dif_neg (by omega : ¬a.val < 768)]
  exact congrArg f2 (Fin.ext (by show a.val - 768 = x; omega))

/-- The product of a point's blocks. -/
def term (x0 : Vec Ideal S1024x256 .bf16) (x1 : Vec Ideal S1024x512 .bf16) (x2 : Vec Ideal S1024x256 .bf16) (x3 : Vec Ideal S1024x1024 .f32) (i : S1024x1024.Idx) : EReal :=
  ∑ k : Fin 1024, side (fun a => x0 (ix2 k a)) (fun a => x1 (ix2 k a)) (fun a => x2 (ix2 k a)) (i 0) * x3 (ix2 k (i 1))
/-- What both sides compute. -/
def out (x0 : Vec Ideal S8192x256 .bf16) (x1 : Vec Ideal S8192x512 .bf16) (x2 : Vec Ideal S8192x256 .bf16) (x3 : Vec Ideal S8192x1024 .f32) : Vec Ideal S1024x1024 .f32 := fun i =>
  ∑ k : Fin 8192, side (fun a => x0 (ix2 k a)) (fun a => x1 (ix2 k a)) (fun a => x2 (ix2 k a)) (i 0) * x3 (ix2 k (i 1))

theorem first_0 (u : Vec Ideal S1024x256 .bf16) (v : Vec Ideal S1024x1024 .f32) (i : S256x1024.Idx) : k0_pay1 u v i = ∑ k : Fin 1024, u (ix2 k (i 0)) * v (ix2 k (i 1)) := by
  obtain ⟨a, b, rfl⟩ : ∃ (a : Fin 256) (b : Fin 1024), i = ix2 a b := ⟨i 0, i 1, eq_ix2 i⟩
  pointwise [k0_pay1]
theorem later_0 (u : Vec Ideal S1024x256 .bf16) (v : Vec Ideal S1024x1024 .f32) (o : Vec Ideal S256x1024 .f32) (i : S256x1024.Idx) : k0_pay2 u v o i = o i + ∑ k : Fin 1024, u (ix2 k (i 0)) * v (ix2 k (i 1)) := by
  obtain ⟨a, b, rfl⟩ : ∃ (a : Fin 256) (b : Fin 1024), i = ix2 a b := ⟨i 0, i 1, eq_ix2 i⟩
  pointwise [k0_pay2, k0_pay1]
theorem first_1 (u : Vec Ideal S1024x512 .bf16) (v : Vec Ideal S1024x1024 .f32) (i : S512x1024.Idx) : k0_pay3 u v i = ∑ k : Fin 1024, u (ix2 k (i 0)) * v (ix2 k (i 1)) := by
  obtain ⟨a, b, rfl⟩ : ∃ (a : Fin 512) (b : Fin 1024), i = ix2 a b := ⟨i 0, i 1, eq_ix2 i⟩
  pointwise [k0_pay3]
theorem later_1 (u : Vec Ideal S1024x512 .bf16) (v : Vec Ideal S1024x1024 .f32) (o : Vec Ideal S512x1024 .f32) (i : S512x1024.Idx) : k0_pay4 u v o i = o i + ∑ k : Fin 1024, u (ix2 k (i 0)) * v (ix2 k (i 1)) := by
  obtain ⟨a, b, rfl⟩ : ∃ (a : Fin 512) (b : Fin 1024), i = ix2 a b := ⟨i 0, i 1, eq_ix2 i⟩
  pointwise [k0_pay4, k0_pay3]
theorem first_2 (u : Vec Ideal S1024x256 .bf16) (v : Vec Ideal S1024x1024 .f32) (i : S256x1024.Idx) : k0_pay5 u v i = ∑ k : Fin 1024, u (ix2 k (i 0)) * v (ix2 k (i 1)) := by
  obtain ⟨a, b, rfl⟩ : ∃ (a : Fin 256) (b : Fin 1024), i = ix2 a b := ⟨i 0, i 1, eq_ix2 i⟩
  pointwise [k0_pay5]
theorem later_2 (u : Vec Ideal S1024x256 .bf16) (v : Vec Ideal S1024x1024 .f32) (o : Vec Ideal S256x1024 .f32) (i : S256x1024.Idx) : k0_pay6 u v o i = o i + ∑ k : Fin 1024, u (ix2 k (i 0)) * v (ix2 k (i 1)) := by
  obtain ⟨a, b, rfl⟩ : ∃ (a : Fin 256) (b : Fin 1024), i = ix2 a b := ⟨i 0, i 1, eq_ix2 i⟩
  pointwise [k0_pay6, k0_pay5]

/-- The stored parts tile the output: a value every part agrees with is the value read. -/
theorem pick (P0 : (⟨2, ![256, 1024]⟩ : Shape).Idx → EReal) (P1 : (⟨2, ![512, 1024]⟩ : Shape).Idx → EReal) (P2 : (⟨2, ![256, 1024]⟩ : Shape).Idx → EReal) (i : S1024x1024.Idx) (v : EReal) (e0 : ∀ x : (⟨2, ![256, 1024]⟩ : Shape).Idx, (i 0).val = 0 + (x 0).val → (i 1).val = (x 1).val → P0 x = v) (e1 : ∀ x : (⟨2, ![512, 1024]⟩ : Shape).Idx, (i 0).val = 256 + (x 0).val → (i 1).val = (x 1).val → P1 x = v) (e2 : ∀ x : (⟨2, ![256, 1024]⟩ : Shape).Idx, (i 0).val = 768 + (x 0).val → (i 1).val = (x 1).val → P2 x = v) :
    View.canon (Val := Elt Ideal) (s := S1024x1024) (e := .f32) [⟨Rect.unit ![768,0] ![256,1024] (by decide), P2⟩, ⟨Rect.unit ![256,0] ![512,1024] (by decide), P1⟩, ⟨Rect.unit ![0,0] ![256,1024] (by decide), P0⟩] i = v := by
  canon_tiles x hx using (View.cover_of_tiledBy _ ![256, 1024] (by sl_kernel_rfl) i)
  case piece0 => exact e2 x (by omega) (by omega)
  case piece1 => exact e1 x (by omega) (by omega)
  case piece2 => exact e0 x (by omega) (by omega)

/-- The output after the first point. -/
theorem outs_first (t : Fin cfg0.N) (h : t.val % 8 = 0) (i : S1024x1024.Idx) :
    outsAt0 m c t.val t.isLt i = 0 + term (iblk m c 0 t) (iblk m c 1 t) (iblk m c 2 t) (iblk m c 3 t) i := by
  have h' : ¬1 ≤ t.val := by have : t.val < 8 := t.isLt; omega
  refine (congrFun (outsAt0_A m c t h h' h h' h h') i).trans ?_
  frame_out
  refine pick _ _ _ _ _ ?_ ?_ ?_
  · intro x h0 h1
    have hs : ∀ k : Fin 1024, side (fun a => (iblk m c 0 t : Vec Ideal S1024x256 .bf16) (ix2 k a)) (fun a => (iblk m c 1 t : Vec Ideal S1024x512 .bf16) (ix2 k a)) (fun a => (iblk m c 2 t : Vec Ideal S1024x256 .bf16) (ix2 k a)) (i 0) = (iblk m c 0 t : Vec Ideal S1024x256 .bf16) (ix2 k (x 0)) := fun k => side_0 _ _ _ _ _ (x 0).isLt (by omega)
    have ho : i 1 = (x 1) := Fin.ext (by omega)
    refine (first_0 _ _ x).trans ?_
    rw [zero_add]
    unfold term
    refine Finset.sum_congr rfl fun k _ => ?_
    rw [hs k, ho]
  · intro x h0 h1
    have hs : ∀ k : Fin 1024, side (fun a => (iblk m c 0 t : Vec Ideal S1024x256 .bf16) (ix2 k a)) (fun a => (iblk m c 1 t : Vec Ideal S1024x512 .bf16) (ix2 k a)) (fun a => (iblk m c 2 t : Vec Ideal S1024x256 .bf16) (ix2 k a)) (i 0) = (iblk m c 1 t : Vec Ideal S1024x512 .bf16) (ix2 k (x 0)) := fun k => side_1 _ _ _ _ _ (x 0).isLt (by omega)
    have ho : i 1 = (x 1) := Fin.ext (by omega)
    refine (first_1 _ _ x).trans ?_
    rw [zero_add]
    unfold term
    refine Finset.sum_congr rfl fun k _ => ?_
    rw [hs k, ho]
  · intro x h0 h1
    have hs : ∀ k : Fin 1024, side (fun a => (iblk m c 0 t : Vec Ideal S1024x256 .bf16) (ix2 k a)) (fun a => (iblk m c 1 t : Vec Ideal S1024x512 .bf16) (ix2 k a)) (fun a => (iblk m c 2 t : Vec Ideal S1024x256 .bf16) (ix2 k a)) (i 0) = (iblk m c 2 t : Vec Ideal S1024x256 .bf16) (ix2 k (x 0)) := fun k => side_2 _ _ _ _ _ (x 0).isLt (by omega)
    have ho : i 1 = (x 1) := Fin.ext (by omega)
    refine (first_2 _ _ x).trans ?_
    rw [zero_add]
    unfold term
    refine Finset.sum_congr rfl fun k _ => ?_
    rw [hs k, ho]

/-- The output after a later point. -/
theorem outs_later (t : Fin cfg0.N) (h : ¬t.val % 8 = 0) (i : S1024x1024.Idx) :
    outsAt0 m c t.val t.isLt i = outsAt0 m c (t.val - 1) (Nat.lt_of_le_of_lt (Nat.sub_le _ _) t.isLt) i + term (iblk m c 0 t) (iblk m c 1 t) (iblk m c 2 t) (iblk m c 3 t) i := by
  have h' : 1 ≤ t.val := by omega
  refine (congrFun (outsAt0_B m c t h h' h h' h h') i).trans ?_
  frame_out
  refine pick _ _ _ _ _ ?_ ?_ ?_
  · intro x h0 h1
    have hs : ∀ k : Fin 1024, side (fun a => (iblk m c 0 t : Vec Ideal S1024x256 .bf16) (ix2 k a)) (fun a => (iblk m c 1 t : Vec Ideal S1024x512 .bf16) (ix2 k a)) (fun a => (iblk m c 2 t : Vec Ideal S1024x256 .bf16) (ix2 k a)) (i 0) = (iblk m c 0 t : Vec Ideal S1024x256 .bf16) (ix2 k (x 0)) := fun k => side_0 _ _ _ _ _ (x 0).isLt (by omega)
    have ho : i 1 = (x 1) := Fin.ext (by omega)
    refine (later_0 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 0 t : Vec Ideal S1024x256 .bf16) (ix2 k a)) (fun a => (iblk m c 1 t : Vec Ideal S1024x512 .bf16) (ix2 k a)) (fun a => (iblk m c 2 t : Vec Ideal S1024x256 .bf16) (ix2 k a)) (i 0) = (iblk m c 1 t : Vec Ideal S1024x512 .bf16) (ix2 k (x 0)) := fun k => side_1 _ _ _ _ _ (x 0).isLt (by omega)
    have ho : i 1 = (x 1) := Fin.ext (by omega)
    refine (later_1 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]
  · intro x h0 h1
    have hs : ∀ k : Fin 1024, side (fun a => (iblk m c 0 t : Vec Ideal S1024x256 .bf16) (ix2 k a)) (fun a => (iblk m c 1 t : Vec Ideal S1024x512 .bf16) (ix2 k a)) (fun a => (iblk m c 2 t : Vec Ideal S1024x256 .bf16) (ix2 k a)) (i 0) = (iblk m c 2 t : Vec Ideal S1024x256 .bf16) (ix2 k (x 0)) := fun k => side_2 _ _ _ _ _ (x 0).isLt (by omega)
    have ho : i 1 = (x 1) := Fin.ext (by omega)
    refine (later_2 _ _ _ x).trans ?_
    refine congrArg₂ (· + ·) ?_ ?_
    · rw [View.ld_apply]
      refine congrArg (outsAt0 m c (t.val - 1) _) ?_
      funext y
      fin_cases y <;> exact Fin.ext (by simp [Rect.unit]; omega)
    · unfold term
      refine Finset.sum_congr rfl fun k _ => ?_
      rw [hs k, ho]

theorem x0_at (t : Fin cfg0.N) (k : Fin 1024) (a : Fin 256) : (iblk m c 0 t : Vec Ideal S1024x256 .bf16) (ix2 k a) =
    m ((c : Thread nD τ).loc main_arg0) (ix2 ⟨1024 * t.val + k.val, by have : t.val < 8 := t.isLt; omega⟩ a) := by
  blk_ext [iblk, V_main_arg0, i0 t]
theorem x1_at (t : Fin cfg0.N) (k : Fin 1024) (a : Fin 512) : (iblk m c 1 t : Vec Ideal S1024x512 .bf16) (ix2 k a) =
    m ((c : Thread nD τ).loc main_arg1) (ix2 ⟨1024 * t.val + k.val, by have : t.val < 8 := t.isLt; omega⟩ a) := by
  blk_ext [iblk, V_main_arg1, i1 t]
theorem x2_at (t : Fin cfg0.N) (k : Fin 1024) (a : Fin 256) : (iblk m c 2 t : Vec Ideal S1024x256 .bf16) (ix2 k a) =
    m ((c : Thread nD τ).loc main_arg2) (ix2 ⟨1024 * t.val + k.val, by have : t.val < 8 := t.isLt; omega⟩ a) := by
  blk_ext [iblk, V_main_arg2, i2 t]
theorem x3_at (t : Fin cfg0.N) (k : Fin 1024) (a : Fin 1024) : (iblk m c 3 t : Vec Ideal S1024x1024 .f32) (ix2 k a) =
    m ((c : Thread nD τ).loc main_arg3) (ix2 ⟨1024 * t.val + k.val, by have : t.val < 8 := t.isLt; omega⟩ a) := by
  blk_ext [iblk, V_main_arg3, i3 t]

/-- The array the run leaves. -/
theorem arr : (dats m 0 c).arrAt 4 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_after_last 4 lastPoint (by decide +kernel) _ fun j => ?_
  blk_simp
  rw [after0_4]
  obtain ⟨a, b, rfl⟩ : ∃ (a : Fin 1024) (b : Fin 1024), j = ix2 a b := ⟨j 0, j 1, eq_ix2 j⟩
  refine (Pipeline.eq_sum_fin_of_reset_step_apply_last (fun n h => outsAt0 m c n h) 8 (fun _ => (0 : EReal))
    (fun t => term (iblk m c 0 t) (iblk m c 1 t) (iblk m c 2 t) (iblk m c 3 t)) (outs_first m c) (outs_later m c) le_rfl lastPoint rfl (ix2 a b)).trans ?_
  rw [zero_add]
  show _ = out _ _ _ _ (ix2 a b)
  unfold out
  rw [Sums.blocks (p := 8) (s := 1024) rfl (fun q k => by omega)]
  refine Finset.sum_congr rfl fun q _ => Finset.sum_congr rfl fun k _ => ?_
  exact congrArg₂ (· * ·) (congrFun (congr (congr (congrArg side (funext fun a => x0_at m c q k a)) (funext fun a => x1_at m c q k a)) (funext fun a => x2_at m c q k a)) _) (x3_at m c q k _)

/-- The reference's value. -/
theorem ref (x0 : Vec Ideal S8192x256 .bf16) (x1 : Vec Ideal S8192x512 .bf16) (x2 : Vec Ideal S8192x256 .bf16) (x3 : Vec Ideal S8192x1024 .f32) : Cert.DwOutRefIdeal.Read.val_main_v5 (F := Ideal) x0 x1 x2 x3 = out x0 x1 x2 x3 := by
  funext i
  obtain ⟨a, b, rfl⟩ : ∃ (a : Fin 1024) (b : Fin 1024), i = ix2 a b := ⟨i 0, i 1, eq_ix2 i⟩
  pointwise [Cert.DwOutRefIdeal.Read.val_main_v5, Cert.DwOutRefIdeal.Read.val_main_v4, Cert.DwOutRefIdeal.Read.val_main_v3, Cert.DwOutRefIdeal.Read.val_main_v1, Cert.DwOutRefIdeal.Read.val_main_v0, out]
  refine Finset.sum_congr rfl fun k _ => ?_
  rw [mul_comm]
  refine congrArg₂ (· * ·) ?_ rfl
  unfold side
  repeat' split
  all_goals first | omega | rfl | blk_ext

/-- From equal arguments the kernel and the reference return the same array over the extended reals. -/
theorem algebraic : Cert.algebraic_DwOutIdeal_DwOutRefIdeal := by
  intro m ρ m' ρ' _ hagree
  refine ⟨fun c => out (m ((c : Thread nD τ).loc main_arg0)) (m ((c : Thread nD τ).loc main_arg1)) (m ((c : Thread nD τ).loc main_arg2)) (m ((c : Thread nD τ).loc main_arg3)), ?_, ?_⟩
  · exact (θ_run Cert.DwOutIdeal.defs _ _).mono (fun r h c => ⟨(h c).1.trans (arr m c), (h c).2⟩) (Cert.DwOutIdeal.Value.run_blocks m ρ)
  · refine (θ_run Cert.DwOutRefIdeal.defs _ _).mono (fun r h c => ⟨(h c).1.trans ?_, (h c).2⟩) (Cert.DwOutRefIdeal.Value.run m' ρ')
    obtain ⟨h0, h1, h2, h3⟩ := hagree c
    exact (ref _ _ _ _).trans (by rw [h0, h1, h2, h3])

/-- The reference terminates with its arguments unchanged; it declares no semaphore. -/
theorem frame_reference : Cert.quiescent_DwOutRefIdeal := fun m ρ _ =>
  (θ_run Cert.DwOutRefIdeal.defs _ _).mono
    (fun r h => ⟨fun c => (h c).2, sem_eq_zero_of_no_sems rfl r.2⟩) (Cert.DwOutRefIdeal.Value.run m ρ)

end Cert.DwOutIdeal.Matrix

end
-- ==== Proof.Rule.lean ====
/- The optimiser's rule for one entry of a weight, over the extended reals. -/
module

public import Idealize.ShloMosaic.Lib.Pointwise

@[expose] public section

noncomputable section

namespace Cert.Adam

open Idealize.ShloMosaic

/-- An entry of layer `l` of the gradient: the one computed here if the word `u` names that layer, else the other one. -/
def grad (u : BitVec 32) (l : Nat) (p q : EReal) : EReal := Scalar.select (IntOp.cmpi .eq (BitVec.ofNat 32 l) u) p q

/-- The first moment, from the gradient and the first moment before. -/
def nm (g x : EReal) : EReal := FloatOps.addf (F := Ideal) (φ := .f32) (FloatOps.mulf (F := Ideal) (φ := .f32) (FloatOps.ofBits .f32 0x3F666666#32) x) (FloatOps.mulf (F := Ideal) (φ := .f32) (FloatOps.ofBits .f32 0x3DCCCCCD#32) g)

/-- The second moment, from the gradient and the second moment before. -/
def nv (g x : EReal) : EReal := FloatOps.addf (F := Ideal) (φ := .f32) (FloatOps.mulf (F := Ideal) (φ := .f32) (FloatOps.ofBits .f32 0x3F7FBE77#32) x) (FloatOps.mulf (F := Ideal) (φ := .f32) (FloatOps.ofBits .f32 0x3A83126F#32) (FloatOps.mulf (F := Ideal) (φ := .f32) g g))

/-- The step, from the weight and the two moments. -/
def step (w p q : EReal) : EReal :=
  FloatOps.mulf (F := Ideal) (φ := .f32) (FloatOps.ofBits .f32 0xBA83126F#32)
    (FloatOps.addf (F := Ideal) (φ := .f32)
      (FloatOps.divf (F := Ideal) (φ := .f32) (FloatOps.divf (F := Ideal) (φ := .f32) p (FloatOps.ofBits .f32 0x3F26BD02#32))
        (FloatOps.addf (F := Ideal) (φ := .f32) (FloatOps.sqrt (F := Ideal) (φ := .f32) (FloatOps.divf (F := Ideal) (φ := .f32) q (FloatOps.ofBits .f32 0x3C231ACC#32))) (FloatOps.ofBits .f32 0x322BCC77#32)))
      (FloatOps.mulf (F := Ideal) (φ := .f32) (FloatOps.ofBits .f32 0x3C23D70A#32) w))

end Cert.Adam

end
-- ==== Proof.AdamIn.lean ====
/- The optimiser's step on `w_mix_in` of both layers, and the gradient of both put together: the kernel, a block of rows of one layer at every point of its grid, and the reference apply the same rule to every entry over the extended reals. -/
module

public import proofs.«01_k».proof.Defs
public import proofs.«01_k».proof.Proof.Rule
public import proofs.«01_k».proof.Proof.Gen.AdamIn.Frame
public import proofs.«01_k».proof.Proof.Gen.AdamInIdeal.Frame
public import proofs.«01_k».proof.Proof.Gen.AdamInRefIdeal.Read
public import proofs.«01_k».proof.Proof.Gen.AdamInRefIdeal.Run
public import Idealize.ShloMosaic.Lib.Pointwise
public import Idealize.ShloMosaic.Lib.Pipeline.Value
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.AdamIn

open Cert.AdamIn Cert.AdamIn.Gen Idealize.ShloMosaic Idealize.ShloMosaic.TcCoe Idealize.SL.Sem

/-- Whatever layer the word names, the blocks that the index maps choose are inside their arrays. -/
theorem ok {F : FTy → Type} [FloatOps F] (pf : pre0.Contents (Elt F)) : ok0 pf := by
  have h1 (i : grid0.Coords) : (i 1).val < 4 := (i 1).isLt
  refine ⟨fun i => ⟨Fin.forall_fin_two.mpr ⟨?_, (by show (0 + 1) * 898 ≤ 898; omega)⟩, .inl rfl⟩, fun i => ⟨Fin.forall_fin_two.mpr ⟨?_, (by show (0 + 1) * 898 ≤ 898; omega)⟩, .inl rfl⟩⟩
  · show ((Scalar.select _ (BitVec.ofNat 32 (i 1).val) 0#32 : BitVec 32).toNat + 1) * 256 ≤ 1024
    have := h1 i
    unfold Scalar.select
    split <;> simp only [BitVec.toNat_ofNat] <;> omega
  · show ((Scalar.select _ 0#32 (BitVec.ofNat 32 (i 1).val) : BitVec 32).toNat + 1) * 256 ≤ 1024
    have := h1 i
    unfold Scalar.select
    split <;> simp only [BitVec.toNat_ofNat] <;> omega

end Cert.AdamIn

namespace Cert.AdamInIdeal.Rule

open Cert.Adam Cert.AdamInIdeal Cert.AdamInIdeal.Gen Idealize.ShloMosaic Idealize.ShloMosaic.TcCoe Idealize.SL.Sem

variable (m : (ℓ : Loc nD τ sig) → Buf (Elt Ideal) ℓ) (c : Dev nD)

/-- The same of the idealized program. -/
theorem ok {F : FTy → Type} [FloatOps F] (pf : pre0.Contents (Elt F)) : ok0 pf := by
  have h1 (i : grid0.Coords) : (i 1).val < 4 := (i 1).isLt
  refine ⟨fun i => ⟨Fin.forall_fin_two.mpr ⟨?_, (by show (0 + 1) * 898 ≤ 898; omega)⟩, .inl rfl⟩, fun i => ⟨Fin.forall_fin_two.mpr ⟨?_, (by show (0 + 1) * 898 ≤ 898; omega)⟩, .inl rfl⟩⟩
  · show ((Scalar.select _ (BitVec.ofNat 32 (i 1).val) 0#32 : BitVec 32).toNat + 1) * 256 ≤ 1024
    have := h1 i
    unfold Scalar.select
    split <;> simp only [BitVec.toNat_ofNat] <;> omega
  · show ((Scalar.select _ 0#32 (BitVec.ofNat 32 (i 1).val) : BitVec 32).toNat + 1) * 256 ≤ 1024
    have := h1 i
    unfold Scalar.select
    split <;> simp only [BitVec.toNat_ofNat] <;> omega

theorem hO : Ok m := ok _

/-! ## The four results, of the arguments -/

def outG (x1 x2 : Vec Ideal S1024x898 .f32) (x5 : Vec Ideal S_ .i32) : Vec Ideal S2x1024x898 .f32 :=
  fun i => grad (x5 Idealize.ShloMosaic.ix0) (i 0).val (x1 (ix2 (i 1) (i 2))) (x2 (ix2 (i 1) (i 2)))
def outM (x1 x2 : Vec Ideal S1024x898 .f32) (x3 : Vec Ideal S2x1024x898 .f32) (x5 : Vec Ideal S_ .i32) : Vec Ideal S2x1024x898 .f32 :=
  fun i => nm (outG x1 x2 x5 i) (x3 i)
def outV (x1 x2 : Vec Ideal S1024x898 .f32) (x4 : Vec Ideal S2x1024x898 .f32) (x5 : Vec Ideal S_ .i32) : Vec Ideal S2x1024x898 .f32 :=
  fun i => nv (outG x1 x2 x5 i) (x4 i)
def outD (x0 : Vec Ideal S2x1024x898 .f32) (x1 x2 : Vec Ideal S1024x898 .f32) (x3 x4 : Vec Ideal S2x1024x898 .f32) (x5 : Vec Ideal S_ .i32) : Vec Ideal S2x1024x898 .f32 :=
  fun i => step (x0 i) (outM x1 x2 x3 x5 i) (outV x1 x2 x4 x5 i)

/-! ## The grid -/

theorem c0 : ∀ t : Fin grid0.N, (grid0.coords t 0).val = t.val / 4 := by decide +kernel
theorem c1 : ∀ t : Fin grid0.N, (grid0.coords t 1).val = t.val % 4 := by decide +kernel

/-- The word that names the layer. -/
def word : BitVec 32 := m (((0 : Dev nD) : Thread nD τ).loc main_arg5) Idealize.ShloMosaic.ix0

theorem tbl_eq (i : S1.Idx) : tbl m 0 i = word m := by
  show V m 0 main_v0 i = _
  entry_read
  exact congrArg (m (((0 : Dev nD) : Thread nD τ).loc main_arg5)) (funext fun a => a.elim0)

theorem s0 : ∀ t : Fin grid0.N, cc0_transform_0 (grid0.coords t) = ![t.val / 4, t.val % 4, 0] := by decide +kernel
theorem i0 (t : Fin (cfgM m (hO m)).N) : ((pcfg0 (F := Ideal)).win (adm m (hO m)) 0).index t = ![t.val / 4, t.val % 4, 0] := s0 t
theorem s3 : ∀ t : Fin grid0.N, cc0_transform_3 (grid0.coords t) = ![t.val / 4, t.val % 4, 0] := by decide +kernel
theorem i3 (t : Fin (cfgM m (hO m)).N) : ((pcfg0 (F := Ideal)).win (adm m (hO m)) 3).index t = ![t.val / 4, t.val % 4, 0] := s3 t
theorem s4 : ∀ t : Fin grid0.N, cc0_transform_4 (grid0.coords t) = ![t.val / 4, t.val % 4, 0] := by decide +kernel
theorem i4 (t : Fin (cfgM m (hO m)).N) : ((pcfg0 (F := Ideal)).win (adm m (hO m)) 4).index t = ![t.val / 4, t.val % 4, 0] := s4 t
theorem s5 : ∀ t : Fin grid0.N, cc0_transform_5 (grid0.coords t) = ![t.val / 4, t.val % 4, 0] := by decide +kernel
theorem i5 (t : Fin (cfgM m (hO m)).N) : ((pcfg0 (F := Ideal)).win (adm m (hO m)) 5).index t = ![t.val / 4, t.val % 4, 0] := s5 t
theorem s6 : ∀ t : Fin grid0.N, cc0_transform_6 (grid0.coords t) = ![t.val / 4, t.val % 4, 0] := by decide +kernel
theorem i6 (t : Fin (cfgM m (hO m)).N) : ((pcfg0 (F := Ideal)).win (adm m (hO m)) 6).index t = ![t.val / 4, t.val % 4, 0] := s6 t
theorem s7 : ∀ t : Fin grid0.N, cc0_transform_7 (grid0.coords t) = ![t.val / 4, t.val % 4, 0] := by decide +kernel
theorem i7 (t : Fin (cfgM m (hO m)).N) : ((pcfg0 (F := Ideal)).win (adm m (hO m)) 7).index t = ![t.val / 4, t.val % 4, 0] := s7 t
theorem s8 : ∀ t : Fin grid0.N, cc0_transform_8 (grid0.coords t) = ![t.val / 4, t.val % 4, 0] := by decide +kernel
theorem i8 (t : Fin (cfgM m (hO m)).N) : ((pcfg0 (F := Ideal)).win (adm m (hO m)) 8).index t = ![t.val / 4, t.val % 4, 0] := s8 t

/-- The word read by the index maps. -/
theorem at_eq (r : Rect S1) (h1 : r.shape.numel = 1) : (tbl m).at 0 r h1 = word m := tbl_eq m _

theorem ofNat_coord (t : Fin grid0.N) : (BitVec.ofNat 32 (grid0.coords t 1).val).toNat = t.val % 4 := by
  rw [c1 t, BitVec.toNat_ofNat]; omega

/-- Block of the gradient computed here, in the layer the word names, -/
theorem i1 (t : Fin (cfgM m (hO m)).N) (h : IntOp.cmpi .eq (BitVec.ofNat 32 (t.val / 4)) (word m) = 1#1) : ((pcfg0 (F := Ideal)).win (adm m (hO m)) 1).index t = ![t.val % 4, 0] := by
  show cc0_transform_1 inb_S1_S1_0 numel1_S1 (tbl m) (grid0.coords t) = _
  unfold cc0_transform_1
  dsimp only
  rw [at_eq, c0 t, show Scalar.cmpi .eq (BitVec.ofNat 32 (t.val / 4)) (word m) = 1#1 from h, ← ofNat_coord t]
  rfl
/-- and of the other one, in the other layer. -/
theorem i2 (t : Fin (cfgM m (hO m)).N) (h : IntOp.cmpi .eq (BitVec.ofNat 32 (t.val / 4)) (word m) = 0#1) : ((pcfg0 (F := Ideal)).win (adm m (hO m)) 2).index t = ![t.val % 4, 0] := by
  show cc0_transform_2 inb_S1_S1_0 numel1_S1 (tbl m) (grid0.coords t) = _
  unfold cc0_transform_2
  dsimp only
  rw [at_eq, c0 t, show Scalar.cmpi .eq (BitVec.ofNat 32 (t.val / 4)) (word m) = 0#1 from h, ← ofNat_coord t]
  rfl

/-- The index, in an array of both layers, of an entry of a point's block, -/
def at3 (t : Fin grid0.N) (a : Fin 256) (b : Fin 898) : S2x1024x898.Idx :=
  ix3 ⟨t.val / 4, by have : t.val < 8 := t.isLt; omega⟩ ⟨256 * (t.val % 4) + a.val, by omega⟩ b
/-- and in an array of one layer. -/
def at2 (t : Fin grid0.N) (a : Fin 256) (b : Fin 898) : S1024x898.Idx :=
  ix2 ⟨256 * (t.val % 4) + a.val, by omega⟩ b

/-- The block of argument 0 a point reads. -/
theorem x0_at (t : Fin (cfgM m (hO m)).N) (a : Fin 256) (b : Fin 898) : (iblk m (hO m) c 0 t : Vec Ideal S1x256x898 .f32) (ix3 0 a b) = m ((c : Thread nD τ).loc main_arg0) (at3 t a b) := by
  have h := i0 m t
  unfold at3
  blk_ext [iblk, V_main_arg0]
  · exact congrFun h 0
  · exact (congrArg (· * 256 + a.val) (congrFun h 1)).trans (show t.val % 4 * 256 + a.val = _ by omega)
  · exact (congrArg (· * 898 + b.val) (congrFun h 2)).trans (show 0 * 898 + b.val = _ by omega)

/-- The block of argument 3 a point reads. -/
theorem x3_at (t : Fin (cfgM m (hO m)).N) (a : Fin 256) (b : Fin 898) : (iblk m (hO m) c 3 t : Vec Ideal S1x256x898 .f32) (ix3 0 a b) = m ((c : Thread nD τ).loc main_arg3) (at3 t a b) := by
  have h := i3 m t
  unfold at3
  blk_ext [iblk, V_main_arg3]
  · exact congrFun h 0
  · exact (congrArg (· * 256 + a.val) (congrFun h 1)).trans (show t.val % 4 * 256 + a.val = _ by omega)
  · exact (congrArg (· * 898 + b.val) (congrFun h 2)).trans (show 0 * 898 + b.val = _ by omega)

/-- The block of argument 4 a point reads. -/
theorem x4_at (t : Fin (cfgM m (hO m)).N) (a : Fin 256) (b : Fin 898) : (iblk m (hO m) c 4 t : Vec Ideal S1x256x898 .f32) (ix3 0 a b) = m ((c : Thread nD τ).loc main_arg4) (at3 t a b) := by
  have h := i4 m t
  unfold at3
  blk_ext [iblk, V_main_arg4]
  · exact congrFun h 0
  · exact (congrArg (· * 256 + a.val) (congrFun h 1)).trans (show t.val % 4 * 256 + a.val = _ by omega)
  · exact (congrArg (· * 898 + b.val) (congrFun h 2)).trans (show 0 * 898 + b.val = _ by omega)

/-- The block of argument 1 a point reads, in the layer that takes it. -/
theorem x1_at (t : Fin (cfgM m (hO m)).N) (h : IntOp.cmpi .eq (BitVec.ofNat 32 (t.val / 4)) (word m) = 1#1) (a : Fin 256) (b : Fin 898) : (iblk m (hO m) c 1 t : Vec Ideal S256x898 .f32) (ix2 a b) = m ((c : Thread nD τ).loc main_arg1) (at2 t a b) := by
  have h := i1 m t h
  unfold at2
  blk_ext [iblk, V_main_arg1]
  · exact (congrArg (· * 256 + a.val) (congrFun h 0)).trans (show t.val % 4 * 256 + a.val = _ by omega)
  · exact (congrArg (· * 898 + b.val) (congrFun h 1)).trans (show 0 * 898 + b.val = _ by omega)

/-- The block of argument 2 a point reads, in the layer that takes it. -/
theorem x2_at (t : Fin (cfgM m (hO m)).N) (h : IntOp.cmpi .eq (BitVec.ofNat 32 (t.val / 4)) (word m) = 0#1) (a : Fin 256) (b : Fin 898) : (iblk m (hO m) c 2 t : Vec Ideal S256x898 .f32) (ix2 a b) = m ((c : Thread nD τ).loc main_arg2) (at2 t a b) := by
  have h := i2 m t h
  unfold at2
  blk_ext [iblk, V_main_arg2]
  · exact (congrArg (· * 256 + a.val) (congrFun h 0)).trans (show t.val % 4 * 256 + a.val = _ by omega)
  · exact (congrArg (· * 898 + b.val) (congrFun h 1)).trans (show 0 * 898 + b.val = _ by omega)

/-! ## What a point writes -/

/-- The gradient at a point. -/
theorem pay4 (t : Fin (cfgM m (hO m)).N) (a : Fin 256) (b : Fin 898) :
    k0_pay4 (F := Ideal) (grid0.coords t) (word m) (iblk m (hO m) c 1 t) (iblk m (hO m) c 2 t) (ix2 a b)
      = outG (m ((c : Thread nD τ).loc main_arg1)) (m ((c : Thread nD τ).loc main_arg2)) (m ((c : Thread nD τ).loc main_arg5)) (at3 t a b) := by
  have hc : c = 0 := Subsingleton.elim _ _
  subst hc
  unfold k0_pay4 outG grad
  show (Scalar.select (Scalar.cmpi .eq (BitVec.ofNat 32 (grid0.coords t 0).val) (word m)) (iblk m (hO m) 0 1 t : Vec Ideal S256x898 .f32) (iblk m (hO m) 0 2 t : Vec Ideal S256x898 .f32)) (ix2 a b)
    = Scalar.select (IntOp.cmpi .eq (BitVec.ofNat 32 (t.val / 4)) (word m)) _ _
  rw [c0 t]
  rcases (by decide : ∀ u : BitVec 1, u = 1#1 ∨ u = 0#1) (IntOp.cmpi .eq (BitVec.ofNat 32 (t.val / 4)) (word m)) with h | h
  · rw [show Scalar.cmpi .eq (BitVec.ofNat 32 (t.val / 4)) (word m) = 1#1 from h, h]
    exact x1_at m 0 t h a b
  · rw [show Scalar.cmpi .eq (BitVec.ofNat 32 (t.val / 4)) (word m) = 0#1 from h, h]
    exact x2_at m 0 t h a b

section
variable (i : grid0.Coords) (u : BitVec 32) (x1 x2 : Vec Ideal S256x898 .f32) (x0 x3 x4 : Vec Ideal S1x256x898 .f32) (a : Fin 256) (b : Fin 898)

theorem pay7 : k0_pay7 (F := Ideal) i u x1 x2 (ix3 0 a b) = k0_pay4 (F := Ideal) i u x1 x2 (ix2 a b) := by
  unfold k0_pay7; generalize k0_pay4 (F := Ideal) i u x1 x2 = g; pointwise
theorem pay5 : k0_pay5 (F := Ideal) i u x1 x2 x3 (ix2 a b) = nm (k0_pay4 (F := Ideal) i u x1 x2 (ix2 a b)) (x3 (ix3 0 a b)) := by
  unfold k0_pay5; generalize k0_pay4 (F := Ideal) i u x1 x2 = g; pointwise [nm]
theorem pay6 : k0_pay6 (F := Ideal) i u x1 x2 x4 (ix2 a b) = nv (k0_pay4 (F := Ideal) i u x1 x2 (ix2 a b)) (x4 (ix3 0 a b)) := by
  unfold k0_pay6; generalize k0_pay4 (F := Ideal) i u x1 x2 = g; pointwise [nv]
theorem pay2 : k0_pay2 (F := Ideal) (k0_pay5 i u x1 x2 x3) (ix3 0 a b) = nm (k0_pay4 (F := Ideal) i u x1 x2 (ix2 a b)) (x3 (ix3 0 a b)) := by
  rw [← pay5]; generalize k0_pay5 (F := Ideal) i u x1 x2 x3 = g; pointwise [k0_pay2]
theorem pay3 : k0_pay3 (F := Ideal) (k0_pay6 i u x1 x2 x4) (ix3 0 a b) = nv (k0_pay4 (F := Ideal) i u x1 x2 (ix2 a b)) (x4 (ix3 0 a b)) := by
  rw [← pay6]; generalize k0_pay6 (F := Ideal) i u x1 x2 x4 = g; pointwise [k0_pay3]
theorem pay1 : k0_pay1 (F := Ideal) (k0_pay8 i u x1 x2 x3 x4) (k0_pay9 x0) (ix3 0 a b)
    = step (x0 (ix3 0 a b)) (nm (k0_pay4 (F := Ideal) i u x1 x2 (ix2 a b)) (x3 (ix3 0 a b))) (nv (k0_pay4 (F := Ideal) i u x1 x2 (ix2 a b)) (x4 (ix3 0 a b))) := by
  rw [← pay5, ← pay6]
  unfold k0_pay8
  generalize k0_pay5 (F := Ideal) i u x1 x2 x3 = g
  generalize k0_pay6 (F := Ideal) i u x1 x2 x4 = h
  pointwise [k0_pay1, k0_pay9, step]
end

/-! ## The arrays the run leaves -/

/-- Some contents of the table, to decide what does not depend on them. -/
def tables : (pcfg0 (F := Ideal)).Adm :=
  ⟨fun | 0 => fun _ => (0#32 : BitVec 32) | ⟨_ + 1, h⟩ => absurd h (Nat.not_lt.2 (Nat.le_add_left _ _)), ok _⟩

theorem idx3 (y : S1x256x898.Idx) : ∃ (a : Fin 256) (b : Fin 898), y = ix3 0 a b :=
  ⟨y 1, y 2, (eq_ix3 y).trans (congrArg (fun z : Fin 1 => ix3 z (y 1) (y 2)) (Subsingleton.elim (α := Fin 1) _ _))⟩
theorem rd : View.readAt (Elt Ideal) (View.whole main_v0) (Rect.unit (s := S1) ![0] ![1] inb_S1_S1_0).toLoadRect (tbl m 0) (Shape.Idx.first (by decide)) = word m := tbl_eq m _

theorem cov5 : ((pcfg0 (F := Ideal)).win tables 5).Covers := by decide +kernel
theorem emb5 (t : Fin (cfgM m (hO m)).N) (a : Fin 256) (b : Fin 898) : (((cfgM m (hO m)).win 5).blk t).view.emb (ix3 0 a b) = at3 t a b := by
  have h := i5 m t
  unfold at3
  blk_ext
  · exact congrFun h 0
  · exact (congrArg (· * 256 + a.val) (congrFun h 1)).trans (show t.val % 4 * 256 + a.val = _ by omega)
  · exact (congrArg (· * 898 + b.val) (congrFun h 2)).trans (show 0 * 898 + b.val = _ by omega)
theorem arr5 : (dats m (hO m) 0 c).arrAt 5 (cfgM m (hO m)).N = outG (m ((c : Thread nD τ).loc main_arg1)) (m ((c : Thread nD τ).loc main_arg2)) (m ((c : Thread nD τ).loc main_arg5)) := by
  refine (dats m (hO m) 0 c).arrAt_eq_of_covers 5 _ cov5 fun t hf y => ?_
  blk_simp
  rw [after0_5]
  unfold outsAt0
  frame_out
  obtain ⟨a, b, rfl⟩ := idx3 y
  refine (congr (congr (congrArg (fun (u : BitVec 32) (x1 : Vec Ideal S256x898 .f32) (x2 : Vec Ideal S256x898 .f32) => k0_pay7 (F := Ideal) (grid0.coords t) u x1 x2 (ix3 0 a b)) (rd m)) ((hs0_1 m (hO m) t).read_unread (iblk m (hO m) c 1 t))) ((hs0_2 m (hO m) t).read_unread (iblk m (hO m) c 2 t))).trans ?_
  refine Eq.trans ?_ (congrArg (outG (m ((c : Thread nD τ).loc main_arg1)) (m ((c : Thread nD τ).loc main_arg2)) (m ((c : Thread nD τ).loc main_arg5))) (emb5 m t a b).symm)
  exact (pay7 _ _ _ _ a b).trans (pay4 m c t a b)

theorem cov6 : ((pcfg0 (F := Ideal)).win tables 6).Covers := by decide +kernel
theorem emb6 (t : Fin (cfgM m (hO m)).N) (a : Fin 256) (b : Fin 898) : (((cfgM m (hO m)).win 6).blk t).view.emb (ix3 0 a b) = at3 t a b := by
  have h := i6 m t
  unfold at3
  blk_ext
  · exact congrFun h 0
  · exact (congrArg (· * 256 + a.val) (congrFun h 1)).trans (show t.val % 4 * 256 + a.val = _ by omega)
  · exact (congrArg (· * 898 + b.val) (congrFun h 2)).trans (show 0 * 898 + b.val = _ by omega)
theorem arr6 : (dats m (hO m) 0 c).arrAt 6 (cfgM m (hO m)).N = outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (hO m) 0 c).arrAt_eq_of_covers 6 _ cov6 fun t hf y => ?_
  blk_simp
  rw [after0_6]
  unfold outsAt0
  frame_out
  obtain ⟨a, b, rfl⟩ := idx3 y
  refine (congr (congr (congr (congr (congr (congrArg (fun (u : BitVec 32) (x1 : Vec Ideal S256x898 .f32) (x2 : Vec Ideal S256x898 .f32) (x3 : Vec Ideal S1x256x898 .f32) (x4 : Vec Ideal S1x256x898 .f32) (x0 : Vec Ideal S1x256x898 .f32) => k0_pay1 (F := Ideal) (k0_pay8 (grid0.coords t) u x1 x2 x3 x4) (k0_pay9 x0) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))) ((hs0_4 m (hO m) t).read_unread (iblk m (hO m) c 4 t))) ((hs0_0 m (hO m) t).read_unread (iblk m (hO m) c 0 t))).trans ?_
  refine Eq.trans ?_ (congrArg (outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 m t a b).symm)
  exact (pay1 _ _ _ _ _ _ _ a b).trans (by rw [pay4 m c t a b, x0_at, x3_at, x4_at]; rfl)

theorem cov7 : ((pcfg0 (F := Ideal)).win tables 7).Covers := by decide +kernel
theorem emb7 (t : Fin (cfgM m (hO m)).N) (a : Fin 256) (b : Fin 898) : (((cfgM m (hO m)).win 7).blk t).view.emb (ix3 0 a b) = at3 t a b := by
  have h := i7 m t
  unfold at3
  blk_ext
  · exact congrFun h 0
  · exact (congrArg (· * 256 + a.val) (congrFun h 1)).trans (show t.val % 4 * 256 + a.val = _ by omega)
  · exact (congrArg (· * 898 + b.val) (congrFun h 2)).trans (show 0 * 898 + b.val = _ by omega)
theorem arr7 : (dats m (hO m) 0 c).arrAt 7 (cfgM m (hO m)).N = outM (m ((c : Thread nD τ).loc main_arg1)) (m ((c : Thread nD τ).loc main_arg2)) (m ((c : Thread nD τ).loc main_arg3)) (m ((c : Thread nD τ).loc main_arg5)) := by
  refine (dats m (hO m) 0 c).arrAt_eq_of_covers 7 _ cov7 fun t hf y => ?_
  blk_simp
  rw [after0_7]
  unfold outsAt0
  frame_out
  obtain ⟨a, b, rfl⟩ := idx3 y
  refine (congr (congr (congr (congrArg (fun (u : BitVec 32) (x1 : Vec Ideal S256x898 .f32) (x2 : Vec Ideal S256x898 .f32) (x3 : Vec Ideal S1x256x898 .f32) => k0_pay2 (F := Ideal) (k0_pay5 (grid0.coords t) u x1 x2 x3) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))).trans ?_
  refine Eq.trans ?_ (congrArg (outM (m ((c : Thread nD τ).loc main_arg1)) (m ((c : Thread nD τ).loc main_arg2)) (m ((c : Thread nD τ).loc main_arg3)) (m ((c : Thread nD τ).loc main_arg5))) (emb7 m t a b).symm)
  exact (pay2 _ _ _ _ _ a b).trans (congrArg₂ nm (pay4 m c t a b) (x3_at m c t a b))

theorem cov8 : ((pcfg0 (F := Ideal)).win tables 8).Covers := by decide +kernel
theorem emb8 (t : Fin (cfgM m (hO m)).N) (a : Fin 256) (b : Fin 898) : (((cfgM m (hO m)).win 8).blk t).view.emb (ix3 0 a b) = at3 t a b := by
  have h := i8 m t
  unfold at3
  blk_ext
  · exact congrFun h 0
  · exact (congrArg (· * 256 + a.val) (congrFun h 1)).trans (show t.val % 4 * 256 + a.val = _ by omega)
  · exact (congrArg (· * 898 + b.val) (congrFun h 2)).trans (show 0 * 898 + b.val = _ by omega)
theorem arr8 : (dats m (hO m) 0 c).arrAt 8 (cfgM m (hO m)).N = outV (m ((c : Thread nD τ).loc main_arg1)) (m ((c : Thread nD τ).loc main_arg2)) (m ((c : Thread nD τ).loc main_arg4)) (m ((c : Thread nD τ).loc main_arg5)) := by
  refine (dats m (hO m) 0 c).arrAt_eq_of_covers 8 _ cov8 fun t hf y => ?_
  blk_simp
  rw [after0_8]
  unfold outsAt0
  frame_out
  obtain ⟨a, b, rfl⟩ := idx3 y
  refine (congr (congr (congr (congrArg (fun (u : BitVec 32) (x1 : Vec Ideal S256x898 .f32) (x2 : Vec Ideal S256x898 .f32) (x4 : Vec Ideal S1x256x898 .f32) => k0_pay3 (F := Ideal) (k0_pay6 (grid0.coords t) u x1 x2 x4) (ix3 0 a b)) (rd m)) ((hs0_1 m (hO m) t).read_unread (iblk m (hO m) c 1 t))) ((hs0_2 m (hO m) t).read_unread (iblk m (hO m) c 2 t))) ((hs0_4 m (hO m) t).read_unread (iblk m (hO m) c 4 t))).trans ?_
  refine Eq.trans ?_ (congrArg (outV (m ((c : Thread nD τ).loc main_arg1)) (m ((c : Thread nD τ).loc main_arg2)) (m ((c : Thread nD τ).loc main_arg4)) (m ((c : Thread nD τ).loc main_arg5))) (emb8 m t a b).symm)
  exact (pay3 _ _ _ _ _ a b).trans (congrArg₂ nv (pay4 m c t a b) (x4_at m c t a b))

/-! ## The reference -/

section
open Cert.AdamInRefIdeal.Read
variable (x0 x3 x4 : Vec Ideal S2x1024x898 .f32) (x1 x2 : Vec Ideal S1024x898 .f32) (x5 : Vec Ideal S_ .i32)

theorem refG : val_main_v6 (F := Ideal) x1 x2 x5 = outG x1 x2 x5 := by
  funext i
  obtain ⟨l, a, b, rfl⟩ : ∃ (l : Fin 2) (a : Fin 1024) (b : Fin 898), i = ix3 l a b := ⟨i 0, i 1, i 2, eq_ix3 i⟩
  pointwise [val_main_v0, val_main_v1, val_main_v2, val_main_v3, val_main_v4, val_main_v5, val_main_call0_v0, val_main_call0_v1, val_main_call0_v2, val_main_v6, outG, grad]
theorem refM : val_main_v11 (F := Ideal) x1 x2 x3 x5 = outM x1 x2 x3 x5 := by
  funext i
  unfold outM
  rw [← refG]
  obtain ⟨l, a, b, rfl⟩ : ∃ (l : Fin 2) (a : Fin 1024) (b : Fin 898), i = ix3 l a b := ⟨i 0, i 1, i 2, eq_ix3 i⟩
  unfold val_main_v11 val_main_v10
  generalize val_main_v6 (F := Ideal) x1 x2 x5 = g
  pointwise [val_main_cst, val_main_v7, val_main_v8, val_main_cst_0, val_main_v9, nm]
theorem refV : val_main_v17 (F := Ideal) x1 x2 x4 x5 = outV x1 x2 x4 x5 := by
  funext i
  unfold outV
  rw [← refG]
  obtain ⟨l, a, b, rfl⟩ : ∃ (l : Fin 2) (a : Fin 1024) (b : Fin 898), i = ix3 l a b := ⟨i 0, i 1, i 2, eq_ix3 i⟩
  unfold val_main_v17 val_main_v16 val_main_v14
  generalize val_main_v6 (F := Ideal) x1 x2 x5 = g
  pointwise [val_main_cst_1, val_main_v12, val_main_v13, val_main_cst_2, val_main_v15, nv]
theorem refD : val_main_v30 (F := Ideal) x0 x1 x2 x3 x4 x5 = outD x0 x1 x2 x3 x4 x5 := by
  funext i
  unfold outD
  rw [← refM, ← refV]
  obtain ⟨l, a, b, rfl⟩ : ∃ (l : Fin 2) (a : Fin 1024) (b : Fin 898), i = ix3 l a b := ⟨i 0, i 1, i 2, eq_ix3 i⟩
  unfold val_main_v30 val_main_v28 val_main_v29 val_main_v27 val_main_v26 val_main_v25 val_main_v24 val_main_v23 val_main_v22 val_main_v21 val_main_v20 val_main_v19 val_main_v18
  generalize val_main_v11 (F := Ideal) x1 x2 x3 x5 = g
  generalize val_main_v17 (F := Ideal) x1 x2 x4 x5 = h
  pointwise [val_main_cst_3, val_main_cst_4, val_main_cst_5, val_main_cst_6, val_main_cst_7, step]

end

/-- From equal arguments the kernel and the reference return the same four arrays over the extended reals. -/
theorem algebraic : Cert.algebraic_AdamInIdeal_AdamInRefIdeal := by
  intro m ρ m' ρ' _ hagree
  refine ⟨fun c => outG (m ((c : Thread nD τ).loc main_arg1)) (m ((c : Thread nD τ).loc main_arg2)) (m ((c : Thread nD τ).loc main_arg5)), fun c => outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => outM (m ((c : Thread nD τ).loc main_arg1)) (m ((c : Thread nD τ).loc main_arg2)) (m ((c : Thread nD τ).loc main_arg3)) (m ((c : Thread nD τ).loc main_arg5)), fun c => outV (m ((c : Thread nD τ).loc main_arg1)) (m ((c : Thread nD τ).loc main_arg2)) (m ((c : Thread nD τ).loc main_arg4)) (m ((c : Thread nD τ).loc main_arg5)), ?_, ?_⟩
  · exact (θ_run Cert.AdamInIdeal.defs _ _).mono
      (fun r h c => ⟨((h.2 c).1 5).trans (arr5 m c), ((h.2 c).1 6).trans (arr6 m c), ((h.2 c).1 7).trans (arr7 m c), ((h.2 c).1 8).trans (arr8 m c), h.1 c⟩)
      (θ_run_and (unchanged m ρ (hO m)) (run_main m ρ (hO m)))
  · refine (θ_run Cert.AdamInRefIdeal.defs _ _).mono (fun r h c => ⟨(h c).1.trans ?_, (h c).2.1.trans ?_, (h c).2.2.1.trans ?_, (h c).2.2.2.1.trans ?_, (h c).2.2.2.2⟩) (Cert.AdamInRefIdeal.Value.run m' ρ')
    all_goals obtain ⟨h0, h1, h2, h3, h4, h5⟩ := hagree c
    · exact (refG _ _ _).trans (by rw [h1, h2, h5])
    · exact (refD _ _ _ _ _ _).trans (by rw [h0, h1, h2, h3, h4, h5])
    · exact (refM _ _ _ _).trans (by rw [h1, h2, h3, h5])
    · exact (refV _ _ _ _).trans (by rw [h1, h2, h4, h5])

/-- The reference terminates with its arguments unchanged; it declares no semaphore. -/
theorem frame_reference : Cert.quiescent_AdamInRefIdeal := fun m ρ _ =>
  (θ_run Cert.AdamInRefIdeal.defs _ _).mono
    (fun r h => ⟨fun c => (h c).2.2.2.2, sem_eq_zero_of_no_sems rfl r.2⟩) (Cert.AdamInRefIdeal.Value.run m ρ)

/-- The idealized kernel terminates with its arguments unchanged, whatever layer the word names, -/
theorem frame_ideal : Cert.quiescent_AdamInIdeal := fun m ρ _ => frame m ρ (ok _)
/-- and so does the kernel. -/
theorem frame_kernel : Cert.quiescent_AdamIn := fun m ρ _ => Cert.AdamIn.Gen.frame m ρ (Cert.AdamIn.ok _)

end Cert.AdamInIdeal.Rule

end
-- ==== Proof.AdamOut.lean ====
/- The optimiser's step on `w_mix_out` of both layers, and the gradient of both put together: the kernel, a block of rows of one layer at every point of its grid, and the reference apply the same rule to every entry over the extended reals. -/
module

public import proofs.«01_k».proof.Defs
public import proofs.«01_k».proof.Proof.Rule
public import proofs.«01_k».proof.Proof.Gen.AdamOut.Frame
public import proofs.«01_k».proof.Proof.Gen.AdamOutIdeal.Frame
public import proofs.«01_k».proof.Proof.Gen.AdamOutRefIdeal.Read
public import proofs.«01_k».proof.Proof.Gen.AdamOutRefIdeal.Run
public import Idealize.ShloMosaic.Lib.Pointwise
public import Idealize.ShloMosaic.Lib.Pipeline.Value
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.AdamOut

open Cert.AdamOut Cert.AdamOut.Gen Idealize.ShloMosaic Idealize.ShloMosaic.TcCoe Idealize.SL.Sem

/-- Whatever layer the word names, the blocks that the index maps choose are inside their arrays. -/
theorem ok {F : FTy → Type} [FloatOps F] (pf : pre0.Contents (Elt F)) : ok0 pf := by
  have h1 (i : grid0.Coords) : (i 1).val < 1 := (i 1).isLt
  refine ⟨fun i => ⟨Fin.forall_fin_two.mpr ⟨?_, (by show (0 + 1) * 1024 ≤ 1024; omega)⟩, .inl rfl⟩, fun i => ⟨Fin.forall_fin_two.mpr ⟨?_, (by show (0 + 1) * 1024 ≤ 1024; omega)⟩, .inl rfl⟩⟩
  · show ((Scalar.select _ (BitVec.ofNat 32 (i 1).val) 0#32 : BitVec 32).toNat + 1) * 256 ≤ 256
    have := h1 i
    unfold Scalar.select
    split <;> simp only [BitVec.toNat_ofNat] <;> omega
  · show ((Scalar.select _ 0#32 (BitVec.ofNat 32 (i 1).val) : BitVec 32).toNat + 1) * 256 ≤ 256
    have := h1 i
    unfold Scalar.select
    split <;> simp only [BitVec.toNat_ofNat] <;> omega

end Cert.AdamOut

namespace Cert.AdamOutIdeal.Rule

open Cert.Adam Cert.AdamOutIdeal Cert.AdamOutIdeal.Gen Idealize.ShloMosaic Idealize.ShloMosaic.TcCoe Idealize.SL.Sem

variable (m : (ℓ : Loc nD τ sig) → Buf (Elt Ideal) ℓ) (c : Dev nD)

/-- The same of the idealized program. -/
theorem ok {F : FTy → Type} [FloatOps F] (pf : pre0.Contents (Elt F)) : ok0 pf := by
  have h1 (i : grid0.Coords) : (i 1).val < 1 := (i 1).isLt
  refine ⟨fun i => ⟨Fin.forall_fin_two.mpr ⟨?_, (by show (0 + 1) * 1024 ≤ 1024; omega)⟩, .inl rfl⟩, fun i => ⟨Fin.forall_fin_two.mpr ⟨?_, (by show (0 + 1) * 1024 ≤ 1024; omega)⟩, .inl rfl⟩⟩
  · show ((Scalar.select _ (BitVec.ofNat 32 (i 1).val) 0#32 : BitVec 32).toNat + 1) * 256 ≤ 256
    have := h1 i
    unfold Scalar.select
    split <;> simp only [BitVec.toNat_ofNat] <;> omega
  · show ((Scalar.select _ 0#32 (BitVec.ofNat 32 (i 1).val) : BitVec 32).toNat + 1) * 256 ≤ 256
    have := h1 i
    unfold Scalar.select
    split <;> simp only [BitVec.toNat_ofNat] <;> omega

theorem hO : Ok m := ok _

/-! ## The four results, of the arguments -/

def outG (x1 x2 : Vec Ideal S256x1024 .f32) (x5 : Vec Ideal S_ .i32) : Vec Ideal S2x256x1024 .f32 :=
  fun i => grad (x5 Idealize.ShloMosaic.ix0) (i 0).val (x1 (ix2 (i 1) (i 2))) (x2 (ix2 (i 1) (i 2)))
def outM (x1 x2 : Vec Ideal S256x1024 .f32) (x3 : Vec Ideal S2x256x1024 .f32) (x5 : Vec Ideal S_ .i32) : Vec Ideal S2x256x1024 .f32 :=
  fun i => nm (outG x1 x2 x5 i) (x3 i)
def outV (x1 x2 : Vec Ideal S256x1024 .f32) (x4 : Vec Ideal S2x256x1024 .f32) (x5 : Vec Ideal S_ .i32) : Vec Ideal S2x256x1024 .f32 :=
  fun i => nv (outG x1 x2 x5 i) (x4 i)
def outD (x0 : Vec Ideal S2x256x1024 .f32) (x1 x2 : Vec Ideal S256x1024 .f32) (x3 x4 : Vec Ideal S2x256x1024 .f32) (x5 : Vec Ideal S_ .i32) : Vec Ideal S2x256x1024 .f32 :=
  fun i => step (x0 i) (outM x1 x2 x3 x5 i) (outV x1 x2 x4 x5 i)

/-! ## The grid -/

theorem c0 : ∀ t : Fin grid0.N, (grid0.coords t 0).val = t.val / 1 := by decide +kernel
theorem c1 : ∀ t : Fin grid0.N, (grid0.coords t 1).val = t.val % 1 := by decide +kernel

/-- The word that names the layer. -/
def word : BitVec 32 := m (((0 : Dev nD) : Thread nD τ).loc main_arg5) Idealize.ShloMosaic.ix0

theorem tbl_eq (i : S1.Idx) : tbl m 0 i = word m := by
  show V m 0 main_v0 i = _
  entry_read
  exact congrArg (m (((0 : Dev nD) : Thread nD τ).loc main_arg5)) (funext fun a => a.elim0)

theorem s0 : ∀ t : Fin grid0.N, cc0_transform_0 (grid0.coords t) = ![t.val / 1, t.val % 1, 0] := by decide +kernel
theorem i0 (t : Fin (cfgM m (hO m)).N) : ((pcfg0 (F := Ideal)).win (adm m (hO m)) 0).index t = ![t.val / 1, t.val % 1, 0] := s0 t
theorem s3 : ∀ t : Fin grid0.N, cc0_transform_3 (grid0.coords t) = ![t.val / 1, t.val % 1, 0] := by decide +kernel
theorem i3 (t : Fin (cfgM m (hO m)).N) : ((pcfg0 (F := Ideal)).win (adm m (hO m)) 3).index t = ![t.val / 1, t.val % 1, 0] := s3 t
theorem s4 : ∀ t : Fin grid0.N, cc0_transform_4 (grid0.coords t) = ![t.val / 1, t.val % 1, 0] := by decide +kernel
theorem i4 (t : Fin (cfgM m (hO m)).N) : ((pcfg0 (F := Ideal)).win (adm m (hO m)) 4).index t = ![t.val / 1, t.val % 1, 0] := s4 t
theorem s5 : ∀ t : Fin grid0.N, cc0_transform_5 (grid0.coords t) = ![t.val / 1, t.val % 1, 0] := by decide +kernel
theorem i5 (t : Fin (cfgM m (hO m)).N) : ((pcfg0 (F := Ideal)).win (adm m (hO m)) 5).index t = ![t.val / 1, t.val % 1, 0] := s5 t
theorem s6 : ∀ t : Fin grid0.N, cc0_transform_6 (grid0.coords t) = ![t.val / 1, t.val % 1, 0] := by decide +kernel
theorem i6 (t : Fin (cfgM m (hO m)).N) : ((pcfg0 (F := Ideal)).win (adm m (hO m)) 6).index t = ![t.val / 1, t.val % 1, 0] := s6 t
theorem s7 : ∀ t : Fin grid0.N, cc0_transform_7 (grid0.coords t) = ![t.val / 1, t.val % 1, 0] := by decide +kernel
theorem i7 (t : Fin (cfgM m (hO m)).N) : ((pcfg0 (F := Ideal)).win (adm m (hO m)) 7).index t = ![t.val / 1, t.val % 1, 0] := s7 t
theorem s8 : ∀ t : Fin grid0.N, cc0_transform_8 (grid0.coords t) = ![t.val / 1, t.val % 1, 0] := by decide +kernel
theorem i8 (t : Fin (cfgM m (hO m)).N) : ((pcfg0 (F := Ideal)).win (adm m (hO m)) 8).index t = ![t.val / 1, t.val % 1, 0] := s8 t

/-- The word read by the index maps. -/
theorem at_eq (r : Rect S1) (h1 : r.shape.numel = 1) : (tbl m).at 0 r h1 = word m := tbl_eq m _

theorem ofNat_coord (t : Fin grid0.N) : (BitVec.ofNat 32 (grid0.coords t 1).val).toNat = t.val % 1 := by
  rw [c1 t, BitVec.toNat_ofNat]; omega

/-- Block of the gradient computed here, in the layer the word names, -/
theorem i1 (t : Fin (cfgM m (hO m)).N) (h : IntOp.cmpi .eq (BitVec.ofNat 32 (t.val / 1)) (word m) = 1#1) : ((pcfg0 (F := Ideal)).win (adm m (hO m)) 1).index t = ![t.val % 1, 0] := by
  show cc0_transform_1 inb_S1_S1_0 numel1_S1 (tbl m) (grid0.coords t) = _
  unfold cc0_transform_1
  dsimp only
  rw [at_eq, c0 t, show Scalar.cmpi .eq (BitVec.ofNat 32 (t.val / 1)) (word m) = 1#1 from h, ← ofNat_coord t]
  rfl
/-- and of the other one, in the other layer. -/
theorem i2 (t : Fin (cfgM m (hO m)).N) (h : IntOp.cmpi .eq (BitVec.ofNat 32 (t.val / 1)) (word m) = 0#1) : ((pcfg0 (F := Ideal)).win (adm m (hO m)) 2).index t = ![t.val % 1, 0] := by
  show cc0_transform_2 inb_S1_S1_0 numel1_S1 (tbl m) (grid0.coords t) = _
  unfold cc0_transform_2
  dsimp only
  rw [at_eq, c0 t, show Scalar.cmpi .eq (BitVec.ofNat 32 (t.val / 1)) (word m) = 0#1 from h, ← ofNat_coord t]
  rfl

/-- The index, in an array of both layers, of an entry of a point's block, -/
def at3 (t : Fin grid0.N) (a : Fin 256) (b : Fin 1024) : S2x256x1024.Idx :=
  ix3 ⟨t.val / 1, by have : t.val < 2 := t.isLt; omega⟩ ⟨256 * (t.val % 1) + a.val, by omega⟩ b
/-- and in an array of one layer. -/
def at2 (t : Fin grid0.N) (a : Fin 256) (b : Fin 1024) : S256x1024.Idx :=
  ix2 ⟨256 * (t.val % 1) + a.val, by omega⟩ b

/-- The block of argument 0 a point reads. -/
theorem x0_at (t : Fin (cfgM m (hO m)).N) (a : Fin 256) (b : Fin 1024) : (iblk m (hO m) c 0 t : Vec Ideal S1x256x1024 .f32) (ix3 0 a b) = m ((c : Thread nD τ).loc main_arg0) (at3 t a b) := by
  have h := i0 m t
  unfold at3
  blk_ext [iblk, V_main_arg0]
  · exact congrFun h 0
  · exact (congrArg (· * 256 + a.val) (congrFun h 1)).trans (show t.val % 1 * 256 + a.val = _ by omega)
  · exact (congrArg (· * 1024 + b.val) (congrFun h 2)).trans (show 0 * 1024 + b.val = _ by omega)

/-- The block of argument 3 a point reads. -/
theorem x3_at (t : Fin (cfgM m (hO m)).N) (a : Fin 256) (b : Fin 1024) : (iblk m (hO m) c 3 t : Vec Ideal S1x256x1024 .f32) (ix3 0 a b) = m ((c : Thread nD τ).loc main_arg3) (at3 t a b) := by
  have h := i3 m t
  unfold at3
  blk_ext [iblk, V_main_arg3]
  · exact congrFun h 0
  · exact (congrArg (· * 256 + a.val) (congrFun h 1)).trans (show t.val % 1 * 256 + a.val = _ by omega)
  · exact (congrArg (· * 1024 + b.val) (congrFun h 2)).trans (show 0 * 1024 + b.val = _ by omega)

/-- The block of argument 4 a point reads. -/
theorem x4_at (t : Fin (cfgM m (hO m)).N) (a : Fin 256) (b : Fin 1024) : (iblk m (hO m) c 4 t : Vec Ideal S1x256x1024 .f32) (ix3 0 a b) = m ((c : Thread nD τ).loc main_arg4) (at3 t a b) := by
  have h := i4 m t
  unfold at3
  blk_ext [iblk, V_main_arg4]
  · exact congrFun h 0
  · exact (congrArg (· * 256 + a.val) (congrFun h 1)).trans (show t.val % 1 * 256 + a.val = _ by omega)
  · exact (congrArg (· * 1024 + b.val) (congrFun h 2)).trans (show 0 * 1024 + b.val = _ by omega)

/-- The block of argument 1 a point reads, in the layer that takes it. -/
theorem x1_at (t : Fin (cfgM m (hO m)).N) (h : IntOp.cmpi .eq (BitVec.ofNat 32 (t.val / 1)) (word m) = 1#1) (a : Fin 256) (b : Fin 1024) : (iblk m (hO m) c 1 t : Vec Ideal S256x1024 .f32) (ix2 a b) = m ((c : Thread nD τ).loc main_arg1) (at2 t a b) := by
  have h := i1 m t h
  unfold at2
  blk_ext [iblk, V_main_arg1]
  · exact (congrArg (· * 256 + a.val) (congrFun h 0)).trans (show t.val % 1 * 256 + a.val = _ by omega)
  · exact (congrArg (· * 1024 + b.val) (congrFun h 1)).trans (show 0 * 1024 + b.val = _ by omega)

/-- The block of argument 2 a point reads, in the layer that takes it. -/
theorem x2_at (t : Fin (cfgM m (hO m)).N) (h : IntOp.cmpi .eq (BitVec.ofNat 32 (t.val / 1)) (word m) = 0#1) (a : Fin 256) (b : Fin 1024) : (iblk m (hO m) c 2 t : Vec Ideal S256x1024 .f32) (ix2 a b) = m ((c : Thread nD τ).loc main_arg2) (at2 t a b) := by
  have h := i2 m t h
  unfold at2
  blk_ext [iblk, V_main_arg2]
  · exact (congrArg (· * 256 + a.val) (congrFun h 0)).trans (show t.val % 1 * 256 + a.val = _ by omega)
  · exact (congrArg (· * 1024 + b.val) (congrFun h 1)).trans (show 0 * 1024 + b.val = _ by omega)

/-! ## What a point writes -/

/-- The gradient at a point. -/
theorem pay4 (t : Fin (cfgM m (hO m)).N) (a : Fin 256) (b : Fin 1024) :
    k0_pay4 (F := Ideal) (grid0.coords t) (word m) (iblk m (hO m) c 1 t) (iblk m (hO m) c 2 t) (ix2 a b)
      = outG (m ((c : Thread nD τ).loc main_arg1)) (m ((c : Thread nD τ).loc main_arg2)) (m ((c : Thread nD τ).loc main_arg5)) (at3 t a b) := by
  have hc : c = 0 := Subsingleton.elim _ _
  subst hc
  unfold k0_pay4 outG grad
  show (Scalar.select (Scalar.cmpi .eq (BitVec.ofNat 32 (grid0.coords t 0).val) (word m)) (iblk m (hO m) 0 1 t : Vec Ideal S256x1024 .f32) (iblk m (hO m) 0 2 t : Vec Ideal S256x1024 .f32)) (ix2 a b)
    = Scalar.select (IntOp.cmpi .eq (BitVec.ofNat 32 (t.val / 1)) (word m)) _ _
  rw [c0 t]
  rcases (by decide : ∀ u : BitVec 1, u = 1#1 ∨ u = 0#1) (IntOp.cmpi .eq (BitVec.ofNat 32 (t.val / 1)) (word m)) with h | h
  · rw [show Scalar.cmpi .eq (BitVec.ofNat 32 (t.val / 1)) (word m) = 1#1 from h, h]
    exact x1_at m 0 t h a b
  · rw [show Scalar.cmpi .eq (BitVec.ofNat 32 (t.val / 1)) (word m) = 0#1 from h, h]
    exact x2_at m 0 t h a b

section
variable (i : grid0.Coords) (u : BitVec 32) (x1 x2 : Vec Ideal S256x1024 .f32) (x0 x3 x4 : Vec Ideal S1x256x1024 .f32) (a : Fin 256) (b : Fin 1024)

theorem pay7 : k0_pay7 (F := Ideal) i u x1 x2 (ix3 0 a b) = k0_pay4 (F := Ideal) i u x1 x2 (ix2 a b) := by
  unfold k0_pay7; generalize k0_pay4 (F := Ideal) i u x1 x2 = g; pointwise
theorem pay5 : k0_pay5 (F := Ideal) i u x1 x2 x3 (ix2 a b) = nm (k0_pay4 (F := Ideal) i u x1 x2 (ix2 a b)) (x3 (ix3 0 a b)) := by
  unfold k0_pay5; generalize k0_pay4 (F := Ideal) i u x1 x2 = g; pointwise [nm]
theorem pay6 : k0_pay6 (F := Ideal) i u x1 x2 x4 (ix2 a b) = nv (k0_pay4 (F := Ideal) i u x1 x2 (ix2 a b)) (x4 (ix3 0 a b)) := by
  unfold k0_pay6; generalize k0_pay4 (F := Ideal) i u x1 x2 = g; pointwise [nv]
theorem pay2 : k0_pay2 (F := Ideal) (k0_pay5 i u x1 x2 x3) (ix3 0 a b) = nm (k0_pay4 (F := Ideal) i u x1 x2 (ix2 a b)) (x3 (ix3 0 a b)) := by
  rw [← pay5]; generalize k0_pay5 (F := Ideal) i u x1 x2 x3 = g; pointwise [k0_pay2]
theorem pay3 : k0_pay3 (F := Ideal) (k0_pay6 i u x1 x2 x4) (ix3 0 a b) = nv (k0_pay4 (F := Ideal) i u x1 x2 (ix2 a b)) (x4 (ix3 0 a b)) := by
  rw [← pay6]; generalize k0_pay6 (F := Ideal) i u x1 x2 x4 = g; pointwise [k0_pay3]
theorem pay1 : k0_pay1 (F := Ideal) (k0_pay8 i u x1 x2 x3 x4) (k0_pay9 x0) (ix3 0 a b)
    = step (x0 (ix3 0 a b)) (nm (k0_pay4 (F := Ideal) i u x1 x2 (ix2 a b)) (x3 (ix3 0 a b))) (nv (k0_pay4 (F := Ideal) i u x1 x2 (ix2 a b)) (x4 (ix3 0 a b))) := by
  rw [← pay5, ← pay6]
  unfold k0_pay8
  generalize k0_pay5 (F := Ideal) i u x1 x2 x3 = g
  generalize k0_pay6 (F := Ideal) i u x1 x2 x4 = h
  pointwise [k0_pay1, k0_pay9, step]
end

/-! ## The arrays the run leaves -/

/-- Some contents of the table, to decide what does not depend on them. -/
def tables : (pcfg0 (F := Ideal)).Adm :=
  ⟨fun | 0 => fun _ => (0#32 : BitVec 32) | ⟨_ + 1, h⟩ => absurd h (Nat.not_lt.2 (Nat.le_add_left _ _)), ok _⟩

theorem idx3 (y : S1x256x1024.Idx) : ∃ (a : Fin 256) (b : Fin 1024), y = ix3 0 a b :=
  ⟨y 1, y 2, (eq_ix3 y).trans (congrArg (fun z : Fin 1 => ix3 z (y 1) (y 2)) (Subsingleton.elim (α := Fin 1) _ _))⟩
theorem rd : View.readAt (Elt Ideal) (View.whole main_v0) (Rect.unit (s := S1) ![0] ![1] inb_S1_S1_0).toLoadRect (tbl m 0) (Shape.Idx.first (by decide)) = word m := tbl_eq m _

theorem cov5 : ((pcfg0 (F := Ideal)).win tables 5).Covers := by decide +kernel
theorem emb5 (t : Fin (cfgM m (hO m)).N) (a : Fin 256) (b : Fin 1024) : (((cfgM m (hO m)).win 5).blk t).view.emb (ix3 0 a b) = at3 t a b := by
  have h := i5 m t
  unfold at3
  blk_ext
  · exact congrFun h 0
  · exact (congrArg (· * 256 + a.val) (congrFun h 1)).trans (show t.val % 1 * 256 + a.val = _ by omega)
  · exact (congrArg (· * 1024 + b.val) (congrFun h 2)).trans (show 0 * 1024 + b.val = _ by omega)
theorem arr5 : (dats m (hO m) 0 c).arrAt 5 (cfgM m (hO m)).N = outG (m ((c : Thread nD τ).loc main_arg1)) (m ((c : Thread nD τ).loc main_arg2)) (m ((c : Thread nD τ).loc main_arg5)) := by
  refine (dats m (hO m) 0 c).arrAt_eq_of_covers 5 _ cov5 fun t hf y => ?_
  blk_simp
  rw [after0_5]
  unfold outsAt0
  frame_out
  obtain ⟨a, b, rfl⟩ := idx3 y
  refine (congr (congr (congrArg (fun (u : BitVec 32) (x1 : Vec Ideal S256x1024 .f32) (x2 : Vec Ideal S256x1024 .f32) => k0_pay7 (F := Ideal) (grid0.coords t) u x1 x2 (ix3 0 a b)) (rd m)) ((hs0_1 m (hO m) t).read_unread (iblk m (hO m) c 1 t))) ((hs0_2 m (hO m) t).read_unread (iblk m (hO m) c 2 t))).trans ?_
  refine Eq.trans ?_ (congrArg (outG (m ((c : Thread nD τ).loc main_arg1)) (m ((c : Thread nD τ).loc main_arg2)) (m ((c : Thread nD τ).loc main_arg5))) (emb5 m t a b).symm)
  exact (pay7 _ _ _ _ a b).trans (pay4 m c t a b)

theorem cov6 : ((pcfg0 (F := Ideal)).win tables 6).Covers := by decide +kernel
theorem emb6 (t : Fin (cfgM m (hO m)).N) (a : Fin 256) (b : Fin 1024) : (((cfgM m (hO m)).win 6).blk t).view.emb (ix3 0 a b) = at3 t a b := by
  have h := i6 m t
  unfold at3
  blk_ext
  · exact congrFun h 0
  · exact (congrArg (· * 256 + a.val) (congrFun h 1)).trans (show t.val % 1 * 256 + a.val = _ by omega)
  · exact (congrArg (· * 1024 + b.val) (congrFun h 2)).trans (show 0 * 1024 + b.val = _ by omega)
theorem arr6 : (dats m (hO m) 0 c).arrAt 6 (cfgM m (hO m)).N = outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (hO m) 0 c).arrAt_eq_of_covers 6 _ cov6 fun t hf y => ?_
  blk_simp
  rw [after0_6]
  unfold outsAt0
  frame_out
  obtain ⟨a, b, rfl⟩ := idx3 y
  refine (congr (congr (congr (congr (congr (congrArg (fun (u : BitVec 32) (x1 : Vec Ideal S256x1024 .f32) (x2 : Vec Ideal S256x1024 .f32) (x3 : Vec Ideal S1x256x1024 .f32) (x4 : Vec Ideal S1x256x1024 .f32) (x0 : Vec Ideal S1x256x1024 .f32) => k0_pay1 (F := Ideal) (k0_pay8 (grid0.coords t) u x1 x2 x3 x4) (k0_pay9 x0) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))) ((hs0_4 m (hO m) t).read_unread (iblk m (hO m) c 4 t))) ((hs0_0 m (hO m) t).read_unread (iblk m (hO m) c 0 t))).trans ?_
  refine Eq.trans ?_ (congrArg (outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 m t a b).symm)
  exact (pay1 _ _ _ _ _ _ _ a b).trans (by rw [pay4 m c t a b, x0_at, x3_at, x4_at]; rfl)

theorem cov7 : ((pcfg0 (F := Ideal)).win tables 7).Covers := by decide +kernel
theorem emb7 (t : Fin (cfgM m (hO m)).N) (a : Fin 256) (b : Fin 1024) : (((cfgM m (hO m)).win 7).blk t).view.emb (ix3 0 a b) = at3 t a b := by
  have h := i7 m t
  unfold at3
  blk_ext
  · exact congrFun h 0
  · exact (congrArg (· * 256 + a.val) (congrFun h 1)).trans (show t.val % 1 * 256 + a.val = _ by omega)
  · exact (congrArg (· * 1024 + b.val) (congrFun h 2)).trans (show 0 * 1024 + b.val = _ by omega)
theorem arr7 : (dats m (hO m) 0 c).arrAt 7 (cfgM m (hO m)).N = outM (m ((c : Thread nD τ).loc main_arg1)) (m ((c : Thread nD τ).loc main_arg2)) (m ((c : Thread nD τ).loc main_arg3)) (m ((c : Thread nD τ).loc main_arg5)) := by
  refine (dats m (hO m) 0 c).arrAt_eq_of_covers 7 _ cov7 fun t hf y => ?_
  blk_simp
  rw [after0_7]
  unfold outsAt0
  frame_out
  obtain ⟨a, b, rfl⟩ := idx3 y
  refine (congr (congr (congr (congrArg (fun (u : BitVec 32) (x1 : Vec Ideal S256x1024 .f32) (x2 : Vec Ideal S256x1024 .f32) (x3 : Vec Ideal S1x256x1024 .f32) => k0_pay2 (F := Ideal) (k0_pay5 (grid0.coords t) u x1 x2 x3) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))).trans ?_
  refine Eq.trans ?_ (congrArg (outM (m ((c : Thread nD τ).loc main_arg1)) (m ((c : Thread nD τ).loc main_arg2)) (m ((c : Thread nD τ).loc main_arg3)) (m ((c : Thread nD τ).loc main_arg5))) (emb7 m t a b).symm)
  exact (pay2 _ _ _ _ _ a b).trans (congrArg₂ nm (pay4 m c t a b) (x3_at m c t a b))

theorem cov8 : ((pcfg0 (F := Ideal)).win tables 8).Covers := by decide +kernel
theorem emb8 (t : Fin (cfgM m (hO m)).N) (a : Fin 256) (b : Fin 1024) : (((cfgM m (hO m)).win 8).blk t).view.emb (ix3 0 a b) = at3 t a b := by
  have h := i8 m t
  unfold at3
  blk_ext
  · exact congrFun h 0
  · exact (congrArg (· * 256 + a.val) (congrFun h 1)).trans (show t.val % 1 * 256 + a.val = _ by omega)
  · exact (congrArg (· * 1024 + b.val) (congrFun h 2)).trans (show 0 * 1024 + b.val = _ by omega)
theorem arr8 : (dats m (hO m) 0 c).arrAt 8 (cfgM m (hO m)).N = outV (m ((c : Thread nD τ).loc main_arg1)) (m ((c : Thread nD τ).loc main_arg2)) (m ((c : Thread nD τ).loc main_arg4)) (m ((c : Thread nD τ).loc main_arg5)) := by
  refine (dats m (hO m) 0 c).arrAt_eq_of_covers 8 _ cov8 fun t hf y => ?_
  blk_simp
  rw [after0_8]
  unfold outsAt0
  frame_out
  obtain ⟨a, b, rfl⟩ := idx3 y
  refine (congr (congr (congr (congrArg (fun (u : BitVec 32) (x1 : Vec Ideal S256x1024 .f32) (x2 : Vec Ideal S256x1024 .f32) (x4 : Vec Ideal S1x256x1024 .f32) => k0_pay3 (F := Ideal) (k0_pay6 (grid0.coords t) u x1 x2 x4) (ix3 0 a b)) (rd m)) ((hs0_1 m (hO m) t).read_unread (iblk m (hO m) c 1 t))) ((hs0_2 m (hO m) t).read_unread (iblk m (hO m) c 2 t))) ((hs0_4 m (hO m) t).read_unread (iblk m (hO m) c 4 t))).trans ?_
  refine Eq.trans ?_ (congrArg (outV (m ((c : Thread nD τ).loc main_arg1)) (m ((c : Thread nD τ).loc main_arg2)) (m ((c : Thread nD τ).loc main_arg4)) (m ((c : Thread nD τ).loc main_arg5))) (emb8 m t a b).symm)
  exact (pay3 _ _ _ _ _ a b).trans (congrArg₂ nv (pay4 m c t a b) (x4_at m c t a b))

/-! ## The reference -/

section
open Cert.AdamOutRefIdeal.Read
variable (x0 x3 x4 : Vec Ideal S2x256x1024 .f32) (x1 x2 : Vec Ideal S256x1024 .f32) (x5 : Vec Ideal S_ .i32)

theorem refG : val_main_v6 (F := Ideal) x1 x2 x5 = outG x1 x2 x5 := by
  funext i
  obtain ⟨l, a, b, rfl⟩ : ∃ (l : Fin 2) (a : Fin 256) (b : Fin 1024), i = ix3 l a b := ⟨i 0, i 1, i 2, eq_ix3 i⟩
  pointwise [val_main_v0, val_main_v1, val_main_v2, val_main_v3, val_main_v4, val_main_v5, val_main_call0_v0, val_main_call0_v1, val_main_call0_v2, val_main_v6, outG, grad]
theorem refM : val_main_v11 (F := Ideal) x1 x2 x3 x5 = outM x1 x2 x3 x5 := by
  funext i
  unfold outM
  rw [← refG]
  obtain ⟨l, a, b, rfl⟩ : ∃ (l : Fin 2) (a : Fin 256) (b : Fin 1024), i = ix3 l a b := ⟨i 0, i 1, i 2, eq_ix3 i⟩
  unfold val_main_v11 val_main_v10
  generalize val_main_v6 (F := Ideal) x1 x2 x5 = g
  pointwise [val_main_cst, val_main_v7, val_main_v8, val_main_cst_0, val_main_v9, nm]
theorem refV : val_main_v17 (F := Ideal) x1 x2 x4 x5 = outV x1 x2 x4 x5 := by
  funext i
  unfold outV
  rw [← refG]
  obtain ⟨l, a, b, rfl⟩ : ∃ (l : Fin 2) (a : Fin 256) (b : Fin 1024), i = ix3 l a b := ⟨i 0, i 1, i 2, eq_ix3 i⟩
  unfold val_main_v17 val_main_v16 val_main_v14
  generalize val_main_v6 (F := Ideal) x1 x2 x5 = g
  pointwise [val_main_cst_1, val_main_v12, val_main_v13, val_main_cst_2, val_main_v15, nv]
theorem refD : val_main_v30 (F := Ideal) x0 x1 x2 x3 x4 x5 = outD x0 x1 x2 x3 x4 x5 := by
  funext i
  unfold outD
  rw [← refM, ← refV]
  obtain ⟨l, a, b, rfl⟩ : ∃ (l : Fin 2) (a : Fin 256) (b : Fin 1024), i = ix3 l a b := ⟨i 0, i 1, i 2, eq_ix3 i⟩
  unfold val_main_v30 val_main_v28 val_main_v29 val_main_v27 val_main_v26 val_main_v25 val_main_v24 val_main_v23 val_main_v22 val_main_v21 val_main_v20 val_main_v19 val_main_v18
  generalize val_main_v11 (F := Ideal) x1 x2 x3 x5 = g
  generalize val_main_v17 (F := Ideal) x1 x2 x4 x5 = h
  pointwise [val_main_cst_3, val_main_cst_4, val_main_cst_5, val_main_cst_6, val_main_cst_7, step]

end

/-- From equal arguments the kernel and the reference return the same four arrays over the extended reals. -/
theorem algebraic : Cert.algebraic_AdamOutIdeal_AdamOutRefIdeal := by
  intro m ρ m' ρ' _ hagree
  refine ⟨fun c => outG (m ((c : Thread nD τ).loc main_arg1)) (m ((c : Thread nD τ).loc main_arg2)) (m ((c : Thread nD τ).loc main_arg5)), fun c => outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => outM (m ((c : Thread nD τ).loc main_arg1)) (m ((c : Thread nD τ).loc main_arg2)) (m ((c : Thread nD τ).loc main_arg3)) (m ((c : Thread nD τ).loc main_arg5)), fun c => outV (m ((c : Thread nD τ).loc main_arg1)) (m ((c : Thread nD τ).loc main_arg2)) (m ((c : Thread nD τ).loc main_arg4)) (m ((c : Thread nD τ).loc main_arg5)), ?_, ?_⟩
  · exact (θ_run Cert.AdamOutIdeal.defs _ _).mono
      (fun r h c => ⟨((h.2 c).1 5).trans (arr5 m c), ((h.2 c).1 6).trans (arr6 m c), ((h.2 c).1 7).trans (arr7 m c), ((h.2 c).1 8).trans (arr8 m c), h.1 c⟩)
      (θ_run_and (unchanged m ρ (hO m)) (run_main m ρ (hO m)))
  · refine (θ_run Cert.AdamOutRefIdeal.defs _ _).mono (fun r h c => ⟨(h c).1.trans ?_, (h c).2.1.trans ?_, (h c).2.2.1.trans ?_, (h c).2.2.2.1.trans ?_, (h c).2.2.2.2⟩) (Cert.AdamOutRefIdeal.Value.run m' ρ')
    all_goals obtain ⟨h0, h1, h2, h3, h4, h5⟩ := hagree c
    · exact (refG _ _ _).trans (by rw [h1, h2, h5])
    · exact (refD _ _ _ _ _ _).trans (by rw [h0, h1, h2, h3, h4, h5])
    · exact (refM _ _ _ _).trans (by rw [h1, h2, h3, h5])
    · exact (refV _ _ _ _).trans (by rw [h1, h2, h4, h5])

/-- The reference terminates with its arguments unchanged; it declares no semaphore. -/
theorem frame_reference : Cert.quiescent_AdamOutRefIdeal := fun m ρ _ =>
  (θ_run Cert.AdamOutRefIdeal.defs _ _).mono
    (fun r h => ⟨fun c => (h c).2.2.2.2, sem_eq_zero_of_no_sems rfl r.2⟩) (Cert.AdamOutRefIdeal.Value.run m ρ)

/-- The idealized kernel terminates with its arguments unchanged, whatever layer the word names, -/
theorem frame_ideal : Cert.quiescent_AdamOutIdeal := fun m ρ _ => frame m ρ (ok _)
/-- and so does the kernel. -/
theorem frame_kernel : Cert.quiescent_AdamOut := fun m ρ _ => Cert.AdamOut.Gen.frame m ρ (Cert.AdamOut.ok _)

end Cert.AdamOutIdeal.Rule

end
-- ==== Proof.AdamUp.lean ====
/- The optimiser's step on `w_ffn_up` of both layers, and the gradient of both put together: the kernel, a block of rows of one layer at every point of its grid, and the reference apply the same rule to every entry over the extended reals. -/
module

public import proofs.«01_k».proof.Defs
public import proofs.«01_k».proof.Proof.Rule
public import proofs.«01_k».proof.Proof.Gen.AdamUp.Frame
public import proofs.«01_k».proof.Proof.Gen.AdamUpIdeal.Frame
public import proofs.«01_k».proof.Proof.Gen.AdamUpRefIdeal.Read
public import proofs.«01_k».proof.Proof.Gen.AdamUpRefIdeal.Run
public import Idealize.ShloMosaic.Lib.Pointwise
public import Idealize.ShloMosaic.Lib.Pipeline.Value
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.AdamUp

open Cert.AdamUp Cert.AdamUp.Gen Idealize.ShloMosaic Idealize.ShloMosaic.TcCoe Idealize.SL.Sem

/-- Whatever layer the word names, the blocks that the index maps choose are inside their arrays. -/
theorem ok {F : FTy → Type} [FloatOps F] (pf : pre0.Contents (Elt F)) : ok0 pf := by
  have h1 (i : grid0.Coords) : (i 1).val < 8 := (i 1).isLt
  refine ⟨fun i => ⟨Fin.forall_fin_two.mpr ⟨?_, (by show (0 + 1) * 1408 ≤ 1408; omega)⟩, .inl rfl⟩, fun i => ⟨Fin.forall_fin_two.mpr ⟨?_, (by show (0 + 1) * 1408 ≤ 1408; omega)⟩, .inl rfl⟩⟩
  · show ((Scalar.select _ (BitVec.ofNat 32 (i 1).val) 0#32 : BitVec 32).toNat + 1) * 128 ≤ 1024
    have := h1 i
    unfold Scalar.select
    split <;> simp only [BitVec.toNat_ofNat] <;> omega
  · show ((Scalar.select _ 0#32 (BitVec.ofNat 32 (i 1).val) : BitVec 32).toNat + 1) * 128 ≤ 1024
    have := h1 i
    unfold Scalar.select
    split <;> simp only [BitVec.toNat_ofNat] <;> omega

end Cert.AdamUp

namespace Cert.AdamUpIdeal.Rule

open Cert.Adam Cert.AdamUpIdeal Cert.AdamUpIdeal.Gen Idealize.ShloMosaic Idealize.ShloMosaic.TcCoe Idealize.SL.Sem

variable (m : (ℓ : Loc nD τ sig) → Buf (Elt Ideal) ℓ) (c : Dev nD)

/-- The same of the idealized program. -/
theorem ok {F : FTy → Type} [FloatOps F] (pf : pre0.Contents (Elt F)) : ok0 pf := by
  have h1 (i : grid0.Coords) : (i 1).val < 8 := (i 1).isLt
  refine ⟨fun i => ⟨Fin.forall_fin_two.mpr ⟨?_, (by show (0 + 1) * 1408 ≤ 1408; omega)⟩, .inl rfl⟩, fun i => ⟨Fin.forall_fin_two.mpr ⟨?_, (by show (0 + 1) * 1408 ≤ 1408; omega)⟩, .inl rfl⟩⟩
  · show ((Scalar.select _ (BitVec.ofNat 32 (i 1).val) 0#32 : BitVec 32).toNat + 1) * 128 ≤ 1024
    have := h1 i
    unfold Scalar.select
    split <;> simp only [BitVec.toNat_ofNat] <;> omega
  · show ((Scalar.select _ 0#32 (BitVec.ofNat 32 (i 1).val) : BitVec 32).toNat + 1) * 128 ≤ 1024
    have := h1 i
    unfold Scalar.select
    split <;> simp only [BitVec.toNat_ofNat] <;> omega

theorem hO : Ok m := ok _

/-! ## The four results, of the arguments -/

def outG (x1 x2 : Vec Ideal S1024x1408 .f32) (x5 : Vec Ideal S_ .i32) : Vec Ideal S2x1024x1408 .f32 :=
  fun i => grad (x5 Idealize.ShloMosaic.ix0) (i 0).val (x1 (ix2 (i 1) (i 2))) (x2 (ix2 (i 1) (i 2)))
def outM (x1 x2 : Vec Ideal S1024x1408 .f32) (x3 : Vec Ideal S2x1024x1408 .f32) (x5 : Vec Ideal S_ .i32) : Vec Ideal S2x1024x1408 .f32 :=
  fun i => nm (outG x1 x2 x5 i) (x3 i)
def outV (x1 x2 : Vec Ideal S1024x1408 .f32) (x4 : Vec Ideal S2x1024x1408 .f32) (x5 : Vec Ideal S_ .i32) : Vec Ideal S2x1024x1408 .f32 :=
  fun i => nv (outG x1 x2 x5 i) (x4 i)
def outD (x0 : Vec Ideal S2x1024x1408 .f32) (x1 x2 : Vec Ideal S1024x1408 .f32) (x3 x4 : Vec Ideal S2x1024x1408 .f32) (x5 : Vec Ideal S_ .i32) : Vec Ideal S2x1024x1408 .f32 :=
  fun i => step (x0 i) (outM x1 x2 x3 x5 i) (outV x1 x2 x4 x5 i)

/-! ## The grid -/

theorem c0 : ∀ t : Fin grid0.N, (grid0.coords t 0).val = t.val / 8 := by decide +kernel
theorem c1 : ∀ t : Fin grid0.N, (grid0.coords t 1).val = t.val % 8 := by decide +kernel

/-- The word that names the layer. -/
def word : BitVec 32 := m (((0 : Dev nD) : Thread nD τ).loc main_arg5) Idealize.ShloMosaic.ix0

theorem tbl_eq (i : S1.Idx) : tbl m 0 i = word m := by
  show V m 0 main_v0 i = _
  entry_read
  exact congrArg (m (((0 : Dev nD) : Thread nD τ).loc main_arg5)) (funext fun a => a.elim0)

theorem s0 : ∀ t : Fin grid0.N, cc0_transform_0 (grid0.coords t) = ![t.val / 8, t.val % 8, 0] := by decide +kernel
theorem i0 (t : Fin (cfgM m (hO m)).N) : ((pcfg0 (F := Ideal)).win (adm m (hO m)) 0).index t = ![t.val / 8, t.val % 8, 0] := s0 t
theorem s3 : ∀ t : Fin grid0.N, cc0_transform_3 (grid0.coords t) = ![t.val / 8, t.val % 8, 0] := by decide +kernel
theorem i3 (t : Fin (cfgM m (hO m)).N) : ((pcfg0 (F := Ideal)).win (adm m (hO m)) 3).index t = ![t.val / 8, t.val % 8, 0] := s3 t
theorem s4 : ∀ t : Fin grid0.N, cc0_transform_4 (grid0.coords t) = ![t.val / 8, t.val % 8, 0] := by decide +kernel
theorem i4 (t : Fin (cfgM m (hO m)).N) : ((pcfg0 (F := Ideal)).win (adm m (hO m)) 4).index t = ![t.val / 8, t.val % 8, 0] := s4 t
theorem s5 : ∀ t : Fin grid0.N, cc0_transform_5 (grid0.coords t) = ![t.val / 8, t.val % 8, 0] := by decide +kernel
theorem i5 (t : Fin (cfgM m (hO m)).N) : ((pcfg0 (F := Ideal)).win (adm m (hO m)) 5).index t = ![t.val / 8, t.val % 8, 0] := s5 t
theorem s6 : ∀ t : Fin grid0.N, cc0_transform_6 (grid0.coords t) = ![t.val / 8, t.val % 8, 0] := by decide +kernel
theorem i6 (t : Fin (cfgM m (hO m)).N) : ((pcfg0 (F := Ideal)).win (adm m (hO m)) 6).index t = ![t.val / 8, t.val % 8, 0] := s6 t
theorem s7 : ∀ t : Fin grid0.N, cc0_transform_7 (grid0.coords t) = ![t.val / 8, t.val % 8, 0] := by decide +kernel
theorem i7 (t : Fin (cfgM m (hO m)).N) : ((pcfg0 (F := Ideal)).win (adm m (hO m)) 7).index t = ![t.val / 8, t.val % 8, 0] := s7 t
theorem s8 : ∀ t : Fin grid0.N, cc0_transform_8 (grid0.coords t) = ![t.val / 8, t.val % 8, 0] := by decide +kernel
theorem i8 (t : Fin (cfgM m (hO m)).N) : ((pcfg0 (F := Ideal)).win (adm m (hO m)) 8).index t = ![t.val / 8, t.val % 8, 0] := s8 t

/-- The word read by the index maps. -/
theorem at_eq (r : Rect S1) (h1 : r.shape.numel = 1) : (tbl m).at 0 r h1 = word m := tbl_eq m _

theorem ofNat_coord (t : Fin grid0.N) : (BitVec.ofNat 32 (grid0.coords t 1).val).toNat = t.val % 8 := by
  rw [c1 t, BitVec.toNat_ofNat]; omega

/-- Block of the gradient computed here, in the layer the word names, -/
theorem i1 (t : Fin (cfgM m (hO m)).N) (h : IntOp.cmpi .eq (BitVec.ofNat 32 (t.val / 8)) (word m) = 1#1) : ((pcfg0 (F := Ideal)).win (adm m (hO m)) 1).index t = ![t.val % 8, 0] := by
  show cc0_transform_1 inb_S1_S1_0 numel1_S1 (tbl m) (grid0.coords t) = _
  unfold cc0_transform_1
  dsimp only
  rw [at_eq, c0 t, show Scalar.cmpi .eq (BitVec.ofNat 32 (t.val / 8)) (word m) = 1#1 from h, ← ofNat_coord t]
  rfl
/-- and of the other one, in the other layer. -/
theorem i2 (t : Fin (cfgM m (hO m)).N) (h : IntOp.cmpi .eq (BitVec.ofNat 32 (t.val / 8)) (word m) = 0#1) : ((pcfg0 (F := Ideal)).win (adm m (hO m)) 2).index t = ![t.val % 8, 0] := by
  show cc0_transform_2 inb_S1_S1_0 numel1_S1 (tbl m) (grid0.coords t) = _
  unfold cc0_transform_2
  dsimp only
  rw [at_eq, c0 t, show Scalar.cmpi .eq (BitVec.ofNat 32 (t.val / 8)) (word m) = 0#1 from h, ← ofNat_coord t]
  rfl

/-- The index, in an array of both layers, of an entry of a point's block, -/
def at3 (t : Fin grid0.N) (a : Fin 128) (b : Fin 1408) : S2x1024x1408.Idx :=
  ix3 ⟨t.val / 8, by have : t.val < 16 := t.isLt; omega⟩ ⟨128 * (t.val % 8) + a.val, by omega⟩ b
/-- and in an array of one layer. -/
def at2 (t : Fin grid0.N) (a : Fin 128) (b : Fin 1408) : S1024x1408.Idx :=
  ix2 ⟨128 * (t.val % 8) + a.val, by omega⟩ b

/-- The block of argument 0 a point reads. -/
theorem x0_at (t : Fin (cfgM m (hO m)).N) (a : Fin 128) (b : Fin 1408) : (iblk m (hO m) c 0 t : Vec Ideal S1x128x1408 .f32) (ix3 0 a b) = m ((c : Thread nD τ).loc main_arg0) (at3 t a b) := by
  have h := i0 m t
  unfold at3
  blk_ext [iblk, V_main_arg0]
  · exact congrFun h 0
  · exact (congrArg (· * 128 + a.val) (congrFun h 1)).trans (show t.val % 8 * 128 + a.val = _ by omega)
  · exact (congrArg (· * 1408 + b.val) (congrFun h 2)).trans (show 0 * 1408 + b.val = _ by omega)

/-- The block of argument 3 a point reads. -/
theorem x3_at (t : Fin (cfgM m (hO m)).N) (a : Fin 128) (b : Fin 1408) : (iblk m (hO m) c 3 t : Vec Ideal S1x128x1408 .f32) (ix3 0 a b) = m ((c : Thread nD τ).loc main_arg3) (at3 t a b) := by
  have h := i3 m t
  unfold at3
  blk_ext [iblk, V_main_arg3]
  · exact congrFun h 0
  · exact (congrArg (· * 128 + a.val) (congrFun h 1)).trans (show t.val % 8 * 128 + a.val = _ by omega)
  · exact (congrArg (· * 1408 + b.val) (congrFun h 2)).trans (show 0 * 1408 + b.val = _ by omega)

/-- The block of argument 4 a point reads. -/
theorem x4_at (t : Fin (cfgM m (hO m)).N) (a : Fin 128) (b : Fin 1408) : (iblk m (hO m) c 4 t : Vec Ideal S1x128x1408 .f32) (ix3 0 a b) = m ((c : Thread nD τ).loc main_arg4) (at3 t a b) := by
  have h := i4 m t
  unfold at3
  blk_ext [iblk, V_main_arg4]
  · exact congrFun h 0
  · exact (congrArg (· * 128 + a.val) (congrFun h 1)).trans (show t.val % 8 * 128 + a.val = _ by omega)
  · exact (congrArg (· * 1408 + b.val) (congrFun h 2)).trans (show 0 * 1408 + b.val = _ by omega)

/-- The block of argument 1 a point reads, in the layer that takes it. -/
theorem x1_at (t : Fin (cfgM m (hO m)).N) (h : IntOp.cmpi .eq (BitVec.ofNat 32 (t.val / 8)) (word m) = 1#1) (a : Fin 128) (b : Fin 1408) : (iblk m (hO m) c 1 t : Vec Ideal S128x1408 .f32) (ix2 a b) = m ((c : Thread nD τ).loc main_arg1) (at2 t a b) := by
  have h := i1 m t h
  unfold at2
  blk_ext [iblk, V_main_arg1]
  · exact (congrArg (· * 128 + a.val) (congrFun h 0)).trans (show t.val % 8 * 128 + a.val = _ by omega)
  · exact (congrArg (· * 1408 + b.val) (congrFun h 1)).trans (show 0 * 1408 + b.val = _ by omega)

/-- The block of argument 2 a point reads, in the layer that takes it. -/
theorem x2_at (t : Fin (cfgM m (hO m)).N) (h : IntOp.cmpi .eq (BitVec.ofNat 32 (t.val / 8)) (word m) = 0#1) (a : Fin 128) (b : Fin 1408) : (iblk m (hO m) c 2 t : Vec Ideal S128x1408 .f32) (ix2 a b) = m ((c : Thread nD τ).loc main_arg2) (at2 t a b) := by
  have h := i2 m t h
  unfold at2
  blk_ext [iblk, V_main_arg2]
  · exact (congrArg (· * 128 + a.val) (congrFun h 0)).trans (show t.val % 8 * 128 + a.val = _ by omega)
  · exact (congrArg (· * 1408 + b.val) (congrFun h 1)).trans (show 0 * 1408 + b.val = _ by omega)

/-! ## What a point writes -/

/-- The gradient at a point. -/
theorem pay4 (t : Fin (cfgM m (hO m)).N) (a : Fin 128) (b : Fin 1408) :
    k0_pay4 (F := Ideal) (grid0.coords t) (word m) (iblk m (hO m) c 1 t) (iblk m (hO m) c 2 t) (ix2 a b)
      = outG (m ((c : Thread nD τ).loc main_arg1)) (m ((c : Thread nD τ).loc main_arg2)) (m ((c : Thread nD τ).loc main_arg5)) (at3 t a b) := by
  have hc : c = 0 := Subsingleton.elim _ _
  subst hc
  unfold k0_pay4 outG grad
  show (Scalar.select (Scalar.cmpi .eq (BitVec.ofNat 32 (grid0.coords t 0).val) (word m)) (iblk m (hO m) 0 1 t : Vec Ideal S128x1408 .f32) (iblk m (hO m) 0 2 t : Vec Ideal S128x1408 .f32)) (ix2 a b)
    = Scalar.select (IntOp.cmpi .eq (BitVec.ofNat 32 (t.val / 8)) (word m)) _ _
  rw [c0 t]
  rcases (by decide : ∀ u : BitVec 1, u = 1#1 ∨ u = 0#1) (IntOp.cmpi .eq (BitVec.ofNat 32 (t.val / 8)) (word m)) with h | h
  · rw [show Scalar.cmpi .eq (BitVec.ofNat 32 (t.val / 8)) (word m) = 1#1 from h, h]
    exact x1_at m 0 t h a b
  · rw [show Scalar.cmpi .eq (BitVec.ofNat 32 (t.val / 8)) (word m) = 0#1 from h, h]
    exact x2_at m 0 t h a b

section
variable (i : grid0.Coords) (u : BitVec 32) (x1 x2 : Vec Ideal S128x1408 .f32) (x0 x3 x4 : Vec Ideal S1x128x1408 .f32) (a : Fin 128) (b : Fin 1408)

theorem pay7 : k0_pay7 (F := Ideal) i u x1 x2 (ix3 0 a b) = k0_pay4 (F := Ideal) i u x1 x2 (ix2 a b) := by
  unfold k0_pay7; generalize k0_pay4 (F := Ideal) i u x1 x2 = g; pointwise
theorem pay5 : k0_pay5 (F := Ideal) i u x1 x2 x3 (ix2 a b) = nm (k0_pay4 (F := Ideal) i u x1 x2 (ix2 a b)) (x3 (ix3 0 a b)) := by
  unfold k0_pay5; generalize k0_pay4 (F := Ideal) i u x1 x2 = g; pointwise [nm]
theorem pay6 : k0_pay6 (F := Ideal) i u x1 x2 x4 (ix2 a b) = nv (k0_pay4 (F := Ideal) i u x1 x2 (ix2 a b)) (x4 (ix3 0 a b)) := by
  unfold k0_pay6; generalize k0_pay4 (F := Ideal) i u x1 x2 = g; pointwise [nv]
theorem pay2 : k0_pay2 (F := Ideal) (k0_pay5 i u x1 x2 x3) (ix3 0 a b) = nm (k0_pay4 (F := Ideal) i u x1 x2 (ix2 a b)) (x3 (ix3 0 a b)) := by
  rw [← pay5]; generalize k0_pay5 (F := Ideal) i u x1 x2 x3 = g; pointwise [k0_pay2]
theorem pay3 : k0_pay3 (F := Ideal) (k0_pay6 i u x1 x2 x4) (ix3 0 a b) = nv (k0_pay4 (F := Ideal) i u x1 x2 (ix2 a b)) (x4 (ix3 0 a b)) := by
  rw [← pay6]; generalize k0_pay6 (F := Ideal) i u x1 x2 x4 = g; pointwise [k0_pay3]
theorem pay1 : k0_pay1 (F := Ideal) (k0_pay8 i u x1 x2 x3 x4) (k0_pay9 x0) (ix3 0 a b)
    = step (x0 (ix3 0 a b)) (nm (k0_pay4 (F := Ideal) i u x1 x2 (ix2 a b)) (x3 (ix3 0 a b))) (nv (k0_pay4 (F := Ideal) i u x1 x2 (ix2 a b)) (x4 (ix3 0 a b))) := by
  rw [← pay5, ← pay6]
  unfold k0_pay8
  generalize k0_pay5 (F := Ideal) i u x1 x2 x3 = g
  generalize k0_pay6 (F := Ideal) i u x1 x2 x4 = h
  pointwise [k0_pay1, k0_pay9, step]
end

/-! ## The arrays the run leaves -/

/-- Some contents of the table, to decide what does not depend on them. -/
def tables : (pcfg0 (F := Ideal)).Adm :=
  ⟨fun | 0 => fun _ => (0#32 : BitVec 32) | ⟨_ + 1, h⟩ => absurd h (Nat.not_lt.2 (Nat.le_add_left _ _)), ok _⟩

theorem idx3 (y : S1x128x1408.Idx) : ∃ (a : Fin 128) (b : Fin 1408), y = ix3 0 a b :=
  ⟨y 1, y 2, (eq_ix3 y).trans (congrArg (fun z : Fin 1 => ix3 z (y 1) (y 2)) (Subsingleton.elim (α := Fin 1) _ _))⟩
theorem rd : View.readAt (Elt Ideal) (View.whole main_v0) (Rect.unit (s := S1) ![0] ![1] inb_S1_S1_0).toLoadRect (tbl m 0) (Shape.Idx.first (by decide)) = word m := tbl_eq m _

theorem cov5 : ((pcfg0 (F := Ideal)).win tables 5).Covers := by decide +kernel
theorem emb5 (t : Fin (cfgM m (hO m)).N) (a : Fin 128) (b : Fin 1408) : (((cfgM m (hO m)).win 5).blk t).view.emb (ix3 0 a b) = at3 t a b := by
  have h := i5 m t
  unfold at3
  blk_ext
  · exact congrFun h 0
  · exact (congrArg (· * 128 + a.val) (congrFun h 1)).trans (show t.val % 8 * 128 + a.val = _ by omega)
  · exact (congrArg (· * 1408 + b.val) (congrFun h 2)).trans (show 0 * 1408 + b.val = _ by omega)
theorem arr5 : (dats m (hO m) 0 c).arrAt 5 (cfgM m (hO m)).N = outG (m ((c : Thread nD τ).loc main_arg1)) (m ((c : Thread nD τ).loc main_arg2)) (m ((c : Thread nD τ).loc main_arg5)) := by
  refine (dats m (hO m) 0 c).arrAt_eq_of_covers 5 _ cov5 fun t hf y => ?_
  blk_simp
  rw [after0_5]
  unfold outsAt0
  frame_out
  obtain ⟨a, b, rfl⟩ := idx3 y
  refine (congr (congr (congrArg (fun (u : BitVec 32) (x1 : Vec Ideal S128x1408 .f32) (x2 : Vec Ideal S128x1408 .f32) => k0_pay7 (F := Ideal) (grid0.coords t) u x1 x2 (ix3 0 a b)) (rd m)) ((hs0_1 m (hO m) t).read_unread (iblk m (hO m) c 1 t))) ((hs0_2 m (hO m) t).read_unread (iblk m (hO m) c 2 t))).trans ?_
  refine Eq.trans ?_ (congrArg (outG (m ((c : Thread nD τ).loc main_arg1)) (m ((c : Thread nD τ).loc main_arg2)) (m ((c : Thread nD τ).loc main_arg5))) (emb5 m t a b).symm)
  exact (pay7 _ _ _ _ a b).trans (pay4 m c t a b)

theorem cov6 : ((pcfg0 (F := Ideal)).win tables 6).Covers := by decide +kernel
theorem emb6 (t : Fin (cfgM m (hO m)).N) (a : Fin 128) (b : Fin 1408) : (((cfgM m (hO m)).win 6).blk t).view.emb (ix3 0 a b) = at3 t a b := by
  have h := i6 m t
  unfold at3
  blk_ext
  · exact congrFun h 0
  · exact (congrArg (· * 128 + a.val) (congrFun h 1)).trans (show t.val % 8 * 128 + a.val = _ by omega)
  · exact (congrArg (· * 1408 + b.val) (congrFun h 2)).trans (show 0 * 1408 + b.val = _ by omega)
theorem arr6 : (dats m (hO m) 0 c).arrAt 6 (cfgM m (hO m)).N = outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (hO m) 0 c).arrAt_eq_of_covers 6 _ cov6 fun t hf y => ?_
  blk_simp
  rw [after0_6]
  unfold outsAt0
  frame_out
  obtain ⟨a, b, rfl⟩ := idx3 y
  refine (congr (congr (congr (congr (congr (congrArg (fun (u : BitVec 32) (x1 : Vec Ideal S128x1408 .f32) (x2 : Vec Ideal S128x1408 .f32) (x3 : Vec Ideal S1x128x1408 .f32) (x4 : Vec Ideal S1x128x1408 .f32) (x0 : Vec Ideal S1x128x1408 .f32) => k0_pay1 (F := Ideal) (k0_pay8 (grid0.coords t) u x1 x2 x3 x4) (k0_pay9 x0) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))) ((hs0_4 m (hO m) t).read_unread (iblk m (hO m) c 4 t))) ((hs0_0 m (hO m) t).read_unread (iblk m (hO m) c 0 t))).trans ?_
  refine Eq.trans ?_ (congrArg (outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 m t a b).symm)
  exact (pay1 _ _ _ _ _ _ _ a b).trans (by rw [pay4 m c t a b, x0_at, x3_at, x4_at]; rfl)

theorem cov7 : ((pcfg0 (F := Ideal)).win tables 7).Covers := by decide +kernel
theorem emb7 (t : Fin (cfgM m (hO m)).N) (a : Fin 128) (b : Fin 1408) : (((cfgM m (hO m)).win 7).blk t).view.emb (ix3 0 a b) = at3 t a b := by
  have h := i7 m t
  unfold at3
  blk_ext
  · exact congrFun h 0
  · exact (congrArg (· * 128 + a.val) (congrFun h 1)).trans (show t.val % 8 * 128 + a.val = _ by omega)
  · exact (congrArg (· * 1408 + b.val) (congrFun h 2)).trans (show 0 * 1408 + b.val = _ by omega)
theorem arr7 : (dats m (hO m) 0 c).arrAt 7 (cfgM m (hO m)).N = outM (m ((c : Thread nD τ).loc main_arg1)) (m ((c : Thread nD τ).loc main_arg2)) (m ((c : Thread nD τ).loc main_arg3)) (m ((c : Thread nD τ).loc main_arg5)) := by
  refine (dats m (hO m) 0 c).arrAt_eq_of_covers 7 _ cov7 fun t hf y => ?_
  blk_simp
  rw [after0_7]
  unfold outsAt0
  frame_out
  obtain ⟨a, b, rfl⟩ := idx3 y
  refine (congr (congr (congr (congrArg (fun (u : BitVec 32) (x1 : Vec Ideal S128x1408 .f32) (x2 : Vec Ideal S128x1408 .f32) (x3 : Vec Ideal S1x128x1408 .f32) => k0_pay2 (F := Ideal) (k0_pay5 (grid0.coords t) u x1 x2 x3) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))).trans ?_
  refine Eq.trans ?_ (congrArg (outM (m ((c : Thread nD τ).loc main_arg1)) (m ((c : Thread nD τ).loc main_arg2)) (m ((c : Thread nD τ).loc main_arg3)) (m ((c : Thread nD τ).loc main_arg5))) (emb7 m t a b).symm)
  exact (pay2 _ _ _ _ _ a b).trans (congrArg₂ nm (pay4 m c t a b) (x3_at m c t a b))

theorem cov8 : ((pcfg0 (F := Ideal)).win tables 8).Covers := by decide +kernel
theorem emb8 (t : Fin (cfgM m (hO m)).N) (a : Fin 128) (b : Fin 1408) : (((cfgM m (hO m)).win 8).blk t).view.emb (ix3 0 a b) = at3 t a b := by
  have h := i8 m t
  unfold at3
  blk_ext
  · exact congrFun h 0
  · exact (congrArg (· * 128 + a.val) (congrFun h 1)).trans (show t.val % 8 * 128 + a.val = _ by omega)
  · exact (congrArg (· * 1408 + b.val) (congrFun h 2)).trans (show 0 * 1408 + b.val = _ by omega)
theorem arr8 : (dats m (hO m) 0 c).arrAt 8 (cfgM m (hO m)).N = outV (m ((c : Thread nD τ).loc main_arg1)) (m ((c : Thread nD τ).loc main_arg2)) (m ((c : Thread nD τ).loc main_arg4)) (m ((c : Thread nD τ).loc main_arg5)) := by
  refine (dats m (hO m) 0 c).arrAt_eq_of_covers 8 _ cov8 fun t hf y => ?_
  blk_simp
  rw [after0_8]
  unfold outsAt0
  frame_out
  obtain ⟨a, b, rfl⟩ := idx3 y
  refine (congr (congr (congr (congrArg (fun (u : BitVec 32) (x1 : Vec Ideal S128x1408 .f32) (x2 : Vec Ideal S128x1408 .f32) (x4 : Vec Ideal S1x128x1408 .f32) => k0_pay3 (F := Ideal) (k0_pay6 (grid0.coords t) u x1 x2 x4) (ix3 0 a b)) (rd m)) ((hs0_1 m (hO m) t).read_unread (iblk m (hO m) c 1 t))) ((hs0_2 m (hO m) t).read_unread (iblk m (hO m) c 2 t))) ((hs0_4 m (hO m) t).read_unread (iblk m (hO m) c 4 t))).trans ?_
  refine Eq.trans ?_ (congrArg (outV (m ((c : Thread nD τ).loc main_arg1)) (m ((c : Thread nD τ).loc main_arg2)) (m ((c : Thread nD τ).loc main_arg4)) (m ((c : Thread nD τ).loc main_arg5))) (emb8 m t a b).symm)
  exact (pay3 _ _ _ _ _ a b).trans (congrArg₂ nv (pay4 m c t a b) (x4_at m c t a b))

/-! ## The reference -/

section
open Cert.AdamUpRefIdeal.Read
variable (x0 x3 x4 : Vec Ideal S2x1024x1408 .f32) (x1 x2 : Vec Ideal S1024x1408 .f32) (x5 : Vec Ideal S_ .i32)

theorem refG : val_main_v6 (F := Ideal) x1 x2 x5 = outG x1 x2 x5 := by
  funext i
  obtain ⟨l, a, b, rfl⟩ : ∃ (l : Fin 2) (a : Fin 1024) (b : Fin 1408), i = ix3 l a b := ⟨i 0, i 1, i 2, eq_ix3 i⟩
  pointwise [val_main_v0, val_main_v1, val_main_v2, val_main_v3, val_main_v4, val_main_v5, val_main_call0_v0, val_main_call0_v1, val_main_call0_v2, val_main_v6, outG, grad]
theorem refM : val_main_v11 (F := Ideal) x1 x2 x3 x5 = outM x1 x2 x3 x5 := by
  funext i
  unfold outM
  rw [← refG]
  obtain ⟨l, a, b, rfl⟩ : ∃ (l : Fin 2) (a : Fin 1024) (b : Fin 1408), i = ix3 l a b := ⟨i 0, i 1, i 2, eq_ix3 i⟩
  unfold val_main_v11 val_main_v10
  generalize val_main_v6 (F := Ideal) x1 x2 x5 = g
  pointwise [val_main_cst, val_main_v7, val_main_v8, val_main_cst_0, val_main_v9, nm]
theorem refV : val_main_v17 (F := Ideal) x1 x2 x4 x5 = outV x1 x2 x4 x5 := by
  funext i
  unfold outV
  rw [← refG]
  obtain ⟨l, a, b, rfl⟩ : ∃ (l : Fin 2) (a : Fin 1024) (b : Fin 1408), i = ix3 l a b := ⟨i 0, i 1, i 2, eq_ix3 i⟩
  unfold val_main_v17 val_main_v16 val_main_v14
  generalize val_main_v6 (F := Ideal) x1 x2 x5 = g
  pointwise [val_main_cst_1, val_main_v12, val_main_v13, val_main_cst_2, val_main_v15, nv]
theorem refD : val_main_v30 (F := Ideal) x0 x1 x2 x3 x4 x5 = outD x0 x1 x2 x3 x4 x5 := by
  funext i
  unfold outD
  rw [← refM, ← refV]
  obtain ⟨l, a, b, rfl⟩ : ∃ (l : Fin 2) (a : Fin 1024) (b : Fin 1408), i = ix3 l a b := ⟨i 0, i 1, i 2, eq_ix3 i⟩
  unfold val_main_v30 val_main_v28 val_main_v29 val_main_v27 val_main_v26 val_main_v25 val_main_v24 val_main_v23 val_main_v22 val_main_v21 val_main_v20 val_main_v19 val_main_v18
  generalize val_main_v11 (F := Ideal) x1 x2 x3 x5 = g
  generalize val_main_v17 (F := Ideal) x1 x2 x4 x5 = h
  pointwise [val_main_cst_3, val_main_cst_4, val_main_cst_5, val_main_cst_6, val_main_cst_7, step]

end

/-- From equal arguments the kernel and the reference return the same four arrays over the extended reals. -/
theorem algebraic : Cert.algebraic_AdamUpIdeal_AdamUpRefIdeal := by
  intro m ρ m' ρ' _ hagree
  refine ⟨fun c => outG (m ((c : Thread nD τ).loc main_arg1)) (m ((c : Thread nD τ).loc main_arg2)) (m ((c : Thread nD τ).loc main_arg5)), fun c => outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => outM (m ((c : Thread nD τ).loc main_arg1)) (m ((c : Thread nD τ).loc main_arg2)) (m ((c : Thread nD τ).loc main_arg3)) (m ((c : Thread nD τ).loc main_arg5)), fun c => outV (m ((c : Thread nD τ).loc main_arg1)) (m ((c : Thread nD τ).loc main_arg2)) (m ((c : Thread nD τ).loc main_arg4)) (m ((c : Thread nD τ).loc main_arg5)), ?_, ?_⟩
  · exact (θ_run Cert.AdamUpIdeal.defs _ _).mono
      (fun r h c => ⟨((h.2 c).1 5).trans (arr5 m c), ((h.2 c).1 6).trans (arr6 m c), ((h.2 c).1 7).trans (arr7 m c), ((h.2 c).1 8).trans (arr8 m c), h.1 c⟩)
      (θ_run_and (unchanged m ρ (hO m)) (run_main m ρ (hO m)))
  · refine (θ_run Cert.AdamUpRefIdeal.defs _ _).mono (fun r h c => ⟨(h c).1.trans ?_, (h c).2.1.trans ?_, (h c).2.2.1.trans ?_, (h c).2.2.2.1.trans ?_, (h c).2.2.2.2⟩) (Cert.AdamUpRefIdeal.Value.run m' ρ')
    all_goals obtain ⟨h0, h1, h2, h3, h4, h5⟩ := hagree c
    · exact (refG _ _ _).trans (by rw [h1, h2, h5])
    · exact (refD _ _ _ _ _ _).trans (by rw [h0, h1, h2, h3, h4, h5])
    · exact (refM _ _ _ _).trans (by rw [h1, h2, h3, h5])
    · exact (refV _ _ _ _).trans (by rw [h1, h2, h4, h5])

/-- The reference terminates with its arguments unchanged; it declares no semaphore. -/
theorem frame_reference : Cert.quiescent_AdamUpRefIdeal := fun m ρ _ =>
  (θ_run Cert.AdamUpRefIdeal.defs _ _).mono
    (fun r h => ⟨fun c => (h c).2.2.2.2, sem_eq_zero_of_no_sems rfl r.2⟩) (Cert.AdamUpRefIdeal.Value.run m ρ)

/-- The idealized kernel terminates with its arguments unchanged, whatever layer the word names, -/
theorem frame_ideal : Cert.quiescent_AdamUpIdeal := fun m ρ _ => frame m ρ (ok _)
/-- and so does the kernel. -/
theorem frame_kernel : Cert.quiescent_AdamUp := fun m ρ _ => Cert.AdamUp.Gen.frame m ρ (Cert.AdamUp.ok _)

end Cert.AdamUpIdeal.Rule

end
-- ==== Proof.AdamDown.lean ====
/- The optimiser's step on `w_ffn_down` of both layers, and the gradient of both put together: the kernel, a block of rows of one layer at every point of its grid, and the reference apply the same rule to every entry over the extended reals. -/
module

public import proofs.«01_k».proof.Defs
public import proofs.«01_k».proof.Proof.Rule
public import proofs.«01_k».proof.Proof.Gen.AdamDown.Frame
public import proofs.«01_k».proof.Proof.Gen.AdamDownIdeal.Frame
public import proofs.«01_k».proof.Proof.Gen.AdamDownRefIdeal.Read
public import proofs.«01_k».proof.Proof.Gen.AdamDownRefIdeal.Run
public import Idealize.ShloMosaic.Lib.Pointwise
public import Idealize.ShloMosaic.Lib.Pipeline.Value
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.AdamDown

open Cert.AdamDown Cert.AdamDown.Gen Idealize.ShloMosaic Idealize.ShloMosaic.TcCoe Idealize.SL.Sem

/-- Whatever layer the word names, the blocks that the index maps choose are inside their arrays. -/
theorem ok {F : FTy → Type} [FloatOps F] (pf : pre0.Contents (Elt F)) : ok0 pf := by
  have h1 (i : grid0.Coords) : (i 1).val < 4 := (i 1).isLt
  refine ⟨fun i => ⟨Fin.forall_fin_two.mpr ⟨?_, (by show (0 + 1) * 1024 ≤ 1024; omega)⟩, .inl rfl⟩, fun i => ⟨Fin.forall_fin_two.mpr ⟨?_, (by show (0 + 1) * 1024 ≤ 1024; omega)⟩, .inl rfl⟩⟩
  · show ((Scalar.select _ (BitVec.ofNat 32 (i 1).val) 0#32 : BitVec 32).toNat + 1) * 176 ≤ 704
    have := h1 i
    unfold Scalar.select
    split <;> simp only [BitVec.toNat_ofNat] <;> omega
  · show ((Scalar.select _ 0#32 (BitVec.ofNat 32 (i 1).val) : BitVec 32).toNat + 1) * 176 ≤ 704
    have := h1 i
    unfold Scalar.select
    split <;> simp only [BitVec.toNat_ofNat] <;> omega

end Cert.AdamDown

namespace Cert.AdamDownIdeal.Rule

open Cert.Adam Cert.AdamDownIdeal Cert.AdamDownIdeal.Gen Idealize.ShloMosaic Idealize.ShloMosaic.TcCoe Idealize.SL.Sem

variable (m : (ℓ : Loc nD τ sig) → Buf (Elt Ideal) ℓ) (c : Dev nD)

/-- The same of the idealized program. -/
theorem ok {F : FTy → Type} [FloatOps F] (pf : pre0.Contents (Elt F)) : ok0 pf := by
  have h1 (i : grid0.Coords) : (i 1).val < 4 := (i 1).isLt
  refine ⟨fun i => ⟨Fin.forall_fin_two.mpr ⟨?_, (by show (0 + 1) * 1024 ≤ 1024; omega)⟩, .inl rfl⟩, fun i => ⟨Fin.forall_fin_two.mpr ⟨?_, (by show (0 + 1) * 1024 ≤ 1024; omega)⟩, .inl rfl⟩⟩
  · show ((Scalar.select _ (BitVec.ofNat 32 (i 1).val) 0#32 : BitVec 32).toNat + 1) * 176 ≤ 704
    have := h1 i
    unfold Scalar.select
    split <;> simp only [BitVec.toNat_ofNat] <;> omega
  · show ((Scalar.select _ 0#32 (BitVec.ofNat 32 (i 1).val) : BitVec 32).toNat + 1) * 176 ≤ 704
    have := h1 i
    unfold Scalar.select
    split <;> simp only [BitVec.toNat_ofNat] <;> omega

theorem hO : Ok m := ok _

/-! ## The four results, of the arguments -/

def outG (x1 x2 : Vec Ideal S704x1024 .f32) (x5 : Vec Ideal S_ .i32) : Vec Ideal S2x704x1024 .f32 :=
  fun i => grad (x5 Idealize.ShloMosaic.ix0) (i 0).val (x1 (ix2 (i 1) (i 2))) (x2 (ix2 (i 1) (i 2)))
def outM (x1 x2 : Vec Ideal S704x1024 .f32) (x3 : Vec Ideal S2x704x1024 .f32) (x5 : Vec Ideal S_ .i32) : Vec Ideal S2x704x1024 .f32 :=
  fun i => nm (outG x1 x2 x5 i) (x3 i)
def outV (x1 x2 : Vec Ideal S704x1024 .f32) (x4 : Vec Ideal S2x704x1024 .f32) (x5 : Vec Ideal S_ .i32) : Vec Ideal S2x704x1024 .f32 :=
  fun i => nv (outG x1 x2 x5 i) (x4 i)
def outD (x0 : Vec Ideal S2x704x1024 .f32) (x1 x2 : Vec Ideal S704x1024 .f32) (x3 x4 : Vec Ideal S2x704x1024 .f32) (x5 : Vec Ideal S_ .i32) : Vec Ideal S2x704x1024 .f32 :=
  fun i => step (x0 i) (outM x1 x2 x3 x5 i) (outV x1 x2 x4 x5 i)

/-! ## The grid -/

theorem c0 : ∀ t : Fin grid0.N, (grid0.coords t 0).val = t.val / 4 := by decide +kernel
theorem c1 : ∀ t : Fin grid0.N, (grid0.coords t 1).val = t.val % 4 := by decide +kernel

/-- The word that names the layer. -/
def word : BitVec 32 := m (((0 : Dev nD) : Thread nD τ).loc main_arg5) Idealize.ShloMosaic.ix0

theorem tbl_eq (i : S1.Idx) : tbl m 0 i = word m := by
  show V m 0 main_v0 i = _
  entry_read
  exact congrArg (m (((0 : Dev nD) : Thread nD τ).loc main_arg5)) (funext fun a => a.elim0)

theorem s0 : ∀ t : Fin grid0.N, cc0_transform_0 (grid0.coords t) = ![t.val / 4, t.val % 4, 0] := by decide +kernel
theorem i0 (t : Fin (cfgM m (hO m)).N) : ((pcfg0 (F := Ideal)).win (adm m (hO m)) 0).index t = ![t.val / 4, t.val % 4, 0] := s0 t
theorem s3 : ∀ t : Fin grid0.N, cc0_transform_3 (grid0.coords t) = ![t.val / 4, t.val % 4, 0] := by decide +kernel
theorem i3 (t : Fin (cfgM m (hO m)).N) : ((pcfg0 (F := Ideal)).win (adm m (hO m)) 3).index t = ![t.val / 4, t.val % 4, 0] := s3 t
theorem s4 : ∀ t : Fin grid0.N, cc0_transform_4 (grid0.coords t) = ![t.val / 4, t.val % 4, 0] := by decide +kernel
theorem i4 (t : Fin (cfgM m (hO m)).N) : ((pcfg0 (F := Ideal)).win (adm m (hO m)) 4).index t = ![t.val / 4, t.val % 4, 0] := s4 t
theorem s5 : ∀ t : Fin grid0.N, cc0_transform_5 (grid0.coords t) = ![t.val / 4, t.val % 4, 0] := by decide +kernel
theorem i5 (t : Fin (cfgM m (hO m)).N) : ((pcfg0 (F := Ideal)).win (adm m (hO m)) 5).index t = ![t.val / 4, t.val % 4, 0] := s5 t
theorem s6 : ∀ t : Fin grid0.N, cc0_transform_6 (grid0.coords t) = ![t.val / 4, t.val % 4, 0] := by decide +kernel
theorem i6 (t : Fin (cfgM m (hO m)).N) : ((pcfg0 (F := Ideal)).win (adm m (hO m)) 6).index t = ![t.val / 4, t.val % 4, 0] := s6 t
theorem s7 : ∀ t : Fin grid0.N, cc0_transform_7 (grid0.coords t) = ![t.val / 4, t.val % 4, 0] := by decide +kernel
theorem i7 (t : Fin (cfgM m (hO m)).N) : ((pcfg0 (F := Ideal)).win (adm m (hO m)) 7).index t = ![t.val / 4, t.val % 4, 0] := s7 t
theorem s8 : ∀ t : Fin grid0.N, cc0_transform_8 (grid0.coords t) = ![t.val / 4, t.val % 4, 0] := by decide +kernel
theorem i8 (t : Fin (cfgM m (hO m)).N) : ((pcfg0 (F := Ideal)).win (adm m (hO m)) 8).index t = ![t.val / 4, t.val % 4, 0] := s8 t

/-- The word read by the index maps. -/
theorem at_eq (r : Rect S1) (h1 : r.shape.numel = 1) : (tbl m).at 0 r h1 = word m := tbl_eq m _

theorem ofNat_coord (t : Fin grid0.N) : (BitVec.ofNat 32 (grid0.coords t 1).val).toNat = t.val % 4 := by
  rw [c1 t, BitVec.toNat_ofNat]; omega

/-- Block of the gradient computed here, in the layer the word names, -/
theorem i1 (t : Fin (cfgM m (hO m)).N) (h : IntOp.cmpi .eq (BitVec.ofNat 32 (t.val / 4)) (word m) = 1#1) : ((pcfg0 (F := Ideal)).win (adm m (hO m)) 1).index t = ![t.val % 4, 0] := by
  show cc0_transform_1 inb_S1_S1_0 numel1_S1 (tbl m) (grid0.coords t) = _
  unfold cc0_transform_1
  dsimp only
  rw [at_eq, c0 t, show Scalar.cmpi .eq (BitVec.ofNat 32 (t.val / 4)) (word m) = 1#1 from h, ← ofNat_coord t]
  rfl
/-- and of the other one, in the other layer. -/
theorem i2 (t : Fin (cfgM m (hO m)).N) (h : IntOp.cmpi .eq (BitVec.ofNat 32 (t.val / 4)) (word m) = 0#1) : ((pcfg0 (F := Ideal)).win (adm m (hO m)) 2).index t = ![t.val % 4, 0] := by
  show cc0_transform_2 inb_S1_S1_0 numel1_S1 (tbl m) (grid0.coords t) = _
  unfold cc0_transform_2
  dsimp only
  rw [at_eq, c0 t, show Scalar.cmpi .eq (BitVec.ofNat 32 (t.val / 4)) (word m) = 0#1 from h, ← ofNat_coord t]
  rfl

/-- The index, in an array of both layers, of an entry of a point's block, -/
def at3 (t : Fin grid0.N) (a : Fin 176) (b : Fin 1024) : S2x704x1024.Idx :=
  ix3 ⟨t.val / 4, by have : t.val < 8 := t.isLt; omega⟩ ⟨176 * (t.val % 4) + a.val, by omega⟩ b
/-- and in an array of one layer. -/
def at2 (t : Fin grid0.N) (a : Fin 176) (b : Fin 1024) : S704x1024.Idx :=
  ix2 ⟨176 * (t.val % 4) + a.val, by omega⟩ b

/-- The block of argument 0 a point reads. -/
theorem x0_at (t : Fin (cfgM m (hO m)).N) (a : Fin 176) (b : Fin 1024) : (iblk m (hO m) c 0 t : Vec Ideal S1x176x1024 .f32) (ix3 0 a b) = m ((c : Thread nD τ).loc main_arg0) (at3 t a b) := by
  have h := i0 m t
  unfold at3
  blk_ext [iblk, V_main_arg0]
  · exact congrFun h 0
  · exact (congrArg (· * 176 + a.val) (congrFun h 1)).trans (show t.val % 4 * 176 + a.val = _ by omega)
  · exact (congrArg (· * 1024 + b.val) (congrFun h 2)).trans (show 0 * 1024 + b.val = _ by omega)

/-- The block of argument 3 a point reads. -/
theorem x3_at (t : Fin (cfgM m (hO m)).N) (a : Fin 176) (b : Fin 1024) : (iblk m (hO m) c 3 t : Vec Ideal S1x176x1024 .f32) (ix3 0 a b) = m ((c : Thread nD τ).loc main_arg3) (at3 t a b) := by
  have h := i3 m t
  unfold at3
  blk_ext [iblk, V_main_arg3]
  · exact congrFun h 0
  · exact (congrArg (· * 176 + a.val) (congrFun h 1)).trans (show t.val % 4 * 176 + a.val = _ by omega)
  · exact (congrArg (· * 1024 + b.val) (congrFun h 2)).trans (show 0 * 1024 + b.val = _ by omega)

/-- The block of argument 4 a point reads. -/
theorem x4_at (t : Fin (cfgM m (hO m)).N) (a : Fin 176) (b : Fin 1024) : (iblk m (hO m) c 4 t : Vec Ideal S1x176x1024 .f32) (ix3 0 a b) = m ((c : Thread nD τ).loc main_arg4) (at3 t a b) := by
  have h := i4 m t
  unfold at3
  blk_ext [iblk, V_main_arg4]
  · exact congrFun h 0
  · exact (congrArg (· * 176 + a.val) (congrFun h 1)).trans (show t.val % 4 * 176 + a.val = _ by omega)
  · exact (congrArg (· * 1024 + b.val) (congrFun h 2)).trans (show 0 * 1024 + b.val = _ by omega)

/-- The block of argument 1 a point reads, in the layer that takes it. -/
theorem x1_at (t : Fin (cfgM m (hO m)).N) (h : IntOp.cmpi .eq (BitVec.ofNat 32 (t.val / 4)) (word m) = 1#1) (a : Fin 176) (b : Fin 1024) : (iblk m (hO m) c 1 t : Vec Ideal S176x1024 .f32) (ix2 a b) = m ((c : Thread nD τ).loc main_arg1) (at2 t a b) := by
  have h := i1 m t h
  unfold at2
  blk_ext [iblk, V_main_arg1]
  · exact (congrArg (· * 176 + a.val) (congrFun h 0)).trans (show t.val % 4 * 176 + a.val = _ by omega)
  · exact (congrArg (· * 1024 + b.val) (congrFun h 1)).trans (show 0 * 1024 + b.val = _ by omega)

/-- The block of argument 2 a point reads, in the layer that takes it. -/
theorem x2_at (t : Fin (cfgM m (hO m)).N) (h : IntOp.cmpi .eq (BitVec.ofNat 32 (t.val / 4)) (word m) = 0#1) (a : Fin 176) (b : Fin 1024) : (iblk m (hO m) c 2 t : Vec Ideal S176x1024 .f32) (ix2 a b) = m ((c : Thread nD τ).loc main_arg2) (at2 t a b) := by
  have h := i2 m t h
  unfold at2
  blk_ext [iblk, V_main_arg2]
  · exact (congrArg (· * 176 + a.val) (congrFun h 0)).trans (show t.val % 4 * 176 + a.val = _ by omega)
  · exact (congrArg (· * 1024 + b.val) (congrFun h 1)).trans (show 0 * 1024 + b.val = _ by omega)

/-! ## What a point writes -/

/-- The gradient at a point. -/
theorem pay4 (t : Fin (cfgM m (hO m)).N) (a : Fin 176) (b : Fin 1024) :
    k0_pay4 (F := Ideal) (grid0.coords t) (word m) (iblk m (hO m) c 1 t) (iblk m (hO m) c 2 t) (ix2 a b)
      = outG (m ((c : Thread nD τ).loc main_arg1)) (m ((c : Thread nD τ).loc main_arg2)) (m ((c : Thread nD τ).loc main_arg5)) (at3 t a b) := by
  have hc : c = 0 := Subsingleton.elim _ _
  subst hc
  unfold k0_pay4 outG grad
  show (Scalar.select (Scalar.cmpi .eq (BitVec.ofNat 32 (grid0.coords t 0).val) (word m)) (iblk m (hO m) 0 1 t : Vec Ideal S176x1024 .f32) (iblk m (hO m) 0 2 t : Vec Ideal S176x1024 .f32)) (ix2 a b)
    = Scalar.select (IntOp.cmpi .eq (BitVec.ofNat 32 (t.val / 4)) (word m)) _ _
  rw [c0 t]
  rcases (by decide : ∀ u : BitVec 1, u = 1#1 ∨ u = 0#1) (IntOp.cmpi .eq (BitVec.ofNat 32 (t.val / 4)) (word m)) with h | h
  · rw [show Scalar.cmpi .eq (BitVec.ofNat 32 (t.val / 4)) (word m) = 1#1 from h, h]
    exact x1_at m 0 t h a b
  · rw [show Scalar.cmpi .eq (BitVec.ofNat 32 (t.val / 4)) (word m) = 0#1 from h, h]
    exact x2_at m 0 t h a b

section
variable (i : grid0.Coords) (u : BitVec 32) (x1 x2 : Vec Ideal S176x1024 .f32) (x0 x3 x4 : Vec Ideal S1x176x1024 .f32) (a : Fin 176) (b : Fin 1024)

theorem pay7 : k0_pay7 (F := Ideal) i u x1 x2 (ix3 0 a b) = k0_pay4 (F := Ideal) i u x1 x2 (ix2 a b) := by
  unfold k0_pay7; generalize k0_pay4 (F := Ideal) i u x1 x2 = g; pointwise
theorem pay5 : k0_pay5 (F := Ideal) i u x1 x2 x3 (ix2 a b) = nm (k0_pay4 (F := Ideal) i u x1 x2 (ix2 a b)) (x3 (ix3 0 a b)) := by
  unfold k0_pay5; generalize k0_pay4 (F := Ideal) i u x1 x2 = g; pointwise [nm]
theorem pay6 : k0_pay6 (F := Ideal) i u x1 x2 x4 (ix2 a b) = nv (k0_pay4 (F := Ideal) i u x1 x2 (ix2 a b)) (x4 (ix3 0 a b)) := by
  unfold k0_pay6; generalize k0_pay4 (F := Ideal) i u x1 x2 = g; pointwise [nv]
theorem pay2 : k0_pay2 (F := Ideal) (k0_pay5 i u x1 x2 x3) (ix3 0 a b) = nm (k0_pay4 (F := Ideal) i u x1 x2 (ix2 a b)) (x3 (ix3 0 a b)) := by
  rw [← pay5]; generalize k0_pay5 (F := Ideal) i u x1 x2 x3 = g; pointwise [k0_pay2]
theorem pay3 : k0_pay3 (F := Ideal) (k0_pay6 i u x1 x2 x4) (ix3 0 a b) = nv (k0_pay4 (F := Ideal) i u x1 x2 (ix2 a b)) (x4 (ix3 0 a b)) := by
  rw [← pay6]; generalize k0_pay6 (F := Ideal) i u x1 x2 x4 = g; pointwise [k0_pay3]
theorem pay1 : k0_pay1 (F := Ideal) (k0_pay8 i u x1 x2 x3 x4) (k0_pay9 x0) (ix3 0 a b)
    = step (x0 (ix3 0 a b)) (nm (k0_pay4 (F := Ideal) i u x1 x2 (ix2 a b)) (x3 (ix3 0 a b))) (nv (k0_pay4 (F := Ideal) i u x1 x2 (ix2 a b)) (x4 (ix3 0 a b))) := by
  rw [← pay5, ← pay6]
  unfold k0_pay8
  generalize k0_pay5 (F := Ideal) i u x1 x2 x3 = g
  generalize k0_pay6 (F := Ideal) i u x1 x2 x4 = h
  pointwise [k0_pay1, k0_pay9, step]
end

/-! ## The arrays the run leaves -/

/-- Some contents of the table, to decide what does not depend on them. -/
def tables : (pcfg0 (F := Ideal)).Adm :=
  ⟨fun | 0 => fun _ => (0#32 : BitVec 32) | ⟨_ + 1, h⟩ => absurd h (Nat.not_lt.2 (Nat.le_add_left _ _)), ok _⟩

theorem idx3 (y : S1x176x1024.Idx) : ∃ (a : Fin 176) (b : Fin 1024), y = ix3 0 a b :=
  ⟨y 1, y 2, (eq_ix3 y).trans (congrArg (fun z : Fin 1 => ix3 z (y 1) (y 2)) (Subsingleton.elim (α := Fin 1) _ _))⟩
theorem rd : View.readAt (Elt Ideal) (View.whole main_v0) (Rect.unit (s := S1) ![0] ![1] inb_S1_S1_0).toLoadRect (tbl m 0) (Shape.Idx.first (by decide)) = word m := tbl_eq m _

theorem cov5 : ((pcfg0 (F := Ideal)).win tables 5).Covers := by decide +kernel
theorem emb5 (t : Fin (cfgM m (hO m)).N) (a : Fin 176) (b : Fin 1024) : (((cfgM m (hO m)).win 5).blk t).view.emb (ix3 0 a b) = at3 t a b := by
  have h := i5 m t
  unfold at3
  blk_ext
  · exact congrFun h 0
  · exact (congrArg (· * 176 + a.val) (congrFun h 1)).trans (show t.val % 4 * 176 + a.val = _ by omega)
  · exact (congrArg (· * 1024 + b.val) (congrFun h 2)).trans (show 0 * 1024 + b.val = _ by omega)
theorem arr5 : (dats m (hO m) 0 c).arrAt 5 (cfgM m (hO m)).N = outG (m ((c : Thread nD τ).loc main_arg1)) (m ((c : Thread nD τ).loc main_arg2)) (m ((c : Thread nD τ).loc main_arg5)) := by
  refine (dats m (hO m) 0 c).arrAt_eq_of_covers 5 _ cov5 fun t hf y => ?_
  blk_simp
  rw [after0_5]
  unfold outsAt0
  frame_out
  obtain ⟨a, b, rfl⟩ := idx3 y
  refine (congr (congr (congrArg (fun (u : BitVec 32) (x1 : Vec Ideal S176x1024 .f32) (x2 : Vec Ideal S176x1024 .f32) => k0_pay7 (F := Ideal) (grid0.coords t) u x1 x2 (ix3 0 a b)) (rd m)) ((hs0_1 m (hO m) t).read_unread (iblk m (hO m) c 1 t))) ((hs0_2 m (hO m) t).read_unread (iblk m (hO m) c 2 t))).trans ?_
  refine Eq.trans ?_ (congrArg (outG (m ((c : Thread nD τ).loc main_arg1)) (m ((c : Thread nD τ).loc main_arg2)) (m ((c : Thread nD τ).loc main_arg5))) (emb5 m t a b).symm)
  exact (pay7 _ _ _ _ a b).trans (pay4 m c t a b)

theorem cov6 : ((pcfg0 (F := Ideal)).win tables 6).Covers := by decide +kernel
theorem emb6 (t : Fin (cfgM m (hO m)).N) (a : Fin 176) (b : Fin 1024) : (((cfgM m (hO m)).win 6).blk t).view.emb (ix3 0 a b) = at3 t a b := by
  have h := i6 m t
  unfold at3
  blk_ext
  · exact congrFun h 0
  · exact (congrArg (· * 176 + a.val) (congrFun h 1)).trans (show t.val % 4 * 176 + a.val = _ by omega)
  · exact (congrArg (· * 1024 + b.val) (congrFun h 2)).trans (show 0 * 1024 + b.val = _ by omega)
theorem arr6 : (dats m (hO m) 0 c).arrAt 6 (cfgM m (hO m)).N = outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (hO m) 0 c).arrAt_eq_of_covers 6 _ cov6 fun t hf y => ?_
  blk_simp
  rw [after0_6]
  unfold outsAt0
  frame_out
  obtain ⟨a, b, rfl⟩ := idx3 y
  refine (congr (congr (congr (congr (congr (congrArg (fun (u : BitVec 32) (x1 : Vec Ideal S176x1024 .f32) (x2 : Vec Ideal S176x1024 .f32) (x3 : Vec Ideal S1x176x1024 .f32) (x4 : Vec Ideal S1x176x1024 .f32) (x0 : Vec Ideal S1x176x1024 .f32) => k0_pay1 (F := Ideal) (k0_pay8 (grid0.coords t) u x1 x2 x3 x4) (k0_pay9 x0) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))) ((hs0_4 m (hO m) t).read_unread (iblk m (hO m) c 4 t))) ((hs0_0 m (hO m) t).read_unread (iblk m (hO m) c 0 t))).trans ?_
  refine Eq.trans ?_ (congrArg (outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 m t a b).symm)
  exact (pay1 _ _ _ _ _ _ _ a b).trans (by rw [pay4 m c t a b, x0_at, x3_at, x4_at]; rfl)

theorem cov7 : ((pcfg0 (F := Ideal)).win tables 7).Covers := by decide +kernel
theorem emb7 (t : Fin (cfgM m (hO m)).N) (a : Fin 176) (b : Fin 1024) : (((cfgM m (hO m)).win 7).blk t).view.emb (ix3 0 a b) = at3 t a b := by
  have h := i7 m t
  unfold at3
  blk_ext
  · exact congrFun h 0
  · exact (congrArg (· * 176 + a.val) (congrFun h 1)).trans (show t.val % 4 * 176 + a.val = _ by omega)
  · exact (congrArg (· * 1024 + b.val) (congrFun h 2)).trans (show 0 * 1024 + b.val = _ by omega)
theorem arr7 : (dats m (hO m) 0 c).arrAt 7 (cfgM m (hO m)).N = outM (m ((c : Thread nD τ).loc main_arg1)) (m ((c : Thread nD τ).loc main_arg2)) (m ((c : Thread nD τ).loc main_arg3)) (m ((c : Thread nD τ).loc main_arg5)) := by
  refine (dats m (hO m) 0 c).arrAt_eq_of_covers 7 _ cov7 fun t hf y => ?_
  blk_simp
  rw [after0_7]
  unfold outsAt0
  frame_out
  obtain ⟨a, b, rfl⟩ := idx3 y
  refine (congr (congr (congr (congrArg (fun (u : BitVec 32) (x1 : Vec Ideal S176x1024 .f32) (x2 : Vec Ideal S176x1024 .f32) (x3 : Vec Ideal S1x176x1024 .f32) => k0_pay2 (F := Ideal) (k0_pay5 (grid0.coords t) u x1 x2 x3) (ix3 0 a b)) (rd m)) ((hs0_1 m (hO m) t).read_unread (iblk m (hO m) c 1 t))) ((hs0_2 m (hO m) t).read_unread (iblk m (hO m) c 2 t))) ((hs0_3 m (hO m) t).read_unread (iblk m (hO m) c 3 t))).trans ?_
  refine Eq.trans ?_ (congrArg (outM (m ((c : Thread nD τ).loc main_arg1)) (m ((c : Thread nD τ).loc main_arg2)) (m ((c : Thread nD τ).loc main_arg3)) (m ((c : Thread nD τ).loc main_arg5))) (emb7 m t a b).symm)
  exact (pay2 _ _ _ _ _ a b).trans (congrArg₂ nm (pay4 m c t a b) (x3_at m c t a b))

theorem cov8 : ((pcfg0 (F := Ideal)).win tables 8).Covers := by decide +kernel
theorem emb8 (t : Fin (cfgM m (hO m)).N) (a : Fin 176) (b : Fin 1024) : (((cfgM m (hO m)).win 8).blk t).view.emb (ix3 0 a b) = at3 t a b := by
  have h := i8 m t
  unfold at3
  blk_ext
  · exact congrFun h 0
  · exact (congrArg (· * 176 + a.val) (congrFun h 1)).trans (show t.val % 4 * 176 + a.val = _ by omega)
  · exact (congrArg (· * 1024 + b.val) (congrFun h 2)).trans (show 0 * 1024 + b.val = _ by omega)
theorem arr8 : (dats m (hO m) 0 c).arrAt 8 (cfgM m (hO m)).N = outV (m ((c : Thread nD τ).loc main_arg1)) (m ((c : Thread nD τ).loc main_arg2)) (m ((c : Thread nD τ).loc main_arg4)) (m ((c : Thread nD τ).loc main_arg5)) := by
  refine (dats m (hO m) 0 c).arrAt_eq_of_covers 8 _ cov8 fun t hf y => ?_
  blk_simp
  rw [after0_8]
  unfold outsAt0
  frame_out
  obtain ⟨a, b, rfl⟩ := idx3 y
  refine (congr (congr (congr (congrArg (fun (u : BitVec 32) (x1 : Vec Ideal S176x1024 .f32) (x2 : Vec Ideal S176x1024 .f32) (x4 : Vec Ideal S1x176x1024 .f32) => k0_pay3 (F := Ideal) (k0_pay6 (grid0.coords t) u x1 x2 x4) (ix3 0 a b)) (rd m)) ((hs0_1 m (hO m) t).read_unread (iblk m (hO m) c 1 t))) ((hs0_2 m (hO m) t).read_unread (iblk m (hO m) c 2 t))) ((hs0_4 m (hO m) t).read_unread (iblk m (hO m) c 4 t))).trans ?_
  refine Eq.trans ?_ (congrArg (outV (m ((c : Thread nD τ).loc main_arg1)) (m ((c : Thread nD τ).loc main_arg2)) (m ((c : Thread nD τ).loc main_arg4)) (m ((c : Thread nD τ).loc main_arg5))) (emb8 m t a b).symm)
  exact (pay3 _ _ _ _ _ a b).trans (congrArg₂ nv (pay4 m c t a b) (x4_at m c t a b))

/-! ## The reference -/

section
open Cert.AdamDownRefIdeal.Read
variable (x0 x3 x4 : Vec Ideal S2x704x1024 .f32) (x1 x2 : Vec Ideal S704x1024 .f32) (x5 : Vec Ideal S_ .i32)

theorem refG : val_main_v6 (F := Ideal) x1 x2 x5 = outG x1 x2 x5 := by
  funext i
  obtain ⟨l, a, b, rfl⟩ : ∃ (l : Fin 2) (a : Fin 704) (b : Fin 1024), i = ix3 l a b := ⟨i 0, i 1, i 2, eq_ix3 i⟩
  pointwise [val_main_v0, val_main_v1, val_main_v2, val_main_v3, val_main_v4, val_main_v5, val_main_call0_v0, val_main_call0_v1, val_main_call0_v2, val_main_v6, outG, grad]
theorem refM : val_main_v11 (F := Ideal) x1 x2 x3 x5 = outM x1 x2 x3 x5 := by
  funext i
  unfold outM
  rw [← refG]
  obtain ⟨l, a, b, rfl⟩ : ∃ (l : Fin 2) (a : Fin 704) (b : Fin 1024), i = ix3 l a b := ⟨i 0, i 1, i 2, eq_ix3 i⟩
  unfold val_main_v11 val_main_v10
  generalize val_main_v6 (F := Ideal) x1 x2 x5 = g
  pointwise [val_main_cst, val_main_v7, val_main_v8, val_main_cst_0, val_main_v9, nm]
theorem refV : val_main_v17 (F := Ideal) x1 x2 x4 x5 = outV x1 x2 x4 x5 := by
  funext i
  unfold outV
  rw [← refG]
  obtain ⟨l, a, b, rfl⟩ : ∃ (l : Fin 2) (a : Fin 704) (b : Fin 1024), i = ix3 l a b := ⟨i 0, i 1, i 2, eq_ix3 i⟩
  unfold val_main_v17 val_main_v16 val_main_v14
  generalize val_main_v6 (F := Ideal) x1 x2 x5 = g
  pointwise [val_main_cst_1, val_main_v12, val_main_v13, val_main_cst_2, val_main_v15, nv]
theorem refD : val_main_v30 (F := Ideal) x0 x1 x2 x3 x4 x5 = outD x0 x1 x2 x3 x4 x5 := by
  funext i
  unfold outD
  rw [← refM, ← refV]
  obtain ⟨l, a, b, rfl⟩ : ∃ (l : Fin 2) (a : Fin 704) (b : Fin 1024), i = ix3 l a b := ⟨i 0, i 1, i 2, eq_ix3 i⟩
  unfold val_main_v30 val_main_v28 val_main_v29 val_main_v27 val_main_v26 val_main_v25 val_main_v24 val_main_v23 val_main_v22 val_main_v21 val_main_v20 val_main_v19 val_main_v18
  generalize val_main_v11 (F := Ideal) x1 x2 x3 x5 = g
  generalize val_main_v17 (F := Ideal) x1 x2 x4 x5 = h
  pointwise [val_main_cst_3, val_main_cst_4, val_main_cst_5, val_main_cst_6, val_main_cst_7, step]

end

/-- From equal arguments the kernel and the reference return the same four arrays over the extended reals. -/
theorem algebraic : Cert.algebraic_AdamDownIdeal_AdamDownRefIdeal := by
  intro m ρ m' ρ' _ hagree
  refine ⟨fun c => outG (m ((c : Thread nD τ).loc main_arg1)) (m ((c : Thread nD τ).loc main_arg2)) (m ((c : Thread nD τ).loc main_arg5)), fun c => outD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => outM (m ((c : Thread nD τ).loc main_arg1)) (m ((c : Thread nD τ).loc main_arg2)) (m ((c : Thread nD τ).loc main_arg3)) (m ((c : Thread nD τ).loc main_arg5)), fun c => outV (m ((c : Thread nD τ).loc main_arg1)) (m ((c : Thread nD τ).loc main_arg2)) (m ((c : Thread nD τ).loc main_arg4)) (m ((c : Thread nD τ).loc main_arg5)), ?_, ?_⟩
  · exact (θ_run Cert.AdamDownIdeal.defs _ _).mono
      (fun r h c => ⟨((h.2 c).1 5).trans (arr5 m c), ((h.2 c).1 6).trans (arr6 m c), ((h.2 c).1 7).trans (arr7 m c), ((h.2 c).1 8).trans (arr8 m c), h.1 c⟩)
      (θ_run_and (unchanged m ρ (hO m)) (run_main m ρ (hO m)))
  · refine (θ_run Cert.AdamDownRefIdeal.defs _ _).mono (fun r h c => ⟨(h c).1.trans ?_, (h c).2.1.trans ?_, (h c).2.2.1.trans ?_, (h c).2.2.2.1.trans ?_, (h c).2.2.2.2⟩) (Cert.AdamDownRefIdeal.Value.run m' ρ')
    all_goals obtain ⟨h0, h1, h2, h3, h4, h5⟩ := hagree c
    · exact (refG _ _ _).trans (by rw [h1, h2, h5])
    · exact (refD _ _ _ _ _ _).trans (by rw [h0, h1, h2, h3, h4, h5])
    · exact (refM _ _ _ _).trans (by rw [h1, h2, h3, h5])
    · exact (refV _ _ _ _).trans (by rw [h1, h2, h4, h5])

/-- The reference terminates with its arguments unchanged; it declares no semaphore. -/
theorem frame_reference : Cert.quiescent_AdamDownRefIdeal := fun m ρ _ =>
  (θ_run Cert.AdamDownRefIdeal.defs _ _).mono
    (fun r h => ⟨fun c => (h c).2.2.2.2, sem_eq_zero_of_no_sems rfl r.2⟩) (Cert.AdamDownRefIdeal.Value.run m ρ)

/-- The idealized kernel terminates with its arguments unchanged, whatever layer the word names, -/
theorem frame_ideal : Cert.quiescent_AdamDownIdeal := fun m ρ _ => frame m ρ (ok _)
/-- and so does the kernel. -/
theorem frame_kernel : Cert.quiescent_AdamDown := fun m ρ _ => Cert.AdamDown.Gen.frame m ρ (Cert.AdamDown.ok _)

end Cert.AdamDownIdeal.Rule

end
-- ==== Proof.AdamSmall.lean ====
/- The optimiser's step on the nine small weights, packed one after another in one array: the kernel and the reference apply the same rule to every entry over the extended reals. -/
module

public import proofs.«01_k».proof.Defs
public import proofs.«01_k».proof.Proof.Rule
public import proofs.«01_k».proof.Proof.Gen.AdamSmallIdeal.Value
public import proofs.«01_k».proof.Proof.Gen.AdamSmallRefIdeal.Read
public import proofs.«01_k».proof.Proof.Gen.AdamSmallRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.AdamSmallIdeal.Rule

open Cert.Adam Cert.AdamSmallRefIdeal.Read Cert.AdamSmallIdeal Cert.AdamSmallIdeal.Gen Idealize.ShloMosaic Idealize.ShloMosaic.TcCoe Idealize.SL.Sem

variable (m : (ℓ : Loc nD τ sig) → Buf (Elt Ideal) ℓ) (c : Dev nD)

/-! The three results, of the packed weights, gradients and moments. -/

def outM (g x : Vec Ideal S136x128 .f32) : Vec Ideal S136x128 .f32 := fun i => nm (g i) (x i)
def outV (g x : Vec Ideal S136x128 .f32) : Vec Ideal S136x128 .f32 := fun i => nv (g i) (x i)
def outD (w g x y : Vec Ideal S136x128 .f32) : Vec Ideal S136x128 .f32 := fun i => step (w i) (outM g x i) (outV g y i)

/-! What the point writes. -/

theorem pay2 (g x : Vec Ideal S136x128 .f32) (a : Fin 136) (b : Fin 128) : k0_pay2 g x (ix2 a b) = outM g x (ix2 a b) := by
  pointwise [k0_pay2, k0_pay1, outM, nm]
theorem pay3 (g x : Vec Ideal S136x128 .f32) (a : Fin 136) (b : Fin 128) : k0_pay3 g x (ix2 a b) = outV g x (ix2 a b) := by
  pointwise [k0_pay3, k0_pay1, outV, nv]
theorem pay4 (w g x y : Vec Ideal S136x128 .f32) (a : Fin 136) (b : Fin 128) : k0_pay4 g x y w (ix2 a b) = outD w g x y (ix2 a b) := by
  unfold k0_pay4 outD
  rw [← pay2, ← pay3]
  generalize k0_pay2 g x = p
  generalize k0_pay3 g y = q
  pointwise [step]

/-! The packed arrays that the host code makes are the reference's. -/

theorem V0 : V m c main_v10 = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  entry_read
  rfl
theorem V0_eq {x0 x1 x2 x3 x4 x5 x6 x7 x8}
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) (h7 : x7 = m ((c : Thread nD τ).loc main_arg7)) (h8 : x8 = m ((c : Thread nD τ).loc main_arg8)) :
    val_main_v10 (F := Ideal) x0 x1 x2 x3 x4 x5 x6 x7 x8 = V m c main_v10 := by
  rw [V0, h0, h1, h2, h3, h4, h5, h6, h7, h8]
theorem V1 : V m c main_v21 = val_main_v21 (F := Ideal) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  entry_read
  rfl
theorem V1_eq {x9 x10 x11 x12 x13 x14 x15 x16 x17}
    (h9 : x9 = m ((c : Thread nD τ).loc main_arg9)) (h10 : x10 = m ((c : Thread nD τ).loc main_arg10)) (h11 : x11 = m ((c : Thread nD τ).loc main_arg11)) (h12 : x12 = m ((c : Thread nD τ).loc main_arg12)) (h13 : x13 = m ((c : Thread nD τ).loc main_arg13)) (h14 : x14 = m ((c : Thread nD τ).loc main_arg14)) (h15 : x15 = m ((c : Thread nD τ).loc main_arg15)) (h16 : x16 = m ((c : Thread nD τ).loc main_arg16)) (h17 : x17 = m ((c : Thread nD τ).loc main_arg17)) :
    val_main_v21 (F := Ideal) x9 x10 x11 x12 x13 x14 x15 x16 x17 = V m c main_v21 := by
  rw [V1, h9, h10, h11, h12, h13, h14, h15, h16, h17]
theorem V2 : V m c main_v32 = val_main_v32 (F := Ideal) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  entry_read
  rfl
theorem V2_eq {x18 x19 x20 x21 x22 x23 x24 x25 x26}
    (h18 : x18 = m ((c : Thread nD τ).loc main_arg18)) (h19 : x19 = m ((c : Thread nD τ).loc main_arg19)) (h20 : x20 = m ((c : Thread nD τ).loc main_arg20)) (h21 : x21 = m ((c : Thread nD τ).loc main_arg21)) (h22 : x22 = m ((c : Thread nD τ).loc main_arg22)) (h23 : x23 = m ((c : Thread nD τ).loc main_arg23)) (h24 : x24 = m ((c : Thread nD τ).loc main_arg24)) (h25 : x25 = m ((c : Thread nD τ).loc main_arg25)) (h26 : x26 = m ((c : Thread nD τ).loc main_arg26)) :
    val_main_v32 (F := Ideal) x18 x19 x20 x21 x22 x23 x24 x25 x26 = V m c main_v32 := by
  rw [V2, h18, h19, h20, h21, h22, h23, h24, h25, h26]
theorem V3 : V m c main_v43 = val_main_v43 (F := Ideal) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  entry_read
  rfl
theorem V3_eq {x27 x28 x29 x30 x31 x32 x33 x34 x35}
    (h27 : x27 = m ((c : Thread nD τ).loc main_arg27)) (h28 : x28 = m ((c : Thread nD τ).loc main_arg28)) (h29 : x29 = m ((c : Thread nD τ).loc main_arg29)) (h30 : x30 = m ((c : Thread nD τ).loc main_arg30)) (h31 : x31 = m ((c : Thread nD τ).loc main_arg31)) (h32 : x32 = m ((c : Thread nD τ).loc main_arg32)) (h33 : x33 = m ((c : Thread nD τ).loc main_arg33)) (h34 : x34 = m ((c : Thread nD τ).loc main_arg34)) (h35 : x35 = m ((c : Thread nD τ).loc main_arg35)) :
    val_main_v43 (F := Ideal) x27 x28 x29 x30 x31 x32 x33 x34 x35 = V m c main_v43 := by
  rw [V3, h27, h28, h29, h30, h31, h32, h33, h34, h35]
theorem i0 : ∀ t : Fin cfg0.N, win0_0.index t = ![0, 0] := by decide +kernel
theorem i1 : ∀ t : Fin cfg0.N, win0_1.index t = ![0, 0] := by decide +kernel
theorem i2 : ∀ t : Fin cfg0.N, win0_2.index t = ![0, 0] := by decide +kernel
theorem i3 : ∀ t : Fin cfg0.N, win0_3.index t = ![0, 0] := by decide +kernel
theorem i4 : ∀ t : Fin cfg0.N, win0_4.index t = ![0, 0] := by decide +kernel
theorem i5 : ∀ t : Fin cfg0.N, win0_5.index t = ![0, 0] := by decide +kernel
theorem i6 : ∀ t : Fin cfg0.N, win0_6.index t = ![0, 0] := by decide +kernel

/-! The one block of each array is the array. -/

theorem x0_at (t : Fin cfg0.N) : (iblk m c 0 t : Vec Ideal S136x128 .f32) = V m c main_v10 := by
  funext i
  obtain ⟨a, b, rfl⟩ : ∃ (a : Fin 136) (b : Fin 128), i = ix2 a b := ⟨i 0, i 1, eq_ix2 i⟩
  generalize hV : V m c main_v10 = X
  blk_ext [iblk, hV, i0 t]
theorem x1_at (t : Fin cfg0.N) : (iblk m c 1 t : Vec Ideal S136x128 .f32) = V m c main_v21 := by
  funext i
  obtain ⟨a, b, rfl⟩ : ∃ (a : Fin 136) (b : Fin 128), i = ix2 a b := ⟨i 0, i 1, eq_ix2 i⟩
  generalize hV : V m c main_v21 = X
  blk_ext [iblk, hV, i1 t]
theorem x2_at (t : Fin cfg0.N) : (iblk m c 2 t : Vec Ideal S136x128 .f32) = V m c main_v32 := by
  funext i
  obtain ⟨a, b, rfl⟩ : ∃ (a : Fin 136) (b : Fin 128), i = ix2 a b := ⟨i 0, i 1, eq_ix2 i⟩
  generalize hV : V m c main_v32 = X
  blk_ext [iblk, hV, i2 t]
theorem x3_at (t : Fin cfg0.N) : (iblk m c 3 t : Vec Ideal S136x128 .f32) = V m c main_v43 := by
  funext i
  obtain ⟨a, b, rfl⟩ : ∃ (a : Fin 136) (b : Fin 128), i = ix2 a b := ⟨i 0, i 1, eq_ix2 i⟩
  generalize hV : V m c main_v43 = X
  blk_ext [iblk, hV, i3 t]

/-! The arrays the run leaves. -/

theorem arr4 : (dats m 0 c).arrAt 4 cfg0.N = outD (V m c main_v10) (V m c main_v21) (V m c main_v32) (V m c main_v43) := by
  refine (dats m 0 c).arrAt_eq_of_covers 4 _ (by decide +kernel) fun t hf y => ?_
  blk_simp
  rw [after0_4]
  unfold out0_4
  frame_out
  obtain ⟨a, b, rfl⟩ : ∃ (a : Fin 136) (b : Fin 128), y = ix2 a b := ⟨y 0, y 1, eq_ix2 y⟩
  refine (pay4 (iblk m c 0 t) (iblk m c 1 t) (iblk m c 2 t) (iblk m c 3 t) a b).trans ?_
  rw [x0_at, x1_at, x2_at, x3_at]
  exact congrArg (outD (V m c main_v10) (V m c main_v21) (V m c main_v32) (V m c main_v43)) (show ix2 a b = _ by blk_ext [i4 t])
theorem arr5 : (dats m 0 c).arrAt 5 cfg0.N = outM (V m c main_v21) (V m c main_v32) := by
  refine (dats m 0 c).arrAt_eq_of_covers 5 _ (by decide +kernel) fun t hf y => ?_
  blk_simp
  rw [after0_5]
  unfold out0_5
  frame_out
  obtain ⟨a, b, rfl⟩ : ∃ (a : Fin 136) (b : Fin 128), y = ix2 a b := ⟨y 0, y 1, eq_ix2 y⟩
  refine (pay2 (iblk m c 1 t) (iblk m c 2 t) a b).trans ?_
  rw [x1_at, x2_at]
  exact congrArg (outM (V m c main_v21) (V m c main_v32)) (show ix2 a b = _ by blk_ext [i5 t])
theorem arr6 : (dats m 0 c).arrAt 6 cfg0.N = outV (V m c main_v21) (V m c main_v43) := by
  refine (dats m 0 c).arrAt_eq_of_covers 6 _ (by decide +kernel) fun t hf y => ?_
  blk_simp
  rw [after0_6]
  unfold out0_6
  frame_out
  obtain ⟨a, b, rfl⟩ : ∃ (a : Fin 136) (b : Fin 128), y = ix2 a b := ⟨y 0, y 1, eq_ix2 y⟩
  refine (pay3 (iblk m c 1 t) (iblk m c 3 t) a b).trans ?_
  rw [x1_at, x3_at]
  exact congrArg (outV (V m c main_v21) (V m c main_v43)) (show ix2 a b = _ by blk_ext [i6 t])

/-! The reference. -/

section
variable (x0 x9 x18 x27 : Vec Ideal S2x3x64 .f32) (x1 x10 x19 x28 : Vec Ideal S2x4x384 .f32) (x2 x11 x20 x29 : Vec Ideal S2x3x1408 .f32) (x3 x12 x21 x30 : Vec Ideal S2x1024 .f32) (x4 x13 x22 x31 : Vec Ideal S2x4 .f32) (x5 x14 x23 x32 : Vec Ideal S2x4 .f32) (x6 x15 x24 x33 : Vec Ideal S2x128 .f32) (x7 x16 x25 x34 : Vec Ideal S2x1024 .f32) (x8 x17 x26 x35 : Vec Ideal S1024 .f32)

theorem ref_outM : val_main_v48 (F := Ideal) x9 x10 x11 x12 x13 x14 x15 x16 x17 x18 x19 x20 x21 x22 x23 x24 x25 x26 = outM (val_main_v21 (F := Ideal) x9 x10 x11 x12 x13 x14 x15 x16 x17) (val_main_v32 (F := Ideal) x18 x19 x20 x21 x22 x23 x24 x25 x26) := by
  unfold val_main_v48 val_main_v47 val_main_v45
  generalize val_main_v21 (F := Ideal) x9 x10 x11 x12 x13 x14 x15 x16 x17 = y1
  generalize val_main_v32 (F := Ideal) x18 x19 x20 x21 x22 x23 x24 x25 x26 = y2
  funext i
  obtain ⟨a, b, rfl⟩ : ∃ (a : Fin 136) (b : Fin 128), i = ix2 a b := ⟨i 0, i 1, eq_ix2 i⟩
  pointwise [val_main_cst, val_main_v44, val_main_cst_3, val_main_v46, val_main_cst_4, val_main_v49, val_main_cst_5, val_main_v52, val_main_cst_6, val_main_v55, val_main_cst_7, val_main_v57, val_main_cst_8, val_main_v60, val_main_cst_9, val_main_v63, val_main_cst_10, val_main_v66, outD, outM, outV, nm, nv, step]
theorem ref_outV : val_main_v54 (F := Ideal) x9 x10 x11 x12 x13 x14 x15 x16 x17 x27 x28 x29 x30 x31 x32 x33 x34 x35 = outV (val_main_v21 (F := Ideal) x9 x10 x11 x12 x13 x14 x15 x16 x17) (val_main_v43 (F := Ideal) x27 x28 x29 x30 x31 x32 x33 x34 x35) := by
  unfold val_main_v54 val_main_v53 val_main_v51 val_main_v50
  generalize val_main_v21 (F := Ideal) x9 x10 x11 x12 x13 x14 x15 x16 x17 = y1
  generalize val_main_v43 (F := Ideal) x27 x28 x29 x30 x31 x32 x33 x34 x35 = y3
  funext i
  obtain ⟨a, b, rfl⟩ : ∃ (a : Fin 136) (b : Fin 128), i = ix2 a b := ⟨i 0, i 1, eq_ix2 i⟩
  pointwise [val_main_cst, val_main_v44, val_main_cst_3, val_main_v46, val_main_cst_4, val_main_v49, val_main_cst_5, val_main_v52, val_main_cst_6, val_main_v55, val_main_cst_7, val_main_v57, val_main_cst_8, val_main_v60, val_main_cst_9, val_main_v63, val_main_cst_10, val_main_v66, outD, outM, outV, nm, nv, step]
theorem ref_outD : val_main_v67 (F := Ideal) x0 x1 x2 x3 x4 x5 x6 x7 x8 x9 x10 x11 x12 x13 x14 x15 x16 x17 x18 x19 x20 x21 x22 x23 x24 x25 x26 x27 x28 x29 x30 x31 x32 x33 x34 x35 = outD (val_main_v10 (F := Ideal) x0 x1 x2 x3 x4 x5 x6 x7 x8) (val_main_v21 (F := Ideal) x9 x10 x11 x12 x13 x14 x15 x16 x17) (val_main_v32 (F := Ideal) x18 x19 x20 x21 x22 x23 x24 x25 x26) (val_main_v43 (F := Ideal) x27 x28 x29 x30 x31 x32 x33 x34 x35) := by
  unfold val_main_v67 val_main_v65 val_main_v64 val_main_v62 val_main_v61 val_main_v59 val_main_v58 val_main_v56 val_main_v54 val_main_v53 val_main_v51 val_main_v50 val_main_v48 val_main_v47 val_main_v45
  generalize val_main_v10 (F := Ideal) x0 x1 x2 x3 x4 x5 x6 x7 x8 = y0
  generalize val_main_v21 (F := Ideal) x9 x10 x11 x12 x13 x14 x15 x16 x17 = y1
  generalize val_main_v32 (F := Ideal) x18 x19 x20 x21 x22 x23 x24 x25 x26 = y2
  generalize val_main_v43 (F := Ideal) x27 x28 x29 x30 x31 x32 x33 x34 x35 = y3
  funext i
  obtain ⟨a, b, rfl⟩ : ∃ (a : Fin 136) (b : Fin 128), i = ix2 a b := ⟨i 0, i 1, eq_ix2 i⟩
  pointwise [val_main_cst, val_main_v44, val_main_cst_3, val_main_v46, val_main_cst_4, val_main_v49, val_main_cst_5, val_main_v52, val_main_cst_6, val_main_v55, val_main_cst_7, val_main_v57, val_main_cst_8, val_main_v60, val_main_cst_9, val_main_v63, val_main_cst_10, val_main_v66, outD, outM, outV, nm, nv, step]
end

set_option maxHeartbeats 1000000 in
/-- From equal arguments the kernel and the reference return the same three arrays over the extended reals. -/
theorem algebraic : Cert.algebraic_AdamSmallIdeal_AdamSmallRefIdeal := by
  intro m ρ m' ρ' _ hagree
  refine ⟨fun c => outD (V m c main_v10) (V m c main_v21) (V m c main_v32) (V m c main_v43), fun c => outM (V m c main_v21) (V m c main_v32), fun c => outV (V m c main_v21) (V m c main_v43), ?_, ?_⟩
  · exact (θ_run Cert.AdamSmallIdeal.defs _ _).mono (fun r h c => ⟨(h c).1.trans (arr4 m c), (h c).2.1.trans (arr5 m c), (h c).2.2.1.trans (arr6 m c), (h c).2.2.2⟩) (Cert.AdamSmallIdeal.Value.run_blocks m ρ)
  · refine (θ_run Cert.AdamSmallRefIdeal.defs _ _).mono (fun r h c => ⟨(h c).1.trans ((val_main_v67_eq m' c).trans ?_), (h c).2.1.trans ((val_main_v48_eq _ _ _ _ _ _ _ _ _ _ _ _ _ _ _ _ _ _).trans ?_), (h c).2.2.1.trans ((val_main_v54_eq m' c).trans ?_), (h c).2.2.2⟩) (Cert.AdamSmallRefIdeal.Value.run m' ρ')
    all_goals obtain ⟨h0, h1, h2, h3, h4, h5, h6, h7, h8, h9, h10, h11, h12, h13, h14, h15, h16, h17, h18, h19, h20, h21, h22, h23, h24, h25, h26, h27, h28, h29, h30, h31, h32, h33, h34, h35⟩ := hagree c
    · exact (ref_outD _ _ _ _ _ _ _ _ _ _ _ _ _ _ _ _ _ _ _ _ _ _ _ _ _ _ _ _ _ _ _ _ _ _ _ _).trans (congr (congr (congr (congrArg outD (V0_eq m c h0 h1 h2 h3 h4 h5 h6 h7 h8)) (V1_eq m c h9 h10 h11 h12 h13 h14 h15 h16 h17)) (V2_eq m c h18 h19 h20 h21 h22 h23 h24 h25 h26)) (V3_eq m c h27 h28 h29 h30 h31 h32 h33 h34 h35))
    · exact (ref_outM _ _ _ _ _ _ _ _ _ _ _ _ _ _ _ _ _ _).trans (congr (congrArg outM (V1_eq m c h9 h10 h11 h12 h13 h14 h15 h16 h17)) (V2_eq m c h18 h19 h20 h21 h22 h23 h24 h25 h26))
    · exact (ref_outV _ _ _ _ _ _ _ _ _ _ _ _ _ _ _ _ _ _).trans (congr (congrArg outV (V1_eq m c h9 h10 h11 h12 h13 h14 h15 h16 h17)) (V3_eq m c h27 h28 h29 h30 h31 h32 h33 h34 h35))

/-- The reference terminates with its arguments unchanged; it declares no semaphore. -/
theorem frame_reference : Cert.quiescent_AdamSmallRefIdeal := fun m ρ _ =>
  (θ_run Cert.AdamSmallRefIdeal.defs _ _).mono
    (fun r h => ⟨fun c => (h c).2.2.2, sem_eq_zero_of_no_sems rfl r.2⟩) (Cert.AdamSmallRefIdeal.Value.run m ρ)

end Cert.AdamSmallIdeal.Rule

end
-- ==== Proof.SumSlots.lean ====
/- The sum over the devices of the small weights' gradients, packed: the kernel adds the eight devices' arrays one after another, the reference sums along that axis, and over the extended reals the sums are equal. -/
module

public import proofs.«01_k».proof.Defs
public import proofs.«01_k».proof.Proof.Gen.SumSlotsIdeal.Value
public import proofs.«01_k».proof.Proof.Gen.SumSlotsRefIdeal.Read
public import proofs.«01_k».proof.Proof.Gen.SumSlotsRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.SumSlotsIdeal.Sum

open Cert.SumSlotsIdeal Cert.SumSlotsIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![0, 0, 0] := by decide +kernel
theorem i1 : ∀ t : Fin cfg0.N, win0_1.index t = ![0, 0] := by decide +kernel

/-- The array both sides compute. -/
def out (x0 : Vec Ideal S8x416x128 .f32) : Vec Ideal S416x128 .f32 :=
  fun i => ∑ k : Fin 8, x0 (ix3 k (i 0) (i 1))

/-- What the point writes, at an index. -/
theorem pay (x : Fin 8 → Vec Ideal S1x416x128 .f32) (a : Fin 416) (b : Fin 128) :
    k0_pay1 (x 0) (x 1) (x 2) (x 3) (x 4) (x 5) (x 6) (x 7) (ix2 a b) = ∑ k : Fin 8, x k (ix3 0 a b) := by
  rw [Fin.sum_univ_eight]
  pointwise [k0_pay1]

theorem x0_at (t : Fin cfg0.N) (k : Fin 8) (a : Fin 416) (b : Fin 128) : (iblk m c 0 t : Vec Ideal S8x416x128 .f32) (ix3 k a b) =
    m ((c : Thread nD τ).loc main_arg0) (ix3 k a b) := by
  blk_ext [iblk, V_main_arg0, i0 t]

/-- The array the run leaves. -/
theorem arr : (dats m 0 c).arrAt 1 cfg0.N = out (m ((c : Thread nD τ).loc main_arg0)) := by
  refine (dats m 0 c).arrAt_eq_of_covers 1 _ (by decide +kernel) fun t hf y => ?_
  blk_simp
  rw [after0_1]
  unfold out0_1
  frame_out
  obtain ⟨a, b, rfl⟩ : ∃ (a : Fin 416) (b : Fin 128), y = ix2 a b := ⟨y 0, y 1, eq_ix2 y⟩
  refine (pay ![View.ld (iblk m c 0 t) r0_0, View.ld (iblk m c 0 t) r0_1, View.ld (iblk m c 0 t) r0_2, View.ld (iblk m c 0 t) r0_3, View.ld (iblk m c 0 t) r0_4, View.ld (iblk m c 0 t) r0_5, View.ld (iblk m c 0 t) r0_6, View.ld (iblk m c 0 t) r0_7] a b).trans ?_
  refine Eq.trans (Finset.sum_congr rfl fun k _ => ?_) (congrArg (out _) (show ix2 a b = _ by blk_ext [i1 t]))
  refine Eq.trans ?_ (x0_at m c t k a b)
  fin_cases k <;> (refine congrArg (iblk m c 0 t) ?_; funext d; refine Fin.ext ((Rect.idx_unit_val _ _ _ _ d).trans ?_); fin_cases d <;> simp [ix3])

/-- The reference's value. -/
theorem ref (x0 : Vec Ideal S8x416x128 .f32) : Cert.SumSlotsRefIdeal.Read.val_main_v0 (F := Ideal) x0 = out x0 := by
  funext i
  obtain ⟨a, b, rfl⟩ : ∃ (a : Fin 416) (b : Fin 128), i = ix2 a b := ⟨i 0, i 1, eq_ix2 i⟩
  pointwise [Cert.SumSlotsRefIdeal.Read.val_main_v0, Cert.SumSlotsRefIdeal.Read.val_main_cst, out]

/-- From equal arguments the kernel and the reference return the same array over the extended reals. -/
theorem algebraic : Cert.algebraic_SumSlotsIdeal_SumSlotsRefIdeal := by
  intro m ρ m' ρ' _ hagree
  refine ⟨fun c => out (m ((c : Thread nD τ).loc main_arg0)), ?_, ?_⟩
  · exact (θ_run Cert.SumSlotsIdeal.defs _ _).mono (fun r h c => ⟨(h c).1.trans (arr m c), (h c).2⟩) (Cert.SumSlotsIdeal.Value.run_blocks m ρ)
  · refine (θ_run Cert.SumSlotsRefIdeal.defs _ _).mono (fun r h c => ⟨(h c).1.trans ?_, (h c).2⟩) (Cert.SumSlotsRefIdeal.Value.run m' ρ')
    exact (ref _).trans (by rw [hagree c])

/-- The reference terminates with its arguments unchanged; it declares no semaphore. -/
theorem frame_reference : Cert.quiescent_SumSlotsRefIdeal := fun m ρ _ =>
  (θ_run Cert.SumSlotsRefIdeal.defs _ _).mono
    (fun r h => ⟨fun c => (h c).2, sem_eq_zero_of_no_sems rfl r.2⟩) (Cert.SumSlotsRefIdeal.Value.run m ρ)

end Cert.SumSlotsIdeal.Sum

end
-- ==== Proof.Norm.lean ====
/- The root-mean-square norm of a layer's input: the kernel, a block of rows at every point of its grid, and the reference compute the same sums and products over the extended reals. -/
module

public import proofs.«01_k».proof.Defs
public import proofs.«01_k».proof.Proof.Gen.NormIdeal.Value
public import proofs.«01_k».proof.Proof.Gen.NormRefIdeal.Read
public import proofs.«01_k».proof.Proof.Gen.NormRefIdeal.Run
public import Idealize.ShloMosaic.Lib.Pointwise
public import Idealize.ShloMosaic.Lib.Pipeline.ValueKit
public import Idealize.ShloMosaic.Adequacy
public import Idealize.ShloMosaic.Init
public import Idealize.ShloMosaic.Lib.Quiescent

@[expose] public section

set_option maxRecDepth 16384

noncomputable section

namespace Cert.NormIdeal.Rows

open Cert.NormIdeal Cert.NormIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![t.val, 0] := by decide +kernel
theorem i1 : ∀ t : Fin cfg0.N, win0_1.index t = ![0, 0] := by decide +kernel
theorem i2 : ∀ t : Fin cfg0.N, win0_2.index t = ![t.val, 0] := by decide +kernel

/-- An entry of the normed row, from the entry, its row and its weight. -/
def entry (x : EReal) (row : Fin 1024 → EReal) (w : EReal) : EReal :=
  x * FloatOps.rsqrt (F := Ideal) (φ := .f32) (FloatOps.addf (F := Ideal) (φ := .f32) (FloatOps.divf (F := Ideal) (φ := .f32) (∑ k : Fin 1024, row k * row k) (FloatOps.ofBits .f32 0x44800000#32)) (FloatOps.ofBits .f32 0x358637BD#32)) * w

/-- What a point writes, at an index. -/
theorem pay (x0 : Vec Ideal S512x1024 .f32) (x1 : Vec Ideal S1x1024 .f32) (a : Fin 512) (b : Fin 1024) :
    k0_pay1 x0 x1 (ix2 a b) = entry (x0 (ix2 a b)) (fun k => x0 (ix2 a k)) (x1 (ix2 0 b)) := by
  pointwise [k0_pay1, entry]

/-- The array both sides compute. -/
def out (x0 : Vec Ideal S8192x1024 .f32) (x1 : Vec Ideal S1024 .f32) : Vec Ideal S8192x1024 .bf16 :=
  fun i => entry (x0 (ix2 (i 0) (i 1))) (fun k => x0 (ix2 (i 0) k)) (x1 (ix1 (i 1)))

theorem V_main_v0 (b : Fin 1024) : V m c main_v0 (ix2 0 b) = m ((c : Thread nD τ).loc main_arg1) (ix1 b) := by
  entry_read; pointwise

/-- The block of rows a point reads. -/
theorem x0_at (t : Fin cfg0.N) (a : Fin 512) (b : Fin 1024) : (iblk m c 0 t : Vec Ideal S512x1024 .f32) (ix2 a b) =
    m ((c : Thread nD τ).loc main_arg0) (ix2 ⟨512 * t.val + a.val, by have : t.val < 16 := t.isLt; omega⟩ b) := by
  have := t.isLt
  blk_ext [iblk, V_main_arg0, i0 t]
/-- The weights. -/
theorem x1_at (t : Fin cfg0.N) (b : Fin 1024) : (iblk m c 1 t : Vec Ideal S1x1024 .f32) (ix2 0 b) =
    m ((c : Thread nD τ).loc main_arg1) (ix1 b) := by
  refine Eq.trans ?_ (V_main_v0 m c _)
  blk_ext [iblk, i1 t]

/-- The array the run leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  have ht : t.val < 16 := t.isLt
  obtain ⟨a, b, rfl⟩ : ∃ (a : Fin 512) (b : Fin 1024), y = ix2 a b := ⟨y 0, y 1, eq_ix2 y⟩
  refine (pay (iblk m c 0 t) (iblk m c 1 t) a b).trans ?_
  simp only [x0_at, x1_at]
  refine Eq.trans ?_ (congrArg (out _ _) (show ix2 ⟨512 * t.val + a.val, by omega⟩ b = _ by blk_ext [i2 t]))
  rfl

/-- The reference's value. -/
theorem ref (x0 : Vec Ideal S8192x1024 .f32) (x1 : Vec Ideal S1024 .f32) : Cert.NormRefIdeal.Read.val_main_v13 (F := Ideal) x0 x1 = out x0 x1 := by
  funext i
  obtain ⟨a, b, rfl⟩ : ∃ (a : Fin 8192) (b : Fin 1024), i = ix2 a b := ⟨i 0, i 1, eq_ix2 i⟩
  open Cert.NormRefIdeal.Read in
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, out, entry]

/-- From equal arguments the kernel and the reference return the same array over the extended reals. -/
theorem algebraic : Cert.algebraic_NormIdeal_NormRefIdeal := by
  intro m ρ m' ρ' _ hagree
  refine ⟨fun c => out (m ((c : Thread nD τ).loc main_arg0)) (m ((c : Thread nD τ).loc main_arg1)), ?_, ?_⟩
  · exact (θ_run Cert.NormIdeal.defs _ _).mono (fun r h c => ⟨(h c).1.trans (arr m c), (h c).2⟩) (Cert.NormIdeal.Value.run_blocks m ρ)
  · refine (θ_run Cert.NormRefIdeal.defs _ _).mono (fun r h c => ⟨(h c).1.trans ?_, (h c).2⟩) (Cert.NormRefIdeal.Value.run m' ρ')
    obtain ⟨h0, h1⟩ := hagree c
    exact (ref _ _).trans (by rw [h0, h1])

/-- The reference terminates with its arguments unchanged; it declares no semaphore. -/
theorem frame_reference : Cert.quiescent_NormRefIdeal := fun m ρ _ =>
  (θ_run Cert.NormRefIdeal.defs _ _).mono
    (fun r h => ⟨fun c => (h c).2, sem_eq_zero_of_no_sems rfl r.2⟩) (Cert.NormRefIdeal.Value.run m ρ)

end Cert.NormIdeal.Rows

end
-- ==== Proof.GradUnit.lean ====
/- One chunk of one head of the gated delta rule, backward, on plain functions: what the gradient of the chunk's
   step is at each index, as an expression over the extended reals. The kernel's blocks and the reference's loop
   are both read down to these functions. -/
module

public import Idealize.ShloMosaic.PureOps.Ideal

@[expose] public section

noncomputable section

namespace Cert.Gdn

open Idealize.ShloMosaic

/-- What one chunk of one head takes: the state `S` before the chunk, its queries `q`, keys `k`, values `u`, the
    rows `w` that read the state, the gate `z`, the cotangent `dy` of its output, its attention `a`, the decay `e`,
    the norm's weight `g`, and the cotangent `dS` of the state after it. -/
structure Chunk where
  S : Fin 128 → Fin 128 → EReal
  q : Fin 64 → Fin 128 → EReal
  k : Fin 64 → Fin 128 → EReal
  u : Fin 64 → Fin 128 → EReal
  w : Fin 64 → Fin 128 → EReal
  a : Fin 64 → Fin 64 → EReal
  e : Fin 128 → EReal
  z : Fin 64 → Fin 128 → EReal
  g : Fin 128 → EReal
  dy : Fin 64 → Fin 128 → EReal
  dS : Fin 128 → Fin 128 → EReal

namespace Chunk

/-- The four constants of the norm and the gate, by their bit patterns: the width 128, the norm's ε, −1/2 and 1. -/
def width : EReal := Ideal.ofBits .f32 0x43000000#32
def eps : EReal := Ideal.ofBits .f32 0x358637BD#32
def mhalf : EReal := Ideal.ofBits .f32 0xBF000000#32

variable (x : Chunk)

/-- The chunk's new values: what the state does not yet say. -/
def v (c : Fin 64) (d : Fin 128) : EReal := x.u c d - ∑ e, x.w c e * x.S e d
/-- The output before the norm. -/
def o (c : Fin 64) (d : Fin 128) : EReal := (∑ e, x.q c e * x.S e d) + ∑ s, x.a c s * x.v s d
/-- The mean square of an output row, plus ε. -/
def ms (c : Fin 64) : EReal := Ideal.div (∑ d, x.o c d * x.o c d) width + eps
def r (c : Fin 64) : EReal := Ideal.rsqrt (x.ms c)
/-- The derivative of the reciprocal root. -/
def dr (c : Fin 64) : EReal := mhalf * Ideal.div (x.r c) (x.ms c)
/-- The normalised output. -/
def n (c : Fin 64) (d : Fin 128) : EReal := x.o c d * x.r c
def sg (c : Fin 64) (d : Fin 128) : EReal := Ideal.logistic (x.z c d)
def gate (c : Fin 64) (d : Fin 128) : EReal := x.z c d * x.sg c d
/-- The cotangent of the gate's argument. -/
def dz (c : Fin 64) (d : Fin 128) : EReal :=
  x.n c d * x.g d * x.dy c d * x.sg c d + x.z c d * (x.n c d * x.g d * x.dy c d) * (x.sg c d * (1 - x.sg c d))
/-- The cotangent of the weighted norm, and of the norm. -/
def dng (c : Fin 64) (d : Fin 128) : EReal := x.dy c d * x.gate c d
def dn (c : Fin 64) (d : Fin 128) : EReal := x.dng c d * x.g d
/-- The chunk's part of the gradient of the norm's weight. -/
def dg (d : Fin 128) : EReal := ∑ c, x.n c d * x.dng c d
/-- The cotangent of the row's mean square, for each element of the row. -/
def dms (c : Fin 64) : EReal := Ideal.div ((∑ d, x.o c d * x.dn c d) * x.dr c) width
/-- The cotangent of the output before the norm. -/
def do_ (c : Fin 64) (d : Fin 128) : EReal := x.dn c d * x.r c + x.o c d * x.dms c + x.dms c * x.o c d
/-- The cotangent of the new values, which is that of `u`. -/
def du (s : Fin 64) (d : Fin 128) : EReal := (∑ e, x.k s e * x.dS e d) + ∑ c, x.a c s * x.do_ c d
def dq (c : Fin 64) (e : Fin 128) : EReal := ∑ d, x.do_ c d * x.S e d
def dk (c : Fin 64) (e : Fin 128) : EReal := ∑ d, x.v c d * x.dS e d
def dw (c : Fin 64) (e : Fin 128) : EReal := ∑ d, -x.du c d * x.S e d
def da (c s : Fin 64) : EReal := ∑ d, x.do_ c d * x.v s d
/-- The cotangent of the decay. -/
def de (d : Fin 128) : EReal := ∑ e, x.S e d * x.dS e d
/-- The cotangent of the state before the chunk. -/
def dS' (e d : Fin 128) : EReal :=
  x.dS e d * x.e d + (∑ c, x.q c e * x.do_ c d) + ∑ c, x.w c e * -x.du c d

end Chunk

end Cert.Gdn

end
-- ==== Proof.KernelUnit.lean ====
/- The kernel's arithmetic for one chunk of one head, as operations on whole vectors and at any reading of the
   floats; and each of its values at an index over the extended reals, where it is the plain function of GradUnit. -/
module

public import proofs.«01_k».proof.Proof.Gen.KernelIdeal
public import proofs.«01_k».proof.Proof.GradUnit
public import Idealize.ShloMosaic.Lib.Pointwise

@[expose] public section

set_option maxRecDepth 16384

noncomputable section

namespace Cert.KernelIdeal.KU

open Cert.KernelIdeal Cert.KernelIdeal.Gen Idealize.ShloMosaic Cert.Gdn

variable {F : FTy → Type} [FloatOps F]

/-- What one chunk of one head takes, as vectors. -/
structure In (F : FTy → Type) where
  S : FVec F S128x128 .f32
  q : FVec F S64x128 .f32
  k : FVec F S64x128 .f32
  u : FVec F S64x128 .f32
  w : FVec F S64x128 .f32
  a : FVec F S64x64 .f32
  e : FVec F S1x128 .f32
  z : FVec F S64x128 .f32
  g : FVec F S1x128 .f32
  dy : FVec F S64x128 .f32
  dS : FVec F S128x128 .f32

variable (x : In F)

def v : FVec F S64x128 .f32 :=
  subf x.u (matmul dot_S64x128_S128x128_S64x128_1_0_0_1_n_n none (truncf .bf16 x.w bitsLt_bf16_f32)
    (truncf .bf16 x.S bitsLt_bf16_f32) (constant S64x128 .f32 0x00000000#32))
def o : FVec F S64x128 .f32 :=
  addf (matmul dot_S64x128_S128x128_S64x128_1_0_0_1_n_n none (truncf .bf16 x.q bitsLt_bf16_f32)
      (truncf .bf16 x.S bitsLt_bf16_f32) (constant S64x128 .f32 0x00000000#32))
    (matmul dot_S64x64_S64x128_S64x128_1_0_0_1_n_n none (truncf .bf16 x.a bitsLt_bf16_f32)
      (truncf .bf16 (v x) bitsLt_bf16_f32) (constant S64x128 .f32 0x00000000#32))
def ms : FVec F S64x1 .f32 :=
  addf (divf (shapeCast S64x1 (multiReduction .add [1] S64 (mulf (o x) (o x)) 0x00000000#32 reduces_S64x128_S64 (.inl rfl) rfl)
      shapeCasts_S64_S64x1) (broadcast S64x1 (Scalar.ofBits .f32 0x43000000#32)))
    (broadcast S64x1 (Scalar.ofBits .f32 0x358637BD#32))
def r : FVec F S64x1 .f32 := rsqrt (ms x)
def dr : FVec F S64x1 .f32 := mulf (broadcast S64x1 (Scalar.ofBits .f32 0xBF000000#32)) (divf (r x) (ms x))
def n : FVec F S64x128 .f32 := mulf (o x) (broadcastTo S64x128 (r x) broadcasts_S64x1_S64x128)
def sg : FVec F S64x128 .f32 := logistic x.z
def gate : FVec F S64x128 .f32 := mulf x.z (sg x)
def nd : FVec F S64x128 .f32 := mulf (mulf (n x) (broadcastTo S64x128 x.g broadcasts_S1x128_S64x128)) x.dy
def dz : FVec F S64x128 .f32 :=
  addf (mulf (nd x) (sg x))
    (mulf (mulf x.z (nd x)) (mulf (sg x) (subf (broadcast S64x128 (Scalar.ofBits .f32 0x3F800000#32)) (sg x))))
def dng : FVec F S64x128 .f32 := mulf x.dy (gate x)
def dn : FVec F S64x128 .f32 := mulf (dng x) (broadcastTo S64x128 x.g broadcasts_S1x128_S64x128)
def dg : FVec F S1x128 .f32 :=
  shapeCast S1x128 (multiReduction .add [0] S128 (mulf (n x) (dng x)) 0x00000000#32 reduces_S64x128_S128 (.inl rfl) rfl)
    shapeCasts_S128_S1x128
def dms : FVec F S64x1 .f32 :=
  shapeCast S64x1 (multiReduction .add [1] S64
    (divf (mulf (shapeCast S64x1 (multiReduction .add [1] S64 (mulf (o x) (dn x)) 0x00000000#32 reduces_S64x128_S64 (.inl rfl) rfl)
      shapeCasts_S64_S64x1) (dr x)) (broadcast S64x1 (Scalar.ofBits .f32 0x43000000#32)))
    0x00000000#32 reduces_S64x1_S64 (.inl rfl) rfl) shapeCasts_S64_S64x1
def do_ : FVec F S64x128 .f32 :=
  addf (addf (mulf (dn x) (broadcastTo S64x128 (r x) broadcasts_S64x1_S64x128))
      (mulf (o x) (broadcastTo S64x128 (dms x) broadcasts_S64x1_S64x128)))
    (mulf (broadcastTo S64x128 (dms x) broadcasts_S64x1_S64x128) (o x))
def du : FVec F S64x128 .f32 :=
  addf (matmul dot_S64x128_S128x128_S64x128_1_0_0_1_n_n none (truncf .bf16 x.k bitsLt_bf16_f32)
      (truncf .bf16 x.dS bitsLt_bf16_f32) (constant S64x128 .f32 0x00000000#32))
    (matmul dot_S64x64_S64x128_S64x128_0_0_1_1_n_n none (truncf .bf16 x.a bitsLt_bf16_f32)
      (truncf .bf16 (do_ x) bitsLt_bf16_f32) (constant S64x128 .f32 0x00000000#32))
def ndu : FVec F S64x128 .f32 := subf (broadcast S64x128 (Scalar.ofBits .f32 0x00000000#32)) (du x)
def dq : FVec F S64x128 .f32 :=
  matmul dot_S64x128_S128x128_S64x128_1_1_0_0_n_n none (truncf .bf16 (do_ x) bitsLt_bf16_f32)
    (truncf .bf16 x.S bitsLt_bf16_f32) (constant S64x128 .f32 0x00000000#32)
def dk : FVec F S64x128 .f32 :=
  matmul dot_S64x128_S128x128_S64x128_1_1_0_0_n_n none (truncf .bf16 (v x) bitsLt_bf16_f32)
    (truncf .bf16 x.dS bitsLt_bf16_f32) (constant S64x128 .f32 0x00000000#32)
def dw : FVec F S64x128 .f32 :=
  matmul dot_S64x128_S128x128_S64x128_1_1_0_0_n_n none (truncf .bf16 (ndu x) bitsLt_bf16_f32)
    (truncf .bf16 x.S bitsLt_bf16_f32) (constant S64x128 .f32 0x00000000#32)
def da : FVec F S64x64 .f32 :=
  matmul dot_S64x128_S64x128_S64x64_1_1_0_0_n_n none (truncf .bf16 (do_ x) bitsLt_bf16_f32)
    (truncf .bf16 (v x) bitsLt_bf16_f32) (constant S64x64 .f32 0x00000000#32)
def de : FVec F S1x128 .f32 :=
  shapeCast S1x128 (multiReduction .add [0] S128 (mulf x.S x.dS) 0x00000000#32 reduces_S128x128_S128 (.inl rfl) rfl)
    shapeCasts_S128_S1x128
def dS' : FVec F S128x128 .f32 :=
  addf (addf (mulf x.dS (broadcastTo S128x128 x.e broadcasts_S1x128_S128x128))
      (matmul dot_S64x128_S64x128_S128x128_0_0_1_1_n_n none (truncf .bf16 x.q bitsLt_bf16_f32)
        (truncf .bf16 (do_ x) bitsLt_bf16_f32) (constant S128x128 .f32 0x00000000#32)))
    (matmul dot_S64x128_S64x128_S128x128_0_0_1_1_n_n none (truncf .bf16 x.w bitsLt_bf16_f32)
      (truncf .bf16 (ndu x) bitsLt_bf16_f32) (constant S128x128 .f32 0x00000000#32))

/-! ## At an index, over the extended reals -/

/-- The vectors as plain functions. -/
def plain (x : In Ideal) : Chunk where
  S := fun a b => x.S (ix2 a b)
  q := fun a b => x.q (ix2 a b)
  k := fun a b => x.k (ix2 a b)
  u := fun a b => x.u (ix2 a b)
  w := fun a b => x.w (ix2 a b)
  a := fun a b => x.a (ix2 a b)
  e := fun b => x.e (ix2 0 b)
  z := fun a b => x.z (ix2 a b)
  g := fun b => x.g (ix2 0 b)
  dy := fun a b => x.dy (ix2 a b)
  dS := fun a b => x.dS (ix2 a b)

section
variable (x : In Ideal) (c : Fin 64) (d : Fin 128)

theorem v_at : v x (ix2 c d) = (plain x).v c d := by
  pointwise [v]; rfl
theorem o_at : o x (ix2 c d) = (plain x).o c d := by
  pointwise [o]; simp only [v_at]; rfl
theorem ms_at : ms x (ix2 c 0) = (plain x).ms c := by
  pointwise [ms]; simp only [o_at]; rfl
theorem r_at : r x (ix2 c 0) = (plain x).r c := by
  pointwise [r]; simp only [ms_at]; rfl
theorem dr_at : dr x (ix2 c 0) = (plain x).dr c := by
  pointwise [dr]; simp only [ms_at, r_at]; rfl
theorem n_at : n x (ix2 c d) = (plain x).n c d := by
  pointwise [n]; simp only [o_at, r_at]; rfl
theorem gate_at : gate x (ix2 c d) = (plain x).gate c d := by
  pointwise [gate, sg]; rfl
theorem nd_at : nd x (ix2 c d) = (plain x).n c d * x.g (ix2 0 d) * x.dy (ix2 c d) := by
  pointwise [nd]; simp only [n_at]
theorem dz_at : dz x (ix2 c d) = (plain x).dz c d := by
  pointwise [dz, sg]; simp only [nd_at]; rfl
theorem dng_at : dng x (ix2 c d) = (plain x).dng c d := by
  pointwise [dng]; simp only [gate_at]; rfl
theorem dn_at : dn x (ix2 c d) = (plain x).dn c d := by
  pointwise [dn]; simp only [dng_at]; rfl
theorem dg_at : dg x (ix2 0 d) = (plain x).dg d := by
  pointwise [dg]; simp only [n_at, dng_at]; rfl
theorem dms_at : dms x (ix2 c 0) = (plain x).dms c := by
  pointwise [dms]; simp only [Fin.sum_univ_one, o_at, dn_at, dr_at]; rfl
theorem do_at : do_ x (ix2 c d) = (plain x).do_ c d := by
  pointwise [do_]; simp only [o_at, dn_at, r_at, dms_at]; rfl
theorem du_at : du x (ix2 c d) = (plain x).du c d := by
  pointwise [du]; simp only [do_at]; rfl
theorem ndu_at : ndu x (ix2 c d) = -(plain x).du c d := by
  pointwise [ndu]; simp only [du_at, zero_sub]
theorem dq_at : dq x (ix2 c d) = (plain x).dq c d := by
  pointwise [dq]; simp only [do_at]; rfl
theorem dk_at : dk x (ix2 c d) = (plain x).dk c d := by
  pointwise [dk]; simp only [v_at]; rfl
theorem dw_at : dw x (ix2 c d) = (plain x).dw c d := by
  pointwise [dw]; simp only [ndu_at]; rfl
theorem da_at (s : Fin 64) : da x (ix2 c s) = (plain x).da c s := by
  pointwise [da]; simp only [v_at, do_at]; rfl
theorem de_at : de x (ix2 0 d) = (plain x).de d := by
  pointwise [de]; rfl
theorem dS'_at (e : Fin 128) : dS' x (ix2 e d) = (plain x).dS' e d := by
  pointwise [dS']; simp only [ndu_at, do_at]; rfl

end

end Cert.KernelIdeal.KU

end
-- ==== Proof.KernelFold.lean ====
/- Each value the kernel computes for one chunk of one head, named by the vectors the chunk loads: the printed
   payloads of the block are the vector functions of KernelUnit. -/
module

public import proofs.«01_k».proof.Proof.KernelUnit
public import proofs.«01_k».proof.Proof.Gen.KernelIdeal.Skeleton

@[expose] public section

set_option maxRecDepth 16384

noncomputable section

namespace Cert.KernelIdeal.KF

open Cert.KernelIdeal Cert.KernelIdeal.Gen Idealize.ShloMosaic

variable {F : FTy → Type} [FloatOps F]

/-- A chunk from the vectors as they are loaded. -/
def mk (S : Vec F S1x1x128x128 .f32) (q k u w : Vec F S64x128 .f32) (a : Vec F S1x64x64 .f32) (e : Vec F S1x1x128 .f32)
    (z : Vec F S64x128 .f32) (g : Vec F S1x128 .f32) (dy : Vec F S64x128 .f32) (dS : FVec F S128x128 .f32) : KU.In F where
  S := shapeCast S128x128 S shapeCasts_S1x1x128x128_S128x128
  q := q
  k := k
  u := u
  w := w
  a := shapeCast S64x64 a shapeCasts_S1x64x64_S64x64
  e := shapeCast S1x128 e shapeCasts_S1x1x128_S1x128
  z := z
  g := g
  dy := dy
  dS := dS

/-! Casts of a shape to itself. -/

theorem k0_pay10_self (v : FVec F S1x128 .f32) : k0_pay10 v = v := shapeCast_self v _
theorem k0_pay14_self (v : FVec F S1x128 .f32) : k0_pay14 v = v := shapeCast_self v _
theorem k0_pay18_self (v : FVec F S1x128 .f32) : k0_pay18 v = v := shapeCast_self v _
theorem k0_pay22_self (v : FVec F S1x128 .f32) : k0_pay22 v = v := shapeCast_self v _
theorem k0_pay164_self (v : FVec F S1x128 .f32) : k0_pay164 v = v := shapeCast_self v _
theorem k0_pay168_self (v : FVec F S1x128 .f32) : k0_pay168 v = v := shapeCast_self v _
theorem k0_pay172_self (v : FVec F S1x128 .f32) : k0_pay172 v = v := shapeCast_self v _
theorem k0_pay176_self (v : FVec F S1x128 .f32) : k0_pay176 v = v := shapeCast_self v _
theorem k0_pay304_self (v : FVec F S1x128 .f32) : k0_pay304 v = v := shapeCast_self v _
theorem k0_pay308_self (v : FVec F S1x128 .f32) : k0_pay308 v = v := shapeCast_self v _
theorem k0_pay312_self (v : FVec F S1x128 .f32) : k0_pay312 v = v := shapeCast_self v _
theorem k0_pay316_self (v : FVec F S1x128 .f32) : k0_pay316 v = v := shapeCast_self v _
theorem k0_pay446_self (v : FVec F S1x128 .f32) : k0_pay446 v = v := shapeCast_self v _
theorem k0_pay450_self (v : FVec F S1x128 .f32) : k0_pay450 v = v := shapeCast_self v _
theorem k0_pay454_self (v : FVec F S1x128 .f32) : k0_pay454 v = v := shapeCast_self v _
theorem k0_pay458_self (v : FVec F S1x128 .f32) : k0_pay458 v = v := shapeCast_self v _
theorem k0_pay69_self (v : FVec F S128x128 .f32) : k0_pay69 v = v := shapeCast_self v _
theorem k0_pay70_self (v : FVec F S128x128 .f32) : k0_pay70 v = v := shapeCast_self v _
theorem k0_pay80_self (v : FVec F S128x128 .f32) : k0_pay80 v = v := shapeCast_self v _
theorem k0_pay81_self (v : FVec F S128x128 .f32) : k0_pay81 v = v := shapeCast_self v _
theorem k0_pay88_self (v : FVec F S128x128 .f32) : k0_pay88 v = v := shapeCast_self v _
theorem k0_pay89_self (v : FVec F S128x128 .f32) : k0_pay89 v = v := shapeCast_self v _
theorem k0_pay97_self (v : FVec F S128x128 .f32) : k0_pay97 v = v := shapeCast_self v _
theorem k0_pay98_self (v : FVec F S128x128 .f32) : k0_pay98 v = v := shapeCast_self v _

variable (S : Vec F S1x1x128x128 .f32) (q k u w : Vec F S64x128 .f32) (a : Vec F S1x64x64 .f32) (e : Vec F S1x1x128 .f32)
  (z : Vec F S64x128 .f32) (g : Vec F S1x128 .f32) (dy : Vec F S64x128 .f32)

/-! Chunk 3 of the block, the four heads. -/

theorem dS_3_0 (D : Vec F S1x128x128 .f32) : k0_pay145 w (k0_pay123 (k0_pay8 a) (k0_pay107 (k0_pay34 (k0_pay7 S) q u (k0_pay8 a) (k0_pay23 w)) (k0_pay105 (k0_pay10 g) dy (k0_pay37 (k0_pay35 (k0_pay7 S) q u (k0_pay8 a) (k0_pay23 w)) (Scalar.ofBits .f32 0x358637BD#32)) (k0_pay43 z)) (k0_pay106 (k0_pay10 g) dy (k0_pay34 (k0_pay7 S) q u (k0_pay8 a) (k0_pay23 w)) (k0_pay38 (k0_pay35 (k0_pay7 S) q u (k0_pay8 a) (k0_pay23 w)) (Scalar.ofBits .f32 0x358637BD#32)) (k0_pay43 z))) (k0_pay113 k (k0_pay98 (k0_pay3 D)))) (k0_pay131 q (k0_pay100 (k0_pay3 D) (k0_pay9 e)) (k0_pay107 (k0_pay34 (k0_pay7 S) q u (k0_pay8 a) (k0_pay23 w)) (k0_pay105 (k0_pay10 g) dy (k0_pay37 (k0_pay35 (k0_pay7 S) q u (k0_pay8 a) (k0_pay23 w)) (Scalar.ofBits .f32 0x358637BD#32)) (k0_pay43 z)) (k0_pay106 (k0_pay10 g) dy (k0_pay34 (k0_pay7 S) q u (k0_pay8 a) (k0_pay23 w)) (k0_pay38 (k0_pay35 (k0_pay7 S) q u (k0_pay8 a) (k0_pay23 w)) (Scalar.ofBits .f32 0x358637BD#32)) (k0_pay43 z))))
    = KU.dS' (mk S q k u w a e z g dy (shapeCast S128x128 D shapeCasts_S1x128x128_S128x128)) := by
  simp only [k0_pay10_self, k0_pay98_self, k0_pay97_self, k0_pay100]
  rfl
theorem dg_3_0 (D : Vec F S1x128x128 .f32) : k0_pay103 dy (k0_pay39 (k0_pay34 (k0_pay7 S) q u (k0_pay8 a) (k0_pay23 w)) (k0_pay35 (k0_pay7 S) q u (k0_pay8 a) (k0_pay23 w)) (Scalar.ofBits .f32 0x358637BD#32)) (k0_pay43 z)
    = KU.dg (mk S q k u w a e z g dy (shapeCast S128x128 D shapeCasts_S1x128x128_S128x128)) := rfl
theorem dq_3_0 (D : Vec F S1x128x128 .f32) : k0_pay130 (k0_pay7 S) (k0_pay107 (k0_pay34 (k0_pay7 S) q u (k0_pay8 a) (k0_pay23 w)) (k0_pay105 (k0_pay10 g) dy (k0_pay37 (k0_pay35 (k0_pay7 S) q u (k0_pay8 a) (k0_pay23 w)) (Scalar.ofBits .f32 0x358637BD#32)) (k0_pay43 z)) (k0_pay106 (k0_pay10 g) dy (k0_pay34 (k0_pay7 S) q u (k0_pay8 a) (k0_pay23 w)) (k0_pay38 (k0_pay35 (k0_pay7 S) q u (k0_pay8 a) (k0_pay23 w)) (Scalar.ofBits .f32 0x358637BD#32)) (k0_pay43 z)))
    = KU.dq (mk S q k u w a e z g dy (shapeCast S128x128 D shapeCasts_S1x128x128_S128x128)) := by
  simp only [k0_pay10_self]
  rfl
theorem dk_3_0 (D : Vec F S1x128x128 .f32) : k0_pay112 (k0_pay24 (k0_pay7 S) u (k0_pay23 w)) (k0_pay98 (k0_pay3 D))
    = KU.dk (mk S q k u w a e z g dy (shapeCast S128x128 D shapeCasts_S1x128x128_S128x128)) := by
  simp only [k0_pay98_self]
  rfl
theorem du_3_0 (D : Vec F S1x128x128 .f32) : k0_pay123 (k0_pay8 a) (k0_pay107 (k0_pay34 (k0_pay7 S) q u (k0_pay8 a) (k0_pay23 w)) (k0_pay105 (k0_pay10 g) dy (k0_pay37 (k0_pay35 (k0_pay7 S) q u (k0_pay8 a) (k0_pay23 w)) (Scalar.ofBits .f32 0x358637BD#32)) (k0_pay43 z)) (k0_pay106 (k0_pay10 g) dy (k0_pay34 (k0_pay7 S) q u (k0_pay8 a) (k0_pay23 w)) (k0_pay38 (k0_pay35 (k0_pay7 S) q u (k0_pay8 a) (k0_pay23 w)) (Scalar.ofBits .f32 0x358637BD#32)) (k0_pay43 z))) (k0_pay113 k (k0_pay98 (k0_pay3 D)))
    = KU.du (mk S q k u w a e z g dy (shapeCast S128x128 D shapeCasts_S1x128x128_S128x128)) := by
  simp only [k0_pay10_self, k0_pay98_self]
  rfl
theorem dw_3_0 (D : Vec F S1x128x128 .f32) : k0_pay144 (k0_pay7 S) (k0_pay123 (k0_pay8 a) (k0_pay107 (k0_pay34 (k0_pay7 S) q u (k0_pay8 a) (k0_pay23 w)) (k0_pay105 (k0_pay10 g) dy (k0_pay37 (k0_pay35 (k0_pay7 S) q u (k0_pay8 a) (k0_pay23 w)) (Scalar.ofBits .f32 0x358637BD#32)) (k0_pay43 z)) (k0_pay106 (k0_pay10 g) dy (k0_pay34 (k0_pay7 S) q u (k0_pay8 a) (k0_pay23 w)) (k0_pay38 (k0_pay35 (k0_pay7 S) q u (k0_pay8 a) (k0_pay23 w)) (Scalar.ofBits .f32 0x358637BD#32)) (k0_pay43 z))) (k0_pay113 k (k0_pay98 (k0_pay3 D))))
    = KU.dw (mk S q k u w a e z g dy (shapeCast S128x128 D shapeCasts_S1x128x128_S128x128)) := by
  simp only [k0_pay10_self, k0_pay98_self]
  rfl
theorem da_3_0 (D : Vec F S1x128x128 .f32) : k0_pay146 (k0_pay122 (k0_pay24 (k0_pay7 S) u (k0_pay23 w)) (k0_pay107 (k0_pay34 (k0_pay7 S) q u (k0_pay8 a) (k0_pay23 w)) (k0_pay105 (k0_pay10 g) dy (k0_pay37 (k0_pay35 (k0_pay7 S) q u (k0_pay8 a) (k0_pay23 w)) (Scalar.ofBits .f32 0x358637BD#32)) (k0_pay43 z)) (k0_pay106 (k0_pay10 g) dy (k0_pay34 (k0_pay7 S) q u (k0_pay8 a) (k0_pay23 w)) (k0_pay38 (k0_pay35 (k0_pay7 S) q u (k0_pay8 a) (k0_pay23 w)) (Scalar.ofBits .f32 0x358637BD#32)) (k0_pay43 z))))
    = shapeCast S1x64x64 (KU.da (mk S q k u w a e z g dy (shapeCast S128x128 D shapeCasts_S1x128x128_S128x128))) shapeCasts_S64x64_S1x64x64 := by
  simp only [k0_pay10_self]
  rfl
theorem de_3_0 (D : Vec F S1x128x128 .f32) : k0_pay147 (k0_pay99 (k0_pay3 D) (k0_pay7 S))
    = shapeCast S1x1x128 (KU.de (mk S q k u w a e z g dy (shapeCast S128x128 D shapeCasts_S1x128x128_S128x128))) shapeCasts_S1x128_S1x1x128 := by
  simp only [k0_pay97_self, k0_pay99]
  rfl
theorem dz_3_0 (D : Vec F S1x128x128 .f32) : k0_pay148 (k0_pay102 z dy (k0_pay40 (k0_pay10 g) (k0_pay34 (k0_pay7 S) q u (k0_pay8 a) (k0_pay23 w)) (k0_pay35 (k0_pay7 S) q u (k0_pay8 a) (k0_pay23 w)) (Scalar.ofBits .f32 0x358637BD#32)) (k0_pay41 z) (k0_pay42 z))
    = truncf .bf16 (KU.dz (mk S q k u w a e z g dy (shapeCast S128x128 D shapeCasts_S1x128x128_S128x128))) bitsLt_bf16_f32 := by
  simp only [k0_pay10_self]
  rfl
theorem dS_3_1 (D : Vec F S1x128x128 .f32) : k0_pay142 w (k0_pay121 (k0_pay12 a) (k0_pay96 (k0_pay14 g) dy (k0_pay44 (k0_pay28 (k0_pay11 S) q) (k0_pay31 (k0_pay11 S) u w (k0_pay12 a))) (k0_pay46 (k0_pay28 (k0_pay11 S) q) (k0_pay31 (k0_pay11 S) u w (k0_pay12 a))) (k0_pay47 (k0_pay28 (k0_pay11 S) q) (k0_pay31 (k0_pay11 S) u w (k0_pay12 a))) (k0_pay52 z)) (k0_pay111 k (k0_pay89 (k0_pay4 D)))) (k0_pay129 q (k0_pay91 (k0_pay4 D) (k0_pay13 e)) (k0_pay96 (k0_pay14 g) dy (k0_pay44 (k0_pay28 (k0_pay11 S) q) (k0_pay31 (k0_pay11 S) u w (k0_pay12 a))) (k0_pay46 (k0_pay28 (k0_pay11 S) q) (k0_pay31 (k0_pay11 S) u w (k0_pay12 a))) (k0_pay47 (k0_pay28 (k0_pay11 S) q) (k0_pay31 (k0_pay11 S) u w (k0_pay12 a))) (k0_pay52 z)))
    = KU.dS' (mk S q k u w a e z g dy (shapeCast S128x128 D shapeCasts_S1x128x128_S128x128)) := by
  simp only [k0_pay14_self, k0_pay89_self, k0_pay88_self, k0_pay91]
  rfl
theorem dg_3_1 (D : Vec F S1x128x128 .f32) : k0_pay95 dy (k0_pay48 (k0_pay28 (k0_pay11 S) q) (k0_pay31 (k0_pay11 S) u w (k0_pay12 a))) (k0_pay52 z)
    = KU.dg (mk S q k u w a e z g dy (shapeCast S128x128 D shapeCasts_S1x128x128_S128x128)) := rfl
theorem dq_3_1 (D : Vec F S1x128x128 .f32) : k0_pay128 (k0_pay11 S) (k0_pay96 (k0_pay14 g) dy (k0_pay44 (k0_pay28 (k0_pay11 S) q) (k0_pay31 (k0_pay11 S) u w (k0_pay12 a))) (k0_pay46 (k0_pay28 (k0_pay11 S) q) (k0_pay31 (k0_pay11 S) u w (k0_pay12 a))) (k0_pay47 (k0_pay28 (k0_pay11 S) q) (k0_pay31 (k0_pay11 S) u w (k0_pay12 a))) (k0_pay52 z))
    = KU.dq (mk S q k u w a e z g dy (shapeCast S128x128 D shapeCasts_S1x128x128_S128x128)) := by
  simp only [k0_pay14_self]
  rfl
theorem dk_3_1 (D : Vec F S1x128x128 .f32) : k0_pay110 (k0_pay25 (k0_pay11 S) u w) (k0_pay89 (k0_pay4 D))
    = KU.dk (mk S q k u w a e z g dy (shapeCast S128x128 D shapeCasts_S1x128x128_S128x128)) := by
  simp only [k0_pay89_self]
  rfl
theorem du_3_1 (D : Vec F S1x128x128 .f32) : k0_pay121 (k0_pay12 a) (k0_pay96 (k0_pay14 g) dy (k0_pay44 (k0_pay28 (k0_pay11 S) q) (k0_pay31 (k0_pay11 S) u w (k0_pay12 a))) (k0_pay46 (k0_pay28 (k0_pay11 S) q) (k0_pay31 (k0_pay11 S) u w (k0_pay12 a))) (k0_pay47 (k0_pay28 (k0_pay11 S) q) (k0_pay31 (k0_pay11 S) u w (k0_pay12 a))) (k0_pay52 z)) (k0_pay111 k (k0_pay89 (k0_pay4 D)))
    = KU.du (mk S q k u w a e z g dy (shapeCast S128x128 D shapeCasts_S1x128x128_S128x128)) := by
  simp only [k0_pay14_self, k0_pay89_self]
  rfl
theorem dw_3_1 (D : Vec F S1x128x128 .f32) : k0_pay141 (k0_pay11 S) (k0_pay121 (k0_pay12 a) (k0_pay96 (k0_pay14 g) dy (k0_pay44 (k0_pay28 (k0_pay11 S) q) (k0_pay31 (k0_pay11 S) u w (k0_pay12 a))) (k0_pay46 (k0_pay28 (k0_pay11 S) q) (k0_pay31 (k0_pay11 S) u w (k0_pay12 a))) (k0_pay47 (k0_pay28 (k0_pay11 S) q) (k0_pay31 (k0_pay11 S) u w (k0_pay12 a))) (k0_pay52 z)) (k0_pay111 k (k0_pay89 (k0_pay4 D))))
    = KU.dw (mk S q k u w a e z g dy (shapeCast S128x128 D shapeCasts_S1x128x128_S128x128)) := by
  simp only [k0_pay14_self, k0_pay89_self]
  rfl
theorem da_3_1 (D : Vec F S1x128x128 .f32) : k0_pay149 (k0_pay120 (k0_pay118 (k0_pay96 (k0_pay14 g) dy (k0_pay44 (k0_pay28 (k0_pay11 S) q) (k0_pay31 (k0_pay11 S) u w (k0_pay12 a))) (k0_pay46 (k0_pay28 (k0_pay11 S) q) (k0_pay31 (k0_pay11 S) u w (k0_pay12 a))) (k0_pay47 (k0_pay28 (k0_pay11 S) q) (k0_pay31 (k0_pay11 S) u w (k0_pay12 a))) (k0_pay52 z))) (k0_pay119 (k0_pay25 (k0_pay11 S) u w)) (constant S64x64 .f32 0x00000000#32))
    = shapeCast S1x64x64 (KU.da (mk S q k u w a e z g dy (shapeCast S128x128 D shapeCasts_S1x128x128_S128x128))) shapeCasts_S64x64_S1x64x64 := by
  simp only [k0_pay14_self]
  rfl
theorem de_3_1 (D : Vec F S1x128x128 .f32) : k0_pay150 (k0_pay90 (k0_pay4 D) (k0_pay11 S))
    = shapeCast S1x1x128 (KU.de (mk S q k u w a e z g dy (shapeCast S128x128 D shapeCasts_S1x128x128_S128x128))) shapeCasts_S1x128_S1x1x128 := by
  simp only [k0_pay88_self, k0_pay90]
  rfl
theorem dz_3_1 (D : Vec F S1x128x128 .f32) : k0_pay151 (k0_pay94 z (k0_pay50 z) (k0_pay51 z) (k0_pay92 dy (k0_pay49 (k0_pay14 g) (k0_pay28 (k0_pay11 S) q) (k0_pay31 (k0_pay11 S) u w (k0_pay12 a)))))
    = truncf .bf16 (KU.dz (mk S q k u w a e z g dy (shapeCast S128x128 D shapeCasts_S1x128x128_S128x128))) bitsLt_bf16_f32 := by
  simp only [k0_pay14_self]
  rfl
theorem dS_3_2 (D : Vec F S1x128x128 .f32) : k0_pay139 w (k0_pay117 k (k0_pay16 a) (k0_pay81 (k0_pay5 D)) (k0_pay87 (k0_pay18 g) dy (k0_pay53 (k0_pay29 (k0_pay15 S) q) (k0_pay32 (k0_pay15 S) u w (k0_pay16 a))) (k0_pay55 (k0_pay29 (k0_pay15 S) q) (k0_pay32 (k0_pay15 S) u w (k0_pay16 a))) (k0_pay56 (k0_pay29 (k0_pay15 S) q) (k0_pay32 (k0_pay15 S) u w (k0_pay16 a))) (k0_pay62 z))) (k0_pay127 q (k0_pay83 (k0_pay5 D) (k0_pay17 e)) (k0_pay87 (k0_pay18 g) dy (k0_pay53 (k0_pay29 (k0_pay15 S) q) (k0_pay32 (k0_pay15 S) u w (k0_pay16 a))) (k0_pay55 (k0_pay29 (k0_pay15 S) q) (k0_pay32 (k0_pay15 S) u w (k0_pay16 a))) (k0_pay56 (k0_pay29 (k0_pay15 S) q) (k0_pay32 (k0_pay15 S) u w (k0_pay16 a))) (k0_pay62 z)))
    = KU.dS' (mk S q k u w a e z g dy (shapeCast S128x128 D shapeCasts_S1x128x128_S128x128)) := by
  simp only [k0_pay18_self, k0_pay81_self, k0_pay80_self, k0_pay83]
  rfl
theorem dg_3_2 (D : Vec F S1x128x128 .f32) : k0_pay86 dy (k0_pay58 (k0_pay53 (k0_pay29 (k0_pay15 S) q) (k0_pay32 (k0_pay15 S) u w (k0_pay16 a))) (k0_pay57 (k0_pay29 (k0_pay15 S) q) (k0_pay32 (k0_pay15 S) u w (k0_pay16 a)))) (k0_pay62 z)
    = KU.dg (mk S q k u w a e z g dy (shapeCast S128x128 D shapeCasts_S1x128x128_S128x128)) := rfl
theorem dq_3_2 (D : Vec F S1x128x128 .f32) : k0_pay126 (k0_pay15 S) (k0_pay87 (k0_pay18 g) dy (k0_pay53 (k0_pay29 (k0_pay15 S) q) (k0_pay32 (k0_pay15 S) u w (k0_pay16 a))) (k0_pay55 (k0_pay29 (k0_pay15 S) q) (k0_pay32 (k0_pay15 S) u w (k0_pay16 a))) (k0_pay56 (k0_pay29 (k0_pay15 S) q) (k0_pay32 (k0_pay15 S) u w (k0_pay16 a))) (k0_pay62 z))
    = KU.dq (mk S q k u w a e z g dy (shapeCast S128x128 D shapeCasts_S1x128x128_S128x128)) := by
  simp only [k0_pay18_self]
  rfl
theorem dk_3_2 (D : Vec F S1x128x128 .f32) : k0_pay109 (k0_pay26 (k0_pay15 S) u w) (k0_pay81 (k0_pay5 D))
    = KU.dk (mk S q k u w a e z g dy (shapeCast S128x128 D shapeCasts_S1x128x128_S128x128)) := by
  simp only [k0_pay81_self]
  rfl
theorem du_3_2 (D : Vec F S1x128x128 .f32) : k0_pay117 k (k0_pay16 a) (k0_pay81 (k0_pay5 D)) (k0_pay87 (k0_pay18 g) dy (k0_pay53 (k0_pay29 (k0_pay15 S) q) (k0_pay32 (k0_pay15 S) u w (k0_pay16 a))) (k0_pay55 (k0_pay29 (k0_pay15 S) q) (k0_pay32 (k0_pay15 S) u w (k0_pay16 a))) (k0_pay56 (k0_pay29 (k0_pay15 S) q) (k0_pay32 (k0_pay15 S) u w (k0_pay16 a))) (k0_pay62 z))
    = KU.du (mk S q k u w a e z g dy (shapeCast S128x128 D shapeCasts_S1x128x128_S128x128)) := by
  simp only [k0_pay18_self, k0_pay81_self]
  rfl
theorem dw_3_2 (D : Vec F S1x128x128 .f32) : k0_pay138 (k0_pay15 S) (k0_pay117 k (k0_pay16 a) (k0_pay81 (k0_pay5 D)) (k0_pay87 (k0_pay18 g) dy (k0_pay53 (k0_pay29 (k0_pay15 S) q) (k0_pay32 (k0_pay15 S) u w (k0_pay16 a))) (k0_pay55 (k0_pay29 (k0_pay15 S) q) (k0_pay32 (k0_pay15 S) u w (k0_pay16 a))) (k0_pay56 (k0_pay29 (k0_pay15 S) q) (k0_pay32 (k0_pay15 S) u w (k0_pay16 a))) (k0_pay62 z)))
    = KU.dw (mk S q k u w a e z g dy (shapeCast S128x128 D shapeCasts_S1x128x128_S128x128)) := by
  simp only [k0_pay18_self, k0_pay81_self]
  rfl
theorem da_3_2 (D : Vec F S1x128x128 .f32) : k0_pay153 (k0_pay116 (k0_pay26 (k0_pay15 S) u w) (k0_pay87 (k0_pay18 g) dy (k0_pay53 (k0_pay29 (k0_pay15 S) q) (k0_pay32 (k0_pay15 S) u w (k0_pay16 a))) (k0_pay55 (k0_pay29 (k0_pay15 S) q) (k0_pay32 (k0_pay15 S) u w (k0_pay16 a))) (k0_pay56 (k0_pay29 (k0_pay15 S) q) (k0_pay32 (k0_pay15 S) u w (k0_pay16 a))) (k0_pay62 z)))
    = shapeCast S1x64x64 (KU.da (mk S q k u w a e z g dy (shapeCast S128x128 D shapeCasts_S1x128x128_S128x128))) shapeCasts_S64x64_S1x64x64 := by
  simp only [k0_pay18_self]
  rfl
theorem de_3_2 (D : Vec F S1x128x128 .f32) : k0_pay154 (k0_pay82 (k0_pay5 D) (k0_pay15 S))
    = shapeCast S1x1x128 (KU.de (mk S q k u w a e z g dy (shapeCast S128x128 D shapeCasts_S1x128x128_S128x128))) shapeCasts_S1x128_S1x1x128 := by
  simp only [k0_pay80_self, k0_pay82]
  rfl
theorem dz_3_2 (D : Vec F S1x128x128 .f32) : k0_pay155 (k0_pay85 z dy (k0_pay59 (k0_pay18 g) (k0_pay53 (k0_pay29 (k0_pay15 S) q) (k0_pay32 (k0_pay15 S) u w (k0_pay16 a))) (k0_pay57 (k0_pay29 (k0_pay15 S) q) (k0_pay32 (k0_pay15 S) u w (k0_pay16 a)))) (k0_pay60 z) (k0_pay61 z))
    = truncf .bf16 (KU.dz (mk S q k u w a e z g dy (shapeCast S128x128 D shapeCasts_S1x128x128_S128x128))) bitsLt_bf16_f32 := by
  simp only [k0_pay18_self]
  rfl
theorem dS_3_3 (D : Vec F S1x128x128 .f32) : k0_pay136 (k0_pay125 q (k0_pay72 (k0_pay6 D) (k0_pay21 e)) (k0_pay79 (k0_pay63 (k0_pay30 (k0_pay19 S) q) (k0_pay33 (k0_pay19 S) u w (k0_pay20 a))) (k0_pay66 (k0_pay30 (k0_pay19 S) q) (k0_pay33 (k0_pay19 S) u w (k0_pay20 a))) (k0_pay76 z (k0_pay22 g) dy) (k0_pay77 z (k0_pay22 g) dy (k0_pay30 (k0_pay19 S) q) (k0_pay33 (k0_pay19 S) u w (k0_pay20 a))) (k0_pay78 (k0_pay30 (k0_pay19 S) q) (k0_pay33 (k0_pay19 S) u w (k0_pay20 a))))) (k0_pay134 w) (k0_pay135 (k0_pay115 k (k0_pay20 a) (k0_pay70 (k0_pay6 D)) (k0_pay79 (k0_pay63 (k0_pay30 (k0_pay19 S) q) (k0_pay33 (k0_pay19 S) u w (k0_pay20 a))) (k0_pay66 (k0_pay30 (k0_pay19 S) q) (k0_pay33 (k0_pay19 S) u w (k0_pay20 a))) (k0_pay76 z (k0_pay22 g) dy) (k0_pay77 z (k0_pay22 g) dy (k0_pay30 (k0_pay19 S) q) (k0_pay33 (k0_pay19 S) u w (k0_pay20 a))) (k0_pay78 (k0_pay30 (k0_pay19 S) q) (k0_pay33 (k0_pay19 S) u w (k0_pay20 a))))))
    = KU.dS' (mk S q k u w a e z g dy (shapeCast S128x128 D shapeCasts_S1x128x128_S128x128)) := by
  simp only [k0_pay22_self, k0_pay70_self, k0_pay69_self, k0_pay72]
  rfl
theorem dg_3_3 (D : Vec F S1x128x128 .f32) : k0_pay75 z dy (k0_pay30 (k0_pay19 S) q) (k0_pay33 (k0_pay19 S) u w (k0_pay20 a))
    = KU.dg (mk S q k u w a e z g dy (shapeCast S128x128 D shapeCasts_S1x128x128_S128x128)) := rfl
theorem dq_3_3 (D : Vec F S1x128x128 .f32) : k0_pay124 (k0_pay19 S) (k0_pay79 (k0_pay63 (k0_pay30 (k0_pay19 S) q) (k0_pay33 (k0_pay19 S) u w (k0_pay20 a))) (k0_pay66 (k0_pay30 (k0_pay19 S) q) (k0_pay33 (k0_pay19 S) u w (k0_pay20 a))) (k0_pay76 z (k0_pay22 g) dy) (k0_pay77 z (k0_pay22 g) dy (k0_pay30 (k0_pay19 S) q) (k0_pay33 (k0_pay19 S) u w (k0_pay20 a))) (k0_pay78 (k0_pay30 (k0_pay19 S) q) (k0_pay33 (k0_pay19 S) u w (k0_pay20 a))))
    = KU.dq (mk S q k u w a e z g dy (shapeCast S128x128 D shapeCasts_S1x128x128_S128x128)) := by
  simp only [k0_pay22_self]
  rfl
theorem dk_3_3 (D : Vec F S1x128x128 .f32) : k0_pay108 (k0_pay27 (k0_pay19 S) u w) (k0_pay70 (k0_pay6 D))
    = KU.dk (mk S q k u w a e z g dy (shapeCast S128x128 D shapeCasts_S1x128x128_S128x128)) := by
  simp only [k0_pay70_self]
  rfl
theorem du_3_3 (D : Vec F S1x128x128 .f32) : k0_pay115 k (k0_pay20 a) (k0_pay70 (k0_pay6 D)) (k0_pay79 (k0_pay63 (k0_pay30 (k0_pay19 S) q) (k0_pay33 (k0_pay19 S) u w (k0_pay20 a))) (k0_pay66 (k0_pay30 (k0_pay19 S) q) (k0_pay33 (k0_pay19 S) u w (k0_pay20 a))) (k0_pay76 z (k0_pay22 g) dy) (k0_pay77 z (k0_pay22 g) dy (k0_pay30 (k0_pay19 S) q) (k0_pay33 (k0_pay19 S) u w (k0_pay20 a))) (k0_pay78 (k0_pay30 (k0_pay19 S) q) (k0_pay33 (k0_pay19 S) u w (k0_pay20 a))))
    = KU.du (mk S q k u w a e z g dy (shapeCast S128x128 D shapeCasts_S1x128x128_S128x128)) := by
  simp only [k0_pay22_self, k0_pay70_self]
  rfl
theorem dw_3_3 (D : Vec F S1x128x128 .f32) : k0_pay133 (k0_pay19 S) (k0_pay115 k (k0_pay20 a) (k0_pay70 (k0_pay6 D)) (k0_pay79 (k0_pay63 (k0_pay30 (k0_pay19 S) q) (k0_pay33 (k0_pay19 S) u w (k0_pay20 a))) (k0_pay66 (k0_pay30 (k0_pay19 S) q) (k0_pay33 (k0_pay19 S) u w (k0_pay20 a))) (k0_pay76 z (k0_pay22 g) dy) (k0_pay77 z (k0_pay22 g) dy (k0_pay30 (k0_pay19 S) q) (k0_pay33 (k0_pay19 S) u w (k0_pay20 a))) (k0_pay78 (k0_pay30 (k0_pay19 S) q) (k0_pay33 (k0_pay19 S) u w (k0_pay20 a)))))
    = KU.dw (mk S q k u w a e z g dy (shapeCast S128x128 D shapeCasts_S1x128x128_S128x128)) := by
  simp only [k0_pay22_self, k0_pay70_self]
  rfl
theorem da_3_3 (D : Vec F S1x128x128 .f32) : k0_pay157 (k0_pay114 (k0_pay27 (k0_pay19 S) u w) (k0_pay79 (k0_pay63 (k0_pay30 (k0_pay19 S) q) (k0_pay33 (k0_pay19 S) u w (k0_pay20 a))) (k0_pay66 (k0_pay30 (k0_pay19 S) q) (k0_pay33 (k0_pay19 S) u w (k0_pay20 a))) (k0_pay76 z (k0_pay22 g) dy) (k0_pay77 z (k0_pay22 g) dy (k0_pay30 (k0_pay19 S) q) (k0_pay33 (k0_pay19 S) u w (k0_pay20 a))) (k0_pay78 (k0_pay30 (k0_pay19 S) q) (k0_pay33 (k0_pay19 S) u w (k0_pay20 a)))))
    = shapeCast S1x64x64 (KU.da (mk S q k u w a e z g dy (shapeCast S128x128 D shapeCasts_S1x128x128_S128x128))) shapeCasts_S64x64_S1x64x64 := by
  simp only [k0_pay22_self]
  rfl
theorem de_3_3 (D : Vec F S1x128x128 .f32) : k0_pay158 (k0_pay71 (k0_pay6 D) (k0_pay19 S))
    = shapeCast S1x1x128 (KU.de (mk S q k u w a e z g dy (shapeCast S128x128 D shapeCasts_S1x128x128_S128x128))) shapeCasts_S1x128_S1x1x128 := by
  simp only [k0_pay69_self, k0_pay71]
  rfl
theorem dz_3_3 (D : Vec F S1x128x128 .f32) : k0_pay159 (k0_pay74 z (k0_pay22 g) dy (k0_pay30 (k0_pay19 S) q) (k0_pay33 (k0_pay19 S) u w (k0_pay20 a)))
    = truncf .bf16 (KU.dz (mk S q k u w a e z g dy (shapeCast S128x128 D shapeCasts_S1x128x128_S128x128))) bitsLt_bf16_f32 := by
  simp only [k0_pay22_self]
  rfl

/-! Chunk 2 of the block, the four heads. -/

theorem dS_2_0 (dS : FVec F S128x128 .f32) : k0_pay285 w (k0_pay271 q (k0_pay243 dS (k0_pay163 e)) (k0_pay247 (k0_pay164 g) dy (k0_pay188 (k0_pay162 a) (k0_pay177 (k0_pay161 S) u w) (k0_pay181 (k0_pay161 S) q)) (k0_pay190 (k0_pay162 a) (k0_pay177 (k0_pay161 S) u w) (k0_pay181 (k0_pay161 S) q)) (k0_pay191 (k0_pay162 a) (k0_pay177 (k0_pay161 S) u w) (k0_pay181 (k0_pay161 S) q)) (k0_pay196 z))) (k0_pay281 (k0_pay264 dS k (k0_pay162 a) (k0_pay247 (k0_pay164 g) dy (k0_pay188 (k0_pay162 a) (k0_pay177 (k0_pay161 S) u w) (k0_pay181 (k0_pay161 S) q)) (k0_pay190 (k0_pay162 a) (k0_pay177 (k0_pay161 S) u w) (k0_pay181 (k0_pay161 S) q)) (k0_pay191 (k0_pay162 a) (k0_pay177 (k0_pay161 S) u w) (k0_pay181 (k0_pay161 S) q)) (k0_pay196 z))))
    = KU.dS' (mk S q k u w a e z g dy dS) := by
  simp only [k0_pay164_self]
  rfl
theorem dg_2_0 (dS : FVec F S128x128 .f32) : k0_pay246 dy (k0_pay192 (k0_pay162 a) (k0_pay177 (k0_pay161 S) u w) (k0_pay181 (k0_pay161 S) q)) (k0_pay196 z)
    = KU.dg (mk S q k u w a e z g dy dS) := rfl
theorem dq_2_0 (dS : FVec F S128x128 .f32) : k0_pay270 (k0_pay161 S) (k0_pay247 (k0_pay164 g) dy (k0_pay188 (k0_pay162 a) (k0_pay177 (k0_pay161 S) u w) (k0_pay181 (k0_pay161 S) q)) (k0_pay190 (k0_pay162 a) (k0_pay177 (k0_pay161 S) u w) (k0_pay181 (k0_pay161 S) q)) (k0_pay191 (k0_pay162 a) (k0_pay177 (k0_pay161 S) u w) (k0_pay181 (k0_pay161 S) q)) (k0_pay196 z))
    = KU.dq (mk S q k u w a e z g dy dS) := by
  simp only [k0_pay164_self]
  rfl
theorem dk_2_0 (dS : FVec F S128x128 .f32) : k0_pay256 (k0_pay254 (k0_pay177 (k0_pay161 S) u w)) (k0_pay255 dS)
    = KU.dk (mk S q k u w a e z g dy dS) := rfl
theorem du_2_0 (dS : FVec F S128x128 .f32) : k0_pay264 dS k (k0_pay162 a) (k0_pay247 (k0_pay164 g) dy (k0_pay188 (k0_pay162 a) (k0_pay177 (k0_pay161 S) u w) (k0_pay181 (k0_pay161 S) q)) (k0_pay190 (k0_pay162 a) (k0_pay177 (k0_pay161 S) u w) (k0_pay181 (k0_pay161 S) q)) (k0_pay191 (k0_pay162 a) (k0_pay177 (k0_pay161 S) u w) (k0_pay181 (k0_pay161 S) q)) (k0_pay196 z))
    = KU.du (mk S q k u w a e z g dy dS) := by
  simp only [k0_pay164_self]
  rfl
theorem dw_2_0 (dS : FVec F S128x128 .f32) : k0_pay284 (k0_pay282 (k0_pay264 dS k (k0_pay162 a) (k0_pay247 (k0_pay164 g) dy (k0_pay188 (k0_pay162 a) (k0_pay177 (k0_pay161 S) u w) (k0_pay181 (k0_pay161 S) q)) (k0_pay190 (k0_pay162 a) (k0_pay177 (k0_pay161 S) u w) (k0_pay181 (k0_pay161 S) q)) (k0_pay191 (k0_pay162 a) (k0_pay177 (k0_pay161 S) u w) (k0_pay181 (k0_pay161 S) q)) (k0_pay196 z)))) (k0_pay283 (k0_pay161 S)) (constant S64x128 .f32 0x00000000#32)
    = KU.dw (mk S q k u w a e z g dy dS) := by
  simp only [k0_pay164_self]
  rfl
theorem da_2_0 (dS : FVec F S128x128 .f32) : k0_pay286 (k0_pay263 (k0_pay177 (k0_pay161 S) u w) (k0_pay247 (k0_pay164 g) dy (k0_pay188 (k0_pay162 a) (k0_pay177 (k0_pay161 S) u w) (k0_pay181 (k0_pay161 S) q)) (k0_pay190 (k0_pay162 a) (k0_pay177 (k0_pay161 S) u w) (k0_pay181 (k0_pay161 S) q)) (k0_pay191 (k0_pay162 a) (k0_pay177 (k0_pay161 S) u w) (k0_pay181 (k0_pay161 S) q)) (k0_pay196 z)))
    = shapeCast S1x64x64 (KU.da (mk S q k u w a e z g dy dS)) shapeCasts_S64x64_S1x64x64 := by
  simp only [k0_pay164_self]
  rfl
theorem de_2_0 (dS : FVec F S128x128 .f32) : k0_pay287 (k0_pay242 (k0_pay241 dS (k0_pay161 S)))
    = shapeCast S1x1x128 (KU.de (mk S q k u w a e z g dy dS)) shapeCasts_S1x128_S1x1x128 := rfl
theorem dz_2_0 (dS : FVec F S128x128 .f32) : k0_pay288 (k0_pay245 z dy (k0_pay193 (k0_pay162 a) (k0_pay164 g) (k0_pay177 (k0_pay161 S) u w) (k0_pay181 (k0_pay161 S) q)) (k0_pay194 z) (k0_pay195 z))
    = truncf .bf16 (KU.dz (mk S q k u w a e z g dy dS)) bitsLt_bf16_f32 := by
  simp only [k0_pay164_self]
  rfl
theorem dS_2_1 (dS : FVec F S128x128 .f32) : k0_pay280 q w (k0_pay236 dS (k0_pay167 e)) (k0_pay240 (k0_pay168 g) dy (k0_pay197 (k0_pay166 a) (k0_pay178 (k0_pay165 S) u w) (k0_pay182 q) (k0_pay183 (k0_pay165 S))) (k0_pay200 (k0_pay198 (k0_pay166 a) (k0_pay178 (k0_pay165 S) u w) (k0_pay182 q) (k0_pay183 (k0_pay165 S)))) (k0_pay201 (k0_pay198 (k0_pay166 a) (k0_pay178 (k0_pay165 S) u w) (k0_pay182 q) (k0_pay183 (k0_pay165 S)))) (k0_pay206 z)) (k0_pay262 (k0_pay166 a) (k0_pay240 (k0_pay168 g) dy (k0_pay197 (k0_pay166 a) (k0_pay178 (k0_pay165 S) u w) (k0_pay182 q) (k0_pay183 (k0_pay165 S))) (k0_pay200 (k0_pay198 (k0_pay166 a) (k0_pay178 (k0_pay165 S) u w) (k0_pay182 q) (k0_pay183 (k0_pay165 S)))) (k0_pay201 (k0_pay198 (k0_pay166 a) (k0_pay178 (k0_pay165 S) u w) (k0_pay182 q) (k0_pay183 (k0_pay165 S)))) (k0_pay206 z)) (k0_pay253 dS k))
    = KU.dS' (mk S q k u w a e z g dy dS) := by
  simp only [k0_pay168_self]
  rfl
theorem dg_2_1 (dS : FVec F S128x128 .f32) : k0_pay239 dy (k0_pay202 (k0_pay197 (k0_pay166 a) (k0_pay178 (k0_pay165 S) u w) (k0_pay182 q) (k0_pay183 (k0_pay165 S))) (k0_pay198 (k0_pay166 a) (k0_pay178 (k0_pay165 S) u w) (k0_pay182 q) (k0_pay183 (k0_pay165 S)))) (k0_pay206 z)
    = KU.dg (mk S q k u w a e z g dy dS) := rfl
theorem dq_2_1 (dS : FVec F S128x128 .f32) : k0_pay269 (k0_pay165 S) (k0_pay240 (k0_pay168 g) dy (k0_pay197 (k0_pay166 a) (k0_pay178 (k0_pay165 S) u w) (k0_pay182 q) (k0_pay183 (k0_pay165 S))) (k0_pay200 (k0_pay198 (k0_pay166 a) (k0_pay178 (k0_pay165 S) u w) (k0_pay182 q) (k0_pay183 (k0_pay165 S)))) (k0_pay201 (k0_pay198 (k0_pay166 a) (k0_pay178 (k0_pay165 S) u w) (k0_pay182 q) (k0_pay183 (k0_pay165 S)))) (k0_pay206 z))
    = KU.dq (mk S q k u w a e z g dy dS) := by
  simp only [k0_pay168_self]
  rfl
theorem dk_2_1 (dS : FVec F S128x128 .f32) : k0_pay252 dS (k0_pay178 (k0_pay165 S) u w)
    = KU.dk (mk S q k u w a e z g dy dS) := rfl
theorem du_2_1 (dS : FVec F S128x128 .f32) : k0_pay262 (k0_pay166 a) (k0_pay240 (k0_pay168 g) dy (k0_pay197 (k0_pay166 a) (k0_pay178 (k0_pay165 S) u w) (k0_pay182 q) (k0_pay183 (k0_pay165 S))) (k0_pay200 (k0_pay198 (k0_pay166 a) (k0_pay178 (k0_pay165 S) u w) (k0_pay182 q) (k0_pay183 (k0_pay165 S)))) (k0_pay201 (k0_pay198 (k0_pay166 a) (k0_pay178 (k0_pay165 S) u w) (k0_pay182 q) (k0_pay183 (k0_pay165 S)))) (k0_pay206 z)) (k0_pay253 dS k)
    = KU.du (mk S q k u w a e z g dy dS) := by
  simp only [k0_pay168_self]
  rfl
theorem dw_2_1 (dS : FVec F S128x128 .f32) : k0_pay279 (k0_pay165 S) (k0_pay262 (k0_pay166 a) (k0_pay240 (k0_pay168 g) dy (k0_pay197 (k0_pay166 a) (k0_pay178 (k0_pay165 S) u w) (k0_pay182 q) (k0_pay183 (k0_pay165 S))) (k0_pay200 (k0_pay198 (k0_pay166 a) (k0_pay178 (k0_pay165 S) u w) (k0_pay182 q) (k0_pay183 (k0_pay165 S)))) (k0_pay201 (k0_pay198 (k0_pay166 a) (k0_pay178 (k0_pay165 S) u w) (k0_pay182 q) (k0_pay183 (k0_pay165 S)))) (k0_pay206 z)) (k0_pay253 dS k))
    = KU.dw (mk S q k u w a e z g dy dS) := by
  simp only [k0_pay168_self]
  rfl
theorem da_2_1 (dS : FVec F S128x128 .f32) : k0_pay290 (k0_pay261 (k0_pay178 (k0_pay165 S) u w) (k0_pay240 (k0_pay168 g) dy (k0_pay197 (k0_pay166 a) (k0_pay178 (k0_pay165 S) u w) (k0_pay182 q) (k0_pay183 (k0_pay165 S))) (k0_pay200 (k0_pay198 (k0_pay166 a) (k0_pay178 (k0_pay165 S) u w) (k0_pay182 q) (k0_pay183 (k0_pay165 S)))) (k0_pay201 (k0_pay198 (k0_pay166 a) (k0_pay178 (k0_pay165 S) u w) (k0_pay182 q) (k0_pay183 (k0_pay165 S)))) (k0_pay206 z)))
    = shapeCast S1x64x64 (KU.da (mk S q k u w a e z g dy dS)) shapeCasts_S64x64_S1x64x64 := by
  simp only [k0_pay168_self]
  rfl
theorem de_2_1 (dS : FVec F S128x128 .f32) : k0_pay291 (k0_pay235 dS (k0_pay165 S))
    = shapeCast S1x1x128 (KU.de (mk S q k u w a e z g dy dS)) shapeCasts_S1x128_S1x1x128 := rfl
theorem dz_2_1 (dS : FVec F S128x128 .f32) : k0_pay292 (k0_pay238 z dy (k0_pay203 (k0_pay168 g) (k0_pay197 (k0_pay166 a) (k0_pay178 (k0_pay165 S) u w) (k0_pay182 q) (k0_pay183 (k0_pay165 S))) (k0_pay198 (k0_pay166 a) (k0_pay178 (k0_pay165 S) u w) (k0_pay182 q) (k0_pay183 (k0_pay165 S)))) (k0_pay204 z) (k0_pay205 z))
    = truncf .bf16 (KU.dz (mk S q k u w a e z g dy dS)) bitsLt_bf16_f32 := by
  simp only [k0_pay168_self]
  rfl
theorem dS_2_2 (dS : FVec F S128x128 .f32) : k0_pay277 w (k0_pay260 (k0_pay170 a) (k0_pay234 (k0_pay172 g) (k0_pay207 (k0_pay184 (k0_pay169 S) q) (k0_pay186 (k0_pay170 a) (k0_pay179 (k0_pay169 S) u w))) (k0_pay209 (k0_pay184 (k0_pay169 S) q) (k0_pay186 (k0_pay170 a) (k0_pay179 (k0_pay169 S) u w))) (k0_pay210 (k0_pay184 (k0_pay169 S) q) (k0_pay186 (k0_pay170 a) (k0_pay179 (k0_pay169 S) u w))) (k0_pay230 dy (k0_pay215 z))) (k0_pay251 dS k)) (k0_pay268 q (k0_pay229 dS (k0_pay171 e)) (k0_pay234 (k0_pay172 g) (k0_pay207 (k0_pay184 (k0_pay169 S) q) (k0_pay186 (k0_pay170 a) (k0_pay179 (k0_pay169 S) u w))) (k0_pay209 (k0_pay184 (k0_pay169 S) q) (k0_pay186 (k0_pay170 a) (k0_pay179 (k0_pay169 S) u w))) (k0_pay210 (k0_pay184 (k0_pay169 S) q) (k0_pay186 (k0_pay170 a) (k0_pay179 (k0_pay169 S) u w))) (k0_pay230 dy (k0_pay215 z))))
    = KU.dS' (mk S q k u w a e z g dy dS) := by
  simp only [k0_pay172_self]
  rfl
theorem dg_2_2 (dS : FVec F S128x128 .f32) : k0_pay233 (k0_pay232 dy (k0_pay211 (k0_pay184 (k0_pay169 S) q) (k0_pay186 (k0_pay170 a) (k0_pay179 (k0_pay169 S) u w))) (k0_pay215 z))
    = KU.dg (mk S q k u w a e z g dy dS) := rfl
theorem dq_2_2 (dS : FVec F S128x128 .f32) : k0_pay267 (k0_pay169 S) (k0_pay234 (k0_pay172 g) (k0_pay207 (k0_pay184 (k0_pay169 S) q) (k0_pay186 (k0_pay170 a) (k0_pay179 (k0_pay169 S) u w))) (k0_pay209 (k0_pay184 (k0_pay169 S) q) (k0_pay186 (k0_pay170 a) (k0_pay179 (k0_pay169 S) u w))) (k0_pay210 (k0_pay184 (k0_pay169 S) q) (k0_pay186 (k0_pay170 a) (k0_pay179 (k0_pay169 S) u w))) (k0_pay230 dy (k0_pay215 z)))
    = KU.dq (mk S q k u w a e z g dy dS) := by
  simp only [k0_pay172_self]
  rfl
theorem dk_2_2 (dS : FVec F S128x128 .f32) : k0_pay250 dS (k0_pay179 (k0_pay169 S) u w)
    = KU.dk (mk S q k u w a e z g dy dS) := rfl
theorem du_2_2 (dS : FVec F S128x128 .f32) : k0_pay260 (k0_pay170 a) (k0_pay234 (k0_pay172 g) (k0_pay207 (k0_pay184 (k0_pay169 S) q) (k0_pay186 (k0_pay170 a) (k0_pay179 (k0_pay169 S) u w))) (k0_pay209 (k0_pay184 (k0_pay169 S) q) (k0_pay186 (k0_pay170 a) (k0_pay179 (k0_pay169 S) u w))) (k0_pay210 (k0_pay184 (k0_pay169 S) q) (k0_pay186 (k0_pay170 a) (k0_pay179 (k0_pay169 S) u w))) (k0_pay230 dy (k0_pay215 z))) (k0_pay251 dS k)
    = KU.du (mk S q k u w a e z g dy dS) := by
  simp only [k0_pay172_self]
  rfl
theorem dw_2_2 (dS : FVec F S128x128 .f32) : k0_pay276 (k0_pay169 S) (k0_pay260 (k0_pay170 a) (k0_pay234 (k0_pay172 g) (k0_pay207 (k0_pay184 (k0_pay169 S) q) (k0_pay186 (k0_pay170 a) (k0_pay179 (k0_pay169 S) u w))) (k0_pay209 (k0_pay184 (k0_pay169 S) q) (k0_pay186 (k0_pay170 a) (k0_pay179 (k0_pay169 S) u w))) (k0_pay210 (k0_pay184 (k0_pay169 S) q) (k0_pay186 (k0_pay170 a) (k0_pay179 (k0_pay169 S) u w))) (k0_pay230 dy (k0_pay215 z))) (k0_pay251 dS k))
    = KU.dw (mk S q k u w a e z g dy dS) := by
  simp only [k0_pay172_self]
  rfl
theorem da_2_2 (dS : FVec F S128x128 .f32) : k0_pay293 (k0_pay259 (k0_pay179 (k0_pay169 S) u w) (k0_pay234 (k0_pay172 g) (k0_pay207 (k0_pay184 (k0_pay169 S) q) (k0_pay186 (k0_pay170 a) (k0_pay179 (k0_pay169 S) u w))) (k0_pay209 (k0_pay184 (k0_pay169 S) q) (k0_pay186 (k0_pay170 a) (k0_pay179 (k0_pay169 S) u w))) (k0_pay210 (k0_pay184 (k0_pay169 S) q) (k0_pay186 (k0_pay170 a) (k0_pay179 (k0_pay169 S) u w))) (k0_pay230 dy (k0_pay215 z))))
    = shapeCast S1x64x64 (KU.da (mk S q k u w a e z g dy dS)) shapeCasts_S64x64_S1x64x64 := by
  simp only [k0_pay172_self]
  rfl
theorem de_2_2 (dS : FVec F S128x128 .f32) : k0_pay294 (k0_pay228 dS (k0_pay169 S))
    = shapeCast S1x1x128 (KU.de (mk S q k u w a e z g dy dS)) shapeCasts_S1x128_S1x1x128 := rfl
theorem dz_2_2 (dS : FVec F S128x128 .f32) : k0_pay295 (k0_pay231 z dy (k0_pay212 (k0_pay172 g) (k0_pay184 (k0_pay169 S) q) (k0_pay186 (k0_pay170 a) (k0_pay179 (k0_pay169 S) u w))) (k0_pay213 z) (k0_pay214 z))
    = truncf .bf16 (KU.dz (mk S q k u w a e z g dy dS)) bitsLt_bf16_f32 := by
  simp only [k0_pay172_self]
  rfl
theorem dS_2_3 (dS : FVec F S128x128 .f32) : k0_pay274 w (k0_pay258 (k0_pay174 a) (k0_pay227 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))) (k0_pay219 (k0_pay185 (k0_pay173 S) q) (k0_pay187 (k0_pay174 a) (k0_pay180 S u w)))) (k0_pay249 dS k)) (k0_pay266 q (k0_pay223 dS (k0_pay175 e)) (k0_pay227 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))) (k0_pay219 (k0_pay185 (k0_pay173 S) q) (k0_pay187 (k0_pay174 a) (k0_pay180 S u w)))))
    = KU.dS' (mk S q k u w a e z g dy dS) := by
  simp only [k0_pay176_self]
  rfl
theorem dg_2_3 (dS : FVec F S128x128 .f32) : k0_pay226 z dy (k0_pay216 (k0_pay185 (k0_pay173 S) q) (k0_pay187 (k0_pay174 a) (k0_pay180 S u w))) (k0_pay218 (k0_pay185 (k0_pay173 S) q) (k0_pay187 (k0_pay174 a) (k0_pay180 S u w)))
    = KU.dg (mk S q k u w a e z g dy dS) := rfl
theorem dq_2_3 (dS : FVec F S128x128 .f32) : k0_pay265 (k0_pay173 S) (k0_pay227 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))) (k0_pay219 (k0_pay185 (k0_pay173 S) q) (k0_pay187 (k0_pay174 a) (k0_pay180 S u w))))
    = KU.dq (mk S q k u w a e z g dy dS) := by
  simp only [k0_pay176_self]
  rfl
theorem dk_2_3 (dS : FVec F S128x128 .f32) : k0_pay248 dS (k0_pay180 S u w)
    = KU.dk (mk S q k u w a e z g dy dS) := rfl
theorem du_2_3 (dS : FVec F S128x128 .f32) : k0_pay258 (k0_pay174 a) (k0_pay227 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))) (k0_pay219 (k0_pay185 (k0_pay173 S) q) (k0_pay187 (k0_pay174 a) (k0_pay180 S u w)))) (k0_pay249 dS k)
    = KU.du (mk S q k u w a e z g dy dS) := by
  simp only [k0_pay176_self]
  rfl
theorem dw_2_3 (dS : FVec F S128x128 .f32) : k0_pay273 (k0_pay173 S) (k0_pay258 (k0_pay174 a) (k0_pay227 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))) (k0_pay219 (k0_pay185 (k0_pay173 S) q) (k0_pay187 (k0_pay174 a) (k0_pay180 S u w)))) (k0_pay249 dS k))
    = KU.dw (mk S q k u w a e z g dy dS) := by
  simp only [k0_pay176_self]
  rfl
theorem da_2_3 (dS : FVec F S128x128 .f32) : k0_pay297 (k0_pay257 (k0_pay180 S u w) (k0_pay227 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))) (k0_pay219 (k0_pay185 (k0_pay173 S) q) (k0_pay187 (k0_pay174 a) (k0_pay180 S u w)))))
    = shapeCast S1x64x64 (KU.da (mk S q k u w a e z g dy dS)) shapeCasts_S64x64_S1x64x64 := by
  simp only [k0_pay176_self]
  rfl
theorem de_2_3 (dS : FVec F S128x128 .f32) : k0_pay298 (k0_pay222 dS (k0_pay173 S))
    = shapeCast S1x1x128 (KU.de (mk S q k u w a e z g dy dS)) shapeCasts_S1x128_S1x1x128 := rfl
theorem dz_2_3 (dS : FVec F S128x128 .f32) : k0_pay299 (k0_pay225 z (k0_pay176 g) dy (k0_pay216 (k0_pay185 (k0_pay173 S) q) (k0_pay187 (k0_pay174 a) (k0_pay180 S u w))) (k0_pay218 (k0_pay185 (k0_pay173 S) q) (k0_pay187 (k0_pay174 a) (k0_pay180 S u w))))
    = truncf .bf16 (KU.dz (mk S q k u w a e z g dy dS)) bitsLt_bf16_f32 := by
  simp only [k0_pay176_self]
  rfl

/-! Chunk 1 of the block, the four heads. -/

theorem dS_1_0 (dS : FVec F S128x128 .f32) : k0_pay428 w (k0_pay408 (k0_pay302 a) (k0_pay393 (k0_pay327 (k0_pay301 S) q u w (k0_pay302 a)) (k0_pay391 (k0_pay304 g) dy (k0_pay327 (k0_pay301 S) q u w (k0_pay302 a)) (k0_pay331 (k0_pay328 (k0_pay301 S) q u w (k0_pay302 a)) (Scalar.ofBits .f32 0x43000000#32)) (k0_pay336 z)) (k0_pay392 (k0_pay304 g) dy (k0_pay327 (k0_pay301 S) q u w (k0_pay302 a)) (k0_pay330 (k0_pay328 (k0_pay301 S) q u w (k0_pay302 a)) (Scalar.ofBits .f32 0x43000000#32)) (k0_pay331 (k0_pay328 (k0_pay301 S) q u w (k0_pay302 a)) (Scalar.ofBits .f32 0x43000000#32)) (k0_pay336 z))) (k0_pay399 dS k)) (k0_pay415 q (k0_pay386 dS (k0_pay303 e)) (k0_pay393 (k0_pay327 (k0_pay301 S) q u w (k0_pay302 a)) (k0_pay391 (k0_pay304 g) dy (k0_pay327 (k0_pay301 S) q u w (k0_pay302 a)) (k0_pay331 (k0_pay328 (k0_pay301 S) q u w (k0_pay302 a)) (Scalar.ofBits .f32 0x43000000#32)) (k0_pay336 z)) (k0_pay392 (k0_pay304 g) dy (k0_pay327 (k0_pay301 S) q u w (k0_pay302 a)) (k0_pay330 (k0_pay328 (k0_pay301 S) q u w (k0_pay302 a)) (Scalar.ofBits .f32 0x43000000#32)) (k0_pay331 (k0_pay328 (k0_pay301 S) q u w (k0_pay302 a)) (Scalar.ofBits .f32 0x43000000#32)) (k0_pay336 z))))
    = KU.dS' (mk S q k u w a e z g dy dS) := by
  simp only [k0_pay304_self]
  rfl
theorem dg_1_0 (dS : FVec F S128x128 .f32) : k0_pay389 dy (k0_pay332 (k0_pay327 (k0_pay301 S) q u w (k0_pay302 a)) (k0_pay328 (k0_pay301 S) q u w (k0_pay302 a)) (Scalar.ofBits .f32 0x43000000#32)) (k0_pay336 z)
    = KU.dg (mk S q k u w a e z g dy dS) := rfl
theorem dq_1_0 (dS : FVec F S128x128 .f32) : k0_pay414 (k0_pay301 S) (k0_pay393 (k0_pay327 (k0_pay301 S) q u w (k0_pay302 a)) (k0_pay391 (k0_pay304 g) dy (k0_pay327 (k0_pay301 S) q u w (k0_pay302 a)) (k0_pay331 (k0_pay328 (k0_pay301 S) q u w (k0_pay302 a)) (Scalar.ofBits .f32 0x43000000#32)) (k0_pay336 z)) (k0_pay392 (k0_pay304 g) dy (k0_pay327 (k0_pay301 S) q u w (k0_pay302 a)) (k0_pay330 (k0_pay328 (k0_pay301 S) q u w (k0_pay302 a)) (Scalar.ofBits .f32 0x43000000#32)) (k0_pay331 (k0_pay328 (k0_pay301 S) q u w (k0_pay302 a)) (Scalar.ofBits .f32 0x43000000#32)) (k0_pay336 z)))
    = KU.dq (mk S q k u w a e z g dy dS) := by
  simp only [k0_pay304_self]
  rfl
theorem dk_1_0 (dS : FVec F S128x128 .f32) : k0_pay398 dS (k0_pay317 (k0_pay301 S) u w)
    = KU.dk (mk S q k u w a e z g dy dS) := rfl
theorem du_1_0 (dS : FVec F S128x128 .f32) : k0_pay408 (k0_pay302 a) (k0_pay393 (k0_pay327 (k0_pay301 S) q u w (k0_pay302 a)) (k0_pay391 (k0_pay304 g) dy (k0_pay327 (k0_pay301 S) q u w (k0_pay302 a)) (k0_pay331 (k0_pay328 (k0_pay301 S) q u w (k0_pay302 a)) (Scalar.ofBits .f32 0x43000000#32)) (k0_pay336 z)) (k0_pay392 (k0_pay304 g) dy (k0_pay327 (k0_pay301 S) q u w (k0_pay302 a)) (k0_pay330 (k0_pay328 (k0_pay301 S) q u w (k0_pay302 a)) (Scalar.ofBits .f32 0x43000000#32)) (k0_pay331 (k0_pay328 (k0_pay301 S) q u w (k0_pay302 a)) (Scalar.ofBits .f32 0x43000000#32)) (k0_pay336 z))) (k0_pay399 dS k)
    = KU.du (mk S q k u w a e z g dy dS) := by
  simp only [k0_pay304_self]
  rfl
theorem dw_1_0 (dS : FVec F S128x128 .f32) : k0_pay427 (k0_pay301 S) (k0_pay408 (k0_pay302 a) (k0_pay393 (k0_pay327 (k0_pay301 S) q u w (k0_pay302 a)) (k0_pay391 (k0_pay304 g) dy (k0_pay327 (k0_pay301 S) q u w (k0_pay302 a)) (k0_pay331 (k0_pay328 (k0_pay301 S) q u w (k0_pay302 a)) (Scalar.ofBits .f32 0x43000000#32)) (k0_pay336 z)) (k0_pay392 (k0_pay304 g) dy (k0_pay327 (k0_pay301 S) q u w (k0_pay302 a)) (k0_pay330 (k0_pay328 (k0_pay301 S) q u w (k0_pay302 a)) (Scalar.ofBits .f32 0x43000000#32)) (k0_pay331 (k0_pay328 (k0_pay301 S) q u w (k0_pay302 a)) (Scalar.ofBits .f32 0x43000000#32)) (k0_pay336 z))) (k0_pay399 dS k))
    = KU.dw (mk S q k u w a e z g dy dS) := by
  simp only [k0_pay304_self]
  rfl
theorem da_1_0 (dS : FVec F S128x128 .f32) : k0_pay429 (k0_pay407 (k0_pay317 (k0_pay301 S) u w) (k0_pay393 (k0_pay327 (k0_pay301 S) q u w (k0_pay302 a)) (k0_pay391 (k0_pay304 g) dy (k0_pay327 (k0_pay301 S) q u w (k0_pay302 a)) (k0_pay331 (k0_pay328 (k0_pay301 S) q u w (k0_pay302 a)) (Scalar.ofBits .f32 0x43000000#32)) (k0_pay336 z)) (k0_pay392 (k0_pay304 g) dy (k0_pay327 (k0_pay301 S) q u w (k0_pay302 a)) (k0_pay330 (k0_pay328 (k0_pay301 S) q u w (k0_pay302 a)) (Scalar.ofBits .f32 0x43000000#32)) (k0_pay331 (k0_pay328 (k0_pay301 S) q u w (k0_pay302 a)) (Scalar.ofBits .f32 0x43000000#32)) (k0_pay336 z))))
    = shapeCast S1x64x64 (KU.da (mk S q k u w a e z g dy dS)) shapeCasts_S64x64_S1x64x64 := by
  simp only [k0_pay304_self]
  rfl
theorem de_1_0 (dS : FVec F S128x128 .f32) : k0_pay430 (k0_pay385 dS (k0_pay301 S))
    = shapeCast S1x1x128 (KU.de (mk S q k u w a e z g dy dS)) shapeCasts_S1x128_S1x1x128 := rfl
theorem dz_1_0 (dS : FVec F S128x128 .f32) : k0_pay431 (k0_pay388 z dy (k0_pay333 (k0_pay304 g) (k0_pay327 (k0_pay301 S) q u w (k0_pay302 a)) (k0_pay328 (k0_pay301 S) q u w (k0_pay302 a)) (Scalar.ofBits .f32 0x43000000#32)) (k0_pay334 z) (k0_pay335 z))
    = truncf .bf16 (KU.dz (mk S q k u w a e z g dy dS)) bitsLt_bf16_f32 := by
  simp only [k0_pay304_self]
  rfl
theorem dS_1_1 (dS : FVec F S128x128 .f32) : k0_pay425 w (k0_pay406 (k0_pay397 dS k) (k0_pay405 (k0_pay306 a) (k0_pay384 (k0_pay308 g) (k0_pay337 (k0_pay321 (k0_pay305 S) q) (k0_pay324 (k0_pay305 S) u w (k0_pay306 a))) (k0_pay339 (k0_pay321 (k0_pay305 S) q) (k0_pay324 (k0_pay305 S) u w (k0_pay306 a))) (k0_pay340 (k0_pay321 (k0_pay305 S) q) (k0_pay324 (k0_pay305 S) u w (k0_pay306 a))) (k0_pay379 dy (k0_pay345 z))))) (k0_pay413 q (k0_pay377 dS (k0_pay307 e)) (k0_pay384 (k0_pay308 g) (k0_pay337 (k0_pay321 (k0_pay305 S) q) (k0_pay324 (k0_pay305 S) u w (k0_pay306 a))) (k0_pay339 (k0_pay321 (k0_pay305 S) q) (k0_pay324 (k0_pay305 S) u w (k0_pay306 a))) (k0_pay340 (k0_pay321 (k0_pay305 S) q) (k0_pay324 (k0_pay305 S) u w (k0_pay306 a))) (k0_pay379 dy (k0_pay345 z))))
    = KU.dS' (mk S q k u w a e z g dy dS) := by
  simp only [k0_pay308_self]
  rfl
theorem dg_1_1 (dS : FVec F S128x128 .f32) : k0_pay383 (k0_pay341 (k0_pay321 (k0_pay305 S) q) (k0_pay324 (k0_pay305 S) u w (k0_pay306 a))) (k0_pay379 dy (k0_pay345 z))
    = KU.dg (mk S q k u w a e z g dy dS) := rfl
theorem dq_1_1 (dS : FVec F S128x128 .f32) : k0_pay412 (k0_pay305 S) (k0_pay384 (k0_pay308 g) (k0_pay337 (k0_pay321 (k0_pay305 S) q) (k0_pay324 (k0_pay305 S) u w (k0_pay306 a))) (k0_pay339 (k0_pay321 (k0_pay305 S) q) (k0_pay324 (k0_pay305 S) u w (k0_pay306 a))) (k0_pay340 (k0_pay321 (k0_pay305 S) q) (k0_pay324 (k0_pay305 S) u w (k0_pay306 a))) (k0_pay379 dy (k0_pay345 z)))
    = KU.dq (mk S q k u w a e z g dy dS) := by
  simp only [k0_pay308_self]
  rfl
theorem dk_1_1 (dS : FVec F S128x128 .f32) : k0_pay396 dS (k0_pay318 (k0_pay305 S) u w)
    = KU.dk (mk S q k u w a e z g dy dS) := rfl
theorem du_1_1 (dS : FVec F S128x128 .f32) : k0_pay406 (k0_pay397 dS k) (k0_pay405 (k0_pay306 a) (k0_pay384 (k0_pay308 g) (k0_pay337 (k0_pay321 (k0_pay305 S) q) (k0_pay324 (k0_pay305 S) u w (k0_pay306 a))) (k0_pay339 (k0_pay321 (k0_pay305 S) q) (k0_pay324 (k0_pay305 S) u w (k0_pay306 a))) (k0_pay340 (k0_pay321 (k0_pay305 S) q) (k0_pay324 (k0_pay305 S) u w (k0_pay306 a))) (k0_pay379 dy (k0_pay345 z))))
    = KU.du (mk S q k u w a e z g dy dS) := by
  simp only [k0_pay308_self]
  rfl
theorem dw_1_1 (dS : FVec F S128x128 .f32) : k0_pay424 (k0_pay305 S) (k0_pay406 (k0_pay397 dS k) (k0_pay405 (k0_pay306 a) (k0_pay384 (k0_pay308 g) (k0_pay337 (k0_pay321 (k0_pay305 S) q) (k0_pay324 (k0_pay305 S) u w (k0_pay306 a))) (k0_pay339 (k0_pay321 (k0_pay305 S) q) (k0_pay324 (k0_pay305 S) u w (k0_pay306 a))) (k0_pay340 (k0_pay321 (k0_pay305 S) q) (k0_pay324 (k0_pay305 S) u w (k0_pay306 a))) (k0_pay379 dy (k0_pay345 z)))))
    = KU.dw (mk S q k u w a e z g dy dS) := by
  simp only [k0_pay308_self]
  rfl
theorem da_1_1 (dS : FVec F S128x128 .f32) : k0_pay432 (k0_pay404 (k0_pay318 (k0_pay305 S) u w) (k0_pay384 (k0_pay308 g) (k0_pay337 (k0_pay321 (k0_pay305 S) q) (k0_pay324 (k0_pay305 S) u w (k0_pay306 a))) (k0_pay339 (k0_pay321 (k0_pay305 S) q) (k0_pay324 (k0_pay305 S) u w (k0_pay306 a))) (k0_pay340 (k0_pay321 (k0_pay305 S) q) (k0_pay324 (k0_pay305 S) u w (k0_pay306 a))) (k0_pay379 dy (k0_pay345 z))))
    = shapeCast S1x64x64 (KU.da (mk S q k u w a e z g dy dS)) shapeCasts_S64x64_S1x64x64 := by
  simp only [k0_pay308_self]
  rfl
theorem de_1_1 (dS : FVec F S128x128 .f32) : k0_pay433 (k0_pay376 dS (k0_pay305 S))
    = shapeCast S1x1x128 (KU.de (mk S q k u w a e z g dy dS)) shapeCasts_S1x128_S1x1x128 := rfl
theorem dz_1_1 (dS : FVec F S128x128 .f32) : k0_pay434 (k0_pay382 (k0_pay344 z) (k0_pay380 z dy (k0_pay342 (k0_pay308 g) (k0_pay321 (k0_pay305 S) q) (k0_pay324 (k0_pay305 S) u w (k0_pay306 a)))) (k0_pay381 dy (k0_pay342 (k0_pay308 g) (k0_pay321 (k0_pay305 S) q) (k0_pay324 (k0_pay305 S) u w (k0_pay306 a))) (k0_pay343 z)))
    = truncf .bf16 (KU.dz (mk S q k u w a e z g dy dS)) bitsLt_bf16_f32 := by
  simp only [k0_pay308_self]
  rfl
theorem dS_1_2 (dS : FVec F S128x128 .f32) : k0_pay422 w (k0_pay403 dS k (k0_pay310 a) (k0_pay375 (k0_pay312 g) dy (k0_pay346 (k0_pay322 (k0_pay309 S) q) (k0_pay325 (k0_pay309 S) u w (k0_pay310 a))) (k0_pay348 (k0_pay322 (k0_pay309 S) q) (k0_pay325 (k0_pay309 S) u w (k0_pay310 a))) (k0_pay350 (k0_pay349 (k0_pay322 (k0_pay309 S) q) (k0_pay325 (k0_pay309 S) u w (k0_pay310 a))) (Scalar.ofBits .f32 0xBF000000#32)) (k0_pay355 z))) (k0_pay411 q (k0_pay371 dS (k0_pay311 e)) (k0_pay375 (k0_pay312 g) dy (k0_pay346 (k0_pay322 (k0_pay309 S) q) (k0_pay325 (k0_pay309 S) u w (k0_pay310 a))) (k0_pay348 (k0_pay322 (k0_pay309 S) q) (k0_pay325 (k0_pay309 S) u w (k0_pay310 a))) (k0_pay350 (k0_pay349 (k0_pay322 (k0_pay309 S) q) (k0_pay325 (k0_pay309 S) u w (k0_pay310 a))) (Scalar.ofBits .f32 0xBF000000#32)) (k0_pay355 z))) (k0_pay419 (F := F))
    = KU.dS' (mk S q k u w a e z g dy dS) := by
  simp only [k0_pay312_self]
  rfl
theorem dg_1_2 (dS : FVec F S128x128 .f32) : k0_pay374 dy (k0_pay351 (k0_pay346 (k0_pay322 (k0_pay309 S) q) (k0_pay325 (k0_pay309 S) u w (k0_pay310 a))) (k0_pay348 (k0_pay322 (k0_pay309 S) q) (k0_pay325 (k0_pay309 S) u w (k0_pay310 a)))) (k0_pay355 z)
    = KU.dg (mk S q k u w a e z g dy dS) := rfl
theorem dq_1_2 (dS : FVec F S128x128 .f32) : k0_pay410 (k0_pay309 S) (k0_pay375 (k0_pay312 g) dy (k0_pay346 (k0_pay322 (k0_pay309 S) q) (k0_pay325 (k0_pay309 S) u w (k0_pay310 a))) (k0_pay348 (k0_pay322 (k0_pay309 S) q) (k0_pay325 (k0_pay309 S) u w (k0_pay310 a))) (k0_pay350 (k0_pay349 (k0_pay322 (k0_pay309 S) q) (k0_pay325 (k0_pay309 S) u w (k0_pay310 a))) (Scalar.ofBits .f32 0xBF000000#32)) (k0_pay355 z))
    = KU.dq (mk S q k u w a e z g dy dS) := by
  simp only [k0_pay312_self]
  rfl
theorem dk_1_2 (dS : FVec F S128x128 .f32) : k0_pay395 dS (k0_pay319 (k0_pay309 S) u w)
    = KU.dk (mk S q k u w a e z g dy dS) := rfl
theorem du_1_2 (dS : FVec F S128x128 .f32) : k0_pay403 dS k (k0_pay310 a) (k0_pay375 (k0_pay312 g) dy (k0_pay346 (k0_pay322 (k0_pay309 S) q) (k0_pay325 (k0_pay309 S) u w (k0_pay310 a))) (k0_pay348 (k0_pay322 (k0_pay309 S) q) (k0_pay325 (k0_pay309 S) u w (k0_pay310 a))) (k0_pay350 (k0_pay349 (k0_pay322 (k0_pay309 S) q) (k0_pay325 (k0_pay309 S) u w (k0_pay310 a))) (Scalar.ofBits .f32 0xBF000000#32)) (k0_pay355 z))
    = KU.du (mk S q k u w a e z g dy dS) := by
  simp only [k0_pay312_self]
  rfl
theorem dw_1_2 (dS : FVec F S128x128 .f32) : k0_pay421 (k0_pay309 S) (k0_pay403 dS k (k0_pay310 a) (k0_pay375 (k0_pay312 g) dy (k0_pay346 (k0_pay322 (k0_pay309 S) q) (k0_pay325 (k0_pay309 S) u w (k0_pay310 a))) (k0_pay348 (k0_pay322 (k0_pay309 S) q) (k0_pay325 (k0_pay309 S) u w (k0_pay310 a))) (k0_pay350 (k0_pay349 (k0_pay322 (k0_pay309 S) q) (k0_pay325 (k0_pay309 S) u w (k0_pay310 a))) (Scalar.ofBits .f32 0xBF000000#32)) (k0_pay355 z))) (k0_pay419 (F := F))
    = KU.dw (mk S q k u w a e z g dy dS) := by
  simp only [k0_pay312_self]
  rfl
theorem da_1_2 (dS : FVec F S128x128 .f32) : k0_pay436 (k0_pay402 (k0_pay319 (k0_pay309 S) u w) (k0_pay375 (k0_pay312 g) dy (k0_pay346 (k0_pay322 (k0_pay309 S) q) (k0_pay325 (k0_pay309 S) u w (k0_pay310 a))) (k0_pay348 (k0_pay322 (k0_pay309 S) q) (k0_pay325 (k0_pay309 S) u w (k0_pay310 a))) (k0_pay350 (k0_pay349 (k0_pay322 (k0_pay309 S) q) (k0_pay325 (k0_pay309 S) u w (k0_pay310 a))) (Scalar.ofBits .f32 0xBF000000#32)) (k0_pay355 z)))
    = shapeCast S1x64x64 (KU.da (mk S q k u w a e z g dy dS)) shapeCasts_S64x64_S1x64x64 := by
  simp only [k0_pay312_self]
  rfl
theorem de_1_2 (dS : FVec F S128x128 .f32) : k0_pay437 (k0_pay370 dS (k0_pay309 S))
    = shapeCast S1x1x128 (KU.de (mk S q k u w a e z g dy dS)) shapeCasts_S1x128_S1x1x128 := rfl
theorem dz_1_2 (dS : FVec F S128x128 .f32) : k0_pay438 (k0_pay373 z dy (k0_pay352 (k0_pay312 g) (k0_pay346 (k0_pay322 (k0_pay309 S) q) (k0_pay325 (k0_pay309 S) u w (k0_pay310 a))) (k0_pay348 (k0_pay322 (k0_pay309 S) q) (k0_pay325 (k0_pay309 S) u w (k0_pay310 a)))) (k0_pay353 z) (k0_pay354 z))
    = truncf .bf16 (KU.dz (mk S q k u w a e z g dy dS)) bitsLt_bf16_f32 := by
  simp only [k0_pay312_self]
  rfl
theorem dS_1_3 (dS : FVec F S128x128 .f32) : k0_pay418 q w (k0_pay363 dS (k0_pay315 e)) (k0_pay369 (k0_pay356 (k0_pay323 (k0_pay313 S) q) (k0_pay326 (k0_pay313 S) u w (k0_pay314 a))) (k0_pay358 (k0_pay323 (k0_pay313 S) q) (k0_pay326 (k0_pay313 S) u w (k0_pay314 a))) (k0_pay359 (k0_pay323 (k0_pay313 S) q) (k0_pay326 (k0_pay313 S) u w (k0_pay314 a))) (k0_pay367 z (k0_pay316 g) dy) (k0_pay368 z (k0_pay316 g) dy (k0_pay323 (k0_pay313 S) q) (k0_pay326 (k0_pay313 S) u w (k0_pay314 a)))) (k0_pay401 dS k (k0_pay314 a) (k0_pay369 (k0_pay356 (k0_pay323 (k0_pay313 S) q) (k0_pay326 (k0_pay313 S) u w (k0_pay314 a))) (k0_pay358 (k0_pay323 (k0_pay313 S) q) (k0_pay326 (k0_pay313 S) u w (k0_pay314 a))) (k0_pay359 (k0_pay323 (k0_pay313 S) q) (k0_pay326 (k0_pay313 S) u w (k0_pay314 a))) (k0_pay367 z (k0_pay316 g) dy) (k0_pay368 z (k0_pay316 g) dy (k0_pay323 (k0_pay313 S) q) (k0_pay326 (k0_pay313 S) u w (k0_pay314 a)))))
    = KU.dS' (mk S q k u w a e z g dy dS) := by
  simp only [k0_pay316_self]
  rfl
theorem dg_1_3 (dS : FVec F S128x128 .f32) : k0_pay366 z dy (k0_pay323 (k0_pay313 S) q) (k0_pay326 (k0_pay313 S) u w (k0_pay314 a))
    = KU.dg (mk S q k u w a e z g dy dS) := rfl
theorem dq_1_3 (dS : FVec F S128x128 .f32) : k0_pay409 (k0_pay313 S) (k0_pay369 (k0_pay356 (k0_pay323 (k0_pay313 S) q) (k0_pay326 (k0_pay313 S) u w (k0_pay314 a))) (k0_pay358 (k0_pay323 (k0_pay313 S) q) (k0_pay326 (k0_pay313 S) u w (k0_pay314 a))) (k0_pay359 (k0_pay323 (k0_pay313 S) q) (k0_pay326 (k0_pay313 S) u w (k0_pay314 a))) (k0_pay367 z (k0_pay316 g) dy) (k0_pay368 z (k0_pay316 g) dy (k0_pay323 (k0_pay313 S) q) (k0_pay326 (k0_pay313 S) u w (k0_pay314 a))))
    = KU.dq (mk S q k u w a e z g dy dS) := by
  simp only [k0_pay316_self]
  rfl
theorem dk_1_3 (dS : FVec F S128x128 .f32) : k0_pay394 dS (k0_pay320 (k0_pay313 S) u w)
    = KU.dk (mk S q k u w a e z g dy dS) := rfl
theorem du_1_3 (dS : FVec F S128x128 .f32) : k0_pay401 dS k (k0_pay314 a) (k0_pay369 (k0_pay356 (k0_pay323 (k0_pay313 S) q) (k0_pay326 (k0_pay313 S) u w (k0_pay314 a))) (k0_pay358 (k0_pay323 (k0_pay313 S) q) (k0_pay326 (k0_pay313 S) u w (k0_pay314 a))) (k0_pay359 (k0_pay323 (k0_pay313 S) q) (k0_pay326 (k0_pay313 S) u w (k0_pay314 a))) (k0_pay367 z (k0_pay316 g) dy) (k0_pay368 z (k0_pay316 g) dy (k0_pay323 (k0_pay313 S) q) (k0_pay326 (k0_pay313 S) u w (k0_pay314 a))))
    = KU.du (mk S q k u w a e z g dy dS) := by
  simp only [k0_pay316_self]
  rfl
theorem dw_1_3 (dS : FVec F S128x128 .f32) : k0_pay417 (k0_pay313 S) (k0_pay401 dS k (k0_pay314 a) (k0_pay369 (k0_pay356 (k0_pay323 (k0_pay313 S) q) (k0_pay326 (k0_pay313 S) u w (k0_pay314 a))) (k0_pay358 (k0_pay323 (k0_pay313 S) q) (k0_pay326 (k0_pay313 S) u w (k0_pay314 a))) (k0_pay359 (k0_pay323 (k0_pay313 S) q) (k0_pay326 (k0_pay313 S) u w (k0_pay314 a))) (k0_pay367 z (k0_pay316 g) dy) (k0_pay368 z (k0_pay316 g) dy (k0_pay323 (k0_pay313 S) q) (k0_pay326 (k0_pay313 S) u w (k0_pay314 a)))))
    = KU.dw (mk S q k u w a e z g dy dS) := by
  simp only [k0_pay316_self]
  rfl
theorem da_1_3 (dS : FVec F S128x128 .f32) : k0_pay439 (k0_pay400 (k0_pay320 (k0_pay313 S) u w) (k0_pay369 (k0_pay356 (k0_pay323 (k0_pay313 S) q) (k0_pay326 (k0_pay313 S) u w (k0_pay314 a))) (k0_pay358 (k0_pay323 (k0_pay313 S) q) (k0_pay326 (k0_pay313 S) u w (k0_pay314 a))) (k0_pay359 (k0_pay323 (k0_pay313 S) q) (k0_pay326 (k0_pay313 S) u w (k0_pay314 a))) (k0_pay367 z (k0_pay316 g) dy) (k0_pay368 z (k0_pay316 g) dy (k0_pay323 (k0_pay313 S) q) (k0_pay326 (k0_pay313 S) u w (k0_pay314 a)))))
    = shapeCast S1x64x64 (KU.da (mk S q k u w a e z g dy dS)) shapeCasts_S64x64_S1x64x64 := by
  simp only [k0_pay316_self]
  rfl
theorem de_1_3 (dS : FVec F S128x128 .f32) : k0_pay440 (k0_pay362 dS (k0_pay313 S))
    = shapeCast S1x1x128 (KU.de (mk S q k u w a e z g dy dS)) shapeCasts_S1x128_S1x1x128 := rfl
theorem dz_1_3 (dS : FVec F S128x128 .f32) : k0_pay441 (k0_pay365 z (k0_pay316 g) dy (k0_pay323 (k0_pay313 S) q) (k0_pay326 (k0_pay313 S) u w (k0_pay314 a)))
    = truncf .bf16 (KU.dz (mk S q k u w a e z g dy dS)) bitsLt_bf16_f32 := by
  simp only [k0_pay316_self]
  rfl

/-! Chunk 0 of the block, the four heads. -/

theorem dS_0_0 (dS : FVec F S128x128 .f32) : k0_pay567 (k0_pay553 q (k0_pay525 dS (k0_pay445 e)) (k0_pay529 (k0_pay446 g) dy (k0_pay471 (k0_pay444 a) (k0_pay459 (k0_pay443 S) u w) (k0_pay463 (k0_pay443 S) q)) (k0_pay473 (k0_pay444 a) (k0_pay459 (k0_pay443 S) u w) (k0_pay463 (k0_pay443 S) q)) (k0_pay474 (k0_pay444 a) (k0_pay459 (k0_pay443 S) u w) (k0_pay463 (k0_pay443 S) q)) (k0_pay479 z))) (k0_pay565 w) (k0_pay566 (k0_pay546 (k0_pay444 a) (k0_pay529 (k0_pay446 g) dy (k0_pay471 (k0_pay444 a) (k0_pay459 (k0_pay443 S) u w) (k0_pay463 (k0_pay443 S) q)) (k0_pay473 (k0_pay444 a) (k0_pay459 (k0_pay443 S) u w) (k0_pay463 (k0_pay443 S) q)) (k0_pay474 (k0_pay444 a) (k0_pay459 (k0_pay443 S) u w) (k0_pay463 (k0_pay443 S) q)) (k0_pay479 z)) (k0_pay537 k) (k0_pay538 dS))) (constant S128x128 .f32 0x00000000#32)
    = KU.dS' (mk S q k u w a e z g dy dS) := by
  simp only [k0_pay446_self]
  rfl
theorem dg_0_0 (dS : FVec F S128x128 .f32) : k0_pay528 dy (k0_pay475 (k0_pay444 a) (k0_pay459 (k0_pay443 S) u w) (k0_pay463 (k0_pay443 S) q)) (k0_pay479 z)
    = KU.dg (mk S q k u w a e z g dy dS) := rfl
theorem dq_0_0 (dS : FVec F S128x128 .f32) : k0_pay552 (k0_pay443 S) (k0_pay529 (k0_pay446 g) dy (k0_pay471 (k0_pay444 a) (k0_pay459 (k0_pay443 S) u w) (k0_pay463 (k0_pay443 S) q)) (k0_pay473 (k0_pay444 a) (k0_pay459 (k0_pay443 S) u w) (k0_pay463 (k0_pay443 S) q)) (k0_pay474 (k0_pay444 a) (k0_pay459 (k0_pay443 S) u w) (k0_pay463 (k0_pay443 S) q)) (k0_pay479 z))
    = KU.dq (mk S q k u w a e z g dy dS) := by
  simp only [k0_pay446_self]
  rfl
theorem dk_0_0 (dS : FVec F S128x128 .f32) : k0_pay536 dS (k0_pay459 (k0_pay443 S) u w)
    = KU.dk (mk S q k u w a e z g dy dS) := rfl
theorem du_0_0 (dS : FVec F S128x128 .f32) : k0_pay546 (k0_pay444 a) (k0_pay529 (k0_pay446 g) dy (k0_pay471 (k0_pay444 a) (k0_pay459 (k0_pay443 S) u w) (k0_pay463 (k0_pay443 S) q)) (k0_pay473 (k0_pay444 a) (k0_pay459 (k0_pay443 S) u w) (k0_pay463 (k0_pay443 S) q)) (k0_pay474 (k0_pay444 a) (k0_pay459 (k0_pay443 S) u w) (k0_pay463 (k0_pay443 S) q)) (k0_pay479 z)) (k0_pay537 k) (k0_pay538 dS)
    = KU.du (mk S q k u w a e z g dy dS) := by
  simp only [k0_pay446_self]
  rfl
theorem dw_0_0 (dS : FVec F S128x128 .f32) : k0_pay564 (k0_pay443 S) (k0_pay546 (k0_pay444 a) (k0_pay529 (k0_pay446 g) dy (k0_pay471 (k0_pay444 a) (k0_pay459 (k0_pay443 S) u w) (k0_pay463 (k0_pay443 S) q)) (k0_pay473 (k0_pay444 a) (k0_pay459 (k0_pay443 S) u w) (k0_pay463 (k0_pay443 S) q)) (k0_pay474 (k0_pay444 a) (k0_pay459 (k0_pay443 S) u w) (k0_pay463 (k0_pay443 S) q)) (k0_pay479 z)) (k0_pay537 k) (k0_pay538 dS))
    = KU.dw (mk S q k u w a e z g dy dS) := by
  simp only [k0_pay446_self]
  rfl
theorem da_0_0 (dS : FVec F S128x128 .f32) : k0_pay568 (k0_pay545 (k0_pay459 (k0_pay443 S) u w) (k0_pay529 (k0_pay446 g) dy (k0_pay471 (k0_pay444 a) (k0_pay459 (k0_pay443 S) u w) (k0_pay463 (k0_pay443 S) q)) (k0_pay473 (k0_pay444 a) (k0_pay459 (k0_pay443 S) u w) (k0_pay463 (k0_pay443 S) q)) (k0_pay474 (k0_pay444 a) (k0_pay459 (k0_pay443 S) u w) (k0_pay463 (k0_pay443 S) q)) (k0_pay479 z)))
    = shapeCast S1x64x64 (KU.da (mk S q k u w a e z g dy dS)) shapeCasts_S64x64_S1x64x64 := by
  simp only [k0_pay446_self]
  rfl
theorem de_0_0 (dS : FVec F S128x128 .f32) : k0_pay569 (k0_pay524 dS (k0_pay443 S))
    = shapeCast S1x1x128 (KU.de (mk S q k u w a e z g dy dS)) shapeCasts_S1x128_S1x1x128 := rfl
theorem dz_0_0 (dS : FVec F S128x128 .f32) : k0_pay570 (k0_pay527 z dy (k0_pay476 (k0_pay444 a) (k0_pay446 g) (k0_pay459 (k0_pay443 S) u w) (k0_pay463 (k0_pay443 S) q)) (k0_pay477 z) (k0_pay478 z))
    = truncf .bf16 (KU.dz (mk S q k u w a e z g dy dS)) bitsLt_bf16_f32 := by
  simp only [k0_pay446_self]
  rfl
theorem dS_0_1 (dS : FVec F S128x128 .f32) : k0_pay562 q w (k0_pay519 dS (k0_pay449 e)) (k0_pay523 (k0_pay450 g) dy (k0_pay480 (k0_pay448 a) (k0_pay460 (k0_pay447 S) u w) (k0_pay464 (k0_pay447 S) q)) (k0_pay482 (k0_pay448 a) (k0_pay460 (k0_pay447 S) u w) (k0_pay464 (k0_pay447 S) q)) (k0_pay483 (k0_pay481 (k0_pay448 a) (k0_pay460 (k0_pay447 S) u w) (k0_pay464 (k0_pay447 S) q)) (k0_pay482 (k0_pay448 a) (k0_pay460 (k0_pay447 S) u w) (k0_pay464 (k0_pay447 S) q))) (k0_pay488 z)) (k0_pay544 (k0_pay448 a) (k0_pay523 (k0_pay450 g) dy (k0_pay480 (k0_pay448 a) (k0_pay460 (k0_pay447 S) u w) (k0_pay464 (k0_pay447 S) q)) (k0_pay482 (k0_pay448 a) (k0_pay460 (k0_pay447 S) u w) (k0_pay464 (k0_pay447 S) q)) (k0_pay483 (k0_pay481 (k0_pay448 a) (k0_pay460 (k0_pay447 S) u w) (k0_pay464 (k0_pay447 S) q)) (k0_pay482 (k0_pay448 a) (k0_pay460 (k0_pay447 S) u w) (k0_pay464 (k0_pay447 S) q))) (k0_pay488 z)) (k0_pay535 dS k))
    = KU.dS' (mk S q k u w a e z g dy dS) := by
  simp only [k0_pay450_self]
  rfl
theorem dg_0_1 (dS : FVec F S128x128 .f32) : k0_pay522 dy (k0_pay484 (k0_pay480 (k0_pay448 a) (k0_pay460 (k0_pay447 S) u w) (k0_pay464 (k0_pay447 S) q)) (k0_pay482 (k0_pay448 a) (k0_pay460 (k0_pay447 S) u w) (k0_pay464 (k0_pay447 S) q))) (k0_pay488 z)
    = KU.dg (mk S q k u w a e z g dy dS) := rfl
theorem dq_0_1 (dS : FVec F S128x128 .f32) : k0_pay551 (k0_pay447 S) (k0_pay523 (k0_pay450 g) dy (k0_pay480 (k0_pay448 a) (k0_pay460 (k0_pay447 S) u w) (k0_pay464 (k0_pay447 S) q)) (k0_pay482 (k0_pay448 a) (k0_pay460 (k0_pay447 S) u w) (k0_pay464 (k0_pay447 S) q)) (k0_pay483 (k0_pay481 (k0_pay448 a) (k0_pay460 (k0_pay447 S) u w) (k0_pay464 (k0_pay447 S) q)) (k0_pay482 (k0_pay448 a) (k0_pay460 (k0_pay447 S) u w) (k0_pay464 (k0_pay447 S) q))) (k0_pay488 z))
    = KU.dq (mk S q k u w a e z g dy dS) := by
  simp only [k0_pay450_self]
  rfl
theorem dk_0_1 (dS : FVec F S128x128 .f32) : k0_pay534 dS (k0_pay460 (k0_pay447 S) u w)
    = KU.dk (mk S q k u w a e z g dy dS) := rfl
theorem du_0_1 (dS : FVec F S128x128 .f32) : k0_pay544 (k0_pay448 a) (k0_pay523 (k0_pay450 g) dy (k0_pay480 (k0_pay448 a) (k0_pay460 (k0_pay447 S) u w) (k0_pay464 (k0_pay447 S) q)) (k0_pay482 (k0_pay448 a) (k0_pay460 (k0_pay447 S) u w) (k0_pay464 (k0_pay447 S) q)) (k0_pay483 (k0_pay481 (k0_pay448 a) (k0_pay460 (k0_pay447 S) u w) (k0_pay464 (k0_pay447 S) q)) (k0_pay482 (k0_pay448 a) (k0_pay460 (k0_pay447 S) u w) (k0_pay464 (k0_pay447 S) q))) (k0_pay488 z)) (k0_pay535 dS k)
    = KU.du (mk S q k u w a e z g dy dS) := by
  simp only [k0_pay450_self]
  rfl
theorem dw_0_1 (dS : FVec F S128x128 .f32) : k0_pay561 (k0_pay447 S) (k0_pay544 (k0_pay448 a) (k0_pay523 (k0_pay450 g) dy (k0_pay480 (k0_pay448 a) (k0_pay460 (k0_pay447 S) u w) (k0_pay464 (k0_pay447 S) q)) (k0_pay482 (k0_pay448 a) (k0_pay460 (k0_pay447 S) u w) (k0_pay464 (k0_pay447 S) q)) (k0_pay483 (k0_pay481 (k0_pay448 a) (k0_pay460 (k0_pay447 S) u w) (k0_pay464 (k0_pay447 S) q)) (k0_pay482 (k0_pay448 a) (k0_pay460 (k0_pay447 S) u w) (k0_pay464 (k0_pay447 S) q))) (k0_pay488 z)) (k0_pay535 dS k))
    = KU.dw (mk S q k u w a e z g dy dS) := by
  simp only [k0_pay450_self]
  rfl
theorem da_0_1 (dS : FVec F S128x128 .f32) : k0_pay572 (k0_pay543 (k0_pay460 (k0_pay447 S) u w) (k0_pay523 (k0_pay450 g) dy (k0_pay480 (k0_pay448 a) (k0_pay460 (k0_pay447 S) u w) (k0_pay464 (k0_pay447 S) q)) (k0_pay482 (k0_pay448 a) (k0_pay460 (k0_pay447 S) u w) (k0_pay464 (k0_pay447 S) q)) (k0_pay483 (k0_pay481 (k0_pay448 a) (k0_pay460 (k0_pay447 S) u w) (k0_pay464 (k0_pay447 S) q)) (k0_pay482 (k0_pay448 a) (k0_pay460 (k0_pay447 S) u w) (k0_pay464 (k0_pay447 S) q))) (k0_pay488 z)))
    = shapeCast S1x64x64 (KU.da (mk S q k u w a e z g dy dS)) shapeCasts_S64x64_S1x64x64 := by
  simp only [k0_pay450_self]
  rfl
theorem de_0_1 (dS : FVec F S128x128 .f32) : k0_pay573 (k0_pay518 dS (k0_pay447 S))
    = shapeCast S1x1x128 (KU.de (mk S q k u w a e z g dy dS)) shapeCasts_S1x128_S1x1x128 := rfl
theorem dz_0_1 (dS : FVec F S128x128 .f32) : k0_pay574 (k0_pay521 z dy (k0_pay485 (k0_pay450 g) (k0_pay480 (k0_pay448 a) (k0_pay460 (k0_pay447 S) u w) (k0_pay464 (k0_pay447 S) q)) (k0_pay482 (k0_pay448 a) (k0_pay460 (k0_pay447 S) u w) (k0_pay464 (k0_pay447 S) q))) (k0_pay486 z) (k0_pay487 z))
    = truncf .bf16 (KU.dz (mk S q k u w a e z g dy dS)) bitsLt_bf16_f32 := by
  simp only [k0_pay450_self]
  rfl
theorem dS_0_2 (dS : FVec F S128x128 .f32) : k0_pay559 w (k0_pay542 (k0_pay452 a) (k0_pay517 (k0_pay489 (k0_pay467 (k0_pay465 q) (k0_pay466 (k0_pay451 S))) (k0_pay469 (k0_pay452 a) (k0_pay461 (k0_pay451 S) u w))) (k0_pay491 (k0_pay467 (k0_pay465 q) (k0_pay466 (k0_pay451 S))) (k0_pay469 (k0_pay452 a) (k0_pay461 (k0_pay451 S) u w))) (k0_pay492 (k0_pay467 (k0_pay465 q) (k0_pay466 (k0_pay451 S))) (k0_pay469 (k0_pay452 a) (k0_pay461 (k0_pay451 S) u w))) (k0_pay516 (k0_pay454 g) dy (k0_pay497 z))) (k0_pay533 dS k)) (k0_pay550 q (k0_pay512 dS (k0_pay453 e)) (k0_pay517 (k0_pay489 (k0_pay467 (k0_pay465 q) (k0_pay466 (k0_pay451 S))) (k0_pay469 (k0_pay452 a) (k0_pay461 (k0_pay451 S) u w))) (k0_pay491 (k0_pay467 (k0_pay465 q) (k0_pay466 (k0_pay451 S))) (k0_pay469 (k0_pay452 a) (k0_pay461 (k0_pay451 S) u w))) (k0_pay492 (k0_pay467 (k0_pay465 q) (k0_pay466 (k0_pay451 S))) (k0_pay469 (k0_pay452 a) (k0_pay461 (k0_pay451 S) u w))) (k0_pay516 (k0_pay454 g) dy (k0_pay497 z))))
    = KU.dS' (mk S q k u w a e z g dy dS) := by
  simp only [k0_pay454_self]
  rfl
theorem dg_0_2 (dS : FVec F S128x128 .f32) : k0_pay515 dy (k0_pay493 (k0_pay467 (k0_pay465 q) (k0_pay466 (k0_pay451 S))) (k0_pay469 (k0_pay452 a) (k0_pay461 (k0_pay451 S) u w))) (k0_pay497 z)
    = KU.dg (mk S q k u w a e z g dy dS) := rfl
theorem dq_0_2 (dS : FVec F S128x128 .f32) : k0_pay549 (k0_pay451 S) (k0_pay517 (k0_pay489 (k0_pay467 (k0_pay465 q) (k0_pay466 (k0_pay451 S))) (k0_pay469 (k0_pay452 a) (k0_pay461 (k0_pay451 S) u w))) (k0_pay491 (k0_pay467 (k0_pay465 q) (k0_pay466 (k0_pay451 S))) (k0_pay469 (k0_pay452 a) (k0_pay461 (k0_pay451 S) u w))) (k0_pay492 (k0_pay467 (k0_pay465 q) (k0_pay466 (k0_pay451 S))) (k0_pay469 (k0_pay452 a) (k0_pay461 (k0_pay451 S) u w))) (k0_pay516 (k0_pay454 g) dy (k0_pay497 z)))
    = KU.dq (mk S q k u w a e z g dy dS) := by
  simp only [k0_pay454_self]
  rfl
theorem dk_0_2 (dS : FVec F S128x128 .f32) : k0_pay532 dS (k0_pay461 (k0_pay451 S) u w)
    = KU.dk (mk S q k u w a e z g dy dS) := rfl
theorem du_0_2 (dS : FVec F S128x128 .f32) : k0_pay542 (k0_pay452 a) (k0_pay517 (k0_pay489 (k0_pay467 (k0_pay465 q) (k0_pay466 (k0_pay451 S))) (k0_pay469 (k0_pay452 a) (k0_pay461 (k0_pay451 S) u w))) (k0_pay491 (k0_pay467 (k0_pay465 q) (k0_pay466 (k0_pay451 S))) (k0_pay469 (k0_pay452 a) (k0_pay461 (k0_pay451 S) u w))) (k0_pay492 (k0_pay467 (k0_pay465 q) (k0_pay466 (k0_pay451 S))) (k0_pay469 (k0_pay452 a) (k0_pay461 (k0_pay451 S) u w))) (k0_pay516 (k0_pay454 g) dy (k0_pay497 z))) (k0_pay533 dS k)
    = KU.du (mk S q k u w a e z g dy dS) := by
  simp only [k0_pay454_self]
  rfl
theorem dw_0_2 (dS : FVec F S128x128 .f32) : k0_pay558 (k0_pay451 S) (k0_pay542 (k0_pay452 a) (k0_pay517 (k0_pay489 (k0_pay467 (k0_pay465 q) (k0_pay466 (k0_pay451 S))) (k0_pay469 (k0_pay452 a) (k0_pay461 (k0_pay451 S) u w))) (k0_pay491 (k0_pay467 (k0_pay465 q) (k0_pay466 (k0_pay451 S))) (k0_pay469 (k0_pay452 a) (k0_pay461 (k0_pay451 S) u w))) (k0_pay492 (k0_pay467 (k0_pay465 q) (k0_pay466 (k0_pay451 S))) (k0_pay469 (k0_pay452 a) (k0_pay461 (k0_pay451 S) u w))) (k0_pay516 (k0_pay454 g) dy (k0_pay497 z))) (k0_pay533 dS k))
    = KU.dw (mk S q k u w a e z g dy dS) := by
  simp only [k0_pay454_self]
  rfl
theorem da_0_2 (dS : FVec F S128x128 .f32) : k0_pay575 (k0_pay541 (k0_pay461 (k0_pay451 S) u w) (k0_pay517 (k0_pay489 (k0_pay467 (k0_pay465 q) (k0_pay466 (k0_pay451 S))) (k0_pay469 (k0_pay452 a) (k0_pay461 (k0_pay451 S) u w))) (k0_pay491 (k0_pay467 (k0_pay465 q) (k0_pay466 (k0_pay451 S))) (k0_pay469 (k0_pay452 a) (k0_pay461 (k0_pay451 S) u w))) (k0_pay492 (k0_pay467 (k0_pay465 q) (k0_pay466 (k0_pay451 S))) (k0_pay469 (k0_pay452 a) (k0_pay461 (k0_pay451 S) u w))) (k0_pay516 (k0_pay454 g) dy (k0_pay497 z))))
    = shapeCast S1x64x64 (KU.da (mk S q k u w a e z g dy dS)) shapeCasts_S64x64_S1x64x64 := by
  simp only [k0_pay454_self]
  rfl
theorem de_0_2 (dS : FVec F S128x128 .f32) : k0_pay576 (k0_pay511 dS (k0_pay451 S))
    = shapeCast S1x1x128 (KU.de (mk S q k u w a e z g dy dS)) shapeCasts_S1x128_S1x1x128 := rfl
theorem dz_0_2 (dS : FVec F S128x128 .f32) : k0_pay577 (k0_pay514 z dy (k0_pay494 (k0_pay454 g) (k0_pay467 (k0_pay465 q) (k0_pay466 (k0_pay451 S))) (k0_pay469 (k0_pay452 a) (k0_pay461 (k0_pay451 S) u w))) (k0_pay495 z) (k0_pay496 z))
    = truncf .bf16 (KU.dz (mk S q k u w a e z g dy dS)) bitsLt_bf16_f32 := by
  simp only [k0_pay454_self]
  rfl
theorem dS_0_3 (dS : FVec F S128x128 .f32) : k0_pay556 w (k0_pay540 (k0_pay456 a) (k0_pay510 z (k0_pay458 g) dy (k0_pay498 (k0_pay468 (k0_pay455 S) q) (k0_pay470 (k0_pay456 a) (k0_pay462 (k0_pay455 S) u w))) (k0_pay500 (k0_pay468 (k0_pay455 S) q) (k0_pay470 (k0_pay456 a) (k0_pay462 (k0_pay455 S) u w))) (k0_pay501 (k0_pay468 (k0_pay455 S) q) (k0_pay470 (k0_pay456 a) (k0_pay462 (k0_pay455 S) u w)))) (k0_pay531 dS k)) (k0_pay548 q (k0_pay506 dS (k0_pay457 e)) (k0_pay510 z (k0_pay458 g) dy (k0_pay498 (k0_pay468 (k0_pay455 S) q) (k0_pay470 (k0_pay456 a) (k0_pay462 (k0_pay455 S) u w))) (k0_pay500 (k0_pay468 (k0_pay455 S) q) (k0_pay470 (k0_pay456 a) (k0_pay462 (k0_pay455 S) u w))) (k0_pay501 (k0_pay468 (k0_pay455 S) q) (k0_pay470 (k0_pay456 a) (k0_pay462 (k0_pay455 S) u w)))))
    = KU.dS' (mk S q k u w a e z g dy dS) := by
  simp only [k0_pay458_self]
  rfl
theorem dg_0_3 (dS : FVec F S128x128 .f32) : k0_pay509 z dy (k0_pay502 (k0_pay468 (k0_pay455 S) q) (k0_pay470 (k0_pay456 a) (k0_pay462 (k0_pay455 S) u w)))
    = KU.dg (mk S q k u w a e z g dy dS) := rfl
theorem dq_0_3 (dS : FVec F S128x128 .f32) : k0_pay547 (k0_pay455 S) (k0_pay510 z (k0_pay458 g) dy (k0_pay498 (k0_pay468 (k0_pay455 S) q) (k0_pay470 (k0_pay456 a) (k0_pay462 (k0_pay455 S) u w))) (k0_pay500 (k0_pay468 (k0_pay455 S) q) (k0_pay470 (k0_pay456 a) (k0_pay462 (k0_pay455 S) u w))) (k0_pay501 (k0_pay468 (k0_pay455 S) q) (k0_pay470 (k0_pay456 a) (k0_pay462 (k0_pay455 S) u w))))
    = KU.dq (mk S q k u w a e z g dy dS) := by
  simp only [k0_pay458_self]
  rfl
theorem dk_0_3 (dS : FVec F S128x128 .f32) : k0_pay530 dS (k0_pay462 (k0_pay455 S) u w)
    = KU.dk (mk S q k u w a e z g dy dS) := rfl
theorem du_0_3 (dS : FVec F S128x128 .f32) : k0_pay540 (k0_pay456 a) (k0_pay510 z (k0_pay458 g) dy (k0_pay498 (k0_pay468 (k0_pay455 S) q) (k0_pay470 (k0_pay456 a) (k0_pay462 (k0_pay455 S) u w))) (k0_pay500 (k0_pay468 (k0_pay455 S) q) (k0_pay470 (k0_pay456 a) (k0_pay462 (k0_pay455 S) u w))) (k0_pay501 (k0_pay468 (k0_pay455 S) q) (k0_pay470 (k0_pay456 a) (k0_pay462 (k0_pay455 S) u w)))) (k0_pay531 dS k)
    = KU.du (mk S q k u w a e z g dy dS) := by
  simp only [k0_pay458_self]
  rfl
theorem dw_0_3 (dS : FVec F S128x128 .f32) : k0_pay555 (k0_pay455 S) (k0_pay540 (k0_pay456 a) (k0_pay510 z (k0_pay458 g) dy (k0_pay498 (k0_pay468 (k0_pay455 S) q) (k0_pay470 (k0_pay456 a) (k0_pay462 (k0_pay455 S) u w))) (k0_pay500 (k0_pay468 (k0_pay455 S) q) (k0_pay470 (k0_pay456 a) (k0_pay462 (k0_pay455 S) u w))) (k0_pay501 (k0_pay468 (k0_pay455 S) q) (k0_pay470 (k0_pay456 a) (k0_pay462 (k0_pay455 S) u w)))) (k0_pay531 dS k))
    = KU.dw (mk S q k u w a e z g dy dS) := by
  simp only [k0_pay458_self]
  rfl
theorem da_0_3 (dS : FVec F S128x128 .f32) : k0_pay579 (k0_pay539 (k0_pay462 (k0_pay455 S) u w) (k0_pay510 z (k0_pay458 g) dy (k0_pay498 (k0_pay468 (k0_pay455 S) q) (k0_pay470 (k0_pay456 a) (k0_pay462 (k0_pay455 S) u w))) (k0_pay500 (k0_pay468 (k0_pay455 S) q) (k0_pay470 (k0_pay456 a) (k0_pay462 (k0_pay455 S) u w))) (k0_pay501 (k0_pay468 (k0_pay455 S) q) (k0_pay470 (k0_pay456 a) (k0_pay462 (k0_pay455 S) u w)))))
    = shapeCast S1x64x64 (KU.da (mk S q k u w a e z g dy dS)) shapeCasts_S64x64_S1x64x64 := by
  simp only [k0_pay458_self]
  rfl
theorem de_0_3 (dS : FVec F S128x128 .f32) : k0_pay580 (k0_pay505 dS (k0_pay455 S))
    = shapeCast S1x1x128 (KU.de (mk S q k u w a e z g dy dS)) shapeCasts_S1x128_S1x1x128 := rfl
theorem dz_0_3 (dS : FVec F S128x128 .f32) : k0_pay581 (k0_pay508 z dy (k0_pay503 (k0_pay458 g) (k0_pay468 (k0_pay455 S) q) (k0_pay470 (k0_pay456 a) (k0_pay462 (k0_pay455 S) u w))))
    = truncf .bf16 (KU.dz (mk S q k u w a e z g dy dS)) bitsLt_bf16_f32 := by
  simp only [k0_pay458_self]
  rfl

end Cert.KernelIdeal.KF
-- ==== Proof.KernelBlock.lean ====
/- One grid point of the kernel handles four chunks of four heads. Here are the vectors of each of the sixteen
   as cut from the point's blocks, the cotangent of the state running from the last chunk to the first. -/
module

public import proofs.«01_k».proof.Proof.KernelFold
public import Idealize.ShloMosaic.Lib.Pipeline.ReadBack

@[expose] public section

set_option maxRecDepth 16384

noncomputable section

namespace Cert.KernelIdeal.KB

open Cert.KernelIdeal Cert.KernelIdeal.Gen Idealize.ShloMosaic

variable {F : FTy → Type} [FloatOps F]

/-- The blocks a grid point reads. -/
structure Blk (F : FTy → Type) where
  x0 : Vec F S256x512 .f32
  x1 : Vec F S256x512 .f32
  x2 : Vec F S256x512 .f32
  x3 : Vec F S256x512 .f32
  x4 : Vec F S4x256x64 .f32
  x5 : Vec F S4x4x128 .f32
  x6 : Vec F S256x512 .f32
  x7 : Vec F S1x128 .f32
  x8 : Vec F S4x4x128x128 .f32
  x9 : Vec F S256x512 .f32

theorem inb_rows (cc h : Fin 4) : ∀ a, (![64 * cc.val, 128 * h.val] : Fin 2 → ℕ) a + S64x128.size a ≤ S256x512.size a := by
  intro a; have := cc.isLt; have := h.isLt; fin_cases a <;> simp <;> omega
theorem inb_attn (cc h : Fin 4) : ∀ a, (![h.val, 64 * cc.val, 0] : Fin 3 → ℕ) a + S1x64x64.size a ≤ S4x256x64.size a := by
  intro a; have := cc.isLt; have := h.isLt; fin_cases a <;> simp <;> omega
theorem inb_decay (cc h : Fin 4) : ∀ a, (![cc.val, h.val, 0] : Fin 3 → ℕ) a + S1x1x128.size a ≤ S4x4x128.size a := by
  intro a; have := cc.isLt; have := h.isLt; fin_cases a <;> simp <;> omega
theorem inb_states (cc h : Fin 4) : ∀ a, (![cc.val, h.val, 0, 0] : Fin 4 → ℕ) a + S1x1x128x128.size a ≤ S4x4x128x128.size a := by
  intro a; have := cc.isLt; have := h.isLt; fin_cases a <;> simp <;> omega
theorem inb_scr (h : Fin 4) : ∀ a, (![h.val, 0, 0] : Fin 3 → ℕ) a + S1x128x128.size a ≤ S4x128x128.size a := by
  intro a; have := h.isLt; fin_cases a <;> simp <;> omega

/-- The vectors of chunk `cc` of the block, head `h`, with the cotangent `dS` of the state after the chunk. -/
def unit (b : Blk F) (cc h : Fin 4) (dS : FVec F S128x128 .f32) : KU.In F :=
  KF.mk (View.ld b.x8 (Rect.unit ![cc.val, h.val, 0, 0] S1x1x128x128.size (inb_states cc h)))
    (View.ld b.x0 (Rect.unit ![64 * cc.val, 128 * h.val] S64x128.size (inb_rows cc h)))
    (View.ld b.x1 (Rect.unit ![64 * cc.val, 128 * h.val] S64x128.size (inb_rows cc h)))
    (View.ld b.x2 (Rect.unit ![64 * cc.val, 128 * h.val] S64x128.size (inb_rows cc h)))
    (View.ld b.x3 (Rect.unit ![64 * cc.val, 128 * h.val] S64x128.size (inb_rows cc h)))
    (View.ld b.x4 (Rect.unit ![h.val, 64 * cc.val, 0] S1x64x64.size (inb_attn cc h)))
    (View.ld b.x5 (Rect.unit ![cc.val, h.val, 0] S1x1x128.size (inb_decay cc h)))
    (View.ld b.x6 (Rect.unit ![64 * cc.val, 128 * h.val] S64x128.size (inb_rows cc h)))
    b.x7
    (View.ld b.x9 (Rect.unit ![64 * cc.val, 128 * h.val] S64x128.size (inb_rows cc h)))
    dS

variable (b : Blk F) (xs : Vec F S4x128x128 .f32) (h : Fin 4)

/-- The cotangent a point starts from: head `h` of what is carried. -/
def start : FVec F S128x128 .f32 :=
  shapeCast S128x128 (View.ld xs (Rect.unit ![h.val, 0, 0] S1x128x128.size (inb_scr h))) shapeCasts_S1x128x128_S128x128

def u3 : KU.In F := unit b 3 h (start xs h)
def u2 : KU.In F := unit b 2 h (KU.dS' (u3 b xs h))
def u1 : KU.In F := unit b 1 h (KU.dS' (u2 b xs h))
def u0 : KU.In F := unit b 0 h (KU.dS' (u1 b xs h))

/-- The vectors of chunk `cc`, head `h`, when the point starts from `xs`. -/
def uu (cc h : Fin 4) : KU.In F := (![u0 b xs h, u1 b xs h, u2 b xs h, u3 b xs h] : Fin 4 → KU.In F) cc

/-- A piece of sixteen is the value of its own chunk and head, for an array of rows by columns. -/
theorem pick2 {α : Type} {f : Fin 4 → Fin 4 → S64x128.Idx → α} {y0 y1 : ℕ} {cc h : Fin 4} {c : Fin 64} {d : Fin 128}
    {x : S64x128.Idx} (C H : Fin 4) (hy0 : y0 = 64 * cc.val + c.val) (hy1 : y1 = 128 * h.val + d.val)
    (h0 : y0 = 64 * C.val + (x 0).val) (h1 : y1 = 128 * H.val + (x 1).val) (l0 : (x 0).val < 64) (l1 : (x 1).val < 128)
    {p : α} (e : p = f C H x) : p = f cc h (ix2 c d) := by
  have hC : cc = C := Fin.ext (by omega)
  have hH : h = H := Fin.ext (by omega)
  subst hC hH
  have hx : x = ix2 c d := by
    funext i
    refine Fin.cases (Fin.ext ?_) (fun j => Fin.cases (Fin.ext ?_) (fun j => j.elim0) j) i
    · show (x 0).val = c.val; omega
    · show (x 1).val = d.val; omega
  rw [e, hx]

/-- The same, for the attention weights. -/
theorem pick3a {α : Type} {f : Fin 4 → Fin 4 → S1x64x64.Idx → α} {y0 y1 y2 : ℕ} {cc h : Fin 4} {c s : Fin 64}
    {x : S1x64x64.Idx} (C H : Fin 4) (hy0 : y0 = h.val) (hy1 : y1 = 64 * cc.val + c.val) (hy2 : y2 = s.val)
    (h0 : y0 = H.val + (x 0).val) (h1 : y1 = 64 * C.val + (x 1).val) (h2 : y2 = (x 2).val)
    (l0 : (x 0).val < 1) (l1 : (x 1).val < 64)
    {p : α} (e : p = f C H x) : p = f cc h (ix3 0 c s) := by
  have hC : cc = C := Fin.ext (by omega)
  have hH : h = H := Fin.ext (by omega)
  subst hC hH
  have hx : x = ix3 0 c s := by
    funext i
    refine Fin.cases (Fin.ext ?_) (fun j => Fin.cases (Fin.ext ?_) (fun j => Fin.cases (Fin.ext ?_) (fun j => j.elim0) j) j) i
    · show (x 0).val = 0; omega
    · show (x 1).val = c.val; omega
    · show (x 2).val = s.val; omega
  rw [e, hx]

/-- The same, for the decays. -/
theorem pick3e {α : Type} {f : Fin 4 → Fin 4 → S1x1x128.Idx → α} {y0 y1 y2 : ℕ} {cc h : Fin 4} {d : Fin 128}
    {x : S1x1x128.Idx} (C H : Fin 4) (hy0 : y0 = cc.val) (hy1 : y1 = h.val) (hy2 : y2 = d.val)
    (h0 : y0 = C.val + (x 0).val) (h1 : y1 = H.val + (x 1).val) (h2 : y2 = (x 2).val)
    (l0 : (x 0).val < 1) (l1 : (x 1).val < 1)
    {p : α} (e : p = f C H x) : p = f cc h (ix3 0 0 d) := by
  have hC : cc = C := Fin.ext (by omega)
  have hH : h = H := Fin.ext (by omega)
  subst hC hH
  have hx : x = ix3 0 0 d := by
    funext i
    refine Fin.cases (Fin.ext ?_) (fun j => Fin.cases (Fin.ext ?_) (fun j => Fin.cases (Fin.ext ?_) (fun j => j.elim0) j) j) i
    · show (x 0).val = 0; omega
    · show (x 1).val = 0; omega
    · show (x 2).val = d.val; omega
  rw [e, hx]

/-- The same, for what is carried. -/
theorem pick3s {α : Type} {f : Fin 4 → S1x128x128.Idx → α} {y0 y1 y2 : ℕ} {h : Fin 4} {e d : Fin 128}
    {x : S1x128x128.Idx} (H : Fin 4) (hy0 : y0 = h.val) (hy1 : y1 = e.val) (hy2 : y2 = d.val)
    (h0 : y0 = H.val + (x 0).val) (h1 : y1 = (x 1).val) (h2 : y2 = (x 2).val) (l0 : (x 0).val < 1)
    {p : α} (q : p = f H x) : p = f h (ix3 0 e d) := by
  have hH : h = H := Fin.ext (by omega)
  subst hH
  have hx : x = ix3 0 e d := by
    funext i
    refine Fin.cases (Fin.ext ?_) (fun j => Fin.cases (Fin.ext ?_) (fun j => Fin.cases (Fin.ext ?_) (fun j => j.elim0) j) j) i
    · show (x 0).val = 0; omega
    · show (x 1).val = e.val; omega
    · show (x 2).val = d.val; omega
  rw [q, hx]

/-- The terms of the norm weight's gradient, added up as the point adds them. -/
def dgSum (f : Fin 4 → Fin 4 → FVec F S1x128 .f32) : FVec F S1x128 .f32 :=
  k0_pay582 (f 0 3) (k0_pay578 (f 0 2) (f 0 1) (k0_pay571 (k0_pay442 (f 1 3) (f 1 2) (k0_pay435 (k0_pay300 (f 2 3)
    (k0_pay296 (f 2 2) (f 2 1) (k0_pay289 (k0_pay160 (f 3 3) (k0_pay156 (f 3 2) (k0_pay152 (f 3 1) (f 3 0)))) (f 2 0)))) (f 1 1) (f 1 0))) (f 0 0)))

theorem dgSum_of {f : Fin 4 → Fin 4 → FVec F S1x128 .f32} {p30 p31 p32 p33 p20 p21 p22 p23 p10 p11 p12 p13 p00 p01 p02 p03 : FVec F S1x128 .f32}
    (e30 : p30 = f 3 0) (e31 : p31 = f 3 1) (e32 : p32 = f 3 2) (e33 : p33 = f 3 3) (e20 : p20 = f 2 0) (e21 : p21 = f 2 1) (e22 : p22 = f 2 2) (e23 : p23 = f 2 3) (e10 : p10 = f 1 0) (e11 : p11 = f 1 1) (e12 : p12 = f 1 2) (e13 : p13 = f 1 3) (e00 : p00 = f 0 0) (e01 : p01 = f 0 1) (e02 : p02 = f 0 2) (e03 : p03 = f 0 3) :
    k0_pay582 p03 (k0_pay578 p02 p01 (k0_pay571 (k0_pay442 p13 p12 (k0_pay435 (k0_pay300 p23
    (k0_pay296 p22 p21 (k0_pay289 (k0_pay160 p33 (k0_pay156 p32 (k0_pay152 p31 p30))) p20))) p11 p10)) p00)) = dgSum f := by
  subst e30 e31 e32 e33 e20 e21 e22 e23 e10 e11 e12 e13 e00 e01 e02 e03; rfl

/-- Four slabs stored over anything else fill the carried cotangent, slab by slab. -/
theorem canon_scr {f : Fin 4 → S1x128x128.Idx → Elt F .f32} {p3 p2 p1 p0 : S1x128x128.Idx → Elt F .f32}
    (i3 : ∀ a, (![3, 0, 0] : Fin 3 → ℕ) a + S1x128x128.size a ≤ S4x128x128.size a)
    (i2 : ∀ a, (![2, 0, 0] : Fin 3 → ℕ) a + S1x128x128.size a ≤ S4x128x128.size a)
    (i1 : ∀ a, (![1, 0, 0] : Fin 3 → ℕ) a + S1x128x128.size a ≤ S4x128x128.size a)
    (i0 : ∀ a, (![0, 0, 0] : Fin 3 → ℕ) a + S1x128x128.size a ≤ S4x128x128.size a)
    (L : List (View.Piece (Elt F) S4x128x128 .f32)) (y : S4x128x128.Idx) (h : Fin 4) (e d : Fin 128)
    (hy0 : (y 0).val = h.val) (hy1 : (y 1).val = e.val) (hy2 : (y 2).val = d.val)
    (e3 : p3 = f 3) (e2 : p2 = f 2) (e1 : p1 = f 1) (e0 : p0 = f 0) :
    View.canon ((⟨Rect.unit ![3, 0, 0] S1x128x128.size i3, p3⟩ : View.Piece (Elt F) S4x128x128 .f32)
      :: ⟨Rect.unit ![2, 0, 0] S1x128x128.size i2, p2⟩ :: ⟨Rect.unit ![1, 0, 0] S1x128x128.size i1, p1⟩
      :: ⟨Rect.unit ![0, 0, 0] S1x128x128.size i0, p0⟩ :: L) y = f h (ix3 0 e d) := by
  subst e3 e2 e1 e0
  have key : ∀ (H : Fin 4) (inb : ∀ a, (![H.val, 0, 0] : Fin 3 → ℕ) a + S1x128x128.size a ≤ S4x128x128.size a) (x : S1x128x128.Idx),
      f H x = (fun z : S4x128x128.Idx => f (z 0) (ix3 0 (z 1) (z 2))) ((Rect.unit (s := S4x128x128) ![H.val, 0, 0] S1x128x128.size inb).emb x) := by
    intro H inb x
    have x0 : (x 0).val < 1 := (x 0).isLt
    have a0 : ((Rect.unit (s := S4x128x128) ![H.val, 0, 0] S1x128x128.size inb).emb x) 0 = H := Fin.ext (by
      show H.val + 1 * (x 0).val = H.val; omega)
    have a1 : ((Rect.unit (s := S4x128x128) ![H.val, 0, 0] S1x128x128.size inb).emb x) 1 = x 1 := Fin.ext (by
      show 0 + 1 * (x 1).val = (x 1).val; omega)
    have a2 : ((Rect.unit (s := S4x128x128) ![H.val, 0, 0] S1x128x128.size inb).emb x) 2 = x 2 := Fin.ext (by
      show 0 + 1 * (x 2).val = (x 2).val; omega)
    show f H x = f _ (ix3 0 _ _)
    rw [a0, a1, a2]
    congr 1
    funext i
    refine Fin.cases (Fin.ext ?_) (fun j => Fin.cases rfl (fun j => Fin.cases rfl (fun j => j.elim0) j) j) i
    show (x 0).val = 0; omega
  have hy : y = ix3 h e d := by
    funext i
    refine Fin.cases (Fin.ext hy0) (fun j => Fin.cases (Fin.ext hy1) (fun j => Fin.cases (Fin.ext hy2) (fun j => j.elim0) j) j) i
  subst hy
  have mem : ∀ (H : Fin 4) (inb : ∀ a, (![H.val, 0, 0] : Fin 3 → ℕ) a + S1x128x128.size a ≤ S4x128x128.size a),
      (ix3 H e d : S4x128x128.Idx) ∈ (Rect.unit (s := S4x128x128) ![H.val, 0, 0] S1x128x128.size inb).set := by
    intro H inb
    rw [LoadRect.mem_set]
    intro a
    refine Fin.cases ⟨0, Nat.zero_lt_one, ?_⟩ (fun j => Fin.cases ⟨e.val, e.isLt, ?_⟩ (fun j => Fin.cases ⟨d.val, d.isLt, ?_⟩ (fun j => j.elim0) j) j) a
    · show H.val = H.val + 1 * 0; omega
    · show e.val = 0 + 1 * e.val; omega
    · show d.val = 0 + 1 * d.val; omega
  refine (View.canon_append_of_piecesOf (fun z : S4x128x128.Idx => f (z 0) (ix3 0 (z 1) (z 2))) L
    [⟨Rect.unit ![3, 0, 0] S1x128x128.size i3, f 3⟩, ⟨Rect.unit ![2, 0, 0] S1x128x128.size i2, f 2⟩,
      ⟨Rect.unit ![1, 0, 0] S1x128x128.size i1, f 1⟩, ⟨Rect.unit ![0, 0, 0] S1x128x128.size i0, f 0⟩]
    ⟨key 3 i3, key 2 i2, key 1 i1, key 0 i0, trivial⟩ (ix3 h e d) ?_)
  fin_cases h
  · exact ⟨⟨Rect.unit ![0, 0, 0] S1x128x128.size i0, f 0⟩, by simp, mem 0 i0⟩
  · exact ⟨⟨Rect.unit ![1, 0, 0] S1x128x128.size i1, f 1⟩, by simp, mem 1 i1⟩
  · exact ⟨⟨Rect.unit ![2, 0, 0] S1x128x128.size i2, f 2⟩, by simp, mem 2 i2⟩
  · exact ⟨⟨Rect.unit ![3, 0, 0] S1x128x128.size i3, f 3⟩, by simp, mem 3 i3⟩

end Cert.KernelIdeal.KB
-- ==== Proof.KernelA.lean ====
/- What the first grid point leaves in the output blocks and in the carried cotangent: the cotangent starts at zero. -/
module

public import proofs.«01_k».proof.Proof.Gen.KernelIdeal.Frame
public import proofs.«01_k».proof.Proof.KernelBlock
public import Idealize.ShloMosaic.Lib.Pipeline.ValueKit
public import Idealize.ShloMosaic.Lib.Pipeline.ReadBack

@[expose] public section

set_option maxRecDepth 16384

noncomputable section

namespace Cert.KernelIdeal.KA

open Cert.KernelIdeal Cert.KernelIdeal.Gen Idealize.ShloMosaic Idealize.ShloMosaic.TcCoe Idealize.SL.Sem
open Cert.KernelIdeal.KB

variable {F : FTy → Type} [FloatOps F]

/-- What a point leaves of the gradient of the queries, at an index. -/
theorem out_10  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S256x512.Idx) (cc h : Fin 4) (c' : Fin 64) (d : Fin 128)
    (hy0 : (y 0).val = 64 * cc.val + c'.val) (hy1 : (y 1).val = 128 * h.val + d.val) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = KU.dq (uu b k0_pay2 cc h) (ix2 c' d) := by
  frame_out
  canon_tiles x h
  case piece0 =>
    refine pick2 (f := fun C H => KU.dq (uu b k0_pay2 C H)) 0 3 hy0 hy1 (h0.trans (Nat.zero_add _).symm) h1 x0_lt x1_lt ?_
    exact congrFun (KF.dq_0_3 ..) x
  case piece1 =>
    refine pick2 (f := fun C H => KU.dq (uu b k0_pay2 C H)) 0 2 hy0 hy1 (h0.trans (Nat.zero_add _).symm) h1 x0_lt x1_lt ?_
    exact congrFun (KF.dq_0_2 ..) x
  case piece2 =>
    refine pick2 (f := fun C H => KU.dq (uu b k0_pay2 C H)) 0 1 hy0 hy1 (h0.trans (Nat.zero_add _).symm) h1 x0_lt x1_lt ?_
    exact congrFun (KF.dq_0_1 ..) x
  case piece3 =>
    refine pick2 (f := fun C H => KU.dq (uu b k0_pay2 C H)) 0 0 hy0 hy1 (h0.trans (Nat.zero_add _).symm) (h1.trans (Nat.zero_add _).symm) x0_lt x1_lt ?_
    exact congrFun (KF.dq_0_0 ..) x
  case piece4 =>
    refine pick2 (f := fun C H => KU.dq (uu b k0_pay2 C H)) 1 3 hy0 hy1 h0 h1 x0_lt x1_lt ?_
    exact congrFun (KF.dq_1_3 ..) x
  case piece5 =>
    refine pick2 (f := fun C H => KU.dq (uu b k0_pay2 C H)) 1 2 hy0 hy1 h0 h1 x0_lt x1_lt ?_
    exact congrFun (KF.dq_1_2 ..) x
  case piece6 =>
    refine pick2 (f := fun C H => KU.dq (uu b k0_pay2 C H)) 1 1 hy0 hy1 h0 h1 x0_lt x1_lt ?_
    exact congrFun (KF.dq_1_1 ..) x
  case piece7 =>
    refine pick2 (f := fun C H => KU.dq (uu b k0_pay2 C H)) 1 0 hy0 hy1 h0 (h1.trans (Nat.zero_add _).symm) x0_lt x1_lt ?_
    exact congrFun (KF.dq_1_0 ..) x
  case piece8 =>
    refine pick2 (f := fun C H => KU.dq (uu b k0_pay2 C H)) 2 3 hy0 hy1 h0 h1 x0_lt x1_lt ?_
    exact congrFun (KF.dq_2_3 ..) x
  case piece9 =>
    refine pick2 (f := fun C H => KU.dq (uu b k0_pay2 C H)) 2 2 hy0 hy1 h0 h1 x0_lt x1_lt ?_
    exact congrFun (KF.dq_2_2 ..) x
  case piece10 =>
    refine pick2 (f := fun C H => KU.dq (uu b k0_pay2 C H)) 2 1 hy0 hy1 h0 h1 x0_lt x1_lt ?_
    exact congrFun (KF.dq_2_1 ..) x
  case piece11 =>
    refine pick2 (f := fun C H => KU.dq (uu b k0_pay2 C H)) 2 0 hy0 hy1 h0 (h1.trans (Nat.zero_add _).symm) x0_lt x1_lt ?_
    exact congrFun (KF.dq_2_0 ..) x
  case piece12 =>
    refine pick2 (f := fun C H => KU.dq (uu b k0_pay2 C H)) 3 3 hy0 hy1 h0 h1 x0_lt x1_lt ?_
    exact congrFun (KF.dq_3_3 ..) x
  case piece13 =>
    refine pick2 (f := fun C H => KU.dq (uu b k0_pay2 C H)) 3 2 hy0 hy1 h0 h1 x0_lt x1_lt ?_
    exact congrFun (KF.dq_3_2 ..) x
  case piece14 =>
    refine pick2 (f := fun C H => KU.dq (uu b k0_pay2 C H)) 3 1 hy0 hy1 h0 h1 x0_lt x1_lt ?_
    exact congrFun (KF.dq_3_1 ..) x
  case piece15 =>
    refine pick2 (f := fun C H => KU.dq (uu b k0_pay2 C H)) 3 0 hy0 hy1 h0 (h1.trans (Nat.zero_add _).symm) x0_lt x1_lt ?_
    exact congrFun (KF.dq_3_0 ..) x

/-- What a point leaves of the gradient of the keys, at an index. -/
theorem out_11  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S256x512.Idx) (cc h : Fin 4) (c' : Fin 64) (d : Fin 128)
    (hy0 : (y 0).val = 64 * cc.val + c'.val) (hy1 : (y 1).val = 128 * h.val + d.val) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = KU.dk (uu b k0_pay2 cc h) (ix2 c' d) := by
  frame_out
  simp (disch := decide) only [↓ View.readCov_fill]
  canon_tiles x h
  case piece0 =>
    refine pick2 (f := fun C H => KU.dk (uu b k0_pay2 C H)) 0 3 hy0 hy1 (h0.trans (Nat.zero_add _).symm) h1 x0_lt x1_lt ?_
    simp only [KF.dS_3_3, KF.dS_2_3, KF.dS_1_3]
    exact congrFun (KF.dk_0_3 ..) x
  case piece1 =>
    refine pick2 (f := fun C H => KU.dk (uu b k0_pay2 C H)) 0 2 hy0 hy1 (h0.trans (Nat.zero_add _).symm) h1 x0_lt x1_lt ?_
    simp only [KF.dS_3_2, KF.dS_2_2, KF.dS_1_2]
    exact congrFun (KF.dk_0_2 ..) x
  case piece2 =>
    refine pick2 (f := fun C H => KU.dk (uu b k0_pay2 C H)) 0 1 hy0 hy1 (h0.trans (Nat.zero_add _).symm) h1 x0_lt x1_lt ?_
    simp only [KF.dS_3_1, KF.dS_2_1, KF.dS_1_1]
    exact congrFun (KF.dk_0_1 ..) x
  case piece3 =>
    refine pick2 (f := fun C H => KU.dk (uu b k0_pay2 C H)) 0 0 hy0 hy1 (h0.trans (Nat.zero_add _).symm) (h1.trans (Nat.zero_add _).symm) x0_lt x1_lt ?_
    simp only [KF.dS_3_0, KF.dS_2_0, KF.dS_1_0]
    exact congrFun (KF.dk_0_0 ..) x
  case piece4 =>
    refine pick2 (f := fun C H => KU.dk (uu b k0_pay2 C H)) 1 3 hy0 hy1 h0 h1 x0_lt x1_lt ?_
    simp only [KF.dS_3_3, KF.dS_2_3]
    exact congrFun (KF.dk_1_3 ..) x
  case piece5 =>
    refine pick2 (f := fun C H => KU.dk (uu b k0_pay2 C H)) 1 2 hy0 hy1 h0 h1 x0_lt x1_lt ?_
    simp only [KF.dS_3_2, KF.dS_2_2]
    exact congrFun (KF.dk_1_2 ..) x
  case piece6 =>
    refine pick2 (f := fun C H => KU.dk (uu b k0_pay2 C H)) 1 1 hy0 hy1 h0 h1 x0_lt x1_lt ?_
    simp only [KF.dS_3_1, KF.dS_2_1]
    exact congrFun (KF.dk_1_1 ..) x
  case piece7 =>
    refine pick2 (f := fun C H => KU.dk (uu b k0_pay2 C H)) 1 0 hy0 hy1 h0 (h1.trans (Nat.zero_add _).symm) x0_lt x1_lt ?_
    simp only [KF.dS_3_0, KF.dS_2_0]
    exact congrFun (KF.dk_1_0 ..) x
  case piece8 =>
    refine pick2 (f := fun C H => KU.dk (uu b k0_pay2 C H)) 2 3 hy0 hy1 h0 h1 x0_lt x1_lt ?_
    simp only [KF.dS_3_3]
    exact congrFun (KF.dk_2_3 ..) x
  case piece9 =>
    refine pick2 (f := fun C H => KU.dk (uu b k0_pay2 C H)) 2 2 hy0 hy1 h0 h1 x0_lt x1_lt ?_
    simp only [KF.dS_3_2]
    exact congrFun (KF.dk_2_2 ..) x
  case piece10 =>
    refine pick2 (f := fun C H => KU.dk (uu b k0_pay2 C H)) 2 1 hy0 hy1 h0 h1 x0_lt x1_lt ?_
    simp only [KF.dS_3_1]
    exact congrFun (KF.dk_2_1 ..) x
  case piece11 =>
    refine pick2 (f := fun C H => KU.dk (uu b k0_pay2 C H)) 2 0 hy0 hy1 h0 (h1.trans (Nat.zero_add _).symm) x0_lt x1_lt ?_
    simp only [KF.dS_3_0]
    exact congrFun (KF.dk_2_0 ..) x
  case piece12 =>
    refine pick2 (f := fun C H => KU.dk (uu b k0_pay2 C H)) 3 3 hy0 hy1 h0 h1 x0_lt x1_lt ?_
    exact congrFun (KF.dk_3_3 ..) x
  case piece13 =>
    refine pick2 (f := fun C H => KU.dk (uu b k0_pay2 C H)) 3 2 hy0 hy1 h0 h1 x0_lt x1_lt ?_
    exact congrFun (KF.dk_3_2 ..) x
  case piece14 =>
    refine pick2 (f := fun C H => KU.dk (uu b k0_pay2 C H)) 3 1 hy0 hy1 h0 h1 x0_lt x1_lt ?_
    exact congrFun (KF.dk_3_1 ..) x
  case piece15 =>
    refine pick2 (f := fun C H => KU.dk (uu b k0_pay2 C H)) 3 0 hy0 hy1 h0 (h1.trans (Nat.zero_add _).symm) x0_lt x1_lt ?_
    exact congrFun (KF.dk_3_0 ..) x

/-- What a point leaves of the gradient of the values, at an index. -/
theorem out_12  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S256x512.Idx) (cc h : Fin 4) (c' : Fin 64) (d : Fin 128)
    (hy0 : (y 0).val = 64 * cc.val + c'.val) (hy1 : (y 1).val = 128 * h.val + d.val) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = KU.du (uu b k0_pay2 cc h) (ix2 c' d) := by
  frame_out
  simp (disch := decide) only [↓ View.readCov_fill]
  canon_tiles x h
  case piece0 =>
    refine pick2 (f := fun C H => KU.du (uu b k0_pay2 C H)) 0 3 hy0 hy1 (h0.trans (Nat.zero_add _).symm) h1 x0_lt x1_lt ?_
    simp only [KF.dS_3_3, KF.dS_2_3, KF.dS_1_3]
    exact congrFun (KF.du_0_3 ..) x
  case piece1 =>
    refine pick2 (f := fun C H => KU.du (uu b k0_pay2 C H)) 0 2 hy0 hy1 (h0.trans (Nat.zero_add _).symm) h1 x0_lt x1_lt ?_
    simp only [KF.dS_3_2, KF.dS_2_2, KF.dS_1_2]
    exact congrFun (KF.du_0_2 ..) x
  case piece2 =>
    refine pick2 (f := fun C H => KU.du (uu b k0_pay2 C H)) 0 1 hy0 hy1 (h0.trans (Nat.zero_add _).symm) h1 x0_lt x1_lt ?_
    simp only [KF.dS_3_1, KF.dS_2_1, KF.dS_1_1]
    exact congrFun (KF.du_0_1 ..) x
  case piece3 =>
    refine pick2 (f := fun C H => KU.du (uu b k0_pay2 C H)) 0 0 hy0 hy1 (h0.trans (Nat.zero_add _).symm) (h1.trans (Nat.zero_add _).symm) x0_lt x1_lt ?_
    simp only [KF.dS_3_0, KF.dS_2_0, KF.dS_1_0]
    exact congrFun (KF.du_0_0 ..) x
  case piece4 =>
    refine pick2 (f := fun C H => KU.du (uu b k0_pay2 C H)) 1 3 hy0 hy1 h0 h1 x0_lt x1_lt ?_
    simp only [KF.dS_3_3, KF.dS_2_3]
    exact congrFun (KF.du_1_3 ..) x
  case piece5 =>
    refine pick2 (f := fun C H => KU.du (uu b k0_pay2 C H)) 1 2 hy0 hy1 h0 h1 x0_lt x1_lt ?_
    simp only [KF.dS_3_2, KF.dS_2_2]
    exact congrFun (KF.du_1_2 ..) x
  case piece6 =>
    refine pick2 (f := fun C H => KU.du (uu b k0_pay2 C H)) 1 1 hy0 hy1 h0 h1 x0_lt x1_lt ?_
    simp only [KF.dS_3_1, KF.dS_2_1]
    exact congrFun (KF.du_1_1 ..) x
  case piece7 =>
    refine pick2 (f := fun C H => KU.du (uu b k0_pay2 C H)) 1 0 hy0 hy1 h0 (h1.trans (Nat.zero_add _).symm) x0_lt x1_lt ?_
    simp only [KF.dS_3_0, KF.dS_2_0]
    exact congrFun (KF.du_1_0 ..) x
  case piece8 =>
    refine pick2 (f := fun C H => KU.du (uu b k0_pay2 C H)) 2 3 hy0 hy1 h0 h1 x0_lt x1_lt ?_
    simp only [KF.dS_3_3]
    exact congrFun (KF.du_2_3 ..) x
  case piece9 =>
    refine pick2 (f := fun C H => KU.du (uu b k0_pay2 C H)) 2 2 hy0 hy1 h0 h1 x0_lt x1_lt ?_
    simp only [KF.dS_3_2]
    exact congrFun (KF.du_2_2 ..) x
  case piece10 =>
    refine pick2 (f := fun C H => KU.du (uu b k0_pay2 C H)) 2 1 hy0 hy1 h0 h1 x0_lt x1_lt ?_
    simp only [KF.dS_3_1]
    exact congrFun (KF.du_2_1 ..) x
  case piece11 =>
    refine pick2 (f := fun C H => KU.du (uu b k0_pay2 C H)) 2 0 hy0 hy1 h0 (h1.trans (Nat.zero_add _).symm) x0_lt x1_lt ?_
    simp only [KF.dS_3_0]
    exact congrFun (KF.du_2_0 ..) x
  case piece12 =>
    refine pick2 (f := fun C H => KU.du (uu b k0_pay2 C H)) 3 3 hy0 hy1 h0 h1 x0_lt x1_lt ?_
    exact congrFun (KF.du_3_3 ..) x
  case piece13 =>
    refine pick2 (f := fun C H => KU.du (uu b k0_pay2 C H)) 3 2 hy0 hy1 h0 h1 x0_lt x1_lt ?_
    exact congrFun (KF.du_3_2 ..) x
  case piece14 =>
    refine pick2 (f := fun C H => KU.du (uu b k0_pay2 C H)) 3 1 hy0 hy1 h0 h1 x0_lt x1_lt ?_
    exact congrFun (KF.du_3_1 ..) x
  case piece15 =>
    refine pick2 (f := fun C H => KU.du (uu b k0_pay2 C H)) 3 0 hy0 hy1 h0 (h1.trans (Nat.zero_add _).symm) x0_lt x1_lt ?_
    exact congrFun (KF.du_3_0 ..) x

/-- What a point leaves of the gradient of the key sums, at an index. -/
theorem out_13  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S256x512.Idx) (cc h : Fin 4) (c' : Fin 64) (d : Fin 128)
    (hy0 : (y 0).val = 64 * cc.val + c'.val) (hy1 : (y 1).val = 128 * h.val + d.val) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = KU.dw (uu b k0_pay2 cc h) (ix2 c' d) := by
  frame_out
  simp (disch := decide) only [↓ View.readCov_fill]
  canon_tiles x h
  case piece0 =>
    refine pick2 (f := fun C H => KU.dw (uu b k0_pay2 C H)) 0 3 hy0 hy1 (h0.trans (Nat.zero_add _).symm) h1 x0_lt x1_lt ?_
    simp only [KF.dS_3_3, KF.dS_2_3, KF.dS_1_3]
    exact congrFun (KF.dw_0_3 ..) x
  case piece1 =>
    refine pick2 (f := fun C H => KU.dw (uu b k0_pay2 C H)) 0 2 hy0 hy1 (h0.trans (Nat.zero_add _).symm) h1 x0_lt x1_lt ?_
    simp only [KF.dS_3_2, KF.dS_2_2, KF.dS_1_2]
    exact congrFun (KF.dw_0_2 ..) x
  case piece2 =>
    refine pick2 (f := fun C H => KU.dw (uu b k0_pay2 C H)) 0 1 hy0 hy1 (h0.trans (Nat.zero_add _).symm) h1 x0_lt x1_lt ?_
    simp only [KF.dS_3_1, KF.dS_2_1, KF.dS_1_1]
    exact congrFun (KF.dw_0_1 ..) x
  case piece3 =>
    refine pick2 (f := fun C H => KU.dw (uu b k0_pay2 C H)) 0 0 hy0 hy1 (h0.trans (Nat.zero_add _).symm) (h1.trans (Nat.zero_add _).symm) x0_lt x1_lt ?_
    simp only [KF.dS_3_0, KF.dS_2_0, KF.dS_1_0]
    exact congrFun (KF.dw_0_0 ..) x
  case piece4 =>
    refine pick2 (f := fun C H => KU.dw (uu b k0_pay2 C H)) 1 3 hy0 hy1 h0 h1 x0_lt x1_lt ?_
    simp only [KF.dS_3_3, KF.dS_2_3]
    exact congrFun (KF.dw_1_3 ..) x
  case piece5 =>
    refine pick2 (f := fun C H => KU.dw (uu b k0_pay2 C H)) 1 2 hy0 hy1 h0 h1 x0_lt x1_lt ?_
    simp only [KF.dS_3_2, KF.dS_2_2]
    exact congrFun (KF.dw_1_2 ..) x
  case piece6 =>
    refine pick2 (f := fun C H => KU.dw (uu b k0_pay2 C H)) 1 1 hy0 hy1 h0 h1 x0_lt x1_lt ?_
    simp only [KF.dS_3_1, KF.dS_2_1]
    exact congrFun (KF.dw_1_1 ..) x
  case piece7 =>
    refine pick2 (f := fun C H => KU.dw (uu b k0_pay2 C H)) 1 0 hy0 hy1 h0 (h1.trans (Nat.zero_add _).symm) x0_lt x1_lt ?_
    simp only [KF.dS_3_0, KF.dS_2_0]
    exact congrFun (KF.dw_1_0 ..) x
  case piece8 =>
    refine pick2 (f := fun C H => KU.dw (uu b k0_pay2 C H)) 2 3 hy0 hy1 h0 h1 x0_lt x1_lt ?_
    simp only [KF.dS_3_3]
    exact congrFun (KF.dw_2_3 ..) x
  case piece9 =>
    refine pick2 (f := fun C H => KU.dw (uu b k0_pay2 C H)) 2 2 hy0 hy1 h0 h1 x0_lt x1_lt ?_
    simp only [KF.dS_3_2]
    exact congrFun (KF.dw_2_2 ..) x
  case piece10 =>
    refine pick2 (f := fun C H => KU.dw (uu b k0_pay2 C H)) 2 1 hy0 hy1 h0 h1 x0_lt x1_lt ?_
    simp only [KF.dS_3_1]
    exact congrFun (KF.dw_2_1 ..) x
  case piece11 =>
    refine pick2 (f := fun C H => KU.dw (uu b k0_pay2 C H)) 2 0 hy0 hy1 h0 (h1.trans (Nat.zero_add _).symm) x0_lt x1_lt ?_
    simp only [KF.dS_3_0]
    exact congrFun (KF.dw_2_0 ..) x
  case piece12 =>
    refine pick2 (f := fun C H => KU.dw (uu b k0_pay2 C H)) 3 3 hy0 hy1 h0 h1 x0_lt x1_lt ?_
    exact congrFun (KF.dw_3_3 ..) x
  case piece13 =>
    refine pick2 (f := fun C H => KU.dw (uu b k0_pay2 C H)) 3 2 hy0 hy1 h0 h1 x0_lt x1_lt ?_
    exact congrFun (KF.dw_3_2 ..) x
  case piece14 =>
    refine pick2 (f := fun C H => KU.dw (uu b k0_pay2 C H)) 3 1 hy0 hy1 h0 h1 x0_lt x1_lt ?_
    exact congrFun (KF.dw_3_1 ..) x
  case piece15 =>
    refine pick2 (f := fun C H => KU.dw (uu b k0_pay2 C H)) 3 0 hy0 hy1 h0 (h1.trans (Nat.zero_add _).symm) x0_lt x1_lt ?_
    exact congrFun (KF.dw_3_0 ..) x

/-- What a point leaves of the gradient of the attention weights, at an index. -/
theorem out_14  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S4x256x64.Idx) (cc h : Fin 4) (c' s : Fin 64)
    (hy0 : (y 0).val = h.val) (hy1 : (y 1).val = 64 * cc.val + c'.val) (hy2 : (y 2).val = s.val) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = shapeCast S1x64x64 (KU.da (uu b k0_pay2 cc h)) shapeCasts_S64x64_S1x64x64 (ix3 0 c' s) := by
  frame_out
  canon_tiles x h
  case piece0 =>
    refine pick3a (f := fun C H => shapeCast S1x64x64 (KU.da (uu b k0_pay2 C H)) shapeCasts_S64x64_S1x64x64) 0 3 hy0 hy1 hy2 h0 (h1.trans (Nat.zero_add _).symm) h2 x0_lt x1_lt ?_
    exact congrFun (KF.da_0_3 ..) x
  case piece1 =>
    refine pick3a (f := fun C H => shapeCast S1x64x64 (KU.da (uu b k0_pay2 C H)) shapeCasts_S64x64_S1x64x64) 0 2 hy0 hy1 hy2 h0 (h1.trans (Nat.zero_add _).symm) h2 x0_lt x1_lt ?_
    exact congrFun (KF.da_0_2 ..) x
  case piece2 =>
    refine pick3a (f := fun C H => shapeCast S1x64x64 (KU.da (uu b k0_pay2 C H)) shapeCasts_S64x64_S1x64x64) 0 1 hy0 hy1 hy2 h0 (h1.trans (Nat.zero_add _).symm) h2 x0_lt x1_lt ?_
    exact congrFun (KF.da_0_1 ..) x
  case piece3 =>
    refine pick3a (f := fun C H => shapeCast S1x64x64 (KU.da (uu b k0_pay2 C H)) shapeCasts_S64x64_S1x64x64) 0 0 hy0 hy1 hy2 (h0.trans (Nat.zero_add _).symm) (h1.trans (Nat.zero_add _).symm) h2 x0_lt x1_lt ?_
    exact congrFun (KF.da_0_0 ..) x
  case piece4 =>
    refine pick3a (f := fun C H => shapeCast S1x64x64 (KU.da (uu b k0_pay2 C H)) shapeCasts_S64x64_S1x64x64) 1 3 hy0 hy1 hy2 h0 h1 h2 x0_lt x1_lt ?_
    exact congrFun (KF.da_1_3 ..) x
  case piece5 =>
    refine pick3a (f := fun C H => shapeCast S1x64x64 (KU.da (uu b k0_pay2 C H)) shapeCasts_S64x64_S1x64x64) 1 2 hy0 hy1 hy2 h0 h1 h2 x0_lt x1_lt ?_
    exact congrFun (KF.da_1_2 ..) x
  case piece6 =>
    refine pick3a (f := fun C H => shapeCast S1x64x64 (KU.da (uu b k0_pay2 C H)) shapeCasts_S64x64_S1x64x64) 1 1 hy0 hy1 hy2 h0 h1 h2 x0_lt x1_lt ?_
    exact congrFun (KF.da_1_1 ..) x
  case piece7 =>
    refine pick3a (f := fun C H => shapeCast S1x64x64 (KU.da (uu b k0_pay2 C H)) shapeCasts_S64x64_S1x64x64) 1 0 hy0 hy1 hy2 (h0.trans (Nat.zero_add _).symm) h1 h2 x0_lt x1_lt ?_
    exact congrFun (KF.da_1_0 ..) x
  case piece8 =>
    refine pick3a (f := fun C H => shapeCast S1x64x64 (KU.da (uu b k0_pay2 C H)) shapeCasts_S64x64_S1x64x64) 2 3 hy0 hy1 hy2 h0 h1 h2 x0_lt x1_lt ?_
    exact congrFun (KF.da_2_3 ..) x
  case piece9 =>
    refine pick3a (f := fun C H => shapeCast S1x64x64 (KU.da (uu b k0_pay2 C H)) shapeCasts_S64x64_S1x64x64) 2 2 hy0 hy1 hy2 h0 h1 h2 x0_lt x1_lt ?_
    exact congrFun (KF.da_2_2 ..) x
  case piece10 =>
    refine pick3a (f := fun C H => shapeCast S1x64x64 (KU.da (uu b k0_pay2 C H)) shapeCasts_S64x64_S1x64x64) 2 1 hy0 hy1 hy2 h0 h1 h2 x0_lt x1_lt ?_
    exact congrFun (KF.da_2_1 ..) x
  case piece11 =>
    refine pick3a (f := fun C H => shapeCast S1x64x64 (KU.da (uu b k0_pay2 C H)) shapeCasts_S64x64_S1x64x64) 2 0 hy0 hy1 hy2 (h0.trans (Nat.zero_add _).symm) h1 h2 x0_lt x1_lt ?_
    exact congrFun (KF.da_2_0 ..) x
  case piece12 =>
    refine pick3a (f := fun C H => shapeCast S1x64x64 (KU.da (uu b k0_pay2 C H)) shapeCasts_S64x64_S1x64x64) 3 3 hy0 hy1 hy2 h0 h1 h2 x0_lt x1_lt ?_
    exact congrFun (KF.da_3_3 ..) x
  case piece13 =>
    refine pick3a (f := fun C H => shapeCast S1x64x64 (KU.da (uu b k0_pay2 C H)) shapeCasts_S64x64_S1x64x64) 3 2 hy0 hy1 hy2 h0 h1 h2 x0_lt x1_lt ?_
    exact congrFun (KF.da_3_2 ..) x
  case piece14 =>
    refine pick3a (f := fun C H => shapeCast S1x64x64 (KU.da (uu b k0_pay2 C H)) shapeCasts_S64x64_S1x64x64) 3 1 hy0 hy1 hy2 h0 h1 h2 x0_lt x1_lt ?_
    exact congrFun (KF.da_3_1 ..) x
  case piece15 =>
    refine pick3a (f := fun C H => shapeCast S1x64x64 (KU.da (uu b k0_pay2 C H)) shapeCasts_S64x64_S1x64x64) 3 0 hy0 hy1 hy2 (h0.trans (Nat.zero_add _).symm) h1 h2 x0_lt x1_lt ?_
    exact congrFun (KF.da_3_0 ..) x

/-- What a point leaves of the gradient of the decays, at an index. -/
theorem out_15  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S4x4x128.Idx) (cc h : Fin 4) (d : Fin 128)
    (hy0 : (y 0).val = cc.val) (hy1 : (y 1).val = h.val) (hy2 : (y 2).val = d.val) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = shapeCast S1x1x128 (KU.de (uu b k0_pay2 cc h)) shapeCasts_S1x128_S1x1x128 (ix3 0 0 d) := by
  frame_out
  simp (disch := decide) only [↓ View.readCov_fill]
  canon_tiles x h
  case piece0 =>
    refine pick3e (f := fun C H => shapeCast S1x1x128 (KU.de (uu b k0_pay2 C H)) shapeCasts_S1x128_S1x1x128) 0 3 hy0 hy1 hy2 (h0.trans (Nat.zero_add _).symm) h1 h2 x0_lt x1_lt ?_
    simp only [KF.dS_3_3, KF.dS_2_3, KF.dS_1_3]
    exact congrFun (KF.de_0_3 ..) x
  case piece1 =>
    refine pick3e (f := fun C H => shapeCast S1x1x128 (KU.de (uu b k0_pay2 C H)) shapeCasts_S1x128_S1x1x128) 0 2 hy0 hy1 hy2 (h0.trans (Nat.zero_add _).symm) h1 h2 x0_lt x1_lt ?_
    simp only [KF.dS_3_2, KF.dS_2_2, KF.dS_1_2]
    exact congrFun (KF.de_0_2 ..) x
  case piece2 =>
    refine pick3e (f := fun C H => shapeCast S1x1x128 (KU.de (uu b k0_pay2 C H)) shapeCasts_S1x128_S1x1x128) 0 1 hy0 hy1 hy2 (h0.trans (Nat.zero_add _).symm) h1 h2 x0_lt x1_lt ?_
    simp only [KF.dS_3_1, KF.dS_2_1, KF.dS_1_1]
    exact congrFun (KF.de_0_1 ..) x
  case piece3 =>
    refine pick3e (f := fun C H => shapeCast S1x1x128 (KU.de (uu b k0_pay2 C H)) shapeCasts_S1x128_S1x1x128) 0 0 hy0 hy1 hy2 (h0.trans (Nat.zero_add _).symm) (h1.trans (Nat.zero_add _).symm) h2 x0_lt x1_lt ?_
    simp only [KF.dS_3_0, KF.dS_2_0, KF.dS_1_0]
    exact congrFun (KF.de_0_0 ..) x
  case piece4 =>
    refine pick3e (f := fun C H => shapeCast S1x1x128 (KU.de (uu b k0_pay2 C H)) shapeCasts_S1x128_S1x1x128) 1 3 hy0 hy1 hy2 h0 h1 h2 x0_lt x1_lt ?_
    simp only [KF.dS_3_3, KF.dS_2_3]
    exact congrFun (KF.de_1_3 ..) x
  case piece5 =>
    refine pick3e (f := fun C H => shapeCast S1x1x128 (KU.de (uu b k0_pay2 C H)) shapeCasts_S1x128_S1x1x128) 1 2 hy0 hy1 hy2 h0 h1 h2 x0_lt x1_lt ?_
    simp only [KF.dS_3_2, KF.dS_2_2]
    exact congrFun (KF.de_1_2 ..) x
  case piece6 =>
    refine pick3e (f := fun C H => shapeCast S1x1x128 (KU.de (uu b k0_pay2 C H)) shapeCasts_S1x128_S1x1x128) 1 1 hy0 hy1 hy2 h0 h1 h2 x0_lt x1_lt ?_
    simp only [KF.dS_3_1, KF.dS_2_1]
    exact congrFun (KF.de_1_1 ..) x
  case piece7 =>
    refine pick3e (f := fun C H => shapeCast S1x1x128 (KU.de (uu b k0_pay2 C H)) shapeCasts_S1x128_S1x1x128) 1 0 hy0 hy1 hy2 h0 (h1.trans (Nat.zero_add _).symm) h2 x0_lt x1_lt ?_
    simp only [KF.dS_3_0, KF.dS_2_0]
    exact congrFun (KF.de_1_0 ..) x
  case piece8 =>
    refine pick3e (f := fun C H => shapeCast S1x1x128 (KU.de (uu b k0_pay2 C H)) shapeCasts_S1x128_S1x1x128) 2 3 hy0 hy1 hy2 h0 h1 h2 x0_lt x1_lt ?_
    simp only [KF.dS_3_3]
    exact congrFun (KF.de_2_3 ..) x
  case piece9 =>
    refine pick3e (f := fun C H => shapeCast S1x1x128 (KU.de (uu b k0_pay2 C H)) shapeCasts_S1x128_S1x1x128) 2 2 hy0 hy1 hy2 h0 h1 h2 x0_lt x1_lt ?_
    simp only [KF.dS_3_2]
    exact congrFun (KF.de_2_2 ..) x
  case piece10 =>
    refine pick3e (f := fun C H => shapeCast S1x1x128 (KU.de (uu b k0_pay2 C H)) shapeCasts_S1x128_S1x1x128) 2 1 hy0 hy1 hy2 h0 h1 h2 x0_lt x1_lt ?_
    simp only [KF.dS_3_1]
    exact congrFun (KF.de_2_1 ..) x
  case piece11 =>
    refine pick3e (f := fun C H => shapeCast S1x1x128 (KU.de (uu b k0_pay2 C H)) shapeCasts_S1x128_S1x1x128) 2 0 hy0 hy1 hy2 h0 (h1.trans (Nat.zero_add _).symm) h2 x0_lt x1_lt ?_
    simp only [KF.dS_3_0]
    exact congrFun (KF.de_2_0 ..) x
  case piece12 =>
    refine pick3e (f := fun C H => shapeCast S1x1x128 (KU.de (uu b k0_pay2 C H)) shapeCasts_S1x128_S1x1x128) 3 3 hy0 hy1 hy2 h0 h1 h2 x0_lt x1_lt ?_
    exact congrFun (KF.de_3_3 ..) x
  case piece13 =>
    refine pick3e (f := fun C H => shapeCast S1x1x128 (KU.de (uu b k0_pay2 C H)) shapeCasts_S1x128_S1x1x128) 3 2 hy0 hy1 hy2 h0 h1 h2 x0_lt x1_lt ?_
    exact congrFun (KF.de_3_2 ..) x
  case piece14 =>
    refine pick3e (f := fun C H => shapeCast S1x1x128 (KU.de (uu b k0_pay2 C H)) shapeCasts_S1x128_S1x1x128) 3 1 hy0 hy1 hy2 h0 h1 h2 x0_lt x1_lt ?_
    exact congrFun (KF.de_3_1 ..) x
  case piece15 =>
    refine pick3e (f := fun C H => shapeCast S1x1x128 (KU.de (uu b k0_pay2 C H)) shapeCasts_S1x128_S1x1x128) 3 0 hy0 hy1 hy2 h0 (h1.trans (Nat.zero_add _).symm) h2 x0_lt x1_lt ?_
    exact congrFun (KF.de_3_0 ..) x

/-- What a point leaves of the gradient of the output gate, at an index. -/
theorem out_16  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S256x512.Idx) (cc h : Fin 4) (c' : Fin 64) (d : Fin 128)
    (hy0 : (y 0).val = 64 * cc.val + c'.val) (hy1 : (y 1).val = 128 * h.val + d.val) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = truncf .bf16 (KU.dz (uu b k0_pay2 cc h)) bitsLt_bf16_f32 (ix2 c' d) := by
  frame_out
  canon_tiles x h
  case piece0 =>
    refine pick2 (f := fun C H => truncf .bf16 (KU.dz (uu b k0_pay2 C H)) bitsLt_bf16_f32) 0 3 hy0 hy1 (h0.trans (Nat.zero_add _).symm) h1 x0_lt x1_lt ?_
    exact congrFun (KF.dz_0_3 ..) x
  case piece1 =>
    refine pick2 (f := fun C H => truncf .bf16 (KU.dz (uu b k0_pay2 C H)) bitsLt_bf16_f32) 0 2 hy0 hy1 (h0.trans (Nat.zero_add _).symm) h1 x0_lt x1_lt ?_
    exact congrFun (KF.dz_0_2 ..) x
  case piece2 =>
    refine pick2 (f := fun C H => truncf .bf16 (KU.dz (uu b k0_pay2 C H)) bitsLt_bf16_f32) 0 1 hy0 hy1 (h0.trans (Nat.zero_add _).symm) h1 x0_lt x1_lt ?_
    exact congrFun (KF.dz_0_1 ..) x
  case piece3 =>
    refine pick2 (f := fun C H => truncf .bf16 (KU.dz (uu b k0_pay2 C H)) bitsLt_bf16_f32) 0 0 hy0 hy1 (h0.trans (Nat.zero_add _).symm) (h1.trans (Nat.zero_add _).symm) x0_lt x1_lt ?_
    exact congrFun (KF.dz_0_0 ..) x
  case piece4 =>
    refine pick2 (f := fun C H => truncf .bf16 (KU.dz (uu b k0_pay2 C H)) bitsLt_bf16_f32) 1 3 hy0 hy1 h0 h1 x0_lt x1_lt ?_
    exact congrFun (KF.dz_1_3 ..) x
  case piece5 =>
    refine pick2 (f := fun C H => truncf .bf16 (KU.dz (uu b k0_pay2 C H)) bitsLt_bf16_f32) 1 2 hy0 hy1 h0 h1 x0_lt x1_lt ?_
    exact congrFun (KF.dz_1_2 ..) x
  case piece6 =>
    refine pick2 (f := fun C H => truncf .bf16 (KU.dz (uu b k0_pay2 C H)) bitsLt_bf16_f32) 1 1 hy0 hy1 h0 h1 x0_lt x1_lt ?_
    exact congrFun (KF.dz_1_1 ..) x
  case piece7 =>
    refine pick2 (f := fun C H => truncf .bf16 (KU.dz (uu b k0_pay2 C H)) bitsLt_bf16_f32) 1 0 hy0 hy1 h0 (h1.trans (Nat.zero_add _).symm) x0_lt x1_lt ?_
    exact congrFun (KF.dz_1_0 ..) x
  case piece8 =>
    refine pick2 (f := fun C H => truncf .bf16 (KU.dz (uu b k0_pay2 C H)) bitsLt_bf16_f32) 2 3 hy0 hy1 h0 h1 x0_lt x1_lt ?_
    exact congrFun (KF.dz_2_3 ..) x
  case piece9 =>
    refine pick2 (f := fun C H => truncf .bf16 (KU.dz (uu b k0_pay2 C H)) bitsLt_bf16_f32) 2 2 hy0 hy1 h0 h1 x0_lt x1_lt ?_
    exact congrFun (KF.dz_2_2 ..) x
  case piece10 =>
    refine pick2 (f := fun C H => truncf .bf16 (KU.dz (uu b k0_pay2 C H)) bitsLt_bf16_f32) 2 1 hy0 hy1 h0 h1 x0_lt x1_lt ?_
    exact congrFun (KF.dz_2_1 ..) x
  case piece11 =>
    refine pick2 (f := fun C H => truncf .bf16 (KU.dz (uu b k0_pay2 C H)) bitsLt_bf16_f32) 2 0 hy0 hy1 h0 (h1.trans (Nat.zero_add _).symm) x0_lt x1_lt ?_
    exact congrFun (KF.dz_2_0 ..) x
  case piece12 =>
    refine pick2 (f := fun C H => truncf .bf16 (KU.dz (uu b k0_pay2 C H)) bitsLt_bf16_f32) 3 3 hy0 hy1 h0 h1 x0_lt x1_lt ?_
    exact congrFun (KF.dz_3_3 ..) x
  case piece13 =>
    refine pick2 (f := fun C H => truncf .bf16 (KU.dz (uu b k0_pay2 C H)) bitsLt_bf16_f32) 3 2 hy0 hy1 h0 h1 x0_lt x1_lt ?_
    exact congrFun (KF.dz_3_2 ..) x
  case piece14 =>
    refine pick2 (f := fun C H => truncf .bf16 (KU.dz (uu b k0_pay2 C H)) bitsLt_bf16_f32) 3 1 hy0 hy1 h0 h1 x0_lt x1_lt ?_
    exact congrFun (KF.dz_3_1 ..) x
  case piece15 =>
    refine pick2 (f := fun C H => truncf .bf16 (KU.dz (uu b k0_pay2 C H)) bitsLt_bf16_f32) 3 0 hy0 hy1 h0 (h1.trans (Nat.zero_add _).symm) x0_lt x1_lt ?_
    exact congrFun (KF.dz_3_0 ..) x

/-- What a point hands on: the cotangent of the state before its first chunk. -/
theorem scr  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S4x128x128.Idx) (h : Fin 4) (e d : Fin 128)
    (hy0 : (y 0).val = h.val) (hy1 : (y 1).val = e.val) (hy2 : (y 2).val = d.val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = shapeCast S1x128x128 (KU.dS' (u0 b k0_pay2 h)) shapeCasts_S128x128_S1x128x128 (ix3 0 e d) := by
  frame_out
  simp (disch := decide) only [↓ View.readCov_fill]

  refine canon_scr (f := fun H => shapeCast S1x128x128 (KU.dS' (u0 b k0_pay2 H)) shapeCasts_S128x128_S1x128x128) _ _ _ _ _ y h e d hy0 hy1 hy2 ?_ ?_ ?_ ?_
  · simp only [KF.dS_3_3, KF.dS_2_3, KF.dS_1_3, KF.dS_0_3]
    rfl
  · simp only [KF.dS_3_2, KF.dS_2_2, KF.dS_1_2, KF.dS_0_2]
    rfl
  · simp only [KF.dS_3_1, KF.dS_2_1, KF.dS_1_1, KF.dS_0_1]
    rfl
  · simp only [KF.dS_3_0, KF.dS_2_0, KF.dS_1_0, KF.dS_0_0]
    rfl

/-- What a point leaves of the gradient of the norm's weight. -/
theorem out_17  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : cond0_0 i) (hc1 : cond0_1 i) (hc2 : ¬cond0_2 i)
    (b : Blk F) (y : S1x128.Idx) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 y = dgSum (fun cc h => KU.dg (uu b k0_pay2 cc h)) y := by
  frame_out
  exact congrFun (dgSum_of (f := fun cc h => KU.dg (uu b k0_pay2 cc h))
      (KF.dg_3_0 ..) (KF.dg_3_1 ..) (KF.dg_3_2 ..) (KF.dg_3_3 ..) (KF.dg_2_0 ..) (KF.dg_2_1 ..) (KF.dg_2_2 ..) (KF.dg_2_3 ..) (KF.dg_1_0 ..) (KF.dg_1_1 ..) (KF.dg_1_2 ..) (KF.dg_1_3 ..) (KF.dg_0_0 ..) (KF.dg_0_1 ..) (KF.dg_0_2 ..) (KF.dg_0_3 ..)) y

end Cert.KernelIdeal.KA
-- ==== Proof.KernelB.lean ====
/- What a grid point after the first leaves in the output blocks and in the carried cotangent. -/
module

public import proofs.«01_k».proof.Proof.Gen.KernelIdeal.Frame
public import proofs.«01_k».proof.Proof.KernelBlock
public import Idealize.ShloMosaic.Lib.Pipeline.ValueKit
public import Idealize.ShloMosaic.Lib.Pipeline.ReadBack

@[expose] public section

set_option maxRecDepth 16384

noncomputable section

namespace Cert.KernelIdeal.KB

open Cert.KernelIdeal Cert.KernelIdeal.Gen Idealize.ShloMosaic Idealize.ShloMosaic.TcCoe Idealize.SL.Sem
open Cert.KernelIdeal.KB

variable {F : FTy → Type} [FloatOps F]

/-- What a point leaves of the gradient of the queries, at an index. -/
theorem out_10  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S256x512.Idx) (cc h : Fin 4) (c' : Fin 64) (d : Fin 128)
    (hy0 : (y 0).val = 64 * cc.val + c'.val) (hy1 : (y 1).val = 128 * h.val + d.val) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = KU.dq (uu b xs cc h) (ix2 c' d) := by
  frame_out
  canon_tiles x h
  case piece0 =>
    refine pick2 (f := fun C H => KU.dq (uu b xs C H)) 0 3 hy0 hy1 (h0.trans (Nat.zero_add _).symm) h1 x0_lt x1_lt ?_
    exact congrFun (KF.dq_0_3 ..) x
  case piece1 =>
    refine pick2 (f := fun C H => KU.dq (uu b xs C H)) 0 2 hy0 hy1 (h0.trans (Nat.zero_add _).symm) h1 x0_lt x1_lt ?_
    exact congrFun (KF.dq_0_2 ..) x
  case piece2 =>
    refine pick2 (f := fun C H => KU.dq (uu b xs C H)) 0 1 hy0 hy1 (h0.trans (Nat.zero_add _).symm) h1 x0_lt x1_lt ?_
    exact congrFun (KF.dq_0_1 ..) x
  case piece3 =>
    refine pick2 (f := fun C H => KU.dq (uu b xs C H)) 0 0 hy0 hy1 (h0.trans (Nat.zero_add _).symm) (h1.trans (Nat.zero_add _).symm) x0_lt x1_lt ?_
    exact congrFun (KF.dq_0_0 ..) x
  case piece4 =>
    refine pick2 (f := fun C H => KU.dq (uu b xs C H)) 1 3 hy0 hy1 h0 h1 x0_lt x1_lt ?_
    exact congrFun (KF.dq_1_3 ..) x
  case piece5 =>
    refine pick2 (f := fun C H => KU.dq (uu b xs C H)) 1 2 hy0 hy1 h0 h1 x0_lt x1_lt ?_
    exact congrFun (KF.dq_1_2 ..) x
  case piece6 =>
    refine pick2 (f := fun C H => KU.dq (uu b xs C H)) 1 1 hy0 hy1 h0 h1 x0_lt x1_lt ?_
    exact congrFun (KF.dq_1_1 ..) x
  case piece7 =>
    refine pick2 (f := fun C H => KU.dq (uu b xs C H)) 1 0 hy0 hy1 h0 (h1.trans (Nat.zero_add _).symm) x0_lt x1_lt ?_
    exact congrFun (KF.dq_1_0 ..) x
  case piece8 =>
    refine pick2 (f := fun C H => KU.dq (uu b xs C H)) 2 3 hy0 hy1 h0 h1 x0_lt x1_lt ?_
    exact congrFun (KF.dq_2_3 ..) x
  case piece9 =>
    refine pick2 (f := fun C H => KU.dq (uu b xs C H)) 2 2 hy0 hy1 h0 h1 x0_lt x1_lt ?_
    exact congrFun (KF.dq_2_2 ..) x
  case piece10 =>
    refine pick2 (f := fun C H => KU.dq (uu b xs C H)) 2 1 hy0 hy1 h0 h1 x0_lt x1_lt ?_
    exact congrFun (KF.dq_2_1 ..) x
  case piece11 =>
    refine pick2 (f := fun C H => KU.dq (uu b xs C H)) 2 0 hy0 hy1 h0 (h1.trans (Nat.zero_add _).symm) x0_lt x1_lt ?_
    exact congrFun (KF.dq_2_0 ..) x
  case piece12 =>
    refine pick2 (f := fun C H => KU.dq (uu b xs C H)) 3 3 hy0 hy1 h0 h1 x0_lt x1_lt ?_
    exact congrFun (KF.dq_3_3 ..) x
  case piece13 =>
    refine pick2 (f := fun C H => KU.dq (uu b xs C H)) 3 2 hy0 hy1 h0 h1 x0_lt x1_lt ?_
    exact congrFun (KF.dq_3_2 ..) x
  case piece14 =>
    refine pick2 (f := fun C H => KU.dq (uu b xs C H)) 3 1 hy0 hy1 h0 h1 x0_lt x1_lt ?_
    exact congrFun (KF.dq_3_1 ..) x
  case piece15 =>
    refine pick2 (f := fun C H => KU.dq (uu b xs C H)) 3 0 hy0 hy1 h0 (h1.trans (Nat.zero_add _).symm) x0_lt x1_lt ?_
    exact congrFun (KF.dq_3_0 ..) x

/-- What a point leaves of the gradient of the keys, at an index. -/
theorem out_11  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S256x512.Idx) (cc h : Fin 4) (c' : Fin 64) (d : Fin 128)
    (hy0 : (y 0).val = 64 * cc.val + c'.val) (hy1 : (y 1).val = 128 * h.val + d.val) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = KU.dk (uu b xs cc h) (ix2 c' d) := by
  frame_out
  canon_tiles x h
  case piece0 =>
    refine pick2 (f := fun C H => KU.dk (uu b xs C H)) 0 3 hy0 hy1 (h0.trans (Nat.zero_add _).symm) h1 x0_lt x1_lt ?_
    simp only [KF.dS_3_3, KF.dS_2_3, KF.dS_1_3]
    exact congrFun (KF.dk_0_3 ..) x
  case piece1 =>
    refine pick2 (f := fun C H => KU.dk (uu b xs C H)) 0 2 hy0 hy1 (h0.trans (Nat.zero_add _).symm) h1 x0_lt x1_lt ?_
    simp only [KF.dS_3_2, KF.dS_2_2, KF.dS_1_2]
    exact congrFun (KF.dk_0_2 ..) x
  case piece2 =>
    refine pick2 (f := fun C H => KU.dk (uu b xs C H)) 0 1 hy0 hy1 (h0.trans (Nat.zero_add _).symm) h1 x0_lt x1_lt ?_
    simp only [KF.dS_3_1, KF.dS_2_1, KF.dS_1_1]
    exact congrFun (KF.dk_0_1 ..) x
  case piece3 =>
    refine pick2 (f := fun C H => KU.dk (uu b xs C H)) 0 0 hy0 hy1 (h0.trans (Nat.zero_add _).symm) (h1.trans (Nat.zero_add _).symm) x0_lt x1_lt ?_
    simp only [KF.dS_3_0, KF.dS_2_0, KF.dS_1_0]
    exact congrFun (KF.dk_0_0 ..) x
  case piece4 =>
    refine pick2 (f := fun C H => KU.dk (uu b xs C H)) 1 3 hy0 hy1 h0 h1 x0_lt x1_lt ?_
    simp only [KF.dS_3_3, KF.dS_2_3]
    exact congrFun (KF.dk_1_3 ..) x
  case piece5 =>
    refine pick2 (f := fun C H => KU.dk (uu b xs C H)) 1 2 hy0 hy1 h0 h1 x0_lt x1_lt ?_
    simp only [KF.dS_3_2, KF.dS_2_2]
    exact congrFun (KF.dk_1_2 ..) x
  case piece6 =>
    refine pick2 (f := fun C H => KU.dk (uu b xs C H)) 1 1 hy0 hy1 h0 h1 x0_lt x1_lt ?_
    simp only [KF.dS_3_1, KF.dS_2_1]
    exact congrFun (KF.dk_1_1 ..) x
  case piece7 =>
    refine pick2 (f := fun C H => KU.dk (uu b xs C H)) 1 0 hy0 hy1 h0 (h1.trans (Nat.zero_add _).symm) x0_lt x1_lt ?_
    simp only [KF.dS_3_0, KF.dS_2_0]
    exact congrFun (KF.dk_1_0 ..) x
  case piece8 =>
    refine pick2 (f := fun C H => KU.dk (uu b xs C H)) 2 3 hy0 hy1 h0 h1 x0_lt x1_lt ?_
    simp only [KF.dS_3_3]
    exact congrFun (KF.dk_2_3 ..) x
  case piece9 =>
    refine pick2 (f := fun C H => KU.dk (uu b xs C H)) 2 2 hy0 hy1 h0 h1 x0_lt x1_lt ?_
    simp only [KF.dS_3_2]
    exact congrFun (KF.dk_2_2 ..) x
  case piece10 =>
    refine pick2 (f := fun C H => KU.dk (uu b xs C H)) 2 1 hy0 hy1 h0 h1 x0_lt x1_lt ?_
    simp only [KF.dS_3_1]
    exact congrFun (KF.dk_2_1 ..) x
  case piece11 =>
    refine pick2 (f := fun C H => KU.dk (uu b xs C H)) 2 0 hy0 hy1 h0 (h1.trans (Nat.zero_add _).symm) x0_lt x1_lt ?_
    simp only [KF.dS_3_0]
    exact congrFun (KF.dk_2_0 ..) x
  case piece12 =>
    refine pick2 (f := fun C H => KU.dk (uu b xs C H)) 3 3 hy0 hy1 h0 h1 x0_lt x1_lt ?_
    exact congrFun (KF.dk_3_3 ..) x
  case piece13 =>
    refine pick2 (f := fun C H => KU.dk (uu b xs C H)) 3 2 hy0 hy1 h0 h1 x0_lt x1_lt ?_
    exact congrFun (KF.dk_3_2 ..) x
  case piece14 =>
    refine pick2 (f := fun C H => KU.dk (uu b xs C H)) 3 1 hy0 hy1 h0 h1 x0_lt x1_lt ?_
    exact congrFun (KF.dk_3_1 ..) x
  case piece15 =>
    refine pick2 (f := fun C H => KU.dk (uu b xs C H)) 3 0 hy0 hy1 h0 (h1.trans (Nat.zero_add _).symm) x0_lt x1_lt ?_
    exact congrFun (KF.dk_3_0 ..) x

/-- What a point leaves of the gradient of the values, at an index. -/
theorem out_12  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S256x512.Idx) (cc h : Fin 4) (c' : Fin 64) (d : Fin 128)
    (hy0 : (y 0).val = 64 * cc.val + c'.val) (hy1 : (y 1).val = 128 * h.val + d.val) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = KU.du (uu b xs cc h) (ix2 c' d) := by
  frame_out
  canon_tiles x h
  case piece0 =>
    refine pick2 (f := fun C H => KU.du (uu b xs C H)) 0 3 hy0 hy1 (h0.trans (Nat.zero_add _).symm) h1 x0_lt x1_lt ?_
    simp only [KF.dS_3_3, KF.dS_2_3, KF.dS_1_3]
    exact congrFun (KF.du_0_3 ..) x
  case piece1 =>
    refine pick2 (f := fun C H => KU.du (uu b xs C H)) 0 2 hy0 hy1 (h0.trans (Nat.zero_add _).symm) h1 x0_lt x1_lt ?_
    simp only [KF.dS_3_2, KF.dS_2_2, KF.dS_1_2]
    exact congrFun (KF.du_0_2 ..) x
  case piece2 =>
    refine pick2 (f := fun C H => KU.du (uu b xs C H)) 0 1 hy0 hy1 (h0.trans (Nat.zero_add _).symm) h1 x0_lt x1_lt ?_
    simp only [KF.dS_3_1, KF.dS_2_1, KF.dS_1_1]
    exact congrFun (KF.du_0_1 ..) x
  case piece3 =>
    refine pick2 (f := fun C H => KU.du (uu b xs C H)) 0 0 hy0 hy1 (h0.trans (Nat.zero_add _).symm) (h1.trans (Nat.zero_add _).symm) x0_lt x1_lt ?_
    simp only [KF.dS_3_0, KF.dS_2_0, KF.dS_1_0]
    exact congrFun (KF.du_0_0 ..) x
  case piece4 =>
    refine pick2 (f := fun C H => KU.du (uu b xs C H)) 1 3 hy0 hy1 h0 h1 x0_lt x1_lt ?_
    simp only [KF.dS_3_3, KF.dS_2_3]
    exact congrFun (KF.du_1_3 ..) x
  case piece5 =>
    refine pick2 (f := fun C H => KU.du (uu b xs C H)) 1 2 hy0 hy1 h0 h1 x0_lt x1_lt ?_
    simp only [KF.dS_3_2, KF.dS_2_2]
    exact congrFun (KF.du_1_2 ..) x
  case piece6 =>
    refine pick2 (f := fun C H => KU.du (uu b xs C H)) 1 1 hy0 hy1 h0 h1 x0_lt x1_lt ?_
    simp only [KF.dS_3_1, KF.dS_2_1]
    exact congrFun (KF.du_1_1 ..) x
  case piece7 =>
    refine pick2 (f := fun C H => KU.du (uu b xs C H)) 1 0 hy0 hy1 h0 (h1.trans (Nat.zero_add _).symm) x0_lt x1_lt ?_
    simp only [KF.dS_3_0, KF.dS_2_0]
    exact congrFun (KF.du_1_0 ..) x
  case piece8 =>
    refine pick2 (f := fun C H => KU.du (uu b xs C H)) 2 3 hy0 hy1 h0 h1 x0_lt x1_lt ?_
    simp only [KF.dS_3_3]
    exact congrFun (KF.du_2_3 ..) x
  case piece9 =>
    refine pick2 (f := fun C H => KU.du (uu b xs C H)) 2 2 hy0 hy1 h0 h1 x0_lt x1_lt ?_
    simp only [KF.dS_3_2]
    exact congrFun (KF.du_2_2 ..) x
  case piece10 =>
    refine pick2 (f := fun C H => KU.du (uu b xs C H)) 2 1 hy0 hy1 h0 h1 x0_lt x1_lt ?_
    simp only [KF.dS_3_1]
    exact congrFun (KF.du_2_1 ..) x
  case piece11 =>
    refine pick2 (f := fun C H => KU.du (uu b xs C H)) 2 0 hy0 hy1 h0 (h1.trans (Nat.zero_add _).symm) x0_lt x1_lt ?_
    simp only [KF.dS_3_0]
    exact congrFun (KF.du_2_0 ..) x
  case piece12 =>
    refine pick2 (f := fun C H => KU.du (uu b xs C H)) 3 3 hy0 hy1 h0 h1 x0_lt x1_lt ?_
    exact congrFun (KF.du_3_3 ..) x
  case piece13 =>
    refine pick2 (f := fun C H => KU.du (uu b xs C H)) 3 2 hy0 hy1 h0 h1 x0_lt x1_lt ?_
    exact congrFun (KF.du_3_2 ..) x
  case piece14 =>
    refine pick2 (f := fun C H => KU.du (uu b xs C H)) 3 1 hy0 hy1 h0 h1 x0_lt x1_lt ?_
    exact congrFun (KF.du_3_1 ..) x
  case piece15 =>
    refine pick2 (f := fun C H => KU.du (uu b xs C H)) 3 0 hy0 hy1 h0 (h1.trans (Nat.zero_add _).symm) x0_lt x1_lt ?_
    exact congrFun (KF.du_3_0 ..) x

/-- What a point leaves of the gradient of the key sums, at an index. -/
theorem out_13  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S256x512.Idx) (cc h : Fin 4) (c' : Fin 64) (d : Fin 128)
    (hy0 : (y 0).val = 64 * cc.val + c'.val) (hy1 : (y 1).val = 128 * h.val + d.val) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = KU.dw (uu b xs cc h) (ix2 c' d) := by
  frame_out
  canon_tiles x h
  case piece0 =>
    refine pick2 (f := fun C H => KU.dw (uu b xs C H)) 0 3 hy0 hy1 (h0.trans (Nat.zero_add _).symm) h1 x0_lt x1_lt ?_
    simp only [KF.dS_3_3, KF.dS_2_3, KF.dS_1_3]
    exact congrFun (KF.dw_0_3 ..) x
  case piece1 =>
    refine pick2 (f := fun C H => KU.dw (uu b xs C H)) 0 2 hy0 hy1 (h0.trans (Nat.zero_add _).symm) h1 x0_lt x1_lt ?_
    simp only [KF.dS_3_2, KF.dS_2_2, KF.dS_1_2]
    exact congrFun (KF.dw_0_2 ..) x
  case piece2 =>
    refine pick2 (f := fun C H => KU.dw (uu b xs C H)) 0 1 hy0 hy1 (h0.trans (Nat.zero_add _).symm) h1 x0_lt x1_lt ?_
    simp only [KF.dS_3_1, KF.dS_2_1, KF.dS_1_1]
    exact congrFun (KF.dw_0_1 ..) x
  case piece3 =>
    refine pick2 (f := fun C H => KU.dw (uu b xs C H)) 0 0 hy0 hy1 (h0.trans (Nat.zero_add _).symm) (h1.trans (Nat.zero_add _).symm) x0_lt x1_lt ?_
    simp only [KF.dS_3_0, KF.dS_2_0, KF.dS_1_0]
    exact congrFun (KF.dw_0_0 ..) x
  case piece4 =>
    refine pick2 (f := fun C H => KU.dw (uu b xs C H)) 1 3 hy0 hy1 h0 h1 x0_lt x1_lt ?_
    simp only [KF.dS_3_3, KF.dS_2_3]
    exact congrFun (KF.dw_1_3 ..) x
  case piece5 =>
    refine pick2 (f := fun C H => KU.dw (uu b xs C H)) 1 2 hy0 hy1 h0 h1 x0_lt x1_lt ?_
    simp only [KF.dS_3_2, KF.dS_2_2]
    exact congrFun (KF.dw_1_2 ..) x
  case piece6 =>
    refine pick2 (f := fun C H => KU.dw (uu b xs C H)) 1 1 hy0 hy1 h0 h1 x0_lt x1_lt ?_
    simp only [KF.dS_3_1, KF.dS_2_1]
    exact congrFun (KF.dw_1_1 ..) x
  case piece7 =>
    refine pick2 (f := fun C H => KU.dw (uu b xs C H)) 1 0 hy0 hy1 h0 (h1.trans (Nat.zero_add _).symm) x0_lt x1_lt ?_
    simp only [KF.dS_3_0, KF.dS_2_0]
    exact congrFun (KF.dw_1_0 ..) x
  case piece8 =>
    refine pick2 (f := fun C H => KU.dw (uu b xs C H)) 2 3 hy0 hy1 h0 h1 x0_lt x1_lt ?_
    simp only [KF.dS_3_3]
    exact congrFun (KF.dw_2_3 ..) x
  case piece9 =>
    refine pick2 (f := fun C H => KU.dw (uu b xs C H)) 2 2 hy0 hy1 h0 h1 x0_lt x1_lt ?_
    simp only [KF.dS_3_2]
    exact congrFun (KF.dw_2_2 ..) x
  case piece10 =>
    refine pick2 (f := fun C H => KU.dw (uu b xs C H)) 2 1 hy0 hy1 h0 h1 x0_lt x1_lt ?_
    simp only [KF.dS_3_1]
    exact congrFun (KF.dw_2_1 ..) x
  case piece11 =>
    refine pick2 (f := fun C H => KU.dw (uu b xs C H)) 2 0 hy0 hy1 h0 (h1.trans (Nat.zero_add _).symm) x0_lt x1_lt ?_
    simp only [KF.dS_3_0]
    exact congrFun (KF.dw_2_0 ..) x
  case piece12 =>
    refine pick2 (f := fun C H => KU.dw (uu b xs C H)) 3 3 hy0 hy1 h0 h1 x0_lt x1_lt ?_
    exact congrFun (KF.dw_3_3 ..) x
  case piece13 =>
    refine pick2 (f := fun C H => KU.dw (uu b xs C H)) 3 2 hy0 hy1 h0 h1 x0_lt x1_lt ?_
    exact congrFun (KF.dw_3_2 ..) x
  case piece14 =>
    refine pick2 (f := fun C H => KU.dw (uu b xs C H)) 3 1 hy0 hy1 h0 h1 x0_lt x1_lt ?_
    exact congrFun (KF.dw_3_1 ..) x
  case piece15 =>
    refine pick2 (f := fun C H => KU.dw (uu b xs C H)) 3 0 hy0 hy1 h0 (h1.trans (Nat.zero_add _).symm) x0_lt x1_lt ?_
    exact congrFun (KF.dw_3_0 ..) x

/-- What a point leaves of the gradient of the attention weights, at an index. -/
theorem out_14  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S4x256x64.Idx) (cc h : Fin 4) (c' s : Fin 64)
    (hy0 : (y 0).val = h.val) (hy1 : (y 1).val = 64 * cc.val + c'.val) (hy2 : (y 2).val = s.val) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = shapeCast S1x64x64 (KU.da (uu b xs cc h)) shapeCasts_S64x64_S1x64x64 (ix3 0 c' s) := by
  frame_out
  canon_tiles x h
  case piece0 =>
    refine pick3a (f := fun C H => shapeCast S1x64x64 (KU.da (uu b xs C H)) shapeCasts_S64x64_S1x64x64) 0 3 hy0 hy1 hy2 h0 (h1.trans (Nat.zero_add _).symm) h2 x0_lt x1_lt ?_
    exact congrFun (KF.da_0_3 ..) x
  case piece1 =>
    refine pick3a (f := fun C H => shapeCast S1x64x64 (KU.da (uu b xs C H)) shapeCasts_S64x64_S1x64x64) 0 2 hy0 hy1 hy2 h0 (h1.trans (Nat.zero_add _).symm) h2 x0_lt x1_lt ?_
    exact congrFun (KF.da_0_2 ..) x
  case piece2 =>
    refine pick3a (f := fun C H => shapeCast S1x64x64 (KU.da (uu b xs C H)) shapeCasts_S64x64_S1x64x64) 0 1 hy0 hy1 hy2 h0 (h1.trans (Nat.zero_add _).symm) h2 x0_lt x1_lt ?_
    exact congrFun (KF.da_0_1 ..) x
  case piece3 =>
    refine pick3a (f := fun C H => shapeCast S1x64x64 (KU.da (uu b xs C H)) shapeCasts_S64x64_S1x64x64) 0 0 hy0 hy1 hy2 (h0.trans (Nat.zero_add _).symm) (h1.trans (Nat.zero_add _).symm) h2 x0_lt x1_lt ?_
    exact congrFun (KF.da_0_0 ..) x
  case piece4 =>
    refine pick3a (f := fun C H => shapeCast S1x64x64 (KU.da (uu b xs C H)) shapeCasts_S64x64_S1x64x64) 1 3 hy0 hy1 hy2 h0 h1 h2 x0_lt x1_lt ?_
    exact congrFun (KF.da_1_3 ..) x
  case piece5 =>
    refine pick3a (f := fun C H => shapeCast S1x64x64 (KU.da (uu b xs C H)) shapeCasts_S64x64_S1x64x64) 1 2 hy0 hy1 hy2 h0 h1 h2 x0_lt x1_lt ?_
    exact congrFun (KF.da_1_2 ..) x
  case piece6 =>
    refine pick3a (f := fun C H => shapeCast S1x64x64 (KU.da (uu b xs C H)) shapeCasts_S64x64_S1x64x64) 1 1 hy0 hy1 hy2 h0 h1 h2 x0_lt x1_lt ?_
    exact congrFun (KF.da_1_1 ..) x
  case piece7 =>
    refine pick3a (f := fun C H => shapeCast S1x64x64 (KU.da (uu b xs C H)) shapeCasts_S64x64_S1x64x64) 1 0 hy0 hy1 hy2 (h0.trans (Nat.zero_add _).symm) h1 h2 x0_lt x1_lt ?_
    exact congrFun (KF.da_1_0 ..) x
  case piece8 =>
    refine pick3a (f := fun C H => shapeCast S1x64x64 (KU.da (uu b xs C H)) shapeCasts_S64x64_S1x64x64) 2 3 hy0 hy1 hy2 h0 h1 h2 x0_lt x1_lt ?_
    exact congrFun (KF.da_2_3 ..) x
  case piece9 =>
    refine pick3a (f := fun C H => shapeCast S1x64x64 (KU.da (uu b xs C H)) shapeCasts_S64x64_S1x64x64) 2 2 hy0 hy1 hy2 h0 h1 h2 x0_lt x1_lt ?_
    exact congrFun (KF.da_2_2 ..) x
  case piece10 =>
    refine pick3a (f := fun C H => shapeCast S1x64x64 (KU.da (uu b xs C H)) shapeCasts_S64x64_S1x64x64) 2 1 hy0 hy1 hy2 h0 h1 h2 x0_lt x1_lt ?_
    exact congrFun (KF.da_2_1 ..) x
  case piece11 =>
    refine pick3a (f := fun C H => shapeCast S1x64x64 (KU.da (uu b xs C H)) shapeCasts_S64x64_S1x64x64) 2 0 hy0 hy1 hy2 (h0.trans (Nat.zero_add _).symm) h1 h2 x0_lt x1_lt ?_
    exact congrFun (KF.da_2_0 ..) x
  case piece12 =>
    refine pick3a (f := fun C H => shapeCast S1x64x64 (KU.da (uu b xs C H)) shapeCasts_S64x64_S1x64x64) 3 3 hy0 hy1 hy2 h0 h1 h2 x0_lt x1_lt ?_
    exact congrFun (KF.da_3_3 ..) x
  case piece13 =>
    refine pick3a (f := fun C H => shapeCast S1x64x64 (KU.da (uu b xs C H)) shapeCasts_S64x64_S1x64x64) 3 2 hy0 hy1 hy2 h0 h1 h2 x0_lt x1_lt ?_
    exact congrFun (KF.da_3_2 ..) x
  case piece14 =>
    refine pick3a (f := fun C H => shapeCast S1x64x64 (KU.da (uu b xs C H)) shapeCasts_S64x64_S1x64x64) 3 1 hy0 hy1 hy2 h0 h1 h2 x0_lt x1_lt ?_
    exact congrFun (KF.da_3_1 ..) x
  case piece15 =>
    refine pick3a (f := fun C H => shapeCast S1x64x64 (KU.da (uu b xs C H)) shapeCasts_S64x64_S1x64x64) 3 0 hy0 hy1 hy2 (h0.trans (Nat.zero_add _).symm) h1 h2 x0_lt x1_lt ?_
    exact congrFun (KF.da_3_0 ..) x

/-- What a point leaves of the gradient of the decays, at an index. -/
theorem out_15  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S4x4x128.Idx) (cc h : Fin 4) (d : Fin 128)
    (hy0 : (y 0).val = cc.val) (hy1 : (y 1).val = h.val) (hy2 : (y 2).val = d.val) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = shapeCast S1x1x128 (KU.de (uu b xs cc h)) shapeCasts_S1x128_S1x1x128 (ix3 0 0 d) := by
  frame_out
  canon_tiles x h
  case piece0 =>
    refine pick3e (f := fun C H => shapeCast S1x1x128 (KU.de (uu b xs C H)) shapeCasts_S1x128_S1x1x128) 0 3 hy0 hy1 hy2 (h0.trans (Nat.zero_add _).symm) h1 h2 x0_lt x1_lt ?_
    simp only [KF.dS_3_3, KF.dS_2_3, KF.dS_1_3]
    exact congrFun (KF.de_0_3 ..) x
  case piece1 =>
    refine pick3e (f := fun C H => shapeCast S1x1x128 (KU.de (uu b xs C H)) shapeCasts_S1x128_S1x1x128) 0 2 hy0 hy1 hy2 (h0.trans (Nat.zero_add _).symm) h1 h2 x0_lt x1_lt ?_
    simp only [KF.dS_3_2, KF.dS_2_2, KF.dS_1_2]
    exact congrFun (KF.de_0_2 ..) x
  case piece2 =>
    refine pick3e (f := fun C H => shapeCast S1x1x128 (KU.de (uu b xs C H)) shapeCasts_S1x128_S1x1x128) 0 1 hy0 hy1 hy2 (h0.trans (Nat.zero_add _).symm) h1 h2 x0_lt x1_lt ?_
    simp only [KF.dS_3_1, KF.dS_2_1, KF.dS_1_1]
    exact congrFun (KF.de_0_1 ..) x
  case piece3 =>
    refine pick3e (f := fun C H => shapeCast S1x1x128 (KU.de (uu b xs C H)) shapeCasts_S1x128_S1x1x128) 0 0 hy0 hy1 hy2 (h0.trans (Nat.zero_add _).symm) (h1.trans (Nat.zero_add _).symm) h2 x0_lt x1_lt ?_
    simp only [KF.dS_3_0, KF.dS_2_0, KF.dS_1_0]
    exact congrFun (KF.de_0_0 ..) x
  case piece4 =>
    refine pick3e (f := fun C H => shapeCast S1x1x128 (KU.de (uu b xs C H)) shapeCasts_S1x128_S1x1x128) 1 3 hy0 hy1 hy2 h0 h1 h2 x0_lt x1_lt ?_
    simp only [KF.dS_3_3, KF.dS_2_3]
    exact congrFun (KF.de_1_3 ..) x
  case piece5 =>
    refine pick3e (f := fun C H => shapeCast S1x1x128 (KU.de (uu b xs C H)) shapeCasts_S1x128_S1x1x128) 1 2 hy0 hy1 hy2 h0 h1 h2 x0_lt x1_lt ?_
    simp only [KF.dS_3_2, KF.dS_2_2]
    exact congrFun (KF.de_1_2 ..) x
  case piece6 =>
    refine pick3e (f := fun C H => shapeCast S1x1x128 (KU.de (uu b xs C H)) shapeCasts_S1x128_S1x1x128) 1 1 hy0 hy1 hy2 h0 h1 h2 x0_lt x1_lt ?_
    simp only [KF.dS_3_1, KF.dS_2_1]
    exact congrFun (KF.de_1_1 ..) x
  case piece7 =>
    refine pick3e (f := fun C H => shapeCast S1x1x128 (KU.de (uu b xs C H)) shapeCasts_S1x128_S1x1x128) 1 0 hy0 hy1 hy2 h0 (h1.trans (Nat.zero_add _).symm) h2 x0_lt x1_lt ?_
    simp only [KF.dS_3_0, KF.dS_2_0]
    exact congrFun (KF.de_1_0 ..) x
  case piece8 =>
    refine pick3e (f := fun C H => shapeCast S1x1x128 (KU.de (uu b xs C H)) shapeCasts_S1x128_S1x1x128) 2 3 hy0 hy1 hy2 h0 h1 h2 x0_lt x1_lt ?_
    simp only [KF.dS_3_3]
    exact congrFun (KF.de_2_3 ..) x
  case piece9 =>
    refine pick3e (f := fun C H => shapeCast S1x1x128 (KU.de (uu b xs C H)) shapeCasts_S1x128_S1x1x128) 2 2 hy0 hy1 hy2 h0 h1 h2 x0_lt x1_lt ?_
    simp only [KF.dS_3_2]
    exact congrFun (KF.de_2_2 ..) x
  case piece10 =>
    refine pick3e (f := fun C H => shapeCast S1x1x128 (KU.de (uu b xs C H)) shapeCasts_S1x128_S1x1x128) 2 1 hy0 hy1 hy2 h0 h1 h2 x0_lt x1_lt ?_
    simp only [KF.dS_3_1]
    exact congrFun (KF.de_2_1 ..) x
  case piece11 =>
    refine pick3e (f := fun C H => shapeCast S1x1x128 (KU.de (uu b xs C H)) shapeCasts_S1x128_S1x1x128) 2 0 hy0 hy1 hy2 h0 (h1.trans (Nat.zero_add _).symm) h2 x0_lt x1_lt ?_
    simp only [KF.dS_3_0]
    exact congrFun (KF.de_2_0 ..) x
  case piece12 =>
    refine pick3e (f := fun C H => shapeCast S1x1x128 (KU.de (uu b xs C H)) shapeCasts_S1x128_S1x1x128) 3 3 hy0 hy1 hy2 h0 h1 h2 x0_lt x1_lt ?_
    exact congrFun (KF.de_3_3 ..) x
  case piece13 =>
    refine pick3e (f := fun C H => shapeCast S1x1x128 (KU.de (uu b xs C H)) shapeCasts_S1x128_S1x1x128) 3 2 hy0 hy1 hy2 h0 h1 h2 x0_lt x1_lt ?_
    exact congrFun (KF.de_3_2 ..) x
  case piece14 =>
    refine pick3e (f := fun C H => shapeCast S1x1x128 (KU.de (uu b xs C H)) shapeCasts_S1x128_S1x1x128) 3 1 hy0 hy1 hy2 h0 h1 h2 x0_lt x1_lt ?_
    exact congrFun (KF.de_3_1 ..) x
  case piece15 =>
    refine pick3e (f := fun C H => shapeCast S1x1x128 (KU.de (uu b xs C H)) shapeCasts_S1x128_S1x1x128) 3 0 hy0 hy1 hy2 h0 (h1.trans (Nat.zero_add _).symm) h2 x0_lt x1_lt ?_
    exact congrFun (KF.de_3_0 ..) x

/-- What a point leaves of the gradient of the output gate, at an index. -/
theorem out_16  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S256x512.Idx) (cc h : Fin 4) (c' : Fin 64) (d : Fin 128)
    (hy0 : (y 0).val = 64 * cc.val + c'.val) (hy1 : (y 1).val = 128 * h.val + d.val) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = truncf .bf16 (KU.dz (uu b xs cc h)) bitsLt_bf16_f32 (ix2 c' d) := by
  frame_out
  canon_tiles x h
  case piece0 =>
    refine pick2 (f := fun C H => truncf .bf16 (KU.dz (uu b xs C H)) bitsLt_bf16_f32) 0 3 hy0 hy1 (h0.trans (Nat.zero_add _).symm) h1 x0_lt x1_lt ?_
    exact congrFun (KF.dz_0_3 ..) x
  case piece1 =>
    refine pick2 (f := fun C H => truncf .bf16 (KU.dz (uu b xs C H)) bitsLt_bf16_f32) 0 2 hy0 hy1 (h0.trans (Nat.zero_add _).symm) h1 x0_lt x1_lt ?_
    exact congrFun (KF.dz_0_2 ..) x
  case piece2 =>
    refine pick2 (f := fun C H => truncf .bf16 (KU.dz (uu b xs C H)) bitsLt_bf16_f32) 0 1 hy0 hy1 (h0.trans (Nat.zero_add _).symm) h1 x0_lt x1_lt ?_
    exact congrFun (KF.dz_0_1 ..) x
  case piece3 =>
    refine pick2 (f := fun C H => truncf .bf16 (KU.dz (uu b xs C H)) bitsLt_bf16_f32) 0 0 hy0 hy1 (h0.trans (Nat.zero_add _).symm) (h1.trans (Nat.zero_add _).symm) x0_lt x1_lt ?_
    exact congrFun (KF.dz_0_0 ..) x
  case piece4 =>
    refine pick2 (f := fun C H => truncf .bf16 (KU.dz (uu b xs C H)) bitsLt_bf16_f32) 1 3 hy0 hy1 h0 h1 x0_lt x1_lt ?_
    exact congrFun (KF.dz_1_3 ..) x
  case piece5 =>
    refine pick2 (f := fun C H => truncf .bf16 (KU.dz (uu b xs C H)) bitsLt_bf16_f32) 1 2 hy0 hy1 h0 h1 x0_lt x1_lt ?_
    exact congrFun (KF.dz_1_2 ..) x
  case piece6 =>
    refine pick2 (f := fun C H => truncf .bf16 (KU.dz (uu b xs C H)) bitsLt_bf16_f32) 1 1 hy0 hy1 h0 h1 x0_lt x1_lt ?_
    exact congrFun (KF.dz_1_1 ..) x
  case piece7 =>
    refine pick2 (f := fun C H => truncf .bf16 (KU.dz (uu b xs C H)) bitsLt_bf16_f32) 1 0 hy0 hy1 h0 (h1.trans (Nat.zero_add _).symm) x0_lt x1_lt ?_
    exact congrFun (KF.dz_1_0 ..) x
  case piece8 =>
    refine pick2 (f := fun C H => truncf .bf16 (KU.dz (uu b xs C H)) bitsLt_bf16_f32) 2 3 hy0 hy1 h0 h1 x0_lt x1_lt ?_
    exact congrFun (KF.dz_2_3 ..) x
  case piece9 =>
    refine pick2 (f := fun C H => truncf .bf16 (KU.dz (uu b xs C H)) bitsLt_bf16_f32) 2 2 hy0 hy1 h0 h1 x0_lt x1_lt ?_
    exact congrFun (KF.dz_2_2 ..) x
  case piece10 =>
    refine pick2 (f := fun C H => truncf .bf16 (KU.dz (uu b xs C H)) bitsLt_bf16_f32) 2 1 hy0 hy1 h0 h1 x0_lt x1_lt ?_
    exact congrFun (KF.dz_2_1 ..) x
  case piece11 =>
    refine pick2 (f := fun C H => truncf .bf16 (KU.dz (uu b xs C H)) bitsLt_bf16_f32) 2 0 hy0 hy1 h0 (h1.trans (Nat.zero_add _).symm) x0_lt x1_lt ?_
    exact congrFun (KF.dz_2_0 ..) x
  case piece12 =>
    refine pick2 (f := fun C H => truncf .bf16 (KU.dz (uu b xs C H)) bitsLt_bf16_f32) 3 3 hy0 hy1 h0 h1 x0_lt x1_lt ?_
    exact congrFun (KF.dz_3_3 ..) x
  case piece13 =>
    refine pick2 (f := fun C H => truncf .bf16 (KU.dz (uu b xs C H)) bitsLt_bf16_f32) 3 2 hy0 hy1 h0 h1 x0_lt x1_lt ?_
    exact congrFun (KF.dz_3_2 ..) x
  case piece14 =>
    refine pick2 (f := fun C H => truncf .bf16 (KU.dz (uu b xs C H)) bitsLt_bf16_f32) 3 1 hy0 hy1 h0 h1 x0_lt x1_lt ?_
    exact congrFun (KF.dz_3_1 ..) x
  case piece15 =>
    refine pick2 (f := fun C H => truncf .bf16 (KU.dz (uu b xs C H)) bitsLt_bf16_f32) 3 0 hy0 hy1 h0 (h1.trans (Nat.zero_add _).symm) x0_lt x1_lt ?_
    exact congrFun (KF.dz_3_0 ..) x

/-- What a point hands on: the cotangent of the state before its first chunk. -/
theorem scr  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S4x128x128.Idx) (h : Fin 4) (e d : Fin 128)
    (hy0 : (y 0).val = h.val) (hy1 : (y 1).val = e.val) (hy2 : (y 2).val = d.val) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = shapeCast S1x128x128 (KU.dS' (u0 b xs h)) shapeCasts_S128x128_S1x128x128 (ix3 0 e d) := by
  frame_out
  canon_tiles x h
  case piece0 =>
    refine pick3s (f := fun H => shapeCast S1x128x128 (KU.dS' (u0 b xs H)) shapeCasts_S128x128_S1x128x128) 3 hy0 hy1 hy2 h0 h1 h2 x0_lt ?_
    simp only [KF.dS_3_3, KF.dS_2_3, KF.dS_1_3, KF.dS_0_3]
    rfl
  case piece1 =>
    refine pick3s (f := fun H => shapeCast S1x128x128 (KU.dS' (u0 b xs H)) shapeCasts_S128x128_S1x128x128) 2 hy0 hy1 hy2 h0 h1 h2 x0_lt ?_
    simp only [KF.dS_3_2, KF.dS_2_2, KF.dS_1_2, KF.dS_0_2]
    rfl
  case piece2 =>
    refine pick3s (f := fun H => shapeCast S1x128x128 (KU.dS' (u0 b xs H)) shapeCasts_S128x128_S1x128x128) 1 hy0 hy1 hy2 h0 h1 h2 x0_lt ?_
    simp only [KF.dS_3_1, KF.dS_2_1, KF.dS_1_1, KF.dS_0_1]
    rfl
  case piece3 =>
    refine pick3s (f := fun H => shapeCast S1x128x128 (KU.dS' (u0 b xs H)) shapeCasts_S128x128_S1x128x128) 0 hy0 hy1 hy2 (h0.trans (Nat.zero_add _).symm) h1 h2 x0_lt ?_
    simp only [KF.dS_3_0, KF.dS_2_0, KF.dS_1_0, KF.dS_0_0]
    rfl

/-- What a point leaves of the gradient of the norm's weight. -/
theorem out_17  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S4x256x64 .f32) (harg5 : arg5.IsWhole) (arg6 : Memref sig .tc .vmem S4x4x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x256x64 .f32) (harg15 : arg15.IsWhole) (arg16 : Memref sig .tc .vmem S4x4x128 .f32) (harg16 : arg16.IsWhole) (arg17 : Memref sig .tc .vmem S256x512 .bf16) (harg17 : arg17.IsWhole) (arg18 : Memref sig .tc .vmem S1x128 .f32) (harg18 : arg18.IsWhole) (arg19 : Memref sig .tc .vmem S4x128x128 .f32) (harg19 : arg19.IsWhole) (hc0 : ¬cond0_0 i) (hc1 : ¬cond0_1 i) (hc2 : cond0_2 i)
    (b : Blk F) (xo : Vec F S1x128 .f32) (xs : Vec F S4x128x128 .f32) (y : S1x128.Idx) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 b.x0 b.x1 b.x2 b.x3 b.x4 b.x5 b.x6 b.x7 b.x8 b.x9 xo xs y = k0_pay1 (dgSum fun cc h => KU.dg (uu b xs cc h)) xo y := by
  frame_out
  exact congrFun (congrArg (fun v => k0_pay1 v xo) (dgSum_of (f := fun cc h => KU.dg (uu b xs cc h))
      (KF.dg_3_0 ..) (KF.dg_3_1 ..) (KF.dg_3_2 ..) (KF.dg_3_3 ..) (KF.dg_2_0 ..) (KF.dg_2_1 ..) (KF.dg_2_2 ..) (KF.dg_2_3 ..) (KF.dg_1_0 ..) (KF.dg_1_1 ..) (KF.dg_1_2 ..) (KF.dg_1_3 ..) (KF.dg_0_0 ..) (KF.dg_0_1 ..) (KF.dg_0_2 ..) (KF.dg_0_3 ..))) y

end Cert.KernelIdeal.KB
-- ==== Proof.Whole.lean ====
/- The whole backward scan on plain functions: the ten arrays cut into chunks and heads, the cotangent of the state
   run from the last chunk to the first, and the eight results at each index. The kernel and the reference are both
   read down to these. -/
module

public import proofs.«01_k».proof.Proof.GradUnit
public import Idealize.ShloMosaic.Lib.Pointwise

@[expose] public section

noncomputable section

namespace Cert.Gdn

open Idealize.ShloMosaic

/-- Arrays of one to four axes, as functions of their indices. -/
abbrev A1 (a : ℕ) := (Shape.mk 1 ![a]).Idx → EReal
abbrev A2 (a b : ℕ) := (Shape.mk 2 ![a, b]).Idx → EReal
abbrev A3 (a b c : ℕ) := (Shape.mk 3 ![a, b, c]).Idx → EReal
abbrev A4 (a b c d : ℕ) := (Shape.mk 4 ![a, b, c, d]).Idx → EReal

/-- The ten arrays: the scaled queries and keys, the values, the rows that read the state, the attention weights, the
    decays, the projection (whose last columns are the gate), the norm's weight, the states saved before each chunk,
    and the cotangent of the output. -/
structure Arrays where
  qe : A2 8192 512
  ke : A2 8192 512
  u : A2 8192 512
  w : A2 8192 512
  attn : A3 4 8192 64
  eg : A3 128 4 128
  proj : A2 8192 3840
  wgn : A1 128
  states : A4 128 4 128 128
  dycat : A2 8192 1024

/-- Row `c` of chunk `n`. -/
def row (n : Fin 128) (c : Fin 64) : Fin 8192 := ⟨n.val * 64 + c.val, by omega⟩
/-- Column `d` of head `h`. -/
def col (h : Fin 4) (d : Fin 128) : Fin 512 := ⟨h.val * 128 + d.val, by omega⟩
/-- The same among the gate's columns of the projection. -/
def gcol (h : Fin 4) (d : Fin 128) : Fin 3840 := ⟨3072 + (h.val * 128 + d.val), by omega⟩
/-- The same among the columns of the output's cotangent. -/
def ycol (h : Fin 4) (d : Fin 128) : Fin 1024 := ⟨h.val * 128 + d.val, by omega⟩

/-- Chunk `n` of head `h`, with the cotangent `dS` of the state after it. -/
def chunk (A : Arrays) (n : Fin 128) (h : Fin 4) (dS : Fin 128 → Fin 128 → EReal) : Chunk where
  S := fun a b => A.states (ix4 n h a b)
  q := fun c d => A.qe (ix2 (row n c) (col h d))
  k := fun c d => A.ke (ix2 (row n c) (col h d))
  u := fun c d => A.u (ix2 (row n c) (col h d))
  w := fun c d => A.w (ix2 (row n c) (col h d))
  a := fun c s => A.attn (ix3 h (row n c) s)
  e := fun d => A.eg (ix3 n h d)
  z := fun c d => A.proj (ix2 (row n c) (gcol h d))
  g := fun d => A.wgn (ix1 d)
  dy := fun c d => A.dycat (ix2 (row n c) (ycol h d))
  dS := dS

/-- Chunk number `127 − j`: the one the scan takes `j`-th. -/
def back (j : ℕ) : Fin 128 := ⟨127 - j, by omega⟩

/-- The cotangent of the state of head `h` once the last `j` chunks are done. -/
def carry (A : Arrays) : ℕ → Fin 4 → Fin 128 → Fin 128 → EReal
  | 0, _ => fun _ _ => 0
  | j + 1, h => (chunk A (back j) h (carry A j h)).dS'

/-- The `j`-th chunk of the scan, for head `h`, with the cotangent that reaches it. -/
def nth (A : Arrays) (j : ℕ) (h : Fin 4) : Chunk := chunk A (back j) h (carry A j h)

/-- Chunk `n` of head `h` with the cotangent that reaches it. -/
def full (A : Arrays) (n : Fin 128) (h : Fin 4) : Chunk := chunk A n h (carry A (127 - n.val) h)

theorem full_back (A : Arrays) (j : ℕ) (hj : j < 128) (h : Fin 4) : full A (back j) h = nth A j h := by
  unfold full nth
  have : 127 - (back j).val = j := by show 127 - (127 - j) = j; omega
  rw [this]

/-- The chunk a row is in, its row there, the head a column is in, its column there. -/
def chunkOf (i : Fin 8192) : Fin 128 := ⟨i.val / 64, by omega⟩
def rowOf (i : Fin 8192) : Fin 64 := ⟨i.val % 64, by omega⟩
def headOf (i : Fin 512) : Fin 4 := ⟨i.val / 128, by omega⟩
def colOf (i : Fin 512) : Fin 128 := ⟨i.val % 128, by omega⟩

/-- The results: the cotangents of the queries, keys, values, state-reading rows, attention weights, decays and gate,
    and of the norm's weight, the last a sum over chunks and heads. -/
def dq (A : Arrays) : A2 8192 512 := fun y => (full A (chunkOf (y 0)) (headOf (y 1))).dq (rowOf (y 0)) (colOf (y 1))
def dk (A : Arrays) : A2 8192 512 := fun y => (full A (chunkOf (y 0)) (headOf (y 1))).dk (rowOf (y 0)) (colOf (y 1))
def du (A : Arrays) : A2 8192 512 := fun y => (full A (chunkOf (y 0)) (headOf (y 1))).du (rowOf (y 0)) (colOf (y 1))
def dw (A : Arrays) : A2 8192 512 := fun y => (full A (chunkOf (y 0)) (headOf (y 1))).dw (rowOf (y 0)) (colOf (y 1))
def da (A : Arrays) : A3 4 8192 64 := fun y => (full A (chunkOf (y 1)) (y 0)).da (rowOf (y 1)) (y 2)
def de (A : Arrays) : A3 128 4 128 := fun y => (full A (y 0) (y 1)).de (y 2)
def dz (A : Arrays) : A2 8192 512 := fun y => (full A (chunkOf (y 0)) (headOf (y 1))).dz (rowOf (y 0)) (colOf (y 1))
/-- The norm weight's gradient once the last `j` chunks are done. -/
def dgUpTo (A : Arrays) (j : ℕ) (d : Fin 128) : EReal := ∑ i ∈ Finset.range j, ∑ h, (nth A i h).dg d
def dg (A : Arrays) : A2 1 128 := fun y => dgUpTo A 128 (y 1)

theorem dgUpTo_succ (A : Arrays) (j : ℕ) (d : Fin 128) :
    dgUpTo A (j + 1) d = dgUpTo A j d + ∑ h, (nth A j h).dg d := Finset.sum_range_succ ..

end Cert.Gdn
-- ==== Proof.KernelWhole.lean ====
/- The kernel's whole run: the grid takes the chunks four at a time from the last to the first, so the scratch holds
   the plain cotangent after every point, each point writes the plain gradients of its four chunks, and the eight
   arrays the run leaves are the plain ones. -/
module

public import proofs.«01_k».proof.Proof.KernelA
public import proofs.«01_k».proof.Proof.KernelB
public import proofs.«01_k».proof.Proof.Whole
public import proofs.«01_k».proof.Proof.Gen.KernelIdeal.Value
public import Idealize.ShloMosaic.Lib.Pipeline.ValueKit

@[expose] public section

set_option maxRecDepth 16384

noncomputable section

namespace Cert.KernelIdeal.KW

open Cert.KernelIdeal Cert.KernelIdeal.Gen Idealize.ShloMosaic Idealize.ShloMosaic.TcCoe Idealize.SL.Sem Cert.Gdn

variable (m : (ℓ : Loc nD τ sig) → Buf (Elt Ideal) ℓ) (c : Dev nD) (t : Fin cfg0.N)

/-! ## The windows' places -/

theorem i0 : ∀ t : Fin cfg0.N, win0_0.index t = ![31 - t.val, 0] := by decide +kernel
theorem i1 : ∀ t : Fin cfg0.N, win0_1.index t = ![31 - t.val, 0] := by decide +kernel
theorem i2 : ∀ t : Fin cfg0.N, win0_2.index t = ![31 - t.val, 0] := by decide +kernel
theorem i3 : ∀ t : Fin cfg0.N, win0_3.index t = ![31 - t.val, 0] := by decide +kernel
theorem i9 : ∀ t : Fin cfg0.N, win0_9.index t = ![31 - t.val, 0] := by decide +kernel
theorem i10 : ∀ t : Fin cfg0.N, win0_10.index t = ![31 - t.val, 0] := by decide +kernel
theorem i11 : ∀ t : Fin cfg0.N, win0_11.index t = ![31 - t.val, 0] := by decide +kernel
theorem i12 : ∀ t : Fin cfg0.N, win0_12.index t = ![31 - t.val, 0] := by decide +kernel
theorem i13 : ∀ t : Fin cfg0.N, win0_13.index t = ![31 - t.val, 0] := by decide +kernel
theorem i16 : ∀ t : Fin cfg0.N, win0_16.index t = ![31 - t.val, 0] := by decide +kernel
theorem i4 : ∀ t : Fin cfg0.N, win0_4.index t = ![0, 31 - t.val, 0] := by decide +kernel
theorem i14 : ∀ t : Fin cfg0.N, win0_14.index t = ![0, 31 - t.val, 0] := by decide +kernel
theorem i5 : ∀ t : Fin cfg0.N, win0_5.index t = ![31 - t.val, 0, 0] := by decide +kernel
theorem i15 : ∀ t : Fin cfg0.N, win0_15.index t = ![31 - t.val, 0, 0] := by decide +kernel
theorem i6 : ∀ t : Fin cfg0.N, win0_6.index t = ![31 - t.val, 6] := by decide +kernel
theorem i7 : ∀ t : Fin cfg0.N, win0_7.index t = ![0, 0] := by decide +kernel
theorem i8 : ∀ t : Fin cfg0.N, win0_8.index t = ![31 - t.val, 0, 0, 0] := by decide +kernel

/-- Point `t` takes its chunk `cc` as the scan's chunk number `4 t + (3 − cc)`. -/
def num (t : ℕ) (cc : Fin 4) : ℕ := 4 * t + (3 - cc.val)

/-- The blocks point `t` reads. -/
def blk : KB.Blk Ideal where
  x0 := iblk m c 0 t
  x1 := iblk m c 1 t
  x2 := iblk m c 2 t
  x3 := iblk m c 3 t
  x4 := iblk m c 4 t
  x5 := iblk m c 5 t
  x6 := X0_6 m c t
  x7 := iblk m c 7 t
  x8 := iblk m c 8 t
  x9 := iblk m c 9 t

/-- The arrays a device's memory holds. -/
def arrays : Arrays where
  qe := m ((c.tc : Thread nD τ).loc main_arg0)
  ke := m ((c.tc : Thread nD τ).loc main_arg1)
  u := m ((c.tc : Thread nD τ).loc main_arg2)
  w := m ((c.tc : Thread nD τ).loc main_arg3)
  attn := m ((c.tc : Thread nD τ).loc main_arg4)
  eg := m ((c.tc : Thread nD τ).loc main_arg5)
  proj := m ((c.tc : Thread nD τ).loc main_arg6)
  wgn := m ((c.tc : Thread nD τ).loc main_arg7)
  states := m ((c.tc : Thread nD τ).loc main_arg8)
  dycat := m ((c.tc : Thread nD τ).loc main_arg9)

/-! ## What a point's loads are, in the arrays -/

theorem V_main_v0 (d : Fin 128) : V m c main_v0 (ix2 0 d) = m ((c : Thread nD τ).loc main_arg7) (ix1 d) := by
  entry_read; pointwise

section
variable (cc h : Fin 4) (r : Fin 64) (d : Fin 128)

theorem x0_at : View.ld (iblk m c 0 t) (Rect.unit ![64 * cc.val, 128 * h.val] S64x128.size (KB.inb_rows cc h)) (ix2 r d) =
    m ((c : Thread nD τ).loc main_arg0) (ix2 (row (back (num t.val cc)) r) (col h d)) := by
  have := t.isLt
  rw [View.ld_apply]
  blk_ext [iblk, V_main_arg0, i0 t, row, col, num, back, Rect.idx_unit_val]
theorem x1_at : View.ld (iblk m c 1 t) (Rect.unit ![64 * cc.val, 128 * h.val] S64x128.size (KB.inb_rows cc h)) (ix2 r d) =
    m ((c : Thread nD τ).loc main_arg1) (ix2 (row (back (num t.val cc)) r) (col h d)) := by
  have := t.isLt
  rw [View.ld_apply]
  blk_ext [iblk, V_main_arg1, i1 t, row, col, num, back, Rect.idx_unit_val]
theorem x2_at : View.ld (iblk m c 2 t) (Rect.unit ![64 * cc.val, 128 * h.val] S64x128.size (KB.inb_rows cc h)) (ix2 r d) =
    m ((c : Thread nD τ).loc main_arg2) (ix2 (row (back (num t.val cc)) r) (col h d)) := by
  have := t.isLt
  rw [View.ld_apply]
  blk_ext [iblk, V_main_arg2, i2 t, row, col, num, back, Rect.idx_unit_val]
theorem x3_at : View.ld (iblk m c 3 t) (Rect.unit ![64 * cc.val, 128 * h.val] S64x128.size (KB.inb_rows cc h)) (ix2 r d) =
    m ((c : Thread nD τ).loc main_arg3) (ix2 (row (back (num t.val cc)) r) (col h d)) := by
  have := t.isLt
  rw [View.ld_apply]
  blk_ext [iblk, V_main_arg3, i3 t, row, col, num, back, Rect.idx_unit_val]
theorem x9_at : View.ld (iblk m c 9 t) (Rect.unit ![64 * cc.val, 128 * h.val] S64x128.size (KB.inb_rows cc h)) (ix2 r d) =
    m ((c : Thread nD τ).loc main_arg9) (ix2 (row (back (num t.val cc)) r) (ycol h d)) := by
  have := t.isLt
  rw [View.ld_apply]
  blk_ext [iblk, V_main_arg9, i9 t, row, ycol, num, back, Rect.idx_unit_val]
theorem x6_at : View.ld (X0_6 m c t) (Rect.unit ![64 * cc.val, 128 * h.val] S64x128.size (KB.inb_rows cc h)) (ix2 r d) =
    m ((c : Thread nD τ).loc main_arg6) (ix2 (row (back (num t.val cc)) r) (gcol h d)) := by
  have := t.isLt
  rw [View.ld_apply]
  unfold X0_6 Pipeline.Window.fill
  rw [dif_pos (moved0_6 t _)]
  blk_ext [iblk, V_main_arg6, i6 t, row, gcol, num, back, Rect.idx_unit_val]
theorem x4_at (s : Fin 64) : iblk m c 4 t (ix3 h ⟨64 * cc.val + r.val, by omega⟩ s) =
    m ((c : Thread nD τ).loc main_arg4) (ix3 h (row (back (num t.val cc)) r) s) := by
  have := t.isLt
  blk_ext [iblk, V_main_arg4, i4 t, row, num, back]
theorem x5_at : iblk m c 5 t (ix3 cc h d) = m ((c : Thread nD τ).loc main_arg5) (ix3 (back (num t.val cc)) h d) := by
  have := t.isLt
  blk_ext [iblk, V_main_arg5, i5 t, num, back]
theorem x7_at : iblk m c 7 t (ix2 0 d) = m ((c : Thread nD τ).loc main_arg7) (ix1 d) := by
  refine Eq.trans ?_ (V_main_v0 m c d)
  blk_ext [iblk, i7 t]
theorem x8_at (a b : Fin 128) : iblk m c 8 t (ix4 cc h a b) = m ((c : Thread nD τ).loc main_arg8) (ix4 (back (num t.val cc)) h a b) := by
  have := t.isLt
  blk_ext [iblk, V_main_arg8, i8 t, num, back]

/-- A chunk's vectors, cut from the point's blocks, are the arrays' chunk. -/
theorem unit_plain (dS : FVec Ideal S128x128 .f32) :
    KU.plain (KB.unit (blk m c t) cc h dS) = Gdn.chunk (arrays m c) (back (num t.val cc)) h (fun a b => dS (ix2 a b)) := by
  unfold KU.plain Gdn.chunk KB.unit KF.mk
  congr 1
  · funext a b; pointwise; exact x8_at m c t cc h a b
  · funext a b; exact x0_at m c t cc h a b
  · funext a b; exact x1_at m c t cc h a b
  · funext a b; exact x2_at m c t cc h a b
  · funext a b; exact x3_at m c t cc h a b
  · funext a b; pointwise; exact x4_at m c t cc h a b
  · funext b; pointwise; exact x5_at m c t cc h b
  · funext a b; exact x6_at m c t cc h a b
  · funext b; exact x7_at m c t b
  · funext a b; exact x9_at m c t cc h a b
end

/-! ## The four chunks of a point -/

theorem slab_at (v : Vec Ideal S1x128x128 .f32) (a b : Fin 128) :
    shapeCast S128x128 v shapeCasts_S1x128x128_S128x128 (ix2 a b) = v (ix3 0 a b) := by
  pointwise
theorem start_at (xs : Vec Ideal S4x128x128 .f32) (h : Fin 4) (a b : Fin 128) : KB.start xs h (ix2 a b) = xs (ix3 h a b) := by
  refine (slab_at _ a b).trans ?_
  rw [View.ld_apply]
  blk_ext [Rect.idx_unit_val]

section
variable {m c t} {xs : Vec Ideal S4x128x128 .f32}
  (hx : ∀ h a b, xs (ix3 h a b) = carry (arrays m c) (4 * t.val) h a b) (h : Fin 4)
include hx

theorem plain_u3 : KU.plain (KB.u3 (blk m c t) xs h) = nth (arrays m c) (4 * t.val) h :=
  (unit_plain m c t 3 h _).trans (congrArg (Gdn.chunk _ _ h) (funext fun a => funext fun b => (start_at xs h a b).trans (hx h a b)))
theorem plain_u2 : KU.plain (KB.u2 (blk m c t) xs h) = nth (arrays m c) (4 * t.val + 1) h :=
  (unit_plain m c t 2 h _).trans (congrArg (Gdn.chunk _ _ h) (funext fun a => funext fun b =>
    (KU.dS'_at ..).trans (by rw [plain_u3 hx h]; rfl)))
theorem plain_u1 : KU.plain (KB.u1 (blk m c t) xs h) = nth (arrays m c) (4 * t.val + 2) h :=
  (unit_plain m c t 1 h _).trans (congrArg (Gdn.chunk _ _ h) (funext fun a => funext fun b =>
    (KU.dS'_at ..).trans (by rw [plain_u2 hx h]; rfl)))
theorem plain_u0 : KU.plain (KB.u0 (blk m c t) xs h) = nth (arrays m c) (4 * t.val + 3) h :=
  (unit_plain m c t 0 h _).trans (congrArg (Gdn.chunk _ _ h) (funext fun a => funext fun b =>
    (KU.dS'_at ..).trans (by rw [plain_u1 hx h]; rfl)))

theorem plain_uu (cc : Fin 4) : KU.plain (KB.uu (blk m c t) xs cc h) = nth (arrays m c) (num t.val cc) h := by
  fin_cases cc
  · exact plain_u0 hx h
  · exact plain_u1 hx h
  · exact plain_u2 hx h
  · exact plain_u3 hx h

/-- The norm weight's terms of a point, added to what the scan has so far. -/
theorem dgSum_plain (d : Fin 128) : dgUpTo (arrays m c) (4 * t.val) d +
    KB.dgSum (fun cc h => KU.dg (KB.uu (blk m c t) xs cc h)) (ix2 0 d) = dgUpTo (arrays m c) (4 * (t.val + 1)) d := by
  have e (cc h : Fin 4) : KU.dg (KB.uu (blk m c t) xs cc h) (ix2 0 d) = (nth (arrays m c) (num t.val cc) h).dg d :=
    (KU.dg_at ..).trans (by rw [plain_uu hx h cc])
  have r : dgUpTo (arrays m c) (4 * (t.val + 1)) d = dgUpTo (arrays m c) (4 * t.val) d + ∑ h, (nth (arrays m c) (num t.val 3) h).dg d
      + ∑ h, (nth (arrays m c) (num t.val 2) h).dg d + ∑ h, (nth (arrays m c) (num t.val 1) h).dg d
      + ∑ h, (nth (arrays m c) (num t.val 0) h).dg d := by
    show dgUpTo (arrays m c) (4 * t.val + 4) d = _
    rw [dgUpTo_succ, dgUpTo_succ, dgUpTo_succ, dgUpTo_succ]; rfl
  rw [r]
  pointwise [KB.dgSum, k0_pay582, k0_pay578, k0_pay571, k0_pay442, k0_pay435, k0_pay300, k0_pay296, k0_pay289, k0_pay160, k0_pay156, k0_pay152]
  simp only [e, Fin.sum_univ_four]
  ac_rfl
end

/-! ## From point to point -/

/-- What the scratch holds when point `t`'s first chunk reads it: zero at the first point, then what the point before
    left. -/
def carried : Vec Ideal S4x128x128 .f32 :=
  if t.val = 0 then (k0_pay2 : FVec Ideal S4x128x128 .f32) else (outsAt0 m c (t.val - 1) (Nat.lt_of_le_of_lt (Nat.sub_le _ _) t.isLt)).2.2.2.2.2.2.2.2

theorem carried_first (h0 : t.val % 32 = 0) : carried m c t = (k0_pay2 : FVec Ideal S4x128x128 .f32) := if_pos (by have : t.val < 32 := t.isLt; omega)
theorem carried_later (h0 : ¬t.val % 32 = 0) : carried m c t =
    (outsAt0 m c (t.val - 1) (Nat.lt_of_le_of_lt (Nat.sub_le _ _) t.isLt)).2.2.2.2.2.2.2.2 := if_neg (fun e => h0 (by rw [e]))

theorem fst_of {α β : Type} {x : α × β} {a : α} {b : β} (e : x = (a, b)) : x.1 = a := by rw [e]
theorem snd_of {α β : Type} {x : α × β} {a : α} {b : β} (e : x = (a, b)) : x.2 = b := by rw [e]

theorem not_later (h0 : t.val % 32 = 0) : ¬1 ≤ t.val := by have : t.val < 32 := t.isLt; omega
theorem later (h0 : ¬t.val % 32 = 0) : 1 ≤ t.val := by omega

theorem out10 (y : S256x512.Idx) (cc h : Fin 4) (r : Fin 64) (d : Fin 128)
    (hy0 : (y 0).val = 64 * cc.val + r.val) (hy1 : (y 1).val = 128 * h.val + d.val) :
    (outsAt0 m c t.val t.isLt).1 y = KU.dq (KB.uu (blk m c t) (carried m c t) cc h) (ix2 r d) := by
  by_cases h0 : t.val % 32 = 0
  · rw [carried_first m c t h0]
    refine (congrFun (fst_of (outsAt0_A m c t h0 h0 (not_later t h0))) y).trans ?_
    exact KA.out_10 (b := blk m c t) (hy0 := hy0) (hy1 := hy1) ..
  · rw [carried_later m c t h0]
    refine (congrFun (fst_of (outsAt0_B m c t h0 h0 (later t h0))) y).trans ?_
    exact KB.out_10 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) ..
theorem out11 (y : S256x512.Idx) (cc h : Fin 4) (r : Fin 64) (d : Fin 128)
    (hy0 : (y 0).val = 64 * cc.val + r.val) (hy1 : (y 1).val = 128 * h.val + d.val) :
    (outsAt0 m c t.val t.isLt).2.1 y = KU.dk (KB.uu (blk m c t) (carried m c t) cc h) (ix2 r d) := by
  by_cases h0 : t.val % 32 = 0
  · rw [carried_first m c t h0]
    refine (congrFun (fst_of (snd_of (outsAt0_A m c t h0 h0 (not_later t h0)))) y).trans ?_
    exact KA.out_11 (b := blk m c t) (hy0 := hy0) (hy1 := hy1) ..
  · rw [carried_later m c t h0]
    refine (congrFun (fst_of (snd_of (outsAt0_B m c t h0 h0 (later t h0)))) y).trans ?_
    exact KB.out_11 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) ..
theorem out12 (y : S256x512.Idx) (cc h : Fin 4) (r : Fin 64) (d : Fin 128)
    (hy0 : (y 0).val = 64 * cc.val + r.val) (hy1 : (y 1).val = 128 * h.val + d.val) :
    (outsAt0 m c t.val t.isLt).2.2.1 y = KU.du (KB.uu (blk m c t) (carried m c t) cc h) (ix2 r d) := by
  by_cases h0 : t.val % 32 = 0
  · rw [carried_first m c t h0]
    refine (congrFun (fst_of (snd_of (snd_of (outsAt0_A m c t h0 h0 (not_later t h0))))) y).trans ?_
    exact KA.out_12 (b := blk m c t) (hy0 := hy0) (hy1 := hy1) ..
  · rw [carried_later m c t h0]
    refine (congrFun (fst_of (snd_of (snd_of (outsAt0_B m c t h0 h0 (later t h0))))) y).trans ?_
    exact KB.out_12 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) ..
theorem out13 (y : S256x512.Idx) (cc h : Fin 4) (r : Fin 64) (d : Fin 128)
    (hy0 : (y 0).val = 64 * cc.val + r.val) (hy1 : (y 1).val = 128 * h.val + d.val) :
    (outsAt0 m c t.val t.isLt).2.2.2.1 y = KU.dw (KB.uu (blk m c t) (carried m c t) cc h) (ix2 r d) := by
  by_cases h0 : t.val % 32 = 0
  · rw [carried_first m c t h0]
    refine (congrFun (fst_of (snd_of (snd_of (snd_of (outsAt0_A m c t h0 h0 (not_later t h0)))))) y).trans ?_
    exact KA.out_13 (b := blk m c t) (hy0 := hy0) (hy1 := hy1) ..
  · rw [carried_later m c t h0]
    refine (congrFun (fst_of (snd_of (snd_of (snd_of (outsAt0_B m c t h0 h0 (later t h0)))))) y).trans ?_
    exact KB.out_13 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) ..
theorem out16 (y : S256x512.Idx) (cc h : Fin 4) (r : Fin 64) (d : Fin 128)
    (hy0 : (y 0).val = 64 * cc.val + r.val) (hy1 : (y 1).val = 128 * h.val + d.val) :
    (outsAt0 m c t.val t.isLt).2.2.2.2.2.2.1 y = truncf .bf16 (KU.dz (KB.uu (blk m c t) (carried m c t) cc h)) bitsLt_bf16_f32 (ix2 r d) := by
  by_cases h0 : t.val % 32 = 0
  · rw [carried_first m c t h0]
    refine (congrFun (fst_of (snd_of (snd_of (snd_of (snd_of (snd_of (snd_of (outsAt0_A m c t h0 h0 (not_later t h0))))))))) y).trans ?_
    exact KA.out_16 (b := blk m c t) (hy0 := hy0) (hy1 := hy1) ..
  · rw [carried_later m c t h0]
    refine (congrFun (fst_of (snd_of (snd_of (snd_of (snd_of (snd_of (snd_of (outsAt0_B m c t h0 h0 (later t h0))))))))) y).trans ?_
    exact KB.out_16 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) ..
theorem out14 (y : S4x256x64.Idx) (cc h : Fin 4) (r s : Fin 64)
    (hy0 : (y 0).val = h.val) (hy1 : (y 1).val = 64 * cc.val + r.val) (hy2 : (y 2).val = s.val) :
    (outsAt0 m c t.val t.isLt).2.2.2.2.1 y = shapeCast S1x64x64 (KU.da (KB.uu (blk m c t) (carried m c t) cc h)) shapeCasts_S64x64_S1x64x64 (ix3 0 r s) := by
  by_cases h0 : t.val % 32 = 0
  · rw [carried_first m c t h0]
    refine (congrFun (fst_of (snd_of (snd_of (snd_of (snd_of (outsAt0_A m c t h0 h0 (not_later t h0))))))) y).trans ?_
    exact KA.out_14 (b := blk m c t) (hy0 := hy0) (hy1 := hy1) (hy2 := hy2) ..
  · rw [carried_later m c t h0]
    refine (congrFun (fst_of (snd_of (snd_of (snd_of (snd_of (outsAt0_B m c t h0 h0 (later t h0))))))) y).trans ?_
    exact KB.out_14 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) (hy2 := hy2) ..
theorem out15 (y : S4x4x128.Idx) (cc h : Fin 4) (d : Fin 128)
    (hy0 : (y 0).val = cc.val) (hy1 : (y 1).val = h.val) (hy2 : (y 2).val = d.val) :
    (outsAt0 m c t.val t.isLt).2.2.2.2.2.1 y = shapeCast S1x1x128 (KU.de (KB.uu (blk m c t) (carried m c t) cc h)) shapeCasts_S1x128_S1x1x128 (ix3 0 0 d) := by
  by_cases h0 : t.val % 32 = 0
  · rw [carried_first m c t h0]
    refine (congrFun (fst_of (snd_of (snd_of (snd_of (snd_of (snd_of (outsAt0_A m c t h0 h0 (not_later t h0)))))))) y).trans ?_
    exact KA.out_15 (b := blk m c t) (hy0 := hy0) (hy1 := hy1) (hy2 := hy2) ..
  · rw [carried_later m c t h0]
    refine (congrFun (fst_of (snd_of (snd_of (snd_of (snd_of (snd_of (outsAt0_B m c t h0 h0 (later t h0)))))))) y).trans ?_
    exact KB.out_15 (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := hy0) (hy1 := hy1) (hy2 := hy2) ..
theorem scratch (h : Fin 4) (a b : Fin 128) :
    (outsAt0 m c t.val t.isLt).2.2.2.2.2.2.2.2 (ix3 h a b) = shapeCast S1x128x128 (KU.dS' (KB.u0 (blk m c t) (carried m c t) h)) shapeCasts_S128x128_S1x128x128 (ix3 0 a b) := by
  by_cases h0 : t.val % 32 = 0
  · rw [carried_first m c t h0]
    refine (congrFun (snd_of (snd_of (snd_of (snd_of (snd_of (snd_of (snd_of (snd_of (outsAt0_A m c t h0 h0 (not_later t h0)))))))))) (ix3 h a b)).trans ?_
    exact KA.scr (b := blk m c t) (hy0 := rfl) (hy1 := rfl) (hy2 := rfl) ..
  · rw [carried_later m c t h0]
    refine (congrFun (snd_of (snd_of (snd_of (snd_of (snd_of (snd_of (snd_of (snd_of (outsAt0_B m c t h0 h0 (later t h0)))))))))) (ix3 h a b)).trans ?_
    exact KB.scr (b := blk m c t) (xo := (outsAt0 m c (t.val - 1) (Nat.lt_of_le_of_lt (Nat.sub_le _ _) t.isLt)).2.2.2.2.2.2.2.1) (xs := (outsAt0 m c (t.val - 1) (Nat.lt_of_le_of_lt (Nat.sub_le _ _) t.isLt)).2.2.2.2.2.2.2.2) (hy0 := rfl) (hy1 := rfl) (hy2 := rfl) ..
theorem out17_first (h0 : t.val % 32 = 0) (y : S1x128.Idx) : (outsAt0 m c t.val t.isLt).2.2.2.2.2.2.2.1 y =
    KB.dgSum (fun cc h => KU.dg (KB.uu (blk m c t) (carried m c t) cc h)) y := by
  rw [carried_first m c t h0]
  exact (congrFun (fst_of (snd_of (snd_of (snd_of (snd_of (snd_of (snd_of (snd_of (outsAt0_A m c t h0 h0 (not_later t h0)))))))))) y).trans (KA.out_17 (b := blk m c t) ..)
theorem out17_later (h0 : ¬t.val % 32 = 0) (y : S1x128.Idx) : (outsAt0 m c t.val t.isLt).2.2.2.2.2.2.2.1 y =
    k0_pay1 (KB.dgSum (fun cc h => KU.dg (KB.uu (blk m c t) (carried m c t) cc h)))
      (outsAt0 m c (t.val - 1) (Nat.lt_of_le_of_lt (Nat.sub_le _ _) t.isLt)).2.2.2.2.2.2.2.1 y := by
  rw [carried_later m c t h0]
  exact (congrFun (fst_of (snd_of (snd_of (snd_of (snd_of (snd_of (snd_of (snd_of (outsAt0_B m c t h0 h0 (later t h0)))))))))) y).trans (KB.out_17 (b := blk m c t) ..)

/-- The cotangent a point starts from. -/
theorem carried_eq : ∀ (n : ℕ) (hn : n < cfg0.N) (h : Fin 4) (a b : Fin 128),
    carried m c ⟨n, hn⟩ (ix3 h a b) = carry (arrays m c) (4 * n) h a b
  | 0, hn, h, a, b => by
    rw [carried_first m c ⟨0, hn⟩ rfl]
    pointwise [k0_pay2]
    rfl
  | n + 1, hn, h, a, b => by
    have hN : n + 1 < 32 := hn
    rw [carried_later m c ⟨n + 1, hn⟩ (by show ¬(n + 1) % 32 = 0; omega)]
    have hx := carried_eq n (by omega)
    refine (scratch m c ⟨n, Nat.lt_of_succ_lt hn⟩ h a b).trans ?_
    pointwise
    refine (KU.dS'_at ..).trans ?_
    rw [plain_u0 (t := ⟨n, Nat.lt_of_succ_lt hn⟩) hx h]
    rfl

theorem carried_at (h : Fin 4) (a b : Fin 128) : carried m c t (ix3 h a b) = carry (arrays m c) (4 * t.val) h a b :=
  carried_eq m c t.val t.isLt h a b

/-- The norm weight's gradient after a point. -/
theorem dg_eq : ∀ (n : ℕ) (hn : n < cfg0.N) (d : Fin 128),
    (outsAt0 m c n hn).2.2.2.2.2.2.2.1 (ix2 0 d) = dgUpTo (arrays m c) (4 * (n + 1)) d
  | 0, hn, d => by
    refine (out17_first m c ⟨0, hn⟩ rfl (ix2 0 d)).trans ?_
    refine Eq.trans ?_ (dgSum_plain (t := ⟨0, hn⟩) (carried_at m c ⟨0, hn⟩) d)
    exact (zero_add _).symm
  | n + 1, hn, d => by
    have hN : n + 1 < 32 := hn
    refine (out17_later m c ⟨n + 1, hn⟩ (by show ¬(n + 1) % 32 = 0; omega) (ix2 0 d)).trans ?_
    refine Eq.trans ?_ (dgSum_plain (t := ⟨n + 1, hn⟩) (carried_at m c ⟨n + 1, hn⟩) d)
    pointwise [k0_pay1]
    exact congrArg (· + _) (dg_eq n (by omega) d)

/-! ## The arrays -/

section
variable (cc h : Fin 4) (r : Fin 64) (d : Fin 128) {i0 : Fin 8192} {i1 : Fin 512}

theorem full_at (hcc : i0.val = (31 - t.val) * 256 + (64 * cc.val + r.val)) (h' : Fin 4) :
    full (arrays m c) (chunkOf i0) h' = nth (arrays m c) (num t.val cc) h' := by
  have ht : t.val < 32 := t.isLt
  have := cc.isLt
  rw [← full_back _ _ (by unfold num; omega)]
  exact congrArg (fun n => full _ n h') (Fin.ext (by show i0.val / 64 = 127 - num t.val cc; unfold num; omega))
theorem row_at (hcc : i0.val = (31 - t.val) * 256 + (64 * cc.val + r.val)) : rowOf i0 = r :=
  Fin.ext (by show i0.val % 64 = r.val; omega)
theorem head_at (hh : i1.val = 128 * h.val + d.val) : headOf i1 = h := Fin.ext (by show i1.val / 128 = h.val; omega)
theorem col_at (hh : i1.val = 128 * h.val + d.val) : colOf i1 = d := Fin.ext (by show i1.val % 128 = d.val; omega)
end

theorem dq_at (y0 : Fin 256) (y1 : Fin 512) (i0 : Fin 8192) (i1 : Fin 512)
    (e0 : i0.val = (31 - t.val) * 256 + y0.val) (e1 : i1.val = y1.val) :
    (outsAt0 m c t.val t.isLt).1 (ix2 y0 y1) = Gdn.dq (arrays m c) (ix2 i0 i1) := by
  have h0 : i0.val = (31 - t.val) * 256 + (64 * (y0.val / 64) + y0.val % 64) := by omega
  have h1 : i1.val = 128 * (y1.val / 128) + y1.val % 128 := by omega
  refine (out10 m c t (ix2 y0 y1) ⟨y0.val / 64, by omega⟩ ⟨y1.val / 128, by omega⟩ ⟨y0.val % 64, by omega⟩
    ⟨y1.val % 128, by omega⟩ (by show y0.val = 64 * (y0.val / 64) + y0.val % 64; omega)
    (by show y1.val = 128 * (y1.val / 128) + y1.val % 128; omega)).trans ?_
  refine (KU.dq_at ..).trans ?_
  rw [plain_uu (carried_at m c t)]
  show _ = (full (arrays m c) (chunkOf i0) (headOf i1)).dq (rowOf i0) (colOf i1)
  rw [full_at m c t ⟨y0.val / 64, by omega⟩ ⟨y0.val % 64, by omega⟩ h0, row_at t ⟨y0.val / 64, by omega⟩ ⟨y0.val % 64, by omega⟩ h0,
    head_at ⟨y1.val / 128, by omega⟩ ⟨y1.val % 128, by omega⟩ h1, col_at ⟨y1.val / 128, by omega⟩ ⟨y1.val % 128, by omega⟩ h1]
theorem arr10 : (dats m 0 c).arrAt 10 cfg0.N = Gdn.dq (arrays m c) := by
  refine (dats m 0 c).arrAt_eq_of_covers 10 _ (by decide +kernel) fun t hf y => ?_
  blk_simp
  rw [after0_10]
  have ht : t.val < 32 := t.isLt
  obtain ⟨y0, y1, rfl⟩ : ∃ (y0 : Fin 256) (y1 : Fin 512), y = ix2 y0 y1 := ⟨y 0, y 1, eq_ix2 y⟩
  refine (dq_at m c t y0 y1 ⟨(31 - t.val) * 256 + y0.val, by omega⟩ y1 rfl rfl).trans (congrArg (Gdn.dq (arrays m c)) ?_)
  blk_ext [i10 t]
theorem dk_at (y0 : Fin 256) (y1 : Fin 512) (i0 : Fin 8192) (i1 : Fin 512)
    (e0 : i0.val = (31 - t.val) * 256 + y0.val) (e1 : i1.val = y1.val) :
    (outsAt0 m c t.val t.isLt).2.1 (ix2 y0 y1) = Gdn.dk (arrays m c) (ix2 i0 i1) := by
  have h0 : i0.val = (31 - t.val) * 256 + (64 * (y0.val / 64) + y0.val % 64) := by omega
  have h1 : i1.val = 128 * (y1.val / 128) + y1.val % 128 := by omega
  refine (out11 m c t (ix2 y0 y1) ⟨y0.val / 64, by omega⟩ ⟨y1.val / 128, by omega⟩ ⟨y0.val % 64, by omega⟩
    ⟨y1.val % 128, by omega⟩ (by show y0.val = 64 * (y0.val / 64) + y0.val % 64; omega)
    (by show y1.val = 128 * (y1.val / 128) + y1.val % 128; omega)).trans ?_
  refine (KU.dk_at ..).trans ?_
  rw [plain_uu (carried_at m c t)]
  show _ = (full (arrays m c) (chunkOf i0) (headOf i1)).dk (rowOf i0) (colOf i1)
  rw [full_at m c t ⟨y0.val / 64, by omega⟩ ⟨y0.val % 64, by omega⟩ h0, row_at t ⟨y0.val / 64, by omega⟩ ⟨y0.val % 64, by omega⟩ h0,
    head_at ⟨y1.val / 128, by omega⟩ ⟨y1.val % 128, by omega⟩ h1, col_at ⟨y1.val / 128, by omega⟩ ⟨y1.val % 128, by omega⟩ h1]
theorem arr11 : (dats m 0 c).arrAt 11 cfg0.N = Gdn.dk (arrays m c) := by
  refine (dats m 0 c).arrAt_eq_of_covers 11 _ (by decide +kernel) fun t hf y => ?_
  blk_simp
  rw [after0_11]
  have ht : t.val < 32 := t.isLt
  obtain ⟨y0, y1, rfl⟩ : ∃ (y0 : Fin 256) (y1 : Fin 512), y = ix2 y0 y1 := ⟨y 0, y 1, eq_ix2 y⟩
  refine (dk_at m c t y0 y1 ⟨(31 - t.val) * 256 + y0.val, by omega⟩ y1 rfl rfl).trans (congrArg (Gdn.dk (arrays m c)) ?_)
  blk_ext [i11 t]
theorem du_at (y0 : Fin 256) (y1 : Fin 512) (i0 : Fin 8192) (i1 : Fin 512)
    (e0 : i0.val = (31 - t.val) * 256 + y0.val) (e1 : i1.val = y1.val) :
    (outsAt0 m c t.val t.isLt).2.2.1 (ix2 y0 y1) = Gdn.du (arrays m c) (ix2 i0 i1) := by
  have h0 : i0.val = (31 - t.val) * 256 + (64 * (y0.val / 64) + y0.val % 64) := by omega
  have h1 : i1.val = 128 * (y1.val / 128) + y1.val % 128 := by omega
  refine (out12 m c t (ix2 y0 y1) ⟨y0.val / 64, by omega⟩ ⟨y1.val / 128, by omega⟩ ⟨y0.val % 64, by omega⟩
    ⟨y1.val % 128, by omega⟩ (by show y0.val = 64 * (y0.val / 64) + y0.val % 64; omega)
    (by show y1.val = 128 * (y1.val / 128) + y1.val % 128; omega)).trans ?_
  refine (KU.du_at ..).trans ?_
  rw [plain_uu (carried_at m c t)]
  show _ = (full (arrays m c) (chunkOf i0) (headOf i1)).du (rowOf i0) (colOf i1)
  rw [full_at m c t ⟨y0.val / 64, by omega⟩ ⟨y0.val % 64, by omega⟩ h0, row_at t ⟨y0.val / 64, by omega⟩ ⟨y0.val % 64, by omega⟩ h0,
    head_at ⟨y1.val / 128, by omega⟩ ⟨y1.val % 128, by omega⟩ h1, col_at ⟨y1.val / 128, by omega⟩ ⟨y1.val % 128, by omega⟩ h1]
theorem arr12 : (dats m 0 c).arrAt 12 cfg0.N = Gdn.du (arrays m c) := by
  refine (dats m 0 c).arrAt_eq_of_covers 12 _ (by decide +kernel) fun t hf y => ?_
  blk_simp
  rw [after0_12]
  have ht : t.val < 32 := t.isLt
  obtain ⟨y0, y1, rfl⟩ : ∃ (y0 : Fin 256) (y1 : Fin 512), y = ix2 y0 y1 := ⟨y 0, y 1, eq_ix2 y⟩
  refine (du_at m c t y0 y1 ⟨(31 - t.val) * 256 + y0.val, by omega⟩ y1 rfl rfl).trans (congrArg (Gdn.du (arrays m c)) ?_)
  blk_ext [i12 t]
theorem dw_at (y0 : Fin 256) (y1 : Fin 512) (i0 : Fin 8192) (i1 : Fin 512)
    (e0 : i0.val = (31 - t.val) * 256 + y0.val) (e1 : i1.val = y1.val) :
    (outsAt0 m c t.val t.isLt).2.2.2.1 (ix2 y0 y1) = Gdn.dw (arrays m c) (ix2 i0 i1) := by
  have h0 : i0.val = (31 - t.val) * 256 + (64 * (y0.val / 64) + y0.val % 64) := by omega
  have h1 : i1.val = 128 * (y1.val / 128) + y1.val % 128 := by omega
  refine (out13 m c t (ix2 y0 y1) ⟨y0.val / 64, by omega⟩ ⟨y1.val / 128, by omega⟩ ⟨y0.val % 64, by omega⟩
    ⟨y1.val % 128, by omega⟩ (by show y0.val = 64 * (y0.val / 64) + y0.val % 64; omega)
    (by show y1.val = 128 * (y1.val / 128) + y1.val % 128; omega)).trans ?_
  refine (KU.dw_at ..).trans ?_
  rw [plain_uu (carried_at m c t)]
  show _ = (full (arrays m c) (chunkOf i0) (headOf i1)).dw (rowOf i0) (colOf i1)
  rw [full_at m c t ⟨y0.val / 64, by omega⟩ ⟨y0.val % 64, by omega⟩ h0, row_at t ⟨y0.val / 64, by omega⟩ ⟨y0.val % 64, by omega⟩ h0,
    head_at ⟨y1.val / 128, by omega⟩ ⟨y1.val % 128, by omega⟩ h1, col_at ⟨y1.val / 128, by omega⟩ ⟨y1.val % 128, by omega⟩ h1]
theorem arr13 : (dats m 0 c).arrAt 13 cfg0.N = Gdn.dw (arrays m c) := by
  refine (dats m 0 c).arrAt_eq_of_covers 13 _ (by decide +kernel) fun t hf y => ?_
  blk_simp
  rw [after0_13]
  have ht : t.val < 32 := t.isLt
  obtain ⟨y0, y1, rfl⟩ : ∃ (y0 : Fin 256) (y1 : Fin 512), y = ix2 y0 y1 := ⟨y 0, y 1, eq_ix2 y⟩
  refine (dw_at m c t y0 y1 ⟨(31 - t.val) * 256 + y0.val, by omega⟩ y1 rfl rfl).trans (congrArg (Gdn.dw (arrays m c)) ?_)
  blk_ext [i13 t]
theorem dz_at (y0 : Fin 256) (y1 : Fin 512) (i0 : Fin 8192) (i1 : Fin 512)
    (e0 : i0.val = (31 - t.val) * 256 + y0.val) (e1 : i1.val = y1.val) :
    (outsAt0 m c t.val t.isLt).2.2.2.2.2.2.1 (ix2 y0 y1) = Gdn.dz (arrays m c) (ix2 i0 i1) := by
  have h0 : i0.val = (31 - t.val) * 256 + (64 * (y0.val / 64) + y0.val % 64) := by omega
  have h1 : i1.val = 128 * (y1.val / 128) + y1.val % 128 := by omega
  refine (out16 m c t (ix2 y0 y1) ⟨y0.val / 64, by omega⟩ ⟨y1.val / 128, by omega⟩ ⟨y0.val % 64, by omega⟩
    ⟨y1.val % 128, by omega⟩ (by show y0.val = 64 * (y0.val / 64) + y0.val % 64; omega)
    (by show y1.val = 128 * (y1.val / 128) + y1.val % 128; omega)).trans ?_
  refine (KU.dz_at ..).trans ?_
  rw [plain_uu (carried_at m c t)]
  show _ = (full (arrays m c) (chunkOf i0) (headOf i1)).dz (rowOf i0) (colOf i1)
  rw [full_at m c t ⟨y0.val / 64, by omega⟩ ⟨y0.val % 64, by omega⟩ h0, row_at t ⟨y0.val / 64, by omega⟩ ⟨y0.val % 64, by omega⟩ h0,
    head_at ⟨y1.val / 128, by omega⟩ ⟨y1.val % 128, by omega⟩ h1, col_at ⟨y1.val / 128, by omega⟩ ⟨y1.val % 128, by omega⟩ h1]
theorem arr16 : (dats m 0 c).arrAt 16 cfg0.N = Gdn.dz (arrays m c) := by
  refine (dats m 0 c).arrAt_eq_of_covers 16 _ (by decide +kernel) fun t hf y => ?_
  blk_simp
  rw [after0_16]
  have ht : t.val < 32 := t.isLt
  obtain ⟨y0, y1, rfl⟩ : ∃ (y0 : Fin 256) (y1 : Fin 512), y = ix2 y0 y1 := ⟨y 0, y 1, eq_ix2 y⟩
  refine (dz_at m c t y0 y1 ⟨(31 - t.val) * 256 + y0.val, by omega⟩ y1 rfl rfl).trans (congrArg (Gdn.dz (arrays m c)) ?_)
  blk_ext [i16 t]
theorem da_at (y0 : Fin 4) (y1 : Fin 256) (y2 : Fin 64) (i1 : Fin 8192)
    (e1 : i1.val = (31 - t.val) * 256 + y1.val) :
    (outsAt0 m c t.val t.isLt).2.2.2.2.1 (ix3 y0 y1 y2) = Gdn.da (arrays m c) (ix3 y0 i1 y2) := by
  have h1 : i1.val = (31 - t.val) * 256 + (64 * (y1.val / 64) + y1.val % 64) := by omega
  refine (out14 m c t (ix3 y0 y1 y2) ⟨y1.val / 64, by omega⟩ y0 ⟨y1.val % 64, by omega⟩ y2 rfl
    (by show y1.val = 64 * (y1.val / 64) + y1.val % 64; omega) rfl).trans ?_
  pointwise
  refine (KU.da_at ..).trans ?_
  rw [plain_uu (carried_at m c t)]
  show _ = (full (arrays m c) (chunkOf i1) y0).da (rowOf i1) y2
  rw [full_at m c t ⟨y1.val / 64, by omega⟩ ⟨y1.val % 64, by omega⟩ h1, row_at t ⟨y1.val / 64, by omega⟩ ⟨y1.val % 64, by omega⟩ h1]
theorem arr14 : (dats m 0 c).arrAt 14 cfg0.N = Gdn.da (arrays m c) := by
  refine (dats m 0 c).arrAt_eq_of_covers 14 _ (by decide +kernel) fun t hf y => ?_
  blk_simp
  rw [after0_14]
  have ht : t.val < 32 := t.isLt
  obtain ⟨y0, y1, y2, rfl⟩ : ∃ (y0 : Fin 4) (y1 : Fin 256) (y2 : Fin 64), y = ix3 y0 y1 y2 := ⟨y 0, y 1, y 2, eq_ix3 y⟩
  refine (da_at m c t y0 y1 y2 ⟨(31 - t.val) * 256 + y1.val, by omega⟩ rfl).trans (congrArg (Gdn.da (arrays m c)) ?_)
  blk_ext [i14 t]
theorem de_at (y0 : Fin 4) (y1 : Fin 4) (y2 : Fin 128) :
    (outsAt0 m c t.val t.isLt).2.2.2.2.2.1 (ix3 y0 y1 y2) = Gdn.de (arrays m c) (ix3 (back (num t.val y0)) y1 y2) := by
  have ht : t.val < 32 := t.isLt
  refine (out15 m c t (ix3 y0 y1 y2) y0 y1 y2 rfl rfl rfl).trans ?_
  pointwise
  refine (KU.de_at ..).trans ?_
  rw [plain_uu (carried_at m c t)]
  show _ = (full (arrays m c) (back (num t.val y0)) y1).de y2
  rw [full_back _ _ (by unfold num; omega)]
theorem arr15 : (dats m 0 c).arrAt 15 cfg0.N = Gdn.de (arrays m c) := by
  refine (dats m 0 c).arrAt_eq_of_covers 15 _ (by decide +kernel) fun t hf y => ?_
  blk_simp
  rw [after0_15]
  have ht : t.val < 32 := t.isLt
  obtain ⟨y0, y1, y2, rfl⟩ : ∃ (y0 : Fin 4) (y1 : Fin 4) (y2 : Fin 128), y = ix3 y0 y1 y2 := ⟨y 0, y 1, y 2, eq_ix3 y⟩
  refine (de_at m c t y0 y1 y2).trans (congrArg (Gdn.de (arrays m c)) ?_)
  blk_ext [i15 t, back, num]

/-- The grid's last point. -/
def lastPoint : Fin cfg0.N := ⟨31, by decide⟩

theorem dg_at (d : Fin 128) : (outsAt0 m c lastPoint.val lastPoint.isLt).2.2.2.2.2.2.2.1 (ix2 0 d) = Gdn.dg (arrays m c) (ix2 0 d) :=
  (dg_eq m c lastPoint.val lastPoint.isLt d).trans (congrArg (fun n => dgUpTo (arrays m c) n d) (show 4 * (lastPoint.val + 1) = 128 from rfl))
theorem arr17 : (dats m 0 c).arrAt 17 cfg0.N = Gdn.dg (arrays m c) := by
  refine (dats m 0 c).arrAt_eq_of_after_last 17 lastPoint (by decide +kernel) _ fun j => ?_
  blk_simp
  rw [after0_17]
  obtain ⟨d, rfl⟩ : ∃ d : Fin 128, j = ix2 0 d := ⟨j 1, by blk_ext⟩
  exact dg_at m c d

end Cert.KernelIdeal.KW
-- ==== Proof.RefUnit.lean ====
module

public import proofs.«01_k».proof.Proof.Gen.ReferenceIdeal.Step
public import proofs.«01_k».proof.Proof.GradUnit
public import Idealize.ShloMosaic.Lib.Pointwise

/-!
# One trip of the reference's loop, at an index

Trip `j` reads chunk `127 − j`, computes its gradients for the four heads at once and writes them at that chunk's
place in the arrays it carries. The first part reads the chunk's slices, the second says that every value of the trip
is, head by head, the plain function of `Cert.Gdn.Chunk`, the third says what the carried arrays hold after the trip.
-/

@[expose] public section

set_option maxRecDepth 16384

noncomputable section

namespace Cert.ReferenceIdeal.RU

open Cert.ReferenceIdeal Cert.ReferenceIdeal.Gen Cert.ReferenceIdeal.Step Idealize.ShloMosaic Cert.Gdn

/-- Chunk `n` of head `h`, with the cotangent of the state after it, as plain functions. -/
def chunk (s : State Ideal) (n : Fin 128) (h : Fin 4) : Chunk where
  S := fun a b => s.main_v25_0 (ix4 n h a b)
  q := fun a b => s.main_v25_1 (ix4 n h a b)
  k := fun a b => s.main_v25_2 (ix4 n h a b)
  u := fun a b => s.main_v25_3 (ix4 n h a b)
  w := fun a b => s.main_v25_4 (ix4 n h a b)
  a := fun a b => s.main_v25_5 (ix4 n h a b)
  e := fun b => s.main_v25_6 (ix3 n h b)
  z := fun a b => s.main_v25_7 (ix4 n h a b)
  g := fun b => s.main_v25_9 (ix1 b)
  dy := fun a b => s.main_v25_8 (ix4 n h a b)
  dS := fun a b => s.main_v25_11 (ix3 h a b)

/-- The chunk of trip `j`. -/
def at_ (j : ℕ) : Fin 128 := ⟨127 - j, by omega⟩

/-- A host's sum over the first two of three axes, at an index of the last. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ a, ∑ b, v (ix3 a b d) := by
  unfold Ideal.hostReduceAdd
  congr 1
  refine (Finset.sum_filter_eq_sum_of_fiber _ (fun k : Fin n0 × Fin n1 => ix3 k.1 k.2 d)
    (fun _ _ e => Prod.ext (congrFun e 0) (congrFun e 1)) (fun i => ?_) v).trans (by simp only [Fintype.sum_prod_type])
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    match b with
    | ⟨0, _⟩ => rfl

section
variable (j : ℕ) (s : State Ideal)

theorem b3_at (hj : j < 128) (i : S_.Idx) : (b3 j s i).toInt = ((127 - j : ℕ) : ℤ) := by
  have h : b3 j s i = BitVec.ofNat 32 (127 - j) := by
    show (128#32 - BitVec.ofNat 32 j) - 1#32 = _
    apply BitVec.eq_of_toNat_eq
    simp only [BitVec.toNat_sub, BitVec.toNat_ofNat]
    omega
  rw [h, BitVec.toInt_eq_toNat_cond, BitVec.toNat_ofNat]
  split <;> omega

variable (hj : j < 128) (h : Fin 4)
include hj

/-! ## The slices -/

theorem b8_at (a : Fin 128) (b : Fin 128) : b8 j s (ix3 h a b) = (chunk s (at_ j) h).S a b := by
  pointwise [b8, b7, b6, b5, b4]
  simp only [chunk, at_]
  congr 2 <;> (apply Fin.ext; simp [Host.clampedStart, b3_at j s hj, constantI])
theorem b13_at (a : Fin 64) (b : Fin 128) : b13 j s (ix3 h a b) = (chunk s (at_ j) h).q a b := by
  pointwise [b13, b12, b11, b10, b9]
  simp only [chunk, at_]
  congr 2 <;> (apply Fin.ext; simp [Host.clampedStart, b3_at j s hj, constantI])
theorem b18_at (a : Fin 64) (b : Fin 128) : b18 j s (ix3 h a b) = (chunk s (at_ j) h).k a b := by
  pointwise [b18, b17, b16, b15, b14]
  simp only [chunk, at_]
  congr 2 <;> (apply Fin.ext; simp [Host.clampedStart, b3_at j s hj, constantI])
theorem b23_at (a : Fin 64) (b : Fin 128) : b23 j s (ix3 h a b) = (chunk s (at_ j) h).u a b := by
  pointwise [b23, b22, b21, b20, b19]
  simp only [chunk, at_]
  congr 2 <;> (apply Fin.ext; simp [Host.clampedStart, b3_at j s hj, constantI])
theorem b28_at (a : Fin 64) (b : Fin 128) : b28 j s (ix3 h a b) = (chunk s (at_ j) h).w a b := by
  pointwise [b28, b27, b26, b25, b24]
  simp only [chunk, at_]
  congr 2 <;> (apply Fin.ext; simp [Host.clampedStart, b3_at j s hj, constantI])
theorem b33_at (a : Fin 64) (b : Fin 64) : b33 j s (ix3 h a b) = (chunk s (at_ j) h).a a b := by
  pointwise [b33, b32, b31, b30, b29]
  simp only [chunk, at_]
  congr 2 <;> (apply Fin.ext; simp [Host.clampedStart, b3_at j s hj, constantI])
theorem b37_at (b : Fin 128) : b37 j s (ix2 h b) = (chunk s (at_ j) h).e b := by
  pointwise [b37, b36, b35, b34]
  simp only [chunk, at_]
  congr 2 <;> (apply Fin.ext; simp [Host.clampedStart, b3_at j s hj, constantI])
theorem b42_at (a : Fin 64) (b : Fin 128) : b42 j s (ix3 h a b) = (chunk s (at_ j) h).z a b := by
  pointwise [b42, b41, b40, b39, b38]
  simp only [chunk, at_]
  congr 2 <;> (apply Fin.ext; simp [Host.clampedStart, b3_at j s hj, constantI])
theorem b47_at (a : Fin 64) (b : Fin 128) : b47 j s (ix3 h a b) = (chunk s (at_ j) h).dy a b := by
  pointwise [b47, b46, b45, b44, b43]
  simp only [chunk, at_]
  congr 2 <;> (apply Fin.ext; simp [Host.clampedStart, b3_at j s hj, constantI])

/-! ## The values -/

variable (c : Fin 64) (d : Fin 128)

theorem b49_at : b49 j s (ix3 h c d) = (chunk s (at_ j) h).v c d := by
  pointwise [b49, b48]
  simp only [b28_at j s hj, b8_at j s hj, b23_at j s hj]
  rfl
theorem b52_at : b52 j s (ix3 h c d) = (chunk s (at_ j) h).o c d := by
  pointwise [b52, b51, b50]
  simp only [b13_at j s hj, b8_at j s hj, b33_at j s hj, b49_at j s hj]
  rfl
theorem b67_at : b67 j s (ix3 h c 0) = (chunk s (at_ j) h).ms c := by
  pointwise [b67, b66, b65, b64, b63, b62, b61, b60, b59, b58]
  simp only [b52_at j s hj]
  rfl
theorem b68_at : b68 j s (ix3 h c 0) = (chunk s (at_ j) h).r c := by
  pointwise [b68]
  simp only [b67_at j s hj]
  rfl
theorem b72_at : b72 j s (ix3 h c 0) = (chunk s (at_ j) h).dr c := by
  pointwise [b72, b71, b70, b69]
  simp only [b68_at j s hj, b67_at j s hj]
  rfl
theorem b74_at : b74 j s (ix3 h c d) = (chunk s (at_ j) h).n c d := by
  pointwise [b74, b73]
  simp only [b52_at j s hj, b68_at j s hj]
  rfl
theorem b85_at : b85 j s (ix3 h c d) = (chunk s (at_ j) h).sg c d := by
  pointwise [b85, b84, b83, b82, b81, b80, b79, b78]
  simp only [b42_at j s hj]
  rfl
theorem b90_at : b90 j s (ix3 h c d) = (chunk s (at_ j) h).gate c d := by
  pointwise [b90]
  simp only [b42_at j s hj, b85_at j s hj]
  rfl
theorem b92_at : b92 j s (ix3 h c d) = (chunk s (at_ j) h).n c d * (chunk s (at_ j) h).g d * (chunk s (at_ j) h).dy c d := by
  pointwise [b92, b77, b76, b75]
  simp only [b74_at j s hj, b47_at j s hj]
  rfl
theorem b97_at : b97 j s (ix3 h c d) = (chunk s (at_ j) h).dz c d := by
  pointwise [b97, b96, b95, b94, b89, b88, b87, b86]
  simp only [b92_at j s hj, b85_at j s hj, b42_at j s hj]
  rfl
theorem b93_at : b93 j s (ix3 h c d) = (chunk s (at_ j) h).dng c d := by
  pointwise [b93]
  simp only [b90_at j s hj, b47_at j s hj]
  rfl
theorem b103_at : b103 j s (ix3 h c d) = (chunk s (at_ j) h).dn c d := by
  pointwise [b103, b102, b75]
  simp only [b93_at j s hj]
  rfl
theorem b105_at : b105 j s (ix1 d) = ∑ h, (chunk s (at_ j) h).dg d := by
  pointwise [b105, b104, b101]
  rw [sum_first_two]
  pointwise [b100, b99, b98]
  rw [sum_first_two]
  simp only [Fin.sum_univ_one, zero_add]
  refine Finset.sum_congr rfl fun h _ => Finset.sum_congr rfl fun c _ => ?_
  show b74 j s (ix3 h c d) * b93 j s (ix3 h c d) = _
  rw [b74_at j s hj, b93_at j s hj]
theorem b118_at : b118 j s (ix3 h c d) = (chunk s (at_ j) h).dms c := by
  pointwise [b118, b117, b116, b115, b114, b113, b112, b109, b108, b107, b106]
  simp only [Fin.sum_univ_one, b52_at j s hj, b103_at j s hj, b72_at j s hj]
  rfl
theorem b122_at : b122 j s (ix3 h c d) = (chunk s (at_ j) h).do_ c d := by
  pointwise [b122, b121, b120, b119, b111, b110]
  simp only [b103_at j s hj, b68_at j s hj, b52_at j s hj, b118_at j s hj]
  rfl
theorem b137_at : b137 j s (ix3 h c d) = (chunk s (at_ j) h).du c d := by
  pointwise [b137, b136, b135, b124, b123]
  simp only [b18_at j s hj, b33_at j s hj, b122_at j s hj]
  unfold Chunk.du; congr 1 <;> exact Finset.sum_congr rfl fun _ _ => mul_comm _ _
theorem b143_at : b143 j s (ix3 h c d) = -(chunk s (at_ j) h).du c d := by
  pointwise [b143]; simp only [b137_at j s hj]
theorem b142_at : b142 j s (ix3 h c d) = (chunk s (at_ j) h).dq c d := by
  pointwise [b142]
  simp only [b122_at j s hj, b8_at j s hj]
  rfl
theorem b126_at : b126 j s (ix3 h c d) = (chunk s (at_ j) h).dk c d := by
  pointwise [b126, b125]
  simp only [b49_at j s hj]
  exact Finset.sum_congr rfl fun _ _ => mul_comm _ _
theorem b147_at : b147 j s (ix3 h c d) = (chunk s (at_ j) h).dw c d := by
  pointwise [b147]
  simp only [b143_at j s hj, b8_at j s hj]
  rfl
theorem b138_at (c2 : Fin 64) : b138 j s (ix3 h c c2) = (chunk s (at_ j) h).da c c2 := by
  pointwise [b138]
  simp only [b122_at j s hj, b49_at j s hj]
  rfl
theorem b134_at : b134 j s (ix2 h d) = (chunk s (at_ j) h).de d := by
  pointwise [b134, b133, b130, b129, b128, b127]
  simp only [Fin.sum_univ_one, b8_at j s hj]
  rfl
theorem b146_at (e : Fin 128) : b146 j s (ix3 h e d) = (chunk s (at_ j) h).dS' e d := by
  pointwise [b146, b145, b144, b141, b140, b139, b132, b131, b53]
  simp only [b143_at j s hj, b28_at j s hj, b122_at j s hj, b13_at j s hj, b37_at j s hj]
  unfold Chunk.dS'; congr 1; congr 1; all_goals exact Finset.sum_congr rfl fun _ _ => mul_comm _ _

/-! ## What the arrays hold after the trip -/

variable (n : Fin 128)

theorem b153_at : b153 j s (ix4 n h c d) =
    if n = at_ j then (chunk s (at_ j) h).dq c d else s.main_v25_13 (ix4 n h c d) := by
  pointwise [b153, b152, b151, b150, b149]
  simp only [b142_at j s hj]
  simp [Host.clampedStart, b3_at j s hj, constantI, at_, Fin.ext_iff]
  by_cases hn : n.val = 127 - j
  · rw [if_pos hn, if_pos (by omega)]
  · rw [if_neg hn, if_neg (by omega)]
theorem b158_at : b158 j s (ix4 n h c d) =
    if n = at_ j then (chunk s (at_ j) h).dk c d else s.main_v25_14 (ix4 n h c d) := by
  pointwise [b158, b157, b156, b155, b154]
  simp only [b126_at j s hj]
  simp [Host.clampedStart, b3_at j s hj, constantI, at_, Fin.ext_iff]
  by_cases hn : n.val = 127 - j
  · rw [if_pos hn, if_pos (by omega)]
  · rw [if_neg hn, if_neg (by omega)]
theorem b163_at : b163 j s (ix4 n h c d) =
    if n = at_ j then (chunk s (at_ j) h).du c d else s.main_v25_15 (ix4 n h c d) := by
  pointwise [b163, b162, b161, b160, b159]
  simp only [b137_at j s hj]
  simp [Host.clampedStart, b3_at j s hj, constantI, at_, Fin.ext_iff]
  by_cases hn : n.val = 127 - j
  · rw [if_pos hn, if_pos (by omega)]
  · rw [if_neg hn, if_neg (by omega)]
theorem b168_at : b168 j s (ix4 n h c d) =
    if n = at_ j then (chunk s (at_ j) h).dw c d else s.main_v25_16 (ix4 n h c d) := by
  pointwise [b168, b167, b166, b165, b164]
  simp only [b147_at j s hj]
  simp [Host.clampedStart, b3_at j s hj, constantI, at_, Fin.ext_iff]
  by_cases hn : n.val = 127 - j
  · rw [if_pos hn, if_pos (by omega)]
  · rw [if_neg hn, if_neg (by omega)]
theorem b173_at (c2 : Fin 64) : b173 j s (ix4 n h c c2) =
    if n = at_ j then (chunk s (at_ j) h).da c c2 else s.main_v25_17 (ix4 n h c c2) := by
  pointwise [b173, b172, b171, b170, b169]
  simp only [b138_at j s hj]
  simp [Host.clampedStart, b3_at j s hj, constantI, at_, Fin.ext_iff]
  by_cases hn : n.val = 127 - j
  · rw [if_pos hn, if_pos (by omega)]
  · rw [if_neg hn, if_neg (by omega)]
theorem b177_at : b177 j s (ix3 n h d) =
    if n = at_ j then (chunk s (at_ j) h).de d else s.main_v25_18 (ix3 n h d) := by
  pointwise [b177, b176, b175, b174]
  simp only [b134_at j s hj]
  simp [Host.clampedStart, b3_at j s hj, constantI, at_, Fin.ext_iff]
  by_cases hn : n.val = 127 - j
  · rw [if_pos hn, if_pos (by omega)]
  · rw [if_neg hn, if_neg (by omega)]
theorem b182_at : b182 j s (ix4 n h c d) =
    if n = at_ j then (chunk s (at_ j) h).dz c d else s.main_v25_19 (ix4 n h c d) := by
  pointwise [b182, b181, b180, b179, b178]
  simp only [b97_at j s hj]
  simp [Host.clampedStart, b3_at j s hj, constantI, at_, Fin.ext_iff]
  by_cases hn : n.val = 127 - j
  · rw [if_pos hn, if_pos (by omega)]
  · rw [if_neg hn, if_neg (by omega)]
theorem b148_at : b148 j s (ix1 d) = s.main_v25_12 (ix1 d) + ∑ h, (chunk s (at_ j) h).dg d := by
  pointwise [b148]
  simp only [b105_at j s hj]

end

end Cert.ReferenceIdeal.RU

end
-- ==== Proof.RefLoop.lean ====
/- The reference's loop, trip by trip: a valuation that holds a state (the carried arrays, the arrays the loop only reads,
   the trip's number) holds the next state after one trip, so the results are read off the state after the last trip. -/
module

public import proofs.«01_k».proof.Proof.Gen.ReferenceIdeal.Run
public import proofs.«01_k».proof.Proof.Gen.ReferenceIdeal.Step

@[expose] public section

set_option maxRecDepth 8192

noncomputable section

namespace Cert.ReferenceIdeal.RL

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v25_11) = s.main_v25_11
  f_12 : V0 (Proc.devRef .tc main_v25_12) = s.main_v25_12
  f_13 : V0 (Proc.devRef .tc main_v25_13) = s.main_v25_13
  f_14 : V0 (Proc.devRef .tc main_v25_14) = s.main_v25_14
  f_15 : V0 (Proc.devRef .tc main_v25_15) = s.main_v25_15
  f_16 : V0 (Proc.devRef .tc main_v25_16) = s.main_v25_16
  f_17 : V0 (Proc.devRef .tc main_v25_17) = s.main_v25_17
  f_18 : V0 (Proc.devRef .tc main_v25_18) = s.main_v25_18
  f_19 : V0 (Proc.devRef .tc main_v25_19) = s.main_v25_19
  f_0 : V0 (Proc.devRef .tc main_v25_0) = s.main_v25_0
  f_1 : V0 (Proc.devRef .tc main_v25_1) = s.main_v25_1
  f_2 : V0 (Proc.devRef .tc main_v25_2) = s.main_v25_2
  f_3 : V0 (Proc.devRef .tc main_v25_3) = s.main_v25_3
  f_4 : V0 (Proc.devRef .tc main_v25_4) = s.main_v25_4
  f_5 : V0 (Proc.devRef .tc main_v25_5) = s.main_v25_5
  f_6 : V0 (Proc.devRef .tc main_v25_6) = s.main_v25_6
  f_7 : V0 (Proc.devRef .tc main_v25_7) = s.main_v25_7
  f_8 : V0 (Proc.devRef .tc main_v25_8) = s.main_v25_8
  f_9 : V0 (Proc.devRef .tc main_v25_9) = s.main_v25_9
  n_10 : V0 (Proc.devRef .tc main_v25_10) = constantI S_ 32 (BitVec.ofNat 32 j)

variable {V0 s j}

theorem al_0 (h : Holds V0 s j) : (constantI S_ 32 128#32 : (Proc.devRef .tc main_while0b_c_27 : DevRef τ sig).ty.Contents (Elt F)) = Step.b0 j s := by
  unfold Step.b0
  rfl
theorem al_1 (h : Holds V0 s j) : (subi (constantI S_ 32 128#32) (V0 (Proc.devRef .tc main_v25_10)) : (Proc.devRef .tc main_while0b_v40 : DevRef τ sig).ty.Contents (Elt F)) = Step.b1 j s := by
  unfold Step.b1
  rw [← al_0 h, h.n_10]
  try rfl
theorem al_2 (h : Holds V0 s j) : (constantI S_ 32 1#32 : (Proc.devRef .tc main_while0b_c_28 : DevRef τ sig).ty.Contents (Elt F)) = Step.b2 j s := by
  unfold Step.b2
  rfl
theorem al_3 (h : Holds V0 s j) : (res_main_while0b_v41 V0 : (Proc.devRef .tc main_while0b_v41 : DevRef τ sig).ty.Contents (Elt F)) = Step.b3 j s := by
  unfold res_main_while0b_v41 Step.b3
  rw [← al_1 h, ← al_2 h]
  try rfl
theorem al_4 (h : Holds V0 s j) : (constantI S_ 32 0#32 : (Proc.devRef .tc main_while0b_call0_c : DevRef τ sig).ty.Contents (Elt F)) = Step.b4 j s := by
  unfold Step.b4
  rfl
theorem al_5 (h : Holds V0 s j) : (constantI S_ 32 0#32 : (Proc.devRef .tc main_while0b_call0_c_0 : DevRef τ sig).ty.Contents (Elt F)) = Step.b5 j s := by
  unfold Step.b5
  rfl
theorem al_6 (h : Holds V0 s j) : (constantI S_ 32 0#32 : (Proc.devRef .tc main_while0b_call0_c_1 : DevRef τ sig).ty.Contents (Elt F)) = Step.b6 j s := by
  unfold Step.b6
  rfl
theorem al_7 (h : Holds V0 s j) : (Host.dynamicSlice S1x4x128x128 (V0 (Proc.devRef .tc main_v25_0)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x128x128_S1x4x128x128 : (Proc.devRef .tc main_while0b_call0_v0 : DevRef τ sig).ty.Contents (Elt F)) = Step.b7 j s := by
  unfold Step.b7
  rw [← al_3 h, ← al_4 h, ← al_5 h, ← al_6 h, h.f_0]
  try rfl
theorem al_8 (h : Holds V0 s j) : (res_main_while0b_v42 V0 : (Proc.devRef .tc main_while0b_v42 : DevRef τ sig).ty.Contents (Elt F)) = Step.b8 j s := by
  unfold res_main_while0b_v42 Step.b8
  rw [← al_7 h]
  try rfl
theorem al_9 (h : Holds V0 s j) : (constantI S_ 32 0#32 : (Proc.devRef .tc main_while0b_call1_c : DevRef τ sig).ty.Contents (Elt F)) = Step.b9 j s := by
  unfold Step.b9
  rfl
theorem al_10 (h : Holds V0 s j) : (constantI S_ 32 0#32 : (Proc.devRef .tc main_while0b_call1_c_0 : DevRef τ sig).ty.Contents (Elt F)) = Step.b10 j s := by
  unfold Step.b10
  rfl
theorem al_11 (h : Holds V0 s j) : (constantI S_ 32 0#32 : (Proc.devRef .tc main_while0b_call1_c_1 : DevRef τ sig).ty.Contents (Elt F)) = Step.b11 j s := by
  unfold Step.b11
  rfl
theorem al_12 (h : Holds V0 s j) : (Host.dynamicSlice S1x4x64x128 (V0 (Proc.devRef .tc main_v25_1)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call1_v0 : DevRef τ sig).ty.Contents (Elt F)) = Step.b12 j s := by
  unfold Step.b12
  rw [← al_3 h, ← al_9 h, ← al_10 h, ← al_11 h, h.f_1]
  try rfl
theorem al_13 (h : Holds V0 s j) : (res_main_while0b_v43 V0 : (Proc.devRef .tc main_while0b_v43 : DevRef τ sig).ty.Contents (Elt F)) = Step.b13 j s := by
  unfold res_main_while0b_v43 Step.b13
  rw [← al_12 h]
  try rfl
theorem al_14 (h : Holds V0 s j) : (constantI S_ 32 0#32 : (Proc.devRef .tc main_while0b_call2_c : DevRef τ sig).ty.Contents (Elt F)) = Step.b14 j s := by
  unfold Step.b14
  rfl
theorem al_15 (h : Holds V0 s j) : (constantI S_ 32 0#32 : (Proc.devRef .tc main_while0b_call2_c_0 : DevRef τ sig).ty.Contents (Elt F)) = Step.b15 j s := by
  unfold Step.b15
  rfl
theorem al_16 (h : Holds V0 s j) : (constantI S_ 32 0#32 : (Proc.devRef .tc main_while0b_call2_c_1 : DevRef τ sig).ty.Contents (Elt F)) = Step.b16 j s := by
  unfold Step.b16
  rfl
theorem al_17 (h : Holds V0 s j) : (Host.dynamicSlice S1x4x64x128 (V0 (Proc.devRef .tc main_v25_2)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call2_v0 : DevRef τ sig).ty.Contents (Elt F)) = Step.b17 j s := by
  unfold Step.b17
  rw [← al_3 h, ← al_14 h, ← al_15 h, ← al_16 h, h.f_2]
  try rfl
theorem al_18 (h : Holds V0 s j) : (res_main_while0b_v44 V0 : (Proc.devRef .tc main_while0b_v44 : DevRef τ sig).ty.Contents (Elt F)) = Step.b18 j s := by
  unfold res_main_while0b_v44 Step.b18
  rw [← al_17 h]
  try rfl
theorem al_19 (h : Holds V0 s j) : (constantI S_ 32 0#32 : (Proc.devRef .tc main_while0b_call3_c : DevRef τ sig).ty.Contents (Elt F)) = Step.b19 j s := by
  unfold Step.b19
  rfl
theorem al_20 (h : Holds V0 s j) : (constantI S_ 32 0#32 : (Proc.devRef .tc main_while0b_call3_c_0 : DevRef τ sig).ty.Contents (Elt F)) = Step.b20 j s := by
  unfold Step.b20
  rfl
theorem al_21 (h : Holds V0 s j) : (constantI S_ 32 0#32 : (Proc.devRef .tc main_while0b_call3_c_1 : DevRef τ sig).ty.Contents (Elt F)) = Step.b21 j s := by
  unfold Step.b21
  rfl
theorem al_22 (h : Holds V0 s j) : (Host.dynamicSlice S1x4x64x128 (V0 (Proc.devRef .tc main_v25_3)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call3_v0 : DevRef τ sig).ty.Contents (Elt F)) = Step.b22 j s := by
  unfold Step.b22
  rw [← al_3 h, ← al_19 h, ← al_20 h, ← al_21 h, h.f_3]
  try rfl
theorem al_23 (h : Holds V0 s j) : (shapeCast S4x64x128 (Host.dynamicSlice S1x4x64x128 (V0 (Proc.devRef .tc main_v25_3)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128 : (Proc.devRef .tc main_while0b_v45 : DevRef τ sig).ty.Contents (Elt F)) = Step.b23 j s := by
  unfold Step.b23
  rw [← al_22 h]
  try rfl
theorem al_24 (h : Holds V0 s j) : (constantI S_ 32 0#32 : (Proc.devRef .tc main_while0b_call4_c : DevRef τ sig).ty.Contents (Elt F)) = Step.b24 j s := by
  unfold Step.b24
  rfl
theorem al_25 (h : Holds V0 s j) : (constantI S_ 32 0#32 : (Proc.devRef .tc main_while0b_call4_c_0 : DevRef τ sig).ty.Contents (Elt F)) = Step.b25 j s := by
  unfold Step.b25
  rfl
theorem al_26 (h : Holds V0 s j) : (constantI S_ 32 0#32 : (Proc.devRef .tc main_while0b_call4_c_1 : DevRef τ sig).ty.Contents (Elt F)) = Step.b26 j s := by
  unfold Step.b26
  rfl
theorem al_27 (h : Holds V0 s j) : (Host.dynamicSlice S1x4x64x128 (V0 (Proc.devRef .tc main_v25_4)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call4_v0 : DevRef τ sig).ty.Contents (Elt F)) = Step.b27 j s := by
  unfold Step.b27
  rw [← al_3 h, ← al_24 h, ← al_25 h, ← al_26 h, h.f_4]
  try rfl
theorem al_28 (h : Holds V0 s j) : (res_main_while0b_v46 V0 : (Proc.devRef .tc main_while0b_v46 : DevRef τ sig).ty.Contents (Elt F)) = Step.b28 j s := by
  unfold res_main_while0b_v46 Step.b28
  rw [← al_27 h]
  try rfl
theorem al_29 (h : Holds V0 s j) : (constantI S_ 32 0#32 : (Proc.devRef .tc main_while0b_call5_c : DevRef τ sig).ty.Contents (Elt F)) = Step.b29 j s := by
  unfold Step.b29
  rfl
theorem al_30 (h : Holds V0 s j) : (constantI S_ 32 0#32 : (Proc.devRef .tc main_while0b_call5_c_0 : DevRef τ sig).ty.Contents (Elt F)) = Step.b30 j s := by
  unfold Step.b30
  rfl
theorem al_31 (h : Holds V0 s j) : (constantI S_ 32 0#32 : (Proc.devRef .tc main_while0b_call5_c_1 : DevRef τ sig).ty.Contents (Elt F)) = Step.b31 j s := by
  unfold Step.b31
  rfl
theorem al_32 (h : Holds V0 s j) : (Host.dynamicSlice S1x4x64x64 (V0 (Proc.devRef .tc main_v25_5)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x64_S1x4x64x64 : (Proc.devRef .tc main_while0b_call5_v0 : DevRef τ sig).ty.Contents (Elt F)) = Step.b32 j s := by
  unfold Step.b32
  rw [← al_3 h, ← al_29 h, ← al_30 h, ← al_31 h, h.f_5]
  try rfl
theorem al_33 (h : Holds V0 s j) : (res_main_while0b_v47 V0 : (Proc.devRef .tc main_while0b_v47 : DevRef τ sig).ty.Contents (Elt F)) = Step.b33 j s := by
  unfold res_main_while0b_v47 Step.b33
  rw [← al_32 h]
  try rfl
theorem al_34 (h : Holds V0 s j) : (constantI S_ 32 0#32 : (Proc.devRef .tc main_while0b_call6_c : DevRef τ sig).ty.Contents (Elt F)) = Step.b34 j s := by
  unfold Step.b34
  rfl
theorem al_35 (h : Holds V0 s j) : (constantI S_ 32 0#32 : (Proc.devRef .tc main_while0b_call6_c_0 : DevRef τ sig).ty.Contents (Elt F)) = Step.b35 j s := by
  unfold Step.b35
  rfl
theorem al_36 (h : Holds V0 s j) : (Host.dynamicSlice S1x4x128 (V0 (Proc.devRef .tc main_v25_6)) (fun k => (((![res_main_while0b_v41 V0, constantI S_ 32 0#32, constantI S_ 32 0#32] : Fin 3 → (⟨S_, .i32⟩ : BufTy).Contents (Elt F))) k (Shape.Idx.first h_S_)).toInt) sliceFits_S128x4x128_S1x4x128 : (Proc.devRef .tc main_while0b_call6_v0 : DevRef τ sig).ty.Contents (Elt F)) = Step.b36 j s := by
  unfold Step.b36
  rw [← al_3 h, ← al_34 h, ← al_35 h, h.f_6]
  try rfl
theorem al_37 (h : Holds V0 s j) : (shapeCast S4x128 (Host.dynamicSlice S1x4x128 (V0 (Proc.devRef .tc main_v25_6)) (fun k => (((![res_main_while0b_v41 V0, constantI S_ 32 0#32, constantI S_ 32 0#32] : Fin 3 → (⟨S_, .i32⟩ : BufTy).Contents (Elt F))) k (Shape.Idx.first h_S_)).toInt) sliceFits_S128x4x128_S1x4x128) shapeCasts_S1x4x128_S4x128 : (Proc.devRef .tc main_while0b_v48 : DevRef τ sig).ty.Contents (Elt F)) = Step.b37 j s := by
  unfold Step.b37
  rw [← al_36 h]
  try rfl
theorem al_38 (h : Holds V0 s j) : (constantI S_ 32 0#32 : (Proc.devRef .tc main_while0b_call7_c : DevRef τ sig).ty.Contents (Elt F)) = Step.b38 j s := by
  unfold Step.b38
  rfl
theorem al_39 (h : Holds V0 s j) : (constantI S_ 32 0#32 : (Proc.devRef .tc main_while0b_call7_c_0 : DevRef τ sig).ty.Contents (Elt F)) = Step.b39 j s := by
  unfold Step.b39
  rfl
theorem al_40 (h : Holds V0 s j) : (constantI S_ 32 0#32 : (Proc.devRef .tc main_while0b_call7_c_1 : DevRef τ sig).ty.Contents (Elt F)) = Step.b40 j s := by
  unfold Step.b40
  rfl
theorem al_41 (h : Holds V0 s j) : (Host.dynamicSlice S1x4x64x128 (V0 (Proc.devRef .tc main_v25_7)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call7_v0 : DevRef τ sig).ty.Contents (Elt F)) = Step.b41 j s := by
  unfold Step.b41
  rw [← al_3 h, ← al_38 h, ← al_39 h, ← al_40 h, h.f_7]
  try rfl
theorem al_42 (h : Holds V0 s j) : (res_main_while0b_v49 V0 : (Proc.devRef .tc main_while0b_v49 : DevRef τ sig).ty.Contents (Elt F)) = Step.b42 j s := by
  unfold res_main_while0b_v49 Step.b42
  rw [← al_41 h]
  try rfl
theorem al_43 (h : Holds V0 s j) : (constantI S_ 32 0#32 : (Proc.devRef .tc main_while0b_call8_c : DevRef τ sig).ty.Contents (Elt F)) = Step.b43 j s := by
  unfold Step.b43
  rfl
theorem al_44 (h : Holds V0 s j) : (constantI S_ 32 0#32 : (Proc.devRef .tc main_while0b_call8_c_0 : DevRef τ sig).ty.Contents (Elt F)) = Step.b44 j s := by
  unfold Step.b44
  rfl
theorem al_45 (h : Holds V0 s j) : (constantI S_ 32 0#32 : (Proc.devRef .tc main_while0b_call8_c_1 : DevRef τ sig).ty.Contents (Elt F)) = Step.b45 j s := by
  unfold Step.b45
  rfl
theorem al_46 (h : Holds V0 s j) : (Host.dynamicSlice S1x4x64x128 (V0 (Proc.devRef .tc main_v25_8)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call8_v0 : DevRef τ sig).ty.Contents (Elt F)) = Step.b46 j s := by
  unfold Step.b46
  rw [← al_3 h, ← al_43 h, ← al_44 h, ← al_45 h, h.f_8]
  try rfl
theorem al_47 (h : Holds V0 s j) : (res_main_while0b_v50 V0 : (Proc.devRef .tc main_while0b_v50 : DevRef τ sig).ty.Contents (Elt F)) = Step.b47 j s := by
  unfold res_main_while0b_v50 Step.b47
  rw [← al_46 h]
  try rfl
theorem al_48 (h : Holds V0 s j) : (Host.dotGeneral dot_S4x64x128_S4x128x128_S4x64x128_2_1_1_2_0_0 none (res_main_while0b_v46 V0) (res_main_while0b_v42 V0) : (Proc.devRef .tc main_while0b_v51 : DevRef τ sig).ty.Contents (Elt F)) = Step.b48 j s := by
  unfold Step.b48
  rw [← al_28 h, ← al_8 h]
  try rfl
theorem al_49 (h : Holds V0 s j) : (res_main_while0b_v52 V0 : (Proc.devRef .tc main_while0b_v52 : DevRef τ sig).ty.Contents (Elt F)) = Step.b49 j s := by
  unfold res_main_while0b_v52 Step.b49
  rw [← al_23 h, ← al_48 h]
  try rfl
theorem al_50 (h : Holds V0 s j) : (Host.dotGeneral dot_S4x64x128_S4x128x128_S4x64x128_2_1_1_2_0_0 none (res_main_while0b_v43 V0) (res_main_while0b_v42 V0) : (Proc.devRef .tc main_while0b_v53 : DevRef τ sig).ty.Contents (Elt F)) = Step.b50 j s := by
  unfold Step.b50
  rw [← al_13 h, ← al_8 h]
  try rfl
theorem al_51 (h : Holds V0 s j) : (Host.dotGeneral dot_S4x64x64_S4x64x128_S4x64x128_2_1_1_2_0_0 none (res_main_while0b_v47 V0) (res_main_while0b_v52 V0) : (Proc.devRef .tc main_while0b_v54 : DevRef τ sig).ty.Contents (Elt F)) = Step.b51 j s := by
  unfold Step.b51
  rw [← al_33 h, ← al_49 h]
  try rfl
theorem al_52 (h : Holds V0 s j) : (res_main_while0b_v55 V0 : (Proc.devRef .tc main_while0b_v55 : DevRef τ sig).ty.Contents (Elt F)) = Step.b52 j s := by
  unfold res_main_while0b_v55 Step.b52
  rw [← al_50 h, ← al_51 h]
  try rfl
theorem al_53 (h : Holds V0 s j) : (res_main_while0b_v56 V0 : (Proc.devRef .tc main_while0b_v56 : DevRef τ sig).ty.Contents (Elt F)) = Step.b53 j s := by
  unfold res_main_while0b_v56 Step.b53
  rw [← al_37 h]
  try rfl
theorem al_54 (h : Holds V0 s j) : (broadcastInDim S4x128x128 ![0, 1, 2] bcast_S4x1x128_S4x128x128_0_1_2 (res_main_while0b_v56 V0) : (Proc.devRef .tc main_while0b_v57 : DevRef τ sig).ty.Contents (Elt F)) = Step.b54 j s := by
  unfold Step.b54
  rw [← al_53 h]
  try rfl
theorem al_55 (h : Holds V0 s j) : (mulf (res_main_while0b_v42 V0) (broadcastInDim S4x128x128 ![0, 1, 2] bcast_S4x1x128_S4x128x128_0_1_2 (res_main_while0b_v56 V0)) : (Proc.devRef .tc main_while0b_v58 : DevRef τ sig).ty.Contents (Elt F)) = Step.b55 j s := by
  unfold Step.b55
  rw [← al_8 h, ← al_54 h]
  try rfl
theorem al_56 (h : Holds V0 s j) : (Host.dotGeneral dot_S4x64x128_S4x64x128_S4x128x128_1_1_2_2_0_0 none (res_main_while0b_v44 V0) (res_main_while0b_v52 V0) : (Proc.devRef .tc main_while0b_v59 : DevRef τ sig).ty.Contents (Elt F)) = Step.b56 j s := by
  unfold Step.b56
  rw [← al_18 h, ← al_49 h]
  try rfl
theorem al_57 (h : Holds V0 s j) : (addf (mulf (res_main_while0b_v42 V0) (broadcastInDim S4x128x128 ![0, 1, 2] bcast_S4x1x128_S4x128x128_0_1_2 (res_main_while0b_v56 V0))) (Host.dotGeneral dot_S4x64x128_S4x64x128_S4x128x128_1_1_2_2_0_0 none (res_main_while0b_v44 V0) (res_main_while0b_v52 V0)) : (Proc.devRef .tc main_while0b_v60 : DevRef τ sig).ty.Contents (Elt F)) = Step.b57 j s := by
  unfold Step.b57
  rw [← al_55 h, ← al_56 h]
  try rfl
theorem al_58 (h : Holds V0 s j) : (mulf (res_main_while0b_v55 V0) (res_main_while0b_v55 V0) : (Proc.devRef .tc main_while0b_v61 : DevRef τ sig).ty.Contents (Elt F)) = Step.b58 j s := by
  unfold Step.b58
  rw [← al_52 h]
  try rfl
theorem al_59 (h : Holds V0 s j) : (constant S_ .f32 0x00000000#32 : (Proc.devRef .tc main_while0b_cst_29 : DevRef τ sig).ty.Contents (Elt F)) = Step.b59 j s := by
  unfold Step.b59
  rfl
theorem al_60 (h : Holds V0 s j) : (Host.reduceAdd (mulf (res_main_while0b_v55 V0) (res_main_while0b_v55 V0)) (constant S_ .f32 0x00000000#32) reducesTo_S4x64x128_S4x64_d2 h_S_ : (Proc.devRef .tc main_while0b_v62 : DevRef τ sig).ty.Contents (Elt F)) = Step.b60 j s := by
  unfold Step.b60
  rw [← al_58 h, ← al_59 h]
  try rfl
theorem al_61 (h : Holds V0 s j) : (broadcastInDim S4x64x1 ![0, 1] bcast_S4x64_S4x64x1_0_1 (Host.reduceAdd (mulf (res_main_while0b_v55 V0) (res_main_while0b_v55 V0)) (constant S_ .f32 0x00000000#32) reducesTo_S4x64x128_S4x64_d2 h_S_) : (Proc.devRef .tc main_while0b_v63 : DevRef τ sig).ty.Contents (Elt F)) = Step.b61 j s := by
  unfold Step.b61
  rw [← al_60 h]
  try rfl
theorem al_62 (h : Holds V0 s j) : (constant S_ .f32 0x43000000#32 : (Proc.devRef .tc main_while0b_cst_30 : DevRef τ sig).ty.Contents (Elt F)) = Step.b62 j s := by
  unfold Step.b62
  rfl
theorem al_63 (h : Holds V0 s j) : (broadcastInDim S4x64x1 ![] bcast_S_S4x64x1 (constant S_ .f32 0x43000000#32) : (Proc.devRef .tc main_while0b_v64 : DevRef τ sig).ty.Contents (Elt F)) = Step.b63 j s := by
  unfold Step.b63
  rw [← al_62 h]
  try rfl
theorem al_64 (h : Holds V0 s j) : (Host.divf (broadcastInDim S4x64x1 ![0, 1] bcast_S4x64_S4x64x1_0_1 (Host.reduceAdd (mulf (res_main_while0b_v55 V0) (res_main_while0b_v55 V0)) (constant S_ .f32 0x00000000#32) reducesTo_S4x64x128_S4x64_d2 h_S_)) (broadcastInDim S4x64x1 ![] bcast_S_S4x64x1 (constant S_ .f32 0x43000000#32)) : (Proc.devRef .tc main_while0b_v65 : DevRef τ sig).ty.Contents (Elt F)) = Step.b64 j s := by
  unfold Step.b64
  rw [← al_61 h, ← al_63 h]
  try rfl
theorem al_65 (h : Holds V0 s j) : (constant S_ .f32 0x358637BD#32 : (Proc.devRef .tc main_while0b_cst_31 : DevRef τ sig).ty.Contents (Elt F)) = Step.b65 j s := by
  unfold Step.b65
  rfl
theorem al_66 (h : Holds V0 s j) : (broadcastInDim S4x64x1 ![] bcast_S_S4x64x1 (constant S_ .f32 0x358637BD#32) : (Proc.devRef .tc main_while0b_v66 : DevRef τ sig).ty.Contents (Elt F)) = Step.b66 j s := by
  unfold Step.b66
  rw [← al_65 h]
  try rfl
theorem al_67 (h : Holds V0 s j) : (res_main_while0b_v67 V0 : (Proc.devRef .tc main_while0b_v67 : DevRef τ sig).ty.Contents (Elt F)) = Step.b67 j s := by
  unfold res_main_while0b_v67 Step.b67
  rw [← al_64 h, ← al_66 h]
  try rfl
theorem al_68 (h : Holds V0 s j) : (res_main_while0b_v68 V0 : (Proc.devRef .tc main_while0b_v68 : DevRef τ sig).ty.Contents (Elt F)) = Step.b68 j s := by
  unfold res_main_while0b_v68 Step.b68
  rw [← al_67 h]
  try rfl
theorem al_69 (h : Holds V0 s j) : (Host.divf (res_main_while0b_v68 V0) (res_main_while0b_v67 V0) : (Proc.devRef .tc main_while0b_v69 : DevRef τ sig).ty.Contents (Elt F)) = Step.b69 j s := by
  unfold Step.b69
  rw [← al_68 h, ← al_67 h]
  try rfl
theorem al_70 (h : Holds V0 s j) : (constant S_ .f32 0xBF000000#32 : (Proc.devRef .tc main_while0b_cst_32 : DevRef τ sig).ty.Contents (Elt F)) = Step.b70 j s := by
  unfold Step.b70
  rfl
theorem al_71 (h : Holds V0 s j) : (broadcastInDim S4x64x1 ![] bcast_S_S4x64x1 (constant S_ .f32 0xBF000000#32) : (Proc.devRef .tc main_while0b_v70 : DevRef τ sig).ty.Contents (Elt F)) = Step.b71 j s := by
  unfold Step.b71
  rw [← al_70 h]
  try rfl
theorem al_72 (h : Holds V0 s j) : (mulf (broadcastInDim S4x64x1 ![] bcast_S_S4x64x1 (constant S_ .f32 0xBF000000#32)) (Host.divf (res_main_while0b_v68 V0) (res_main_while0b_v67 V0)) : (Proc.devRef .tc main_while0b_v71 : DevRef τ sig).ty.Contents (Elt F)) = Step.b72 j s := by
  unfold Step.b72
  rw [← al_71 h, ← al_69 h]
  try rfl
theorem al_73 (h : Holds V0 s j) : (broadcastInDim S4x64x128 ![0, 1, 2] bcast_S4x64x1_S4x64x128_0_1_2 (res_main_while0b_v68 V0) : (Proc.devRef .tc main_while0b_v72 : DevRef τ sig).ty.Contents (Elt F)) = Step.b73 j s := by
  unfold Step.b73
  rw [← al_68 h]
  try rfl
theorem al_74 (h : Holds V0 s j) : (res_main_while0b_v73 V0 : (Proc.devRef .tc main_while0b_v73 : DevRef τ sig).ty.Contents (Elt F)) = Step.b74 j s := by
  unfold res_main_while0b_v73 Step.b74
  rw [← al_52 h, ← al_73 h]
  try rfl
theorem al_75 (h : Holds V0 s j) : (res_main_while0b_v74 V0 : (Proc.devRef .tc main_while0b_v74 : DevRef τ sig).ty.Contents (Elt F)) = Step.b75 j s := by
  unfold res_main_while0b_v74 Step.b75
  rw [h.f_9]
  try rfl
theorem al_76 (h : Holds V0 s j) : (broadcastInDim S4x64x128 ![0, 1, 2] bcast_S1x1x128_S4x64x128_0_1_2 (res_main_while0b_v74 V0) : (Proc.devRef .tc main_while0b_v75 : DevRef τ sig).ty.Contents (Elt F)) = Step.b76 j s := by
  unfold Step.b76
  rw [← al_75 h]
  try rfl
theorem al_77 (h : Holds V0 s j) : (res_main_while0b_v76 V0 : (Proc.devRef .tc main_while0b_v76 : DevRef τ sig).ty.Contents (Elt F)) = Step.b77 j s := by
  unfold res_main_while0b_v76 Step.b77
  rw [← al_74 h, ← al_76 h]
  try rfl
theorem al_78 (h : Holds V0 s j) : (Host.negf (res_main_while0b_v49 V0) : (Proc.devRef .tc main_while0b_call9_v0 : DevRef τ sig).ty.Contents (Elt F)) = Step.b78 j s := by
  unfold Step.b78
  rw [← al_42 h]
  try rfl
theorem al_79 (h : Holds V0 s j) : (Host.exp (Host.negf (res_main_while0b_v49 V0)) : (Proc.devRef .tc main_while0b_call9_v1 : DevRef τ sig).ty.Contents (Elt F)) = Step.b79 j s := by
  unfold Step.b79
  rw [← al_78 h]
  try rfl
theorem al_80 (h : Holds V0 s j) : (constant S_ .f32 0x3F800000#32 : (Proc.devRef .tc main_while0b_call9_cst : DevRef τ sig).ty.Contents (Elt F)) = Step.b80 j s := by
  unfold Step.b80
  rfl
theorem al_81 (h : Holds V0 s j) : (broadcastInDim S4x64x128 ![] bcast_S_S4x64x128 (constant S_ .f32 0x3F800000#32) : (Proc.devRef .tc main_while0b_call9_v2 : DevRef τ sig).ty.Contents (Elt F)) = Step.b81 j s := by
  unfold Step.b81
  rw [← al_80 h]
  try rfl
theorem al_82 (h : Holds V0 s j) : (addf (broadcastInDim S4x64x128 ![] bcast_S_S4x64x128 (constant S_ .f32 0x3F800000#32)) (Host.exp (Host.negf (res_main_while0b_v49 V0))) : (Proc.devRef .tc main_while0b_call9_v3 : DevRef τ sig).ty.Contents (Elt F)) = Step.b82 j s := by
  unfold Step.b82
  rw [← al_81 h, ← al_79 h]
  try rfl
theorem al_83 (h : Holds V0 s j) : (constant S_ .f32 0x3F800000#32 : (Proc.devRef .tc main_while0b_call9_cst_0 : DevRef τ sig).ty.Contents (Elt F)) = Step.b83 j s := by
  unfold Step.b83
  rfl
theorem al_84 (h : Holds V0 s j) : (broadcastInDim S4x64x128 ![] bcast_S_S4x64x128 (constant S_ .f32 0x3F800000#32) : (Proc.devRef .tc main_while0b_call9_v4 : DevRef τ sig).ty.Contents (Elt F)) = Step.b84 j s := by
  unfold Step.b84
  rw [← al_83 h]
  try rfl
theorem al_85 (h : Holds V0 s j) : (res_main_while0b_v77_2 V0 : (Proc.devRef .tc main_while0b_v77_2 : DevRef τ sig).ty.Contents (Elt F)) = Step.b85 j s := by
  unfold res_main_while0b_v77_2 Step.b85
  rw [← al_84 h, ← al_82 h]
  try rfl
theorem al_86 (h : Holds V0 s j) : (constant S_ .f32 0x3F800000#32 : (Proc.devRef .tc main_while0b_call9_cst_1 : DevRef τ sig).ty.Contents (Elt F)) = Step.b86 j s := by
  unfold Step.b86
  rfl
theorem al_87 (h : Holds V0 s j) : (broadcastInDim S4x64x128 ![] bcast_S_S4x64x128 (constant S_ .f32 0x3F800000#32) : (Proc.devRef .tc main_while0b_call9_v6 : DevRef τ sig).ty.Contents (Elt F)) = Step.b87 j s := by
  unfold Step.b87
  rw [← al_86 h]
  try rfl
theorem al_88 (h : Holds V0 s j) : (subf (broadcastInDim S4x64x128 ![] bcast_S_S4x64x128 (constant S_ .f32 0x3F800000#32)) (res_main_while0b_v77_2 V0) : (Proc.devRef .tc main_while0b_call9_v7 : DevRef τ sig).ty.Contents (Elt F)) = Step.b88 j s := by
  unfold Step.b88
  rw [← al_87 h, ← al_85 h]
  try rfl
theorem al_89 (h : Holds V0 s j) : (mulf (res_main_while0b_v77_2 V0) (subf (broadcastInDim S4x64x128 ![] bcast_S_S4x64x128 (constant S_ .f32 0x3F800000#32)) (res_main_while0b_v77_2 V0)) : (Proc.devRef .tc main_while0b_v77_1 : DevRef τ sig).ty.Contents (Elt F)) = Step.b89 j s := by
  unfold Step.b89
  rw [← al_85 h, ← al_88 h]
  try rfl
theorem al_90 (h : Holds V0 s j) : (res_main_while0b_v77_0 V0 : (Proc.devRef .tc main_while0b_v77_0 : DevRef τ sig).ty.Contents (Elt F)) = Step.b90 j s := by
  unfold res_main_while0b_v77_0 Step.b90
  rw [← al_42 h, ← al_85 h]
  try rfl
theorem al_91 (h : Holds V0 s j) : (mulf (res_main_while0b_v76 V0) (res_main_while0b_v77_0 V0) : (Proc.devRef .tc main_while0b_v78 : DevRef τ sig).ty.Contents (Elt F)) = Step.b91 j s := by
  unfold Step.b91
  rw [← al_77 h, ← al_90 h]
  try rfl
theorem al_92 (h : Holds V0 s j) : (res_main_while0b_v79 V0 : (Proc.devRef .tc main_while0b_v79 : DevRef τ sig).ty.Contents (Elt F)) = Step.b92 j s := by
  unfold res_main_while0b_v79 Step.b92
  rw [← al_77 h, ← al_47 h]
  try rfl
theorem al_93 (h : Holds V0 s j) : (res_main_while0b_v80 V0 : (Proc.devRef .tc main_while0b_v80 : DevRef τ sig).ty.Contents (Elt F)) = Step.b93 j s := by
  unfold res_main_while0b_v80 Step.b93
  rw [← al_47 h, ← al_90 h]
  try rfl
theorem al_94 (h : Holds V0 s j) : (mulf (res_main_while0b_v49 V0) (res_main_while0b_v79 V0) : (Proc.devRef .tc main_while0b_call10_v0 : DevRef τ sig).ty.Contents (Elt F)) = Step.b94 j s := by
  unfold Step.b94
  rw [← al_42 h, ← al_92 h]
  try rfl
theorem al_95 (h : Holds V0 s j) : (mulf (res_main_while0b_v79 V0) (res_main_while0b_v77_2 V0) : (Proc.devRef .tc main_while0b_call10_v1 : DevRef τ sig).ty.Contents (Elt F)) = Step.b95 j s := by
  unfold Step.b95
  rw [← al_92 h, ← al_85 h]
  try rfl
theorem al_96 (h : Holds V0 s j) : (mulf (mulf (res_main_while0b_v49 V0) (res_main_while0b_v79 V0)) (mulf (res_main_while0b_v77_2 V0) (subf (broadcastInDim S4x64x128 ![] bcast_S_S4x64x128 (constant S_ .f32 0x3F800000#32)) (res_main_while0b_v77_2 V0))) : (Proc.devRef .tc main_while0b_call10_v2 : DevRef τ sig).ty.Contents (Elt F)) = Step.b96 j s := by
  unfold Step.b96
  rw [← al_94 h, ← al_89 h]
  try rfl
theorem al_97 (h : Holds V0 s j) : (addf (mulf (res_main_while0b_v79 V0) (res_main_while0b_v77_2 V0)) (mulf (mulf (res_main_while0b_v49 V0) (res_main_while0b_v79 V0)) (mulf (res_main_while0b_v77_2 V0) (subf (broadcastInDim S4x64x128 ![] bcast_S_S4x64x128 (constant S_ .f32 0x3F800000#32)) (res_main_while0b_v77_2 V0)))) : (Proc.devRef .tc main_while0b_v81 : DevRef τ sig).ty.Contents (Elt F)) = Step.b97 j s := by
  unfold Step.b97
  rw [← al_95 h, ← al_96 h]
  try rfl
theorem al_98 (h : Holds V0 s j) : (mulf (res_main_while0b_v73 V0) (res_main_while0b_v80 V0) : (Proc.devRef .tc main_while0b_v82 : DevRef τ sig).ty.Contents (Elt F)) = Step.b98 j s := by
  unfold Step.b98
  rw [← al_74 h, ← al_93 h]
  try rfl
theorem al_99 (h : Holds V0 s j) : (constant S_ .f32 0x00000000#32 : (Proc.devRef .tc main_while0b_cst_33 : DevRef τ sig).ty.Contents (Elt F)) = Step.b99 j s := by
  unfold Step.b99
  rfl
theorem al_100 (h : Holds V0 s j) : (Host.reduceAdd (mulf (res_main_while0b_v73 V0) (res_main_while0b_v80 V0)) (constant S_ .f32 0x00000000#32) reducesTo_S4x64x128_S128_d0_1 h_S_ : (Proc.devRef .tc main_while0b_v83 : DevRef τ sig).ty.Contents (Elt F)) = Step.b100 j s := by
  unfold Step.b100
  rw [← al_98 h, ← al_99 h]
  try rfl
theorem al_101 (h : Holds V0 s j) : (shapeCast S1x1x128 (Host.reduceAdd (mulf (res_main_while0b_v73 V0) (res_main_while0b_v80 V0)) (constant S_ .f32 0x00000000#32) reducesTo_S4x64x128_S128_d0_1 h_S_) shapeCasts_S128_S1x1x128 : (Proc.devRef .tc main_while0b_v84 : DevRef τ sig).ty.Contents (Elt F)) = Step.b101 j s := by
  unfold Step.b101
  rw [← al_100 h]
  try rfl
theorem al_102 (h : Holds V0 s j) : (broadcastInDim S4x64x128 ![0, 1, 2] bcast_S1x1x128_S4x64x128_0_1_2 (res_main_while0b_v74 V0) : (Proc.devRef .tc main_while0b_v85 : DevRef τ sig).ty.Contents (Elt F)) = Step.b102 j s := by
  unfold Step.b102
  rw [← al_75 h]
  try rfl
theorem al_103 (h : Holds V0 s j) : (res_main_while0b_v86 V0 : (Proc.devRef .tc main_while0b_v86 : DevRef τ sig).ty.Contents (Elt F)) = Step.b103 j s := by
  unfold res_main_while0b_v86 Step.b103
  rw [← al_93 h, ← al_102 h]
  try rfl
theorem al_104 (h : Holds V0 s j) : (constant S_ .f32 0x00000000#32 : (Proc.devRef .tc main_while0b_cst_34 : DevRef τ sig).ty.Contents (Elt F)) = Step.b104 j s := by
  unfold Step.b104
  rfl
theorem al_105 (h : Holds V0 s j) : (Host.reduceAdd (shapeCast S1x1x128 (Host.reduceAdd (mulf (res_main_while0b_v73 V0) (res_main_while0b_v80 V0)) (constant S_ .f32 0x00000000#32) reducesTo_S4x64x128_S128_d0_1 h_S_) shapeCasts_S128_S1x1x128) (constant S_ .f32 0x00000000#32) reducesTo_S1x1x128_S128_d0_1 h_S_ : (Proc.devRef .tc main_while0b_v87 : DevRef τ sig).ty.Contents (Elt F)) = Step.b105 j s := by
  unfold Step.b105
  rw [← al_101 h, ← al_104 h]
  try rfl
theorem al_106 (h : Holds V0 s j) : (mulf (res_main_while0b_v55 V0) (res_main_while0b_v86 V0) : (Proc.devRef .tc main_while0b_v88 : DevRef τ sig).ty.Contents (Elt F)) = Step.b106 j s := by
  unfold Step.b106
  rw [← al_52 h, ← al_103 h]
  try rfl
theorem al_107 (h : Holds V0 s j) : (constant S_ .f32 0x00000000#32 : (Proc.devRef .tc main_while0b_cst_35 : DevRef τ sig).ty.Contents (Elt F)) = Step.b107 j s := by
  unfold Step.b107
  rfl
theorem al_108 (h : Holds V0 s j) : (Host.reduceAdd (mulf (res_main_while0b_v55 V0) (res_main_while0b_v86 V0)) (constant S_ .f32 0x00000000#32) reducesTo_S4x64x128_S4x64_d2 h_S_ : (Proc.devRef .tc main_while0b_v89 : DevRef τ sig).ty.Contents (Elt F)) = Step.b108 j s := by
  unfold Step.b108
  rw [← al_106 h, ← al_107 h]
  try rfl
theorem al_109 (h : Holds V0 s j) : (shapeCast S4x64x1 (Host.reduceAdd (mulf (res_main_while0b_v55 V0) (res_main_while0b_v86 V0)) (constant S_ .f32 0x00000000#32) reducesTo_S4x64x128_S4x64_d2 h_S_) shapeCasts_S4x64_S4x64x1 : (Proc.devRef .tc main_while0b_v90 : DevRef τ sig).ty.Contents (Elt F)) = Step.b109 j s := by
  unfold Step.b109
  rw [← al_108 h]
  try rfl
theorem al_110 (h : Holds V0 s j) : (broadcastInDim S4x64x128 ![0, 1, 2] bcast_S4x64x1_S4x64x128_0_1_2 (res_main_while0b_v68 V0) : (Proc.devRef .tc main_while0b_v91 : DevRef τ sig).ty.Contents (Elt F)) = Step.b110 j s := by
  unfold Step.b110
  rw [← al_68 h]
  try rfl
theorem al_111 (h : Holds V0 s j) : (mulf (res_main_while0b_v86 V0) (broadcastInDim S4x64x128 ![0, 1, 2] bcast_S4x64x1_S4x64x128_0_1_2 (res_main_while0b_v68 V0)) : (Proc.devRef .tc main_while0b_v92 : DevRef τ sig).ty.Contents (Elt F)) = Step.b111 j s := by
  unfold Step.b111
  rw [← al_103 h, ← al_110 h]
  try rfl
theorem al_112 (h : Holds V0 s j) : (mulf (shapeCast S4x64x1 (Host.reduceAdd (mulf (res_main_while0b_v55 V0) (res_main_while0b_v86 V0)) (constant S_ .f32 0x00000000#32) reducesTo_S4x64x128_S4x64_d2 h_S_) shapeCasts_S4x64_S4x64x1) (mulf (broadcastInDim S4x64x1 ![] bcast_S_S4x64x1 (constant S_ .f32 0xBF000000#32)) (Host.divf (res_main_while0b_v68 V0) (res_main_while0b_v67 V0))) : (Proc.devRef .tc main_while0b_v93 : DevRef τ sig).ty.Contents (Elt F)) = Step.b112 j s := by
  unfold Step.b112
  rw [← al_109 h, ← al_72 h]
  try rfl
theorem al_113 (h : Holds V0 s j) : (constant S_ .f32 0x43000000#32 : (Proc.devRef .tc main_while0b_cst_36 : DevRef τ sig).ty.Contents (Elt F)) = Step.b113 j s := by
  unfold Step.b113
  rfl
theorem al_114 (h : Holds V0 s j) : (broadcastInDim S4x64x1 ![] bcast_S_S4x64x1 (constant S_ .f32 0x43000000#32) : (Proc.devRef .tc main_while0b_v94 : DevRef τ sig).ty.Contents (Elt F)) = Step.b114 j s := by
  unfold Step.b114
  rw [← al_113 h]
  try rfl
theorem al_115 (h : Holds V0 s j) : (Host.divf (mulf (shapeCast S4x64x1 (Host.reduceAdd (mulf (res_main_while0b_v55 V0) (res_main_while0b_v86 V0)) (constant S_ .f32 0x00000000#32) reducesTo_S4x64x128_S4x64_d2 h_S_) shapeCasts_S4x64_S4x64x1) (mulf (broadcastInDim S4x64x1 ![] bcast_S_S4x64x1 (constant S_ .f32 0xBF000000#32)) (Host.divf (res_main_while0b_v68 V0) (res_main_while0b_v67 V0)))) (broadcastInDim S4x64x1 ![] bcast_S_S4x64x1 (constant S_ .f32 0x43000000#32)) : (Proc.devRef .tc main_while0b_v95 : DevRef τ sig).ty.Contents (Elt F)) = Step.b115 j s := by
  unfold Step.b115
  rw [← al_112 h, ← al_114 h]
  try rfl
theorem al_116 (h : Holds V0 s j) : (constant S_ .f32 0x00000000#32 : (Proc.devRef .tc main_while0b_cst_37 : DevRef τ sig).ty.Contents (Elt F)) = Step.b116 j s := by
  unfold Step.b116
  rfl
theorem al_117 (h : Holds V0 s j) : (Host.reduceAdd (Host.divf (mulf (shapeCast S4x64x1 (Host.reduceAdd (mulf (res_main_while0b_v55 V0) (res_main_while0b_v86 V0)) (constant S_ .f32 0x00000000#32) reducesTo_S4x64x128_S4x64_d2 h_S_) shapeCasts_S4x64_S4x64x1) (mulf (broadcastInDim S4x64x1 ![] bcast_S_S4x64x1 (constant S_ .f32 0xBF000000#32)) (Host.divf (res_main_while0b_v68 V0) (res_main_while0b_v67 V0)))) (broadcastInDim S4x64x1 ![] bcast_S_S4x64x1 (constant S_ .f32 0x43000000#32))) (constant S_ .f32 0x00000000#32) reducesTo_S4x64x1_S4x64_d2 h_S_ : (Proc.devRef .tc main_while0b_v96 : DevRef τ sig).ty.Contents (Elt F)) = Step.b117 j s := by
  unfold Step.b117
  rw [← al_115 h, ← al_116 h]
  try rfl
theorem al_118 (h : Holds V0 s j) : (res_main_while0b_v97 V0 : (Proc.devRef .tc main_while0b_v97 : DevRef τ sig).ty.Contents (Elt F)) = Step.b118 j s := by
  unfold res_main_while0b_v97 Step.b118
  rw [← al_117 h]
  try rfl
theorem al_119 (h : Holds V0 s j) : (mulf (res_main_while0b_v55 V0) (res_main_while0b_v97 V0) : (Proc.devRef .tc main_while0b_v98 : DevRef τ sig).ty.Contents (Elt F)) = Step.b119 j s := by
  unfold Step.b119
  rw [← al_52 h, ← al_118 h]
  try rfl
theorem al_120 (h : Holds V0 s j) : (addf (mulf (res_main_while0b_v86 V0) (broadcastInDim S4x64x128 ![0, 1, 2] bcast_S4x64x1_S4x64x128_0_1_2 (res_main_while0b_v68 V0))) (mulf (res_main_while0b_v55 V0) (res_main_while0b_v97 V0)) : (Proc.devRef .tc main_while0b_v99 : DevRef τ sig).ty.Contents (Elt F)) = Step.b120 j s := by
  unfold Step.b120
  rw [← al_111 h, ← al_119 h]
  try rfl
theorem al_121 (h : Holds V0 s j) : (mulf (res_main_while0b_v97 V0) (res_main_while0b_v55 V0) : (Proc.devRef .tc main_while0b_v100 : DevRef τ sig).ty.Contents (Elt F)) = Step.b121 j s := by
  unfold Step.b121
  rw [← al_118 h, ← al_52 h]
  try rfl
theorem al_122 (h : Holds V0 s j) : (res_main_while0b_v101 V0 : (Proc.devRef .tc main_while0b_v101 : DevRef τ sig).ty.Contents (Elt F)) = Step.b122 j s := by
  unfold res_main_while0b_v101 Step.b122
  rw [← al_120 h, ← al_121 h]
  try rfl
theorem al_123 (h : Holds V0 s j) : (Host.dotGeneral dot_S4x128x128_S4x64x128_S4x128x64_1_2_2_1_0_0 none (V0 (Proc.devRef .tc main_v25_11)) (res_main_while0b_v44 V0) : (Proc.devRef .tc main_while0b_v102 : DevRef τ sig).ty.Contents (Elt F)) = Step.b123 j s := by
  unfold Step.b123
  rw [← al_18 h, h.f_11]
  try rfl
theorem al_124 (h : Holds V0 s j) : (transpose S4x64x128 [0, 2, 1] (Host.dotGeneral dot_S4x128x128_S4x64x128_S4x128x64_1_2_2_1_0_0 none (V0 (Proc.devRef .tc main_v25_11)) (res_main_while0b_v44 V0)) transposes_S4x128x64_S4x64x128_0_2_1 : (Proc.devRef .tc main_while0b_v103 : DevRef τ sig).ty.Contents (Elt F)) = Step.b124 j s := by
  unfold Step.b124
  rw [← al_123 h]
  try rfl
theorem al_125 (h : Holds V0 s j) : (Host.dotGeneral dot_S4x128x128_S4x64x128_S4x128x64_2_2_1_1_0_0 none (V0 (Proc.devRef .tc main_v25_11)) (res_main_while0b_v52 V0) : (Proc.devRef .tc main_while0b_v104 : DevRef τ sig).ty.Contents (Elt F)) = Step.b125 j s := by
  unfold Step.b125
  rw [← al_49 h, h.f_11]
  try rfl
theorem al_126 (h : Holds V0 s j) : (transpose S4x64x128 [0, 2, 1] (Host.dotGeneral dot_S4x128x128_S4x64x128_S4x128x64_2_2_1_1_0_0 none (V0 (Proc.devRef .tc main_v25_11)) (res_main_while0b_v52 V0)) transposes_S4x128x64_S4x64x128_0_2_1 : (Proc.devRef .tc main_while0b_v105 : DevRef τ sig).ty.Contents (Elt F)) = Step.b126 j s := by
  unfold Step.b126
  rw [← al_125 h]
  try rfl
theorem al_127 (h : Holds V0 s j) : (mulf (res_main_while0b_v42 V0) (V0 (Proc.devRef .tc main_v25_11)) : (Proc.devRef .tc main_while0b_v106 : DevRef τ sig).ty.Contents (Elt F)) = Step.b127 j s := by
  unfold Step.b127
  rw [← al_8 h, h.f_11]
  try rfl
theorem al_128 (h : Holds V0 s j) : (constant S_ .f32 0x00000000#32 : (Proc.devRef .tc main_while0b_cst_38 : DevRef τ sig).ty.Contents (Elt F)) = Step.b128 j s := by
  unfold Step.b128
  rfl
theorem al_129 (h : Holds V0 s j) : (Host.reduceAdd (mulf (res_main_while0b_v42 V0) (V0 (Proc.devRef .tc main_v25_11))) (constant S_ .f32 0x00000000#32) reducesTo_S4x128x128_S4x128_d1 h_S_ : (Proc.devRef .tc main_while0b_v107 : DevRef τ sig).ty.Contents (Elt F)) = Step.b129 j s := by
  unfold Step.b129
  rw [← al_127 h, ← al_128 h]
  try rfl
theorem al_130 (h : Holds V0 s j) : (shapeCast S4x1x128 (Host.reduceAdd (mulf (res_main_while0b_v42 V0) (V0 (Proc.devRef .tc main_v25_11))) (constant S_ .f32 0x00000000#32) reducesTo_S4x128x128_S4x128_d1 h_S_) shapeCasts_S4x128_S4x1x128 : (Proc.devRef .tc main_while0b_v108 : DevRef τ sig).ty.Contents (Elt F)) = Step.b130 j s := by
  unfold Step.b130
  rw [← al_129 h]
  try rfl
theorem al_131 (h : Holds V0 s j) : (broadcastInDim S4x128x128 ![0, 1, 2] bcast_S4x1x128_S4x128x128_0_1_2 (res_main_while0b_v56 V0) : (Proc.devRef .tc main_while0b_v109 : DevRef τ sig).ty.Contents (Elt F)) = Step.b131 j s := by
  unfold Step.b131
  rw [← al_53 h]
  try rfl
theorem al_132 (h : Holds V0 s j) : (mulf (V0 (Proc.devRef .tc main_v25_11)) (broadcastInDim S4x128x128 ![0, 1, 2] bcast_S4x1x128_S4x128x128_0_1_2 (res_main_while0b_v56 V0)) : (Proc.devRef .tc main_while0b_v110 : DevRef τ sig).ty.Contents (Elt F)) = Step.b132 j s := by
  unfold Step.b132
  rw [← al_131 h, h.f_11]
  try rfl
theorem al_133 (h : Holds V0 s j) : (constant S_ .f32 0x00000000#32 : (Proc.devRef .tc main_while0b_cst_39 : DevRef τ sig).ty.Contents (Elt F)) = Step.b133 j s := by
  unfold Step.b133
  rfl
theorem al_134 (h : Holds V0 s j) : (Host.reduceAdd (shapeCast S4x1x128 (Host.reduceAdd (mulf (res_main_while0b_v42 V0) (V0 (Proc.devRef .tc main_v25_11))) (constant S_ .f32 0x00000000#32) reducesTo_S4x128x128_S4x128_d1 h_S_) shapeCasts_S4x128_S4x1x128) (constant S_ .f32 0x00000000#32) reducesTo_S4x1x128_S4x128_d1 h_S_ : (Proc.devRef .tc main_while0b_v111 : DevRef τ sig).ty.Contents (Elt F)) = Step.b134 j s := by
  unfold Step.b134
  rw [← al_130 h, ← al_133 h]
  try rfl
theorem al_135 (h : Holds V0 s j) : (Host.dotGeneral dot_S4x64x128_S4x64x64_S4x128x64_1_1_2_2_0_0 none (res_main_while0b_v101 V0) (res_main_while0b_v47 V0) : (Proc.devRef .tc main_while0b_v112 : DevRef τ sig).ty.Contents (Elt F)) = Step.b135 j s := by
  unfold Step.b135
  rw [← al_122 h, ← al_33 h]
  try rfl
theorem al_136 (h : Holds V0 s j) : (transpose S4x64x128 [0, 2, 1] (Host.dotGeneral dot_S4x64x128_S4x64x64_S4x128x64_1_1_2_2_0_0 none (res_main_while0b_v101 V0) (res_main_while0b_v47 V0)) transposes_S4x128x64_S4x64x128_0_2_1 : (Proc.devRef .tc main_while0b_v113 : DevRef τ sig).ty.Contents (Elt F)) = Step.b136 j s := by
  unfold Step.b136
  rw [← al_135 h]
  try rfl
theorem al_137 (h : Holds V0 s j) : (res_main_while0b_v114 V0 : (Proc.devRef .tc main_while0b_v114 : DevRef τ sig).ty.Contents (Elt F)) = Step.b137 j s := by
  unfold res_main_while0b_v114 Step.b137
  rw [← al_124 h, ← al_136 h]
  try rfl
theorem al_138 (h : Holds V0 s j) : (Host.dotGeneral dot_S4x64x128_S4x64x128_S4x64x64_2_2_1_1_0_0 none (res_main_while0b_v101 V0) (res_main_while0b_v52 V0) : (Proc.devRef .tc main_while0b_v115 : DevRef τ sig).ty.Contents (Elt F)) = Step.b138 j s := by
  unfold Step.b138
  rw [← al_122 h, ← al_49 h]
  try rfl
theorem al_139 (h : Holds V0 s j) : (Host.dotGeneral dot_S4x64x128_S4x64x128_S4x128x128_1_1_2_2_0_0 none (res_main_while0b_v101 V0) (res_main_while0b_v43 V0) : (Proc.devRef .tc main_while0b_v116 : DevRef τ sig).ty.Contents (Elt F)) = Step.b139 j s := by
  unfold Step.b139
  rw [← al_122 h, ← al_13 h]
  try rfl
theorem al_140 (h : Holds V0 s j) : (transpose S4x128x128 [0, 2, 1] (Host.dotGeneral dot_S4x64x128_S4x64x128_S4x128x128_1_1_2_2_0_0 none (res_main_while0b_v101 V0) (res_main_while0b_v43 V0)) transposes_S4x128x128_S4x128x128_0_2_1 : (Proc.devRef .tc main_while0b_v117 : DevRef τ sig).ty.Contents (Elt F)) = Step.b140 j s := by
  unfold Step.b140
  rw [← al_139 h]
  try rfl
theorem al_141 (h : Holds V0 s j) : (addf (mulf (V0 (Proc.devRef .tc main_v25_11)) (broadcastInDim S4x128x128 ![0, 1, 2] bcast_S4x1x128_S4x128x128_0_1_2 (res_main_while0b_v56 V0))) (transpose S4x128x128 [0, 2, 1] (Host.dotGeneral dot_S4x64x128_S4x64x128_S4x128x128_1_1_2_2_0_0 none (res_main_while0b_v101 V0) (res_main_while0b_v43 V0)) transposes_S4x128x128_S4x128x128_0_2_1) : (Proc.devRef .tc main_while0b_v118 : DevRef τ sig).ty.Contents (Elt F)) = Step.b141 j s := by
  unfold Step.b141
  rw [← al_132 h, ← al_140 h]
  try rfl
theorem al_142 (h : Holds V0 s j) : (Host.dotGeneral dot_S4x64x128_S4x128x128_S4x64x128_2_2_1_1_0_0 none (res_main_while0b_v101 V0) (res_main_while0b_v42 V0) : (Proc.devRef .tc main_while0b_v119 : DevRef τ sig).ty.Contents (Elt F)) = Step.b142 j s := by
  unfold Step.b142
  rw [← al_122 h, ← al_8 h]
  try rfl
theorem al_143 (h : Holds V0 s j) : (res_main_while0b_v120 V0 : (Proc.devRef .tc main_while0b_v120 : DevRef τ sig).ty.Contents (Elt F)) = Step.b143 j s := by
  unfold res_main_while0b_v120 Step.b143
  rw [← al_137 h]
  try rfl
theorem al_144 (h : Holds V0 s j) : (Host.dotGeneral dot_S4x64x128_S4x64x128_S4x128x128_1_1_2_2_0_0 none (res_main_while0b_v120 V0) (res_main_while0b_v46 V0) : (Proc.devRef .tc main_while0b_v121 : DevRef τ sig).ty.Contents (Elt F)) = Step.b144 j s := by
  unfold Step.b144
  rw [← al_143 h, ← al_28 h]
  try rfl
theorem al_145 (h : Holds V0 s j) : (transpose S4x128x128 [0, 2, 1] (Host.dotGeneral dot_S4x64x128_S4x64x128_S4x128x128_1_1_2_2_0_0 none (res_main_while0b_v120 V0) (res_main_while0b_v46 V0)) transposes_S4x128x128_S4x128x128_0_2_1 : (Proc.devRef .tc main_while0b_v122 : DevRef τ sig).ty.Contents (Elt F)) = Step.b145 j s := by
  unfold Step.b145
  rw [← al_144 h]
  try rfl
theorem al_146 (h : Holds V0 s j) : (addf (addf (mulf (V0 (Proc.devRef .tc main_v25_11)) (broadcastInDim S4x128x128 ![0, 1, 2] bcast_S4x1x128_S4x128x128_0_1_2 (res_main_while0b_v56 V0))) (transpose S4x128x128 [0, 2, 1] (Host.dotGeneral dot_S4x64x128_S4x64x128_S4x128x128_1_1_2_2_0_0 none (res_main_while0b_v101 V0) (res_main_while0b_v43 V0)) transposes_S4x128x128_S4x128x128_0_2_1)) (transpose S4x128x128 [0, 2, 1] (Host.dotGeneral dot_S4x64x128_S4x64x128_S4x128x128_1_1_2_2_0_0 none (res_main_while0b_v120 V0) (res_main_while0b_v46 V0)) transposes_S4x128x128_S4x128x128_0_2_1) : (Proc.devRef .tc main_while0b_v123 : DevRef τ sig).ty.Contents (Elt F)) = Step.b146 j s := by
  unfold Step.b146
  rw [← al_141 h, ← al_145 h]
  try rfl
theorem al_147 (h : Holds V0 s j) : (Host.dotGeneral dot_S4x64x128_S4x128x128_S4x64x128_2_2_1_1_0_0 none (res_main_while0b_v120 V0) (res_main_while0b_v42 V0) : (Proc.devRef .tc main_while0b_v124 : DevRef τ sig).ty.Contents (Elt F)) = Step.b147 j s := by
  unfold Step.b147
  rw [← al_143 h, ← al_8 h]
  try rfl
theorem al_148 (h : Holds V0 s j) : (addf (V0 (Proc.devRef .tc main_v25_12)) (Host.reduceAdd (shapeCast S1x1x128 (Host.reduceAdd (mulf (res_main_while0b_v73 V0) (res_main_while0b_v80 V0)) (constant S_ .f32 0x00000000#32) reducesTo_S4x64x128_S128_d0_1 h_S_) shapeCasts_S128_S1x1x128) (constant S_ .f32 0x00000000#32) reducesTo_S1x1x128_S128_d0_1 h_S_) : (Proc.devRef .tc main_while0b_v125 : DevRef τ sig).ty.Contents (Elt F)) = Step.b148 j s := by
  unfold Step.b148
  rw [← al_105 h, h.f_12]
  try rfl
theorem al_149 (h : Holds V0 s j) : (broadcastInDim S1x4x64x128 ![1, 2, 3] bcast_S4x64x128_S1x4x64x128_1_2_3 (Host.dotGeneral dot_S4x64x128_S4x128x128_S4x64x128_2_2_1_1_0_0 none (res_main_while0b_v101 V0) (res_main_while0b_v42 V0)) : (Proc.devRef .tc main_while0b_call11_v0 : DevRef τ sig).ty.Contents (Elt F)) = Step.b149 j s := by
  unfold Step.b149
  rw [← al_142 h]
  try rfl
theorem al_150 (h : Holds V0 s j) : (constantI S_ 32 0#32 : (Proc.devRef .tc main_while0b_call11_c : DevRef τ sig).ty.Contents (Elt F)) = Step.b150 j s := by
  unfold Step.b150
  rfl
theorem al_151 (h : Holds V0 s j) : (constantI S_ 32 0#32 : (Proc.devRef .tc main_while0b_call11_c_0 : DevRef τ sig).ty.Contents (Elt F)) = Step.b151 j s := by
  unfold Step.b151
  rfl
theorem al_152 (h : Holds V0 s j) : (constantI S_ 32 0#32 : (Proc.devRef .tc main_while0b_call11_c_1 : DevRef τ sig).ty.Contents (Elt F)) = Step.b152 j s := by
  unfold Step.b152
  rfl
theorem al_153 (h : Holds V0 s j) : (Host.dynamicUpdateSlice (V0 (Proc.devRef .tc main_v25_13)) (broadcastInDim S1x4x64x128 ![1, 2, 3] bcast_S4x64x128_S1x4x64x128_1_2_3 (Host.dotGeneral dot_S4x64x128_S4x128x128_S4x64x128_2_2_1_1_0_0 none (res_main_while0b_v101 V0) (res_main_while0b_v42 V0))) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v126 : DevRef τ sig).ty.Contents (Elt F)) = Step.b153 j s := by
  unfold Step.b153
  rw [← al_149 h, ← al_3 h, ← al_150 h, ← al_151 h, ← al_152 h, h.f_13]
  try rfl
theorem al_154 (h : Holds V0 s j) : (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v25_11)) (res_main_while0b_v52 V0)) transposes_S4x128x64_S4x64x128_0_2_1) : (Proc.devRef .tc main_while0b_call12_v0 : DevRef τ sig).ty.Contents (Elt F)) = Step.b154 j s := by
  unfold Step.b154
  rw [← al_126 h]
  try rfl
theorem al_155 (h : Holds V0 s j) : (constantI S_ 32 0#32 : (Proc.devRef .tc main_while0b_call12_c : DevRef τ sig).ty.Contents (Elt F)) = Step.b155 j s := by
  unfold Step.b155
  rfl
theorem al_156 (h : Holds V0 s j) : (constantI S_ 32 0#32 : (Proc.devRef .tc main_while0b_call12_c_0 : DevRef τ sig).ty.Contents (Elt F)) = Step.b156 j s := by
  unfold Step.b156
  rfl
theorem al_157 (h : Holds V0 s j) : (constantI S_ 32 0#32 : (Proc.devRef .tc main_while0b_call12_c_1 : DevRef τ sig).ty.Contents (Elt F)) = Step.b157 j s := by
  unfold Step.b157
  rfl
theorem al_158 (h : Holds V0 s j) : (Host.dynamicUpdateSlice (V0 (Proc.devRef .tc main_v25_14)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v25_11)) (res_main_while0b_v52 V0)) transposes_S4x128x64_S4x64x128_0_2_1)) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v127 : DevRef τ sig).ty.Contents (Elt F)) = Step.b158 j s := by
  unfold Step.b158
  rw [← al_154 h, ← al_3 h, ← al_155 h, ← al_156 h, ← al_157 h, h.f_14]
  try rfl
theorem al_159 (h : Holds V0 s j) : (broadcastInDim S1x4x64x128 ![1, 2, 3] bcast_S4x64x128_S1x4x64x128_1_2_3 (res_main_while0b_v114 V0) : (Proc.devRef .tc main_while0b_call13_v0 : DevRef τ sig).ty.Contents (Elt F)) = Step.b159 j s := by
  unfold Step.b159
  rw [← al_137 h]
  try rfl
theorem al_160 (h : Holds V0 s j) : (constantI S_ 32 0#32 : (Proc.devRef .tc main_while0b_call13_c : DevRef τ sig).ty.Contents (Elt F)) = Step.b160 j s := by
  unfold Step.b160
  rfl
theorem al_161 (h : Holds V0 s j) : (constantI S_ 32 0#32 : (Proc.devRef .tc main_while0b_call13_c_0 : DevRef τ sig).ty.Contents (Elt F)) = Step.b161 j s := by
  unfold Step.b161
  rfl
theorem al_162 (h : Holds V0 s j) : (constantI S_ 32 0#32 : (Proc.devRef .tc main_while0b_call13_c_1 : DevRef τ sig).ty.Contents (Elt F)) = Step.b162 j s := by
  unfold Step.b162
  rfl
theorem al_163 (h : Holds V0 s j) : (Host.dynamicUpdateSlice (V0 (Proc.devRef .tc main_v25_15)) (broadcastInDim S1x4x64x128 ![1, 2, 3] bcast_S4x64x128_S1x4x64x128_1_2_3 (res_main_while0b_v114 V0)) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v128 : DevRef τ sig).ty.Contents (Elt F)) = Step.b163 j s := by
  unfold Step.b163
  rw [← al_159 h, ← al_3 h, ← al_160 h, ← al_161 h, ← al_162 h, h.f_15]
  try rfl
theorem al_164 (h : Holds V0 s j) : (broadcastInDim S1x4x64x128 ![1, 2, 3] bcast_S4x64x128_S1x4x64x128_1_2_3 (Host.dotGeneral dot_S4x64x128_S4x128x128_S4x64x128_2_2_1_1_0_0 none (res_main_while0b_v120 V0) (res_main_while0b_v42 V0)) : (Proc.devRef .tc main_while0b_call14_v0 : DevRef τ sig).ty.Contents (Elt F)) = Step.b164 j s := by
  unfold Step.b164
  rw [← al_147 h]
  try rfl
theorem al_165 (h : Holds V0 s j) : (constantI S_ 32 0#32 : (Proc.devRef .tc main_while0b_call14_c : DevRef τ sig).ty.Contents (Elt F)) = Step.b165 j s := by
  unfold Step.b165
  rfl
theorem al_166 (h : Holds V0 s j) : (constantI S_ 32 0#32 : (Proc.devRef .tc main_while0b_call14_c_0 : DevRef τ sig).ty.Contents (Elt F)) = Step.b166 j s := by
  unfold Step.b166
  rfl
theorem al_167 (h : Holds V0 s j) : (constantI S_ 32 0#32 : (Proc.devRef .tc main_while0b_call14_c_1 : DevRef τ sig).ty.Contents (Elt F)) = Step.b167 j s := by
  unfold Step.b167
  rfl
theorem al_168 (h : Holds V0 s j) : (Host.dynamicUpdateSlice (V0 (Proc.devRef .tc main_v25_16)) (broadcastInDim S1x4x64x128 ![1, 2, 3] bcast_S4x64x128_S1x4x64x128_1_2_3 (Host.dotGeneral dot_S4x64x128_S4x128x128_S4x64x128_2_2_1_1_0_0 none (res_main_while0b_v120 V0) (res_main_while0b_v42 V0))) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v129 : DevRef τ sig).ty.Contents (Elt F)) = Step.b168 j s := by
  unfold Step.b168
  rw [← al_164 h, ← al_3 h, ← al_165 h, ← al_166 h, ← al_167 h, h.f_16]
  try rfl
theorem al_169 (h : Holds V0 s j) : (broadcastInDim S1x4x64x64 ![1, 2, 3] bcast_S4x64x64_S1x4x64x64_1_2_3 (Host.dotGeneral dot_S4x64x128_S4x64x128_S4x64x64_2_2_1_1_0_0 none (res_main_while0b_v101 V0) (res_main_while0b_v52 V0)) : (Proc.devRef .tc main_while0b_call15_v0 : DevRef τ sig).ty.Contents (Elt F)) = Step.b169 j s := by
  unfold Step.b169
  rw [← al_138 h]
  try rfl
theorem al_170 (h : Holds V0 s j) : (constantI S_ 32 0#32 : (Proc.devRef .tc main_while0b_call15_c : DevRef τ sig).ty.Contents (Elt F)) = Step.b170 j s := by
  unfold Step.b170
  rfl
theorem al_171 (h : Holds V0 s j) : (constantI S_ 32 0#32 : (Proc.devRef .tc main_while0b_call15_c_0 : DevRef τ sig).ty.Contents (Elt F)) = Step.b171 j s := by
  unfold Step.b171
  rfl
theorem al_172 (h : Holds V0 s j) : (constantI S_ 32 0#32 : (Proc.devRef .tc main_while0b_call15_c_1 : DevRef τ sig).ty.Contents (Elt F)) = Step.b172 j s := by
  unfold Step.b172
  rfl
theorem al_173 (h : Holds V0 s j) : (Host.dynamicUpdateSlice (V0 (Proc.devRef .tc main_v25_17)) (broadcastInDim S1x4x64x64 ![1, 2, 3] bcast_S4x64x64_S1x4x64x64_1_2_3 (Host.dotGeneral dot_S4x64x128_S4x64x128_S4x64x64_2_2_1_1_0_0 none (res_main_while0b_v101 V0) (res_main_while0b_v52 V0))) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S128x4x64x64_S1x4x64x64 : (Proc.devRef .tc main_while0b_v130 : DevRef τ sig).ty.Contents (Elt F)) = Step.b173 j s := by
  unfold Step.b173
  rw [← al_169 h, ← al_3 h, ← al_170 h, ← al_171 h, ← al_172 h, h.f_17]
  try rfl
theorem al_174 (h : Holds V0 s j) : (broadcastInDim S1x4x128 ![1, 2] bcast_S4x128_S1x4x128_1_2 (Host.reduceAdd (shapeCast S4x1x128 (Host.reduceAdd (mulf (res_main_while0b_v42 V0) (V0 (Proc.devRef .tc main_v25_11))) (constant S_ .f32 0x00000000#32) reducesTo_S4x128x128_S4x128_d1 h_S_) shapeCasts_S4x128_S4x1x128) (constant S_ .f32 0x00000000#32) reducesTo_S4x1x128_S4x128_d1 h_S_) : (Proc.devRef .tc main_while0b_call16_v0 : DevRef τ sig).ty.Contents (Elt F)) = Step.b174 j s := by
  unfold Step.b174
  rw [← al_134 h]
  try rfl
theorem al_175 (h : Holds V0 s j) : (constantI S_ 32 0#32 : (Proc.devRef .tc main_while0b_call16_c : DevRef τ sig).ty.Contents (Elt F)) = Step.b175 j s := by
  unfold Step.b175
  rfl
theorem al_176 (h : Holds V0 s j) : (constantI S_ 32 0#32 : (Proc.devRef .tc main_while0b_call16_c_0 : DevRef τ sig).ty.Contents (Elt F)) = Step.b176 j s := by
  unfold Step.b176
  rfl
theorem al_177 (h : Holds V0 s j) : (Host.dynamicUpdateSlice (V0 (Proc.devRef .tc main_v25_18)) (broadcastInDim S1x4x128 ![1, 2] bcast_S4x128_S1x4x128_1_2 (Host.reduceAdd (shapeCast S4x1x128 (Host.reduceAdd (mulf (res_main_while0b_v42 V0) (V0 (Proc.devRef .tc main_v25_11))) (constant S_ .f32 0x00000000#32) reducesTo_S4x128x128_S4x128_d1 h_S_) shapeCasts_S4x128_S4x1x128) (constant S_ .f32 0x00000000#32) reducesTo_S4x1x128_S4x128_d1 h_S_)) (fun k => (((![res_main_while0b_v41 V0, constantI S_ 32 0#32, constantI S_ 32 0#32] : Fin 3 → (⟨S_, .i32⟩ : BufTy).Contents (Elt F))) k (Shape.Idx.first h_S_)).toInt) updateFits_S128x4x128_S1x4x128 : (Proc.devRef .tc main_while0b_v131 : DevRef τ sig).ty.Contents (Elt F)) = Step.b177 j s := by
  unfold Step.b177
  rw [← al_174 h, ← al_3 h, ← al_175 h, ← al_176 h, h.f_18]
  try rfl
theorem al_178 (h : Holds V0 s j) : (broadcastInDim S1x4x64x128 ![1, 2, 3] bcast_S4x64x128_S1x4x64x128_1_2_3 (addf (mulf (res_main_while0b_v79 V0) (res_main_while0b_v77_2 V0)) (mulf (mulf (res_main_while0b_v49 V0) (res_main_while0b_v79 V0)) (mulf (res_main_while0b_v77_2 V0) (subf (broadcastInDim S4x64x128 ![] bcast_S_S4x64x128 (constant S_ .f32 0x3F800000#32)) (res_main_while0b_v77_2 V0))))) : (Proc.devRef .tc main_while0b_call17_v0 : DevRef τ sig).ty.Contents (Elt F)) = Step.b178 j s := by
  unfold Step.b178
  rw [← al_97 h]
  try rfl
theorem al_179 (h : Holds V0 s j) : (constantI S_ 32 0#32 : (Proc.devRef .tc main_while0b_call17_c : DevRef τ sig).ty.Contents (Elt F)) = Step.b179 j s := by
  unfold Step.b179
  rfl
theorem al_180 (h : Holds V0 s j) : (constantI S_ 32 0#32 : (Proc.devRef .tc main_while0b_call17_c_0 : DevRef τ sig).ty.Contents (Elt F)) = Step.b180 j s := by
  unfold Step.b180
  rfl
theorem al_181 (h : Holds V0 s j) : (constantI S_ 32 0#32 : (Proc.devRef .tc main_while0b_call17_c_1 : DevRef τ sig).ty.Contents (Elt F)) = Step.b181 j s := by
  unfold Step.b181
  rfl
theorem al_182 (h : Holds V0 s j) : (Host.dynamicUpdateSlice (V0 (Proc.devRef .tc main_v25_19)) (broadcastInDim S1x4x64x128 ![1, 2, 3] bcast_S4x64x128_S1x4x64x128_1_2_3 (addf (mulf (res_main_while0b_v79 V0) (res_main_while0b_v77_2 V0)) (mulf (mulf (res_main_while0b_v49 V0) (res_main_while0b_v79 V0)) (mulf (res_main_while0b_v77_2 V0) (subf (broadcastInDim S4x64x128 ![] bcast_S_S4x64x128 (constant S_ .f32 0x3F800000#32)) (res_main_while0b_v77_2 V0)))))) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v132 : DevRef τ sig).ty.Contents (Elt F)) = Step.b182 j s := by
  unfold Step.b182
  rw [← al_178 h, ← al_3 h, ← al_179 h, ← al_180 h, ← al_181 h, h.f_19]
  try rfl

/-! One trip's step of the carried values is `step`, field by field; a counter steps to the next number. -/

theorem step_11 (h : Holds V0 s j) : step_main_v25_11 V0 = (step j s).main_v25_11 := al_146 h
theorem step_12 (h : Holds V0 s j) : step_main_v25_12 V0 = (step j s).main_v25_12 := al_148 h
theorem step_13 (h : Holds V0 s j) : step_main_v25_13 V0 = (step j s).main_v25_13 := al_153 h
theorem step_14 (h : Holds V0 s j) : step_main_v25_14 V0 = (step j s).main_v25_14 := al_158 h
theorem step_15 (h : Holds V0 s j) : step_main_v25_15 V0 = (step j s).main_v25_15 := al_163 h
theorem step_16 (h : Holds V0 s j) : step_main_v25_16 V0 = (step j s).main_v25_16 := al_168 h
theorem step_17 (h : Holds V0 s j) : step_main_v25_17 V0 = (step j s).main_v25_17 := al_173 h
theorem step_18 (h : Holds V0 s j) : step_main_v25_18 V0 = (step j s).main_v25_18 := al_177 h
theorem step_19 (h : Holds V0 s j) : step_main_v25_19 V0 = (step j s).main_v25_19 := al_182 h
theorem step_10 (h : Holds V0 s j) : step_main_v25_10 V0 = constantI S_ 32 (BitVec.ofNat 32 (j + 1)) := by
  unfold step_main_v25_10
  rw [h.n_10]
  funext i
  show BitVec.ofNat 32 j + 1#32 = BitVec.ofNat 32 (j + 1)
  simp only [BitVec.ofNat_add]

theorem out_main_v27_holds (h : Holds V0 s j) : out_main_v27 V0 = Step.R_main_v27 s := by
  unfold out_main_v27 Step.R_main_v27
  rw [h.f_13]
  try rfl

theorem out_main_v29_holds (h : Holds V0 s j) : out_main_v29 V0 = Step.R_main_v29 s := by
  unfold out_main_v29 Step.R_main_v29
  rw [h.f_14]
  try rfl

theorem out_main_v31_holds (h : Holds V0 s j) : out_main_v31 V0 = Step.R_main_v31 s := by
  unfold out_main_v31 Step.R_main_v31
  rw [h.f_15]
  try rfl

theorem out_main_v33_holds (h : Holds V0 s j) : out_main_v33 V0 = Step.R_main_v33 s := by
  unfold out_main_v33 Step.R_main_v33
  rw [h.f_16]
  try rfl

theorem out_main_v35_holds (h : Holds V0 s j) : out_main_v35 V0 = Step.R_main_v35 s := by
  unfold out_main_v35 Step.R_main_v35
  rw [h.f_17]
  try rfl

theorem out_main_v38_holds (h : Holds V0 s j) : out_main_v38 V0 = Step.R_main_v38 s := by
  unfold out_main_v38 Step.R_main_v38
  rw [h.f_19]
  try rfl

theorem out_main_v39_holds (h : Holds V0 s j) : out_main_v39 V0 = Step.R_main_v39 s := by
  unfold out_main_v39 Step.R_main_v39
  rw [h.f_12]
  try rfl

/-- One trip keeps the valuation holding: `step` of the state, the same set-up values, the next number. -/
theorem holds_step (h : Holds V0 s j) : Holds (STEP V0) (step j s) (j + 1) where
  f_11 := (STEP_main_v25_11 V0).trans (step_11 h)
  f_12 := (STEP_main_v25_12 V0).trans (step_12 h)
  f_13 := (STEP_main_v25_13 V0).trans (step_13 h)
  f_14 := (STEP_main_v25_14 V0).trans (step_14 h)
  f_15 := (STEP_main_v25_15 V0).trans (step_15 h)
  f_16 := (STEP_main_v25_16 V0).trans (step_16 h)
  f_17 := (STEP_main_v25_17 V0).trans (step_17 h)
  f_18 := (STEP_main_v25_18 V0).trans (step_18 h)
  f_19 := (STEP_main_v25_19 V0).trans (step_19 h)
  n_10 := (STEP_main_v25_10 V0).trans (step_10 h)
  f_0 := (STEP_main_v25_0 V0).trans h.f_0
  f_1 := (STEP_main_v25_1 V0).trans h.f_1
  f_2 := (STEP_main_v25_2 V0).trans h.f_2
  f_3 := (STEP_main_v25_3 V0).trans h.f_3
  f_4 := (STEP_main_v25_4 V0).trans h.f_4
  f_5 := (STEP_main_v25_5 V0).trans h.f_5
  f_6 := (STEP_main_v25_6 V0).trans h.f_6
  f_7 := (STEP_main_v25_7 V0).trans h.f_7
  f_8 := (STEP_main_v25_8 V0).trans h.f_8
  f_9 := (STEP_main_v25_9 V0).trans h.f_9

/-- The state the first trip starts from, of the memory the run starts from. -/
abbrev initState (m : (ℓ : Loc nD τ sig) → Buf (Elt F) ℓ) (c : Dev nD) : State F :=
  init (m ((c.tc : Thread nD τ).loc main_arg8)) (m ((c.tc : Thread nD τ).loc main_arg5)) (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg9))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v27) = Step.R_main_v27 (it c 128)
      ∧ r.2.mem ((c.tc : Thread nD τ).loc main_v29) = Step.R_main_v29 (it c 128)
      ∧ r.2.mem ((c.tc : Thread nD τ).loc main_v31) = Step.R_main_v31 (it c 128)
      ∧ r.2.mem ((c.tc : Thread nD τ).loc main_v33) = Step.R_main_v33 (it c 128)
      ∧ r.2.mem ((c.tc : Thread nD τ).loc main_v35) = Step.R_main_v35 (it c 128)
      ∧ r.2.mem ((c.tc : Thread nD τ).loc main_v25_18) = (it c 128).main_v25_18
      ∧ r.2.mem ((c.tc : Thread nD τ).loc main_v38) = Step.R_main_v38 (it c 128)
      ∧ r.2.mem ((c.tc : Thread nD τ).loc main_v39) = Step.R_main_v39 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 128
    ⟨(h c).1.trans (out_main_v27_holds hk), (h c).2.1.trans (out_main_v29_holds hk), (h c).2.2.1.trans (out_main_v31_holds hk), (h c).2.2.2.1.trans (out_main_v33_holds hk), (h c).2.2.2.2.1.trans (out_main_v35_holds hk), (h c).2.2.2.2.2.1.trans hk.f_18, (h c).2.2.2.2.2.2.1.trans (out_main_v38_holds hk), (h c).2.2.2.2.2.2.2.1.trans (out_main_v39_holds hk), (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.ReferenceIdeal.RL

end
-- ==== Proof.RefWhole.lean ====
/- The reference's whole loop: after `k` trips the carried cotangent is the plain one and the arrays hold the
   gradients of the chunks done, so that its eight results are the plain ones. -/
module

public import proofs.«01_k».proof.Proof.RefUnit
public import proofs.«01_k».proof.Proof.Whole
public import proofs.«01_k».proof.Proof.RefLoop

@[expose] public section

set_option maxRecDepth 16384

noncomputable section

namespace Cert.ReferenceIdeal.RW

open Cert.ReferenceIdeal Cert.ReferenceIdeal.Gen Cert.ReferenceIdeal.Step Idealize.ShloMosaic Cert.Gdn

/-! ## The arrays as the loop takes them: cut into chunks of heads -/

section
variable (x0 x1 x2 x3 : Vec Ideal S8192x512 .f32) (x4 : Vec Ideal S4x8192x64 .f32) (x6 : Vec Ideal S8192x3840 .f32)
  (x9 : Vec Ideal S8192x1024 .f32) (n : Fin 128) (h : Fin 4) (c : Fin 64) (d : Fin 128) (s : Fin 64)

theorem v7_at : A_main_v7 x0 x1 x2 x3 x4 x6 x9 (ix4 n h c d) = x0 (ix2 (row n c) (col h d)) := by
  pointwise [A_main_v7, A_main_v6]; rfl
theorem v9_at : A_main_v9 x0 x1 x2 x3 x4 x6 x9 (ix4 n h c d) = x1 (ix2 (row n c) (col h d)) := by
  pointwise [A_main_v9, A_main_v8]; rfl
theorem v11_at : A_main_v11 x0 x1 x2 x3 x4 x6 x9 (ix4 n h c d) = x2 (ix2 (row n c) (col h d)) := by
  pointwise [A_main_v11, A_main_v10]; rfl
theorem v13_at : A_main_v13 x0 x1 x2 x3 x4 x6 x9 (ix4 n h c d) = x3 (ix2 (row n c) (col h d)) := by
  pointwise [A_main_v13, A_main_v12]; rfl
theorem v3_at : A_main_v3 x0 x1 x2 x3 x4 x6 x9 (ix4 n h c s) = x4 (ix3 h (row n c) s) := by
  pointwise [A_main_v3, A_main_v2]; rfl
theorem v15_at : A_main_v15 x0 x1 x2 x3 x4 x6 x9 (ix4 n h c d) = x6 (ix2 (row n c) (gcol h d)) := by
  pointwise [A_main_v15, A_main_v14, A_main_v0]; rfl
theorem v17_at : A_main_v17 x0 x1 x2 x3 x4 x6 x9 (ix4 n h c d) = x9 (ix2 (row n c) (ycol h d)) := by
  pointwise [A_main_v17, A_main_v16, A_main_v1]; rfl
end

/-! ## What holds after `k` trips -/

/-- After `k` trips: the loop still reads the arrays `A`, carries the plain cotangent and the norm weight's gradient so
    far, and has written the gradients of the last `k` chunks. -/
structure Inv (A : Arrays) (s : State Ideal) (k : ℕ) : Prop where
  consts : ∀ n h, RU.chunk s n h = Gdn.chunk A n h (fun a b => s.main_v25_11 (ix3 h a b))
  dS : ∀ h a b, s.main_v25_11 (ix3 h a b) = carry A k h a b
  dg : ∀ d, s.main_v25_12 (ix1 d) = dgUpTo A k d
  dq : ∀ n h c d, 128 - k ≤ n.val → s.main_v25_13 (ix4 n h c d) = (full A n h).dq c d
  dk : ∀ n h c d, 128 - k ≤ n.val → s.main_v25_14 (ix4 n h c d) = (full A n h).dk c d
  du : ∀ n h c d, 128 - k ≤ n.val → s.main_v25_15 (ix4 n h c d) = (full A n h).du c d
  dw : ∀ n h c d, 128 - k ≤ n.val → s.main_v25_16 (ix4 n h c d) = (full A n h).dw c d
  da : ∀ n h c d, 128 - k ≤ n.val → s.main_v25_17 (ix4 n h c d) = (full A n h).da c d
  de : ∀ n h d, 128 - k ≤ n.val → s.main_v25_18 (ix3 n h d) = (full A n h).de d
  dz : ∀ n h c d, 128 - k ≤ n.val → s.main_v25_19 (ix4 n h c d) = (full A n h).dz c d

theorem Inv.unit {A : Arrays} {s : State Ideal} {k : ℕ} (I : Inv A s k) (h : Fin 4) : RU.chunk s (RU.at_ k) h = nth A k h := by
  rw [I.consts, nth]
  exact congrArg (Gdn.chunk A _ h) (funext fun a => funext fun b => I.dS h a b)

theorem Inv.next {A : Arrays} {s : State Ideal} {k : ℕ} (I : Inv A s k) (hk : k < 128) : Inv A (step k s) (k + 1) where
  consts n h := congrArg (fun x : Chunk => { x with dS := fun a b => (step k s).main_v25_11 (ix3 h a b) }) (I.consts n h)
  dS h a b := by
    rw [step_main_v25_11, RU.b146_at k s hk h b a, I.unit h]; rfl
  dg d := by
    rw [step_main_v25_12, RU.b148_at k s hk d, I.dg, dgUpTo_succ]
    exact congrArg _ (Finset.sum_congr rfl fun h _ => by rw [I.unit h])
  dq n h c d hn := by
    rw [step_main_v25_13, RU.b153_at k s hk h c d n]
    by_cases e : n = RU.at_ k
    · rw [if_pos e, I.unit h, e]; exact congrArg (fun x : Chunk => x.dq c d) (full_back A k hk h).symm
    · rw [if_neg e]
      exact I.dq n h c d (by
        have : n.val ≠ 127 - k := fun h' => e (Fin.ext h')
        omega)
  dk n h c d hn := by
    rw [step_main_v25_14, RU.b158_at k s hk h c d n]
    by_cases e : n = RU.at_ k
    · rw [if_pos e, I.unit h, e]; exact congrArg (fun x : Chunk => x.dk c d) (full_back A k hk h).symm
    · rw [if_neg e]
      exact I.dk n h c d (by
        have : n.val ≠ 127 - k := fun h' => e (Fin.ext h')
        omega)
  du n h c d hn := by
    rw [step_main_v25_15, RU.b163_at k s hk h c d n]
    by_cases e : n = RU.at_ k
    · rw [if_pos e, I.unit h, e]; exact congrArg (fun x : Chunk => x.du c d) (full_back A k hk h).symm
    · rw [if_neg e]
      exact I.du n h c d (by
        have : n.val ≠ 127 - k := fun h' => e (Fin.ext h')
        omega)
  dw n h c d hn := by
    rw [step_main_v25_16, RU.b168_at k s hk h c d n]
    by_cases e : n = RU.at_ k
    · rw [if_pos e, I.unit h, e]; exact congrArg (fun x : Chunk => x.dw c d) (full_back A k hk h).symm
    · rw [if_neg e]
      exact I.dw n h c d (by
        have : n.val ≠ 127 - k := fun h' => e (Fin.ext h')
        omega)
  da n h c d hn := by
    rw [step_main_v25_17, RU.b173_at k s hk h c n d]
    by_cases e : n = RU.at_ k
    · rw [if_pos e, I.unit h, e]; exact congrArg (fun x : Chunk => x.da c d) (full_back A k hk h).symm
    · rw [if_neg e]
      exact I.da n h c d (by
        have : n.val ≠ 127 - k := fun h' => e (Fin.ext h')
        omega)
  de n h d hn := by
    rw [step_main_v25_18, RU.b177_at k s hk h d n]
    by_cases e : n = RU.at_ k
    · rw [if_pos e, I.unit h, e]; exact congrArg (fun x : Chunk => x.de d) (full_back A k hk h).symm
    · rw [if_neg e]
      exact I.de n h d (by
        have : n.val ≠ 127 - k := fun h' => e (Fin.ext h')
        omega)
  dz n h c d hn := by
    rw [step_main_v25_19, RU.b182_at k s hk h c d n]
    by_cases e : n = RU.at_ k
    · rw [if_pos e, I.unit h, e]; exact congrArg (fun x : Chunk => x.dz c d) (full_back A k hk h).symm
    · rw [if_neg e]
      exact I.dz n h c d (by
        have : n.val ≠ 127 - k := fun h' => e (Fin.ext h')
        omega)

/-- The arrays a device's memory holds. -/
def arrays (m : (ℓ : Loc nD τ sig) → Buf (Elt Ideal) ℓ) (c : Dev nD) : Arrays where
  qe := m ((c.tc : Thread nD τ).loc main_arg0)
  ke := m ((c.tc : Thread nD τ).loc main_arg1)
  u := m ((c.tc : Thread nD τ).loc main_arg2)
  w := m ((c.tc : Thread nD τ).loc main_arg3)
  attn := m ((c.tc : Thread nD τ).loc main_arg4)
  eg := m ((c.tc : Thread nD τ).loc main_arg5)
  proj := m ((c.tc : Thread nD τ).loc main_arg6)
  wgn := m ((c.tc : Thread nD τ).loc main_arg7)
  states := m ((c.tc : Thread nD τ).loc main_arg8)
  dycat := m ((c.tc : Thread nD τ).loc main_arg9)

section
variable (m : (ℓ : Loc nD τ sig) → Buf (Elt Ideal) ℓ) (c : Dev nD)

theorem inv_zero : Inv (arrays m c) (RL.initState m c) 0 where
  consts n h := by
    unfold RU.chunk Gdn.chunk
    congr 1
    · funext a b; exact v7_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
    · funext a b; exact v9_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
    · funext a b; exact v11_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
    · funext a b; exact v13_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
    · funext a b; exact v3_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
    · funext a b; exact v15_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
    · funext a b; exact v17_at (m (c.tc.loc main_arg0)) (m (c.tc.loc main_arg1)) (m (c.tc.loc main_arg2)) (m (c.tc.loc main_arg3)) (m (c.tc.loc main_arg4)) (m (c.tc.loc main_arg6)) (m (c.tc.loc main_arg9)) _ _ _ _
  dS h a b := by
    show K_main_v4 (ix3 h a b) = 0
    pointwise [K_main_v4, K_main_cst]
  dg d := by
    show K_main_v5 (ix1 d) = 0
    pointwise [K_main_v5, K_main_cst_0]
  dq n h c d hn := absurd n.isLt (by omega)
  dk n h c d hn := absurd n.isLt (by omega)
  du n h c d hn := absurd n.isLt (by omega)
  dw n h c d hn := absurd n.isLt (by omega)
  da n h c d hn := absurd n.isLt (by omega)
  de n h d hn := absurd n.isLt (by omega)
  dz n h c d hn := absurd n.isLt (by omega)

/-- The states of the loop. -/
def it : ℕ → State Ideal
  | 0 => RL.initState m c
  | k + 1 => step k (it k)

theorem inv_it : ∀ k, k ≤ 128 → Inv (arrays m c) (it m c k) k
  | 0, _ => inv_zero m c
  | k + 1, hk => (inv_it k (by omega)).next (by omega)

/-! ## The results -/

/-- Chunks of heads back to rows and columns. -/
theorem join_at (v : S128x4x64x128.Idx → EReal) (y : S8192x512.Idx) :
    shapeCast S8192x512 (transpose S128x64x4x128 [0, 2, 1, 3] v transposes_S128x4x64x128_S128x64x4x128_0_2_1_3)
      shapeCasts_S128x64x4x128_S8192x512 y = v (ix4 (chunkOf (y 0)) (headOf (y 1)) (rowOf (y 0)) (colOf (y 1))) := by
  pointwise; rfl

theorem dq_eq : R_main_v27 (it m c 128) = Gdn.dq (arrays m c) := by
  funext y
  exact (join_at _ y).trans ((inv_it m c 128 le_rfl).dq _ _ _ _ (Nat.zero_le _))
theorem dk_eq : R_main_v29 (it m c 128) = Gdn.dk (arrays m c) := by
  funext y
  exact (join_at _ y).trans ((inv_it m c 128 le_rfl).dk _ _ _ _ (Nat.zero_le _))
theorem du_eq : R_main_v31 (it m c 128) = Gdn.du (arrays m c) := by
  funext y
  exact (join_at _ y).trans ((inv_it m c 128 le_rfl).du _ _ _ _ (Nat.zero_le _))
theorem dw_eq : R_main_v33 (it m c 128) = Gdn.dw (arrays m c) := by
  funext y
  exact (join_at _ y).trans ((inv_it m c 128 le_rfl).dw _ _ _ _ (Nat.zero_le _))
theorem dz_eq : R_main_v38 (it m c 128) = Gdn.dz (arrays m c) := by
  funext y
  exact (join_at _ y).trans ((inv_it m c 128 le_rfl).dz _ _ _ _ (Nat.zero_le _))
theorem da_eq : R_main_v35 (it m c 128) = Gdn.da (arrays m c) := by
  funext y
  refine Eq.trans ?_ ((inv_it m c 128 le_rfl).da (chunkOf (y 1)) (y 0) (rowOf (y 1)) (y 2) (Nat.zero_le _))
  pointwise [R_main_v35]; rfl
theorem de_eq : (it m c 128).main_v25_18 = Gdn.de (arrays m c) := by
  funext y
  refine Eq.trans ?_ ((inv_it m c 128 le_rfl).de (y 0) (y 1) (y 2) (Nat.zero_le _))
  exact congrArg _ (eq_ix3 y)
theorem dg_eq : R_main_v39 (it m c 128) = Gdn.dg (arrays m c) := by
  funext y
  refine Eq.trans ?_ ((inv_it m c 128 le_rfl).dg (y 1))
  pointwise [R_main_v39]
end

end Cert.ReferenceIdeal.RW
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Down.Frame
public import proofs.«01_k».proof.Proof.Gen.DownIdeal.Frame
public import proofs.«01_k».proof.Proof.Down
public import proofs.«01_k».proof.Proof.Gen.Dact.Frame
public import proofs.«01_k».proof.Proof.Gen.DactIdeal.Frame
public import proofs.«01_k».proof.Proof.Dact
public import proofs.«01_k».proof.Proof.Gen.DwDown.Frame
public import proofs.«01_k».proof.Proof.Gen.DwDownIdeal.Frame
public import proofs.«01_k».proof.Proof.DwDown
public import proofs.«01_k».proof.Proof.Gen.Up.Frame
public import proofs.«01_k».proof.Proof.Gen.UpIdeal.Frame
public import proofs.«01_k».proof.Proof.Up
public import proofs.«01_k».proof.Proof.Gen.Dh2.Frame
public import proofs.«01_k».proof.Proof.Gen.Dh2Ideal.Frame
public import proofs.«01_k».proof.Proof.Dh2
public import proofs.«01_k».proof.Proof.Gen.DwUp.Frame
public import proofs.«01_k».proof.Proof.Gen.DwUpIdeal.Frame
public import proofs.«01_k».proof.Proof.DwUp
public import proofs.«01_k».proof.Proof.Gen.DwUpGate.Frame
public import proofs.«01_k».proof.Proof.Gen.DwUpGateIdeal.Frame
public import proofs.«01_k».proof.Proof.DwUpGate
public import proofs.«01_k».proof.Proof.Gen.Proj.Frame
public import proofs.«01_k».proof.Proof.Gen.ProjIdeal.Frame
public import proofs.«01_k».proof.Proof.Proj
public import proofs.«01_k».proof.Proof.Gen.Dh.Frame
public import proofs.«01_k».proof.Proof.Gen.DhIdeal.Frame
public import proofs.«01_k».proof.Proof.Dh
public import proofs.«01_k».proof.Proof.Gen.DwInA.Frame
public import proofs.«01_k».proof.Proof.Gen.DwInAIdeal.Frame
public import proofs.«01_k».proof.Proof.DwInA
public import proofs.«01_k».proof.Proof.Gen.DwInB.Frame
public import proofs.«01_k».proof.Proof.Gen.DwInBIdeal.Frame
public import proofs.«01_k».proof.Proof.DwInB
public import proofs.«01_k».proof.Proof.Gen.MixOut.Frame
public import proofs.«01_k».proof.Proof.Gen.MixOutIdeal.Frame
public import proofs.«01_k».proof.Proof.MixOut
public import proofs.«01_k».proof.Proof.Gen.Dycat.Frame
public import proofs.«01_k».proof.Proof.Gen.DycatIdeal.Frame
public import proofs.«01_k».proof.Proof.Dycat
public import proofs.«01_k».proof.Proof.Gen.DwOut.Frame
public import proofs.«01_k».proof.Proof.Gen.DwOutIdeal.Frame
public import proofs.«01_k».proof.Proof.DwOut
public import proofs.«01_k».proof.Proof.Gen.AdamIn.Frame
public import proofs.«01_k».proof.Proof.Gen.AdamInIdeal.Frame
public import proofs.«01_k».proof.Proof.AdamIn
public import proofs.«01_k».proof.Proof.Gen.AdamOut.Frame
public import proofs.«01_k».proof.Proof.Gen.AdamOutIdeal.Frame
public import proofs.«01_k».proof.Proof.AdamOut
public import proofs.«01_k».proof.Proof.Gen.AdamUp.Frame
public import proofs.«01_k».proof.Proof.Gen.AdamUpIdeal.Frame
public import proofs.«01_k».proof.Proof.AdamUp
public import proofs.«01_k».proof.Proof.Gen.AdamDown.Frame
public import proofs.«01_k».proof.Proof.Gen.AdamDownIdeal.Frame
public import proofs.«01_k».proof.Proof.AdamDown
public import proofs.«01_k».proof.Proof.Gen.AdamSmall.Frame
public import proofs.«01_k».proof.Proof.Gen.AdamSmallIdeal.Frame
public import proofs.«01_k».proof.Proof.AdamSmall
public import proofs.«01_k».proof.Proof.Gen.SumSlots.Frame
public import proofs.«01_k».proof.Proof.Gen.SumSlotsIdeal.Frame
public import proofs.«01_k».proof.Proof.SumSlots
public import proofs.«01_k».proof.Proof.Gen.Norm.Frame
public import proofs.«01_k».proof.Proof.Gen.NormIdeal.Frame
public import proofs.«01_k».proof.Proof.Norm
public import proofs.«01_k».proof.Proof.KernelWhole
public import proofs.«01_k».proof.Proof.RefWhole
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged; it declares no semaphore. -/
theorem frame_reference : Cert.quiescent_ReferenceIdeal := fun m ρ _ =>
  (θ_run Cert.ReferenceIdeal.defs _ _).mono
    (fun r h => ⟨fun c => (h c).2.2.2.2.2.2.2.2, sem_eq_zero_of_no_sems rfl r.2⟩) (Cert.ReferenceIdeal.RL.run_iter m ρ (Cert.ReferenceIdeal.RW.it m) (fun _ => rfl) (fun _ _ => rfl))

/-- From equal arguments the kernel and the reference return the same eight arrays over the extended reals. -/
theorem algebraic : Cert.algebraic_KernelIdeal_ReferenceIdeal := by
  intro m ρ m' ρ' _ hagree
  have hA : ∀ c, Cert.ReferenceIdeal.RW.arrays m' c = Cert.KernelIdeal.KW.arrays m c := fun c => by
    obtain ⟨h0, h1, h2, h3, h4, h5, h6, h7, h8, h9⟩ := hagree c
    simp only [Cert.ReferenceIdeal.RW.arrays, Cert.KernelIdeal.KW.arrays, Cert.Gdn.Arrays.mk.injEq]
    exact ⟨h0, h1, h2, h3, h4, h5, h6, h7, h8, h9⟩
  refine ⟨fun c => Cert.Gdn.dq (Cert.KernelIdeal.KW.arrays m c), fun c => Cert.Gdn.dk (Cert.KernelIdeal.KW.arrays m c),
    fun c => Cert.Gdn.du (Cert.KernelIdeal.KW.arrays m c), fun c => Cert.Gdn.dw (Cert.KernelIdeal.KW.arrays m c),
    fun c => Cert.Gdn.da (Cert.KernelIdeal.KW.arrays m c), fun c => Cert.Gdn.de (Cert.KernelIdeal.KW.arrays m c),
    fun c => Cert.Gdn.dz (Cert.KernelIdeal.KW.arrays m c), fun c => Cert.Gdn.dg (Cert.KernelIdeal.KW.arrays m c), ?_, ?_⟩
  · refine (θ_run Cert.KernelIdeal.defs _ _).mono (fun r h c => ?_) (Cert.KernelIdeal.Value.run_blocks m ρ)
    obtain ⟨h10, h11, h12, h13, h14, h15, h16, h17, hargs⟩ := h c
    exact ⟨h10.trans (Cert.KernelIdeal.KW.arr10 m c), h11.trans (Cert.KernelIdeal.KW.arr11 m c),
      h12.trans (Cert.KernelIdeal.KW.arr12 m c), h13.trans (Cert.KernelIdeal.KW.arr13 m c),
      h14.trans (Cert.KernelIdeal.KW.arr14 m c), h15.trans (Cert.KernelIdeal.KW.arr15 m c),
      h16.trans (Cert.KernelIdeal.KW.arr16 m c), h17.trans (Cert.KernelIdeal.KW.arr17 m c), hargs⟩
  · refine (θ_run Cert.ReferenceIdeal.defs _ _).mono (fun r h c => ?_) (Cert.ReferenceIdeal.RL.run_iter m' ρ' (Cert.ReferenceIdeal.RW.it m') (fun _ => rfl) (fun _ _ => rfl))
    obtain ⟨h27, h29, h31, h33, h35, h25, h38, h39, hargs⟩ := h c
    have e := hA c
    exact ⟨h27.trans ((Cert.ReferenceIdeal.RW.dq_eq m' c).trans (congrArg Cert.Gdn.dq e)),
      h29.trans ((Cert.ReferenceIdeal.RW.dk_eq m' c).trans (congrArg Cert.Gdn.dk e)),
      h31.trans ((Cert.ReferenceIdeal.RW.du_eq m' c).trans (congrArg Cert.Gdn.du e)),
      h33.trans ((Cert.ReferenceIdeal.RW.dw_eq m' c).trans (congrArg Cert.Gdn.dw e)),
      h35.trans ((Cert.ReferenceIdeal.RW.da_eq m' c).trans (congrArg Cert.Gdn.da e)),
      h25.trans ((Cert.ReferenceIdeal.RW.de_eq m' c).trans (congrArg Cert.Gdn.de e)),
      h38.trans ((Cert.ReferenceIdeal.RW.dz_eq m' c).trans (congrArg Cert.Gdn.dz e)),
      h39.trans ((Cert.ReferenceIdeal.RW.dg_eq m' c).trans (congrArg Cert.Gdn.dg e)), hargs⟩

/-- Every claim of the certificate. -/
theorem claim : Cert.Claim :=
  ⟨Cert.Kernel.Gen.facts, Cert.KernelIdeal.Gen.facts, Cert.ReferenceIdeal.Gen.facts,
    Cert.Down.Gen.facts, Cert.DownIdeal.Gen.facts, Cert.DownRefIdeal.Gen.facts,
    Cert.Dact.Gen.facts, Cert.DactIdeal.Gen.facts, Cert.DactRefIdeal.Gen.facts,
    Cert.DwDown.Gen.facts, Cert.DwDownIdeal.Gen.facts, Cert.DwDownRefIdeal.Gen.facts,
    Cert.Up.Gen.facts, Cert.UpIdeal.Gen.facts, Cert.UpRefIdeal.Gen.facts,
    Cert.Dh2.Gen.facts, Cert.Dh2Ideal.Gen.facts, Cert.Dh2RefIdeal.Gen.facts,
    Cert.DwUp.Gen.facts, Cert.DwUpIdeal.Gen.facts, Cert.DwUpRefIdeal.Gen.facts,
    Cert.DwUpGate.Gen.facts, Cert.DwUpGateIdeal.Gen.facts, Cert.DwUpGateRefIdeal.Gen.facts,
    Cert.Proj.Gen.facts, Cert.ProjIdeal.Gen.facts, Cert.ProjRefIdeal.Gen.facts,
    Cert.Dh.Gen.facts, Cert.DhIdeal.Gen.facts, Cert.DhRefIdeal.Gen.facts,
    Cert.DwInA.Gen.facts, Cert.DwInAIdeal.Gen.facts, Cert.DwInARefIdeal.Gen.facts,
    Cert.DwInB.Gen.facts, Cert.DwInBIdeal.Gen.facts, Cert.DwInBRefIdeal.Gen.facts,
    Cert.MixOut.Gen.facts, Cert.MixOutIdeal.Gen.facts, Cert.MixOutRefIdeal.Gen.facts,
    Cert.Dycat.Gen.facts, Cert.DycatIdeal.Gen.facts, Cert.DycatRefIdeal.Gen.facts,
    Cert.DwOut.Gen.facts, Cert.DwOutIdeal.Gen.facts, Cert.DwOutRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamSmall.Gen.facts, Cert.AdamSmallIdeal.Gen.facts, Cert.AdamSmallRefIdeal.Gen.facts,
    Cert.SumSlots.Gen.facts, Cert.SumSlotsIdeal.Gen.facts, Cert.SumSlotsRefIdeal.Gen.facts,
    Cert.Norm.Gen.facts, Cert.NormIdeal.Gen.facts, Cert.NormRefIdeal.Gen.facts,
    fun m ρ _ => Cert.Kernel.Gen.frame m ρ, fun m ρ _ => Cert.KernelIdeal.Gen.frame m ρ, frame_reference,
    fun m ρ _ => Cert.Down.Gen.frame m ρ, fun m ρ _ => Cert.DownIdeal.Gen.frame m ρ, Cert.DownIdeal.Matrix.frame_reference,
    fun m ρ _ => Cert.Dact.Gen.frame m ρ, fun m ρ _ => Cert.DactIdeal.Gen.frame m ρ, Cert.DactIdeal.Matrix.frame_reference,
    fun m ρ _ => Cert.DwDown.Gen.frame m ρ, fun m ρ _ => Cert.DwDownIdeal.Gen.frame m ρ, Cert.DwDownIdeal.Matrix.frame_reference,
    fun m ρ _ => Cert.Up.Gen.frame m ρ, fun m ρ _ => Cert.UpIdeal.Gen.frame m ρ, Cert.UpIdeal.Matrix.frame_reference,
    fun m ρ _ => Cert.Dh2.Gen.frame m ρ, fun m ρ _ => Cert.Dh2Ideal.Gen.frame m ρ, Cert.Dh2Ideal.Matrix.frame_reference,
    fun m ρ _ => Cert.DwUp.Gen.frame m ρ, fun m ρ _ => Cert.DwUpIdeal.Gen.frame m ρ, Cert.DwUpIdeal.Matrix.frame_reference,
    fun m ρ _ => Cert.DwUpGate.Gen.frame m ρ, fun m ρ _ => Cert.DwUpGateIdeal.Gen.frame m ρ, Cert.DwUpGateIdeal.Matrix.frame_reference,
    fun m ρ _ => Cert.Proj.Gen.frame m ρ, fun m ρ _ => Cert.ProjIdeal.Gen.frame m ρ, Cert.ProjIdeal.Matrix.frame_reference,
    fun m ρ _ => Cert.Dh.Gen.frame m ρ, fun m ρ _ => Cert.DhIdeal.Gen.frame m ρ, Cert.DhIdeal.Matrix.frame_reference,
    fun m ρ _ => Cert.DwInA.Gen.frame m ρ, fun m ρ _ => Cert.DwInAIdeal.Gen.frame m ρ, Cert.DwInAIdeal.Matrix.frame_reference,
    fun m ρ _ => Cert.DwInB.Gen.frame m ρ, fun m ρ _ => Cert.DwInBIdeal.Gen.frame m ρ, Cert.DwInBIdeal.Matrix.frame_reference,
    fun m ρ _ => Cert.MixOut.Gen.frame m ρ, fun m ρ _ => Cert.MixOutIdeal.Gen.frame m ρ, Cert.MixOutIdeal.Matrix.frame_reference,
    fun m ρ _ => Cert.Dycat.Gen.frame m ρ, fun m ρ _ => Cert.DycatIdeal.Gen.frame m ρ, Cert.DycatIdeal.Matrix.frame_reference,
    fun m ρ _ => Cert.DwOut.Gen.frame m ρ, fun m ρ _ => Cert.DwOutIdeal.Gen.frame m ρ, Cert.DwOutIdeal.Matrix.frame_reference,
    Cert.AdamInIdeal.Rule.frame_kernel, Cert.AdamInIdeal.Rule.frame_ideal, Cert.AdamInIdeal.Rule.frame_reference,
    Cert.AdamOutIdeal.Rule.frame_kernel, Cert.AdamOutIdeal.Rule.frame_ideal, Cert.AdamOutIdeal.Rule.frame_reference,
    Cert.AdamUpIdeal.Rule.frame_kernel, Cert.AdamUpIdeal.Rule.frame_ideal, Cert.AdamUpIdeal.Rule.frame_reference,
    Cert.AdamDownIdeal.Rule.frame_kernel, Cert.AdamDownIdeal.Rule.frame_ideal, Cert.AdamDownIdeal.Rule.frame_reference,
    fun m ρ _ => Cert.AdamSmall.Gen.frame m ρ, fun m ρ _ => Cert.AdamSmallIdeal.Gen.frame m ρ, Cert.AdamSmallIdeal.Rule.frame_reference,
    fun m ρ _ => Cert.SumSlots.Gen.frame m ρ, fun m ρ _ => Cert.SumSlotsIdeal.Gen.frame m ρ, Cert.SumSlotsIdeal.Sum.frame_reference,
    fun m ρ _ => Cert.Norm.Gen.frame m ρ, fun m ρ _ => Cert.NormIdeal.Gen.frame m ρ, Cert.NormIdeal.Rows.frame_reference,
    trivial, algebraic,
    trivial, Cert.DownIdeal.Matrix.algebraic,
    trivial, Cert.DactIdeal.Matrix.algebraic,
    trivial, Cert.DwDownIdeal.Matrix.algebraic,
    trivial, Cert.UpIdeal.Matrix.algebraic,
    trivial, Cert.Dh2Ideal.Matrix.algebraic,
    trivial, Cert.DwUpIdeal.Matrix.algebraic,
    trivial, Cert.DwUpGateIdeal.Matrix.algebraic,
    trivial, Cert.ProjIdeal.Matrix.algebraic,
    trivial, Cert.DhIdeal.Matrix.algebraic,
    trivial, Cert.DwInAIdeal.Matrix.algebraic,
    trivial, Cert.DwInBIdeal.Matrix.algebraic,
    trivial, Cert.MixOutIdeal.Matrix.algebraic,
    trivial, Cert.DycatIdeal.Matrix.algebraic,
    trivial, Cert.DwOutIdeal.Matrix.algebraic,
    trivial, Cert.AdamInIdeal.Rule.algebraic,
    trivial, Cert.AdamOutIdeal.Rule.algebraic,
    trivial, Cert.AdamUpIdeal.Rule.algebraic,
    trivial, Cert.AdamDownIdeal.Rule.algebraic,
    trivial, Cert.AdamSmallIdeal.Rule.algebraic,
    trivial, Cert.SumSlotsIdeal.Sum.algebraic,
    trivial, Cert.NormIdeal.Rows.algebraic⟩

end Cert.Proof

end
